-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v55_0)) (v1 : (c : Dev Cert.Kernel4Ideal.nD) → Buf (Elt Ideal) ((c.tc : Thread Cert.Kernel4Ideal.nD Cert.Kernel4Ideal.τ).loc Cert.Kernel4Ideal.main_v55_1)) (v2 : (c : Dev Cert.Kernel4Ideal.nD) → Buf (Elt Ideal) ((c.tc : Thread Cert.Kernel4Ideal.nD Cert.Kernel4Ideal.τ).loc Cert.Kernel4Ideal.main_v55_2)) (v3 : (c : Dev Cert.Kernel4Ideal.nD) → Buf (Elt Ideal) ((c.tc : Thread Cert.Kernel4Ideal.nD Cert.Kernel4Ideal.τ).loc Cert.Kernel4Ideal.main_v55_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v55_0) = v0 c
          ∧ r.2.mem ((c.tc : Thread Cert.Kernel4Ideal.nD Cert.Kernel4Ideal.τ).loc Cert.Kernel4Ideal.main_v55_1) = v1 c
          ∧ r.2.mem ((c.tc : Thread Cert.Kernel4Ideal.nD Cert.Kernel4Ideal.τ).loc Cert.Kernel4Ideal.main_v55_2) = v2 c
          ∧ r.2.mem ((c.tc : Thread Cert.Kernel4Ideal.nD Cert.Kernel4Ideal.τ).loc Cert.Kernel4Ideal.main_v55_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v124) = v0 c
          ∧ r.2.mem ((c.tc : Thread Cert.Reference4Ideal.nD Cert.Reference4Ideal.τ).loc Cert.Reference4Ideal.main_v85) = v1 c
          ∧ r.2.mem ((c.tc : Thread Cert.Reference4Ideal.nD Cert.Reference4Ideal.τ).loc Cert.Reference4Ideal.main_v125) = v2 c
          ∧ r.2.mem ((c.tc : Thread Cert.Reference4Ideal.nD Cert.Reference4Ideal.τ).loc Cert.Reference4Ideal.main_v126) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v293) = v0 c
          ∧ r.2.mem ((c.tc : Thread Cert.Reference6Ideal.nD Cert.Reference6Ideal.τ).loc Cert.Reference6Ideal.main_v306) = v1 c
          ∧ r.2.mem ((c.tc : Thread Cert.Reference6Ideal.nD Cert.Reference6Ideal.τ).loc Cert.Reference6Ideal.main_v292) = v2 c
          ∧ r.2.mem ((c.tc : Thread Cert.Reference6Ideal.nD Cert.Reference6Ideal.τ).loc Cert.Reference6Ideal.main_v230) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v65) = v0 c
          ∧ r.2.mem ((c.tc : Thread Cert.Reference7Ideal.nD Cert.Reference7Ideal.τ).loc Cert.Reference7Ideal.main_v116) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite3 : Cert.Pre_finite3.Facts) (hPre_finite4 : Cert.Pre_finite4.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)
  bcast_S1x2048_S4096x2048_0_1 : S1x2048.BroadcastsInDim S4096x2048 (![0, 1] : Fin 2 → Fin S4096x2048.rank)

variable [Facts]

def fn_part1 {F : FTy → Type} [FloatOps F] (main_arg3 : FVec F S1x2048 .f32) (main_v14 : IVec S4096x2048 1) (main_v18 : IVec S4096x2048 1) : IVec S4096x2048 1 :=
  let main_v19 : IVec S4096x2048 1 := andi main_v14 main_v18
  let main_v20 : FVec F S1x2048 .f32 := Host.absf main_arg3
  let main_cst_4 : FVec F S_ .f32 := constant S_ .f32 0x7F800000#32
  let main_v21 : FVec F S1x2048 .f32 := broadcastInDim S1x2048 ![] bcast_S_S1x2048 main_cst_4
  let main_v22 : IVec S1x2048 1 := cmpf .olt main_v20 main_v21
  let main_v23 : IVec S4096x2048 1 := broadcastInDim S4096x2048 ![0, 1] bcast_S1x2048_S4096x2048_0_1 main_v22
  let main_v24 : IVec S4096x2048 1 := andi main_v19 main_v23
  main_v24

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S4096x2048 .f32) (main_arg5 : FVec F S4096x2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : IVec S4096x2048 1 := andi main_v2 main_v5
  let main_v7 : FVec F S4096x2048 .f32 := Host.absf main_arg4
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  let main_v10 : IVec S4096x2048 1 := andi main_v6 main_v9
  let main_v11 : FVec F S4096x2048 .f32 := Host.absf main_arg5
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_v14 : IVec S4096x2048 1 := andi main_v10 main_v13
  let main_v15 : FVec F S1x2048 .f32 := Host.absf main_arg2
  let main_cst_3 : FVec F S_ .f32 := constant S_ .f32 0x7F800000#32
  let main_v16 : FVec F S1x2048 .f32 := broadcastInDim S1x2048 ![] bcast_S_S1x2048 main_cst_3
  let main_v17 : IVec S1x2048 1 := cmpf .olt main_v15 main_v16
  let main_v18 : IVec S4096x2048 1 := broadcastInDim S4096x2048 ![0, 1] bcast_S1x2048_S4096x2048_0_1 main_v17
  fn_part1 (F := F) main_arg3 main_v14 main_v18
-- ==== Pre_finite2.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)
  bcast_S1x2048_S4096x2048_0_1 : S1x2048.BroadcastsInDim S4096x2048 (![0, 1] : Fin 2 → Fin S4096x2048.rank)

variable [Facts]

def fn {F : FTy → Type} [FloatOps F] (main_arg0 : FVec F S4096x2048 .f32) (main_arg1 : FVec F S1x2048 .f32) (main_arg2 : FVec F S4096x2048 .f32) (main_arg3 : FVec F S4096x2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg3
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : IVec S4096x2048 1 := andi main_v2 main_v5
  let main_v7 : FVec F S1x2048 .f32 := Host.absf main_arg1
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  let main_v10 : IVec S4096x2048 1 := broadcastInDim S4096x2048 ![0, 1] bcast_S1x2048_S4096x2048_0_1 main_v9
  let main_v11 : IVec S4096x2048 1 := andi main_v6 main_v10
  main_v11
-- ==== Pre_finite3.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  bcast_S1x2048_S4096x2048_0_1 : S1x2048.BroadcastsInDim S4096x2048 (![0, 1] : Fin 2 → Fin S4096x2048.rank)

variable [Facts]

def fn_part1 {F : FTy → Type} [FloatOps F] (main_arg4 : FVec F S4096x2048 .f32) (main_v13 : IVec S4096x2048 1) (main_v17 : IVec S4096x2048 1) : IVec S4096x2048 1 :=
  let main_v18 : IVec S4096x2048 1 := andi main_v13 main_v17
  let main_v19 : FVec F S4096x2048 .f32 := Host.absf main_arg4
  let main_cst_4 : FVec F S_ .f32 := constant S_ .f32 0x7F800000#32
  let main_v20 : FVec F S4096x2048 .f32 := broadcastInDim S4096x2048 ![] bcast_S_S4096x2048 main_cst_4
  let main_v21 : IVec S4096x2048 1 := cmpf .olt main_v19 main_v20
  let main_v22 : IVec S4096x2048 1 := andi main_v18 main_v21
  main_v22

def fn {F : FTy → Type} [FloatOps F] (main_arg0 : FVec F S4096x2048 .f32) (main_arg1 : FVec F S2048x2048 .f32) (main_arg2 : FVec F S4096x2048 .f32) (main_arg3 : FVec F S1x2048 .f32) (main_arg4 : FVec F S4096x2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_v12 : IVec S4096x2048 1 := broadcastInDim S4096x2048 ![] bcast_S_S4096x2048 main_v8
  let main_v13 : IVec S4096x2048 1 := andi main_v12 main_v11
  let main_v14 : FVec F S1x2048 .f32 := Host.absf main_arg3
  let main_cst_3 : FVec F S_ .f32 := constant S_ .f32 0x7F800000#32
  let main_v15 : FVec F S1x2048 .f32 := broadcastInDim S1x2048 ![] bcast_S_S1x2048 main_cst_3
  let main_v16 : IVec S1x2048 1 := cmpf .olt main_v14 main_v15
  let main_v17 : IVec S4096x2048 1 := broadcastInDim S4096x2048 ![0, 1] bcast_S1x2048_S4096x2048_0_1 main_v16
  fn_part1 (F := F) main_arg4 main_v13 main_v17
-- ==== Pre_finite4.lean ====
abbrev S4096x4096 : Shape := ⟨2, ![4096, 4096]⟩
abbrev S4x512x512 : Shape := ⟨3, ![4, 512, 512]⟩
abbrev S4x512 : Shape := ⟨2, ![4, 512]⟩
abbrev S2048 : Shape := ⟨1, ![2048]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S2048 : S_.BroadcastsInDim S2048 (![] : Fin 0 → Fin S2048.rank)
  reducesTo_S2048_S_d0 : S2048.ReducesTo [0] S_
  bcast_S_S4096x2048 : S_.BroadcastsInDim S4096x2048 (![] : Fin 0 → Fin S4096x2048.rank)

variable [Facts]

def fn_part1 {F : FTy → Type} [FloatOps F] (main_arg4 : FVec F S4096x2048 .f32) (main_v13 : IVec S_ 1) (main_v16 : IVec S2048 1) : IVec S4096x2048 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_v22 : IVec S4096x2048 1 := broadcastInDim S4096x2048 ![] bcast_S_S4096x2048 main_v18
  let main_v23 : IVec S4096x2048 1 := andi main_v22 main_v21
  main_v23

def fn {F : FTy → Type} [FloatOps F] (main_arg0 : FVec F S4096x4096 .f32) (main_arg1 : FVec F S4x512x512 .f32) (main_arg2 : FVec F S4x512 .f32) (main_arg3 : FVec F S2048 .f32) (main_arg4 : FVec F S4096x2048 .f32) : IVec S4096x2048 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S4x512 .f32 := Host.absf main_arg2
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Pre_finite7.lean ====
abbrev S4096x4096 : Shape := ⟨2, ![4096, 4096]⟩
abbrev S4x512x512 : Shape := ⟨3, ![4, 512, 512]⟩
abbrev S4x512 : Shape := ⟨2, ![4, 512]⟩
abbrev S2048 : Shape := ⟨1, ![2048]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S4096x4096 .f32) (main_arg1 : FVec F S4x512x512 .f32) (main_arg2 : FVec F S4x512 .f32) (main_arg3 : FVec F S2048 .f32) : IVec S4096x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  main_v2
-- ==== Kernel.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 26
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .bf16⟩
  | .hbm, ⟨25, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 94
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x2048, .f32⟩
  | .hbm, ⟨81, _⟩ => ⟨S4096x2048, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel2.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S1x2048 : Shape := ⟨2, ![1, 2048]⟩
abbrev S8x128 : Shape := ⟨2, ![8, 128]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 11
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S2048x2048, .bf16⟩
  | .hbm, ⟨7, _⟩ => ⟨S4096x2048, .bf16⟩
  | .hbm, ⟨8, _⟩ => ⟨S4096x2048, .f32⟩
  | .hbm, ⟨9, _⟩ => ⟨S1x2048, .f32⟩
  | .hbm, ⟨10, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .bf16⟩
  | .hbm, ⟨73, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel4.lean ====
abbrev S4096x4096 : Shape := ⟨2, ![4096, 4096]⟩
abbrev S4x512x512 : Shape := ⟨3, ![4, 512, 512]⟩
abbrev S4x512 : Shape := ⟨2, ![4, 512]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x512 : Shape := ⟨2, ![4096, 512]⟩
abbrev S2x512 : Shape := ⟨2, ![2, 512]⟩
abbrev S4094x512 : Shape := ⟨2, ![4094, 512]⟩
abbrev S4096x1 : Shape := ⟨2, ![4096, 1]⟩
abbrev S4092x512 : Shape := ⟨2, ![4092, 512]⟩
abbrev S8x512 : Shape := ⟨2, ![8, 512]⟩
abbrev S4088x512 : Shape := ⟨2, ![4088, 512]⟩
abbrev S16x512 : Shape := ⟨2, ![16, 512]⟩
abbrev S4080x512 : Shape := ⟨2, ![4080, 512]⟩
abbrev S1x2048 : Shape := ⟨2, ![1, 2048]⟩
abbrev S256x2048 : Shape := ⟨2, ![256, 2048]⟩
abbrev S256x4096 : Shape := ⟨2, ![256, 4096]⟩
abbrev S280x2048 : Shape := ⟨2, ![280, 2048]⟩
abbrev S16x2048 : Shape := ⟨2, ![16, 2048]⟩
abbrev S8x2048 : Shape := ⟨2, ![8, 2048]⟩
abbrev S256x1 : Shape := ⟨2, ![256, 1]⟩
abbrev S256x512 : Shape := ⟨2, ![256, 512]⟩
abbrev S1x512x256 : Shape := ⟨3, ![1, 512, 256]⟩
abbrev S512x256 : Shape := ⟨2, ![512, 256]⟩
abbrev S256x256 : Shape := ⟨2, ![256, 256]⟩
abbrev S1x256 : Shape := ⟨2, ![1, 256]⟩
abbrev S256 : Shape := ⟨1, ![256]⟩
abbrev S272x512 : Shape := ⟨2, ![272, 512]⟩

abbrev nBuf : Space → Nat
  | .hbm => 75
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4x512x512, .f32⟩
  | .hbm, ⟨2, _⟩ => ⟨S4x512, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S2x512, .f32⟩
  | .hbm, ⟨19, _⟩ => ⟨S4094x512, .f32⟩
  | .hbm, ⟨20, _⟩ => ⟨S4096x512, .f32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .f32⟩
  | .hbm, ⟨25, _⟩ => ⟨S4096x1, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4x512, .f32⟩
  | .hbm, ⟨31, _⟩ => ⟨S4092x512, .f32⟩
  | .hbm, ⟨32, _⟩ => ⟨S4096x512, .f32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .f32⟩
  | .hbm, ⟨37, _⟩ => ⟨S4096x1, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S8x512, .f32⟩
  | .hbm, ⟨43, _⟩ => ⟨S4088x512, .f32⟩
  | .hbm, ⟨44, _⟩ => ⟨S4096x512, .f32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S4096x1, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S16x512, .f32⟩
  | .hbm, ⟨55, _⟩ => ⟨S4080x512, .f32⟩
  | .hbm, ⟨56, _⟩ => ⟨S4096x512, .f32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .f32⟩
  | .hbm, ⟨61, _⟩ => ⟨S4096x1, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096x2048, .f32⟩
  | .hbm, ⟨66, _⟩ => ⟨S4096x2048, .f32⟩
  | .hbm, ⟨67, _⟩ => ⟨S4096x2048, .bf16⟩
  | .hbm, ⟨68, _⟩ => ⟨S4x512x512, .bf16⟩
  | .hbm, ⟨69, _⟩ => ⟨S1x2048, .f32⟩
  | .hbm, ⟨70, _⟩ => ⟨S1x2048, .f32⟩
  | .hbm, ⟨71, _⟩ => ⟨S4096x4096, .bf16⟩
  | .hbm, ⟨72, _⟩ => ⟨S4x512x512, .f32⟩
  | .hbm, ⟨73, _⟩ => ⟨S1x2048, .f32⟩
  | .hbm, ⟨74, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S4x512x512, .bf16⟩
  | .local _ .vmem, ⟨7, _⟩ => ⟨S1x2048, .f32⟩
  | .local _ .vmem, ⟨8, _⟩ => ⟨S1x2048, .f32⟩
  | .local _ .vmem, ⟨9, _⟩ => ⟨S256x4096, .bf16⟩
  | .local _ .vmem, ⟨10, _⟩ => ⟨S256x4096, .bf16⟩
  | .local _ .vmem, ⟨11, _⟩ => ⟨S4x512x512, .f32⟩
  | .local _ .vmem, ⟨12, _⟩ => ⟨S1x2048, .f32⟩
  | .local _ .vmem, ⟨13, _⟩ => ⟨S1x2048, .f32⟩
  | .local _ .vmem, ⟨14, _⟩ => ⟨S280x2048, .f32⟩
  | .local _ .vmem, ⟨15, _⟩ => ⟨S280x2048, .f32⟩
  | .local _ .vmem, ⟨16, _⟩ => ⟨S16x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55_0 : Ref sig .tc := ⟨.hbm, 71, rfl⟩
abbrev main_v55_1 : Ref sig .tc := ⟨.hbm, 72, rfl⟩
abbrev main_v55_2 : Ref sig .tc := ⟨.hbm, 73, rfl⟩
abbrev main_v55_3 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x4096 : Shape := ⟨2, ![4096, 4096]⟩
abbrev S4x512x512 : Shape := ⟨3, ![4, 512, 512]⟩
abbrev S4x512 : Shape := ⟨2, ![4, 512]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x512 : Shape := ⟨2, ![4096, 512]⟩
abbrev S2x512 : Shape := ⟨2, ![2, 512]⟩
abbrev S4094x512 : Shape := ⟨2, ![4094, 512]⟩
abbrev S4096x1 : Shape := ⟨2, ![4096, 1]⟩
abbrev S4092x512 : Shape := ⟨2, ![4092, 512]⟩
abbrev S8x512 : Shape := ⟨2, ![8, 512]⟩
abbrev S4088x512 : Shape := ⟨2, ![4088, 512]⟩
abbrev S16x512 : Shape := ⟨2, ![16, 512]⟩
abbrev S4080x512 : Shape := ⟨2, ![4080, 512]⟩
abbrev S4096x4x512 : Shape := ⟨3, ![4096, 4, 512]⟩
abbrev S4x512x4096 : Shape := ⟨3, ![4, 512, 4096]⟩
abbrev S1x4x512 : Shape := ⟨3, ![1, 4, 512]⟩
abbrev S1x2048 : Shape := ⟨2, ![1, 2048]⟩
abbrev S4x4096x512 : Shape := ⟨3, ![4, 4096, 512]⟩

abbrev nBuf : Space → Nat
  | .hbm => 172
  | .vmem => 0
  | .smem => 0
  | _ => 0

abbrev hbmTy0_0 (i : Nat) : BufTy := match i % 128 with
  | 0 => ⟨S4096x4096, .f32⟩
  | 1 => ⟨S4x512x512, .f32⟩
  | 2 => ⟨S4x512, .f32⟩
  | 3 => ⟨S2048, .f32⟩
  | 4 => ⟨S4096x2048, .f32⟩
  | 5 => ⟨S4096x2048, .f32⟩
  | 6 => ⟨S4096x2048, .f32⟩
  | 7 => ⟨S_, .f32⟩
  | 8 => ⟨S_, .f32⟩
  | 9 => ⟨S4096x2048, .f32⟩
  | 10 => ⟨S4096, .i32⟩
  | 11 => ⟨S_, .i32⟩
  | 12 => ⟨S4096, .i32⟩
  | 13 => ⟨S4096, .i32⟩
  | 14 => ⟨S4096x512, .f32⟩
  | 15 => ⟨S4096x512, .f32⟩
  | 16 => ⟨S4096x512, .f32⟩
  | 17 => ⟨S4096x512, .f32⟩
  | 18 => ⟨S_, .f32⟩
  | 19 => ⟨S2x512, .f32⟩
  | 20 => ⟨S4094x512, .f32⟩
  | 21 => ⟨S4096x512, .f32⟩
  | 22 => ⟨S_, .f32⟩
  | 23 => ⟨S2x512, .f32⟩
  | 24 => ⟨S_, .i32⟩
  | 25 => ⟨S4096, .i32⟩
  | 26 => ⟨S4096, .i32⟩
  | 27 => ⟨S4096, .f32⟩
  | 28 => ⟨S4096x1, .f32⟩
  | 29 => ⟨S4096x512, .f32⟩
  | 30 => ⟨S4096x512, .f32⟩
  | 31 => ⟨S4096x512, .f32⟩
  | 32 => ⟨S_, .f32⟩
  | 33 => ⟨S4x512, .f32⟩
  | 34 => ⟨S4092x512, .f32⟩
  | 35 => ⟨S4096x512, .f32⟩
  | 36 => ⟨S_, .f32⟩
  | 37 => ⟨S4x512, .f32⟩
  | 38 => ⟨S_, .i32⟩
  | 39 => ⟨S4096, .i32⟩
  | 40 => ⟨S4096, .i32⟩
  | 41 => ⟨S4096, .f32⟩
  | 42 => ⟨S4096x1, .f32⟩
  | 43 => ⟨S4096x512, .f32⟩
  | 44 => ⟨S4096x512, .f32⟩
  | 45 => ⟨S4096x512, .f32⟩
  | 46 => ⟨S_, .f32⟩
  | 47 => ⟨S8x512, .f32⟩
  | 48 => ⟨S4088x512, .f32⟩
  | 49 => ⟨S4096x512, .f32⟩
  | 50 => ⟨S_, .f32⟩
  | 51 => ⟨S8x512, .f32⟩
  | 52 => ⟨S_, .i32⟩
  | 53 => ⟨S4096, .i32⟩
  | 54 => ⟨S4096, .i32⟩
  | 55 => ⟨S4096, .f32⟩
  | 56 => ⟨S4096x1, .f32⟩
  | 57 => ⟨S4096x512, .f32⟩
  | 58 => ⟨S4096x512, .f32⟩
  | 59 => ⟨S4096x512, .f32⟩
  | 60 => ⟨S_, .f32⟩
  | 61 => ⟨S16x512, .f32⟩
  | 62 => ⟨S4080x512, .f32⟩
  | 63 => ⟨S4096x512, .f32⟩
  | 64 => ⟨S_, .f32⟩
  | 65 => ⟨S16x512, .f32⟩
  | 66 => ⟨S_, .i32⟩
  | 67 => ⟨S4096, .i32⟩
  | 68 => ⟨S4096, .i32⟩
  | 69 => ⟨S4096, .f32⟩
  | 70 => ⟨S4096x1, .f32⟩
  | 71 => ⟨S4096x512, .f32⟩
  | 72 => ⟨S4096x512, .f32⟩
  | 73 => ⟨S4096x512, .f32⟩
  | 74 => ⟨S4096x2048, .f32⟩
  | 75 => ⟨S4096x2048, .f32⟩
  | 76 => ⟨S4096x4x512, .f32⟩
  | 77 => ⟨S4x512x4096, .f32⟩
  | 78 => ⟨S4096x4x512, .f32⟩
  | 79 => ⟨S1x4x512, .f32⟩
  | 80 => ⟨S4096x4x512, .f32⟩
  | 81 => ⟨S4096x4x512, .f32⟩
  | 82 => ⟨S4096x2048, .f32⟩
  | 83 => ⟨S1x2048, .f32⟩
  | 84 => ⟨S4096x2048, .f32⟩
  | 85 => ⟨S4096x2048, .f32⟩
  | 86 => ⟨S4096x2048, .f32⟩
  | 87 => ⟨S4096x2048, .f32⟩
  | 88 => ⟨S_, .f32⟩
  | 89 => ⟨S4096x2048, .f32⟩
  | 90 => ⟨S4096x2048, .f32⟩
  | 91 => ⟨S_, .f32⟩
  | 92 => ⟨S4096x2048, .f32⟩
  | 93 => ⟨S4096x2048, .f32⟩
  | 94 => ⟨S_, .f32⟩
  | 95 => ⟨S4096x2048, .f32⟩
  | 96 => ⟨S4096x2048, .f32⟩
  | 97 => ⟨S4096x2048, .f32⟩
  | 98 => ⟨S4096x2048, .f32⟩
  | 99 => ⟨S4096x2048, .f32⟩
  | 100 => ⟨S4096x2048, .f32⟩
  | 101 => ⟨S4096x2048, .f32⟩
  | 102 => ⟨S4096x2048, .f32⟩
  | 103 => ⟨S4096x2048, .f32⟩
  | 104 => ⟨S4096x2048, .f32⟩
  | 105 => ⟨S4096x2048, .f32⟩
  | 106 => ⟨S4096x2048, .f32⟩
  | 107 => ⟨S_, .f32⟩
  | 108 => ⟨S2048, .f32⟩
  | 109 => ⟨S1x2048, .f32⟩
  | 110 => ⟨S4096x2048, .f32⟩
  | 111 => ⟨S4096x2048, .f32⟩
  | 112 => ⟨S_, .f32⟩
  | 113 => ⟨S2048, .f32⟩
  | 114 => ⟨S4096x4x512, .f32⟩
  | 115 => ⟨S_, .f32⟩
  | 116 => ⟨S4x512, .f32⟩
  | 117 => ⟨S1x4x512, .f32⟩
  | 118 => ⟨S_, .f32⟩
  | 119 => ⟨S4x512, .f32⟩
  | 120 => ⟨S4x512x4096, .f32⟩
  | 121 => ⟨S4x4096x512, .f32⟩
  | 122 => ⟨S4096x4x512, .f32⟩
  | 123 => ⟨S4x512x512, .f32⟩
  | 124 => ⟨S4x512x512, .f32⟩
  | 125 => ⟨S4096x2048, .f32⟩
  | 126 => ⟨S4096x2048, .f32⟩
  | 127 => ⟨S4096x512, .f32⟩
  | _ => ⟨S4096x4096, .f32⟩

abbrev hbmTy0_1 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4096x512, .f32⟩
  | 6 => ⟨S16x512, .f32⟩
  | 7 => ⟨S4080x512, .f32⟩
  | 8 => ⟨S_, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S8x512, .f32⟩
  | 15 => ⟨S4088x512, .f32⟩
  | 16 => ⟨S_, .f32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S4x512, .f32⟩
  | 23 => ⟨S4092x512, .f32⟩
  | 24 => ⟨S_, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S2x512, .f32⟩
  | 31 => ⟨S4094x512, .f32⟩
  | 32 => ⟨S_, .f32⟩
  | 33 => ⟨S4096x512, .f32⟩
  | 34 => ⟨S4096x512, .f32⟩
  | 35 => ⟨S4096x2048, .f32⟩
  | 36 => ⟨S_, .f32⟩
  | 37 => ⟨S_, .f32⟩
  | 38 => ⟨S4096x2048, .f32⟩
  | 39 => ⟨S4096x2048, .f32⟩
  | 40 => ⟨S4096x4096, .f32⟩
  | 41 => ⟨S4096x4096, .bf16⟩
  | 42 => ⟨S1x2048, .f32⟩
  | 43 => ⟨S1x2048, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_v66_2 : Ref sig .tc := ⟨.hbm, 93, rfl⟩
abbrev main_call1_cst_1 : Ref sig .tc := ⟨.hbm, 94, rfl⟩
abbrev main_call1_v6 : Ref sig .tc := ⟨.hbm, 95, rfl⟩
abbrev main_call1_v7 : Ref sig .tc := ⟨.hbm, 96, rfl⟩
abbrev main_v66_1 : Ref sig .tc := ⟨.hbm, 97, rfl⟩
abbrev main_v66_0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v70 : Ref sig .tc := ⟨.hbm, 105, rfl⟩
abbrev main_v71 : Ref sig .tc := ⟨.hbm, 106, rfl⟩
abbrev main_cst_11 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_12 : Ref sig .tc := ⟨.hbm, 112, rfl⟩
abbrev main_v76 : Ref sig .tc := ⟨.hbm, 113, rfl⟩
abbrev main_v77 : Ref sig .tc := ⟨.hbm, 114, rfl⟩
abbrev main_cst_13 : Ref sig .tc := ⟨.hbm, 115, rfl⟩
abbrev main_v78 : Ref sig .tc := ⟨.hbm, 116, rfl⟩
abbrev main_v79 : Ref sig .tc := ⟨.hbm, 117, rfl⟩
abbrev main_cst_14 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_15 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_16 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_17 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_18 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_call3_call0_cst : Ref sig .tc := ⟨.hbm, 164, rfl⟩
abbrev main_call3_call0_v0 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩

abbrev nD : Nat := 1
abbrev τ : Topo := Topo.v7x

variable {F : FTy → Type} [FloatOps F]
-- ==== Kernel5.lean ====
abbrev S4096x7168 : Shape := ⟨2, ![4096, 7168]⟩
abbrev S3x1024 : Shape := ⟨2, ![3, 1024]⟩
abbrev S31x1024 : Shape := ⟨2, ![31, 1024]⟩
abbrev S1x1024 : Shape := ⟨2, ![1, 1024]⟩
abbrev S4096x2048 : Shape := ⟨2, ![4096, 2048]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1024 : Shape := ⟨1, ![1024]⟩
abbrev S128x7168 : Shape := ⟨2, ![128, 7168]⟩
abbrev S32x7168 : Shape := ⟨2, ![32, 7168]⟩
abbrev S128x2048 : Shape := ⟨2, ![128, 2048]⟩
abbrev S128x1024 : Shape := ⟨2, ![128, 1024]⟩
abbrev S136x1024 : Shape := ⟨2, ![136, 1024]⟩
abbrev S8x160x1024 : Shape := ⟨3, ![8, 160, 1024]⟩
abbrev S31x8x1024 : Shape := ⟨3, ![31, 8, 1024]⟩
abbrev S8x1024 : Shape := ⟨2, ![8, 1024]⟩
abbrev S32x1024 : Shape := ⟨2, ![32, 1024]⟩
abbrev S1x8x1024 : Shape := ⟨3, ![1, 8, 1024]⟩
abbrev S128x256 : Shape := ⟨2, ![128, 256]⟩
abbrev S8x256 : Shape := ⟨2, ![8, 256]⟩
abbrev S1x256 : Shape := ⟨2, ![1, 256]⟩
abbrev S256 : Shape := ⟨1, ![256]⟩
abbrev S32x256 : Shape := ⟨2, ![32, 256]⟩
abbrev S1x32x256 : Shape := ⟨3, ![1, 32, 256]⟩
abbrev S1x128x256 : Shape := ⟨3, ![1, 128, 256]⟩
abbrev S1x152x1024 : Shape := ⟨3, ![1, 152, 1024]⟩
abbrev S152x1024 : Shape := ⟨2, ![152, 1024]⟩
abbrev S128x1 : Shape := ⟨2, ![128, 1]⟩
abbrev S128 : Shape := ⟨1, ![128]⟩
abbrev S1x56x256 : Shape := ⟨3, ![1, 56, 256]⟩
abbrev S56x256 : Shape := ⟨2, ![56, 256]⟩
abbrev S1x8x256 : Shape := ⟨3, ![1, 8, 256]⟩

abbrev nBuf : Space → Nat
  | .hbm => 248
  | .vmem => 29
  | .smem => 0
  | _ => 0

abbrev hbmTy0_0 (i : Nat) : BufTy := match i % 128 with
  | 0 => ⟨S4096x7168, .f32⟩
  | 1 => ⟨S3x1024, .f32⟩
  | 2 => ⟨S31x1024, .f32⟩
  | 3 => ⟨S1x1024, .f32⟩
  | 4 => ⟨S1x1024, .f32⟩
  | 5 => ⟨S1x1024, .f32⟩
  | 6 => ⟨S4096x2048, .f32⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S4096x1024, .f32⟩
  | 18 => ⟨S_, .f32⟩
  | 19 => ⟨S30x1024, .f32⟩
  | 20 => ⟨S4126x1024, .f32⟩
  | 21 => ⟨S_, .f32⟩
  | 22 => ⟨S4096x1024, .f32⟩
  | 23 => ⟨S1x1024, .f32⟩
  | 24 => ⟨S1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S4096x1024, .f32⟩
  | 33 => ⟨S1x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S4096x1024, .f32⟩
  | 75 => ⟨S1x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S4096x1024, .f32⟩
  | 89 => ⟨S1x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S4096x1024, .f32⟩
  | 96 => ⟨S1x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S4096x1024, .f32⟩
  | 110 => ⟨S1x1024, .f32⟩
  | 111 => ⟨S4096x1024, .f32⟩
  | 112 => ⟨S4096x1024, .f32⟩
  | 113 => ⟨S4096x1024, .f32⟩
  | 114 => ⟨S1x1024, .f32⟩
  | 115 => ⟨S1024, .f32⟩
  | 116 => ⟨S4096x1024, .f32⟩
  | 117 => ⟨S1x1024, .f32⟩
  | 118 => ⟨S4096x1024, .f32⟩
  | 119 => ⟨S4096x1024, .f32⟩
  | 120 => ⟨S4096x1024, .f32⟩
  | 121 => ⟨S1x1024, .f32⟩
  | 122 => ⟨S1024, .f32⟩
  | 123 => ⟨S4096x1024, .f32⟩
  | 124 => ⟨S1x1024, .f32⟩
  | 125 => ⟨S4096x1024, .f32⟩
  | 126 => ⟨S4096x1024, .f32⟩
  | 127 => ⟨S4096x1024, .f32⟩
  | _ => ⟨S4096x7168, .f32⟩

abbrev hbmTy0_1 (i : Nat) : BufTy := match i % 128 with
  | 0 => ⟨S1x1024, .f32⟩
  | 1 => ⟨S1024, .f32⟩
  | 2 => ⟨S4096x1024, .f32⟩
  | 3 => ⟨S1x1024, .f32⟩
  | 4 => ⟨S4096x1024, .f32⟩
  | 5 => ⟨S4096x1024, .f32⟩
  | 6 => ⟨S4096x1024, .f32⟩
  | 7 => ⟨S1x1024, .f32⟩
  | 8 => ⟨S1024, .f32⟩
  | 9 => ⟨S4096x1024, .f32⟩
  | 10 => ⟨S1x1024, .f32⟩
  | 11 => ⟨S4096x1024, .f32⟩
  | 12 => ⟨S4096x1024, .f32⟩
  | 13 => ⟨S4096x1024, .f32⟩
  | 14 => ⟨S1x1024, .f32⟩
  | 15 => ⟨S1024, .f32⟩
  | 16 => ⟨S4096x1024, .f32⟩
  | 17 => ⟨S1x1024, .f32⟩
  | 18 => ⟨S4096x1024, .f32⟩
  | 19 => ⟨S4096x1024, .f32⟩
  | 20 => ⟨S4096x1024, .f32⟩
  | 21 => ⟨S1x1024, .f32⟩
  | 22 => ⟨S1024, .f32⟩
  | 23 => ⟨S4096x1024, .f32⟩
  | 24 => ⟨S1x1024, .f32⟩
  | 25 => ⟨S4096x1024, .f32⟩
  | 26 => ⟨S4096x1024, .f32⟩
  | 27 => ⟨S4096x1024, .f32⟩
  | 28 => ⟨S1x1024, .f32⟩
  | 29 => ⟨S1024, .f32⟩
  | 30 => ⟨S4096x1024, .f32⟩
  | 31 => ⟨S1x1024, .f32⟩
  | 32 => ⟨S4096x1024, .f32⟩
  | 33 => ⟨S4096x1024, .f32⟩
  | 34 => ⟨S4096x1024, .f32⟩
  | 35 => ⟨S1x1024, .f32⟩
  | 36 => ⟨S1024, .f32⟩
  | 37 => ⟨S4096x1024, .f32⟩
  | 38 => ⟨S1x1024, .f32⟩
  | 39 => ⟨S4096x1024, .f32⟩
  | 40 => ⟨S4096x1024, .f32⟩
  | 41 => ⟨S4096x1024, .f32⟩
  | 42 => ⟨S1x1024, .f32⟩
  | 43 => ⟨S1024, .f32⟩
  | 44 => ⟨S4096x1024, .f32⟩
  | 45 => ⟨S1x1024, .f32⟩
  | 46 => ⟨S4096x1024, .f32⟩
  | 47 => ⟨S4096x1024, .f32⟩
  | 48 => ⟨S4096x1024, .f32⟩
  | 49 => ⟨S1x1024, .f32⟩
  | 50 => ⟨S1024, .f32⟩
  | 51 => ⟨S4096x1024, .f32⟩
  | 52 => ⟨S1x1024, .f32⟩
  | 53 => ⟨S4096x1024, .f32⟩
  | 54 => ⟨S4096x1024, .f32⟩
  | 55 => ⟨S4096x1024, .f32⟩
  | 56 => ⟨S1x1024, .f32⟩
  | 57 => ⟨S1024, .f32⟩
  | 58 => ⟨S4096x1024, .f32⟩
  | 59 => ⟨S1x1024, .f32⟩
  | 60 => ⟨S4096x1024, .f32⟩
  | 61 => ⟨S4096x1024, .f32⟩
  | 62 => ⟨S4096x1024, .f32⟩
  | 63 => ⟨S1x1024, .f32⟩
  | 64 => ⟨S1024, .f32⟩
  | 65 => ⟨S4096x1024, .f32⟩
  | 66 => ⟨S1x1024, .f32⟩
  | 67 => ⟨S4096x1024, .f32⟩
  | 68 => ⟨S4096x1024, .f32⟩
  | 69 => ⟨S4096x1024, .f32⟩
  | 70 => ⟨S1x1024, .f32⟩
  | 71 => ⟨S1024, .f32⟩
  | 72 => ⟨S4096x1024, .f32⟩
  | 73 => ⟨S1x1024, .f32⟩
  | 74 => ⟨S4096x1024, .f32⟩
  | 75 => ⟨S4096x1024, .f32⟩
  | 76 => ⟨S4096x1024, .f32⟩
  | 77 => ⟨S1x1024, .f32⟩
  | 78 => ⟨S1024, .f32⟩
  | 79 => ⟨S4096x1024, .f32⟩
  | 80 => ⟨S1x1024, .f32⟩
  | 81 => ⟨S4096x1024, .f32⟩
  | 82 => ⟨S4096x1024, .f32⟩
  | 83 => ⟨S4096x1024, .f32⟩
  | 84 => ⟨S1x1024, .f32⟩
  | 85 => ⟨S1024, .f32⟩
  | 86 => ⟨S4096x1024, .f32⟩
  | 87 => ⟨S1x1024, .f32⟩
  | 88 => ⟨S4096x1024, .f32⟩
  | 89 => ⟨S4096x1024, .f32⟩
  | 90 => ⟨S4096x1024, .f32⟩
  | 91 => ⟨S1x1024, .f32⟩
  | 92 => ⟨S1024, .f32⟩
  | 93 => ⟨S4096x1024, .f32⟩
  | 94 => ⟨S1x1024, .f32⟩
  | 95 => ⟨S4096x1024, .f32⟩
  | 96 => ⟨S4096x1024, .f32⟩
  | 97 => ⟨S4096x1024, .f32⟩
  | 98 => ⟨S1x1024, .f32⟩
  | 99 => ⟨S1024, .f32⟩
  | 100 => ⟨S4096x1024, .f32⟩
  | 101 => ⟨S1x1024, .f32⟩
  | 102 => ⟨S4096x1024, .f32⟩
  | 103 => ⟨S4096x1024, .f32⟩
  | 104 => ⟨S4096x1024, .f32⟩
  | 105 => ⟨S1x1024, .f32⟩
  | 106 => ⟨S1024, .f32⟩
  | 107 => ⟨S4096x1024, .f32⟩
  | 108 => ⟨S1x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x7168, .bf16⟩
  | 115 => ⟨S3x1024, .f32⟩
  | 116 => ⟨S31x1024, .f32⟩
  | 117 => ⟨S1x1024, .f32⟩
  | 118 => ⟨S1x1024, .f32⟩
  | 119 => ⟨S1x1024, .f32⟩
  | _ => ⟨S4096x7168, .f32⟩

abbrev hbmTy (i : Nat) : BufTy := match i / 128 with
  | 0 => hbmTy0_0 i
  | 1 => hbmTy0_1 i
  | _ => ⟨S4096x7168, .f32⟩

abbrev bufTy : (tb : Table) → Fin (tcTables nBuf tb) → BufTy
  | .hbm, ⟨i, _⟩ => hbmTy i
  | .local _ .vmem, ⟨0, _⟩ => ⟨S128x7168, .f32⟩
  | .local _ .vmem, ⟨1, _⟩ => ⟨S128x7168, .f32⟩
  | .local _ .vmem, ⟨2, _⟩ => ⟨S32x7168, .f32⟩
  | .local _ .vmem, ⟨3, _⟩ => ⟨S32x7168, .f32⟩
  | .local _ .vmem, ⟨4, _⟩ => ⟨S128x2048, .f32⟩
  | .local _ .vmem, ⟨5, _⟩ => ⟨S128x2048, .f32⟩
  | .local _ .vmem, ⟨6, _⟩ => ⟨S128x1024, .f32⟩
  | .local _ .vmem, ⟨7, _⟩ => ⟨S128x1024, .f32⟩
  | .local _ .vmem, ⟨8, _⟩ => ⟨S3x1024, .f32⟩
  | .local _ .vmem, ⟨9, _⟩ => ⟨S31x1024, .f32⟩
  | .local _ .vmem, ⟨10, _⟩ => ⟨S1x1024, .f32⟩
  | .local _ .vmem, ⟨11, _⟩ => ⟨S1x1024, .f32⟩
  | .local _ .vmem, ⟨12, _⟩ => ⟨S128x7168, .bf16⟩
  | .local _ .vmem, ⟨13, _⟩ => ⟨S128x7168, .bf16⟩
  | .local _ .vmem, ⟨14, _⟩ => ⟨S3x1024, .f32⟩
  | .local _ .vmem, ⟨15, _⟩ => ⟨S31x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S136x1024, .f32⟩
  | .local _ .vmem, ⟨20, _⟩ => ⟨S8x160x1024, .f32⟩
  | .local _ .vmem, ⟨21, _⟩ => ⟨S128x1024, .f32⟩
  | .local _ .vmem, ⟨22, _⟩ => ⟨S136x1024, .f32⟩
  | .local _ .vmem, ⟨23, _⟩ => ⟨S8x160x1024, .f32⟩
  | .local _ .vmem, ⟨24, _⟩ => ⟨S128x1024, .f32⟩
  | .local _ .vmem, ⟨25, _⟩ => ⟨S31x8x1024, .f32⟩
  | .local _ .vmem, ⟨26, _⟩ => ⟨S8x1024, .f32⟩
  | .local _ .vmem, ⟨27, _⟩ => ⟨S32x1024, .f32⟩
  | .local _ .vmem, ⟨28, _⟩ => ⟨S31x8x1024, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231_0 : Ref sig .tc := ⟨.hbm, 242, rfl⟩
abbrev main_v231_1 : Ref sig .tc := ⟨.hbm, 243, rfl⟩
abbrev main_v231_2 : Ref sig .tc := ⟨.hbm, 244, rfl⟩
abbrev main_v231_3 : Ref sig .tc := ⟨.hbm, 245, rfl⟩
abbrev main_v231_4 : Ref sig .tc := ⟨.hbm, 246, rfl⟩
abbrev main_v231_5 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_682 : BitVec 32 := 0#32
  let c4_i32 : BitVec 32 := 4#32
  let v1005 : BitVec 32 := Scalar.addi c0_i32_682 c4_i32
  let c1_i32 : BitVec 32 := 1#32
  ⟨c0_i32_682, v1005, c1_i32⟩
def k0_mult1 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  v1072
def k0_mult2 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_762 : BitVec 32 := 0#32
  let v1078 : BitVec 32 := Scalar.addi v1073 c0_i32_762
  v1078
def k0_off1 (k0_t1 : Fin k0_t1_loop.trips) : Fin 3 → Nat :=
  let c0_763 : Index := 0#32
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_762 : BitVec 32 := 0#32
  let v1078 : BitVec 32 := Scalar.addi v1073 c0_i32_762
  let v1079 : BitVec 32 := v1078
  let v1080 : Index := Scalar.indexCast v1079
  let c0_764 : Index := 0#32
  ![0, v1080.toNat, 0]
def k0_mult3 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_774 : BitVec 32 := 0#32
  let v1139 : BitVec 32 := Scalar.addi v1073 c0_i32_774
  v1139
def k0_off2 (k0_t1 : Fin k0_t1_loop.trips) : Fin 3 → Nat :=
  let c1_775 : Index := 1#32
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_774 : BitVec 32 := 0#32
  let v1139 : BitVec 32 := Scalar.addi v1073 c0_i32_774
  let v1140 : BitVec 32 := v1139
  let v1141 : Index := Scalar.indexCast v1140
  let c0_776 : Index := 0#32
  ![1, v1141.toNat, 0]
def k0_mult4 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_786 : BitVec 32 := 0#32
  let v1200 : BitVec 32 := Scalar.addi v1073 c0_i32_786
  v1200
def k0_off3 (k0_t1 : Fin k0_t1_loop.trips) : Fin 3 → Nat :=
  let c2_787 : Index := 2#32
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_786 : BitVec 32 := 0#32
  let v1200 : BitVec 32 := Scalar.addi v1073 c0_i32_786
  let v1201 : BitVec 32 := v1200
  let v1202 : Index := Scalar.indexCast v1201
  let c0_788 : Index := 0#32
  ![2, v1202.toNat, 0]
def k0_mult5 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_798 : BitVec 32 := 0#32
  let v1261 : BitVec 32 := Scalar.addi v1073 c0_i32_798
  v1261
def k0_off4 (k0_t1 : Fin k0_t1_loop.trips) : Fin 3 → Nat :=
  let c3_799 : Index := 3#32
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_798 : BitVec 32 := 0#32
  let v1261 : BitVec 32 := Scalar.addi v1073 c0_i32_798
  let v1262 : BitVec 32 := v1261
  let v1263 : Index := Scalar.indexCast v1262
  let c0_800 : Index := 0#32
  ![3, v1263.toNat, 0]
def k0_mult6 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_810 : BitVec 32 := 0#32
  let v1322 : BitVec 32 := Scalar.addi v1073 c0_i32_810
  v1322
def k0_off5 (k0_t1 : Fin k0_t1_loop.trips) : Fin 3 → Nat :=
  let c4_811 : Index := 4#32
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_810 : BitVec 32 := 0#32
  let v1322 : BitVec 32 := Scalar.addi v1073 c0_i32_810
  let v1323 : BitVec 32 := v1322
  let v1324 : Index := Scalar.indexCast v1323
  let c0_812 : Index := 0#32
  ![4, v1324.toNat, 0]
def k0_mult7 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_822 : BitVec 32 := 0#32
  let v1383 : BitVec 32 := Scalar.addi v1073 c0_i32_822
  v1383
def k0_off6 (k0_t1 : Fin k0_t1_loop.trips) : Fin 3 → Nat :=
  let c5_823 : Index := 5#32
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_822 : BitVec 32 := 0#32
  let v1383 : BitVec 32 := Scalar.addi v1073 c0_i32_822
  let v1384 : BitVec 32 := v1383
  let v1385 : Index := Scalar.indexCast v1384
  let c0_824 : Index := 0#32
  ![5, v1385.toNat, 0]
def k0_mult8 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_834 : BitVec 32 := 0#32
  let v1444 : BitVec 32 := Scalar.addi v1073 c0_i32_834
  v1444
def k0_off7 (k0_t1 : Fin k0_t1_loop.trips) : Fin 3 → Nat :=
  let c6_835 : Index := 6#32
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_834 : BitVec 32 := 0#32
  let v1444 : BitVec 32 := Scalar.addi v1073 c0_i32_834
  let v1445 : BitVec 32 := v1444
  let v1446 : Index := Scalar.indexCast v1445
  let c0_836 : Index := 0#32
  ![6, v1446.toNat, 0]
def k0_mult9 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_848 : BitVec 32 := 0#32
  let v1505 : BitVec 32 := Scalar.addi v1073 c0_i32_848
  v1505
def k0_off8 (k0_t1 : Fin k0_t1_loop.trips) : Fin 3 → Nat :=
  let c7_849 : Index := 7#32
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_848 : BitVec 32 := 0#32
  let v1505 : BitVec 32 := Scalar.addi v1073 c0_i32_848
  let v1506 : BitVec 32 := v1505
  let v1507 : Index := Scalar.indexCast v1506
  let c0_850 : Index := 0#32
  ![7, v1507.toNat, 0]
def k0_mult10 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c0_i32_858 : BitVec 32 := 0#32
  let v1552 : BitVec 32 := Scalar.addi v1073 c0_i32_858
  v1552
def k0_off9 (k0_t1 : Fin k0_t1_loop.trips) (c0_i32_858 : BitVec 32) : Fin 2 → Nat :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let v1552 : BitVec 32 := Scalar.addi v1073 c0_i32_858
  let v1553 : BitVec 32 := v1552
  let v1554 : Index := Scalar.indexCast v1553
  let c0_859 : Index := 0#32
  ![v1554.toNat, 0]
def k0_mult11 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c8_i32 : BitVec 32 := 8#32
  let v1558 : BitVec 32 := Scalar.addi v1073 c8_i32
  v1558
def k0_mult12 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c16_i32 : BitVec 32 := 16#32
  let v1564 : BitVec 32 := Scalar.addi v1073 c16_i32
  v1564
def k0_mult13 (k0_t1 : Fin k0_t1_loop.trips) : BitVec 32 :=
  let c0_i32_682 : BitVec 32 := 0#32
  let c1_i32 : BitVec 32 := 1#32
  let arg25 : BitVec 32 := Scf.iv c0_i32_682 c1_i32 k0_t1
  let c32_i32 : BitVec 32 := 32#32
  let v1072 : BitVec 32 := Scalar.muli arg25 c32_i32
  let v1073 : BitVec 32 := v1072
  let c24_i32 : BitVec 32 := 24#32
  let v1570 : BitVec 32 := Scalar.addi v1073 c24_i32
  v1570
@[reducible] def k0_t2_loop : Scf.Loop 32 :=
  let c0_i32_684 : BitVec 32 := 0#32
  let c4_i32_685 : BitVec 32 := 4#32
  let v1006 : BitVec 32 := Scalar.addi c0_i32_684 c4_i32_685
  let c1_i32_686 : BitVec 32 := 1#32
  ⟨c0_i32_684, v1006, c1_i32_686⟩
def k0_mult14 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  v1072
def k0_mult15 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_762 : BitVec 32 := 0#32
  let v1078 : BitVec 32 := Scalar.addi v1073 c0_i32_762
  v1078
def k0_off10 (k0_t2 : Fin k0_t2_loop.trips) : Fin 3 → Nat :=
  let c0_763 : Index := 0#32
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_762 : BitVec 32 := 0#32
  let v1078 : BitVec 32 := Scalar.addi v1073 c0_i32_762
  let v1079 : BitVec 32 := v1078
  let v1080 : Index := Scalar.indexCast v1079
  let c256_764 : Index := 256#32
  ![0, v1080.toNat, 256]
def k0_mult16 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_774 : BitVec 32 := 0#32
  let v1139 : BitVec 32 := Scalar.addi v1073 c0_i32_774
  v1139
def k0_off11 (k0_t2 : Fin k0_t2_loop.trips) : Fin 3 → Nat :=
  let c1_775 : Index := 1#32
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_774 : BitVec 32 := 0#32
  let v1139 : BitVec 32 := Scalar.addi v1073 c0_i32_774
  let v1140 : BitVec 32 := v1139
  let v1141 : Index := Scalar.indexCast v1140
  let c256_776 : Index := 256#32
  ![1, v1141.toNat, 256]
def k0_mult17 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_786 : BitVec 32 := 0#32
  let v1200 : BitVec 32 := Scalar.addi v1073 c0_i32_786
  v1200
def k0_off12 (k0_t2 : Fin k0_t2_loop.trips) : Fin 3 → Nat :=
  let c2_787 : Index := 2#32
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_786 : BitVec 32 := 0#32
  let v1200 : BitVec 32 := Scalar.addi v1073 c0_i32_786
  let v1201 : BitVec 32 := v1200
  let v1202 : Index := Scalar.indexCast v1201
  let c256_788 : Index := 256#32
  ![2, v1202.toNat, 256]
def k0_mult18 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_798 : BitVec 32 := 0#32
  let v1261 : BitVec 32 := Scalar.addi v1073 c0_i32_798
  v1261
def k0_off13 (k0_t2 : Fin k0_t2_loop.trips) : Fin 3 → Nat :=
  let c3_799 : Index := 3#32
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_798 : BitVec 32 := 0#32
  let v1261 : BitVec 32 := Scalar.addi v1073 c0_i32_798
  let v1262 : BitVec 32 := v1261
  let v1263 : Index := Scalar.indexCast v1262
  let c256_800 : Index := 256#32
  ![3, v1263.toNat, 256]
def k0_mult19 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_810 : BitVec 32 := 0#32
  let v1322 : BitVec 32 := Scalar.addi v1073 c0_i32_810
  v1322
def k0_off14 (k0_t2 : Fin k0_t2_loop.trips) : Fin 3 → Nat :=
  let c4_811 : Index := 4#32
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_810 : BitVec 32 := 0#32
  let v1322 : BitVec 32 := Scalar.addi v1073 c0_i32_810
  let v1323 : BitVec 32 := v1322
  let v1324 : Index := Scalar.indexCast v1323
  let c256_812 : Index := 256#32
  ![4, v1324.toNat, 256]
def k0_mult20 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_822 : BitVec 32 := 0#32
  let v1383 : BitVec 32 := Scalar.addi v1073 c0_i32_822
  v1383
def k0_off15 (k0_t2 : Fin k0_t2_loop.trips) : Fin 3 → Nat :=
  let c5_823 : Index := 5#32
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_822 : BitVec 32 := 0#32
  let v1383 : BitVec 32 := Scalar.addi v1073 c0_i32_822
  let v1384 : BitVec 32 := v1383
  let v1385 : Index := Scalar.indexCast v1384
  let c256_824 : Index := 256#32
  ![5, v1385.toNat, 256]
def k0_mult21 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_834 : BitVec 32 := 0#32
  let v1444 : BitVec 32 := Scalar.addi v1073 c0_i32_834
  v1444
def k0_off16 (k0_t2 : Fin k0_t2_loop.trips) : Fin 3 → Nat :=
  let c6_835 : Index := 6#32
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_834 : BitVec 32 := 0#32
  let v1444 : BitVec 32 := Scalar.addi v1073 c0_i32_834
  let v1445 : BitVec 32 := v1444
  let v1446 : Index := Scalar.indexCast v1445
  let c256_836 : Index := 256#32
  ![6, v1446.toNat, 256]
def k0_mult22 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_848 : BitVec 32 := 0#32
  let v1505 : BitVec 32 := Scalar.addi v1073 c0_i32_848
  v1505
def k0_off17 (k0_t2 : Fin k0_t2_loop.trips) : Fin 3 → Nat :=
  let c7_849 : Index := 7#32
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_848 : BitVec 32 := 0#32
  let v1505 : BitVec 32 := Scalar.addi v1073 c0_i32_848
  let v1506 : BitVec 32 := v1505
  let v1507 : Index := Scalar.indexCast v1506
  let c256_850 : Index := 256#32
  ![7, v1507.toNat, 256]
def k0_mult23 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c0_i32_858 : BitVec 32 := 0#32
  let v1552 : BitVec 32 := Scalar.addi v1073 c0_i32_858
  v1552
def k0_off18 (k0_t2 : Fin k0_t2_loop.trips) (c0_i32_858 : BitVec 32) : Fin 2 → Nat :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let v1552 : BitVec 32 := Scalar.addi v1073 c0_i32_858
  let v1553 : BitVec 32 := v1552
  let v1554 : Index := Scalar.indexCast v1553
  let c256_859 : Index := 256#32
  ![v1554.toNat, 256]
def k0_mult24 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c8_i32 : BitVec 32 := 8#32
  let v1558 : BitVec 32 := Scalar.addi v1073 c8_i32
  v1558
def k0_mult25 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c16_i32 : BitVec 32 := 16#32
  let v1564 : BitVec 32 := Scalar.addi v1073 c16_i32
  v1564
def k0_mult26 (k0_t2 : Fin k0_t2_loop.trips) : BitVec 32 :=
  let c0_i32_684 : BitVec 32 := 0#32
  let c1_i32_686 : BitVec 32 := 1#32
  let arg25 : BitVec 32 := Scf.iv c0_i32_684 c1_i32_686 k0_t2
  let c32_i32 : BitVec 32 := 32#32
  let v1072 : BitVec 32 := Scalar.muli arg25 c32_i32
  let v1073 : BitVec 32 := v1072
  let c24_i32 : BitVec 32 := 24#32
  let v1570 : BitVec 32 := Scalar.addi v1073 c24_i32
  v1570
@[reducible] def k0_t3_loop : Scf.Loop 32 :=
  let c0_i32_688 : BitVec 32 := 0#32
  let c4_i32_689 : BitVec 32 := 4#32
  let v1007 : BitVec 32 := Scalar.addi c0_i32_688 c4_i32_689
  let c1_i32_690 : BitVec 32 := 1#32
  ⟨c0_i32_688, v1007, c1_i32_690⟩
def k0_mult27 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  v1072
def k0_mult28 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_762 : BitVec 32 := 0#32
  let v1078 : BitVec 32 := Scalar.addi v1073 c0_i32_762
  v1078
def k0_off19 (k0_t3 : Fin k0_t3_loop.trips) : Fin 3 → Nat :=
  let c0_763 : Index := 0#32
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_762 : BitVec 32 := 0#32
  let v1078 : BitVec 32 := Scalar.addi v1073 c0_i32_762
  let v1079 : BitVec 32 := v1078
  let v1080 : Index := Scalar.indexCast v1079
  let c512_764 : Index := 512#32
  ![0, v1080.toNat, 512]
def k0_mult29 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_774 : BitVec 32 := 0#32
  let v1139 : BitVec 32 := Scalar.addi v1073 c0_i32_774
  v1139
def k0_off20 (k0_t3 : Fin k0_t3_loop.trips) : Fin 3 → Nat :=
  let c1_775 : Index := 1#32
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_774 : BitVec 32 := 0#32
  let v1139 : BitVec 32 := Scalar.addi v1073 c0_i32_774
  let v1140 : BitVec 32 := v1139
  let v1141 : Index := Scalar.indexCast v1140
  let c512_776 : Index := 512#32
  ![1, v1141.toNat, 512]
def k0_mult30 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_786 : BitVec 32 := 0#32
  let v1200 : BitVec 32 := Scalar.addi v1073 c0_i32_786
  v1200
def k0_off21 (k0_t3 : Fin k0_t3_loop.trips) : Fin 3 → Nat :=
  let c2_787 : Index := 2#32
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_786 : BitVec 32 := 0#32
  let v1200 : BitVec 32 := Scalar.addi v1073 c0_i32_786
  let v1201 : BitVec 32 := v1200
  let v1202 : Index := Scalar.indexCast v1201
  let c512_788 : Index := 512#32
  ![2, v1202.toNat, 512]
def k0_mult31 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_798 : BitVec 32 := 0#32
  let v1261 : BitVec 32 := Scalar.addi v1073 c0_i32_798
  v1261
def k0_off22 (k0_t3 : Fin k0_t3_loop.trips) : Fin 3 → Nat :=
  let c3_799 : Index := 3#32
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_798 : BitVec 32 := 0#32
  let v1261 : BitVec 32 := Scalar.addi v1073 c0_i32_798
  let v1262 : BitVec 32 := v1261
  let v1263 : Index := Scalar.indexCast v1262
  let c512_800 : Index := 512#32
  ![3, v1263.toNat, 512]
def k0_mult32 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_810 : BitVec 32 := 0#32
  let v1322 : BitVec 32 := Scalar.addi v1073 c0_i32_810
  v1322
def k0_off23 (k0_t3 : Fin k0_t3_loop.trips) : Fin 3 → Nat :=
  let c4_811 : Index := 4#32
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_810 : BitVec 32 := 0#32
  let v1322 : BitVec 32 := Scalar.addi v1073 c0_i32_810
  let v1323 : BitVec 32 := v1322
  let v1324 : Index := Scalar.indexCast v1323
  let c512_812 : Index := 512#32
  ![4, v1324.toNat, 512]
def k0_mult33 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_822 : BitVec 32 := 0#32
  let v1383 : BitVec 32 := Scalar.addi v1073 c0_i32_822
  v1383
def k0_off24 (k0_t3 : Fin k0_t3_loop.trips) : Fin 3 → Nat :=
  let c5_823 : Index := 5#32
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_822 : BitVec 32 := 0#32
  let v1383 : BitVec 32 := Scalar.addi v1073 c0_i32_822
  let v1384 : BitVec 32 := v1383
  let v1385 : Index := Scalar.indexCast v1384
  let c512_824 : Index := 512#32
  ![5, v1385.toNat, 512]
def k0_mult34 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_834 : BitVec 32 := 0#32
  let v1444 : BitVec 32 := Scalar.addi v1073 c0_i32_834
  v1444
def k0_off25 (k0_t3 : Fin k0_t3_loop.trips) : Fin 3 → Nat :=
  let c6_835 : Index := 6#32
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_834 : BitVec 32 := 0#32
  let v1444 : BitVec 32 := Scalar.addi v1073 c0_i32_834
  let v1445 : BitVec 32 := v1444
  let v1446 : Index := Scalar.indexCast v1445
  let c512_836 : Index := 512#32
  ![6, v1446.toNat, 512]
def k0_mult35 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_848 : BitVec 32 := 0#32
  let v1505 : BitVec 32 := Scalar.addi v1073 c0_i32_848
  v1505
def k0_off26 (k0_t3 : Fin k0_t3_loop.trips) : Fin 3 → Nat :=
  let c7_849 : Index := 7#32
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_848 : BitVec 32 := 0#32
  let v1505 : BitVec 32 := Scalar.addi v1073 c0_i32_848
  let v1506 : BitVec 32 := v1505
  let v1507 : Index := Scalar.indexCast v1506
  let c512_850 : Index := 512#32
  ![7, v1507.toNat, 512]
def k0_mult36 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c0_i32_858 : BitVec 32 := 0#32
  let v1552 : BitVec 32 := Scalar.addi v1073 c0_i32_858
  v1552
def k0_off27 (k0_t3 : Fin k0_t3_loop.trips) (c0_i32_858 : BitVec 32) : Fin 2 → Nat :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let v1552 : BitVec 32 := Scalar.addi v1073 c0_i32_858
  let v1553 : BitVec 32 := v1552
  let v1554 : Index := Scalar.indexCast v1553
  let c512_859 : Index := 512#32
  ![v1554.toNat, 512]
def k0_mult37 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c8_i32 : BitVec 32 := 8#32
  let v1558 : BitVec 32 := Scalar.addi v1073 c8_i32
  v1558
def k0_mult38 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c16_i32 : BitVec 32 := 16#32
  let v1564 : BitVec 32 := Scalar.addi v1073 c16_i32
  v1564
def k0_mult39 (k0_t3 : Fin k0_t3_loop.trips) : BitVec 32 :=
  let c0_i32_688 : BitVec 32 := 0#32
  let c1_i32_690 : BitVec 32 := 1#32
  let arg25 : BitVec 32 := Scf.iv c0_i32_688 c1_i32_690 k0_t3
  let c32_i32 : BitVec 32 := 32#32
  let v1072 : BitVec 32 := Scalar.muli arg25 c32_i32
  let v1073 : BitVec 32 := v1072
  let c24_i32 : BitVec 32 := 24#32
  let v1570 : BitVec 32 := Scalar.addi v1073 c24_i32
  v1570
@[reducible] def k0_t4_loop : Scf.Loop 32 :=
  let c0_i32_692 : BitVec 32 := 0#32
  let c4_i32_693 : BitVec 32 := 4#32
  let v1008 : BitVec 32 := Scalar.addi c0_i32_692 c4_i32_693
  let c1_i32_694 : BitVec 32 := 1#32
  ⟨c0_i32_692, v1008, c1_i32_694⟩
def k0_mult40 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  v1072
def k0_mult41 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_762 : BitVec 32 := 0#32
  let v1078 : BitVec 32 := Scalar.addi v1073 c0_i32_762
  v1078
def k0_off28 (k0_t4 : Fin k0_t4_loop.trips) : Fin 3 → Nat :=
  let c0_763 : Index := 0#32
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_762 : BitVec 32 := 0#32
  let v1078 : BitVec 32 := Scalar.addi v1073 c0_i32_762
  let v1079 : BitVec 32 := v1078
  let v1080 : Index := Scalar.indexCast v1079
  let c768_764 : Index := 768#32
  ![0, v1080.toNat, 768]
def k0_mult42 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_774 : BitVec 32 := 0#32
  let v1139 : BitVec 32 := Scalar.addi v1073 c0_i32_774
  v1139
def k0_off29 (k0_t4 : Fin k0_t4_loop.trips) : Fin 3 → Nat :=
  let c1_775 : Index := 1#32
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_774 : BitVec 32 := 0#32
  let v1139 : BitVec 32 := Scalar.addi v1073 c0_i32_774
  let v1140 : BitVec 32 := v1139
  let v1141 : Index := Scalar.indexCast v1140
  let c768_776 : Index := 768#32
  ![1, v1141.toNat, 768]
def k0_mult43 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_786 : BitVec 32 := 0#32
  let v1200 : BitVec 32 := Scalar.addi v1073 c0_i32_786
  v1200
def k0_off30 (k0_t4 : Fin k0_t4_loop.trips) : Fin 3 → Nat :=
  let c2_787 : Index := 2#32
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_786 : BitVec 32 := 0#32
  let v1200 : BitVec 32 := Scalar.addi v1073 c0_i32_786
  let v1201 : BitVec 32 := v1200
  let v1202 : Index := Scalar.indexCast v1201
  let c768_788 : Index := 768#32
  ![2, v1202.toNat, 768]
def k0_mult44 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_798 : BitVec 32 := 0#32
  let v1261 : BitVec 32 := Scalar.addi v1073 c0_i32_798
  v1261
def k0_off31 (k0_t4 : Fin k0_t4_loop.trips) : Fin 3 → Nat :=
  let c3_799 : Index := 3#32
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_798 : BitVec 32 := 0#32
  let v1261 : BitVec 32 := Scalar.addi v1073 c0_i32_798
  let v1262 : BitVec 32 := v1261
  let v1263 : Index := Scalar.indexCast v1262
  let c768_800 : Index := 768#32
  ![3, v1263.toNat, 768]
def k0_mult45 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_810 : BitVec 32 := 0#32
  let v1322 : BitVec 32 := Scalar.addi v1073 c0_i32_810
  v1322
def k0_off32 (k0_t4 : Fin k0_t4_loop.trips) : Fin 3 → Nat :=
  let c4_811 : Index := 4#32
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_810 : BitVec 32 := 0#32
  let v1322 : BitVec 32 := Scalar.addi v1073 c0_i32_810
  let v1323 : BitVec 32 := v1322
  let v1324 : Index := Scalar.indexCast v1323
  let c768_812 : Index := 768#32
  ![4, v1324.toNat, 768]
def k0_mult46 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_822 : BitVec 32 := 0#32
  let v1383 : BitVec 32 := Scalar.addi v1073 c0_i32_822
  v1383
def k0_off33 (k0_t4 : Fin k0_t4_loop.trips) : Fin 3 → Nat :=
  let c5_823 : Index := 5#32
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_822 : BitVec 32 := 0#32
  let v1383 : BitVec 32 := Scalar.addi v1073 c0_i32_822
  let v1384 : BitVec 32 := v1383
  let v1385 : Index := Scalar.indexCast v1384
  let c768_824 : Index := 768#32
  ![5, v1385.toNat, 768]
def k0_mult47 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_834 : BitVec 32 := 0#32
  let v1444 : BitVec 32 := Scalar.addi v1073 c0_i32_834
  v1444
def k0_off34 (k0_t4 : Fin k0_t4_loop.trips) : Fin 3 → Nat :=
  let c6_835 : Index := 6#32
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_834 : BitVec 32 := 0#32
  let v1444 : BitVec 32 := Scalar.addi v1073 c0_i32_834
  let v1445 : BitVec 32 := v1444
  let v1446 : Index := Scalar.indexCast v1445
  let c768_836 : Index := 768#32
  ![6, v1446.toNat, 768]
def k0_mult48 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_848 : BitVec 32 := 0#32
  let v1505 : BitVec 32 := Scalar.addi v1073 c0_i32_848
  v1505
def k0_off35 (k0_t4 : Fin k0_t4_loop.trips) : Fin 3 → Nat :=
  let c7_849 : Index := 7#32
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_848 : BitVec 32 := 0#32
  let v1505 : BitVec 32 := Scalar.addi v1073 c0_i32_848
  let v1506 : BitVec 32 := v1505
  let v1507 : Index := Scalar.indexCast v1506
  let c768_850 : Index := 768#32
  ![7, v1507.toNat, 768]
def k0_mult49 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c0_i32_858 : BitVec 32 := 0#32
  let v1552 : BitVec 32 := Scalar.addi v1073 c0_i32_858
  v1552
def k0_off36 (k0_t4 : Fin k0_t4_loop.trips) (c0_i32_858 : BitVec 32) : Fin 2 → Nat :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let v1552 : BitVec 32 := Scalar.addi v1073 c0_i32_858
  let v1553 : BitVec 32 := v1552
  let v1554 : Index := Scalar.indexCast v1553
  let c768_859 : Index := 768#32
  ![v1554.toNat, 768]
def k0_mult50 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c8_i32 : BitVec 32 := 8#32
  let v1558 : BitVec 32 := Scalar.addi v1073 c8_i32
  v1558
def k0_mult51 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c16_i32 : BitVec 32 := 16#32
  let v1564 : BitVec 32 := Scalar.addi v1073 c16_i32
  v1564
def k0_mult52 (k0_t4 : Fin k0_t4_loop.trips) : BitVec 32 :=
  let c0_i32_692 : BitVec 32 := 0#32
  let c1_i32_694 : BitVec 32 := 1#32
  let arg25 : BitVec 32 := Scf.iv c0_i32_692 c1_i32_694 k0_t4
  let c32_i32 : BitVec 32 := 32#32
  let v1072 : BitVec 32 := Scalar.muli arg25 c32_i32
  let v1073 : BitVec 32 := v1072
  let c24_i32 : BitVec 32 := 24#32
  let v1570 : BitVec 32 := Scalar.addi v1073 c24_i32
  v1570
@[reducible] def k0_t5_loop : Scf.Loop 32 :=
  let c0_i32_696 : BitVec 32 := 0#32
  let c4_i32_697 : BitVec 32 := 4#32
  let v1009 : BitVec 32 := Scalar.addi c0_i32_696 c4_i32_697
  let c1_i32_698 : BitVec 32 := 1#32
  ⟨c0_i32_696, v1009, c1_i32_698⟩
def k0_mult53 (k0_t5 : Fin k0_t5_loop.trips) : BitVec 32 :=
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  v1072
def k0_off37 (k0_t5 : Fin k0_t5_loop.trips) : Fin 3 → Nat :=
  let c0_758 : Index := 0#32
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let v1074 : Index := Scalar.indexCast v1073
  let c0_759 : Index := 0#32
  ![0, v1074.toNat, 0]
def k0_mult54 (k0_t5 : Fin k0_t5_loop.trips) : BitVec 32 :=
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32 : BitVec 32 := 8#32
  let v1077 : BitVec 32 := Scalar.addi v1073 c8_i32
  v1077
def k0_off38 (k0_t5 : Fin k0_t5_loop.trips) : Fin 3 → Nat :=
  let c0_760 : Index := 0#32
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32 : BitVec 32 := 8#32
  let v1077 : BitVec 32 := Scalar.addi v1073 c8_i32
  let v1078 : BitVec 32 := v1077
  let v1079 : Index := Scalar.indexCast v1078
  let c0_761 : Index := 0#32
  ![0, v1079.toNat, 0]
def k0_mult55 (k0_t5 : Fin k0_t5_loop.trips) : BitVec 32 :=
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_783 : BitVec 32 := 8#32
  let v1142 : BitVec 32 := Scalar.addi v1073 c8_i32_783
  v1142
def k0_off39 (k0_t5 : Fin k0_t5_loop.trips) : Fin 3 → Nat :=
  let c1_784 : Index := 1#32
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_783 : BitVec 32 := 8#32
  let v1142 : BitVec 32 := Scalar.addi v1073 c8_i32_783
  let v1143 : BitVec 32 := v1142
  let v1144 : Index := Scalar.indexCast v1143
  let c0_785 : Index := 0#32
  ![1, v1144.toNat, 0]
def k0_mult56 (k0_t5 : Fin k0_t5_loop.trips) : BitVec 32 :=
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_807 : BitVec 32 := 8#32
  let v1207 : BitVec 32 := Scalar.addi v1073 c8_i32_807
  v1207
def k0_off40 (k0_t5 : Fin k0_t5_loop.trips) : Fin 3 → Nat :=
  let c2_808 : Index := 2#32
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_807 : BitVec 32 := 8#32
  let v1207 : BitVec 32 := Scalar.addi v1073 c8_i32_807
  let v1208 : BitVec 32 := v1207
  let v1209 : Index := Scalar.indexCast v1208
  let c0_809 : Index := 0#32
  ![2, v1209.toNat, 0]
def k0_mult57 (k0_t5 : Fin k0_t5_loop.trips) : BitVec 32 :=
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_831 : BitVec 32 := 8#32
  let v1272 : BitVec 32 := Scalar.addi v1073 c8_i32_831
  v1272
def k0_off41 (k0_t5 : Fin k0_t5_loop.trips) : Fin 3 → Nat :=
  let c3_832 : Index := 3#32
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_831 : BitVec 32 := 8#32
  let v1272 : BitVec 32 := Scalar.addi v1073 c8_i32_831
  let v1273 : BitVec 32 := v1272
  let v1274 : Index := Scalar.indexCast v1273
  let c0_833 : Index := 0#32
  ![3, v1274.toNat, 0]
def k0_mult58 (k0_t5 : Fin k0_t5_loop.trips) : BitVec 32 :=
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_855 : BitVec 32 := 8#32
  let v1337 : BitVec 32 := Scalar.addi v1073 c8_i32_855
  v1337
def k0_off42 (k0_t5 : Fin k0_t5_loop.trips) : Fin 3 → Nat :=
  let c4_856 : Index := 4#32
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_855 : BitVec 32 := 8#32
  let v1337 : BitVec 32 := Scalar.addi v1073 c8_i32_855
  let v1338 : BitVec 32 := v1337
  let v1339 : Index := Scalar.indexCast v1338
  let c0_857 : Index := 0#32
  ![4, v1339.toNat, 0]
def k0_mult59 (k0_t5 : Fin k0_t5_loop.trips) : BitVec 32 :=
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_879 : BitVec 32 := 8#32
  let v1402 : BitVec 32 := Scalar.addi v1073 c8_i32_879
  v1402
def k0_off43 (k0_t5 : Fin k0_t5_loop.trips) : Fin 3 → Nat :=
  let c5_880 : Index := 5#32
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_879 : BitVec 32 := 8#32
  let v1402 : BitVec 32 := Scalar.addi v1073 c8_i32_879
  let v1403 : BitVec 32 := v1402
  let v1404 : Index := Scalar.indexCast v1403
  let c0_881 : Index := 0#32
  ![5, v1404.toNat, 0]
def k0_mult60 (k0_t5 : Fin k0_t5_loop.trips) : BitVec 32 :=
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_903 : BitVec 32 := 8#32
  let v1467 : BitVec 32 := Scalar.addi v1073 c8_i32_903
  v1467
def k0_off44 (k0_t5 : Fin k0_t5_loop.trips) : Fin 3 → Nat :=
  let c6_904 : Index := 6#32
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_903 : BitVec 32 := 8#32
  let v1467 : BitVec 32 := Scalar.addi v1073 c8_i32_903
  let v1468 : BitVec 32 := v1467
  let v1469 : Index := Scalar.indexCast v1468
  let c0_905 : Index := 0#32
  ![6, v1469.toNat, 0]
def k0_mult61 (k0_t5 : Fin k0_t5_loop.trips) : BitVec 32 :=
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_929 : BitVec 32 := 8#32
  let v1532 : BitVec 32 := Scalar.addi v1073 c8_i32_929
  v1532
def k0_off45 (k0_t5 : Fin k0_t5_loop.trips) : Fin 3 → Nat :=
  let c7_930 : Index := 7#32
  let c0_i32_696 : BitVec 32 := 0#32
  let c1_i32_698 : BitVec 32 := 1#32
  let arg25 : BitVec 32 := Scf.iv c0_i32_696 c1_i32_698 k0_t5
  let c32_i32 : BitVec 32 := 32#32
  let v1072 : BitVec 32 := Scalar.muli arg25 c32_i32
  let v1073 : BitVec 32 := v1072
  let c8_i32_929 : BitVec 32 := 8#32
  let v1532 : BitVec 32 := Scalar.addi v1073 c8_i32_929
  let v1533 : BitVec 32 := v1532
  let v1534 : Index := Scalar.indexCast v1533
  let c0_931 : Index := 0#32
  ![7, v1534.toNat, 0]
@[reducible] def k0_t6_loop : Scf.Loop 32 :=
  let c0_i32_700 : BitVec 32 := 0#32
  let c4_i32_701 : BitVec 32 := 4#32
  let v1010 : BitVec 32 := Scalar.addi c0_i32_700 c4_i32_701
  let c1_i32_702 : BitVec 32 := 1#32
  ⟨c0_i32_700, v1010, c1_i32_702⟩
def k0_mult62 (k0_t6 : Fin k0_t6_loop.trips) : BitVec 32 :=
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  v1072
def k0_off46 (k0_t6 : Fin k0_t6_loop.trips) : Fin 3 → Nat :=
  let c0_758 : Index := 0#32
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let v1074 : Index := Scalar.indexCast v1073
  let c256_759 : Index := 256#32
  ![0, v1074.toNat, 256]
def k0_mult63 (k0_t6 : Fin k0_t6_loop.trips) : BitVec 32 :=
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32 : BitVec 32 := 8#32
  let v1077 : BitVec 32 := Scalar.addi v1073 c8_i32
  v1077
def k0_off47 (k0_t6 : Fin k0_t6_loop.trips) : Fin 3 → Nat :=
  let c0_760 : Index := 0#32
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32 : BitVec 32 := 8#32
  let v1077 : BitVec 32 := Scalar.addi v1073 c8_i32
  let v1078 : BitVec 32 := v1077
  let v1079 : Index := Scalar.indexCast v1078
  let c256_761 : Index := 256#32
  ![0, v1079.toNat, 256]
def k0_mult64 (k0_t6 : Fin k0_t6_loop.trips) : BitVec 32 :=
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_783 : BitVec 32 := 8#32
  let v1142 : BitVec 32 := Scalar.addi v1073 c8_i32_783
  v1142
def k0_off48 (k0_t6 : Fin k0_t6_loop.trips) : Fin 3 → Nat :=
  let c1_784 : Index := 1#32
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_783 : BitVec 32 := 8#32
  let v1142 : BitVec 32 := Scalar.addi v1073 c8_i32_783
  let v1143 : BitVec 32 := v1142
  let v1144 : Index := Scalar.indexCast v1143
  let c256_785 : Index := 256#32
  ![1, v1144.toNat, 256]
def k0_mult65 (k0_t6 : Fin k0_t6_loop.trips) : BitVec 32 :=
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_807 : BitVec 32 := 8#32
  let v1207 : BitVec 32 := Scalar.addi v1073 c8_i32_807
  v1207
def k0_off49 (k0_t6 : Fin k0_t6_loop.trips) : Fin 3 → Nat :=
  let c2_808 : Index := 2#32
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_807 : BitVec 32 := 8#32
  let v1207 : BitVec 32 := Scalar.addi v1073 c8_i32_807
  let v1208 : BitVec 32 := v1207
  let v1209 : Index := Scalar.indexCast v1208
  let c256_809 : Index := 256#32
  ![2, v1209.toNat, 256]
def k0_mult66 (k0_t6 : Fin k0_t6_loop.trips) : BitVec 32 :=
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_831 : BitVec 32 := 8#32
  let v1272 : BitVec 32 := Scalar.addi v1073 c8_i32_831
  v1272
def k0_off50 (k0_t6 : Fin k0_t6_loop.trips) : Fin 3 → Nat :=
  let c3_832 : Index := 3#32
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_831 : BitVec 32 := 8#32
  let v1272 : BitVec 32 := Scalar.addi v1073 c8_i32_831
  let v1273 : BitVec 32 := v1272
  let v1274 : Index := Scalar.indexCast v1273
  let c256_833 : Index := 256#32
  ![3, v1274.toNat, 256]
def k0_mult67 (k0_t6 : Fin k0_t6_loop.trips) : BitVec 32 :=
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_855 : BitVec 32 := 8#32
  let v1337 : BitVec 32 := Scalar.addi v1073 c8_i32_855
  v1337
def k0_off51 (k0_t6 : Fin k0_t6_loop.trips) : Fin 3 → Nat :=
  let c4_856 : Index := 4#32
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_855 : BitVec 32 := 8#32
  let v1337 : BitVec 32 := Scalar.addi v1073 c8_i32_855
  let v1338 : BitVec 32 := v1337
  let v1339 : Index := Scalar.indexCast v1338
  let c256_857 : Index := 256#32
  ![4, v1339.toNat, 256]
def k0_mult68 (k0_t6 : Fin k0_t6_loop.trips) : BitVec 32 :=
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_879 : BitVec 32 := 8#32
  let v1402 : BitVec 32 := Scalar.addi v1073 c8_i32_879
  v1402
def k0_off52 (k0_t6 : Fin k0_t6_loop.trips) : Fin 3 → Nat :=
  let c5_880 : Index := 5#32
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_879 : BitVec 32 := 8#32
  let v1402 : BitVec 32 := Scalar.addi v1073 c8_i32_879
  let v1403 : BitVec 32 := v1402
  let v1404 : Index := Scalar.indexCast v1403
  let c256_881 : Index := 256#32
  ![5, v1404.toNat, 256]
def k0_mult69 (k0_t6 : Fin k0_t6_loop.trips) : BitVec 32 :=
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_903 : BitVec 32 := 8#32
  let v1467 : BitVec 32 := Scalar.addi v1073 c8_i32_903
  v1467
def k0_off53 (k0_t6 : Fin k0_t6_loop.trips) : Fin 3 → Nat :=
  let c6_904 : Index := 6#32
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_903 : BitVec 32 := 8#32
  let v1467 : BitVec 32 := Scalar.addi v1073 c8_i32_903
  let v1468 : BitVec 32 := v1467
  let v1469 : Index := Scalar.indexCast v1468
  let c256_905 : Index := 256#32
  ![6, v1469.toNat, 256]
def k0_mult70 (k0_t6 : Fin k0_t6_loop.trips) : BitVec 32 :=
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_929 : BitVec 32 := 8#32
  let v1532 : BitVec 32 := Scalar.addi v1073 c8_i32_929
  v1532
def k0_off54 (k0_t6 : Fin k0_t6_loop.trips) : Fin 3 → Nat :=
  let c7_930 : Index := 7#32
  let c0_i32_700 : BitVec 32 := 0#32
  let c1_i32_702 : BitVec 32 := 1#32
  let arg25 : BitVec 32 := Scf.iv c0_i32_700 c1_i32_702 k0_t6
  let c32_i32 : BitVec 32 := 32#32
  let v1072 : BitVec 32 := Scalar.muli arg25 c32_i32
  let v1073 : BitVec 32 := v1072
  let c8_i32_929 : BitVec 32 := 8#32
  let v1532 : BitVec 32 := Scalar.addi v1073 c8_i32_929
  let v1533 : BitVec 32 := v1532
  let v1534 : Index := Scalar.indexCast v1533
  let c256_931 : Index := 256#32
  ![7, v1534.toNat, 256]
@[reducible] def k0_t7_loop : Scf.Loop 32 :=
  let c0_i32_704 : BitVec 32 := 0#32
  let c4_i32_705 : BitVec 32 := 4#32
  let v1011 : BitVec 32 := Scalar.addi c0_i32_704 c4_i32_705
  let c1_i32_706 : BitVec 32 := 1#32
  ⟨c0_i32_704, v1011, c1_i32_706⟩
def k0_mult71 (k0_t7 : Fin k0_t7_loop.trips) : BitVec 32 :=
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  v1072
def k0_off55 (k0_t7 : Fin k0_t7_loop.trips) : Fin 3 → Nat :=
  let c0_758 : Index := 0#32
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let v1074 : Index := Scalar.indexCast v1073
  let c512_759 : Index := 512#32
  ![0, v1074.toNat, 512]
def k0_mult72 (k0_t7 : Fin k0_t7_loop.trips) : BitVec 32 :=
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32 : BitVec 32 := 8#32
  let v1077 : BitVec 32 := Scalar.addi v1073 c8_i32
  v1077
def k0_off56 (k0_t7 : Fin k0_t7_loop.trips) : Fin 3 → Nat :=
  let c0_760 : Index := 0#32
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32 : BitVec 32 := 8#32
  let v1077 : BitVec 32 := Scalar.addi v1073 c8_i32
  let v1078 : BitVec 32 := v1077
  let v1079 : Index := Scalar.indexCast v1078
  let c512_761 : Index := 512#32
  ![0, v1079.toNat, 512]
def k0_mult73 (k0_t7 : Fin k0_t7_loop.trips) : BitVec 32 :=
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_783 : BitVec 32 := 8#32
  let v1142 : BitVec 32 := Scalar.addi v1073 c8_i32_783
  v1142
def k0_off57 (k0_t7 : Fin k0_t7_loop.trips) : Fin 3 → Nat :=
  let c1_784 : Index := 1#32
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_783 : BitVec 32 := 8#32
  let v1142 : BitVec 32 := Scalar.addi v1073 c8_i32_783
  let v1143 : BitVec 32 := v1142
  let v1144 : Index := Scalar.indexCast v1143
  let c512_785 : Index := 512#32
  ![1, v1144.toNat, 512]
def k0_mult74 (k0_t7 : Fin k0_t7_loop.trips) : BitVec 32 :=
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_807 : BitVec 32 := 8#32
  let v1207 : BitVec 32 := Scalar.addi v1073 c8_i32_807
  v1207
def k0_off58 (k0_t7 : Fin k0_t7_loop.trips) : Fin 3 → Nat :=
  let c2_808 : Index := 2#32
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_807 : BitVec 32 := 8#32
  let v1207 : BitVec 32 := Scalar.addi v1073 c8_i32_807
  let v1208 : BitVec 32 := v1207
  let v1209 : Index := Scalar.indexCast v1208
  let c512_809 : Index := 512#32
  ![2, v1209.toNat, 512]
def k0_mult75 (k0_t7 : Fin k0_t7_loop.trips) : BitVec 32 :=
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_831 : BitVec 32 := 8#32
  let v1272 : BitVec 32 := Scalar.addi v1073 c8_i32_831
  v1272
def k0_off59 (k0_t7 : Fin k0_t7_loop.trips) : Fin 3 → Nat :=
  let c3_832 : Index := 3#32
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_831 : BitVec 32 := 8#32
  let v1272 : BitVec 32 := Scalar.addi v1073 c8_i32_831
  let v1273 : BitVec 32 := v1272
  let v1274 : Index := Scalar.indexCast v1273
  let c512_833 : Index := 512#32
  ![3, v1274.toNat, 512]
def k0_mult76 (k0_t7 : Fin k0_t7_loop.trips) : BitVec 32 :=
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_855 : BitVec 32 := 8#32
  let v1337 : BitVec 32 := Scalar.addi v1073 c8_i32_855
  v1337
def k0_off60 (k0_t7 : Fin k0_t7_loop.trips) : Fin 3 → Nat :=
  let c4_856 : Index := 4#32
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_855 : BitVec 32 := 8#32
  let v1337 : BitVec 32 := Scalar.addi v1073 c8_i32_855
  let v1338 : BitVec 32 := v1337
  let v1339 : Index := Scalar.indexCast v1338
  let c512_857 : Index := 512#32
  ![4, v1339.toNat, 512]
def k0_mult77 (k0_t7 : Fin k0_t7_loop.trips) : BitVec 32 :=
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_879 : BitVec 32 := 8#32
  let v1402 : BitVec 32 := Scalar.addi v1073 c8_i32_879
  v1402
def k0_off61 (k0_t7 : Fin k0_t7_loop.trips) : Fin 3 → Nat :=
  let c5_880 : Index := 5#32
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_879 : BitVec 32 := 8#32
  let v1402 : BitVec 32 := Scalar.addi v1073 c8_i32_879
  let v1403 : BitVec 32 := v1402
  let v1404 : Index := Scalar.indexCast v1403
  let c512_881 : Index := 512#32
  ![5, v1404.toNat, 512]
def k0_mult78 (k0_t7 : Fin k0_t7_loop.trips) : BitVec 32 :=
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_903 : BitVec 32 := 8#32
  let v1467 : BitVec 32 := Scalar.addi v1073 c8_i32_903
  v1467
def k0_off62 (k0_t7 : Fin k0_t7_loop.trips) : Fin 3 → Nat :=
  let c6_904 : Index := 6#32
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_903 : BitVec 32 := 8#32
  let v1467 : BitVec 32 := Scalar.addi v1073 c8_i32_903
  let v1468 : BitVec 32 := v1467
  let v1469 : Index := Scalar.indexCast v1468
  let c512_905 : Index := 512#32
  ![6, v1469.toNat, 512]
def k0_mult79 (k0_t7 : Fin k0_t7_loop.trips) : BitVec 32 :=
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_929 : BitVec 32 := 8#32
  let v1532 : BitVec 32 := Scalar.addi v1073 c8_i32_929
  v1532
def k0_off63 (k0_t7 : Fin k0_t7_loop.trips) : Fin 3 → Nat :=
  let c7_930 : Index := 7#32
  let c0_i32_704 : BitVec 32 := 0#32
  let c1_i32_706 : BitVec 32 := 1#32
  let arg25 : BitVec 32 := Scf.iv c0_i32_704 c1_i32_706 k0_t7
  let c32_i32 : BitVec 32 := 32#32
  let v1072 : BitVec 32 := Scalar.muli arg25 c32_i32
  let v1073 : BitVec 32 := v1072
  let c8_i32_929 : BitVec 32 := 8#32
  let v1532 : BitVec 32 := Scalar.addi v1073 c8_i32_929
  let v1533 : BitVec 32 := v1532
  let v1534 : Index := Scalar.indexCast v1533
  let c512_931 : Index := 512#32
  ![7, v1534.toNat, 512]
@[reducible] def k0_t8_loop : Scf.Loop 32 :=
  let c0_i32_708 : BitVec 32 := 0#32
  let c4_i32_709 : BitVec 32 := 4#32
  let v1012 : BitVec 32 := Scalar.addi c0_i32_708 c4_i32_709
  let c1_i32_710 : BitVec 32 := 1#32
  ⟨c0_i32_708, v1012, c1_i32_710⟩
def k0_mult80 (k0_t8 : Fin k0_t8_loop.trips) : BitVec 32 :=
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  v1072
def k0_off64 (k0_t8 : Fin k0_t8_loop.trips) : Fin 3 → Nat :=
  let c0_758 : Index := 0#32
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let v1074 : Index := Scalar.indexCast v1073
  let c768_759 : Index := 768#32
  ![0, v1074.toNat, 768]
def k0_mult81 (k0_t8 : Fin k0_t8_loop.trips) : BitVec 32 :=
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32 : BitVec 32 := 8#32
  let v1077 : BitVec 32 := Scalar.addi v1073 c8_i32
  v1077
def k0_off65 (k0_t8 : Fin k0_t8_loop.trips) : Fin 3 → Nat :=
  let c0_760 : Index := 0#32
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32 : BitVec 32 := 8#32
  let v1077 : BitVec 32 := Scalar.addi v1073 c8_i32
  let v1078 : BitVec 32 := v1077
  let v1079 : Index := Scalar.indexCast v1078
  let c768_761 : Index := 768#32
  ![0, v1079.toNat, 768]
def k0_mult82 (k0_t8 : Fin k0_t8_loop.trips) : BitVec 32 :=
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_783 : BitVec 32 := 8#32
  let v1142 : BitVec 32 := Scalar.addi v1073 c8_i32_783
  v1142
def k0_off66 (k0_t8 : Fin k0_t8_loop.trips) : Fin 3 → Nat :=
  let c1_784 : Index := 1#32
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_783 : BitVec 32 := 8#32
  let v1142 : BitVec 32 := Scalar.addi v1073 c8_i32_783
  let v1143 : BitVec 32 := v1142
  let v1144 : Index := Scalar.indexCast v1143
  let c768_785 : Index := 768#32
  ![1, v1144.toNat, 768]
def k0_mult83 (k0_t8 : Fin k0_t8_loop.trips) : BitVec 32 :=
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_807 : BitVec 32 := 8#32
  let v1207 : BitVec 32 := Scalar.addi v1073 c8_i32_807
  v1207
def k0_off67 (k0_t8 : Fin k0_t8_loop.trips) : Fin 3 → Nat :=
  let c2_808 : Index := 2#32
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_807 : BitVec 32 := 8#32
  let v1207 : BitVec 32 := Scalar.addi v1073 c8_i32_807
  let v1208 : BitVec 32 := v1207
  let v1209 : Index := Scalar.indexCast v1208
  let c768_809 : Index := 768#32
  ![2, v1209.toNat, 768]
def k0_mult84 (k0_t8 : Fin k0_t8_loop.trips) : BitVec 32 :=
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_831 : BitVec 32 := 8#32
  let v1272 : BitVec 32 := Scalar.addi v1073 c8_i32_831
  v1272
def k0_off68 (k0_t8 : Fin k0_t8_loop.trips) : Fin 3 → Nat :=
  let c3_832 : Index := 3#32
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_831 : BitVec 32 := 8#32
  let v1272 : BitVec 32 := Scalar.addi v1073 c8_i32_831
  let v1273 : BitVec 32 := v1272
  let v1274 : Index := Scalar.indexCast v1273
  let c768_833 : Index := 768#32
  ![3, v1274.toNat, 768]
def k0_mult85 (k0_t8 : Fin k0_t8_loop.trips) : BitVec 32 :=
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_855 : BitVec 32 := 8#32
  let v1337 : BitVec 32 := Scalar.addi v1073 c8_i32_855
  v1337
def k0_off69 (k0_t8 : Fin k0_t8_loop.trips) : Fin 3 → Nat :=
  let c4_856 : Index := 4#32
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_855 : BitVec 32 := 8#32
  let v1337 : BitVec 32 := Scalar.addi v1073 c8_i32_855
  let v1338 : BitVec 32 := v1337
  let v1339 : Index := Scalar.indexCast v1338
  let c768_857 : Index := 768#32
  ![4, v1339.toNat, 768]
def k0_mult86 (k0_t8 : Fin k0_t8_loop.trips) : BitVec 32 :=
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_879 : BitVec 32 := 8#32
  let v1402 : BitVec 32 := Scalar.addi v1073 c8_i32_879
  v1402
def k0_off70 (k0_t8 : Fin k0_t8_loop.trips) : Fin 3 → Nat :=
  let c5_880 : Index := 5#32
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_879 : BitVec 32 := 8#32
  let v1402 : BitVec 32 := Scalar.addi v1073 c8_i32_879
  let v1403 : BitVec 32 := v1402
  let v1404 : Index := Scalar.indexCast v1403
  let c768_881 : Index := 768#32
  ![5, v1404.toNat, 768]
def k0_mult87 (k0_t8 : Fin k0_t8_loop.trips) : BitVec 32 :=
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_903 : BitVec 32 := 8#32
  let v1467 : BitVec 32 := Scalar.addi v1073 c8_i32_903
  v1467
def k0_off71 (k0_t8 : Fin k0_t8_loop.trips) : Fin 3 → Nat :=
  let c6_904 : Index := 6#32
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_903 : BitVec 32 := 8#32
  let v1467 : BitVec 32 := Scalar.addi v1073 c8_i32_903
  let v1468 : BitVec 32 := v1467
  let v1469 : Index := Scalar.indexCast v1468
  let c768_905 : Index := 768#32
  ![6, v1469.toNat, 768]
def k0_mult88 (k0_t8 : Fin k0_t8_loop.trips) : BitVec 32 :=
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_929 : BitVec 32 := 8#32
  let v1532 : BitVec 32 := Scalar.addi v1073 c8_i32_929
  v1532
def k0_off72 (k0_t8 : Fin k0_t8_loop.trips) : Fin 3 → Nat :=
  let c7_930 : Index := 7#32
  let c0_i32_708 : BitVec 32 := 0#32
  let c1_i32_710 : BitVec 32 := 1#32
  let arg25 : BitVec 32 := Scf.iv c0_i32_708 c1_i32_710 k0_t8
  let c32_i32 : BitVec 32 := 32#32
  let v1072 : BitVec 32 := Scalar.muli arg25 c32_i32
  let v1073 : BitVec 32 := v1072
  let c8_i32_929 : BitVec 32 := 8#32
  let v1532 : BitVec 32 := Scalar.addi v1073 c8_i32_929
  let v1533 : BitVec 32 := v1532
  let v1534 : Index := Scalar.indexCast v1533
  let c768_931 : Index := 768#32
  ![7, v1534.toNat, 768]
def k0_cond3 (i : grid0.Coords) : BitVec 1 :=
  let arg0 : BitVec 32 := BitVec.ofNat 32 (i 0).val
  let c31_i32_712 : BitVec 32 := 31#32
  let v1013 : BitVec 1 := Scalar.cmpi .eq arg0 c31_i32_712
  let v1014 : BitVec 32 := Scalar.extui v1013
  let c0_i32_713 : BitVec 32 := 0#32
  let v1015 : BitVec 1 := Scalar.cmpi .ne v1014 c0_i32_713
  v1015

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x7168 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S31x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel6.lean ====
abbrev S4096x7168 : Shape := ⟨2, ![4096, 7168]⟩
abbrev S2048x2048 : Shape := ⟨2, ![2048, 2048]⟩
abbrev S4096x2048 : Shape := ⟨2, ![4096, 2048]⟩
abbrev S1x2048 : Shape := ⟨2, ![1, 2048]⟩
abbrev S3x1024 : Shape := ⟨2, ![3, 1024]⟩
abbrev S31x1024 : Shape := ⟨2, ![31, 1024]⟩
abbrev S1x1024 : Shape := ⟨2, ![1, 1024]⟩
abbrev S4096x1024 : Shape := ⟨2, ![4096, 1024]⟩
abbrev S128x7168 : Shape := ⟨2, ![128, 7168]⟩
abbrev S32x7168 : Shape := ⟨2, ![32, 7168]⟩
abbrev S128x2048 : Shape := ⟨2, ![128, 2048]⟩
abbrev S128x1024 : Shape := ⟨2, ![128, 1024]⟩
abbrev S136x1024 : Shape := ⟨2, ![136, 1024]⟩
abbrev S8x160x1024 : Shape := ⟨3, ![8, 160, 1024]⟩
abbrev S31x8x1024 : Shape := ⟨3, ![31, 8, 1024]⟩
abbrev S8x1024 : Shape := ⟨2, ![8, 1024]⟩
abbrev S1x8x1024 : Shape := ⟨3, ![1, 8, 1024]⟩
abbrev S32x1024 : Shape := ⟨2, ![32, 1024]⟩
abbrev S1x32x1024 : Shape := ⟨3, ![1, 32, 1024]⟩
abbrev S1x128x1024 : Shape := ⟨3, ![1, 128, 1024]⟩
abbrev S1x152x1024 : Shape := ⟨3, ![1, 152, 1024]⟩
abbrev S152x1024 : Shape := ⟨2, ![152, 1024]⟩
abbrev S8x256 : Shape := ⟨2, ![8, 256]⟩
abbrev S1x56x256 : Shape := ⟨3, ![1, 56, 256]⟩
abbrev S56x256 : Shape := ⟨2, ![56, 256]⟩
abbrev S1x8x256 : Shape := ⟨3, ![1, 8, 256]⟩
abbrev S1x256 : Shape := ⟨2, ![1, 256]⟩
abbrev S128 : Shape := ⟨1, ![128]⟩
abbrev S128x1 : Shape := ⟨2, ![128, 1]⟩
abbrev S1024x2048 : Shape := ⟨2, ![1024, 2048]⟩

abbrev nBuf : Space → Nat
  | .hbm => 14
  | .vmem => 24
  | .smem => 0
  | _ => 0

abbrev bufTy : (tb : Table) → Fin (tcTables nBuf tb) → BufTy
  | .hbm, ⟨0, _⟩ => ⟨S4096x7168, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S3x1024, .f32⟩
  | .hbm, ⟨5, _⟩ => ⟨S31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2048x2048, .bf16⟩
  | .hbm, ⟨10, _⟩ => ⟨S4096x2048, .bf16⟩
  | .hbm, ⟨11, _⟩ => ⟨S4096x2048, .f32⟩
  | .hbm, ⟨12, _⟩ => ⟨S4096x2048, .f32⟩
  | .hbm, ⟨13, _⟩ => ⟨S4096x1024, .f32⟩
  | .local _ .vmem, ⟨0, _⟩ => ⟨S128x7168, .f32⟩
  | .local _ .vmem, ⟨1, _⟩ => ⟨S128x7168, .f32⟩
  | .local _ .vmem, ⟨2, _⟩ => ⟨S32x7168, .f32⟩
  | .local _ .vmem, ⟨3, _⟩ => ⟨S32x7168, .f32⟩
  | .local _ .vmem, ⟨4, _⟩ => ⟨S2048x2048, .bf16⟩
  | .local _ .vmem, ⟨5, _⟩ => ⟨S128x2048, .f32⟩
  | .local _ .vmem, ⟨6, _⟩ => ⟨S128x2048, .f32⟩
  | .local _ .vmem, ⟨7, _⟩ => ⟨S1x2048, .f32⟩
  | .local _ .vmem, ⟨8, _⟩ => ⟨S3x1024, .f32⟩
  | .local _ .vmem, ⟨9, _⟩ => ⟨S31x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S128x2048, .bf16⟩
  | .local _ .vmem, ⟨14, _⟩ => ⟨S128x2048, .bf16⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x1024, .f32⟩
  | .local _ .vmem, ⟨20, _⟩ => ⟨S128x1024, .f32⟩
  | .local _ .vmem, ⟨21, _⟩ => ⟨S136x1024, .f32⟩
  | .local _ .vmem, ⟨22, _⟩ => ⟨S8x160x1024, .f32⟩
  | .local _ .vmem, ⟨23, _⟩ => ⟨S31x8x1024, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_73 : BitVec 32 := 0#32
  let c4_i32 : BitVec 32 := 4#32
  let v90 : BitVec 32 := Scalar.addi c0_i32_73 c4_i32
  let c1_i32 : BitVec 32 := 1#32
  ⟨c0_i32_73, v90, c1_i32⟩
def k0_mult1 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  v154
def k0_mult2 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32 : BitVec 32 := 8#32
  let v160 : BitVec 32 := Scalar.addi v155 c8_i32
  v160
def k0_off1 (k0_t1 : Fin k0_t1_loop.trips) : Fin 3 → Nat :=
  let c0_123 : Index := 0#32
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32 : BitVec 32 := 8#32
  let v160 : BitVec 32 := Scalar.addi v155 c8_i32
  let v161 : BitVec 32 := v160
  let v162 : Index := Scalar.indexCast v161
  let c0_124 : Index := 0#32
  ![0, v162.toNat, 0]
def k0_mult3 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_134 : BitVec 32 := 8#32
  let v221 : BitVec 32 := Scalar.addi v155 c8_i32_134
  v221
def k0_off2 (k0_t1 : Fin k0_t1_loop.trips) : Fin 3 → Nat :=
  let c1_135 : Index := 1#32
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_134 : BitVec 32 := 8#32
  let v221 : BitVec 32 := Scalar.addi v155 c8_i32_134
  let v222 : BitVec 32 := v221
  let v223 : Index := Scalar.indexCast v222
  let c0_136 : Index := 0#32
  ![1, v223.toNat, 0]
def k0_mult4 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_146 : BitVec 32 := 8#32
  let v282 : BitVec 32 := Scalar.addi v155 c8_i32_146
  v282
def k0_off3 (k0_t1 : Fin k0_t1_loop.trips) : Fin 3 → Nat :=
  let c2_147 : Index := 2#32
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_146 : BitVec 32 := 8#32
  let v282 : BitVec 32 := Scalar.addi v155 c8_i32_146
  let v283 : BitVec 32 := v282
  let v284 : Index := Scalar.indexCast v283
  let c0_148 : Index := 0#32
  ![2, v284.toNat, 0]
def k0_mult5 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_158 : BitVec 32 := 8#32
  let v343 : BitVec 32 := Scalar.addi v155 c8_i32_158
  v343
def k0_off4 (k0_t1 : Fin k0_t1_loop.trips) : Fin 3 → Nat :=
  let c3_159 : Index := 3#32
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_158 : BitVec 32 := 8#32
  let v343 : BitVec 32 := Scalar.addi v155 c8_i32_158
  let v344 : BitVec 32 := v343
  let v345 : Index := Scalar.indexCast v344
  let c0_160 : Index := 0#32
  ![3, v345.toNat, 0]
def k0_mult6 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_170 : BitVec 32 := 8#32
  let v404 : BitVec 32 := Scalar.addi v155 c8_i32_170
  v404
def k0_off5 (k0_t1 : Fin k0_t1_loop.trips) : Fin 3 → Nat :=
  let c4_171 : Index := 4#32
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_170 : BitVec 32 := 8#32
  let v404 : BitVec 32 := Scalar.addi v155 c8_i32_170
  let v405 : BitVec 32 := v404
  let v406 : Index := Scalar.indexCast v405
  let c0_172 : Index := 0#32
  ![4, v406.toNat, 0]
def k0_mult7 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_182 : BitVec 32 := 8#32
  let v465 : BitVec 32 := Scalar.addi v155 c8_i32_182
  v465
def k0_off6 (k0_t1 : Fin k0_t1_loop.trips) : Fin 3 → Nat :=
  let c5_183 : Index := 5#32
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_182 : BitVec 32 := 8#32
  let v465 : BitVec 32 := Scalar.addi v155 c8_i32_182
  let v466 : BitVec 32 := v465
  let v467 : Index := Scalar.indexCast v466
  let c0_184 : Index := 0#32
  ![5, v467.toNat, 0]
def k0_mult8 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_194 : BitVec 32 := 8#32
  let v526 : BitVec 32 := Scalar.addi v155 c8_i32_194
  v526
def k0_off7 (k0_t1 : Fin k0_t1_loop.trips) : Fin 3 → Nat :=
  let c6_195 : Index := 6#32
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_194 : BitVec 32 := 8#32
  let v526 : BitVec 32 := Scalar.addi v155 c8_i32_194
  let v527 : BitVec 32 := v526
  let v528 : Index := Scalar.indexCast v527
  let c0_196 : Index := 0#32
  ![6, v528.toNat, 0]
def k0_mult9 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_208 : BitVec 32 := 8#32
  let v587 : BitVec 32 := Scalar.addi v155 c8_i32_208
  v587
def k0_off8 (k0_t1 : Fin k0_t1_loop.trips) : Fin 3 → Nat :=
  let c7_209 : Index := 7#32
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_208 : BitVec 32 := 8#32
  let v587 : BitVec 32 := Scalar.addi v155 c8_i32_208
  let v588 : BitVec 32 := v587
  let v589 : Index := Scalar.indexCast v588
  let c0_210 : Index := 0#32
  ![7, v589.toNat, 0]
def k0_mult10 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c0_i32_220 : BitVec 32 := 0#32
  let v637 : BitVec 32 := Scalar.addi v155 c0_i32_220
  v637
def k0_off9 (k0_t1 : Fin k0_t1_loop.trips) (c0_i32_220 : BitVec 32) : Fin 2 → Nat :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let v637 : BitVec 32 := Scalar.addi v155 c0_i32_220
  let v638 : BitVec 32 := v637
  let v639 : Index := Scalar.indexCast v638
  let c0_221 : Index := 0#32
  ![v639.toNat, 0]
def k0_mult11 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c8_i32_224 : BitVec 32 := 8#32
  let v644 : BitVec 32 := Scalar.addi v155 c8_i32_224
  v644
def k0_mult12 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c16_i32 : BitVec 32 := 16#32
  let v651 : BitVec 32 := Scalar.addi v155 c16_i32
  v651
def k0_mult13 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c32_i32 : BitVec 32 := 32#32
  let v154 : BitVec 32 := Scalar.muli arg18 c32_i32
  let v155 : BitVec 32 := v154
  let c24_i32 : BitVec 32 := 24#32
  let v658 : BitVec 32 := Scalar.addi v155 c24_i32
  v658
@[reducible] def k0_t2_loop : Scf.Loop 32 :=
  let c0_i32_75 : BitVec 32 := 0#32
  let c4_i32_76 : BitVec 32 := 4#32
  let v91 : BitVec 32 := Scalar.addi c0_i32_75 c4_i32_76
  let c1_i32_77 : BitVec 32 := 1#32
  ⟨c0_i32_75, v91, c1_i32_77⟩
def k0_mult14 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  v154
def k0_mult15 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32 : BitVec 32 := 8#32
  let v160 : BitVec 32 := Scalar.addi v155 c8_i32
  v160
def k0_off10 (k0_t2 : Fin k0_t2_loop.trips) : Fin 3 → Nat :=
  let c0_123 : Index := 0#32
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32 : BitVec 32 := 8#32
  let v160 : BitVec 32 := Scalar.addi v155 c8_i32
  let v161 : BitVec 32 := v160
  let v162 : Index := Scalar.indexCast v161
  let c256 : Index := 256#32
  ![0, v162.toNat, 256]
def k0_mult16 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_133 : BitVec 32 := 8#32
  let v221 : BitVec 32 := Scalar.addi v155 c8_i32_133
  v221
def k0_off11 (k0_t2 : Fin k0_t2_loop.trips) : Fin 3 → Nat :=
  let c1_134 : Index := 1#32
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_133 : BitVec 32 := 8#32
  let v221 : BitVec 32 := Scalar.addi v155 c8_i32_133
  let v222 : BitVec 32 := v221
  let v223 : Index := Scalar.indexCast v222
  let c256_135 : Index := 256#32
  ![1, v223.toNat, 256]
def k0_mult17 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_145 : BitVec 32 := 8#32
  let v282 : BitVec 32 := Scalar.addi v155 c8_i32_145
  v282
def k0_off12 (k0_t2 : Fin k0_t2_loop.trips) : Fin 3 → Nat :=
  let c2_146 : Index := 2#32
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_145 : BitVec 32 := 8#32
  let v282 : BitVec 32 := Scalar.addi v155 c8_i32_145
  let v283 : BitVec 32 := v282
  let v284 : Index := Scalar.indexCast v283
  let c256_147 : Index := 256#32
  ![2, v284.toNat, 256]
def k0_mult18 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_157 : BitVec 32 := 8#32
  let v343 : BitVec 32 := Scalar.addi v155 c8_i32_157
  v343
def k0_off13 (k0_t2 : Fin k0_t2_loop.trips) : Fin 3 → Nat :=
  let c3_158 : Index := 3#32
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_157 : BitVec 32 := 8#32
  let v343 : BitVec 32 := Scalar.addi v155 c8_i32_157
  let v344 : BitVec 32 := v343
  let v345 : Index := Scalar.indexCast v344
  let c256_159 : Index := 256#32
  ![3, v345.toNat, 256]
def k0_mult19 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_169 : BitVec 32 := 8#32
  let v404 : BitVec 32 := Scalar.addi v155 c8_i32_169
  v404
def k0_off14 (k0_t2 : Fin k0_t2_loop.trips) : Fin 3 → Nat :=
  let c4_170 : Index := 4#32
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_169 : BitVec 32 := 8#32
  let v404 : BitVec 32 := Scalar.addi v155 c8_i32_169
  let v405 : BitVec 32 := v404
  let v406 : Index := Scalar.indexCast v405
  let c256_171 : Index := 256#32
  ![4, v406.toNat, 256]
def k0_mult20 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_181 : BitVec 32 := 8#32
  let v465 : BitVec 32 := Scalar.addi v155 c8_i32_181
  v465
def k0_off15 (k0_t2 : Fin k0_t2_loop.trips) : Fin 3 → Nat :=
  let c5_182 : Index := 5#32
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_181 : BitVec 32 := 8#32
  let v465 : BitVec 32 := Scalar.addi v155 c8_i32_181
  let v466 : BitVec 32 := v465
  let v467 : Index := Scalar.indexCast v466
  let c256_183 : Index := 256#32
  ![5, v467.toNat, 256]
def k0_mult21 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_193 : BitVec 32 := 8#32
  let v526 : BitVec 32 := Scalar.addi v155 c8_i32_193
  v526
def k0_off16 (k0_t2 : Fin k0_t2_loop.trips) : Fin 3 → Nat :=
  let c6_194 : Index := 6#32
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_193 : BitVec 32 := 8#32
  let v526 : BitVec 32 := Scalar.addi v155 c8_i32_193
  let v527 : BitVec 32 := v526
  let v528 : Index := Scalar.indexCast v527
  let c256_195 : Index := 256#32
  ![6, v528.toNat, 256]
def k0_mult22 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_207 : BitVec 32 := 8#32
  let v587 : BitVec 32 := Scalar.addi v155 c8_i32_207
  v587
def k0_off17 (k0_t2 : Fin k0_t2_loop.trips) : Fin 3 → Nat :=
  let c7_208 : Index := 7#32
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_207 : BitVec 32 := 8#32
  let v587 : BitVec 32 := Scalar.addi v155 c8_i32_207
  let v588 : BitVec 32 := v587
  let v589 : Index := Scalar.indexCast v588
  let c256_209 : Index := 256#32
  ![7, v589.toNat, 256]
def k0_mult23 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c0_i32_219 : BitVec 32 := 0#32
  let v637 : BitVec 32 := Scalar.addi v155 c0_i32_219
  v637
def k0_off18 (k0_t2 : Fin k0_t2_loop.trips) (c0_i32_219 : BitVec 32) : Fin 2 → Nat :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let v637 : BitVec 32 := Scalar.addi v155 c0_i32_219
  let v638 : BitVec 32 := v637
  let v639 : Index := Scalar.indexCast v638
  let c256_220 : Index := 256#32
  ![v639.toNat, 256]
def k0_mult24 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c8_i32_223 : BitVec 32 := 8#32
  let v644 : BitVec 32 := Scalar.addi v155 c8_i32_223
  v644
def k0_mult25 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c16_i32 : BitVec 32 := 16#32
  let v651 : BitVec 32 := Scalar.addi v155 c16_i32
  v651
def k0_mult26 (k0_t2 : Fin k0_t2_loop.trips) : BitVec 32 :=
  let c0_i32_75 : BitVec 32 := 0#32
  let c1_i32_77 : BitVec 32 := 1#32
  let arg18 : BitVec 32 := Scf.iv c0_i32_75 c1_i32_77 k0_t2
  let c32_i32 : BitVec 32 := 32#32
  let v154 : BitVec 32 := Scalar.muli arg18 c32_i32
  let v155 : BitVec 32 := v154
  let c24_i32 : BitVec 32 := 24#32
  let v658 : BitVec 32 := Scalar.addi v155 c24_i32
  v658
@[reducible] def k0_t3_loop : Scf.Loop 32 :=
  let c0_i32_79 : BitVec 32 := 0#32
  let c4_i32_80 : BitVec 32 := 4#32
  let v92 : BitVec 32 := Scalar.addi c0_i32_79 c4_i32_80
  let c1_i32_81 : BitVec 32 := 1#32
  ⟨c0_i32_79, v92, c1_i32_81⟩
def k0_mult27 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  v154
def k0_mult28 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32 : BitVec 32 := 8#32
  let v160 : BitVec 32 := Scalar.addi v155 c8_i32
  v160
def k0_off19 (k0_t3 : Fin k0_t3_loop.trips) : Fin 3 → Nat :=
  let c0_123 : Index := 0#32
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32 : BitVec 32 := 8#32
  let v160 : BitVec 32 := Scalar.addi v155 c8_i32
  let v161 : BitVec 32 := v160
  let v162 : Index := Scalar.indexCast v161
  let c512 : Index := 512#32
  ![0, v162.toNat, 512]
def k0_mult29 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_133 : BitVec 32 := 8#32
  let v221 : BitVec 32 := Scalar.addi v155 c8_i32_133
  v221
def k0_off20 (k0_t3 : Fin k0_t3_loop.trips) : Fin 3 → Nat :=
  let c1_134 : Index := 1#32
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_133 : BitVec 32 := 8#32
  let v221 : BitVec 32 := Scalar.addi v155 c8_i32_133
  let v222 : BitVec 32 := v221
  let v223 : Index := Scalar.indexCast v222
  let c512_135 : Index := 512#32
  ![1, v223.toNat, 512]
def k0_mult30 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_145 : BitVec 32 := 8#32
  let v282 : BitVec 32 := Scalar.addi v155 c8_i32_145
  v282
def k0_off21 (k0_t3 : Fin k0_t3_loop.trips) : Fin 3 → Nat :=
  let c2_146 : Index := 2#32
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_145 : BitVec 32 := 8#32
  let v282 : BitVec 32 := Scalar.addi v155 c8_i32_145
  let v283 : BitVec 32 := v282
  let v284 : Index := Scalar.indexCast v283
  let c512_147 : Index := 512#32
  ![2, v284.toNat, 512]
def k0_mult31 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_157 : BitVec 32 := 8#32
  let v343 : BitVec 32 := Scalar.addi v155 c8_i32_157
  v343
def k0_off22 (k0_t3 : Fin k0_t3_loop.trips) : Fin 3 → Nat :=
  let c3_158 : Index := 3#32
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_157 : BitVec 32 := 8#32
  let v343 : BitVec 32 := Scalar.addi v155 c8_i32_157
  let v344 : BitVec 32 := v343
  let v345 : Index := Scalar.indexCast v344
  let c512_159 : Index := 512#32
  ![3, v345.toNat, 512]
def k0_mult32 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_169 : BitVec 32 := 8#32
  let v404 : BitVec 32 := Scalar.addi v155 c8_i32_169
  v404
def k0_off23 (k0_t3 : Fin k0_t3_loop.trips) : Fin 3 → Nat :=
  let c4_170 : Index := 4#32
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_169 : BitVec 32 := 8#32
  let v404 : BitVec 32 := Scalar.addi v155 c8_i32_169
  let v405 : BitVec 32 := v404
  let v406 : Index := Scalar.indexCast v405
  let c512_171 : Index := 512#32
  ![4, v406.toNat, 512]
def k0_mult33 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_181 : BitVec 32 := 8#32
  let v465 : BitVec 32 := Scalar.addi v155 c8_i32_181
  v465
def k0_off24 (k0_t3 : Fin k0_t3_loop.trips) : Fin 3 → Nat :=
  let c5_182 : Index := 5#32
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_181 : BitVec 32 := 8#32
  let v465 : BitVec 32 := Scalar.addi v155 c8_i32_181
  let v466 : BitVec 32 := v465
  let v467 : Index := Scalar.indexCast v466
  let c512_183 : Index := 512#32
  ![5, v467.toNat, 512]
def k0_mult34 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_193 : BitVec 32 := 8#32
  let v526 : BitVec 32 := Scalar.addi v155 c8_i32_193
  v526
def k0_off25 (k0_t3 : Fin k0_t3_loop.trips) : Fin 3 → Nat :=
  let c6_194 : Index := 6#32
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_193 : BitVec 32 := 8#32
  let v526 : BitVec 32 := Scalar.addi v155 c8_i32_193
  let v527 : BitVec 32 := v526
  let v528 : Index := Scalar.indexCast v527
  let c512_195 : Index := 512#32
  ![6, v528.toNat, 512]
def k0_mult35 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_207 : BitVec 32 := 8#32
  let v587 : BitVec 32 := Scalar.addi v155 c8_i32_207
  v587
def k0_off26 (k0_t3 : Fin k0_t3_loop.trips) : Fin 3 → Nat :=
  let c7_208 : Index := 7#32
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_207 : BitVec 32 := 8#32
  let v587 : BitVec 32 := Scalar.addi v155 c8_i32_207
  let v588 : BitVec 32 := v587
  let v589 : Index := Scalar.indexCast v588
  let c512_209 : Index := 512#32
  ![7, v589.toNat, 512]
def k0_mult36 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c0_i32_219 : BitVec 32 := 0#32
  let v637 : BitVec 32 := Scalar.addi v155 c0_i32_219
  v637
def k0_off27 (k0_t3 : Fin k0_t3_loop.trips) (c0_i32_219 : BitVec 32) : Fin 2 → Nat :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let v637 : BitVec 32 := Scalar.addi v155 c0_i32_219
  let v638 : BitVec 32 := v637
  let v639 : Index := Scalar.indexCast v638
  let c512_220 : Index := 512#32
  ![v639.toNat, 512]
def k0_mult37 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c8_i32_223 : BitVec 32 := 8#32
  let v644 : BitVec 32 := Scalar.addi v155 c8_i32_223
  v644
def k0_mult38 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c16_i32 : BitVec 32 := 16#32
  let v651 : BitVec 32 := Scalar.addi v155 c16_i32
  v651
def k0_mult39 (k0_t3 : Fin k0_t3_loop.trips) : BitVec 32 :=
  let c0_i32_79 : BitVec 32 := 0#32
  let c1_i32_81 : BitVec 32 := 1#32
  let arg18 : BitVec 32 := Scf.iv c0_i32_79 c1_i32_81 k0_t3
  let c32_i32 : BitVec 32 := 32#32
  let v154 : BitVec 32 := Scalar.muli arg18 c32_i32
  let v155 : BitVec 32 := v154
  let c24_i32 : BitVec 32 := 24#32
  let v658 : BitVec 32 := Scalar.addi v155 c24_i32
  v658
@[reducible] def k0_t4_loop : Scf.Loop 32 :=
  let c0_i32_83 : BitVec 32 := 0#32
  let c4_i32_84 : BitVec 32 := 4#32
  let v93 : BitVec 32 := Scalar.addi c0_i32_83 c4_i32_84
  let c1_i32_85 : BitVec 32 := 1#32
  ⟨c0_i32_83, v93, c1_i32_85⟩
def k0_mult40 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  v154
def k0_mult41 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32 : BitVec 32 := 8#32
  let v160 : BitVec 32 := Scalar.addi v155 c8_i32
  v160
def k0_off28 (k0_t4 : Fin k0_t4_loop.trips) : Fin 3 → Nat :=
  let c0_123 : Index := 0#32
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32 : BitVec 32 := 8#32
  let v160 : BitVec 32 := Scalar.addi v155 c8_i32
  let v161 : BitVec 32 := v160
  let v162 : Index := Scalar.indexCast v161
  let c768 : Index := 768#32
  ![0, v162.toNat, 768]
def k0_mult42 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_133 : BitVec 32 := 8#32
  let v221 : BitVec 32 := Scalar.addi v155 c8_i32_133
  v221
def k0_off29 (k0_t4 : Fin k0_t4_loop.trips) : Fin 3 → Nat :=
  let c1_134 : Index := 1#32
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_133 : BitVec 32 := 8#32
  let v221 : BitVec 32 := Scalar.addi v155 c8_i32_133
  let v222 : BitVec 32 := v221
  let v223 : Index := Scalar.indexCast v222
  let c768_135 : Index := 768#32
  ![1, v223.toNat, 768]
def k0_mult43 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_145 : BitVec 32 := 8#32
  let v282 : BitVec 32 := Scalar.addi v155 c8_i32_145
  v282
def k0_off30 (k0_t4 : Fin k0_t4_loop.trips) : Fin 3 → Nat :=
  let c2_146 : Index := 2#32
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_145 : BitVec 32 := 8#32
  let v282 : BitVec 32 := Scalar.addi v155 c8_i32_145
  let v283 : BitVec 32 := v282
  let v284 : Index := Scalar.indexCast v283
  let c768_147 : Index := 768#32
  ![2, v284.toNat, 768]
def k0_mult44 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_157 : BitVec 32 := 8#32
  let v343 : BitVec 32 := Scalar.addi v155 c8_i32_157
  v343
def k0_off31 (k0_t4 : Fin k0_t4_loop.trips) : Fin 3 → Nat :=
  let c3_158 : Index := 3#32
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_157 : BitVec 32 := 8#32
  let v343 : BitVec 32 := Scalar.addi v155 c8_i32_157
  let v344 : BitVec 32 := v343
  let v345 : Index := Scalar.indexCast v344
  let c768_159 : Index := 768#32
  ![3, v345.toNat, 768]
def k0_mult45 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_169 : BitVec 32 := 8#32
  let v404 : BitVec 32 := Scalar.addi v155 c8_i32_169
  v404
def k0_off32 (k0_t4 : Fin k0_t4_loop.trips) : Fin 3 → Nat :=
  let c4_170 : Index := 4#32
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_169 : BitVec 32 := 8#32
  let v404 : BitVec 32 := Scalar.addi v155 c8_i32_169
  let v405 : BitVec 32 := v404
  let v406 : Index := Scalar.indexCast v405
  let c768_171 : Index := 768#32
  ![4, v406.toNat, 768]
def k0_mult46 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_181 : BitVec 32 := 8#32
  let v465 : BitVec 32 := Scalar.addi v155 c8_i32_181
  v465
def k0_off33 (k0_t4 : Fin k0_t4_loop.trips) : Fin 3 → Nat :=
  let c5_182 : Index := 5#32
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_181 : BitVec 32 := 8#32
  let v465 : BitVec 32 := Scalar.addi v155 c8_i32_181
  let v466 : BitVec 32 := v465
  let v467 : Index := Scalar.indexCast v466
  let c768_183 : Index := 768#32
  ![5, v467.toNat, 768]
def k0_mult47 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_193 : BitVec 32 := 8#32
  let v526 : BitVec 32 := Scalar.addi v155 c8_i32_193
  v526
def k0_off34 (k0_t4 : Fin k0_t4_loop.trips) : Fin 3 → Nat :=
  let c6_194 : Index := 6#32
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_193 : BitVec 32 := 8#32
  let v526 : BitVec 32 := Scalar.addi v155 c8_i32_193
  let v527 : BitVec 32 := v526
  let v528 : Index := Scalar.indexCast v527
  let c768_195 : Index := 768#32
  ![6, v528.toNat, 768]
def k0_mult48 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_207 : BitVec 32 := 8#32
  let v587 : BitVec 32 := Scalar.addi v155 c8_i32_207
  v587
def k0_off35 (k0_t4 : Fin k0_t4_loop.trips) : Fin 3 → Nat :=
  let c7_208 : Index := 7#32
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_207 : BitVec 32 := 8#32
  let v587 : BitVec 32 := Scalar.addi v155 c8_i32_207
  let v588 : BitVec 32 := v587
  let v589 : Index := Scalar.indexCast v588
  let c768_209 : Index := 768#32
  ![7, v589.toNat, 768]
def k0_mult49 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c0_i32_219 : BitVec 32 := 0#32
  let v637 : BitVec 32 := Scalar.addi v155 c0_i32_219
  v637
def k0_off36 (k0_t4 : Fin k0_t4_loop.trips) (c0_i32_219 : BitVec 32) : Fin 2 → Nat :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let v637 : BitVec 32 := Scalar.addi v155 c0_i32_219
  let v638 : BitVec 32 := v637
  let v639 : Index := Scalar.indexCast v638
  let c768_220 : Index := 768#32
  ![v639.toNat, 768]
def k0_mult50 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c8_i32_223 : BitVec 32 := 8#32
  let v644 : BitVec 32 := Scalar.addi v155 c8_i32_223
  v644
def k0_mult51 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c16_i32 : BitVec 32 := 16#32
  let v651 : BitVec 32 := Scalar.addi v155 c16_i32
  v651
def k0_mult52 (k0_t4 : Fin k0_t4_loop.trips) : BitVec 32 :=
  let c0_i32_83 : BitVec 32 := 0#32
  let c1_i32_85 : BitVec 32 := 1#32
  let arg18 : BitVec 32 := Scf.iv c0_i32_83 c1_i32_85 k0_t4
  let c32_i32 : BitVec 32 := 32#32
  let v154 : BitVec 32 := Scalar.muli arg18 c32_i32
  let v155 : BitVec 32 := v154
  let c24_i32 : BitVec 32 := 24#32
  let v658 : BitVec 32 := Scalar.addi v155 c24_i32
  v658
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S4096x7168 : Shape := ⟨2, ![4096, 7168]⟩
abbrev S2048x2048 : Shape := ⟨2, ![2048, 2048]⟩
abbrev S4096x2048 : Shape := ⟨2, ![4096, 2048]⟩
abbrev S1x2048 : Shape := ⟨2, ![1, 2048]⟩
abbrev S3x1024 : Shape := ⟨2, ![3, 1024]⟩
abbrev S31x1024 : Shape := ⟨2, ![31, 1024]⟩
abbrev S1x1024 : Shape := ⟨2, ![1, 1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1024 : Shape := ⟨1, ![1024]⟩
abbrev S2x1024 : Shape := ⟨2, ![2, 1024]⟩
abbrev S4098x1024 : Shape := ⟨2, ![4098, 1024]⟩
abbrev S4096 : Shape := ⟨1, ![4096]⟩
abbrev S4096x1 : Shape := ⟨2, ![4096, 1]⟩

abbrev nBuf : Space → Nat
  | .hbm => 354
  | .vmem => 0
  | .smem => 0
  | _ => 0

abbrev hbmTy0_0 (i : Nat) : BufTy := match i % 128 with
  | 0 => ⟨S4096x7168, .f32⟩
  | 1 => ⟨S2048x2048, .f32⟩
  | 2 => ⟨S4096x2048, .f32⟩
  | 3 => ⟨S1x2048, .f32⟩
  | 4 => ⟨S3x1024, .f32⟩
  | 5 => ⟨S31x1024, .f32⟩
  | 6 => ⟨S1x1024, .f32⟩
  | 7 => ⟨S1x1024, .f32⟩
  | 8 => ⟨S1x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S_, .f32⟩
  | 21 => ⟨S30x1024, .f32⟩
  | 22 => ⟨S4126x1024, .f32⟩
  | 23 => ⟨S_, .f32⟩
  | 24 => ⟨S4096x1024, .f32⟩
  | 25 => ⟨S1x1024, .f32⟩
  | 26 => ⟨S1024, .f32⟩
  | 27 => ⟨S4096x1024, .f32⟩
  | 28 => ⟨S1x1024, .f32⟩
  | 29 => ⟨S4096x1024, .f32⟩
  | 30 => ⟨S4096x1024, .f32⟩
  | 31 => ⟨S4096x1024, .f32⟩
  | 32 => ⟨S1x1024, .f32⟩
  | 33 => ⟨S1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S1x1024, .f32⟩
  | 61 => ⟨S1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S1x1024, .f32⟩
  | 68 => ⟨S1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S1x1024, .f32⟩
  | 75 => ⟨S1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S1x1024, .f32⟩
  | 82 => ⟨S1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S1x1024, .f32⟩
  | 89 => ⟨S1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S1x1024, .f32⟩
  | 96 => ⟨S1024, .f32⟩
  | 97 => ⟨S4096x1024, .f32⟩
  | 98 => ⟨S1x1024, .f32⟩
  | 99 => ⟨S4096x1024, .f32⟩
  | 100 => ⟨S4096x1024, .f32⟩
  | 101 => ⟨S4096x1024, .f32⟩
  | 102 => ⟨S1x1024, .f32⟩
  | 103 => ⟨S1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S1x1024, .f32⟩
  | 110 => ⟨S1024, .f32⟩
  | 111 => ⟨S4096x1024, .f32⟩
  | 112 => ⟨S1x1024, .f32⟩
  | 113 => ⟨S4096x1024, .f32⟩
  | 114 => ⟨S4096x1024, .f32⟩
  | 115 => ⟨S4096x1024, .f32⟩
  | 116 => ⟨S1x1024, .f32⟩
  | 117 => ⟨S1024, .f32⟩
  | 118 => ⟨S4096x1024, .f32⟩
  | 119 => ⟨S1x1024, .f32⟩
  | 120 => ⟨S4096x1024, .f32⟩
  | 121 => ⟨S4096x1024, .f32⟩
  | 122 => ⟨S4096x1024, .f32⟩
  | 123 => ⟨S1x1024, .f32⟩
  | 124 => ⟨S1024, .f32⟩
  | 125 => ⟨S4096x1024, .f32⟩
  | 126 => ⟨S1x1024, .f32⟩
  | 127 => ⟨S4096x1024, .f32⟩
  | _ => ⟨S4096x7168, .f32⟩

abbrev hbmTy0_1 (i : Nat) : BufTy := match i % 128 with
  | 0 => ⟨S4096x1024, .f32⟩
  | 1 => ⟨S4096x1024, .f32⟩
  | 2 => ⟨S1x1024, .f32⟩
  | 3 => ⟨S1024, .f32⟩
  | 4 => ⟨S4096x1024, .f32⟩
  | 5 => ⟨S1x1024, .f32⟩
  | 6 => ⟨S4096x1024, .f32⟩
  | 7 => ⟨S4096x1024, .f32⟩
  | 8 => ⟨S4096x1024, .f32⟩
  | 9 => ⟨S1x1024, .f32⟩
  | 10 => ⟨S1024, .f32⟩
  | 11 => ⟨S4096x1024, .f32⟩
  | 12 => ⟨S1x1024, .f32⟩
  | 13 => ⟨S4096x1024, .f32⟩
  | 14 => ⟨S4096x1024, .f32⟩
  | 15 => ⟨S4096x1024, .f32⟩
  | 16 => ⟨S1x1024, .f32⟩
  | 17 => ⟨S1024, .f32⟩
  | 18 => ⟨S4096x1024, .f32⟩
  | 19 => ⟨S1x1024, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S4096x1024, .f32⟩
  | 33 => ⟨S1x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S4096x1024, .f32⟩
  | 75 => ⟨S1x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S4096x1024, .f32⟩
  | 89 => ⟨S1x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S4096x1024, .f32⟩
  | 96 => ⟨S1x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S4096x1024, .f32⟩
  | 110 => ⟨S1x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S_, .f32⟩
  | 125 => ⟨S2x1024, .f32⟩
  | 126 => ⟨S4098x1024, .f32⟩
  | 127 => ⟨S_, .f32⟩
  | _ => ⟨S4096x7168, .f32⟩

abbrev hbmTy0_2 (i : Nat) : BufTy := match i % 128 with
  | 0 => ⟨S4096x1024, .f32⟩
  | 1 => ⟨S1x1024, .f32⟩
  | 2 => ⟨S1024, .f32⟩
  | 3 => ⟨S4096x1024, .f32⟩
  | 4 => ⟨S1x1024, .f32⟩
  | 5 => ⟨S4096x1024, .f32⟩
  | 6 => ⟨S4096x1024, .f32⟩
  | 7 => ⟨S4096x1024, .f32⟩
  | 8 => ⟨S1x1024, .f32⟩
  | 9 => ⟨S1024, .f32⟩
  | 10 => ⟨S4096x1024, .f32⟩
  | 11 => ⟨S1x1024, .f32⟩
  | 12 => ⟨S4096x1024, .f32⟩
  | 13 => ⟨S4096x1024, .f32⟩
  | 14 => ⟨S4096x1024, .f32⟩
  | 15 => ⟨S1x1024, .f32⟩
  | 16 => ⟨S1024, .f32⟩
  | 17 => ⟨S4096x1024, .f32⟩
  | 18 => ⟨S1x1024, .f32⟩
  | 19 => ⟨S4096x1024, .f32⟩
  | 20 => ⟨S4096x1024, .f32⟩
  | 21 => ⟨S4096x1024, .f32⟩
  | 22 => ⟨S4096x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S_, .f32⟩
  | 41 => ⟨S4096x1, .f32⟩
  | 42 => ⟨S4096x1, .f32⟩
  | 43 => ⟨S4096x1, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S4096x1024, .f32⟩
  | 78 => ⟨S4096x1024, .f32⟩
  | 79 => ⟨S4096x2048, .f32⟩
  | 80 => ⟨S4096x2048, .f32⟩
  | 81 => ⟨S4096x2048, .bf16⟩
  | 82 => ⟨S4096x2048, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x1, .f32⟩
  | 93 => ⟨S4096x2048, .f32⟩
  | 94 => ⟨S4096x2048, .f32⟩
  | 95 => ⟨S4096x2048, .f32⟩
  | 96 => ⟨S4096x2048, .f32⟩
  | 97 => ⟨S4096x2048, .f32⟩
  | _ => ⟨S4096x7168, .f32⟩

abbrev hbmTy (i : Nat) : BufTy := match i / 128 with
  | 0 => hbmTy0_0 i
  | 1 => hbmTy0_1 i
  | 2 => hbmTy0_2 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_cst_3 : Ref sig .tc := ⟨.hbm, 252, rfl⟩
abbrev main_v239 : Ref sig .tc := ⟨.hbm, 253, rfl⟩
abbrev main_v240 : Ref sig .tc := ⟨.hbm, 254, rfl⟩
abbrev main_cst_4 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_cst_5 : Ref sig .tc := ⟨.hbm, 279, rfl⟩
abbrev main_v264 : Ref sig .tc := ⟨.hbm, 280, rfl⟩
abbrev main_v265 : Ref sig .tc := ⟨.hbm, 281, rfl⟩
abbrev main_cst_6 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_cst_7 : Ref sig .tc := ⟨.hbm, 288, rfl⟩
abbrev main_v271 : Ref sig .tc := ⟨.hbm, 289, rfl⟩
abbrev main_v272 : Ref sig .tc := ⟨.hbm, 290, rfl⟩
abbrev main_cst_8 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_cst_9 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_v283 : Ref sig .tc := ⟨.hbm, 303, rfl⟩
abbrev main_v284 : Ref sig .tc := ⟨.hbm, 304, rfl⟩
abbrev main_v285 : Ref sig .tc := ⟨.hbm, 305, rfl⟩
abbrev main_call0_v0 : Ref sig .tc := ⟨.hbm, 306, rfl⟩
abbrev main_call0_v1 : Ref sig .tc := ⟨.hbm, 307, rfl⟩
abbrev main_call0_cst : Ref sig .tc := ⟨.hbm, 308, rfl⟩
abbrev main_call0_v2 : Ref sig .tc := ⟨.hbm, 309, rfl⟩
abbrev main_call0_v3 : Ref sig .tc := ⟨.hbm, 310, rfl⟩
abbrev main_call0_cst_0 : Ref sig .tc := ⟨.hbm, 311, rfl⟩
abbrev main_call0_v4 : Ref sig .tc := ⟨.hbm, 312, rfl⟩
abbrev main_call0_v5 : Ref sig .tc := ⟨.hbm, 313, rfl⟩
abbrev main_v286 : Ref sig .tc := ⟨.hbm, 314, rfl⟩
abbrev main_call1_v0 : Ref sig .tc := ⟨.hbm, 315, rfl⟩
abbrev main_call1_v1 : Ref sig .tc := ⟨.hbm, 316, rfl⟩
abbrev main_call1_cst : Ref sig .tc := ⟨.hbm, 317, rfl⟩
abbrev main_call1_v2 : Ref sig .tc := ⟨.hbm, 318, rfl⟩
abbrev main_call1_v3 : Ref sig .tc := ⟨.hbm, 319, rfl⟩
abbrev main_call1_cst_0 : Ref sig .tc := ⟨.hbm, 320, rfl⟩
abbrev main_call1_v4 : Ref sig .tc := ⟨.hbm, 321, rfl⟩
abbrev main_call1_v5 : Ref sig .tc := ⟨.hbm, 322, rfl⟩
abbrev main_v287 : Ref sig .tc := ⟨.hbm, 323, rfl⟩
abbrev main_v288 : Ref sig .tc := ⟨.hbm, 324, rfl⟩
abbrev main_call2_v0 : Ref sig .tc := ⟨.hbm, 325, rfl⟩
abbrev main_call2_v1 : Ref sig .tc := ⟨.hbm, 326, rfl⟩
abbrev main_call2_cst : Ref sig .tc := ⟨.hbm, 327, rfl⟩
abbrev main_call2_v2 : Ref sig .tc := ⟨.hbm, 328, rfl⟩
abbrev main_call2_v3 : Ref sig .tc := ⟨.hbm, 329, rfl⟩
abbrev main_call2_cst_0 : Ref sig .tc := ⟨.hbm, 330, rfl⟩
abbrev main_call2_v4 : Ref sig .tc := ⟨.hbm, 331, rfl⟩
abbrev main_call2_v5 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_cst_10 : Ref sig .tc := ⟨.hbm, 339, rfl⟩
abbrev main_v295 : Ref sig .tc := ⟨.hbm, 340, rfl⟩
abbrev main_v296 : Ref sig .tc := ⟨.hbm, 341, rfl⟩
abbrev main_cst_11 : Ref sig .tc := ⟨.hbm, 342, rfl⟩
abbrev main_v297 : Ref sig .tc := ⟨.hbm, 343, rfl⟩
abbrev main_v298 : Ref sig .tc := ⟨.hbm, 344, rfl⟩
abbrev main_cst_12 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩

abbrev nD : Nat := 1
abbrev τ : Topo := Topo.v7x

variable {F : FTy → Type} [FloatOps F]
-- ==== Kernel7.lean ====
abbrev S4096x4096 : Shape := ⟨2, ![4096, 4096]⟩
abbrev S4x512x512 : Shape := ⟨3, ![4, 512, 512]⟩
abbrev S4x512 : Shape := ⟨2, ![4, 512]⟩
abbrev S2048 : Shape := ⟨1, ![2048]⟩
abbrev S1x2048 : Shape := ⟨2, ![1, 2048]⟩
abbrev S4096x2048 : Shape := ⟨2, ![4096, 2048]⟩
abbrev S256x4096 : Shape := ⟨2, ![256, 4096]⟩
abbrev S16x2048 : Shape := ⟨2, ![16, 2048]⟩
abbrev S256x2048 : Shape := ⟨2, ![256, 2048]⟩
abbrev S280x2048 : Shape := ⟨2, ![280, 2048]⟩
abbrev S8x2048 : Shape := ⟨2, ![8, 2048]⟩
abbrev S256x1 : Shape := ⟨2, ![256, 1]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S272x512 : Shape := ⟨2, ![272, 512]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4x512x512, .f32⟩
  | .hbm, ⟨2, _⟩ => ⟨S4x512, .f32⟩
  | .hbm, ⟨3, _⟩ => ⟨S2048, .f32⟩
  | .hbm, ⟨4, _⟩ => ⟨S4x512x512, .bf16⟩
  | .hbm, ⟨5, _⟩ => ⟨S1x2048, .f32⟩
  | .hbm, ⟨6, _⟩ => ⟨S1x2048, .f32⟩
  | .hbm, ⟨7, _⟩ => ⟨S4096x2048, .bf16⟩
  | .hbm, ⟨8, _⟩ => ⟨S4096x2048, .bf16⟩
  | .local _ .vmem, ⟨0, _⟩ => ⟨S256x4096, .f32⟩
  | .local _ .vmem, ⟨1, _⟩ => ⟨S256x4096, .f32⟩
  | .local _ .vmem, ⟨2, _⟩ => ⟨S16x2048, .f32⟩
  | .local _ .vmem, ⟨3, _⟩ => ⟨S16x2048, .f32⟩
  | .local _ .vmem, ⟨4, _⟩ => ⟨S4x512x512, .bf16⟩
  | .local _ .vmem, ⟨5, _⟩ => ⟨S1x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S280x2048, .f32⟩
  | .local _ .vmem, ⟨12, _⟩ => ⟨S280x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4096x4096 : Shape := ⟨2, ![4096, 4096]⟩
abbrev S4x512x512 : Shape := ⟨3, ![4, 512, 512]⟩
abbrev S4x512 : Shape := ⟨2, ![4, 512]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x512 : Shape := ⟨2, ![4096, 512]⟩
abbrev S2x512 : Shape := ⟨2, ![2, 512]⟩
abbrev S4094x512 : Shape := ⟨2, ![4094, 512]⟩
abbrev S4096x1 : Shape := ⟨2, ![4096, 1]⟩
abbrev S4092x512 : Shape := ⟨2, ![4092, 512]⟩
abbrev S8x512 : Shape := ⟨2, ![8, 512]⟩
abbrev S4088x512 : Shape := ⟨2, ![4088, 512]⟩
abbrev S16x512 : Shape := ⟨2, ![16, 512]⟩
abbrev S4080x512 : Shape := ⟨2, ![4080, 512]⟩
abbrev S4096x4x512 : Shape := ⟨3, ![4096, 4, 512]⟩
abbrev S4x512x4096 : Shape := ⟨3, ![4, 512, 4096]⟩
abbrev S1x4x512 : Shape := ⟨3, ![1, 4, 512]⟩
abbrev S1x2048 : Shape := ⟨2, ![1, 2048]⟩

abbrev nBuf : Space → Nat
  | .hbm => 151
  | .vmem => 0
  | .smem => 0
  | _ => 0

abbrev hbmTy0_0 (i : Nat) : BufTy := match i % 128 with
  | 0 => ⟨S4096x4096, .f32⟩
  | 1 => ⟨S4x512x512, .f32⟩
  | 2 => ⟨S4x512, .f32⟩
  | 3 => ⟨S2048, .f32⟩
  | 4 => ⟨S4096x2048, .f32⟩
  | 5 => ⟨S4096x2048, .f32⟩
  | 6 => ⟨S4096x2048, .f32⟩
  | 7 => ⟨S_, .f32⟩
  | 8 => ⟨S_, .f32⟩
  | 9 => ⟨S4096x2048, .f32⟩
  | 10 => ⟨S4096, .i32⟩
  | 11 => ⟨S_, .i32⟩
  | 12 => ⟨S4096, .i32⟩
  | 13 => ⟨S4096, .i32⟩
  | 14 => ⟨S4096x512, .f32⟩
  | 15 => ⟨S4096x512, .f32⟩
  | 16 => ⟨S4096x512, .f32⟩
  | 17 => ⟨S4096x512, .f32⟩
  | 18 => ⟨S_, .f32⟩
  | 19 => ⟨S2x512, .f32⟩
  | 20 => ⟨S4094x512, .f32⟩
  | 21 => ⟨S4096x512, .f32⟩
  | 22 => ⟨S_, .i32⟩
  | 23 => ⟨S4096, .i32⟩
  | 24 => ⟨S4096, .i32⟩
  | 25 => ⟨S4096, .f32⟩
  | 26 => ⟨S4096x1, .f32⟩
  | 27 => ⟨S4096x512, .f32⟩
  | 28 => ⟨S4096x512, .f32⟩
  | 29 => ⟨S4096x512, .f32⟩
  | 30 => ⟨S_, .f32⟩
  | 31 => ⟨S4x512, .f32⟩
  | 32 => ⟨S4092x512, .f32⟩
  | 33 => ⟨S4096x512, .f32⟩
  | 34 => ⟨S_, .i32⟩
  | 35 => ⟨S4096, .i32⟩
  | 36 => ⟨S4096, .i32⟩
  | 37 => ⟨S4096, .f32⟩
  | 38 => ⟨S4096x1, .f32⟩
  | 39 => ⟨S4096x512, .f32⟩
  | 40 => ⟨S4096x512, .f32⟩
  | 41 => ⟨S4096x512, .f32⟩
  | 42 => ⟨S_, .f32⟩
  | 43 => ⟨S8x512, .f32⟩
  | 44 => ⟨S4088x512, .f32⟩
  | 45 => ⟨S4096x512, .f32⟩
  | 46 => ⟨S_, .i32⟩
  | 47 => ⟨S4096, .i32⟩
  | 48 => ⟨S4096, .i32⟩
  | 49 => ⟨S4096, .f32⟩
  | 50 => ⟨S4096x1, .f32⟩
  | 51 => ⟨S4096x512, .f32⟩
  | 52 => ⟨S4096x512, .f32⟩
  | 53 => ⟨S4096x512, .f32⟩
  | 54 => ⟨S_, .f32⟩
  | 55 => ⟨S16x512, .f32⟩
  | 56 => ⟨S4080x512, .f32⟩
  | 57 => ⟨S4096x512, .f32⟩
  | 58 => ⟨S_, .i32⟩
  | 59 => ⟨S4096, .i32⟩
  | 60 => ⟨S4096, .i32⟩
  | 61 => ⟨S4096, .f32⟩
  | 62 => ⟨S4096x1, .f32⟩
  | 63 => ⟨S4096x512, .f32⟩
  | 64 => ⟨S4096x512, .f32⟩
  | 65 => ⟨S4096x512, .f32⟩
  | 66 => ⟨S4096x2048, .f32⟩
  | 67 => ⟨S4096x2048, .f32⟩
  | 68 => ⟨S4096x4x512, .f32⟩
  | 69 => ⟨S4x512x4096, .f32⟩
  | 70 => ⟨S4096x4x512, .f32⟩
  | 71 => ⟨S1x4x512, .f32⟩
  | 72 => ⟨S4096x4x512, .f32⟩
  | 73 => ⟨S4096x4x512, .f32⟩
  | 74 => ⟨S4096x2048, .f32⟩
  | 75 => ⟨S1x2048, .f32⟩
  | 76 => ⟨S4096x2048, .f32⟩
  | 77 => ⟨S4096x2048, .f32⟩
  | 78 => ⟨S4096x2048, .f32⟩
  | 79 => ⟨S4096x2048, .f32⟩
  | 80 => ⟨S_, .f32⟩
  | 81 => ⟨S4096x2048, .f32⟩
  | 82 => ⟨S4096x2048, .f32⟩
  | 83 => ⟨S_, .f32⟩
  | 84 => ⟨S4096x2048, .f32⟩
  | 85 => ⟨S4096x2048, .f32⟩
  | 86 => ⟨S4096x2048, .f32⟩
  | 87 => ⟨S4096x2048, .f32⟩
  | 88 => ⟨S4096x2048, .bf16⟩
  | 89 => ⟨S_, .f32⟩
  | 90 => ⟨S_, .f32⟩
  | 91 => ⟨S4096x2048, .f32⟩
  | 92 => ⟨S4096, .i32⟩
  | 93 => ⟨S_, .i32⟩
  | 94 => ⟨S4096, .i32⟩
  | 95 => ⟨S4096, .i32⟩
  | 96 => ⟨S4096x512, .f32⟩
  | 97 => ⟨S4096x512, .f32⟩
  | 98 => ⟨S4096x512, .f32⟩
  | 99 => ⟨S4096x512, .f32⟩
  | 100 => ⟨S_, .f32⟩
  | 101 => ⟨S2x512, .f32⟩
  | 102 => ⟨S4094x512, .f32⟩
  | 103 => ⟨S4096x512, .f32⟩
  | 104 => ⟨S_, .i32⟩
  | 105 => ⟨S4096, .i32⟩
  | 106 => ⟨S4096, .i32⟩
  | 107 => ⟨S4096, .f32⟩
  | 108 => ⟨S4096x1, .f32⟩
  | 109 => ⟨S4096x512, .f32⟩
  | 110 => ⟨S4096x512, .f32⟩
  | 111 => ⟨S4096x512, .f32⟩
  | 112 => ⟨S_, .f32⟩
  | 113 => ⟨S4x512, .f32⟩
  | 114 => ⟨S4092x512, .f32⟩
  | 115 => ⟨S4096x512, .f32⟩
  | 116 => ⟨S_, .i32⟩
  | 117 => ⟨S4096, .i32⟩
  | 118 => ⟨S4096, .i32⟩
  | 119 => ⟨S4096, .f32⟩
  | 120 => ⟨S4096x1, .f32⟩
  | 121 => ⟨S4096x512, .f32⟩
  | 122 => ⟨S4096x512, .f32⟩
  | 123 => ⟨S4096x512, .f32⟩
  | 124 => ⟨S_, .f32⟩
  | 125 => ⟨S8x512, .f32⟩
  | 126 => ⟨S4088x512, .f32⟩
  | 127 => ⟨S4096x512, .f32⟩
  | _ => ⟨S4096x4096, .f32⟩

abbrev hbmTy0_1 (i : Nat) : BufTy := match i % 128 with
  | 0 => ⟨S_, .i32⟩
  | 1 => ⟨S4096, .i32⟩
  | 2 => ⟨S4096, .i32⟩
  | 3 => ⟨S4096, .f32⟩
  | 4 => ⟨S4096x1, .f32⟩
  | 5 => ⟨S4096x512, .f32⟩
  | 6 => ⟨S4096x512, .f32⟩
  | 7 => ⟨S4096x512, .f32⟩
  | 8 => ⟨S_, .f32⟩
  | 9 => ⟨S16x512, .f32⟩
  | 10 => ⟨S4080x512, .f32⟩
  | 11 => ⟨S4096x512, .f32⟩
  | 12 => ⟨S_, .i32⟩
  | 13 => ⟨S4096, .i32⟩
  | 14 => ⟨S4096, .i32⟩
  | 15 => ⟨S4096, .f32⟩
  | 16 => ⟨S4096x1, .f32⟩
  | 17 => ⟨S4096x512, .f32⟩
  | 18 => ⟨S4096x512, .f32⟩
  | 19 => ⟨S4096x512, .f32⟩
  | 20 => ⟨S4096x2048, .f32⟩
  | 21 => ⟨S4096x2048, .f32⟩
  | 22 => ⟨S4096x2048, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call2_call0_cst : Ref sig .tc := ⟨.hbm, 89, rfl⟩
abbrev main_call2_call0_v0 : Ref sig .tc := ⟨.hbm, 90, rfl⟩
abbrev main_v66 : Ref sig .tc := ⟨.hbm, 91, rfl⟩
abbrev main_v67 : Ref sig .tc := ⟨.hbm, 92, rfl⟩
abbrev main_c_7 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_8 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_9 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_10 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_11 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_12 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_13 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_14 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_15 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩

abbrev nD : Nat := 1
abbrev τ : Topo := Topo.v7x

variable {F : FTy → Type} [FloatOps F]
-- ==== Kernel8.lean ====
abbrev S4096x2048 : Shape := ⟨2, ![4096, 2048]⟩
abbrev S1x2048 : Shape := ⟨2, ![1, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4096x4096 : Shape := ⟨2, ![4096, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S2048x4x1024, .f32⟩
  | .hbm, ⟨4, _⟩ => ⟨S4x2048x1024, .f32⟩
  | .hbm, ⟨5, _⟩ => ⟨S4x2048x1024, .bf16⟩
  | .hbm, ⟨6, _⟩ => ⟨S4096x4096, .f32⟩
  | .hbm, ⟨7, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S4096x2048 : Shape := ⟨2, ![4096, 2048]⟩
abbrev S1x2048 : Shape := ⟨2, ![1, 2048]⟩
abbrev S2048x4096 : Shape := ⟨2, ![2048, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x4096, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S4096x2048 : Shape := ⟨2, ![4096, 2048]⟩
abbrev S4096x7168 : Shape := ⟨2, ![4096, 7168]⟩
abbrev S4x2048x1792 : Shape := ⟨3, ![4, 2048, 1792]⟩
abbrev S2048x1024 : Shape := ⟨2, ![2048, 1024]⟩
abbrev S2048x1792 : Shape := ⟨2, ![2048, 1792]⟩
abbrev S1x1024x1792 : Shape := ⟨3, ![1, 1024, 1792]⟩
abbrev S1024x1792 : Shape := ⟨2, ![1024, 1792]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x7168, .f32⟩
  | .hbm, ⟨2, _⟩ => ⟨S4096x2048, .bf16⟩
  | .hbm, ⟨3, _⟩ => ⟨S4096x7168, .bf16⟩
  | .hbm, ⟨4, _⟩ => ⟨S4x2048x1792, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1024x1792, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x7168 : Shape := ⟨2, ![4096, 7168]⟩
abbrev S_ : Shape := ⟨0, ![]⟩
abbrev S2048x7168 : Shape := ⟨2, ![2048, 7168]⟩
abbrev S7168x2048 : Shape := ⟨2, ![7168, 2048]⟩
abbrev S2048x4x1792 : Shape := ⟨3, ![2048, 4, 1792]⟩
abbrev S4x2048x1792 : Shape := ⟨3, ![4, 2048, 1792]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x7168, .f32⟩
  | .hbm, ⟨2, _⟩ => ⟨S_, .f32⟩
  | .hbm, ⟨3, _⟩ => ⟨S2048x7168, .f32⟩
  | .hbm, ⟨4, _⟩ => ⟨S4096x7168, .f32⟩
  | .hbm, ⟨5, _⟩ => ⟨S7168x2048, .f32⟩
  | .hbm, ⟨6, _⟩ => ⟨S2048x7168, .f32⟩
  | .hbm, ⟨7, _⟩ => ⟨S2048x4x1792, .f32⟩
  | .hbm, ⟨8, _⟩ => ⟨S4x2048x1792, .f32⟩
  | .hbm, ⟨9, _⟩ => ⟨S4x2048x1792, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x7168 : Shape := ⟨2, ![4096, 7168]⟩
abbrev S2048x7168 : Shape := ⟨2, ![2048, 7168]⟩
abbrev S2048x4x1792 : Shape := ⟨3, ![2048, 4, 1792]⟩
abbrev S4x2048x1792 : Shape := ⟨3, ![4, 2048, 1792]⟩
abbrev S4096x2048 : Shape := ⟨2, ![4096, 2048]⟩
abbrev S1024x1792 : Shape := ⟨2, ![1024, 1792]⟩
abbrev S1x2048x1792 : Shape := ⟨3, ![1, 2048, 1792]⟩
abbrev S1024x2048 : Shape := ⟨2, ![1024, 2048]⟩
abbrev S2048x1792 : Shape := ⟨2, ![2048, 1792]⟩

abbrev nBuf : Space → Nat
  | .hbm => 7
  | .vmem => 6
  | .smem => 0
  | _ => 0

abbrev bufTy : (tb : Table) → Fin (tcTables nBuf tb) → BufTy
  | .hbm, ⟨0, _⟩ => ⟨S4096x7168, .f32⟩
  | .hbm, ⟨1, _⟩ => ⟨S2048x7168, .f32⟩
  | .hbm, ⟨2, _⟩ => ⟨S4096x7168, .bf16⟩
  | .hbm, ⟨3, _⟩ => ⟨S2048x4x1792, .f32⟩
  | .hbm, ⟨4, _⟩ => ⟨S4x2048x1792, .f32⟩
  | .hbm, ⟨5, _⟩ => ⟨S4x2048x1792, .bf16⟩
  | .hbm, ⟨6, _⟩ => ⟨S4096x2048, .f32⟩
  | .local _ .vmem, ⟨0, _⟩ => ⟨S1024x1792, .bf16⟩
  | .local _ .vmem, ⟨1, _⟩ => ⟨S1024x1792, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S1024x2048, .f32⟩
  | .local _ .vmem, ⟨5, _⟩ => ⟨S1024x2048, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S4096x7168 : Shape := ⟨2, ![4096, 7168]⟩
abbrev S2048x7168 : Shape := ⟨2, ![2048, 7168]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S2048x7168, .f32⟩
  | .hbm, ⟨2, _⟩ => ⟨S_, .f32⟩
  | .hbm, ⟨3, _⟩ => ⟨S4096x2048, .f32⟩
  | .hbm, ⟨4, _⟩ => ⟨S4096x7168, .f32⟩
  | .hbm, ⟨5, _⟩ => ⟨S4096x2048, .f32⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S2048x1792 : Shape := ⟨2, ![2048, 1792]⟩
abbrev S256x1792 : Shape := ⟨2, ![256, 1792]⟩

abbrev nBuf : Space → Nat
  | .hbm => 8
  | .vmem => 16
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .hbm, ⟨7, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S2048x1792 : Shape := ⟨2, ![2048, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S_, .f32⟩
  | .hbm, ⟨5, _⟩ => ⟨S2048x1792, .f32⟩
  | .hbm, ⟨6, _⟩ => ⟨S2048x1792, .f32⟩
  | .hbm, ⟨7, _⟩ => ⟨S_, .f32⟩
  | .hbm, ⟨8, _⟩ => ⟨S2048x1792, .f32⟩
  | .hbm, ⟨9, _⟩ => ⟨S2048x1792, .f32⟩
  | .hbm, ⟨10, _⟩ => ⟨S2048x1792, .f32⟩
  | .hbm, ⟨11, _⟩ => ⟨S_, .f32⟩
  | .hbm, ⟨12, _⟩ => ⟨S2048x1792, .f32⟩
  | .hbm, ⟨13, _⟩ => ⟨S2048x1792, .f32⟩
  | .hbm, ⟨14, _⟩ => ⟨S2048x1792, .f32⟩
  | .hbm, ⟨15, _⟩ => ⟨S_, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S_, .f32⟩
  | .hbm, ⟨20, _⟩ => ⟨S2048x1792, .f32⟩
  | .hbm, ⟨21, _⟩ => ⟨S2048x1792, .f32⟩
  | .hbm, ⟨22, _⟩ => ⟨S_, .f32⟩
  | .hbm, ⟨23, _⟩ => ⟨S2048x1792, .f32⟩
  | .hbm, ⟨24, _⟩ => ⟨S2048x1792, .f32⟩
  | .hbm, ⟨25, _⟩ => ⟨S2048x1792, .f32⟩
  | .hbm, ⟨26, _⟩ => ⟨S_, .f32⟩
  | .hbm, ⟨27, _⟩ => ⟨S2048x1792, .f32⟩
  | .hbm, ⟨28, _⟩ => ⟨S2048x1792, .f32⟩
  | .hbm, ⟨29, _⟩ => ⟨S2048x1792, .f32⟩
  | .hbm, ⟨30, _⟩ => ⟨S_, .f32⟩
  | .hbm, ⟨31, _⟩ => ⟨S2048x1792, .f32⟩
  | .hbm, ⟨32, _⟩ => ⟨S2048x1792, .f32⟩
  | .hbm, ⟨33, _⟩ => ⟨S2048x1792, .f32⟩
  | .hbm, ⟨34, _⟩ => ⟨S_, .f32⟩
  | .hbm, ⟨35, _⟩ => ⟨S2048x1792, .f32⟩
  | .hbm, ⟨36, _⟩ => ⟨S2048x1792, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S8x393x128 : Shape := ⟨3, ![8, 393, 128]⟩
abbrev S393x128 : Shape := ⟨2, ![393, 128]⟩
abbrev S1x393x128 : Shape := ⟨3, ![1, 393, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x393x128, .f32⟩
  | .hbm, ⟨1, _⟩ => ⟨S393x128, .f32⟩
  | .local _ .vmem, ⟨0, _⟩ => ⟨S8x393x128, .f32⟩
  | .local _ .vmem, ⟨1, _⟩ => ⟨S393x128, .f32⟩
  | _, _ => ⟨S8x393x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x393x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S393x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference13Ideal.lean ====
abbrev S8x393x128 : Shape := ⟨3, ![8, 393, 128]⟩
abbrev S_ : Shape := ⟨0, ![]⟩
abbrev S393x128 : Shape := ⟨2, ![393, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x393x128, .f32⟩
  | .hbm, ⟨1, _⟩ => ⟨S_, .f32⟩
  | .hbm, ⟨2, _⟩ => ⟨S393x128, .f32⟩
  | _, _ => ⟨S8x393x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.NormMath.lean ====
/- The mathematics of the RMS norm's gradient on the extended reals: the constants the programs print, what a finite
   entry is, and the equation between the closed form the kernel evaluates and the terms `jax.vjp` sums. -/
module

public import Idealize.ShloMosaic.Lib.Pointwise

@[expose] public section

set_option maxRecDepth 16384

noncomputable section

open Idealize.ShloMosaic

namespace Cert.NormMath

/-- The printed row length is the real number 2048. -/
theorem lit_2048 : Ideal.ofBits .f32 1157627904#32 = ((2048 : ℝ) : EReal) := by
  simp [Ideal.ofBits, Ideal.ieee, -EReal.coe_mul]; norm_num

/-- The printed factor of the reciprocal root's derivative is the real number −1/2. -/
theorem lit_neg_half : Ideal.ofBits .f32 3204448256#32 = ((-1 / 2 : ℝ) : EReal) := by
  simp [Ideal.ofBits, Ideal.ieee, -EReal.coe_mul]; norm_num

/-- The printed ε is a positive real number. -/
theorem lit_eps : ∃ e : ℝ, 0 < e ∧ Ideal.ofBits .f32 897988541#32 = (e : EReal) := by
  refine ⟨_, ?_, by simp [Ideal.ofBits, Ideal.ieee, -EReal.coe_mul]; rfl⟩
  positivity

/-- The printed bound of the preconditions is `+∞`. -/
theorem lit_inf : Ideal.ofBits .f32 0x7F800000#32 = ⊤ := by
  simp [Ideal.ofBits, Ideal.ieee]

/-- An entry that is a real number. -/
def Finite (a : EReal) : Prop := ∃ r : ℝ, a = r

/-- An entry whose absolute value the programs compare below `+∞` is a real number. -/
theorem fin_of_abs_lt {a : EReal} (h : max a (-a) < ⊤) : Finite a := by
  induction a with
  | bot => simp at h
  | top => simp at h
  | coe r => exact ⟨r, rfl⟩

/-- A conjunction of bits is one where both are. -/
theorem andi_eq_one (a b : BitVec 1) : IntOp.andi a b = 1#1 ↔ a = 1#1 ∧ b = 1#1 := by
  revert a b; decide

/-- A conjunction of bits over a whole array is one where all are. -/
theorem fold_andi {ι : Type*} [Fintype ι] (f : ι → BitVec 1) : Finset.fold IntOp.andi 1#1 f Finset.univ = 1#1 ↔ ∀ k, f k = 1#1 := by
  have h := Finset.fold_op_rel_iff_and (op := IntOp.andi (w := 1)) (r := fun _ a => a = 1#1) (f := f) (b := 1#1) (s := Finset.univ)
    (c := 1#1) (fun {_ y z} => andi_eq_one y z)
  simpa using h

/-- The bit the preconditions compute of an entry says that the entry is a real number. -/
theorem fin_of_bit (a : EReal) :
    BitVec.ofBool (decide (FloatOps.absf (F := Ideal) (φ := .f32) a < Ideal.ofBits .f32 2139095040#32)) = 1#1 ↔ Finite a := by
  have hb : ∀ b : Bool, BitVec.ofBool b = 1#1 ↔ b = true := by decide
  rw [hb, decide_eq_true_eq, Ideal.absf_def, lit_inf]
  refine ⟨fin_of_abs_lt, ?_⟩
  rintro ⟨r, rfl⟩
  exact max_lt (EReal.coe_lt_top r) (by rw [← EReal.coe_neg]; exact EReal.coe_lt_top _)

/-- The inclusion of the reals takes a finite sum to the sum. -/
theorem coe_sum {ι : Type*} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

theorem Finite.add {a b : EReal} (ha : Finite a) (hb : Finite b) : Finite (a + b) := by
  obtain ⟨r, rfl⟩ := ha; obtain ⟨s, rfl⟩ := hb; exact ⟨r + s, (EReal.coe_add r s).symm⟩

theorem Finite.sub {a b : EReal} (ha : Finite a) (hb : Finite b) : Finite (a - b) := by
  obtain ⟨r, rfl⟩ := ha; obtain ⟨s, rfl⟩ := hb; exact ⟨r - s, (EReal.coe_sub r s).symm⟩

theorem Finite.mul {a b : EReal} (ha : Finite a) (hb : Finite b) : Finite (a * b) := by
  obtain ⟨r, rfl⟩ := ha; obtain ⟨s, rfl⟩ := hb; exact ⟨r * s, (EReal.coe_mul r s).symm⟩

theorem Finite.sum {ι : Type*} {s : Finset ι} {f : ι → EReal} (h : ∀ k, Finite (f k)) : Finite (∑ k ∈ s, f k) := by
  choose g hg using h
  exact ⟨∑ k ∈ s, g k, by rw [coe_sum]; exact Finset.sum_congr rfl fun k _ => hg k⟩

/-- A row's mean square plus ε, as the programs spell it. -/
abbrev ms (x : Fin 2048 → EReal) : EReal :=
  Ideal.div (∑ k, x k * x k) (Ideal.ofBits .f32 1157627904#32) + Ideal.ofBits .f32 897988541#32

/-- The row's reciprocal root mean square. -/
abbrev rs (x : Fin 2048 → EReal) : EReal := Ideal.rsqrt (ms x)

/-- Of a finite row: `ms` is a positive real `q`, `rs` a real `p` with `p² q = 1`. -/
theorem ms_rs (x : Fin 2048 → ℝ) :
    ∃ q p : ℝ, 0 < q ∧ p * p * q = 1 ∧ ms (fun k => (x k : EReal)) = q ∧ rs (fun k => (x k : EReal)) = p := by
  obtain ⟨e, he, hE⟩ := lit_eps
  have hq : 0 < (∑ k, x k * x k) * (1 / 2048) + e := by
    have : 0 ≤ ∑ k, x k * x k := Finset.sum_nonneg fun k _ => mul_self_nonneg _
    positivity
  have hm : ms (fun k => (x k : EReal)) = (((∑ k, x k * x k) * (1 / 2048) + e : ℝ) : EReal) := by
    rw [ms, hE, lit_2048, Ideal.div_coe (by norm_num)]
    simp only [EReal.coe_add, EReal.coe_mul, coe_sum]
  refine ⟨_, (Real.sqrt ((∑ k, x k * x k) * (1 / 2048) + e))⁻¹, hq, ?_, hm, ?_⟩
  · rw [← mul_inv, Real.mul_self_sqrt hq.le, inv_mul_cancel₀ hq.ne']
  · rw [rs, hm, Ideal.rsqrt_coe, if_neg (not_lt.mpr hq.le), if_neg hq.ne']

theorem fin_rs {x : Fin 2048 → EReal} (hx : ∀ k, Finite (x k)) : Finite (rs x) := by
  choose r hr using hx
  obtain rfl : x = fun k => (r k : EReal) := funext hr
  obtain ⟨_, p, _, _, _, h⟩ := ms_rs r
  exact ⟨p, h⟩

/-- The closed form the kernel evaluates: `rs · (dn − n · mean (dn · n))` with `n = x · rs`. -/
abbrev closed (x dn : Fin 2048 → EReal) (d : Fin 2048) : EReal :=
  rs x * (dn d - x d * rs x * Ideal.div (∑ k, dn k * (x k * rs x)) (Ideal.ofBits .f32 1157627904#32))

theorem fin_closed {x dn : Fin 2048 → EReal} (hx : ∀ k, Finite (x k)) (hd : ∀ k, Finite (dn k)) (d : Fin 2048) :
    Finite (closed x dn d) := by
  have hr := fin_rs hx
  have hs : Finite (∑ k, dn k * (x k * rs x)) := Finite.sum fun k => (hd k).mul ((hx k).mul hr)
  have hv : Finite (Ideal.div (∑ k, dn k * (x k * rs x)) (Ideal.ofBits .f32 1157627904#32)) := by
    rw [lit_2048, Ideal.div_coe (by norm_num)]; exact hs.mul ⟨_, rfl⟩
  exact hr.mul ((hd d).sub (((hx d).mul hr).mul hv))

/-- The mean square's share of the cotangent: what `jax.vjp` multiplies each factor of `x · x` by. -/
abbrev share (x dn : Fin 2048 → EReal) : EReal :=
  ∑ _k : Fin 1, Ideal.div ((∑ k, x k * dn k) * (Ideal.ofBits .f32 3204448256#32 * Ideal.div (rs x) (ms x)))
    (Ideal.ofBits .f32 1157627904#32)

/-- The gradient of a row through the norm: the terms `jax.vjp` sums are the closed form. -/
theorem grad (x dn : Fin 2048 → EReal) (hx : ∀ k, Finite (x k)) (hd : ∀ k, Finite (dn k)) (d : Fin 2048) :
    dn d * rs x + x d * share x dn + share x dn * x d = closed x dn d := by
  choose r hr using hx
  obtain rfl : x = fun k => (r k : EReal) := funext hr
  choose u hu using hd
  obtain rfl : dn = fun k => (u k : EReal) := funext hu
  obtain ⟨q, p, hq, hpq, hm, hs⟩ := ms_rs r
  simp only [share, closed, hm, hs, lit_2048, lit_neg_half, Finset.univ_unique, Finset.sum_singleton,
    Ideal.div_coe hq.ne', Ideal.div_coe (show (2048 : ℝ) ≠ 0 by norm_num), ← EReal.coe_mul, ← EReal.coe_add, ← EReal.coe_sub, ← coe_sum]
  refine congrArg Real.toEReal ?_
  have hq' : 1 / q = p * p := by rw [eq_comm, eq_div_iff hq.ne']; exact hpq
  have hsum : ∑ k, u k * (r k * p) = (∑ k, r k * u k) * p := by
    rw [Finset.sum_mul]; exact Finset.sum_congr rfl fun k _ => by ring
  rw [hq', hsum]; ring

/-- … with the residual's cotangent, whatever it is, added first. -/
theorem grad_res (x dn : Fin 2048 → EReal) (hx : ∀ k, Finite (x k)) (hd : ∀ k, Finite (dn k)) (res : EReal)
    (d : Fin 2048) :
    res + dn d * rs x + x d * share x dn + share x dn * x d = res + closed x dn d := by
  rw [← grad x dn hx hd d]; simp only [add_assoc]

end Cert.NormMath

end
-- ==== Proof.PostNormValue.lean ====
/- The gradient kernel of two norms with the residual sum between them (call 1), at the real numbers: the four arrays it
   leaves are the ones `jax.vjp` of the reference's forward lines computes, wherever its arguments are finite. -/
module

public import proofs.«01_k».proof.Proof.NormMath
public import proofs.«01_k».proof.Defs
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.NormValue

open Cert.KernelIdeal Cert.KernelIdeal.Gen Cert.ReferenceIdeal.Read

section reference

variable (x0 y : FVec Ideal S4096x2048 .f32) (gp g : FVec Ideal S1x2048 .f32) (dres dh : FVec Ideal S4096x2048 .f32)
  (h : Cert.Pre_finite.fn (F := Ideal) x0 y gp g dres dh = fun _ => 1#1)

include h

/-- Where the precondition holds, every entry of every argument is a real number. -/
theorem pre_at (r : Fin 4096) (d : Fin 2048) :
    (NormMath.Finite (x0 (ix2 r d)) ∧ NormMath.Finite (y (ix2 r d)) ∧ NormMath.Finite (dres (ix2 r d)) ∧ NormMath.Finite (dh (ix2 r d)))
      ∧ NormMath.Finite (gp (ix2 0 d)) ∧ NormMath.Finite (g (ix2 0 d)) := by
  have p := congrFun h (ix2 r d)
  pointwise [Cert.Pre_finite.fn, Cert.Pre_finite.fn_part1] at p
  simp only [NormMath.andi_eq_one, NormMath.fin_of_bit] at p
  exact ⟨⟨p.1.1.1.1.1, p.1.1.1.1.2, p.1.1.1.2, p.1.1.2⟩, p.1.2, p.2⟩

/-- The residual stream between the norms is finite. -/
theorem fin_x1 (r : Fin 4096) (d : Fin 2048) : NormMath.Finite (val_main_v15 (F := Ideal) x0 y gp (ix2 r d)) := by
  have hy := NormMath.fin_rs (x := fun k => y (ix2 r k)) fun k => (pre_at x0 y gp g dres dh h r k).1.2.1
  have p := pre_at x0 y gp g dres dh h r d
  have e : val_main_v15 (F := Ideal) x0 y gp (ix2 r d)
      = x0 (ix2 r d) + y (ix2 r d) * NormMath.rs (fun k => y (ix2 r k)) * gp (ix2 0 d) := by
    pointwise [val_main_v15, val_main_v14, val_main_v12, val_main_v11, val_main_v7, val_main_v6, val_main_v4,
      val_main_v2, val_main_v1, val_main_v0, val_main_cst, val_main_v3, val_main_cst_0, val_main_v5, val_main_cst_1,
      val_main_v13]
  rw [e]
  exact p.1.1.add ((p.1.2.1.mul hy).mul p.2.1)

/-- The reference's gradient of the residual stream, entry by entry, `x1` standing for that stream. -/
theorem dx_at (r : Fin 4096) (d : Fin 2048) :
    val_main_v50 (F := Ideal) x0 y gp g dres dh (ix2 r d)
      = dres (ix2 r d) + NormMath.closed (fun k => val_main_v15 (F := Ideal) x0 y gp (ix2 r k))
          (fun k => dh (ix2 r k) * g (ix2 0 k)) d := by
  refine Eq.trans ?_ (NormMath.grad_res (fun k => val_main_v15 (F := Ideal) x0 y gp (ix2 r k))
    (fun k => dh (ix2 r k) * g (ix2 0 k)) (fun k => fin_x1 x0 y gp g dres dh h r k)
    (fun k => (pre_at x0 y gp g dres dh h r k).1.2.2.2.mul (pre_at x0 y gp g dres dh h r k).2.2) (dres (ix2 r d)) d)
  pointwise [val_main_v50, val_main_v48, val_main_v41, val_main_v40, val_main_v35, val_main_v34, val_main_v39,
    val_main_v23, val_main_v22, val_main_v20, val_main_v18, val_main_v17, val_main_v16, val_main_cst_3, val_main_v19,
    val_main_cst_4, val_main_v21, val_main_cst_5, val_main_v47, val_main_v46, val_main_v45, val_main_v44,
    val_main_v42, val_main_v38, val_main_v37, val_main_v36, val_main_cst_8, val_main_v26, val_main_v25,
    val_main_cst_6, val_main_v24, val_main_v43, val_main_cst_9, val_main_cst_10, val_main_v49]

/-- That gradient is finite. -/
theorem fin_dx (r : Fin 4096) (d : Fin 2048) : NormMath.Finite (val_main_v50 (F := Ideal) x0 y gp g dres dh (ix2 r d)) := by
  rw [dx_at x0 y gp g dres dh h r d]
  exact (pre_at x0 y gp g dres dh h r d).1.2.2.1.add (NormMath.fin_closed (fun k => fin_x1 x0 y gp g dres dh h r k)
    (fun k => (pre_at x0 y gp g dres dh h r k).1.2.2.2.mul (pre_at x0 y gp g dres dh h r k).2.2) d)

/-- The reference's gradient of the post-norm's input, entry by entry. -/
theorem dy_at (r : Fin 4096) (d : Fin 2048) :
    val_main_v71 (F := Ideal) x0 y gp g dres dh (ix2 r d)
      = NormMath.closed (fun k => y (ix2 r k))
          (fun k => val_main_v50 (F := Ideal) x0 y gp g dres dh (ix2 r k) * gp (ix2 0 k)) d := by
  refine Eq.trans ?_ (NormMath.grad (fun k => y (ix2 r k))
    (fun k => val_main_v50 (F := Ideal) x0 y gp g dres dh (ix2 r k) * gp (ix2 0 k))
    (fun k => (pre_at x0 y gp g dres dh h r k).1.2.1)
    (fun k => (fin_dx x0 y gp g dres dh h r k).mul (pre_at x0 y gp g dres dh h r k).2.1) d)
  pointwise [val_main_v71, val_main_v70, val_main_v68, val_main_v61, val_main_v56, val_main_v51, val_main_v55,
    val_main_v60, val_main_v7, val_main_v6, val_main_v4, val_main_v2, val_main_v1, val_main_v0, val_main_cst,
    val_main_v3, val_main_cst_0, val_main_v5, val_main_cst_1, val_main_v67, val_main_v66, val_main_v65, val_main_v64,
    val_main_v62, val_main_v59, val_main_v58, val_main_v57, val_main_cst_12, val_main_v10, val_main_v9,
    val_main_cst_2, val_main_v8, val_main_v63, val_main_cst_13, val_main_cst_14, val_main_v69]

omit h

/-- The reference's gradient of the pre-norm's gain. -/
theorem dg_at (r : Fin 1) (d : Fin 2048) :
    val_main_v33 (F := Ideal) x0 y gp dh (ix2 r d)
      = ∑ k : Fin 4096, dh (ix2 k d) * (val_main_v15 (F := Ideal) x0 y gp (ix2 k d)
          * NormMath.rs (fun l => val_main_v15 (F := Ideal) x0 y gp (ix2 k l))) := by
  refine Eq.trans ?_ (Finset.sum_congr rfl fun k _ => mul_comm (val_main_v15 (F := Ideal) x0 y gp (ix2 k d)
    * NormMath.rs (fun l => val_main_v15 (F := Ideal) x0 y gp (ix2 k l))) (dh (ix2 k d)))
  pointwise [val_main_v33, val_main_v32, val_main_v31, val_main_v28, val_main_v27, val_main_v23, val_main_v22,
    val_main_v20, val_main_v18, val_main_v17, val_main_v16, val_main_cst_3, val_main_v19, val_main_cst_4,
    val_main_v21, val_main_cst_5, val_main_cst_7]

/-- The reference's gradient of the post-norm's gain. -/
theorem dgp_at (r : Fin 1) (d : Fin 2048) :
    val_main_v54 (F := Ideal) x0 y gp g dres dh (ix2 r d)
      = ∑ k : Fin 4096, val_main_v50 (F := Ideal) x0 y gp g dres dh (ix2 k d)
          * (y (ix2 k d) * NormMath.rs (fun l => y (ix2 k l))) := by
  refine Eq.trans ?_ (Finset.sum_congr rfl fun k _ => mul_comm (y (ix2 k d) * NormMath.rs (fun l => y (ix2 k l)))
    (val_main_v50 (F := Ideal) x0 y gp g dres dh (ix2 k d)))
  pointwise [val_main_v54, val_main_v53, val_main_v52, val_main_v12, val_main_v11, val_main_v7, val_main_v6,
    val_main_v4, val_main_v2, val_main_v1, val_main_v0, val_main_cst, val_main_v3, val_main_cst_0, val_main_v5,
    val_main_cst_1, val_main_v51, val_main_cst_11]

end reference

section payloads

/-- A point's rows of the gradient of the residual stream. -/
theorem pay_dx (dh x : Vec Ideal S256x2048 .f32) (g : Vec Ideal S1x2048 .f32) (dres : Vec Ideal S256x2048 .f32)
    (r : Fin 256) (d : Fin 2048) :
    k0_pay12 dh x g dres (ix2 r d)
      = dres (ix2 r d) + NormMath.closed (fun k => x (ix2 r k)) (fun k => dh (ix2 r k) * g (ix2 0 k)) d := by
  pointwise [k0_pay12, k0_pay10, k0_pay9, k0_pay8]

/-- A point's rows of the gradient of the post-norm's input, from its rows `u` of the residual stream's gradient. -/
theorem pay_dy (u y : Vec Ideal S256x2048 .f32) (gp : Vec Ideal S1x2048 .f32) (r : Fin 256) (d : Fin 2048) :
    k0_pay4 u y gp (ix2 r d) = NormMath.closed (fun k => y (ix2 r k)) (fun k => u (ix2 r k) * gp (ix2 0 k)) d := by
  pointwise [k0_pay4, k0_pay3, k0_pay2]

/-- A point adds its rows' share to the gradient of the pre-norm's gain. -/
theorem pay_dg (dh x : Vec Ideal S256x2048 .f32) (acc : Vec Ideal S1x2048 .f32) (j : S1x2048.Idx) :
    k0_pay1 (k0_pay11 dh x) (k0_pay13 acc) j
      = acc j + ∑ k : Fin 256, dh (ix2 k (j 1)) * (x (ix2 k (j 1)) * NormMath.rs (fun l => x (ix2 k l))) := by
  pointwise [k0_pay1, k0_pay11, k0_pay13, k0_pay10, k0_pay9, k0_pay8]

/-- A point adds its rows' share to the gradient of the post-norm's gain. -/
theorem pay_dgp (u y : Vec Ideal S256x2048 .f32) (acc : Vec Ideal S1x2048 .f32) (j : S1x2048.Idx) :
    k0_pay5 u y acc j
      = acc j + ∑ k : Fin 256, u (ix2 k (j 1)) * (y (ix2 k (j 1)) * NormMath.rs (fun l => y (ix2 k l))) := by
  pointwise [k0_pay5, k0_pay3, k0_pay2]

/-- The first point starts both gradients at zero. -/
theorem pay_zero (j : S1x2048.Idx) : k0_pay6 (F := Ideal) j = 0 := by pointwise [k0_pay6]

theorem pay_zero' (j : S1x2048.Idx) : k0_pay7 (F := Ideal) j = 0 := by pointwise [k0_pay7]

end payloads

variable (m : (ℓ : Loc nD τ sig) → Buf (Elt Ideal) ℓ)

/-- Where each window's block lies at a grid point: 256 rows at a time, the gains and their gradients whole. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0] ∧ win0_9.index t = ![0, 0] :=
  (by decide +kernel : ∀ t : Fin grid0.N, _)

/-- The arguments as the memory holds them. -/
abbrev A0 (c : Dev nD) : FVec Ideal S4096x2048 .f32 := m ((c : Thread nD τ).loc main_arg0)
abbrev A1 (c : Dev nD) : FVec Ideal S4096x2048 .f32 := m ((c : Thread nD τ).loc main_arg1)
abbrev A2 (c : Dev nD) : FVec Ideal S1x2048 .f32 := m ((c : Thread nD τ).loc main_arg2)
abbrev A3 (c : Dev nD) : FVec Ideal S1x2048 .f32 := m ((c : Thread nD τ).loc main_arg3)
abbrev A4 (c : Dev nD) : FVec Ideal S4096x2048 .f32 := m ((c : Thread nD τ).loc main_arg4)
abbrev A5 (c : Dev nD) : FVec Ideal S4096x2048 .f32 := m ((c : Thread nD τ).loc main_arg5)

/-- The host lines before the kernel compute the reference's residual stream. -/
theorem entry_x1 (c : Dev nD) : V m c main_v12 = val_main_v15 (F := Ideal) (A0 m c) (A1 m c) (A2 m c) := by
  entry_read
  rfl

/-- What a point leaves in the block of the residual stream's gradient. -/
theorem body_dx (c : Dev nD) (t : Fin cfg0.N) :
    (outsAt0 m c t.val t.isLt).1 = k0_pay12 (iblk m c 0 t) (iblk m c 1 t) (iblk m c 2 t) (iblk m c 3 t) := by
  by_cases h0 : t.val % 16 = 0
  · rw [outsAt0_A m c t h0]; frame_out
  · rw [outsAt0_B m c t h0]; frame_out

/-- What a point leaves in the block of the post-norm input's gradient. -/
theorem body_dy (c : Dev nD) (t : Fin cfg0.N) :
    (outsAt0 m c t.val t.isLt).2.2.1 = k0_pay4 (k0_pay12 (iblk m c 0 t) (iblk m c 1 t) (iblk m c 2 t) (iblk m c 3 t))
      (iblk m c 4 t) (iblk m c 5 t) := by
  by_cases h0 : t.val % 16 = 0
  · rw [outsAt0_A m c t h0]; frame_out
  · rw [outsAt0_B m c t h0]; frame_out

/-- A point's rows of the residual stream's gradient are the reference's. -/
theorem rows_dx (c : Dev nD) (h : Pre_KernelIdeal_finite m) (t : Fin cfg0.N) (r : Fin 256) (d : Fin 2048)
    (hr : t.val * 256 + r.val < 4096) :
    k0_pay12 (iblk m c 0 t) (iblk m c 1 t) (iblk m c 2 t) (iblk m c 3 t) (ix2 r d)
      = val_main_v50 (F := Ideal) (A0 m c) (A1 m c) (A2 m c) (A3 m c) (A4 m c) (A5 m c) (ix2 ⟨t.val * 256 + r.val, hr⟩ d) := by
  refine (pay_dx _ _ _ _ r d).trans (Eq.trans ?_ (dx_at _ _ _ _ _ _ (h c) _ d).symm)
  rw [← entry_x1]
  blk_point [iblk, V, idx t]

/-- After the run the array of the residual stream's gradient is the reference's. -/
theorem final_dx (c : Dev nD) (h : Pre_KernelIdeal_finite m) :
    (dats m 0 c).arrAt 6 cfg0.N
      = val_main_v50 (F := Ideal) (A0 m c) (A1 m c) (A2 m c) (A3 m c) (A4 m c) (A5 m c) := by
  refine (dats m 0 c).arrAt_eq_of_covers 6 _ (by decide +kernel) fun t _ y => ?_
  blk_simp
  rw [after0_6, body_dx]
  have hN := Gen.N_0
  have hb : t.val * 256 + (y 0).val < 4096 := by idx_bounds; omega
  have he : (win0_6.blk t).view.emb y = ix2 ⟨t.val * 256 + (y 0).val, hb⟩ (y 1) := by blk_ext [idx t]
  have hy : y = ix2 (y 0) (y 1) := by blk_ext
  rw [he]
  exact (congrArg _ hy).trans (rows_dx m c h t (y 0) (y 1) hb)

/-- After the run the array of the post-norm input's gradient is the reference's. -/
theorem final_dy (c : Dev nD) (h : Pre_KernelIdeal_finite m) :
    (dats m 0 c).arrAt 8 cfg0.N
      = val_main_v71 (F := Ideal) (A0 m c) (A1 m c) (A2 m c) (A3 m c) (A4 m c) (A5 m c) := by
  refine (dats m 0 c).arrAt_eq_of_covers 8 _ (by decide +kernel) fun t _ y => ?_
  blk_simp
  rw [after0_8, body_dy]
  have hN := Gen.N_0
  have hb : t.val * 256 + (y 0).val < 4096 := by idx_bounds; omega
  have he : (win0_8.blk t).view.emb y = ix2 ⟨t.val * 256 + (y 0).val, hb⟩ (y 1) := by blk_ext [idx t]
  have hy : y = ix2 (y 0) (y 1) := by blk_ext
  rw [he]
  refine (congrArg _ hy).trans ((pay_dy _ _ _ (y 0) (y 1)).trans (Eq.trans ?_ (dy_at _ _ _ _ _ _ (h c) _ (y 1)).symm))
  simp only [fun k => rows_dx m c h t (y 0) k hb]
  blk_point [iblk, V, idx t]

/-- After the run the array of the pre-norm gain's gradient is the reference's. -/
theorem final_dg (c : Dev nD) :
    (dats m 0 c).arrAt 7 cfg0.N = val_main_v33 (F := Ideal) (A0 m c) (A1 m c) (A2 m c) (A5 m c) := by
  refine (dats m 0 c).arrAt_eq_of_covers 7 _ (by decide +kernel) fun t hf y => ?_
  blk_simp
  rw [after0_7, Pipeline.eq_sum_fin_of_reset_step_apply_of_flush (fun n h => (outsAt0 m c n h).2.1) 16 (fun _ => 0) _
    (fun t h j => by rw [outsAt0_A m c t h]; frame_out; rw [pay_dg, pay_zero])
    (fun t h j => by rw [outsAt0_B m c t h]; frame_out; rw [pay_dg])
    t ((flush0_7 t).mp hf) _, zero_add]
  have he : (win0_7.blk t).view.emb y = ix2 0 (y 1) := by blk_ext [idx t]
  rw [he]
  refine Eq.trans ?_ (dg_at _ _ _ _ _ (y 1)).symm
  rw [← entry_x1]
  refine Fin.sum_mul_add_congr fun s k hl => ?_
  have hN := Gen.N_0
  have ht : t.val / 16 = 0 := by idx_bounds; omega
  blk_point [iblk, V, idx ⟨_, Pipeline.run_point_lt_of_flush t ((flush0_7 t).mp hf) s⟩]

/-- After the run the array of the post-norm gain's gradient is the reference's. -/
theorem final_dgp (c : Dev nD) (h : Pre_KernelIdeal_finite m) :
    (dats m 0 c).arrAt 9 cfg0.N
      = val_main_v54 (F := Ideal) (A0 m c) (A1 m c) (A2 m c) (A3 m c) (A4 m c) (A5 m c) := by
  refine (dats m 0 c).arrAt_eq_of_covers 9 _ (by decide +kernel) fun t hf y => ?_
  blk_simp
  rw [after0_9, Pipeline.eq_sum_fin_of_reset_step_apply_of_flush (fun n h => (outsAt0 m c n h).2.2.2) 16 (fun _ => 0) _
    (fun t h j => by rw [outsAt0_A m c t h]; frame_out; rw [pay_dgp, pay_zero'])
    (fun t h j => by rw [outsAt0_B m c t h]; frame_out; rw [pay_dgp])
    t ((flush0_9 t).mp hf) _, zero_add]
  have he : (win0_9.blk t).view.emb y = ix2 0 (y 1) := by blk_ext [idx t]
  rw [he]
  refine Eq.trans ?_ (dgp_at _ _ _ _ _ _ _ (y 1)).symm
  refine Fin.sum_mul_add_congr fun s k hl => ?_
  have hN := Gen.N_0
  have ht : t.val / 16 = 0 := by idx_bounds; omega
  have hr := rows_dx m c h ⟨_, Pipeline.run_point_lt_of_flush t ((flush0_9 t).mp hf) s⟩ k (y 1) (by dsimp only; omega)
  rw [hr]
  blk_point [iblk, V, idx ⟨_, Pipeline.run_point_lt_of_flush t ((flush0_9 t).mp hf) s⟩]

end Cert.KernelIdeal.NormValue

end
-- ==== Proof.PostNormClaims.lean ====
/- The claims about the gradient kernel of two norms with the residual sum between them (call 1), assembled. -/
module

public import proofs.«01_k».proof.Proof.PostNormValue
public import proofs.«01_k».proof.Proof.Gen.Kernel.Frame
public import proofs.«01_k».proof.Proof.Gen.KernelIdeal.Frame
public import Idealize.ShloMosaic.Lib.Claim

@[expose] public section

set_option maxRecDepth 16384

noncomputable section

open Idealize.ShloMosaic Idealize.ShloMosaic.TcCoe Idealize.SL.Sem

namespace Cert.ReferenceIdeal

open Cert.ReferenceIdeal.Gen Cert.ReferenceIdeal.Read

/-- The reference's run: each result is its last stage over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v33) = val_main_v33 (F := Ideal) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v54) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (Read.val_main_v50_eq m c),
      (h c).2.1.trans (Read.val_main_v33_eq _ _ _ _),
      (h c).2.2.1.trans (Read.val_main_v71_eq m c),
      (h c).2.2.2.1.trans (Read.val_main_v54_eq m c),
      (h c).2.2.2.2⟩) (Value.run m ρ)

end Cert.ReferenceIdeal

namespace Cert.KernelClaims

/-- The reference runs, leaves its arguments as they were and every semaphore at zero. -/
theorem frame_reference : Cert.quiescent_ReferenceIdeal := fun m g _ =>
  (θ_run _ _ _).mono (fun r h => ⟨fun c => (h c).2.2.2.2, sem_eq_zero_of_no_sems (by decide) r.2⟩)
    (Cert.ReferenceIdeal.run_stages m g)

/-- The kernel at the real numbers and the reference leave the same arrays from the same finite arguments. -/
theorem algebraic : Cert.algebraic_KernelIdeal_ReferenceIdeal_pre_finite := fun m g m' g' hp ha =>
  ⟨fun c => Cert.ReferenceIdeal.Read.val_main_v50 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v33 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)),
    fun c => Cert.ReferenceIdeal.Read.val_main_v71 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v54 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    (θ_run _ _ _).mono (fun r h c => ⟨(h c).1.trans (Cert.KernelIdeal.NormValue.final_dx m c hp),
        (h c).2.1.trans (Cert.KernelIdeal.NormValue.final_dg m c),
        (h c).2.2.1.trans (Cert.KernelIdeal.NormValue.final_dy m c hp),
        (h c).2.2.2.1.trans (Cert.KernelIdeal.NormValue.final_dgp m c hp),
        (h c).2.2.2.2⟩) (Cert.KernelIdeal.Value.run_blocks m g),
    (θ_run _ _ _).mono (fun r h c => ⟨(h c).1.trans (by rw [(ha c).1, (ha c).2.1, (ha c).2.2.1, (ha c).2.2.2.1, (ha c).2.2.2.2.1, (ha c).2.2.2.2.2]),
        (h c).2.1.trans (by rw [(ha c).1, (ha c).2.1, (ha c).2.2.1, (ha c).2.2.2.2.2]),
        (h c).2.2.1.trans (by rw [(ha c).1, (ha c).2.1, (ha c).2.2.1, (ha c).2.2.2.1, (ha c).2.2.2.2.1, (ha c).2.2.2.2.2]),
        (h c).2.2.2.1.trans (by rw [(ha c).1, (ha c).2.1, (ha c).2.2.1, (ha c).2.2.2.1, (ha c).2.2.2.2.1, (ha c).2.2.2.2.2]),
        (h c).2.2.2.2⟩) (Cert.ReferenceIdeal.run_stages m' g')⟩

/-- The frames of the two programs and of the reference. -/
theorem frames : Cert.quiescent_Kernel ∧ Cert.quiescent_KernelIdeal ∧ Cert.quiescent_KernelIdeal_pre_finite ∧ Cert.quiescent_ReferenceIdeal
    ∧ Cert.quiescent_ReferenceIdeal_pre_finite :=
  ⟨fun m g _ => Cert.Kernel.Gen.frame m g, fun m g _ => Cert.KernelIdeal.Gen.frame m g, fun m g _ => Cert.KernelIdeal.Gen.frame m g,
    frame_reference, fun m g _ => frame_reference m g trivial⟩

end Cert.KernelClaims

end
-- ==== Proof.PreNormValue.lean ====
/- The gradient kernel of a pre-norm (call 2), at the real numbers: the two arrays it leaves are the ones `jax.vjp` of the
   reference's norm computes, wherever its arguments are finite. -/
module

public import proofs.«01_k».proof.Proof.NormMath
public import proofs.«01_k».proof.Defs
public import proofs.«01_k».proof.Proof.Gen.Pre_finite2
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.NormValue

open Cert.Kernel2Ideal Cert.Kernel2Ideal.Gen Cert.Reference2Ideal.Read

variable (m : (ℓ : Loc nD τ sig) → Buf (Elt Ideal) ℓ)

/-- Where each window's block lies at a grid point: 256 rows at a time, the gain and its gradient whole. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- Where the precondition holds, every entry of `x`, of the normed row's cotangent and of the gain is a real number. -/
theorem pre_at (x : FVec Ideal S4096x2048 .f32) (g : FVec Ideal S1x2048 .f32) (dres dh : FVec Ideal S4096x2048 .f32)
    (h : Cert.Pre_finite2.fn (F := Ideal) x g dres dh = fun _ => 1#1) (r : Fin 4096) (d : Fin 2048) :
    NormMath.Finite (x (ix2 r d)) ∧ NormMath.Finite (dh (ix2 r d)) ∧ NormMath.Finite (g (ix2 0 d)) := by
  have p := congrFun h (ix2 r d)
  pointwise [Cert.Pre_finite2.fn] at p
  simp only [NormMath.andi_eq_one, NormMath.fin_of_bit] at p
  exact ⟨p.1.1, p.1.2, p.2⟩

/-- The reference's gradient of `x`, entry by entry: the residual's cotangent plus the closed form. -/
theorem dx_at (x : FVec Ideal S4096x2048 .f32) (g : FVec Ideal S1x2048 .f32) (dres dh : FVec Ideal S4096x2048 .f32)
    (h : Cert.Pre_finite2.fn (F := Ideal) x g dres dh = fun _ => 1#1) (r : Fin 4096) (d : Fin 2048) :
    val_main_v34 (F := Ideal) x g dres dh (ix2 r d)
      = dres (ix2 r d) + NormMath.closed (fun k => x (ix2 r k)) (fun k => dh (ix2 r k) * g (ix2 0 k)) d := by
  refine Eq.trans ?_ (NormMath.grad_res (fun k => x (ix2 r k)) (fun k => dh (ix2 r k) * g (ix2 0 k))
    (fun k => (pre_at x g dres dh h r k).1)
    (fun k => (pre_at x g dres dh h r k).2.1.mul (pre_at x g dres dh h r k).2.2) (dres (ix2 r d)) d)
  pointwise [val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v10, val_main_v9, val_main_v8, val_main_v7, val_main_v6, val_main_v5, val_main_v4, val_main_v3,
    val_main_v2, val_main_v1, val_main_v0, val_main_cst, val_main_cst_0, val_main_cst_1, val_main_cst_2, val_main_cst_3,
    val_main_cst_4, val_main_cst_5, val_main_cst_6]

/-- The reference's gradient of the gain: over all rows, the cotangent times the normed row. -/
theorem dg_at (x dh : FVec Ideal S4096x2048 .f32) (r : Fin 1) (d : Fin 2048) :
    val_main_v17 (F := Ideal) x dh (ix2 r d)
      = ∑ k : Fin 4096, dh (ix2 k d) * (x (ix2 k d) * NormMath.rs (fun l => x (ix2 k l))) := by
  refine Eq.trans ?_ (Finset.sum_congr rfl fun k _ => mul_comm (x (ix2 k d) * NormMath.rs (fun l => x (ix2 k l))) (dh (ix2 k d)))
  pointwise [val_main_v17, val_main_v16, val_main_v15, val_main_v12, val_main_v11, val_main_v7, val_main_v6, val_main_v5,
    val_main_v4, val_main_v3, val_main_v2, val_main_v1, val_main_v0, val_main_cst, val_main_cst_0, val_main_cst_1,
    val_main_cst_3]

/-- A point's rows of the gradient of `x`. -/
theorem pay_dx (dh x : Vec Ideal S256x2048 .f32) (g : Vec Ideal S1x2048 .f32) (dres : Vec Ideal S256x2048 .f32)
    (r : Fin 256) (d : Fin 2048) :
    k0_pay4 dh x g dres (ix2 r d)
      = dres (ix2 r d) + NormMath.closed (fun k => x (ix2 r k)) (fun k => dh (ix2 r k) * g (ix2 0 k)) d := by
  pointwise [k0_pay4, k0_pay3, k0_pay2]

/-- A point adds its rows' share to the gradient of the gain. -/
theorem pay_dg (dh x : Vec Ideal S256x2048 .f32) (acc : Vec Ideal S1x2048 .f32) (j : S1x2048.Idx) :
    k0_pay5 dh x acc j
      = acc j + ∑ k : Fin 256, dh (ix2 k (j 1)) * (x (ix2 k (j 1)) * NormMath.rs (fun l => x (ix2 k l))) := by
  pointwise [k0_pay5, k0_pay3, k0_pay2]

/-- The first point starts that gradient at zero. -/
theorem pay_zero (j : S1x2048.Idx) : k0_pay1 (F := Ideal) j = 0 := by pointwise [k0_pay1]

/-- After the run the array of the gradient of `x` is the reference's. -/
theorem final_dx (c : Dev nD) (h : Pre_Kernel2Ideal_finite2 m) :
    (dats m 0 c).arrAt 4 cfg0.N = val_main_v34 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  have hp : (outsAt0 m c t.val t.isLt).1 = k0_pay4 (iblk m c 0 t) (iblk m c 1 t) (iblk m c 2 t) (iblk m c 3 t) := by
    by_cases h0 : t.val % 16 = 0
    · rw [outsAt0_A m c t h0]; frame_out
    · rw [outsAt0_B m c t h0]; frame_out
  rw [after0_4, hp]
  have hN := Gen.N_0
  have he : (win0_4.blk t).view.emb y = ix2 ⟨t.val * 256 + (y 0).val, by idx_bounds; omega⟩ (y 1) := by blk_ext [idx t]
  have hy : y = ix2 (y 0) (y 1) := by blk_ext
  rw [he]
  refine Eq.trans ?_ (dx_at _ _ _ _ (h c) _ (y 1)).symm
  refine Eq.trans (congrArg _ hy) ((pay_dx _ _ _ _ (y 0) (y 1)).trans ?_)
  blk_point [iblk, V, idx t]

/-- After the run the array of the gradient of the gain is the reference's. -/
theorem final_dg (c : Dev nD) :
    (dats m 0 c).arrAt 5 cfg0.N
      = val_main_v17 (F := Ideal) (m ((c : Thread nD τ).loc main_arg0)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2) 16 (fun _ => 0) _
    (fun t h j => by rw [outsAt0_A m c t h]; frame_out; rw [pay_dg, pay_zero])
    (fun t h j => by rw [outsAt0_B m c t h]; frame_out; rw [pay_dg])
    t ((flush0_5 t).mp hf) _, zero_add]
  have he : (win0_5.blk t).view.emb y = ix2 0 (y 1) := by blk_ext [idx t]
  rw [he]
  refine Eq.trans ?_ (dg_at _ _ _ (y 1)).symm
  refine Fin.sum_mul_add_congr fun s k hl => ?_
  have hN := Gen.N_0
  have ht : t.val / 16 = 0 := by idx_bounds; omega
  blk_point [iblk, V, idx ⟨_, Pipeline.run_point_lt_of_flush t ((flush0_5 t).mp hf) s⟩]

end Cert.Kernel2Ideal.NormValue

end
-- ==== Proof.PreNormClaims.lean ====
/- The claims about the gradient kernel of a pre-norm (call 2), assembled. -/
module

public import proofs.«01_k».proof.Proof.PreNormValue
public import proofs.«01_k».proof.Proof.Gen.Kernel2.Frame
public import proofs.«01_k».proof.Proof.Gen.Kernel2Ideal.Frame
public import Idealize.ShloMosaic.Lib.Claim

@[expose] public section

set_option maxRecDepth 16384

noncomputable section

open Idealize.ShloMosaic Idealize.ShloMosaic.TcCoe Idealize.SL.Sem

namespace Cert.Reference2Ideal

open Cert.Reference2Ideal.Gen Cert.Reference2Ideal.Read

/-- The reference's run: each result is its last stage over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = val_main_v34 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = val_main_v17 (F := Ideal) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (Read.val_main_v34_eq _ _ _ _),
      (h c).2.1.trans (Read.val_main_v17_eq _ _),
      (h c).2.2⟩) (Value.run m ρ)

end Cert.Reference2Ideal

namespace Cert.Kernel2Claims

/-- The reference runs, leaves its arguments as they were and every semaphore at zero. -/
theorem frame_reference : Cert.quiescent_Reference2Ideal := fun m g _ =>
  (θ_run _ _ _).mono (fun r h => ⟨fun c => (h c).2.2, sem_eq_zero_of_no_sems (by decide) r.2⟩)
    (Cert.Reference2Ideal.run_stages m g)

/-- The kernel at the real numbers and the reference leave the same arrays from the same finite arguments. -/
theorem algebraic : Cert.algebraic_Kernel2Ideal_Reference2Ideal_pre_finite2 := fun m g m' g' hp ha =>
  ⟨fun c => Cert.Reference2Ideal.Read.val_main_v34 (F := Ideal)
      (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.Reference2Ideal.Read.val_main_v17 (F := Ideal)
      (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3)),
    (θ_run _ _ _).mono (fun r h c => ⟨(h c).1.trans (Cert.Kernel2Ideal.NormValue.final_dx m c hp),
        (h c).2.1.trans (Cert.Kernel2Ideal.NormValue.final_dg m c),
        (h c).2.2⟩) (Cert.Kernel2Ideal.Value.run_blocks m g),
    (θ_run _ _ _).mono (fun r h c => ⟨(h c).1.trans (by rw [(ha c).1, (ha c).2.1, (ha c).2.2.1, (ha c).2.2.2]),
        (h c).2.1.trans (by rw [(ha c).1, (ha c).2.2.2]),
        (h c).2.2⟩) (Cert.Reference2Ideal.run_stages m' g')⟩

/-- The frames of the two programs and of the reference. -/
theorem frames : Cert.quiescent_Kernel2 ∧ Cert.quiescent_Kernel2Ideal ∧ Cert.quiescent_Kernel2Ideal_pre_finite2 ∧ Cert.quiescent_Reference2Ideal
    ∧ Cert.quiescent_Reference2Ideal_pre_finite2 :=
  ⟨fun m g _ => Cert.Kernel2.Gen.frame m g, fun m g _ => Cert.Kernel2Ideal.Gen.frame m g, fun m g _ => Cert.Kernel2Ideal.Gen.frame m g,
    frame_reference, fun m g _ => frame_reference m g trivial⟩

end Cert.Kernel2Claims

end
-- ==== Proof.LossValue.lean ====
/- The call that multiplies by the output projection, normalises, and computes the loss with its gradients (call 3), at the
   real numbers: the four arrays it leaves are the ones `jax.value_and_grad` of the reference's lines computes, wherever its
   arguments are finite. -/
module

public import proofs.«01_k».proof.Proof.NormMath
public import proofs.«01_k».proof.Defs
public import proofs.«01_k».proof.Proof.Gen.Pre_finite3
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Kernel3Ideal.LossValue

open Cert.Kernel3Ideal Cert.Kernel3Ideal.Gen Cert.Reference3Ideal.Read

/-- The printed factor of the loss is the real number 1/2. -/
theorem lit_half : Ideal.ofBits .f32 1056964608#32 = ((1 / 2 : ℝ) : EReal) := by
  simp [Ideal.ofBits, Ideal.ieee, -EReal.coe_mul]; norm_num

theorem lit_one : Ideal.ofBits .f32 1065353216#32 = ((1 : ℝ) : EReal) := by
  simp [Ideal.ofBits, Ideal.ieee, -EReal.coe_mul]; norm_num

theorem lit_two : Ideal.ofBits .f32 1073741824#32 = ((2 : ℝ) : EReal) := by
  simp [Ideal.ofBits, Ideal.ieee, -EReal.coe_mul]; norm_num

/-- The printed factor of the error's gradient is the real number 1/2048. -/
theorem lit_inv : Ideal.ofBits .f32 973078528#32 = ((1 / 2048 : ℝ) : EReal) := by
  simp [Ideal.ofBits, Ideal.ieee, -EReal.coe_mul]; norm_num

/-- A half goes through any sum, infinite terms or not. -/
theorem half_sum {ι : Type*} (s : Finset ι) (f : ι → EReal) :
    Ideal.ofBits .f32 1056964608#32 * ∑ k ∈ s, f k = ∑ k ∈ s, Ideal.ofBits .f32 1056964608#32 * f k := by
  classical
  rw [lit_half]
  induction s using Finset.induction_on with
  | empty => simp
  | insert a s h ih => rw [Finset.sum_insert h, Finset.sum_insert h, EReal.left_distrib_of_nonneg_of_ne_top (by norm_num) (EReal.coe_ne_top _), ih]

/-- The derivative of half the mean square, as `jax.value_and_grad` multiplies it out. -/
theorem scale (e : EReal) :
    Ideal.div (Ideal.ofBits .f32 1056964608#32 * Ideal.ofBits .f32 1065353216#32) (Ideal.ofBits .f32 1157627904#32)
        * (Ideal.ofBits .f32 1073741824#32 * e) = e * Ideal.ofBits .f32 973078528#32 := by
  rw [lit_half, lit_one, lit_two, lit_inv, NormMath.lit_2048, Ideal.div_coe (by norm_num), ← mul_assoc, mul_comm e]
  simp only [← EReal.coe_mul]
  norm_num

section reference

variable (u : FVec Ideal S4096x2048 .f32) (w : FVec Ideal S2048x2048 .f32) (x : FVec Ideal S4096x2048 .f32)
  (g : FVec Ideal S1x2048 .f32) (t : FVec Ideal S4096x2048 .f32)

/-- The error the loss squares, entry by entry, over the product's rows. -/
theorem err_at (r : Fin 4096) (d : Fin 2048) :
    val_main_v17 (F := Ideal) u w x g t (ix2 r d)
      = x (ix2 r d) + val_main_v0 (F := Ideal) u w (ix2 r d) * NormMath.rs (fun k => val_main_v0 (F := Ideal) u w (ix2 r k))
          * g (ix2 0 d) - t (ix2 r d) := by
  pointwise [val_main_v17, val_main_v16, val_main_v15, val_main_v13, val_main_v12, val_main_v8, val_main_v7,
    val_main_v5, val_main_v3, val_main_v2, val_main_v1, val_main_cst, val_main_v4, val_main_cst_0, val_main_v6,
    val_main_cst_1, val_main_v14]

/-- The gradient of the residual stream is the error over the row's length. -/
theorem dx_at (r : Fin 4096) (d : Fin 2048) :
    val_main_v31 (F := Ideal) u w x g t (ix2 r d)
      = val_main_v17 (F := Ideal) u w x g t (ix2 r d) * Ideal.ofBits .f32 973078528#32 := by
  refine Eq.trans ?_ (scale _)
  pointwise [val_main_v31, val_main_v30, val_main_v29, val_main_v27, val_main_v26, val_main_cst_8, val_main_cst_9,
    val_main_v28, val_main_cst_10, val_main_v20, val_main_v19, val_main_cst_3]

/-- The gradient of the gain, summed over the rows. -/
theorem dg_at (r : Fin 1) (d : Fin 2048) :
    val_main_v34 (F := Ideal) u w x g t (ix2 r d)
      = ∑ k : Fin 4096, val_main_v31 (F := Ideal) u w x g t (ix2 k d) * (val_main_v0 (F := Ideal) u w (ix2 k d)
          * NormMath.rs (fun l => val_main_v0 (F := Ideal) u w (ix2 k l))) := by
  refine Eq.trans ?_ (Finset.sum_congr rfl fun k _ => mul_comm (val_main_v0 (F := Ideal) u w (ix2 k d)
    * NormMath.rs (fun l => val_main_v0 (F := Ideal) u w (ix2 k l))) (val_main_v31 (F := Ideal) u w x g t (ix2 k d)))
  pointwise [val_main_v34, val_main_v33, val_main_v32, val_main_v13, val_main_v12, val_main_v8, val_main_v7,
    val_main_v5, val_main_v3, val_main_v2, val_main_v1, val_main_cst, val_main_v4, val_main_cst_0, val_main_v6,
    val_main_cst_1, val_main_cst_11]

/-- The loss, every entry of the block it fills: half of each row's mean squared error, summed. -/
theorem loss_at (a : Fin 8) (b : Fin 128) :
    val_main_v52 (F := Ideal) u w x g t (ix2 a b)
      = ∑ k : Fin 4096, Ideal.ofBits .f32 1056964608#32 * Ideal.div (∑ l : Fin 2048, val_main_v17 (F := Ideal) u w x g t (ix2 k l)
          * val_main_v17 (F := Ideal) u w x g t (ix2 k l)) (Ideal.ofBits .f32 1157627904#32) := by
  rw [← half_sum]
  pointwise [val_main_v52, val_main_v25, val_main_cst_7, val_main_v24, val_main_v23, val_main_v21, val_main_v18,
    val_main_cst_4, val_main_v22, val_main_cst_5, val_main_cst_6]

variable (h : Cert.Pre_finite3.fn (F := Ideal) u w x g t = fun _ => 1#1)

include h

/-- Where the precondition holds, every entry of every argument is a real number. -/
theorem pre_at (r : Fin 4096) (d : Fin 2048) :
    (∀ i, NormMath.Finite (u i)) ∧ (∀ i, NormMath.Finite (w i)) ∧ NormMath.Finite (x (ix2 r d)) ∧ NormMath.Finite (g (ix2 0 d))
      ∧ NormMath.Finite (t (ix2 r d)) := by
  have p := congrFun h (ix2 r d)
  pointwise [Cert.Pre_finite3.fn, Cert.Pre_finite3.fn_part1] at p
  simp only [NormMath.andi_eq_one, NormMath.fold_andi, NormMath.fin_of_bit] at p
  exact ⟨fun i => by rw [show i = ix2 (i 0) (i 1) by blk_ext]; exact p.1.1.1.1 (i 0, i 1),
    fun i => by rw [show i = ix2 (i 0) (i 1) by blk_ext]; exact p.1.1.1.2 (i 0, i 1), p.1.1.2, p.1.2, p.2⟩

/-- The product is finite. -/
theorem fin_y (r : Fin 4096) (d : Fin 2048) : NormMath.Finite (val_main_v0 (F := Ideal) u w (ix2 r d)) := by
  have p := pre_at u w x g t h r d
  have e : val_main_v0 (F := Ideal) u w (ix2 r d) = ∑ k : Fin 2048, u (ix2 r k) * w (ix2 k d) := by pointwise [val_main_v0]
  rw [e]
  exact NormMath.Finite.sum fun k => (p.1 _).mul (p.2.1 _)

/-- The gradient of the residual stream is finite. -/
theorem fin_dx (r : Fin 4096) (d : Fin 2048) : NormMath.Finite (val_main_v31 (F := Ideal) u w x g t (ix2 r d)) := by
  have p := pre_at u w x g t h r d
  rw [dx_at, err_at, lit_inv]
  exact ((p.2.2.1.add (((fin_y u w x g t h r d).mul (NormMath.fin_rs fun k => fin_y u w x g t h r k)).mul p.2.2.2.1)).sub
    p.2.2.2.2).mul ⟨_, rfl⟩

/-- The reference's gradient of the product, entry by entry. -/
theorem dy_at (r : Fin 4096) (d : Fin 2048) :
    val_main_v51 (F := Ideal) u w x g t (ix2 r d)
      = NormMath.closed (fun k => val_main_v0 (F := Ideal) u w (ix2 r k))
          (fun k => val_main_v31 (F := Ideal) u w x g t (ix2 r k) * g (ix2 0 k)) d := by
  refine Eq.trans ?_ (NormMath.grad (fun k => val_main_v0 (F := Ideal) u w (ix2 r k))
    (fun k => val_main_v31 (F := Ideal) u w x g t (ix2 r k) * g (ix2 0 k)) (fun k => fin_y u w x g t h r k)
    (fun k => (fin_dx u w x g t h r k).mul (pre_at u w x g t h r k).2.2.2.1) d)
  pointwise [val_main_v51, val_main_v50, val_main_v48, val_main_v41, val_main_v36, val_main_v35, val_main_v40,
    val_main_v8, val_main_v7, val_main_v5, val_main_v3, val_main_v2, val_main_v1, val_main_cst, val_main_v4,
    val_main_cst_0, val_main_v6, val_main_cst_1, val_main_v47, val_main_v46, val_main_v45, val_main_v44, val_main_v42,
    val_main_v39, val_main_v38, val_main_v37, val_main_cst_12, val_main_v11, val_main_v10, val_main_cst_2,
    val_main_v9, val_main_v43, val_main_cst_13, val_main_cst_14, val_main_v49]

end reference

section payloads

variable (u : Vec Ideal S256x2048 .bf16) (w : Vec Ideal S2048x2048 .bf16) (x : Vec Ideal S256x2048 .f32)
  (g : Vec Ideal S1x2048 .f32) (t : Vec Ideal S256x2048 .f32)

/-- A row of the product of half a point's rows. -/
abbrev Y (r : Fin 256) (d : Fin 2048) : EReal := ∑ k : Fin 2048, u (ix2 r k) * w (ix2 k d)

/-- A row of the error. -/
abbrev Err (r : Fin 256) (d : Fin 2048) : EReal := x (ix2 r d) + Y u w r d * NormMath.rs (Y u w r) * g (ix2 0 d) - t (ix2 r d)

theorem pay_err (r : Fin 256) (d : Fin 2048) : k0_pay7 g u w x t (ix2 r d) = Err u w x g t r d := by
  pointwise [k0_pay7, k0_pay6, k0_pay5, k0_pay4]

theorem pay_err' (r : Fin 256) (d : Fin 2048) :
    k0_pay18 g (k0_pay14 u w) (k0_pay15 u w) x t (ix2 r d) = Err u w x g t r d := by
  pointwise [k0_pay18, k0_pay17, k0_pay16, k0_pay15, k0_pay14]

theorem pay_dx (r : Fin 256) (d : Fin 2048) :
    k0_pay11 (k0_pay7 g u w x t) (ix2 r d) = Err u w x g t r d * Ideal.ofBits .f32 973078528#32 := by
  pointwise [k0_pay11, k0_pay7, k0_pay6, k0_pay5, k0_pay4]

theorem pay_dx' (r : Fin 256) (d : Fin 2048) :
    k0_pay20 g (k0_pay14 u w) (k0_pay15 u w) x t (ix2 r d) = Err u w x g t r d * Ideal.ofBits .f32 973078528#32 := by
  pointwise [k0_pay20, k0_pay18, k0_pay17, k0_pay16, k0_pay15, k0_pay14]

theorem pay_dy (r : Fin 256) (d : Fin 2048) :
    k0_pay13 g (k0_pay5 u w) (k0_pay6 u w) (k0_pay7 g u w x t) (ix2 r d)
      = NormMath.closed (Y u w r) (fun k => Err u w x g t r k * Ideal.ofBits .f32 973078528#32 * g (ix2 0 k)) d := by
  pointwise [k0_pay13, k0_pay11, k0_pay7, k0_pay6, k0_pay5, k0_pay4]

theorem pay_dy' (r : Fin 256) (d : Fin 2048) :
    k0_pay1 g (k0_pay16 (k0_pay15 u w)) (k0_pay17 (k0_pay14 u w) (k0_pay15 u w))
        (k0_pay20 g (k0_pay14 u w) (k0_pay15 u w) x t) (ix2 r d)
      = NormMath.closed (Y u w r) (fun k => Err u w x g t r k * Ideal.ofBits .f32 973078528#32 * g (ix2 0 k)) d := by
  pointwise [k0_pay1, k0_pay20, k0_pay18, k0_pay17, k0_pay16, k0_pay15, k0_pay14]

theorem pay_dg (acc : Vec Ideal S1x2048 .f32) (j : S1x2048.Idx) :
    k0_pay12 (k0_pay6 u w) (k0_pay7 g u w x t) acc j
      = acc j + ∑ k : Fin 256, Err u w x g t k (j 1) * Ideal.ofBits .f32 973078528#32 * (Y u w k (j 1) * NormMath.rs (Y u w k)) := by
  pointwise [k0_pay12, k0_pay11, k0_pay7, k0_pay6, k0_pay5, k0_pay4]

theorem pay_dg' (acc : Vec Ideal S1x2048 .f32) (j : S1x2048.Idx) :
    k0_pay21 g (k0_pay14 u w) (k0_pay15 u w) x t acc j
      = acc j + ∑ k : Fin 256, Err u w x g t k (j 1) * Ideal.ofBits .f32 973078528#32 * (Y u w k (j 1) * NormMath.rs (Y u w k)) := by
  pointwise [k0_pay21, k0_pay20, k0_pay18, k0_pay17, k0_pay16, k0_pay15, k0_pay14]

theorem pay_loss (acc : Vec Ideal S8x128 .f32) (j : S8x128.Idx) :
    k0_pay10 (k0_pay8 acc) (k0_pay9 g u w x t) (FloatOps.ofBits FTy.f32 1056964608#32) j
      = acc j + ∑ k : Fin 256, Ideal.ofBits .f32 1056964608#32
          * Ideal.div (∑ l : Fin 2048, Err u w x g t k l * Err u w x g t k l) (Ideal.ofBits .f32 1157627904#32) := by
  rw [← half_sum]
  pointwise [k0_pay10, k0_pay9, k0_pay8, k0_pay7, k0_pay6, k0_pay5, k0_pay4]
  simp only [Finset.univ_unique, Finset.sum_singleton]

theorem pay_loss' (acc : Vec Ideal S8x128 .f32) (j : S8x128.Idx) :
    k0_pay19 g (k0_pay14 u w) (k0_pay15 u w) x t acc j
      = acc j + ∑ k : Fin 256, Ideal.ofBits .f32 1056964608#32
          * Ideal.div (∑ l : Fin 2048, Err u w x g t k l * Err u w x g t k l) (Ideal.ofBits .f32 1157627904#32) := by
  rw [← half_sum]
  pointwise [k0_pay19, k0_pay18, k0_pay17, k0_pay16, k0_pay15, k0_pay14]
  simp only [Finset.univ_unique, Finset.sum_singleton]

theorem pay_zero (j : S1x2048.Idx) : k0_pay2 (F := Ideal) j = 0 := by pointwise [k0_pay2]

theorem pay_zero' (j : S8x128.Idx) : k0_pay3 (F := Ideal) j = 0 := by pointwise [k0_pay3]

end payloads

variable (m : (ℓ : Loc nD τ sig) → Buf (Elt Ideal) ℓ)

/-- Where each window's block lies at a grid point: 512 rows at a time, the weights, the gain, its gradient and the loss whole. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, _)

/-- The arguments as the memory holds them. -/
abbrev A0 (c : Dev nD) : FVec Ideal S4096x2048 .f32 := m ((c : Thread nD τ).loc main_arg0)
abbrev A1 (c : Dev nD) : FVec Ideal S2048x2048 .f32 := m ((c : Thread nD τ).loc main_arg1)
abbrev A2 (c : Dev nD) : FVec Ideal S4096x2048 .f32 := m ((c : Thread nD τ).loc main_arg2)
abbrev A3 (c : Dev nD) : FVec Ideal S1x2048 .f32 := m ((c : Thread nD τ).loc main_arg3)
abbrev A4 (c : Dev nD) : FVec Ideal S4096x2048 .f32 := m ((c : Thread nD τ).loc main_arg4)

/-- The host's casts keep the real numbers. -/
theorem entry_u (c : Dev nD) (i : S4096x2048.Idx) : V m c main_v0 i = A0 m c i := by
  entry_read
  rfl

theorem entry_w (c : Dev nD) (i : S2048x2048.Idx) : V m c main_v1 i = A1 m c i := by
  entry_read
  rfl

/-- The rows a point holds, in halves of 256. -/
abbrev lo : Rect S512x2048 := Rect.unit ![0, 0] ![256, 2048] inb_S512x2048_S256x2048_0_0
abbrev hi : Rect S512x2048 := Rect.unit ![256, 0] ![256, 2048] inb_S512x2048_S256x2048_256_0

section rows

variable (c : Dev nD) (t : Fin cfg0.N) (r : Fin 256) (d : Fin 2048)

/-- The product's rows of a point's first half are the reference's … -/
theorem rows_lo (hr : t.val * 512 + r.val < 4096) :
    Y (View.ld (iblk m c 0 t) lo) (iblk m c 1 t) r
      = fun d => val_main_v0 (F := Ideal) (A0 m c) (A1 m c) (ix2 ⟨t.val * 512 + r.val, hr⟩ d) := by
  funext d
  refine Eq.trans ?_ (show _ = ∑ k : Fin 2048, A0 m c (ix2 ⟨t.val * 512 + r.val, hr⟩ k) * A1 m c (ix2 k d) by
    pointwise [val_main_v0]).symm
  refine Finset.sum_congr rfl fun k _ => ?_
  rw [← entry_u, ← entry_w]
  blk_point [iblk, idx t]

/-- … and so are the second half's. -/
theorem rows_hi (hr : t.val * 512 + (256 + r.val) < 4096) :
    Y (View.ld (iblk m c 0 t) hi) (iblk m c 1 t) r
      = fun d => val_main_v0 (F := Ideal) (A0 m c) (A1 m c) (ix2 ⟨t.val * 512 + (256 + r.val), hr⟩ d) := by
  funext d
  refine Eq.trans ?_ (show _ = ∑ k : Fin 2048, A0 m c (ix2 ⟨t.val * 512 + (256 + r.val), hr⟩ k) * A1 m c (ix2 k d) by
    pointwise [val_main_v0]).symm
  refine Finset.sum_congr rfl fun k _ => ?_
  rw [← entry_u, ← entry_w]
  blk_point [iblk, idx t]

/-- The error's rows of a point's first half are the reference's … -/
theorem err_lo (hr : t.val * 512 + r.val < 4096) :
    Err (View.ld (iblk m c 0 t) lo) (iblk m c 1 t) (View.ld (iblk m c 2 t) lo) (iblk m c 3 t) (View.ld (iblk m c 4 t) lo) r d
      = val_main_v17 (F := Ideal) (A0 m c) (A1 m c) (A2 m c) (A3 m c) (A4 m c) (ix2 ⟨t.val * 512 + r.val, hr⟩ d) := by
  rw [Err, rows_lo m c t r hr, err_at]
  blk_point [iblk, V, idx t]

/-- … and so are the second half's. -/
theorem err_hi (hr : t.val * 512 + (256 + r.val) < 4096) :
    Err (View.ld (iblk m c 0 t) hi) (iblk m c 1 t) (View.ld (iblk m c 2 t) hi) (iblk m c 3 t) (View.ld (iblk m c 4 t) hi) r d
      = val_main_v17 (F := Ideal) (A0 m c) (A1 m c) (A2 m c) (A3 m c) (A4 m c) (ix2 ⟨t.val * 512 + (256 + r.val), hr⟩ d) := by
  rw [Err, rows_hi m c t r hr, err_at]
  blk_point [iblk, V, idx t]

/-- The residual stream's gradient, a point's first half of it … -/
theorem dx_lo (hr : t.val * 512 + r.val < 4096) :
    k0_pay11 (k0_pay7 (iblk m c 3 t) (View.ld (iblk m c 0 t) lo) (iblk m c 1 t) (View.ld (iblk m c 2 t) lo) (View.ld (iblk m c 4 t) lo)) (ix2 r d)
      = val_main_v31 (F := Ideal) (A0 m c) (A1 m c) (A2 m c) (A3 m c) (A4 m c) (ix2 ⟨t.val * 512 + r.val, hr⟩ d) :=
  (pay_dx _ _ _ _ _ r d).trans (by rw [err_lo m c t r d hr, dx_at])

/-- … and the second half. -/
theorem dx_hi (hr : t.val * 512 + (256 + r.val) < 4096) :
    k0_pay20 (iblk m c 3 t) (k0_pay14 (View.ld (iblk m c 0 t) hi) (iblk m c 1 t)) (k0_pay15 (View.ld (iblk m c 0 t) hi) (iblk m c 1 t)) (View.ld (iblk m c 2 t) hi) (View.ld (iblk m c 4 t) hi) (ix2 r d)
      = val_main_v31 (F := Ideal) (A0 m c) (A1 m c) (A2 m c) (A3 m c) (A4 m c) (ix2 ⟨t.val * 512 + (256 + r.val), hr⟩ d) :=
  (pay_dx' _ _ _ _ _ r d).trans (by rw [err_hi m c t r d hr, dx_at])

/-- The product's gradient, a point's first half of it … -/
theorem dy_lo (h : Pre_Kernel3Ideal_finite3 m) (hr : t.val * 512 + r.val < 4096) :
    k0_pay13 (iblk m c 3 t) (k0_pay5 (View.ld (iblk m c 0 t) lo) (iblk m c 1 t)) (k0_pay6 (View.ld (iblk m c 0 t) lo) (iblk m c 1 t)) (k0_pay7 (iblk m c 3 t) (View.ld (iblk m c 0 t) lo) (iblk m c 1 t) (View.ld (iblk m c 2 t) lo) (View.ld (iblk m c 4 t) lo)) (ix2 r d)
      = val_main_v51 (F := Ideal) (A0 m c) (A1 m c) (A2 m c) (A3 m c) (A4 m c) (ix2 ⟨t.val * 512 + r.val, hr⟩ d) := by
  refine (pay_dy _ _ _ _ _ r d).trans (Eq.trans ?_ (dy_at _ _ _ _ _ (h c) _ d).symm)
  simp only [fun k => err_lo m c t r k hr, rows_lo m c t r hr, dx_at]
  blk_point [iblk, V, idx t]

/-- … and the second half. -/
theorem dy_hi (h : Pre_Kernel3Ideal_finite3 m) (hr : t.val * 512 + (256 + r.val) < 4096) :
    k0_pay1 (iblk m c 3 t) (k0_pay16 (k0_pay15 (View.ld (iblk m c 0 t) hi) (iblk m c 1 t))) (k0_pay17 (k0_pay14 (View.ld (iblk m c 0 t) hi) (iblk m c 1 t)) (k0_pay15 (View.ld (iblk m c 0 t) hi) (iblk m c 1 t)))
        (k0_pay20 (iblk m c 3 t) (k0_pay14 (View.ld (iblk m c 0 t) hi) (iblk m c 1 t)) (k0_pay15 (View.ld (iblk m c 0 t) hi) (iblk m c 1 t)) (View.ld (iblk m c 2 t) hi) (View.ld (iblk m c 4 t) hi)) (ix2 r d)
      = val_main_v51 (F := Ideal) (A0 m c) (A1 m c) (A2 m c) (A3 m c) (A4 m c) (ix2 ⟨t.val * 512 + (256 + r.val), hr⟩ d) := by
  refine (pay_dy' _ _ _ _ _ r d).trans (Eq.trans ?_ (dy_at _ _ _ _ _ (h c) _ d).symm)
  simp only [fun k => err_hi m c t r k hr, rows_hi m c t r hr, dx_at]
  blk_point [iblk, V, idx t]

end rows

/-- What a point leaves in the block of the residual stream's gradient is the reference's rows. -/
theorem point_dx (c : Dev nD) (t : Fin cfg0.N) (y : S512x2048.Idx) (hb : t.val * 512 + (y 0).val < 4096) :
    (outsAt0 m c t.val t.isLt).2.1 y
      = val_main_v31 (F := Ideal) (A0 m c) (A1 m c) (A2 m c) (A3 m c) (A4 m c) (ix2 ⟨t.val * 512 + (y 0).val, hb⟩ (y 1)) := by
  by_cases h0 : t.val % 8 = 0
  · rw [outsAt0_A m c t h0]; frame_out
    canon_tiles x h
    · exact (congrArg _ (show x = ix2 (x 0) (x 1) by blk_ext)).trans ((dx_hi m c t (x 0) (x 1) (by omega)).trans
        (congrArg (val_main_v31 (F := Ideal) (A0 m c) (A1 m c) (A2 m c) (A3 m c) (A4 m c)) (by blk_ext)))
    · exact (congrArg _ (show x = ix2 (x 0) (x 1) by blk_ext)).trans ((dx_lo m c t (x 0) (x 1) (by omega)).trans
        (congrArg (val_main_v31 (F := Ideal) (A0 m c) (A1 m c) (A2 m c) (A3 m c) (A4 m c)) (by blk_ext)))
  · rw [outsAt0_B m c t h0]; frame_out
    canon_tiles x h
    · exact (congrArg _ (show x = ix2 (x 0) (x 1) by blk_ext)).trans ((dx_hi m c t (x 0) (x 1) (by omega)).trans
        (congrArg (val_main_v31 (F := Ideal) (A0 m c) (A1 m c) (A2 m c) (A3 m c) (A4 m c)) (by blk_ext)))
    · exact (congrArg _ (show x = ix2 (x 0) (x 1) by blk_ext)).trans ((dx_lo m c t (x 0) (x 1) (by omega)).trans
        (congrArg (val_main_v31 (F := Ideal) (A0 m c) (A1 m c) (A2 m c) (A3 m c) (A4 m c)) (by blk_ext)))

/-- What a point leaves in the block of the product's gradient is the reference's rows. -/
theorem point_dy (c : Dev nD) (hp : Pre_Kernel3Ideal_finite3 m) (t : Fin cfg0.N) (y : S512x2048.Idx) (hb : t.val * 512 + (y 0).val < 4096) :
    (outsAt0 m c t.val t.isLt).1 y
      = val_main_v51 (F := Ideal) (A0 m c) (A1 m c) (A2 m c) (A3 m c) (A4 m c) (ix2 ⟨t.val * 512 + (y 0).val, hb⟩ (y 1)) := by
  by_cases h0 : t.val % 8 = 0
  · rw [outsAt0_A m c t h0]; frame_out
    canon_tiles x h
    · exact (congrArg _ (show x = ix2 (x 0) (x 1) by blk_ext)).trans ((dy_hi m c t (x 0) (x 1) hp (by omega)).trans
        (congrArg (val_main_v51 (F := Ideal) (A0 m c) (A1 m c) (A2 m c) (A3 m c) (A4 m c)) (by blk_ext)))
    · exact (congrArg _ (show x = ix2 (x 0) (x 1) by blk_ext)).trans ((dy_lo m c t (x 0) (x 1) hp (by omega)).trans
        (congrArg (val_main_v51 (F := Ideal) (A0 m c) (A1 m c) (A2 m c) (A3 m c) (A4 m c)) (by blk_ext)))
  · rw [outsAt0_B m c t h0]; frame_out
    canon_tiles x h
    · exact (congrArg _ (show x = ix2 (x 0) (x 1) by blk_ext)).trans ((dy_hi m c t (x 0) (x 1) hp (by omega)).trans
        (congrArg (val_main_v51 (F := Ideal) (A0 m c) (A1 m c) (A2 m c) (A3 m c) (A4 m c)) (by blk_ext)))
    · exact (congrArg _ (show x = ix2 (x 0) (x 1) by blk_ext)).trans ((dy_lo m c t (x 0) (x 1) hp (by omega)).trans
        (congrArg (val_main_v51 (F := Ideal) (A0 m c) (A1 m c) (A2 m c) (A3 m c) (A4 m c)) (by blk_ext)))

/-- After the run the array of the residual stream's gradient is the reference's. -/
theorem final_dx (c : Dev nD) :
    (dats m 0 c).arrAt 6 cfg0.N = val_main_v31 (F := Ideal) (A0 m c) (A1 m c) (A2 m c) (A3 m c) (A4 m c) := by
  refine (dats m 0 c).arrAt_eq_of_covers 6 _ (by decide +kernel) fun t _ y => ?_
  blk_simp
  rw [after0_6]
  have hN := Gen.N_0
  have hb : t.val * 512 + (y 0).val < 4096 := by idx_bounds; omega
  have he : (win0_6.blk t).view.emb y = ix2 ⟨t.val * 512 + (y 0).val, hb⟩ (y 1) := by blk_ext [idx t]
  rw [he]
  exact point_dx m c t y hb

/-- After the run the array of the product's gradient is the reference's. -/
theorem final_dy (c : Dev nD) (h : Pre_Kernel3Ideal_finite3 m) :
    (dats m 0 c).arrAt 5 cfg0.N = val_main_v51 (F := Ideal) (A0 m c) (A1 m c) (A2 m c) (A3 m c) (A4 m c) := by
  refine (dats m 0 c).arrAt_eq_of_covers 5 _ (by decide +kernel) fun t _ y => ?_
  blk_simp
  rw [after0_5]
  have hN := Gen.N_0
  have hb : t.val * 512 + (y 0).val < 4096 := by idx_bounds; omega
  have he : (win0_5.blk t).view.emb y = ix2 ⟨t.val * 512 + (y 0).val, hb⟩ (y 1) := by blk_ext [idx t]
  rw [he]
  exact point_dy m c h t y hb

/-- The sums over a point's two halves are the sum over its rows. -/
theorem halves (a : EReal) (G : Fin 512 → EReal) :
    a + (∑ k : Fin 256, G ⟨k.val, by omega⟩) + ∑ k : Fin 256, G ⟨256 + k.val, by omega⟩ = a + ∑ k : Fin 512, G k := by
  rw [Fin.sum_univ_add (a := 256) (b := 256) G, add_assoc]; rfl

/-- A row's term of the gain's gradient, as the reference computes it. -/
abbrev gainTerm (c : Dev nD) (k : Fin 4096) (d : Fin 2048) : EReal :=
  val_main_v31 (F := Ideal) (A0 m c) (A1 m c) (A2 m c) (A3 m c) (A4 m c) (ix2 k d) * (val_main_v0 (F := Ideal) (A0 m c) (A1 m c) (ix2 k d) * NormMath.rs (fun l => val_main_v0 (F := Ideal) (A0 m c) (A1 m c) (ix2 k l)))

/-- A row's term of the loss. -/
abbrev lossTerm (c : Dev nD) (k : Fin 4096) : EReal :=
  Ideal.ofBits .f32 1056964608#32 * Ideal.div (∑ l : Fin 2048, val_main_v17 (F := Ideal) (A0 m c) (A1 m c) (A2 m c) (A3 m c) (A4 m c) (ix2 k l)
    * val_main_v17 (F := Ideal) (A0 m c) (A1 m c) (A2 m c) (A3 m c) (A4 m c) (ix2 k l)) (Ideal.ofBits .f32 1157627904#32)

theorem row_lt (t : Fin cfg0.N) (k : Fin 512) : t.val * 512 + k.val < 4096 := by
  have h : t.val < 8 := lt_of_lt_of_eq t.isLt Gen.N_0
  omega

/-- A point adds its rows' terms to the gain's gradient. -/
theorem step_dg (c : Dev nD) (t : Fin cfg0.N) (acc : Vec Ideal S1x2048 .f32) (j : S1x2048.Idx) :
    k0_pay21 (iblk m c 3 t) (k0_pay14 (View.ld (iblk m c 0 t) hi) (iblk m c 1 t)) (k0_pay15 (View.ld (iblk m c 0 t) hi) (iblk m c 1 t)) (View.ld (iblk m c 2 t) hi) (View.ld (iblk m c 4 t) hi) (k0_pay12 (k0_pay6 (View.ld (iblk m c 0 t) lo) (iblk m c 1 t)) (k0_pay7 (iblk m c 3 t) (View.ld (iblk m c 0 t) lo) (iblk m c 1 t) (View.ld (iblk m c 2 t) lo) (View.ld (iblk m c 4 t) lo)) acc) j
      = acc j + ∑ k : Fin 512, gainTerm m c ⟨t.val * 512 + k.val, row_lt t k⟩ (j 1) := by
  refine ((pay_dg' _ _ _ _ _ _ j).trans (congrArg (· + _) (pay_dg _ _ _ _ _ acc j))).trans (Eq.trans ?_
    (halves (acc j) fun k => gainTerm m c ⟨t.val * 512 + k.val, row_lt t k⟩ (j 1)))
  refine congrArg₂ (· + ·) (congrArg (acc j + ·) (Finset.sum_congr rfl fun k _ => ?_)) (Finset.sum_congr rfl fun k _ => ?_)
  · rw [err_lo m c t k (j 1) (row_lt t ⟨k.val, by omega⟩), rows_lo m c t k (row_lt t ⟨k.val, by omega⟩)]
    exact congrArg (· * _) (dx_at _ _ _ _ _ _ _).symm
  · rw [err_hi m c t k (j 1) (row_lt t ⟨256 + k.val, by omega⟩), rows_hi m c t k (row_lt t ⟨256 + k.val, by omega⟩)]
    exact congrArg (· * _) (dx_at _ _ _ _ _ _ _).symm

/-- A point adds its rows' terms to the loss. -/
theorem step_loss (c : Dev nD) (t : Fin cfg0.N) (acc : Vec Ideal S8x128 .f32) (j : S8x128.Idx) :
    k0_pay19 (iblk m c 3 t) (k0_pay14 (View.ld (iblk m c 0 t) hi) (iblk m c 1 t)) (k0_pay15 (View.ld (iblk m c 0 t) hi) (iblk m c 1 t)) (View.ld (iblk m c 2 t) hi) (View.ld (iblk m c 4 t) hi)
        (k0_pay10 (k0_pay8 acc) (k0_pay9 (iblk m c 3 t) (View.ld (iblk m c 0 t) lo) (iblk m c 1 t) (View.ld (iblk m c 2 t) lo) (View.ld (iblk m c 4 t) lo)) (FloatOps.ofBits FTy.f32 1056964608#32)) j
      = acc j + ∑ k : Fin 512, lossTerm m c ⟨t.val * 512 + k.val, row_lt t k⟩ := by
  refine ((pay_loss' _ _ _ _ _ _ j).trans (congrArg (· + _) (pay_loss _ _ _ _ _ acc j))).trans (Eq.trans ?_
    (halves (acc j) fun k => lossTerm m c ⟨t.val * 512 + k.val, row_lt t k⟩))
  refine congrArg₂ (· + ·) (congrArg (acc j + ·) (Finset.sum_congr rfl fun k _ => ?_)) (Finset.sum_congr rfl fun k _ => ?_)
  · simp only [fun l => err_lo m c t k l (row_lt t ⟨k.val, by omega⟩)]
  · simp only [fun l => err_hi m c t k l (row_lt t ⟨256 + k.val, by omega⟩)]

/-- After the run the array of the gain's gradient is the reference's. -/
theorem final_dg (c : Dev nD) :
    (dats m 0 c).arrAt 7 cfg0.N = val_main_v34 (F := Ideal) (A0 m c) (A1 m c) (A2 m c) (A3 m c) (A4 m c) := by
  refine (dats m 0 c).arrAt_eq_of_covers 7 _ (by decide +kernel) fun t hf y => ?_
  blk_simp
  rw [after0_7, Pipeline.eq_sum_fin_of_reset_step_apply_of_flush (fun n h => (outsAt0 m c n h).2.2.1) 8 (fun _ => 0)
    (fun t j => ∑ k : Fin 512, gainTerm m c ⟨t.val * 512 + k.val, row_lt t k⟩ (j 1))
    (fun t h j => by
      rw [outsAt0_A m c t h]; frame_out
      refine (step_dg m c t (k0_pay2 (F := Ideal)) j).trans ?_
      rw [pay_zero])
    (fun t h j => by rw [outsAt0_B m c t h]; frame_out; exact step_dg m c t _ j)
    t ((flush0_7 t).mp hf) _, zero_add]
  have he : (win0_7.blk t).view.emb y = ix2 0 (y 1) := by blk_ext [idx t]
  rw [he]
  refine Eq.trans ?_ (dg_at _ _ _ _ _ _ (y 1)).symm
  have hN := Gen.N_0
  have ht : t.val / 8 = 0 := by idx_bounds; omega
  refine Fin.sum_mul_add_congr fun s k hl => ?_
  simp only [ht, Nat.mul_zero, Nat.zero_add]
  try rfl

/-- After the run every entry of the loss's block is the reference's loss. -/
theorem final_loss (c : Dev nD) :
    (dats m 0 c).arrAt 8 cfg0.N = val_main_v52 (F := Ideal) (A0 m c) (A1 m c) (A2 m c) (A3 m c) (A4 m c) := by
  refine (dats m 0 c).arrAt_eq_of_covers 8 _ (by decide +kernel) fun t hf y => ?_
  blk_simp
  rw [after0_8, Pipeline.eq_sum_fin_of_reset_step_apply_of_flush (fun n h => (outsAt0 m c n h).2.2.2) 8 (fun _ => 0)
    (fun t _ => ∑ k : Fin 512, lossTerm m c ⟨t.val * 512 + k.val, row_lt t k⟩)
    (fun t h j => by
      rw [outsAt0_A m c t h]; frame_out
      refine (step_loss m c t (k0_pay3 (F := Ideal)) j).trans ?_
      rw [pay_zero'])
    (fun t h j => by rw [outsAt0_B m c t h]; frame_out; exact step_loss m c t _ j)
    t ((flush0_8 t).mp hf) _, zero_add]
  have he : (win0_8.blk t).view.emb y = ix2 (y 0) (y 1) := by blk_ext [idx t]
  rw [he]
  refine Eq.trans ?_ (loss_at _ _ _ _ _ (y 0) (y 1)).symm
  have hN := Gen.N_0
  have ht : t.val / 8 = 0 := by idx_bounds; omega
  refine Fin.sum_mul_add_congr fun s k hl => ?_
  simp only [ht, Nat.mul_zero, Nat.zero_add]
  try rfl

end Cert.Kernel3Ideal.LossValue

end
-- ==== Proof.LossClaims.lean ====
/- The claims about the call that computes the loss and its gradients (call 3), assembled. -/
module

public import proofs.«01_k».proof.Proof.LossValue
public import proofs.«01_k».proof.Proof.Gen.Kernel3.Frame
public import proofs.«01_k».proof.Proof.Gen.Kernel3Ideal.Frame
public import Idealize.ShloMosaic.Lib.Claim

@[expose] public section

set_option maxRecDepth 16384

noncomputable section

open Idealize.ShloMosaic Idealize.ShloMosaic.TcCoe Idealize.SL.Sem

namespace Cert.Reference3Ideal

open Cert.Reference3Ideal.Gen Cert.Reference3Ideal.Read

/-- The reference's run: each result is its last stage over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v31) = val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v34) = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v52) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v51_eq m c),
      (h c).2.1.trans (Read.val_main_v31_eq _ _ _ _ _),
      (h c).2.2.1.trans (Read.val_main_v34_eq _ _ _ _ _),
      (h c).2.2.2.1.trans (Read.val_main_v52_eq _ _ _ _ _),
      (h c).2.2.2.2⟩) (Value.run m ρ)

end Cert.Reference3Ideal

namespace Cert.Kernel3Claims

/-- The reference runs, leaves its arguments as they were and every semaphore at zero. -/
theorem frame_reference : Cert.quiescent_Reference3Ideal := fun m g _ =>
  (θ_run _ _ _).mono (fun r h => ⟨fun c => (h c).2.2.2.2, sem_eq_zero_of_no_sems (by decide) r.2⟩)
    (Cert.Reference3Ideal.run_stages m g)

/-- The kernel at the real numbers and the reference leave the same arrays from the same finite arguments. -/
theorem algebraic : Cert.algebraic_Kernel3Ideal_Reference3Ideal_pre_finite3 := fun m g m' g' hp ha =>
  ⟨fun c => Cert.Reference3Ideal.Read.val_main_v51 (F := Ideal)
      (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    fun c => Cert.Reference3Ideal.Read.val_main_v31 (F := Ideal)
      (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    fun c => Cert.Reference3Ideal.Read.val_main_v34 (F := Ideal)
      (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    fun c => Cert.Reference3Ideal.Read.val_main_v52 (F := Ideal)
      (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    (θ_run _ _ _).mono (fun r h c => ⟨(h c).1.trans (Cert.Kernel3Ideal.LossValue.final_dy m c hp),
        (h c).2.1.trans (Cert.Kernel3Ideal.LossValue.final_dx m c),
        (h c).2.2.1.trans (Cert.Kernel3Ideal.LossValue.final_dg m c),
        (h c).2.2.2.1.trans (Cert.Kernel3Ideal.LossValue.final_loss m c),
        (h c).2.2.2.2⟩) (Cert.Kernel3Ideal.Value.run_blocks m g),
    (θ_run _ _ _).mono (fun r h c => ⟨(h c).1.trans (by rw [(ha c).1, (ha c).2.1, (ha c).2.2.1, (ha c).2.2.2.1, (ha c).2.2.2.2]),
        (h c).2.1.trans (by rw [(ha c).1, (ha c).2.1, (ha c).2.2.1, (ha c).2.2.2.1, (ha c).2.2.2.2]),
        (h c).2.2.1.trans (by rw [(ha c).1, (ha c).2.1, (ha c).2.2.1, (ha c).2.2.2.1, (ha c).2.2.2.2]),
        (h c).2.2.2.1.trans (by rw [(ha c).1, (ha c).2.1, (ha c).2.2.1, (ha c).2.2.2.1, (ha c).2.2.2.2]),
        (h c).2.2.2.2⟩) (Cert.Reference3Ideal.run_stages m' g')⟩

/-- The frames of the two programs and of the reference. -/
theorem frames : Cert.quiescent_Kernel3 ∧ Cert.quiescent_Kernel3Ideal ∧ Cert.quiescent_Kernel3Ideal_pre_finite3 ∧ Cert.quiescent_Reference3Ideal
    ∧ Cert.quiescent_Reference3Ideal_pre_finite3 :=
  ⟨fun m g _ => Cert.Kernel3.Gen.frame m g, fun m g _ => Cert.Kernel3Ideal.Gen.frame m g, fun m g _ => Cert.Kernel3Ideal.Gen.frame m g,
    frame_reference, fun m g _ => frame_reference m g trivial⟩

end Cert.Kernel3Claims

end
-- ==== Proof.OddPieces.lean ====
module

public import Idealize.ShloMosaic.Lib.Pipeline.FrameBody
public import Idealize.ShloMosaic.Lib.Ring
public import Idealize.ShloMosaic.Lib.Pipeline.ValueKit

@[expose] public section

noncomputable section

/-! What a buffer holds after a list of stores into rectangles, read at an index or through a rectangle: the newest store
that reaches the index counts. -/

namespace Cert.Pieces

open Idealize.ShloMosaic Idealize.ShloMosaic.View

variable {Val : EltTy → Type} [∀ e, Nonempty (Val e)] {S : Shape} {e : EltTy}

/-- An index the newest store's rectangle holds reads its payload. -/
theorem canon_hit {off size : Fin S.rank → ℕ} (inb : ∀ a, off a + size a ≤ S.size a)
    (w : (Rect.unit off size inb).shape.Idx → Val e) (L : List (Piece Val S e)) (y : S.Idx) (x : (Rect.unit off size inb).shape.Idx)
    (h : ∀ a, (y a).val = off a + (x a).val) :
    canon (⟨Rect.unit off size inb, w⟩ :: L) y = w x := by
  have hy : (Rect.unit off size inb).emb x = y := by
    funext a
    apply Fin.ext
    rw [h a]
    exact congrArg (off a + ·) (Nat.one_mul _)
  rw [← hy]
  exact canon_cons_emb _ w L x

/-- An index outside it reads what the earlier stores left. -/
theorem canon_miss {off size : Fin S.rank → ℕ} (inb : ∀ a, off a + size a ≤ S.size a)
    (w : (Rect.unit off size inb).shape.Idx → Val e) (L : List (Piece Val S e)) (y : S.Idx) (a : Fin S.rank)
    (h : (y a).val < off a ∨ off a + size a ≤ (y a).val) :
    canon (⟨Rect.unit off size inb, w⟩ :: L) y = canon L y := by
  refine canon_cons_of_not_mem _ L fun hm => ?_
  have := (Rect.mem_set_unit (inb := inb)).mp hm a
  omega

/-- Where the later stores reach, the oldest one does not count. -/
theorem canon_dropLast : ∀ (L : List (Piece Val S e)) (y : S.Idx), (∃ p ∈ L.dropLast, y ∈ p.1.set) → canon L y = canon L.dropLast y
  | [], _, h => by obtain ⟨p, hp, _⟩ := h; simp at hp
  | [_], _, h => by obtain ⟨p, hp, _⟩ := h; simp at hp
  | p :: q :: L, y, h => by
    rw [List.dropLast_cons₂]
    by_cases hm : y ∈ p.1.set
    · obtain ⟨x, rfl⟩ := p.1.exists_idx_of_mem hm
      exact (canon_cons_emb p.1 p.2 _ x).trans (canon_cons_emb p.1 p.2 _ x).symm
    · rw [canon_cons_of_not_mem _ _ hm, canon_cons_of_not_mem _ _ hm]
      obtain ⟨z, hz, hy⟩ := h
      rw [List.dropLast_cons₂, List.mem_cons] at hz
      rcases hz with rfl | hz
      · exact absurd hy hm
      · exact canon_dropLast (q :: L) y ⟨z, hz, hy⟩

variable {sig : RefSig} {κ : Kind} {sp : Space}

/-- A load through a rectangle apart from the newest store's reads what the earlier stores left. -/
theorem readCov_skip (v : View sig κ sp S e) {off size off' size' : Fin S.rank → ℕ} (inb : ∀ a, off a + size a ≤ S.size a)
    (w : (Rect.unit off size inb).shape.Idx → Val e) (L : List (Piece Val S e)) (inb' : ∀ a, off' a + size' a ≤ S.size a)
    (h : ∃ a, off a + size a ≤ off' a ∨ off' a + size' a ≤ off a) :
    v.readCov (⟨Rect.unit off size inb, w⟩ :: L) (Rect.unit off' size' inb').toLoadRect
      = v.readCov L (Rect.unit off' size' inb').toLoadRect := by
  rw [readCov_eq_canon', readCov_eq_canon']
  funext j
  obtain ⟨a, ha⟩ := h
  refine canon_miss inb w L _ a ?_
  have hj : (((Rect.unit off' size' inb').toLoadRect.idx j) a).val = off' a + (j a).val := congrArg (off' a + ·) (Nat.one_mul _)
  have hl : (j a).val < size' a := (j a).isLt
  rw [hj]
  omega

/-- A load through a rectangle inside the newest store's reads its payload there. -/
theorem readCov_inside (v : View sig κ sp S e) {off size off' size' : Fin S.rank → ℕ} (inb : ∀ a, off a + size a ≤ S.size a)
    (w : (Rect.unit off size inb).shape.Idx → Val e) (L : List (Piece Val S e)) (inb' : ∀ a, off' a + size' a ≤ S.size a)
    (h : ∀ a, off a ≤ off' a ∧ off' a + size' a ≤ off a + size a) :
    v.readCov (⟨Rect.unit off size inb, w⟩ :: L) (Rect.unit off' size' inb').toLoadRect
      = fun j => w fun a => ⟨off' a - off a + (j a).val, by
          have := h a; have hj : (j a).val < size' a := (j a).isLt; change _ < size a; omega⟩ := by
  rw [readCov_eq_canon']
  funext j
  refine canon_hit inb w L _ _ fun a => ?_
  have := h a
  have hj : (((Rect.unit off' size' inb').toLoadRect.idx j) a).val = off' a + (j a).val := congrArg (off' a + ·) (Nat.one_mul _)
  rw [hj]
  change _ = off a + (off' a - off a + (j a).val)
  omega

end Cert.Pieces
-- ==== Proof.OddRows.lean ====
module

public import proofs.«01_k».proof.Proof.OddPieces
public import proofs.«01_k».proof.Proof.Gen.Kernel4Ideal.Skeleton
public import proofs.«01_k».proof.Proof.Gen.Kernel4Ideal.Points
public import proofs.«01_k».proof.Proof.Gen.Kernel4Ideal.Launch
public import Idealize.ShloMosaic.Lib.Pointwise
public import Idealize.ShloMosaic.Lib.WordCmp

@[expose] public section

set_option maxRecDepth 16384

noncomputable section

/-! The pooling mixer's backward pass a row at a time, over the extended reals, and the sums over the rows of a window that
the kernel builds by doubling in its two work buffers. -/

namespace Cert.Kernel4Ideal.Odd

open Idealize.ShloMosaic Idealize.ShloMosaic.TcCoe
open Cert.Kernel4Ideal.Gen

/-- A row's product with the group's weights, and the bias. -/
def rowG (p b : Fin 2048 → EReal) (w : Fin 4 → Fin 512 → Fin 512 → EReal) (d : Fin 2048) : EReal :=
  (∑ k : Fin 512, p ⟨d.val / 512 * 512 + k.val, by omega⟩ * w ⟨d.val / 512, by omega⟩ k ⟨d.val % 512, by omega⟩) + b d

/-- A row of the cotangent through the gate. -/
def rowY (z u : Fin 2048 → EReal) (d : Fin 2048) : EReal := u d * (z d * Ideal.logistic (z d))

/-- … and through the scale. -/
def rowA (z u s : Fin 2048 → EReal) (d : Fin 2048) : EReal := rowY z u d * s d

/-- A row of the gate's gradient. -/
def rowZ (p z u b s : Fin 2048 → EReal) (w : Fin 4 → Fin 512 → Fin 512 → EReal) (d : Fin 2048) : EReal :=
  u d * (rowG p b w d * s d) * (Ideal.logistic (z d) * (1 + z d * (1 - Ideal.logistic (z d))))

/-- A row of the pooled differences' gradient, the two halves of its lanes one after the other. -/
def rowP (z u s : Fin 2048 → EReal) (w : Fin 4 → Fin 512 → Fin 512 → EReal) (d : Fin 2048) : EReal :=
  (∑ l : Fin 256, rowA z u s ⟨d.val / 512 * 512 + l.val, by omega⟩ * w ⟨d.val / 512, by omega⟩ ⟨d.val % 512, by omega⟩ ⟨l.val, by omega⟩)
    + ∑ l : Fin 256, rowA z u s ⟨d.val / 512 * 512 + (256 + l.val), by omega⟩ * w ⟨d.val / 512, by omega⟩ ⟨d.val % 512, by omega⟩ ⟨256 + l.val, by omega⟩

/-- The lengths of the four groups' windows. -/
def win (d : ℕ) : ℕ := if d < 512 then 2 else if d < 1024 then 4 else if d < 1536 then 8 else 16

/-- One over the number of rows of the window that ends at row `N`. -/
def inv (N : ℕ) (d : Fin 2048) : EReal := Ideal.div 1 (((min (N + 1) (win d.val) : ℕ) : ℝ) : EReal)

/-- … over the window's rows. -/
def rowE (N : ℕ) (z u s : Fin 2048 → EReal) (w : Fin 4 → Fin 512 → Fin 512 → EReal) (d : Fin 2048) : EReal :=
  rowP z u s w d * inv N d

/-- Row `r` of a block, a block of one row, and the weights, as functions. -/
abbrev rows {n : ℕ} (x : Shape.Idx ⟨2, ![n, 2048]⟩ → EReal) (r : Fin n) : Fin 2048 → EReal := fun d => x (ix2 r d)
abbrev wts (x : Shape.Idx ⟨3, ![4, 512, 512]⟩ → EReal) : Fin 4 → Fin 512 → Fin 512 → EReal := fun g k l => x (ix3 g k l)

/-- Row `i` of the sums' summand as a point sees it: the point's own rows, then the sixteen rows that follow them. -/
def ext (own : Fin 256 → Fin 2048 → EReal) (next : Shape.Idx ⟨2, ![16, 2048]⟩ → EReal) (i : ℕ) (d : Fin 2048) : EReal :=
  if h : i < 256 then own ⟨i, h⟩ d else if h : i - 256 < 16 then next (ix2 ⟨i - 256, h⟩ d) else 0

/-- The word the kernel divides by is the number of rows. -/
theorem inv_word (t : Fin cfg0.N) (r : ℕ) (hr : r < 256) (W : ℕ) (hW : W ≤ 16) (hN : 15 - t.val ≤ 15) :
    Ideal.div 1 (FloatOps.sitofp (F := Ideal) FTy.f32 (IntOp.minsi (IntOp.addi (IntOp.addi
        (Scalar.muli (Scalar.subi 15#32 (BitVec.ofNat 32 (grid0.coords t 0).val)) 256#32) (BitVec.ofNat 32 r)) 1#32) (BitVec.ofNat 32 W)))
      = Ideal.div 1 (((min ((15 - t.val) * 256 + r + 1) W : ℕ) : ℝ) : EReal) := by
  have ht : t.val < 16 := Nat.lt_of_lt_of_eq t.isLt N_0
  have e0 : (grid0.coords t 0).val = t.val / 1 % 16 := Pipeline.Grid.coords_val t 0 (by decide) rfl
  have e1 : (grid0.coords t 0).val = t.val := by omega
  rw [e1]
  have e2 : IntOp.addi (IntOp.addi (Scalar.muli (Scalar.subi 15#32 (BitVec.ofNat 32 t.val)) 256#32) (BitVec.ofNat 32 r)) 1#32
      = BitVec.ofNat 32 ((15 - t.val) * 256 + r + 1) := by
    apply BitVec.eq_of_toNat_eq
    simp only [IntOp.addi, Scalar.muli, Scalar.subi, IntOp.muli, IntOp.subi, BitVec.toNat_add, BitVec.toNat_mul, BitVec.toNat_sub, BitVec.toNat_ofNat]
    omega
  rw [e2]
  have e3 : IntOp.minsi (BitVec.ofNat 32 ((15 - t.val) * 256 + r + 1)) (BitVec.ofNat 32 W) = BitVec.ofNat 32 (min ((15 - t.val) * 256 + r + 1) W) := by
    unfold IntOp.minsi
    have i1 : (BitVec.ofNat 32 ((15 - t.val) * 256 + r + 1)).toInt = (((15 - t.val) * 256 + r + 1 : ℕ) : ℤ) := by
      exact WordCmp.toInt_ofNat_of_lt (by omega)
    have i2 : (BitVec.ofNat 32 W).toInt = ((W : ℕ) : ℤ) := by
      exact WordCmp.toInt_ofNat_of_lt (by omega)
    rw [BitVec.slt, i1, i2]
    by_cases h : (15 - t.val) * 256 + r + 1 < W
    · rw [if_pos (by simpa using Int.ofNat_lt.mpr h), Nat.min_eq_left h.le]
    · rw [if_neg (by simpa using fun e => h (Int.ofNat_lt.mp e)), Nat.min_eq_right (by omega)]
  rw [e3]
  have i3 : (BitVec.ofNat 32 (min ((15 - t.val) * 256 + r + 1) W)).toInt = ((min ((15 - t.val) * 256 + r + 1) W : ℕ) : ℤ) := by
    exact WordCmp.toInt_ofNat_of_lt (by omega)
  refine congrArg (Ideal.div 1) ?_
  change (((BitVec.ofNat 32 (min ((15 - t.val) * 256 + r + 1) W)).toInt : ℝ) : EReal) = _
  rw [i3]
  push_cast
  rfl

/-- A work buffer's stores. -/
abbrev Stores : Type := List (View.Piece (Elt Ideal) S280x2048 .f32)

/-- After the stores the buffer's rows from `lo` to `hi`, in the 512 columns from `col` on, are `f`'s. -/
def HoldsOn (L : Stores) (col lo hi : ℕ) (f : ℕ → Fin 512 → EReal) : Prop :=
  ∀ (i : Fin 280) (k : Fin 512) (d : Fin 2048), lo ≤ i.val → i.val < hi → d.val = col + k.val → View.canon L (ix2 i d) = f i.val k

/-- A store apart from those rows and columns keeps them. -/
theorem HoldsOn.skip {L : Stores} {col lo hi : ℕ} {f : ℕ → Fin 512 → EReal} {a b p q : ℕ}
    {inb : ∀ x, (![a, b] : Fin 2 → ℕ) x + (![p, q] : Fin 2 → ℕ) x ≤ S280x2048.size x}
    {w : (Rect.unit (s := S280x2048) ![a, b] ![p, q] inb).shape.Idx → Elt Ideal .f32} (h : HoldsOn L col lo hi f)
    (hd : col + 512 ≤ b ∨ b + q ≤ col ∨ hi ≤ a ∨ a + p ≤ lo) :
    HoldsOn (⟨Rect.unit (s := S280x2048) ![a, b] ![p, q] inb, w⟩ :: L) col lo hi f := by
  intro i k d h1 h2 h3
  have hk := k.isLt
  rw [← h i k d h1 h2 h3]
  by_cases hr : hi ≤ a ∨ a + p ≤ lo
  · exact Pieces.canon_miss inb w L _ 0 (show i.val < a ∨ a + p ≤ i.val by omega)
  · exact Pieces.canon_miss inb w L _ 1 (show d.val < b ∨ b + q ≤ d.val by omega)

/-- A store of the first `p` rows of those columns. -/
theorem HoldsOn.put {L : Stores} {col p hi : ℕ} {f : ℕ → Fin 512 → EReal}
    {inb : ∀ x, (![0, col] : Fin 2 → ℕ) x + (![p, 512] : Fin 2 → ℕ) x ≤ S280x2048.size x}
    {w : (Rect.unit (s := S280x2048) ![0, col] ![p, 512] inb).shape.Idx → Elt Ideal .f32} (h : HoldsOn L col p hi f)
    (hw : ∀ (i : Fin p) (k : Fin 512), w (ix2 i k) = f i.val k) :
    HoldsOn (⟨Rect.unit (s := S280x2048) ![0, col] ![p, 512] inb, w⟩ :: L) col 0 hi f := by
  intro i k d _ h2 h3
  by_cases hp : i.val < p
  · refine (Pieces.canon_hit inb w L _ (ix2 ⟨i.val, hp⟩ k) fun x => ?_).trans (hw ⟨i.val, hp⟩ k)
    match x with
    | ⟨0, _⟩ => exact (Nat.zero_add _).symm
    | ⟨1, _⟩ => exact h3
  · refine (Pieces.canon_miss inb w L _ 0 (Or.inr ?_)).trans (h i k d (by omega) h2 h3)
    exact show 0 + p ≤ i.val by omega

/-- A load of rows from `a` on of those columns. -/
theorem HoldsOn.load {κ : Kind} {sp : Space} {L : Stores} {col hi : ℕ} {f : ℕ → Fin 512 → EReal} (h : HoldsOn L col 0 hi f)
    (v : View sig κ sp S280x2048 .f32) {a p : ℕ} (inb : ∀ x, (![a, col] : Fin 2 → ℕ) x + (![p, 512] : Fin 2 → ℕ) x ≤ S280x2048.size x)
    (i : Fin p) (k : Fin 512) (hi' : a + i.val < hi) :
    v.readCov L (Rect.unit (s := S280x2048) ![a, col] ![p, 512] inb).toLoadRect (ix2 i k) = f (a + i.val) k := by
  rw [View.readCov_eq_canon']
  have h0 : a + p ≤ 280 := inb 0
  have h1 : col + 512 ≤ 2048 := inb 1
  have e : (Rect.unit (s := S280x2048) ![a, col] ![p, 512] inb).toLoadRect.idx (ix2 i k) = ix2 ⟨a + i.val, by omega⟩ ⟨col + k.val, by omega⟩ := by
    funext x
    match x with
    | ⟨0, _⟩ => exact Fin.ext (congrArg (a + ·) (Nat.one_mul _))
    | ⟨1, _⟩ => exact Fin.ext (congrArg (col + ·) (Nat.one_mul _))
  exact (congrArg _ e).trans (h _ k _ (Nat.zero_le _) hi' rfl)

/-- The sum of `n` rows from row `i` on. -/
def rowsSum (f : ℕ → Fin 512 → EReal) (n : ℕ) (i : ℕ) (k : Fin 512) : EReal := ∑ j ∈ Finset.range n, f (i + j) k

/-- Sums of `n` rows, `n` rows apart, make sums of twice as many. -/
theorem rowsSum_add (f : ℕ → Fin 512 → EReal) (n i : ℕ) (k : Fin 512) :
    rowsSum f n (0 + i) k + rowsSum f n (n + i) k = rowsSum f (n + n) i k := by
  unfold rowsSum
  rw [Finset.sum_range_add]
  refine congrArg₂ (· + ·) (Finset.sum_congr rfl fun j _ => by rw [Nat.zero_add]) (Finset.sum_congr rfl fun j _ => ?_)
  rw [show n + i + j = i + (n + j) by omega]

/-- A buffer of single rows is one of sums of one row. -/
theorem HoldsOn.one {L : Stores} {col hi : ℕ} {f : ℕ → Fin 512 → EReal} (h : HoldsOn L col 0 hi f) : HoldsOn L col 0 hi (rowsSum f 1) := by
  intro i k d h1 h2 h3
  rw [h i k d h1 h2 h3, rowsSum, Finset.sum_range_one, Nat.add_zero]

/-- Two loads of the sums, as many rows apart as a sum has, add up to sums of twice as many rows. -/
theorem HoldsOn.pair {κ : Kind} {sp : Space} {L : Stores} {col hi : ℕ} {f : ℕ → Fin 512 → EReal} (n : ℕ) (h : HoldsOn L col 0 hi (rowsSum f n))
    (v : View sig κ sp S280x2048 .f32) {p : ℕ} (inb : ∀ x, (![0, col] : Fin 2 → ℕ) x + (![p, 512] : Fin 2 → ℕ) x ≤ S280x2048.size x)
    (inb' : ∀ x, (![n, col] : Fin 2 → ℕ) x + (![p, 512] : Fin 2 → ℕ) x ≤ S280x2048.size x)
    (i : Fin p) (k : Fin 512) (hi' : n + i.val < hi) :
    v.readCov L (Rect.unit (s := S280x2048) ![0, col] ![p, 512] inb).toLoadRect (ix2 i k) + v.readCov L (Rect.unit (s := S280x2048) ![n, col] ![p, 512] inb').toLoadRect (ix2 i k)
      = rowsSum f (n + n) i.val k := by
  refine Eq.trans ?_ (rowsSum_add f n i.val k)
  rw [h.load v inb i k (by omega), h.load v inb' i k hi']

/-- A store of such sums into the other buffer. -/
theorem HoldsOn.level {κ : Kind} {sp : Space} {L T : Stores} {col hi : ℕ} {f : ℕ → Fin 512 → EReal} (n : ℕ) (h : HoldsOn L col 0 hi (rowsSum f n))
    (v : View sig κ sp S280x2048 .f32) (inb : ∀ x, (![0, col] : Fin 2 → ℕ) x + (![272, 512] : Fin 2 → ℕ) x ≤ S280x2048.size x)
    (inb' : ∀ x, (![n, col] : Fin 2 → ℕ) x + (![272, 512] : Fin 2 → ℕ) x ≤ S280x2048.size x)
    (hi' : ℕ) (hh : n + hi' ≤ hi) (hm : hi' ≤ 272)
    (w : (Rect.unit (s := S280x2048) ![0, col] ![272, 512] inb).shape.Idx → Elt Ideal .f32)
    (hw : ∀ (i : Fin 272) (k : Fin 512), w (ix2 i k) = v.readCov L (Rect.unit (s := S280x2048) ![0, col] ![272, 512] inb).toLoadRect (ix2 i k)
      + v.readCov L (Rect.unit (s := S280x2048) ![n, col] ![272, 512] inb').toLoadRect (ix2 i k)) :
    HoldsOn (⟨Rect.unit (s := S280x2048) ![0, col] ![272, 512] inb, w⟩ :: T) col 0 hi' (rowsSum f (n + n)) := by
  intro i k d _ h2 h3
  have hp : i.val < 272 := by omega
  refine (Pieces.canon_hit inb w T _ (ix2 ⟨i.val, hp⟩ k) fun x => ?_).trans
    ((hw ⟨i.val, hp⟩ k).trans (h.pair n v inb inb' ⟨i.val, hp⟩ k (show n + i.val < hi by omega)))
  match x with
  | ⟨0, _⟩ => exact (Nat.zero_add _).symm
  | ⟨1, _⟩ => exact h3

/-- The summands' rows in the 512 columns from `col` on. -/
def grp (own : Fin 256 → Fin 2048 → EReal) (next : Shape.Idx ⟨2, ![16, 2048]⟩ → EReal) (col : ℕ) (hc : col + 512 ≤ 2048) (i : ℕ) (k : Fin 512) : EReal :=
  ext own next i ⟨col + k.val, by omega⟩

/-- The store of the sixteen rows that follow. -/
theorem HoldsOn.next {L : Stores} (own : Fin 256 → Fin 2048 → EReal) (s : Shape.Idx ⟨2, ![16, 2048]⟩ → EReal) (col : ℕ) (hc : col + 512 ≤ 2048)
    {inb : ∀ x, (![256, 0] : Fin 2 → ℕ) x + (![16, 2048] : Fin 2 → ℕ) x ≤ S280x2048.size x}
    {w : (Rect.unit (s := S280x2048) ![256, 0] ![16, 2048] inb).shape.Idx → Elt Ideal .f32}
    (hw : ∀ (i : Fin 16) (d : Fin 2048), w (ix2 i d) = s (ix2 i d)) :
    HoldsOn (⟨Rect.unit (s := S280x2048) ![256, 0] ![16, 2048] inb, w⟩ :: L) col 256 272 (grp own s col hc) := by
  intro i k d h1 h2 h3
  have hi : i.val - 256 < 16 := by omega
  refine (Pieces.canon_hit inb w L _ (ix2 ⟨i.val - 256, hi⟩ d) fun x => ?_).trans ((hw ⟨i.val - 256, hi⟩ d).trans ?_)
  · match x with
    | ⟨0, _⟩ => exact show i.val = 256 + (i.val - 256) by omega
    | ⟨1, _⟩ => exact (Nat.zero_add _).symm
  · have hd : d = ⟨col + k.val, by omega⟩ := Fin.ext h3
    rw [grp, ext, dif_neg (by omega), dif_pos hi, hd]

/-- Where the sums end, at the columns of a group with windows of `n` rows. -/
theorem rowsSum_grp (own : Fin 256 → Fin 2048 → EReal) (s : Shape.Idx ⟨2, ![16, 2048]⟩ → EReal) (col : ℕ) (hc : col + 512 ≤ 2048) (n i : ℕ) (k : Fin 512)
    (d : Fin 2048) (hd : d.val = col + k.val) (hn : win d.val = n) :
    rowsSum (grp own s col hc) n i k = ∑ j ∈ Finset.range (win d.val), ext own s (i + j) d := by
  subst hn
  have e : d = ⟨col + k.val, by omega⟩ := Fin.ext hd
  unfold rowsSum grp
  rw [← e]

/-- The payload's entry. -/
theorem pay38_at (p v v' : Vec Ideal S256x512 .f32) (i : Fin 256) (k : Fin 512) :
    k0_pay38 (F := Ideal) p v v' (ix2 i k) = v (ix2 i k) + v' (ix2 i k) - p (ix2 i k) := by
  unfold k0_pay38; pointwise []

/-- The payload's entry. -/
theorem pay71_at (p v v' : Vec Ideal S256x512 .f32) (i : Fin 256) (k : Fin 512) :
    k0_pay71 (F := Ideal) p v v' (ix2 i k) = v (ix2 i k) + v' (ix2 i k) - p (ix2 i k) := by
  unfold k0_pay71; pointwise []

/-- The payload's entry. -/
theorem pay105_at (p v v' : Vec Ideal S256x512 .f32) (i : Fin 256) (k : Fin 512) :
    k0_pay105 (F := Ideal) p v v' (ix2 i k) = v (ix2 i k) + v' (ix2 i k) - p (ix2 i k) := by
  unfold k0_pay105; pointwise []

/-- The payload's entry. -/
theorem pay139_at (p v v' : Vec Ideal S256x512 .f32) (i : Fin 256) (k : Fin 512) :
    k0_pay139 (F := Ideal) p v v' (ix2 i k) = v (ix2 i k) + v' (ix2 i k) - p (ix2 i k) := by
  unfold k0_pay139; pointwise []

/-- The payload's entry. -/
theorem pay104_at (v v' : Vec Ideal S272x512 .f32) (i : Fin 272) (k : Fin 512) :
    k0_pay104 (F := Ideal) v v' (ix2 i k) = v (ix2 i k) + v' (ix2 i k) := by
  unfold k0_pay104; pointwise []

/-- The payload's entry. -/
theorem pay136_at (v v' : Vec Ideal S272x512 .f32) (i : Fin 272) (k : Fin 512) :
    k0_pay136 (F := Ideal) v v' (ix2 i k) = v (ix2 i k) + v' (ix2 i k) := by
  unfold k0_pay136; pointwise []

/-- The payload's entry. -/
theorem pay137_at (v v' : Vec Ideal S272x512 .f32) (i : Fin 272) (k : Fin 512) :
    k0_pay137 (F := Ideal) v v' (ix2 i k) = v (ix2 i k) + v' (ix2 i k) := by
  unfold k0_pay137; pointwise []

/-- The payload's entry. -/
theorem pay138_at (v v' : Vec Ideal S272x512 .f32) (i : Fin 272) (k : Fin 512) :
    k0_pay138 (F := Ideal) v v' (ix2 i k) = v (ix2 i k) + v' (ix2 i k) := by
  unfold k0_pay138; pointwise []

/-- The payload's entry. -/
theorem pay70_at (v v' : Vec Ideal S272x512 .f32) (i : Fin 272) (k : Fin 512) :
    k0_pay70 (F := Ideal) (k0_pay69 v v') (ix2 i k) = v (ix2 i k) + v' (ix2 i k) := by
  unfold k0_pay70 k0_pay69; pointwise []

/-- The payload's entry. -/
theorem pay103_at (v v' : Vec Ideal S272x512 .f32) (i : Fin 272) (k : Fin 512) :
    k0_pay103 (F := Ideal) (k0_pay102 v v') (ix2 i k) = v (ix2 i k) + v' (ix2 i k) := by
  unfold k0_pay103 k0_pay102; pointwise []

end Cert.Kernel4Ideal.Odd
-- ==== Proof.WindowSums.lean ====
module

public import proofs.«01_k».proof.Proof.NormMath
public import Idealize.ShloMosaic.Lib.Pointwise
public import Idealize.ShloMosaic.Lib.ReduceAll

@[expose] public section

noncomputable section

/-! Running sums down a column of 4096 rows, as the host computes them at the real numbers, and the sum over a window they make. -/

namespace Cert.WindowSums

open Idealize.ShloMosaic Cert.NormMath

abbrev Sq : Shape := ⟨2, ![4096, 2048]⟩
abbrev S0 : Shape := ⟨0, ![]⟩

/-- A fold of additions is the start plus the sum. -/
theorem foldl_add {ι : Type*} (l : List ι) (g : ι → EReal) (a : EReal) : l.foldl (fun r n => r + g n) a = a + (l.map g).sum := by
  induction l generalizing a with
  | nil => simp
  | cons x l ih => rw [List.foldl_cons, ih, List.map_cons, List.sum_cons, add_assoc]

/-- What a position of a window adds: the operand's entry, or the start where the position is padding. -/
def term {s t u : Shape} (window strides lo hi : Fin s.rank → ℕ) (x : FVec Ideal s .f32) (init : u.Idx → Ideal .f32)
    (h : s.ReduceWindows window strides lo hi t) (hu : 0 < u.numel) (j : t.Idx) (k : (⟨s.rank, window⟩ : Shape).Idx) : EReal :=
  let p : Fin s.rank → ℕ := fun a => (j (a.cast h.1.symm)).val * strides a + (k a).val
  if hin : ∀ a, lo a ≤ p a ∧ p a - lo a < s.size a then x (fun a => ⟨p a - lo a, (hin a).2⟩) else init (Shape.Idx.first hu)

/-- A window sum is the start plus the sum over the window's positions. -/
theorem reduceWindow_eq {s t u : Shape} (window strides lo hi : Fin s.rank → ℕ) (x : FVec Ideal s .f32) (init : u.Idx → Ideal .f32)
    (h : s.ReduceWindows window strides lo hi t) (hu : 0 < u.numel) (j : t.Idx) :
    Host.reduceWindowAdd (F := Ideal) window strides lo hi x init h hu j
      = init (Shape.Idx.first hu) + ∑ k : (⟨s.rank, window⟩ : Shape).Idx, term window strides lo hi x init h hu j k := by
  refine (foldl_add _ _ _).trans (congrArg (init (Shape.Idx.first hu) + ·) ?_)
  rw [← List.ofFn_eq_map, List.sum_ofFn]
  refine Eq.trans (Finset.sum_congr rfl fun n _ => ?_) (Equiv.sum_comp (⟨s.rank, window⟩ : Shape).rowMajor.symm (term window strides lo hi x init h hu j))
  unfold term
  dsimp only
  split_ifs <;> rfl

/-- Of finite entries a window sum is finite. -/
theorem fin_reduceWindow {s t u : Shape} (window strides lo hi : Fin s.rank → ℕ) (x : FVec Ideal s .f32) (init : u.Idx → Ideal .f32)
    (h : s.ReduceWindows window strides lo hi t) (hu : 0 < u.numel) (j : t.Idx) (hx : ∀ i, Finite (x i)) (hi' : Finite (init (Shape.Idx.first hu))) :
    Finite (Host.reduceWindowAdd (F := Ideal) window strides lo hi x init h hu j) := by
  rw [reduceWindow_eq]
  refine hi'.add (Finite.sum fun k => ?_)
  dsimp only [term]
  split_ifs with hin
  · exact hx _
  · exact hi'

/-- The running sum from the last row up. -/
theorem cum_up (x : FVec Ideal Sq .f32) (init : S0.Idx → Ideal .f32) (h : Sq.ReduceWindows ![4096, 1] ![1, 1] ![0, 0] ![4095, 0] Sq)
    (hu : 0 < S0.numel) (hz : init (Shape.Idx.first hu) = 0) (r : Fin 4096) (d : Fin 2048) :
    Host.reduceWindowAdd (F := Ideal) ![4096, 1] ![1, 1] ![0, 0] ![4095, 0] x init h hu (ix2 r d)
      = ∑ k ∈ Finset.range 4096, if hk : r.val + k < 4096 then x (ix2 ⟨r.val + k, hk⟩ d) else 0 := by
  rw [reduceWindow_eq, hz, zero_add, Finset.sum_range]
  refine (sum_idx2 (n0 := 4096) (n1 := 1) _).trans (Finset.sum_congr rfl fun k _ => ?_)
  rw [Fin.sum_univ_one]
  dsimp only [term]
  by_cases hk : r.val + k.val < 4096
  · rw [dif_pos hk, dif_pos fun a => by
      match a with
      | ⟨0, _⟩ => exact ⟨Nat.zero_le _, show r.val * 1 + k.val - 0 < 4096 by omega⟩
      | ⟨1, _⟩ => exact ⟨Nat.zero_le _, show d.val * 1 + 0 - 0 < 2048 by omega⟩]
    refine congrArg x (funext fun a => ?_)
    match a with
    | ⟨0, _⟩ => exact Fin.ext (show r.val * 1 + k.val - 0 = r.val + k.val by omega)
    | ⟨1, _⟩ => exact Fin.ext (show d.val * 1 + 0 - 0 = d.val by omega)
  · rw [dif_neg hk, dif_neg fun a => hk (by have := (a 0).2; have : r.val * 1 + k.val - 0 < 4096 := this; omega)]
    exact hz

/-- Differences a window apart, summed to the last row, are the sum over the window. -/
theorem tele (E : ℕ → ℝ) (w r : ℕ) (hE : ∀ i, 4096 ≤ i → E i = 0) :
    ∑ k ∈ Finset.range 4096, (E (r + k) - E (r + k + w)) = ∑ j ∈ Finset.range w, E (r + j) := by
  have h1 := Finset.sum_range_add (fun k => E (r + k)) 4096 w
  have h2 := Finset.sum_range_add (fun k => E (r + k)) w 4096
  have h3 : ∑ j ∈ Finset.range w, E (r + (4096 + j)) = 0 := Finset.sum_eq_zero fun j _ => hE _ (by omega)
  have h4 : ∑ k ∈ Finset.range 4096, E (r + k + w) = ∑ k ∈ Finset.range 4096, E (r + (w + k)) :=
    Finset.sum_congr rfl fun k _ => congrArg E (by omega)
  rw [Finset.sum_sub_distrib, h4]
  rw [add_comm] at h2
  linarith

/-- The same of finite entries, the rows past the last one left out. -/
theorem tele_ereal (e : Fin 4096 → EReal) (he : ∀ i, Finite (e i)) (w r : ℕ) :
    (∑ k ∈ Finset.range 4096, if hk : r + k < 4096 then e ⟨r + k, hk⟩ + (if hw : r + k + w < 4096 then -e ⟨r + k + w, hw⟩ else 0) else 0)
      = ∑ j ∈ Finset.range w, if hj : r + j < 4096 then e ⟨r + j, hj⟩ else 0 := by
  choose g hg using he
  obtain rfl : e = fun i => (g i : EReal) := funext hg
  have key := tele (fun i => if h : i < 4096 then g ⟨i, h⟩ else 0) w r fun i hi => dif_neg (by omega)
  have l : ∀ k, (if hk : r + k < 4096 then (g ⟨r + k, hk⟩ : EReal) + (if hw : r + k + w < 4096 then -(g ⟨r + k + w, hw⟩ : EReal) else 0) else 0)
      = (((if h : r + k < 4096 then g ⟨r + k, h⟩ else 0) - (if h : r + k + w < 4096 then g ⟨r + k + w, h⟩ else 0) : ℝ) : EReal) := by
    intro k
    by_cases h1 : r + k < 4096
    · by_cases h2 : r + k + w < 4096
      · simp only [dif_pos h1, dif_pos h2, EReal.coe_sub]; rfl
      · simp only [dif_pos h1, dif_neg h2, EReal.coe_sub, EReal.coe_zero, sub_zero, add_zero]
    · simp only [dif_neg h1, dif_neg (show ¬ r + k + w < 4096 by omega), sub_zero, EReal.coe_zero]
  have rr : ∀ j, (if hj : r + j < 4096 then (g ⟨r + j, hj⟩ : EReal) else 0) = ((if h : r + j < 4096 then g ⟨r + j, h⟩ else 0 : ℝ) : EReal) := by
    intro j
    by_cases h1 : r + j < 4096
    · simp only [dif_pos h1]
    · simp only [dif_neg h1, EReal.coe_zero]
  simp only [l, rr, ← coe_sum]
  exact congrArg Real.toEReal key

end Cert.WindowSums

end
-- ==== Proof.OddRef.lean ====
module

public import proofs.«01_k».proof.Proof.OddRows
public import proofs.«01_k».proof.Proof.WindowSums
public import proofs.«01_k».proof.Defs
public import proofs.«01_k».proof.Proof.Gen.Pre_finite4
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic Idealize.ShloMosaic.TcCoe

namespace Cert.Reference4Ideal.Odd

open Cert.Reference4Ideal Cert.Reference4Ideal.Read Cert.Kernel4Ideal.Odd

variable (p : FVec Ideal S4096x4096 .f32) (w : FVec Ideal S4x512x512 .f32) (b : FVec Ideal S4x512 .f32) (s : FVec Ideal S2048 .f32)
  (du : FVec Ideal S4096x2048 .f32)

/-- The gate's row, the bias, the scale and the pooled row. -/
abbrev zr (r : Fin 4096) (d : Fin 2048) : EReal := p (ix2 r ⟨2048 + d.val, by omega⟩)
abbrev bv (d : Fin 2048) : EReal := b (ix2 ⟨d.val / 512, by omega⟩ ⟨d.val % 512, by omega⟩)
abbrev sv (d : Fin 2048) : EReal := s (ix1 d)
abbrev pr (r : Fin 4096) (d : Fin 2048) : EReal := val_main_v55 (F := Ideal) p (ix2 r d)
abbrev ur (r : Fin 4096) (d : Fin 2048) : EReal := du (ix2 r d)

/-- The gate's logistic. -/
theorem sig_at (r : Fin 4096) (d : Fin 2048) : val_main_v66_2 (F := Ideal) p (ix2 r d) = Ideal.logistic (zr p r d) := by
  pointwise [val_main_v66_2, val_main_call1_v4, val_main_call1_cst_0, val_main_call1_v3, val_main_call1_v2, val_main_call1_cst, val_main_call1_v1,
    val_main_call1_v0, val_main_v1]
  rfl

/-- The grouped product with its bias. -/
theorem lin_at (r : Fin 4096) (d : Fin 2048) : val_main_v62 (F := Ideal) p w b (ix2 r d) = rowG (pr p r) (bv b) (wts w) d := by
  pointwise [val_main_v62, val_main_v61, val_main_v60, val_main_v59, val_main_v58, val_main_v57, val_main_v56, rowG]
  exact congrArg (· + _) (Finset.sum_congr rfl fun k _ => mul_comm _ _)

theorem y_at (r : Fin 4096) (d : Fin 2048) : val_main_v69 (F := Ideal) p du (ix2 r d) = rowY (zr p r) (ur du r) d := by
  refine Eq.trans ?_ (congrArg (fun a => du (ix2 r d) * (p (ix2 r ⟨2048 + d.val, by omega⟩) * a)) (sig_at p r d))
  pointwise [val_main_v69, val_main_v66_0, val_main_v1]

theorem a_at (r : Fin 4096) (d : Fin 2048) : val_main_v75 (F := Ideal) p s du (ix2 r d) = rowA (zr p r) (ur du r) (sv s) d := by
  refine Eq.trans ?_ (congrArg (· * s (ix1 d)) (y_at p du r d))
  pointwise [val_main_v75, val_main_v74, val_main_v63]

theorem pool_at (r : Fin 4096) (d : Fin 2048) : val_main_v86 (F := Ideal) p w s du (ix2 r d) = rowP (zr p r) (ur du r) (sv s) (wts w) d := by
  unfold rowP
  simp only [← a_at]
  pointwise [val_main_v86, val_main_v83, val_main_v82, val_main_v81, val_main_v77]
  exact Fin.sum_univ_add (a := 256) (b := 256) fun x : Fin 512 => val_main_v75 (F := Ideal) p s du (ix2 r ⟨d.val / 512 * 512 + x.val, by omega⟩) * w (ix3 ⟨d.val / 512, by omega⟩ ⟨d.val % 512, by omega⟩ x)

theorem dw_at (g : Fin 4) (k l : Fin 512) :
    val_main_v85 (F := Ideal) p s du (ix3 g k l) = ∑ r : Fin 4096, pr p r ⟨g.val * 512 + k.val, by omega⟩ * rowA (zr p r) (ur du r) (sv s) ⟨g.val * 512 + l.val, by omega⟩ := by
  simp only [← a_at]
  pointwise [val_main_v85, val_main_v84, val_main_v81, val_main_v77, val_main_v56]
  exact Finset.sum_congr rfl fun k _ => mul_comm _ _

theorem db_at (a : Fin 1) (d : Fin 2048) :
    val_main_v125 (F := Ideal) p s du (ix2 a d) = ∑ r : Fin 4096, rowA (zr p r) (ur du r) (sv s) d := by
  simp only [← a_at]
  pointwise [val_main_v125, val_main_v80, val_main_v79, val_main_v78, val_main_v77, val_main_cst_13, val_main_cst_14]
  simp only [Finset.univ_unique, Finset.sum_singleton]

theorem ds_at (a : Fin 1) (d : Fin 2048) :
    val_main_v126 (F := Ideal) p w b du (ix2 a d) = ∑ r : Fin 4096, rowY (zr p r) (ur du r) d * rowG (pr p r) (bv b) (wts w) d := by
  simp only [← y_at, ← lin_at]
  pointwise [val_main_v126, val_main_v76, val_main_v73, val_main_v72, val_main_v71, val_main_cst_11, val_main_cst_12]
  simp only [Finset.univ_unique, Finset.sum_singleton]
  exact Finset.sum_congr rfl fun k _ => mul_comm _ _

/-- The second half of the input's gradient, as the reference multiplies it out. -/
theorem dz_at (r : Fin 4096) (d : Fin 2048) :
    val_main_v124 (F := Ideal) p w b s du (ix2 r ⟨2048 + d.val, by omega⟩)
      = rowG (pr p r) (bv b) (wts w) d * sv s d * ur du r d * Ideal.logistic (zr p r d)
        + zr p r d * (rowG (pr p r) (bv b) (wts w) d * sv s d * ur du r d) * (Ideal.logistic (zr p r d) * (1 - Ideal.logistic (zr p r d))) := by
  simp only [← lin_at, ← sig_at]
  pointwise [val_main_v124, val_main_v123, val_main_v70, val_main_call2_v2, val_main_call2_v1, val_main_call2_v0, val_main_v68, val_main_v65, val_main_v64, val_main_v63,
    val_main_v66_1, val_main_call1_v7, val_main_call1_v6, val_main_call1_cst_1, val_main_v1]

/-- The host's word for the number of rows is that number. -/
theorem count_word (r : ℕ) (hr : r < 4096) (W : ℕ) (hW : W ≤ 16) :
    FloatOps.sitofp (F := Ideal) FTy.f32 (IntOp.minsi (IntOp.addi 1#32 (BitVec.ofNat 32 r)) (BitVec.ofNat 32 W))
      = (((min (r + 1) W : ℕ) : ℝ) : EReal) := by
  have e2 : IntOp.addi 1#32 (BitVec.ofNat 32 r) = BitVec.ofNat 32 (r + 1) := by
    apply BitVec.eq_of_toNat_eq
    simp only [IntOp.addi, BitVec.toNat_add, BitVec.toNat_ofNat]
    omega
  rw [e2]
  have i1 : (BitVec.ofNat 32 (r + 1)).toInt = ((r + 1 : ℕ) : ℤ) := WordCmp.toInt_ofNat_of_lt (by omega)
  have i2 : (BitVec.ofNat 32 W).toInt = ((W : ℕ) : ℤ) := WordCmp.toInt_ofNat_of_lt (by omega)
  have e3 : IntOp.minsi (BitVec.ofNat 32 (r + 1)) (BitVec.ofNat 32 W) = BitVec.ofNat 32 (min (r + 1) W) := by
    unfold IntOp.minsi
    rw [BitVec.slt, i1, i2]
    by_cases h : r + 1 < W
    · rw [if_pos (by simpa using Int.ofNat_lt.mpr h), Nat.min_eq_left h.le]
    · rw [if_neg (by simpa using fun e => h (Int.ofNat_lt.mp e)), Nat.min_eq_right (by omega)]
  rw [e3]
  have i3 : (BitVec.ofNat 32 (min (r + 1) W)).toInt = ((min (r + 1) W : ℕ) : ℤ) := WordCmp.toInt_ofNat_of_lt (by omega)
  change (((BitVec.ofNat 32 (min (r + 1) W)).toInt : ℝ) : EReal) = _
  rw [i3]
  push_cast
  rfl

/-- Dividing by a number of rows is multiplying by one over it. -/
theorem div_count (a : EReal) (r W : ℕ) (hW : 0 < W) :
    Ideal.div a (((min (r + 1) W : ℕ) : ℝ) : EReal) = a * Ideal.div 1 (((min (r + 1) W : ℕ) : ℝ) : EReal) := by
  have h : ((min (r + 1) W : ℕ) : ℝ) ≠ 0 := by
    have : 0 < min (r + 1) W := lt_min (Nat.succ_pos r) hW
    exact_mod_cast this.ne'
  rw [Ideal.div_coe h, Ideal.div_coe h, one_mul]

/-- One over a number of rows is finite. -/
theorem fin_count (r W : ℕ) (hW : 0 < W) : NormMath.Finite (Ideal.div 1 (((min (r + 1) W : ℕ) : ℝ) : EReal)) := by
  have h : ((min (r + 1) W : ℕ) : ℝ) ≠ 0 := by
    have : 0 < min (r + 1) W := lt_min (Nat.succ_pos r) hW
    exact_mod_cast this.ne'
  rw [Ideal.div_coe h, one_mul]
  exact ⟨_, rfl⟩

/-- A row's share of the pooling, entry by entry. -/
abbrev er (i : Fin 4096) (d : Fin 2048) : EReal := rowE i.val (zr p i) (ur du i) (sv s) (wts w) d

theorem e_at (i : Fin 4096) (d d' : Fin 2048) (j W : ℕ) (hj : j = i.val) (hd : d' = d) (hw : win d.val = W) :
    Ideal.div (val_main_v86 (F := Ideal) p w s du (ix2 i d'))
        (FloatOps.sitofp (F := Ideal) FTy.f32 (IntOp.minsi (IntOp.addi 1#32 (BitVec.ofNat 32 j)) (BitVec.ofNat 32 W))) = er p w s du i d := by
  subst hj hd
  have h0 : 0 < W ∧ W ≤ 16 := by
    rw [← hw]; unfold win; split_ifs <;> omega
  rw [count_word i.val i.isLt W h0.2, div_count _ _ _ h0.1, pool_at]
  change _ = rowP (zr p i) (ur du i) (sv s) (wts w) d' * Ideal.div 1 (((min (i.val + 1) (win d'.val) : ℕ) : ℝ) : EReal)
  rw [hw]

theorem diff_of (i : Fin 4096) (d : Fin 2048) {X : EReal} {c : Prop} [hc : Decidable c] {Y : c → EReal} (hX : X = er p w s du i d)
    (he : c ↔ i.val + win d.val < 4096) (hY : ∀ (k : c) (h : i.val + win d.val < 4096), Y k = er p w s du ⟨i.val + win d.val, h⟩ d) :
    X + (if h : c then -Y h else 0)
      = er p w s du i d + (if h : i.val + win d.val < 4096 then -er p w s du ⟨i.val + win d.val, h⟩ d else 0) := by
  by_cases k : c
  · rw [dif_pos k, dif_pos (he.mp k), hX, hY k (he.mp k)]
  · rw [dif_neg k, dif_neg (fun h => k (he.mpr h)), hX]

set_option maxHeartbeats 1000000 in
/-- What the reference sums from the last row up, in the first group: a row's share less the share of the row 2 further on. -/
theorem diff_0 (i : Fin 4096) (d : Fin 2048) (h : d.val < 512) :
    val_main_v120 (F := Ideal) p w s du (ix2 i d)
      = er p w s du i d + (if h : i.val + win d.val < 4096 then -er p w s du ⟨i.val + win d.val, h⟩ d else 0) := by
  have hi := i.isLt
  have hd := d.isLt
  have hw : win d.val = 2 := by unfold win; split_ifs <;> omega
  pointwise [val_main_v120, val_main_v119, val_main_v118, val_main_v117, val_main_cst_18, val_main_v115, val_main_v114, val_main_v113, val_main_v88, val_main_v17, val_main_v16, val_main_v15, val_main_v14, val_main_c_1, val_main_v5, val_main_v4, val_main_v3, val_main_c]
  have c0 : d.val < 512 := by omega
  rw [dif_pos c0]
  refine diff_of p w s du i d (e_at p w s du i d _ _ _ rfl (Fin.ext ?_) hw) ?_ fun k h' => ?_
  · first | rfl | (show 0 + (d.val) = d.val; omega)
  · rw [hw]; omega
  · refine (e_at p w s du _ d _ _ _ rfl (Fin.ext ?_) hw).trans (congrArg (fun i => er p w s du i d) (Fin.ext ?_))
    · first | rfl | (show 0 + (d.val) = d.val; omega)
    · show 2 + i.val = i.val + win d.val
      rw [hw, Nat.add_comm]

set_option maxHeartbeats 1000000 in
/-- What the reference sums from the last row up, in the second group: a row's share less the share of the row 4 further on. -/
theorem diff_1 (i : Fin 4096) (d : Fin 2048) (h : 512 ≤ d.val ∧ d.val < 1024) :
    val_main_v120 (F := Ideal) p w s du (ix2 i d)
      = er p w s du i d + (if h : i.val + win d.val < 4096 then -er p w s du ⟨i.val + win d.val, h⟩ d else 0) := by
  have hi := i.isLt
  have hd := d.isLt
  have hw : win d.val = 4 := by unfold win; split_ifs <;> omega
  pointwise [val_main_v120, val_main_v112, val_main_v111, val_main_v110, val_main_cst_17, val_main_v108, val_main_v107, val_main_v106, val_main_v89, val_main_v28, val_main_v27, val_main_v26, val_main_v25, val_main_c_4, val_main_v5, val_main_v4, val_main_v3, val_main_c]
  have c0 : ¬ d.val < 512 := by omega
  have c1 : d.val - 512 < 512 := by omega
  rw [dif_neg c0, dif_pos c1]
  refine diff_of p w s du i d (e_at p w s du i d _ _ _ rfl (Fin.ext ?_) hw) ?_ fun k h' => ?_
  · first | rfl | (show 512 + (d.val - 512) = d.val; omega)
  · rw [hw]; omega
  · refine (e_at p w s du _ d _ _ _ rfl (Fin.ext ?_) hw).trans (congrArg (fun i => er p w s du i d) (Fin.ext ?_))
    · first | rfl | (show 512 + (d.val - 512) = d.val; omega)
    · show 4 + i.val = i.val + win d.val
      rw [hw, Nat.add_comm]

set_option maxHeartbeats 1000000 in
/-- What the reference sums from the last row up, in the third group: a row's share less the share of the row 8 further on. -/
theorem diff_2 (i : Fin 4096) (d : Fin 2048) (h : 1024 ≤ d.val ∧ d.val < 1536) :
    val_main_v120 (F := Ideal) p w s du (ix2 i d)
      = er p w s du i d + (if h : i.val + win d.val < 4096 then -er p w s du ⟨i.val + win d.val, h⟩ d else 0) := by
  have hi := i.isLt
  have hd := d.isLt
  have hw : win d.val = 8 := by unfold win; split_ifs <;> omega
  pointwise [val_main_v120, val_main_v105, val_main_v104, val_main_v103, val_main_cst_16, val_main_v101, val_main_v100, val_main_v99, val_main_v90, val_main_v39, val_main_v38, val_main_v37, val_main_v36, val_main_c_7, val_main_v5, val_main_v4, val_main_v3, val_main_c]
  have c0 : ¬ d.val < 512 := by omega
  have c1 : ¬ d.val - 512 < 512 := by omega
  have c2 : d.val - 512 - 512 < 512 := by omega
  rw [dif_neg c0, dif_neg c1, dif_pos c2]
  refine diff_of p w s du i d (e_at p w s du i d _ _ _ rfl (Fin.ext ?_) hw) ?_ fun k h' => ?_
  · first | rfl | (show 1024 + (d.val - 512 - 512) = d.val; omega)
  · rw [hw]; omega
  · refine (e_at p w s du _ d _ _ _ rfl (Fin.ext ?_) hw).trans (congrArg (fun i => er p w s du i d) (Fin.ext ?_))
    · first | rfl | (show 1024 + (d.val - 512 - 512) = d.val; omega)
    · show 8 + i.val = i.val + win d.val
      rw [hw, Nat.add_comm]

set_option maxHeartbeats 1000000 in
/-- What the reference sums from the last row up, in the last group: a row's share less the share of the row 16 further on. -/
theorem diff_3 (i : Fin 4096) (d : Fin 2048) (h : 1536 ≤ d.val) :
    val_main_v120 (F := Ideal) p w s du (ix2 i d)
      = er p w s du i d + (if h : i.val + win d.val < 4096 then -er p w s du ⟨i.val + win d.val, h⟩ d else 0) := by
  have hi := i.isLt
  have hd := d.isLt
  have hw : win d.val = 16 := by unfold win; split_ifs <;> omega
  pointwise [val_main_v120, val_main_v98, val_main_v97, val_main_v96, val_main_cst_15, val_main_v94, val_main_v93, val_main_v92, val_main_v91, val_main_v50, val_main_v49, val_main_v48, val_main_v47, val_main_c_10, val_main_v5, val_main_v4, val_main_v3, val_main_c]
  have c0 : ¬ d.val < 512 := by omega
  have c1 : ¬ d.val - 512 < 512 := by omega
  have c2 : ¬ d.val - 512 - 512 < 512 := by omega
  rw [dif_neg c0, dif_neg c1, dif_neg c2]
  refine diff_of p w s du i d (e_at p w s du i d _ _ _ rfl (Fin.ext ?_) hw) ?_ fun k h' => ?_
  · first | rfl | (show 1536 + (d.val - 512 - 512 - 512) = d.val; omega)
  · rw [hw]; omega
  · refine (e_at p w s du _ d _ _ _ rfl (Fin.ext ?_) hw).trans (congrArg (fun i => er p w s du i d) (Fin.ext ?_))
    · first | rfl | (show 1536 + (d.val - 512 - 512 - 512) = d.val; omega)
    · show 16 + i.val = i.val + win d.val
      rw [hw, Nat.add_comm]

/-- What the reference sums from the last row up: a row's share less the share of the row a window further on. -/
theorem diff_at (i : Fin 4096) (d : Fin 2048) :
    val_main_v120 (F := Ideal) p w s du (ix2 i d)
      = er p w s du i d + (if h : i.val + win d.val < 4096 then -er p w s du ⟨i.val + win d.val, h⟩ d else 0) := by
  rcases (by omega : d.val < 512 ∨ 512 ≤ d.val ∧ d.val < 1024 ∨ 1024 ≤ d.val ∧ d.val < 1536 ∨ 1536 ≤ d.val) with h | h | h | h
  · exact diff_0 p w s du i d h
  · exact diff_1 p w s du i d h
  · exact diff_2 p w s du i d h
  · exact diff_3 p w s du i d h

section finite

variable (h : Cert.Pre_finite4.fn (F := Ideal) p w b s du = fun _ => 1#1)

include h

/-- Where the precondition holds, every entry of every argument is a real number. -/
theorem pre_at : (∀ i, NormMath.Finite (p i)) ∧ (∀ i, NormMath.Finite (w i)) ∧ (∀ i, NormMath.Finite (b i)) ∧ (∀ i, NormMath.Finite (s i))
      ∧ ∀ i, NormMath.Finite (du i) := by
  have q : ∀ (r : Fin 4096) (d : Fin 2048), _ := fun r d => congrFun h (ix2 r d)
  pointwise [Cert.Pre_finite4.fn, Cert.Pre_finite4.fn_part1] at q
  simp only [NormMath.andi_eq_one, NormMath.fold_andi, NormMath.fin_of_bit] at q
  have q0 := q 0 0
  exact ⟨fun i => by rw [eq_ix2 i]; exact q0.1.1.1.1 (i 0, i 1), fun i => by rw [eq_ix3 i]; exact q0.1.1.1.2 (i 0, i 1, i 2),
    fun i => by rw [eq_ix2 i]; exact q0.1.1.2 (i 0, i 1), fun i => by rw [eq_ix1 i]; exact q0.1.2 (i 0), fun i => by rw [eq_ix2 i]; exact (q (i 0) (i 1)).2⟩

end finite

section pooled

variable (hp : ∀ i, NormMath.Finite (p i))

include hp

theorem fin_cum (i : Fin 4096) (d : Fin 2048) : NormMath.Finite (val_main_v2 (F := Ideal) p (ix2 i d)) := by
  unfold val_main_v2
  refine WindowSums.fin_reduceWindow _ _ _ _ _ _ _ _ _ (fun j => ?_) ?_
  · rw [eq_ix2 j]
    pointwise [val_main_v0]
    exact hp _
  · pointwise [val_main_call0_call0_v0, val_main_call0_call0_cst]
    exact ⟨0, rfl⟩

set_option maxHeartbeats 2000000 in
/-- The pooled rows are finite. -/
theorem fin_pooled (i : Fin 4096) (d : Fin 2048) : NormMath.Finite (pr p i d) := by
  have hi := i.isLt
  have hd := d.isLt
  have hv : NormMath.Finite (val_main_v54 (F := Ideal) p (ix2 i d)) := by
    rcases (by omega : d.val < 512 ∨ 512 ≤ d.val ∧ d.val < 1024 ∨ 1024 ≤ d.val ∧ d.val < 1536 ∨ 1536 ≤ d.val) with h | h | h | h
    · pointwise [val_main_v54, val_main_v20, val_main_v19, val_main_v18, val_main_v17, val_main_v16, val_main_v15, val_main_v14, val_main_c_1, val_main_v12, val_main_v11, val_main_v6, val_main_v10, val_main_cst, val_main_v5, val_main_v4, val_main_v3, val_main_c]
      have c0 : d.val < 512 := by omega
      rw [dif_pos c0, count_word i.val hi 2 (by omega), div_count _ _ _ (by omega)]
      refine ((fin_cum p hp _ _).sub ?_).mul (fin_count _ _ (by omega))
      split_ifs
      · exact ⟨0, rfl⟩
      all_goals exact fin_cum p hp _ _
    · pointwise [val_main_v54, val_main_v31, val_main_v30, val_main_v29, val_main_v28, val_main_v27, val_main_v26, val_main_v25, val_main_c_4, val_main_v23, val_main_v22, val_main_v7, val_main_v21, val_main_cst_2, val_main_v5, val_main_v4, val_main_v3, val_main_c]
      have c0 : ¬ d.val < 512 := by omega
      have c1 : d.val - 512 < 512 := by omega
      rw [dif_neg c0, dif_pos c1, count_word i.val hi 4 (by omega), div_count _ _ _ (by omega)]
      refine ((fin_cum p hp _ _).sub ?_).mul (fin_count _ _ (by omega))
      split_ifs
      · exact ⟨0, rfl⟩
      all_goals exact fin_cum p hp _ _
    · pointwise [val_main_v54, val_main_v42, val_main_v41, val_main_v40, val_main_v39, val_main_v38, val_main_v37, val_main_v36, val_main_c_7, val_main_v34, val_main_v33, val_main_v8, val_main_v32, val_main_cst_5, val_main_v5, val_main_v4, val_main_v3, val_main_c]
      have c0 : ¬ d.val < 512 := by omega
      have c1 : ¬ d.val - 512 < 512 := by omega
      have c2 : d.val - 512 - 512 < 512 := by omega
      rw [dif_neg c0, dif_neg c1, dif_pos c2, count_word i.val hi 8 (by omega), div_count _ _ _ (by omega)]
      refine ((fin_cum p hp _ _).sub ?_).mul (fin_count _ _ (by omega))
      split_ifs
      · exact ⟨0, rfl⟩
      all_goals exact fin_cum p hp _ _
    · pointwise [val_main_v54, val_main_v53, val_main_v52, val_main_v51, val_main_v50, val_main_v49, val_main_v48, val_main_v47, val_main_c_10, val_main_v45, val_main_v44, val_main_v9, val_main_v43, val_main_cst_8, val_main_v5, val_main_v4, val_main_v3, val_main_c]
      have c0 : ¬ d.val < 512 := by omega
      have c1 : ¬ d.val - 512 < 512 := by omega
      have c2 : ¬ d.val - 512 - 512 < 512 := by omega
      rw [dif_neg c0, dif_neg c1, dif_neg c2, count_word i.val hi 16 (by omega), div_count _ _ _ (by omega)]
      refine ((fin_cum p hp _ _).sub ?_).mul (fin_count _ _ (by omega))
      split_ifs
      · exact ⟨0, rfl⟩
      all_goals exact fin_cum p hp _ _
  have e : val_main_v55 (F := Ideal) p (ix2 i d) = val_main_v54 (F := Ideal) p (ix2 i d) - p (ix2 i ⟨d.val, by omega⟩) := by
    pointwise [val_main_v55, val_main_v0]
  exact (congrArg NormMath.Finite e).mpr (hv.sub (hp _))

end pooled

end Cert.Reference4Ideal.Odd
-- ==== Proof.OddGrads.lean ====
module

public import proofs.«01_k».proof.Proof.OddRef

@[expose] public section

set_option maxRecDepth 16384

noncomputable section

open Idealize.ShloMosaic Idealize.ShloMosaic.TcCoe

namespace Cert.Reference4Ideal.Odd

open Cert.Reference4Ideal Cert.Reference4Ideal.Read Cert.Kernel4Ideal.Odd

/-- The logistic of a real number is a real number. -/
theorem fin_logistic {a : EReal} (ha : NormMath.Finite a) : NormMath.Finite (Ideal.logistic a) := by
  obtain ⟨r, rfl⟩ := ha
  exact ⟨_, Ideal.logistic_coe r⟩

/-- The gate's gradient in the kernel's form and in the reference's, over finite values. -/
theorem gate_eq {G s u z : EReal} (hG : NormMath.Finite G) (hs : NormMath.Finite s) (hu : NormMath.Finite u) (hz : NormMath.Finite z) :
    G * s * u * Ideal.logistic z + z * (G * s * u) * (Ideal.logistic z * (1 - Ideal.logistic z))
      = u * (G * s) * (Ideal.logistic z * (1 + z * (1 - Ideal.logistic z))) := by
  obtain ⟨L, hL⟩ := fin_logistic hz
  rw [hL]
  obtain ⟨G, rfl⟩ := hG
  obtain ⟨s, rfl⟩ := hs
  obtain ⟨u, rfl⟩ := hu
  obtain ⟨z, rfl⟩ := hz
  simp only [← EReal.coe_one, ← EReal.coe_mul, ← EReal.coe_add, ← EReal.coe_sub]
  exact congrArg Real.toEReal (by ring)

variable (p : FVec Ideal S4096x4096 .f32) (w : FVec Ideal S4x512x512 .f32) (b : FVec Ideal S4x512 .f32) (s : FVec Ideal S2048 .f32)
  (du : FVec Ideal S4096x2048 .f32)

/-- Row `i` of the rows' shares of the pooling, as far as there are rows. -/
def er0 (i : ℕ) (d : Fin 2048) : EReal := if h : i < 4096 then er p w s du ⟨i, h⟩ d else 0

section finite

variable (h : Cert.Pre_finite4.fn (F := Ideal) p w b s du = fun _ => 1#1)

include h

theorem fin_rowP (r : Fin 4096) (d : Fin 2048) : NormMath.Finite (rowP (zr p r) (ur du r) (sv s) (wts w) d) := by
  obtain ⟨hp, hw, hb, hs, hu⟩ := pre_at p w b s du h
  have ha : ∀ d, NormMath.Finite (rowA (zr p r) (ur du r) (sv s) d) := fun d => ((hu _).mul ((hp _).mul (fin_logistic (hp _)))).mul (hs _)
  exact (NormMath.Finite.sum fun l => (ha _).mul (hw _)).add (NormMath.Finite.sum fun l => (ha _).mul (hw _))

theorem fin_er (i : Fin 4096) (d : Fin 2048) : NormMath.Finite (er p w s du i d) :=
  (fin_rowP p w b s du h i d).mul (fin_count i.val (win d.val) (by unfold win; split_ifs <;> omega))

/-- The gate's half of the input's gradient. -/
theorem dz_eq (r : Fin 4096) (d : Fin 2048) :
    val_main_v124 (F := Ideal) p w b s du (ix2 r ⟨2048 + d.val, by omega⟩) = rowZ (pr p r) (zr p r) (ur du r) (bv b) (sv s) (wts w) d := by
  obtain ⟨hp, hw, hb, hs, hu⟩ := pre_at p w b s du h
  rw [dz_at]
  have hG : NormMath.Finite (rowG (pr p r) (bv b) (wts w) d) :=
    (NormMath.Finite.sum fun k => (fin_pooled p hp r _).mul (hw _)).add (hb _)
  exact gate_eq hG (hs _) (hu _) (hp _)

/-- The pooled half of the input's gradient: the shares of the rows of the window that begins at the row, less the row's difference. -/
theorem dv_eq (r : Fin 4096) (d : Fin 2048) :
    val_main_v124 (F := Ideal) p w b s du (ix2 r ⟨d.val, by omega⟩)
      = (∑ j ∈ Finset.range (win d.val), er0 p w s du (r.val + j) d) - rowP (zr p r) (ur du r) (sv s) (wts w) d := by
  have e1 : val_main_v124 (F := Ideal) p w b s du (ix2 r ⟨d.val, by omega⟩)
      = -val_main_v86 (F := Ideal) p w s du (ix2 r d) + val_main_v121 (F := Ideal) p w s du (ix2 r d) := by
    pointwise [val_main_v124, val_main_v123, val_main_v122, val_main_v87]
  have e2 : val_main_v121 (F := Ideal) p w s du (ix2 r d) = ∑ j ∈ Finset.range (win d.val), er0 p w s du (r.val + j) d := by
    unfold val_main_v121
    rw [WindowSums.cum_up _ _ _ _ (by pointwise [val_main_call3_call0_v0, val_main_call3_call0_cst])]
    simp only [diff_at]
    exact WindowSums.tele_ereal (fun i => er p w s du i d) (fun i => fin_er p w b s du h i d) (win d.val) r.val
  rw [e1, e2, pool_at, add_comm, sub_eq_add_neg]

end finite

end Cert.Reference4Ideal.Odd
-- ==== Proof.OddRunA.lean ====
module

public import proofs.«01_k».proof.Proof.Gen.Kernel4Ideal.Frame
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! The body of the pooling mixer's backward kernel, run once at the first grid point and once at any other. -/

namespace Cert.Kernel4Ideal.Odd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The grid point is the first: the body's own test. -/
abbrev FirstPt (i : grid0.Coords) : Prop :=
  (Scalar.cmpi .ne (Scalar.extui (Scalar.cmpi .eq (BitVec.ofNat 32 (i 0).val) 0#32)) 0#32) = 1#1

/-- The test holds at point 0 alone. -/
theorem firstPt : ∀ t : Fin cfg0.N, FirstPt (grid0.coords t) ↔ t.val % 16 = 0 :=
  (fun t => by
  have ht : t.val < 16 := Nat.lt_of_lt_of_eq t.isLt N_0
  have e0 : (grid0.coords t 0).val = t.val / 1 % 16 := Pipeline.Grid.coords_val t 0 (by decide) rfl
  simp only [FirstPt, e0]
  word_cmp : ∀ t : Fin grid0.N, FirstPt (grid0.coords t) ↔ t.val % 16 = 0)

/-- The last eight rows of a work buffer. -/
abbrev padRect : Rect S280x2048 := Rect.unit (s := S280x2048) ![272, 0] S8x2048.size inb_S280x2048_S8x2048_272_0

/-- The store of zeros the first point leaves there. -/
abbrev padPiece : View.Piece (Elt F) S280x2048 .f32 := ⟨padRect, k0_pay5 (F := F)⟩

set_option maxHeartbeats 1600000 in
/-- The body run at the first point: from the inputs' blocks and any contents of the results' blocks and of the scratch
    buffers it comes to an end, with the stores each of those was left with (last first). -/
def runA (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S4x512x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x4096 .bf16) (harg7 : arg7.IsWhole) (arg8 : Memref sig .tc .vmem S4x512x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S280x2048 .f32) (harg11 : arg11.IsWhole) (arg12 : Memref sig .tc .vmem S280x2048 .f32) (harg12 : arg12.IsWhole) (arg13 : Memref sig .tc .vmem S16x2048 .f32) (harg13 : arg13.IsWhole) (hc0 : FirstPt i)
    (x0 : Vec F S256x2048 .f32) (x1 : Vec F S256x2048 .bf16) (x2 : Vec F S256x2048 .f32) (x3 : Vec F S4x512x512 .bf16) (x4 : Vec F S1x2048 .f32) (x5 : Vec F S1x2048 .f32) :
    Σ' (L6 : List (View.Piece (Elt F) S256x4096 .bf16)), Σ' (L7 : List (View.Piece (Elt F) S4x512x512 .f32)), Σ' (L8 : List (View.Piece (Elt F) S1x2048 .f32)), Σ' (L9 : List (View.Piece (Elt F) S1x2048 .f32)), Σ' (K0 : List (View.Piece (Elt F) S280x2048 .f32)), Σ' (K1 : List (View.Piece (Elt F) S280x2048 .f32)), { K2 : List (View.Piece (Elt F) S16x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f K0) ∗ (∃ f, arg12.view.loc (c : Thread nD τ) ↦[arg12.view.set]{fullShare} arg12.view.writes (Elt F) f K1) ∗ (∃ f, arg13.view.loc (c : Thread nD τ) ↦[arg13.view.set]{fullShare} arg13.view.writes (Elt F) f K2)) -∗ K ⟨⟩))
          ⊢ wp frame (wpE (defs₀ (F := F)) Variants.none c none) E (cc0_o_mixer_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_o_mixer_bwd_eq_skeleton]; unfold cc0_o_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel4Ideal.Odd

end
-- ==== Proof.OddRunB.lean ====
module

public import proofs.«01_k».proof.Proof.OddRunA
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! The body of the pooling mixer's backward kernel, run once at the first grid point and once at any other. -/

namespace Cert.Kernel4Ideal.Odd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

set_option maxHeartbeats 1600000 in
/-- The body run at a later point: from the inputs' blocks, the three accumulated blocks and the carried rows as the point
    before left them, and zeros in the last eight rows of the two work buffers. -/
def runB (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S4x512x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x4096 .bf16) (harg7 : arg7.IsWhole) (arg8 : Memref sig .tc .vmem S4x512x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S280x2048 .f32) (harg11 : arg11.IsWhole) (arg12 : Memref sig .tc .vmem S280x2048 .f32) (harg12 : arg12.IsWhole) (arg13 : Memref sig .tc .vmem S16x2048 .f32) (harg13 : arg13.IsWhole) (hc0 : ¬ FirstPt i)
    (x0 : Vec F S256x2048 .f32) (x1 : Vec F S256x2048 .bf16) (x2 : Vec F S256x2048 .f32) (x3 : Vec F S4x512x512 .bf16) (x4 : Vec F S1x2048 .f32) (x5 : Vec F S1x2048 .f32) (y7 : Vec F S4x512x512 .f32) (y8 y9 : Vec F S1x2048 .f32) (s2 : Vec F S16x2048 .f32) :
    Σ' (L6 : List (View.Piece (Elt F) S256x4096 .bf16)), Σ' (L7 : List (View.Piece (Elt F) S4x512x512 .f32)), Σ' (L8 : List (View.Piece (Elt F) S1x2048 .f32)), Σ' (L9 : List (View.Piece (Elt F) S1x2048 .f32)), Σ' (K0 : List (View.Piece (Elt F) S280x2048 .f32)), Σ' (K1 : List (View.Piece (Elt F) S280x2048 .f32)), { K2 : List (View.Piece (Elt F) S16x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ owns (c : Thread nD τ) arg9 fullShare y8 ∗ owns (c : Thread nD τ) arg10 fullShare y9 ∗ (∃ f, arg11.view.loc (c : Thread nD τ) ↦[arg11.view.set]{fullShare} arg11.view.writes (Elt F) f [padPiece]) ∗ (∃ f, arg12.view.loc (c : Thread nD τ) ↦[arg12.view.set]{fullShare} arg12.view.writes (Elt F) f [padPiece]) ∗ owns (c : Thread nD τ) arg13 fullShare s2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f K0) ∗ (∃ f, arg12.view.loc (c : Thread nD τ) ↦[arg12.view.set]{fullShare} arg12.view.writes (Elt F) f K1) ∗ (∃ f, arg13.view.loc (c : Thread nD τ) ↦[arg13.view.set]{fullShare} arg13.view.writes (Elt F) f K2)) -∗ K ⟨⟩))
          ⊢ wp frame (wpE (defs₀ (F := F)) Variants.none c none) E (cc0_o_mixer_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_o_mixer_bwd_eq_skeleton]; unfold cc0_o_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, H10⟩, ⟨%f11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hf9; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel4Ideal.Odd

end
-- ==== Proof.OddLeft.lean ====
module

public import proofs.«01_k».proof.Proof.OddRunB
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! What the pooling mixer's backward kernel leaves after each grid point, for any reading of the float operations: the
results' blocks and the rows it carries, from the body's two runs. The kernel's other two scratch buffers are work space;
all that is kept of them from point to point is that their last eight rows are zero. From this the run of the whole call
follows: it ends, nothing is in flight, and each result array holds what its blocks were left with. -/

namespace Cert.Kernel4Ideal.Odd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two work buffers and the carried rows, whole. -/
abbrev w0 : Memref sig .tc .vmem S280x2048 .f32 := Memref.whole cc0_scratch0
abbrev w1 : Memref sig .tc .vmem S280x2048 .f32 := Memref.whole cc0_scratch1
abbrev w2 : Memref sig .tc .vmem S16x2048 .f32 := Memref.whole cc0_scratch2

/-- The run at the first point, on its own buffers and blocks. -/
abbrev atA (c : Dev nD) (t : Fin cfg0.N) (h : t.val % 16 = 0) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    w0 (Memref.isWhole_whole _) w1 (Memref.isWhole_whole _) w2 (Memref.isWhole_whole _) ((firstPt t).mpr h)
    (iblk m c 0 t) (iblk m c 1 t) (iblk m c 2 t) (iblk m c 3 t) (iblk m c 4 t) (iblk m c 5 t)

/-- The run at a later point, on its own buffers and blocks. -/
abbrev atB (c : Dev nD) (t : Fin cfg0.N) (h : ¬ t.val % 16 = 0) (y7 : Vec F S4x512x512 .f32) (y8 y9 : Vec F S1x2048 .f32) (s2 : Vec F S16x2048 .f32) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    w0 (Memref.isWhole_whole _) w1 (Memref.isWhole_whole _) w2 (Memref.isWhole_whole _) (fun e => h ((firstPt t).mp e))
    (iblk m c 0 t) (iblk m c 1 t) (iblk m c 2 t) (iblk m c 3 t) (iblk m c 4 t) (iblk m c 5 t) y7 y8 y9 s2

/-- The stores of the gradient of the mixer's input reach every entry. -/
theorem coverA_6 (c : Dev nD) (t : Fin cfg0.N) (h : t.val % 16 = 0) (y : Shape.Idx S256x4096) :
    ∃ pc ∈ (atA m c t h).1, y ∈ pc.1.set :=
  View.cover_of_tiledBy (atA m c t h).1 ![256, 256] (by sl_kernel_rfl) y
/-- What the stores leave. -/
def outA_6 (c : Dev nD) (t : Fin cfg0.N) (h : t.val % 16 = 0) : Vec F S256x4096 .bf16 :=
  View.canon (atA m c t h).1

/-- The stores of the gradient of the mixer's input reach every entry. -/
theorem coverB_6 (c : Dev nD) (t : Fin cfg0.N) (h : ¬ t.val % 16 = 0) (y7 : Vec F S4x512x512 .f32) (y8 y9 : Vec F S1x2048 .f32) (s2 : Vec F S16x2048 .f32) (y : Shape.Idx S256x4096) :
    ∃ pc ∈ (atB m c t h y7 y8 y9 s2).1, y ∈ pc.1.set :=
  View.cover_of_tiledBy (atB m c t h y7 y8 y9 s2).1 ![256, 256] (by sl_kernel_rfl) y
/-- What the stores leave. -/
def outB_6 (c : Dev nD) (t : Fin cfg0.N) (h : ¬ t.val % 16 = 0) (y7 : Vec F S4x512x512 .f32) (y8 y9 : Vec F S1x2048 .f32) (s2 : Vec F S16x2048 .f32) : Vec F S256x4096 .bf16 :=
  View.canon (atB m c t h y7 y8 y9 s2).1

/-- The stores of the weights' gradient reach every entry. -/
theorem coverA_7 (c : Dev nD) (t : Fin cfg0.N) (h : t.val % 16 = 0) (y : Shape.Idx S4x512x512) :
    ∃ pc ∈ (atA m c t h).2.1, y ∈ pc.1.set :=
  View.cover_of_tiledBy (atA m c t h).2.1 ![1, 512, 256] (by sl_kernel_rfl) y
/-- What the stores leave. -/
def outA_7 (c : Dev nD) (t : Fin cfg0.N) (h : t.val % 16 = 0) : Vec F S4x512x512 .f32 :=
  View.canon (atA m c t h).2.1

/-- The stores of the weights' gradient reach every entry. -/
theorem coverB_7 (c : Dev nD) (t : Fin cfg0.N) (h : ¬ t.val % 16 = 0) (y7 : Vec F S4x512x512 .f32) (y8 y9 : Vec F S1x2048 .f32) (s2 : Vec F S16x2048 .f32) (y : Shape.Idx S4x512x512) :
    ∃ pc ∈ (atB m c t h y7 y8 y9 s2).2.1, y ∈ pc.1.set :=
  View.cover_of_tiledBy (atB m c t h y7 y8 y9 s2).2.1 ![1, 512, 256] (by sl_kernel_rfl) y
/-- What the stores leave. -/
def outB_7 (c : Dev nD) (t : Fin cfg0.N) (h : ¬ t.val % 16 = 0) (y7 : Vec F S4x512x512 .f32) (y8 y9 : Vec F S1x2048 .f32) (s2 : Vec F S16x2048 .f32) : Vec F S4x512x512 .f32 :=
  View.canon (atB m c t h y7 y8 y9 s2).2.1

/-- The stores of the bias's gradient reach every entry. -/
theorem coverA_8 (c : Dev nD) (t : Fin cfg0.N) (h : t.val % 16 = 0) (y : Shape.Idx S1x2048) :
    ∃ pc ∈ (atA m c t h).2.2.1, y ∈ pc.1.set :=
  View.cover_of_tiledBy (atA m c t h).2.2.1 ![1, 256] (by sl_kernel_rfl) y
/-- What the stores leave. -/
def outA_8 (c : Dev nD) (t : Fin cfg0.N) (h : t.val % 16 = 0) : Vec F S1x2048 .f32 :=
  View.canon (atA m c t h).2.2.1

/-- The stores of the bias's gradient reach every entry. -/
theorem coverB_8 (c : Dev nD) (t : Fin cfg0.N) (h : ¬ t.val % 16 = 0) (y7 : Vec F S4x512x512 .f32) (y8 y9 : Vec F S1x2048 .f32) (s2 : Vec F S16x2048 .f32) (y : Shape.Idx S1x2048) :
    ∃ pc ∈ (atB m c t h y7 y8 y9 s2).2.2.1, y ∈ pc.1.set :=
  View.cover_of_tiledBy (atB m c t h y7 y8 y9 s2).2.2.1 ![1, 256] (by sl_kernel_rfl) y
/-- What the stores leave. -/
def outB_8 (c : Dev nD) (t : Fin cfg0.N) (h : ¬ t.val % 16 = 0) (y7 : Vec F S4x512x512 .f32) (y8 y9 : Vec F S1x2048 .f32) (s2 : Vec F S16x2048 .f32) : Vec F S1x2048 .f32 :=
  View.canon (atB m c t h y7 y8 y9 s2).2.2.1

/-- The stores of the scale's gradient reach every entry. -/
theorem coverA_9 (c : Dev nD) (t : Fin cfg0.N) (h : t.val % 16 = 0) (y : Shape.Idx S1x2048) :
    ∃ pc ∈ (atA m c t h).2.2.2.1, y ∈ pc.1.set :=
  View.cover_of_tiledBy (atA m c t h).2.2.2.1 ![1, 256] (by sl_kernel_rfl) y
/-- What the stores leave. -/
def outA_9 (c : Dev nD) (t : Fin cfg0.N) (h : t.val % 16 = 0) : Vec F S1x2048 .f32 :=
  View.canon (atA m c t h).2.2.2.1

/-- The stores of the scale's gradient reach every entry. -/
theorem coverB_9 (c : Dev nD) (t : Fin cfg0.N) (h : ¬ t.val % 16 = 0) (y7 : Vec F S4x512x512 .f32) (y8 y9 : Vec F S1x2048 .f32) (s2 : Vec F S16x2048 .f32) (y : Shape.Idx S1x2048) :
    ∃ pc ∈ (atB m c t h y7 y8 y9 s2).2.2.2.1, y ∈ pc.1.set :=
  View.cover_of_tiledBy (atB m c t h y7 y8 y9 s2).2.2.2.1 ![1, 256] (by sl_kernel_rfl) y
/-- What the stores leave. -/
def outB_9 (c : Dev nD) (t : Fin cfg0.N) (h : ¬ t.val % 16 = 0) (y7 : Vec F S4x512x512 .f32) (y8 y9 : Vec F S1x2048 .f32) (s2 : Vec F S16x2048 .f32) : Vec F S1x2048 .f32 :=
  View.canon (atB m c t h y7 y8 y9 s2).2.2.2.1

/-- The stores of the carried rows reach every entry. -/
theorem coverA_12 (c : Dev nD) (t : Fin cfg0.N) (h : t.val % 16 = 0) (y : Shape.Idx S16x2048) :
    ∃ pc ∈ (atA m c t h).2.2.2.2.2.2.1, y ∈ pc.1.set :=
  View.cover_of_tiledBy (atA m c t h).2.2.2.2.2.2.1 ![16, 512] (by sl_kernel_rfl) y
/-- What the stores leave. -/
def outA_12 (c : Dev nD) (t : Fin cfg0.N) (h : t.val % 16 = 0) : Vec F S16x2048 .f32 :=
  View.canon (atA m c t h).2.2.2.2.2.2.1

/-- The stores of the carried rows reach every entry. -/
theorem coverB_12 (c : Dev nD) (t : Fin cfg0.N) (h : ¬ t.val % 16 = 0) (y7 : Vec F S4x512x512 .f32) (y8 y9 : Vec F S1x2048 .f32) (s2 : Vec F S16x2048 .f32) (y : Shape.Idx S16x2048) :
    ∃ pc ∈ (atB m c t h y7 y8 y9 s2).2.2.2.2.2.2.1, y ∈ pc.1.set :=
  View.cover_of_tiledBy (atB m c t h y7 y8 y9 s2).2.2.2.2.2.2.1 ![16, 512] (by sl_kernel_rfl) y
/-- What the stores leave. -/
def outB_12 (c : Dev nD) (t : Fin cfg0.N) (h : ¬ t.val % 16 = 0) (y7 : Vec F S4x512x512 .f32) (y8 y9 : Vec F S1x2048 .f32) (s2 : Vec F S16x2048 .f32) : Vec F S16x2048 .f32 :=
  View.canon (atB m c t h y7 y8 y9 s2).2.2.2.2.2.2.1

/-- What a point leaves: the four results' blocks, then the carried rows. -/
abbrev Left (F : FTy → Type) : Type :=
  Vec F S256x4096 .bf16 × Vec F S4x512x512 .f32 × Vec F S1x2048 .f32 × Vec F S1x2048 .f32 × Vec F S16x2048 .f32

/-- What a later point leaves, from what the point before left. -/
def stepB (c : Dev nD) (t : Fin cfg0.N) (h : ¬ t.val % 16 = 0) (p : Left F) : Left F :=
  (outB_6 m c t h p.2.1 p.2.2.1 p.2.2.2.1 p.2.2.2.2, outB_7 m c t h p.2.1 p.2.2.1 p.2.2.2.1 p.2.2.2.2, outB_8 m c t h p.2.1 p.2.2.1 p.2.2.2.1 p.2.2.2.2, outB_9 m c t h p.2.1 p.2.2.1 p.2.2.2.1 p.2.2.2.2, outB_12 m c t h p.2.1 p.2.2.1 p.2.2.2.1 p.2.2.2.2)

/-- What the first point leaves. -/
def stepA (c : Dev nD) (t : Fin cfg0.N) (h : t.val % 16 = 0) : Left F :=
  (outA_6 m c t h, outA_7 m c t h, outA_8 m c t h, outA_9 m c t h, outA_12 m c t h)

/-- What each point leaves, point after point. -/
def left (c : Dev nD) : (n : ℕ) → n < cfg0.N → Left F
  | 0, hn => stepA m c ⟨0, hn⟩ (Nat.zero_mod _)
  | n + 1, hn =>
    if h : (n + 1) % 16 = 0 then stepA m c ⟨n + 1, hn⟩ h
    else stepB m c ⟨n + 1, hn⟩ h (left c n (Nat.lt_of_succ_lt hn))

theorem left_A (c : Dev nD) (t : Fin cfg0.N) (h : t.val % 16 = 0) : left m c t.val t.isLt = stepA m c t h := by
  obtain ⟨n, hn⟩ := t
  cases n with
  | zero => rfl
  | succ n => exact dif_pos h

theorem left_B (c : Dev nD) (t : Fin cfg0.N) (h : ¬ t.val % 16 = 0) :
    left m c t.val t.isLt = stepB m c t h (left m c (t.val - 1) (Nat.lt_of_le_of_lt (Nat.sub_le _ _) t.isLt)) := by
  obtain ⟨n, hn⟩ := t
  cases n with
  | zero => exact absurd (Nat.zero_mod _) h
  | succ n => exact dif_neg h

/-- A work buffer held, its last eight rows zero and the rest anything. -/
def padded (c : Dev nD) (w : Memref sig .tc .vmem S280x2048 .f32) : sProp 𝕄 :=
  iprop(∃ f, w.view.loc (c : Thread nD τ) ↦[w.view.set]{fullShare} w.view.writes (Elt F) f [padPiece])

/-- What holds before point `n`: at first every scratch buffer at anything; later the work buffers padded and the carried
    rows as the point before left them. -/
def Phi (c : Dev nD) : (n : ℕ) → n ≤ cfg0.N → sProp 𝕄
  | 0, _ => Pipeline.ΦA spec0 c
  | n + 1, hn => iprop(iprop(padded c w0 ∗ padded c w1 ∗ owns (c : Thread nD τ) w2 fullShare (left m c n hn).2.2.2.2) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(padded c w0 ∗ padded c w1 ∗ owns (c : Thread nD τ) w2 fullShare (left m c n hn).2.2.2.2) ∗ (∃ r, prngReg c r)) := rfl

theorem Phi_pos (c : Dev nD) (n : ℕ) (h : n ≤ cfg0.N) (hz : n ≠ 0) :
    Phi m c n h = iprop(iprop(padded c w0 ∗ padded c w1 ∗ owns (c : Thread nD τ) w2 fullShare (left m c (n - 1) (by omega)).2.2.2.2) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) w0 fullShare d) ∗ (∃ d, owns (c : Thread nD τ) w1 fullShare d) ∗ (∃ d, owns (c : Thread nD τ) w2 fullShare d)) ∗ (∃ r, prngReg c r)) := by
  unfold Pipeline.ΦA; rw [scopedRest0_eq]; simp only [w0, w1, w2, owns_whole]; try rfl

/-- The proof data of the call's pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t.val t.isLt).1
    | ⟨7, _⟩ => (left m c t.val t.isLt).2.1
    | ⟨8, _⟩ => (left m c t.val t.isLt).2.2.1
    | ⟨9, _⟩ => (left m c t.val t.isLt).2.2.2.1
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (left m c t.val t.isLt).1 := by dsimp only [dats]
theorem after_7 (c : Dev nD) (t : Fin cfg0.N) : (dats m 0 c).after 7 t = (left m c t.val t.isLt).2.1 := by dsimp only [dats]
theorem after_8 (c : Dev nD) (t : Fin cfg0.N) : (dats m 0 c).after 8 t = (left m c t.val t.isLt).2.2.1 := by dsimp only [dats]
theorem after_9 (c : Dev nD) (t : Fin cfg0.N) : (dats m 0 c).after 9 t = (left m c t.val t.isLt).2.2.2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
/-- At a later point result 7's buffer holds what the point before left: it is written back at the end alone. -/
theorem before_7 (c : Dev nD) (t : Fin cfg0.N) (h : ¬ t.val % 16 = 0) (d) :
    (dats m 0 c).before 7 t d = (left m c (t.val - 1) (Nat.lt_of_le_of_lt (Nat.sub_le _ _) t.isLt)).2.1 := by
  have hN : t.val < 16 := lt_of_lt_of_eq t.isLt (show cfg0.N = 16 from N_0)
  rw [Dat.before_out_kept _ 7 rfl t (by omega) (Bool.eq_false_iff.mpr fun e => by have := (flush0_7 _).mp e; dsimp only at this; omega)
    (fun _ => rfl) (fun _ _ => rfl)]
  dsimp only [dats]
/-- At a later point result 8's buffer holds what the point before left: it is written back at the end alone. -/
theorem before_8 (c : Dev nD) (t : Fin cfg0.N) (h : ¬ t.val % 16 = 0) (d) :
    (dats m 0 c).before 8 t d = (left m c (t.val - 1) (Nat.lt_of_le_of_lt (Nat.sub_le _ _) t.isLt)).2.2.1 := by
  have hN : t.val < 16 := lt_of_lt_of_eq t.isLt (show cfg0.N = 16 from N_0)
  rw [Dat.before_out_kept _ 8 rfl t (by omega) (Bool.eq_false_iff.mpr fun e => by have := (flush0_8 _).mp e; dsimp only at this; omega)
    (fun _ => rfl) (fun _ _ => rfl)]
  dsimp only [dats]
/-- At a later point result 9's buffer holds what the point before left: it is written back at the end alone. -/
theorem before_9 (c : Dev nD) (t : Fin cfg0.N) (h : ¬ t.val % 16 = 0) (d) :
    (dats m 0 c).before 9 t d = (left m c (t.val - 1) (Nat.lt_of_le_of_lt (Nat.sub_le _ _) t.isLt)).2.2.2.1 := by
  have hN : t.val < 16 := lt_of_lt_of_eq t.isLt (show cfg0.N = 16 from N_0)
  rw [Dat.before_out_kept _ 9 rfl t (by omega) (Bool.eq_false_iff.mpr fun e => by have := (flush0_9 _).mp e; dsimp only at this; omega)
    (fun _ => rfl) (fun _ _ => rfl)]
  dsimp only [dats]

end Cert.Kernel4Ideal.Odd

end
-- ==== Proof.OddPointA.lean ====
module

public import proofs.«01_k».proof.Proof.OddLeft
public import proofs.«01_k».proof.Proof.OddPieces
public import proofs.«01_k».proof.Proof.OddRows
public import Idealize.ShloMosaic.Lib.Pipeline.ValueKit
public import Idealize.ShloMosaic.Lib.Pointwise
public import Idealize.ShloMosaic.Lib.ReduceAll

@[expose] public section
set_option maxRecDepth 16384
noncomputable section

/-! What the pooling mixer's backward pass stores at the first point, entry by entry. -/

namespace Cert.Kernel4Ideal.Odd
open Idealize.ShloMosaic Idealize.ShloMosaic.TcCoe Idealize.SL.Sem
open Cert.Kernel4Ideal.Gen
variable (m : (ℓ : Loc nD τ sig) → Buf (Elt Ideal) ℓ)

set_option maxHeartbeats 4000000 in
/-- The gradient of the gate, the second half of the input's columns. -/
theorem outA_6_at (c : Dev nD) (t : Fin cfg0.N) (h : t.val % 16 = 0) (r : Fin 256) (d : Fin 2048) :
    outA_6 m c t h (ix2 r ⟨2048 + d.val, by omega⟩) = rowZ (rows (iblk m c 1 t) r) (rows (iblk m c 0 t) r) (rows (iblk m c 2 t) r) (rows (iblk m c 4 t) 0) (rows (iblk m c 5 t) 0) (wts (iblk m c 3 t)) d := by
  unfold outA_6
  dsimp only [atA, runA]
  canon_tiles x hx using coverA_6 m c t h _
  all_goals
    generalize iblk m c 0 t = x0; generalize iblk m c 1 t = x1; generalize iblk m c 2 t = x2
    generalize iblk m c 3 t = x3; generalize iblk m c 4 t = x4; generalize iblk m c 5 t = x5
  all_goals first | (exfalso; simp at hx1; omega) | skip
  all_goals frame_out; (try simp (disch := decide) only [Pieces.readCov_skip, Pieces.readCov_inside]); open_payloads; pointwise [rowZ, rowG, rowA, rowY, rowE, rowP, rows, wts]

  all_goals simp only [ix2_0, ix2_1, ix3_0, ix3_1, ix3_2] at hx0 hx1
  all_goals blk_point

set_option maxHeartbeats 4000000 in
/-- The gradient of the value, the first half of the columns: the sum over the window's rows, less the row itself. -/
theorem outA_6_dv (c : Dev nD) (t : Fin cfg0.N) (h : t.val % 16 = 0) (r : Fin 256) (d : Fin 2048) :
    outA_6 m c t h (ix2 r ⟨d.val, by omega⟩) =
      (∑ j ∈ Finset.range (win d.val), ext (fun i => rowE ((15 - t.val) * 256 + i.val) (rows (iblk m c 0 t) i) (rows (iblk m c 2 t) i) (rows (iblk m c 5 t) 0) (wts (iblk m c 3 t))) (fun _ => 0) (r.val + j) d)
        - rowP (rows (iblk m c 0 t) r) (rows (iblk m c 2 t) r) (rows (iblk m c 5 t) 0) (wts (iblk m c 3 t)) d := by
  have hT : t.val < 16 := Nat.lt_of_lt_of_eq t.isLt N_0
  unfold outA_6
  dsimp only [atA, runA]
  canon_tiles x hx using coverA_6 m c t h _
  all_goals first | (exfalso; simp at hx1; omega) | skip
  all_goals
    generalize iblk m c 0 t = x0; generalize iblk m c 1 t = x1; generalize iblk m c 2 t = x2
    generalize iblk m c 3 t = x3; generalize iblk m c 4 t = x4; generalize iblk m c 5 t = x5
    obtain ⟨i, k, rfl⟩ : ∃ (i : Fin 256) (k : Fin 512), x = ix2 i k := ⟨x 0, x 1, by funext a; match a with | ⟨0, _⟩ => rfl | ⟨1, _⟩ => rfl⟩
    simp only [ix2_0, ix2_1] at hx0 hx1
    have hk := k.isLt
    obtain rfl : r = i := Fin.ext hx0
    have hr : r.val < 256 := r.isLt
  · refine (pay139_at _ _ _ r k).trans (congrArg₂ (· - ·) ?_ ?_)
    · refine Eq.trans ?_ (rowsSum_grp (fun i => rowE ((15 - t.val) * 256 + i.val) (rows x0 i) (rows x2 i) (rows x5 0) (wts x3)) (fun _ => 0) 1536 (by omega) 16 r.val k d (by omega) (by unfold win; split_ifs <;> omega))
      refine HoldsOn.pair (col := 1536) (hi := 265) 8 ?_ _ _ _ r k (show 8 + r.val < 265 by omega)
      refine HoldsOn.level (hi := 269) 4 ?_ _ _ _ 265 (by omega) (by omega) _ (fun i k => pay138_at _ _ i k)
      refine HoldsOn.level (hi := 271) 2 ?_ _ _ _ 269 (by omega) (by omega) _ (fun i k => pay137_at _ _ i k)
      refine HoldsOn.level (hi := 272) 1 ?_ _ _ _ 271 (by omega) (by omega) _ (fun i k => pay136_at _ _ i k)
      refine HoldsOn.one ?_
      refine HoldsOn.put ?_ fun i k => ?_
      · refine HoldsOn.skip ?_ (by omega)
        refine HoldsOn.skip ?_ (by omega)
        refine HoldsOn.skip ?_ (by omega)
        refine HoldsOn.skip ?_ (by omega)
        refine HoldsOn.next _ _ 1536 (by omega) fun i d => ?_
        frame_out; (try simp (disch := decide) only [Pieces.readCov_skip, Pieces.readCov_inside]); open_payloads; pointwise []

      · have hi := i.isLt
        rw [grp, ext, dif_pos hi]
        frame_out; open_payloads; pointwise [rowE, rowP, rowA, rowY, rows, wts, inv]
        refine congrArg₂ (· * ·) ?_ ((inv_word t i.val hi 16 (by omega) (by omega)).trans ?_)
        · blk_point
        · rw [show win (1536 + k.val) = 16 from by unfold win; split_ifs <;> omega]
    · frame_out; open_payloads; pointwise [rowP, rowA, rowY, rows, wts]
      blk_point
  · refine (pay105_at _ _ _ r k).trans (congrArg₂ (· - ·) ?_ ?_)
    · refine Eq.trans ?_ (rowsSum_grp (fun i => rowE ((15 - t.val) * 256 + i.val) (rows x0 i) (rows x2 i) (rows x5 0) (wts x3)) (fun _ => 0) 1024 (by omega) 8 r.val k d (by omega) (by unfold win; split_ifs <;> omega))
      refine HoldsOn.pair (col := 1024) (hi := 269) 4 ?_ _ _ _ r k (show 4 + r.val < 269 by omega)
      refine HoldsOn.level (hi := 271) 2 ?_ _ _ _ 269 (by omega) (by omega) _ (fun i k => pay104_at _ _ i k)
      refine HoldsOn.level (hi := 272) 1 ?_ _ _ _ 271 (by omega) (by omega) _ (fun i k => pay103_at _ _ i k)
      refine HoldsOn.one ?_
      refine HoldsOn.put ?_ fun i k => ?_
      · refine HoldsOn.skip ?_ (by omega)
        refine HoldsOn.skip ?_ (by omega)
        refine HoldsOn.next _ _ 1024 (by omega) fun i d => ?_
        frame_out; (try simp (disch := decide) only [Pieces.readCov_skip, Pieces.readCov_inside]); open_payloads; pointwise []

      · have hi := i.isLt
        rw [grp, ext, dif_pos hi]
        frame_out; open_payloads; pointwise [rowE, rowP, rowA, rowY, rows, wts, inv]
        refine congrArg₂ (· * ·) ?_ ((inv_word t i.val hi 8 (by omega) (by omega)).trans ?_)
        · blk_point
        · rw [show win (1024 + k.val) = 8 from by unfold win; split_ifs <;> omega]
    · frame_out; open_payloads; pointwise [rowP, rowA, rowY, rows, wts]
      blk_point
  · refine (pay71_at _ _ _ r k).trans (congrArg₂ (· - ·) ?_ ?_)
    · refine Eq.trans ?_ (rowsSum_grp (fun i => rowE ((15 - t.val) * 256 + i.val) (rows x0 i) (rows x2 i) (rows x5 0) (wts x3)) (fun _ => 0) 512 (by omega) 4 r.val k d (by omega) (by unfold win; split_ifs <;> omega))
      refine HoldsOn.pair (col := 512) (hi := 271) 2 ?_ _ _ _ r k (show 2 + r.val < 271 by omega)
      refine HoldsOn.level (hi := 272) 1 ?_ _ _ _ 271 (by omega) (by omega) _ (fun i k => pay70_at _ _ i k)
      refine HoldsOn.one ?_
      refine HoldsOn.put ?_ fun i k => ?_
      · refine HoldsOn.skip ?_ (by omega)
        refine HoldsOn.next _ _ 512 (by omega) fun i d => ?_
        frame_out; (try simp (disch := decide) only [Pieces.readCov_skip, Pieces.readCov_inside]); open_payloads; pointwise []

      · have hi := i.isLt
        rw [grp, ext, dif_pos hi]
        frame_out; open_payloads; pointwise [rowE, rowP, rowA, rowY, rows, wts, inv]
        refine congrArg₂ (· * ·) ?_ ((inv_word t i.val hi 4 (by omega) (by omega)).trans ?_)
        · blk_point
        · rw [show win (512 + k.val) = 4 from by unfold win; split_ifs <;> omega]
    · frame_out; open_payloads; pointwise [rowP, rowA, rowY, rows, wts]
      blk_point
  · refine (pay38_at _ _ _ r k).trans (congrArg₂ (· - ·) ?_ ?_)
    · refine Eq.trans ?_ (rowsSum_grp (fun i => rowE ((15 - t.val) * 256 + i.val) (rows x0 i) (rows x2 i) (rows x5 0) (wts x3)) (fun _ => 0) 0 (by omega) 2 r.val k d (by omega) (by unfold win; split_ifs <;> omega))
      refine HoldsOn.pair (col := 0) (hi := 272) 1 ?_ _ _ _ r k (show 1 + r.val < 272 by omega)
      refine HoldsOn.one ?_
      refine HoldsOn.put ?_ fun i k => ?_
      · refine HoldsOn.next _ _ 0 (by omega) fun i d => ?_
        frame_out; (try simp (disch := decide) only [Pieces.readCov_skip, Pieces.readCov_inside]); open_payloads; pointwise []

      · have hi := i.isLt
        rw [grp, ext, dif_pos hi]
        frame_out; open_payloads; pointwise [rowE, rowP, rowA, rowY, rows, wts, inv]
        refine congrArg₂ (· * ·) ?_ ((inv_word t i.val hi 2 (by omega) (by omega)).trans ?_)
        · blk_point
        · rw [show win (k.val) = 2 from by unfold win; split_ifs <;> omega]
    · frame_out; open_payloads; pointwise [rowP, rowA, rowY, rows, wts]
      blk_point

set_option maxHeartbeats 4000000 in
/-- The weights' gradient: the products of the point's rows. -/
theorem outA_7_at (c : Dev nD) (t : Fin cfg0.N) (h : t.val % 16 = 0) (g : Fin 4) (k l : Fin 512) :
    outA_7 m c t h (ix3 g k l) = ∑ r : Fin 256, rows (iblk m c 1 t) r ⟨g.val * 512 + k.val, by omega⟩ * rowA (rows (iblk m c 0 t) r) (rows (iblk m c 2 t) r) (rows (iblk m c 5 t) 0) ⟨g.val * 512 + l.val, by omega⟩ := by
  unfold outA_7
  have hc := fun y => View.cover_of_tiledBy (atA m c t h).2.1.dropLast ![1, 512, 256] (by sl_kernel_rfl) y
  rw [Pieces.canon_dropLast _ _ (hc _)]
  dsimp only [atA, runA, runA.sl.H7_1, runA.sl.H7_2, runA.sl.H7_3, runA.sl.H7_4, runA.sl.H7_5, runA.sl.H7_6, runA.sl.H7_7, runA.sl.H7_8, List.dropLast]
  canon_tiles x hx using hc _
  all_goals
    generalize iblk m c 0 t = x0; generalize iblk m c 1 t = x1; generalize iblk m c 2 t = x2
    generalize iblk m c 3 t = x3; generalize iblk m c 4 t = x4; generalize iblk m c 5 t = x5
  all_goals first | (exfalso; simp at hx1; omega) | skip
  all_goals frame_out; (try simp (disch := decide) only [Pieces.readCov_skip, Pieces.readCov_inside]); open_payloads; pointwise [rowZ, rowG, rowA, rowY, rowE, rowP, rows, wts]

  all_goals simp only [ix2_0, ix2_1, ix3_0, ix3_1, ix3_2] at hx0 hx1 hx2
  all_goals blk_point

set_option maxHeartbeats 4000000 in
/-- The bias's gradient: the sum of the point's rows. -/
theorem outA_8_at (c : Dev nD) (t : Fin cfg0.N) (h : t.val % 16 = 0) (a : Fin 1) (d : Fin 2048) :
    outA_8 m c t h (ix2 a d) = ∑ r : Fin 256, rowA (rows (iblk m c 0 t) r) (rows (iblk m c 2 t) r) (rows (iblk m c 5 t) 0) d := by
  unfold outA_8
  have hc := fun y => View.cover_of_tiledBy (atA m c t h).2.2.1.dropLast ![1, 256] (by sl_kernel_rfl) y
  rw [Pieces.canon_dropLast _ _ (hc _)]
  dsimp only [atA, runA, runA.sl.H8_1, runA.sl.H8_2, runA.sl.H8_3, runA.sl.H8_4, runA.sl.H8_5, runA.sl.H8_6, runA.sl.H8_7, runA.sl.H8_8, List.dropLast]
  canon_tiles x hx using hc _
  all_goals
    generalize iblk m c 0 t = x0; generalize iblk m c 1 t = x1; generalize iblk m c 2 t = x2
    generalize iblk m c 3 t = x3; generalize iblk m c 4 t = x4; generalize iblk m c 5 t = x5
  all_goals first | (exfalso; simp at hx1; omega) | skip
  all_goals frame_out; (try simp (disch := decide) only [Pieces.readCov_skip, Pieces.readCov_inside]); open_payloads; pointwise [rowZ, rowG, rowA, rowY, rowE, rowP, rows, wts]

  all_goals simp only [ix2_0, ix2_1, ix3_0, ix3_1, ix3_2] at hx0 hx1
  all_goals blk_point

set_option maxHeartbeats 4000000 in
/-- The scale's gradient: the sum of the point's rows. -/
theorem outA_9_at (c : Dev nD) (t : Fin cfg0.N) (h : t.val % 16 = 0) (a : Fin 1) (d : Fin 2048) :
    outA_9 m c t h (ix2 a d) = ∑ r : Fin 256, rowY (rows (iblk m c 0 t) r) (rows (iblk m c 2 t) r) d * rowG (rows (iblk m c 1 t) r) (rows (iblk m c 4 t) 0) (wts (iblk m c 3 t)) d := by
  unfold outA_9
  have hc := fun y => View.cover_of_tiledBy (atA m c t h).2.2.2.1.dropLast ![1, 256] (by sl_kernel_rfl) y
  rw [Pieces.canon_dropLast _ _ (hc _)]
  dsimp only [atA, runA, runA.sl.H9_1, runA.sl.H9_2, runA.sl.H9_3, runA.sl.H9_4, runA.sl.H9_5, runA.sl.H9_6, runA.sl.H9_7, runA.sl.H9_8, List.dropLast]
  canon_tiles x hx using hc _
  all_goals
    generalize iblk m c 0 t = x0; generalize iblk m c 1 t = x1; generalize iblk m c 2 t = x2
    generalize iblk m c 3 t = x3; generalize iblk m c 4 t = x4; generalize iblk m c 5 t = x5
  all_goals first | (exfalso; simp at hx1; omega) | skip
  all_goals frame_out; (try simp (disch := decide) only [Pieces.readCov_skip, Pieces.readCov_inside]); open_payloads; pointwise [rowZ, rowG, rowA, rowY, rowE, rowP, rows, wts]

  all_goals simp only [ix2_0, ix2_1, ix3_0, ix3_1, ix3_2] at hx0 hx1
  all_goals blk_point

set_option maxHeartbeats 4000000 in
/-- The rows carried to the next point are the first sixteen of the point's own summands. -/
theorem outA_12_at (c : Dev nD) (t : Fin cfg0.N) (h : t.val % 16 = 0) (r : Fin 16) (d : Fin 2048) :
    outA_12 m c t h (ix2 r d) = rowE ((15 - t.val) * 256 + r.val) (rows (iblk m c 0 t) ⟨r.val, by omega⟩) (rows (iblk m c 2 t) ⟨r.val, by omega⟩) (rows (iblk m c 5 t) 0) (wts (iblk m c 3 t)) d := by
  unfold outA_12
  have hc := fun y => View.cover_of_tiledBy (atA m c t h).2.2.2.2.2.2.1.dropLast ![16, 512] (by sl_kernel_rfl) y
  rw [Pieces.canon_dropLast _ _ (hc _)]
  dsimp only [atA, runA, runA.sl.H12_1, List.dropLast]
  canon_tiles x hx using hc _
  all_goals
    generalize iblk m c 0 t = x0; generalize iblk m c 1 t = x1; generalize iblk m c 2 t = x2
    generalize iblk m c 3 t = x3; generalize iblk m c 4 t = x4; generalize iblk m c 5 t = x5
  all_goals first | (exfalso; simp at hx1; omega) | skip
  all_goals frame_out; (try simp (disch := decide) only [Pieces.readCov_skip, Pieces.readCov_inside]); open_payloads; pointwise [rowZ, rowG, rowA, rowY, rowE, rowP, rows, wts, inv]

  all_goals obtain ⟨i, k, rfl⟩ : ∃ (i : Fin 16) (k : Fin 512), x = ix2 i k := ⟨x 0, x 1, by funext a; match a with | ⟨0, _⟩ => rfl | ⟨1, _⟩ => rfl⟩
  all_goals simp only [ix2_0, ix2_1, ix3_0, ix3_1, ix3_2] at hx0 hx1
  all_goals have hi : r.val < 256 := lt_trans r.isLt (by decide)
  all_goals have hk := k.isLt
  all_goals obtain rfl : r = i := Fin.ext hx0
  · refine congrArg₂ (· * ·) ?_ ((inv_word t r.val hi 16 (by omega) (by omega)).trans ?_)
    · blk_point
    · rw [show win d.val = 16 from by unfold win; split_ifs <;> omega]
  · refine congrArg₂ (· * ·) ?_ ((inv_word t r.val hi 8 (by omega) (by omega)).trans ?_)
    · blk_point
    · rw [show win d.val = 8 from by unfold win; split_ifs <;> omega]
  · refine congrArg₂ (· * ·) ?_ ((inv_word t r.val hi 4 (by omega) (by omega)).trans ?_)
    · blk_point
    · rw [show win d.val = 4 from by unfold win; split_ifs <;> omega]
  · refine congrArg₂ (· * ·) ?_ ((inv_word t r.val hi 2 (by omega) (by omega)).trans ?_)
    · blk_point
    · rw [show win d.val = 2 from by unfold win; split_ifs <;> omega]

end Cert.Kernel4Ideal.Odd
end
-- ==== Proof.OddPointB.lean ====
module

public import proofs.«01_k».proof.Proof.OddLeft
public import proofs.«01_k».proof.Proof.OddPieces
public import proofs.«01_k».proof.Proof.OddRows
public import Idealize.ShloMosaic.Lib.Pipeline.ValueKit
public import Idealize.ShloMosaic.Lib.Pointwise
public import Idealize.ShloMosaic.Lib.ReduceAll

@[expose] public section
set_option maxRecDepth 16384
noncomputable section

/-! What the pooling mixer's backward pass stores at a later point, entry by entry. -/

namespace Cert.Kernel4Ideal.Odd
open Idealize.ShloMosaic Idealize.ShloMosaic.TcCoe Idealize.SL.Sem
open Cert.Kernel4Ideal.Gen
variable (m : (ℓ : Loc nD τ sig) → Buf (Elt Ideal) ℓ)

set_option maxHeartbeats 4000000 in
/-- The gradient of the gate, the second half of the input's columns. -/
theorem outB_6_at (c : Dev nD) (t : Fin cfg0.N) (h : ¬ t.val % 16 = 0) (y7 : Vec Ideal S4x512x512 .f32) (y8 y9 : Vec Ideal S1x2048 .f32) (s2 : Vec Ideal S16x2048 .f32) (r : Fin 256) (d : Fin 2048) :
    outB_6 m c t h y7 y8 y9 s2 (ix2 r ⟨2048 + d.val, by omega⟩) = rowZ (rows (iblk m c 1 t) r) (rows (iblk m c 0 t) r) (rows (iblk m c 2 t) r) (rows (iblk m c 4 t) 0) (rows (iblk m c 5 t) 0) (wts (iblk m c 3 t)) d := by
  unfold outB_6
  dsimp only [atB, runB]
  canon_tiles x hx using coverB_6 m c t h y7 y8 y9 s2 _
  all_goals
    generalize iblk m c 0 t = x0; generalize iblk m c 1 t = x1; generalize iblk m c 2 t = x2
    generalize iblk m c 3 t = x3; generalize iblk m c 4 t = x4; generalize iblk m c 5 t = x5
  all_goals first | (exfalso; simp at hx1; omega) | skip
  all_goals frame_out; open_payloads; pointwise [rowZ, rowG, rowA, rowY, rowE, rowP, rows, wts]

  all_goals simp only [ix2_0, ix2_1, ix3_0, ix3_1, ix3_2] at hx0 hx1
  all_goals blk_point

set_option maxHeartbeats 4000000 in
/-- The gradient of the value, the first half of the columns: the sum over the window's rows, less the row itself. -/
theorem outB_6_dv (c : Dev nD) (t : Fin cfg0.N) (h : ¬ t.val % 16 = 0) (y7 : Vec Ideal S4x512x512 .f32) (y8 y9 : Vec Ideal S1x2048 .f32) (s2 : Vec Ideal S16x2048 .f32) (r : Fin 256) (d : Fin 2048) :
    outB_6 m c t h y7 y8 y9 s2 (ix2 r ⟨d.val, by omega⟩) =
      (∑ j ∈ Finset.range (win d.val), ext (fun i => rowE ((15 - t.val) * 256 + i.val) (rows (iblk m c 0 t) i) (rows (iblk m c 2 t) i) (rows (iblk m c 5 t) 0) (wts (iblk m c 3 t))) s2 (r.val + j) d)
        - rowP (rows (iblk m c 0 t) r) (rows (iblk m c 2 t) r) (rows (iblk m c 5 t) 0) (wts (iblk m c 3 t)) d := by
  have hT : t.val < 16 := Nat.lt_of_lt_of_eq t.isLt N_0
  unfold outB_6
  dsimp only [atB, runB]
  canon_tiles x hx using coverB_6 m c t h y7 y8 y9 s2 _
  all_goals first | (exfalso; simp at hx1; omega) | skip
  all_goals
    generalize iblk m c 0 t = x0; generalize iblk m c 1 t = x1; generalize iblk m c 2 t = x2
    generalize iblk m c 3 t = x3; generalize iblk m c 4 t = x4; generalize iblk m c 5 t = x5
    obtain ⟨i, k, rfl⟩ : ∃ (i : Fin 256) (k : Fin 512), x = ix2 i k := ⟨x 0, x 1, by funext a; match a with | ⟨0, _⟩ => rfl | ⟨1, _⟩ => rfl⟩
    simp only [ix2_0, ix2_1] at hx0 hx1
    have hk := k.isLt
    obtain rfl : r = i := Fin.ext hx0
    have hr : r.val < 256 := r.isLt
  · refine (pay139_at _ _ _ r k).trans (congrArg₂ (· - ·) ?_ ?_)
    · refine Eq.trans ?_ (rowsSum_grp (fun i => rowE ((15 - t.val) * 256 + i.val) (rows x0 i) (rows x2 i) (rows x5 0) (wts x3)) s2 1536 (by omega) 16 r.val k d (by omega) (by unfold win; split_ifs <;> omega))
      refine HoldsOn.pair (col := 1536) (hi := 265) 8 ?_ _ _ _ r k (show 8 + r.val < 265 by omega)
      refine HoldsOn.level (hi := 269) 4 ?_ _ _ _ 265 (by omega) (by omega) _ (fun i k => pay138_at _ _ i k)
      refine HoldsOn.level (hi := 271) 2 ?_ _ _ _ 269 (by omega) (by omega) _ (fun i k => pay137_at _ _ i k)
      refine HoldsOn.level (hi := 272) 1 ?_ _ _ _ 271 (by omega) (by omega) _ (fun i k => pay136_at _ _ i k)
      refine HoldsOn.one ?_
      refine HoldsOn.put ?_ fun i k => ?_
      · refine HoldsOn.skip ?_ (by omega)
        refine HoldsOn.skip ?_ (by omega)
        refine HoldsOn.skip ?_ (by omega)
        refine HoldsOn.skip ?_ (by omega)
        refine HoldsOn.next _ _ 1536 (by omega) fun i d => ?_
        frame_out; open_payloads; pointwise []
        exact congrFun ((Memref.isWhole_whole cc0_scratch2).read_unread s2) _
      · have hi := i.isLt
        rw [grp, ext, dif_pos hi]
        frame_out; open_payloads; pointwise [rowE, rowP, rowA, rowY, rows, wts, inv]
        refine congrArg₂ (· * ·) ?_ ((inv_word t i.val hi 16 (by omega) (by omega)).trans ?_)
        · blk_point
        · rw [show win (1536 + k.val) = 16 from by unfold win; split_ifs <;> omega]
    · frame_out; open_payloads; pointwise [rowP, rowA, rowY, rows, wts]
      blk_point
  · refine (pay105_at _ _ _ r k).trans (congrArg₂ (· - ·) ?_ ?_)
    · refine Eq.trans ?_ (rowsSum_grp (fun i => rowE ((15 - t.val) * 256 + i.val) (rows x0 i) (rows x2 i) (rows x5 0) (wts x3)) s2 1024 (by omega) 8 r.val k d (by omega) (by unfold win; split_ifs <;> omega))
      refine HoldsOn.pair (col := 1024) (hi := 269) 4 ?_ _ _ _ r k (show 4 + r.val < 269 by omega)
      refine HoldsOn.level (hi := 271) 2 ?_ _ _ _ 269 (by omega) (by omega) _ (fun i k => pay104_at _ _ i k)
      refine HoldsOn.level (hi := 272) 1 ?_ _ _ _ 271 (by omega) (by omega) _ (fun i k => pay103_at _ _ i k)
      refine HoldsOn.one ?_
      refine HoldsOn.put ?_ fun i k => ?_
      · refine HoldsOn.skip ?_ (by omega)
        refine HoldsOn.skip ?_ (by omega)
        refine HoldsOn.next _ _ 1024 (by omega) fun i d => ?_
        frame_out; open_payloads; pointwise []
        exact congrFun ((Memref.isWhole_whole cc0_scratch2).read_unread s2) _
      · have hi := i.isLt
        rw [grp, ext, dif_pos hi]
        frame_out; open_payloads; pointwise [rowE, rowP, rowA, rowY, rows, wts, inv]
        refine congrArg₂ (· * ·) ?_ ((inv_word t i.val hi 8 (by omega) (by omega)).trans ?_)
        · blk_point
        · rw [show win (1024 + k.val) = 8 from by unfold win; split_ifs <;> omega]
    · frame_out; open_payloads; pointwise [rowP, rowA, rowY, rows, wts]
      blk_point
  · refine (pay71_at _ _ _ r k).trans (congrArg₂ (· - ·) ?_ ?_)
    · refine Eq.trans ?_ (rowsSum_grp (fun i => rowE ((15 - t.val) * 256 + i.val) (rows x0 i) (rows x2 i) (rows x5 0) (wts x3)) s2 512 (by omega) 4 r.val k d (by omega) (by unfold win; split_ifs <;> omega))
      refine HoldsOn.pair (col := 512) (hi := 271) 2 ?_ _ _ _ r k (show 2 + r.val < 271 by omega)
      refine HoldsOn.level (hi := 272) 1 ?_ _ _ _ 271 (by omega) (by omega) _ (fun i k => pay70_at _ _ i k)
      refine HoldsOn.one ?_
      refine HoldsOn.put ?_ fun i k => ?_
      · refine HoldsOn.skip ?_ (by omega)
        refine HoldsOn.next _ _ 512 (by omega) fun i d => ?_
        frame_out; open_payloads; pointwise []
        exact congrFun ((Memref.isWhole_whole cc0_scratch2).read_unread s2) _
      · have hi := i.isLt
        rw [grp, ext, dif_pos hi]
        frame_out; open_payloads; pointwise [rowE, rowP, rowA, rowY, rows, wts, inv]
        refine congrArg₂ (· * ·) ?_ ((inv_word t i.val hi 4 (by omega) (by omega)).trans ?_)
        · blk_point
        · rw [show win (512 + k.val) = 4 from by unfold win; split_ifs <;> omega]
    · frame_out; open_payloads; pointwise [rowP, rowA, rowY, rows, wts]
      blk_point
  · refine (pay38_at _ _ _ r k).trans (congrArg₂ (· - ·) ?_ ?_)
    · refine Eq.trans ?_ (rowsSum_grp (fun i => rowE ((15 - t.val) * 256 + i.val) (rows x0 i) (rows x2 i) (rows x5 0) (wts x3)) s2 0 (by omega) 2 r.val k d (by omega) (by unfold win; split_ifs <;> omega))
      refine HoldsOn.pair (col := 0) (hi := 272) 1 ?_ _ _ _ r k (show 1 + r.val < 272 by omega)
      refine HoldsOn.one ?_
      refine HoldsOn.put ?_ fun i k => ?_
      · refine HoldsOn.next _ _ 0 (by omega) fun i d => ?_
        frame_out; open_payloads; pointwise []
        exact congrFun ((Memref.isWhole_whole cc0_scratch2).read_unread s2) _
      · have hi := i.isLt
        rw [grp, ext, dif_pos hi]
        frame_out; open_payloads; pointwise [rowE, rowP, rowA, rowY, rows, wts, inv]
        refine congrArg₂ (· * ·) ?_ ((inv_word t i.val hi 2 (by omega) (by omega)).trans ?_)
        · blk_point
        · rw [show win (k.val) = 2 from by unfold win; split_ifs <;> omega]
    · frame_out; open_payloads; pointwise [rowP, rowA, rowY, rows, wts]
      blk_point

set_option maxHeartbeats 4000000 in
/-- The weights' gradient: the products of the point's rows, added to what was there. -/
theorem outB_7_at (c : Dev nD) (t : Fin cfg0.N) (h : ¬ t.val % 16 = 0) (y7 : Vec Ideal S4x512x512 .f32) (y8 y9 : Vec Ideal S1x2048 .f32) (s2 : Vec Ideal S16x2048 .f32) (g : Fin 4) (k l : Fin 512) :
    outB_7 m c t h y7 y8 y9 s2 (ix3 g k l) = y7 (ix3 g k l) + ∑ r : Fin 256, rows (iblk m c 1 t) r ⟨g.val * 512 + k.val, by omega⟩ * rowA (rows (iblk m c 0 t) r) (rows (iblk m c 2 t) r) (rows (iblk m c 5 t) 0) ⟨g.val * 512 + l.val, by omega⟩ := by
  unfold outB_7
  dsimp only [atB, runB]
  canon_tiles x hx using coverB_7 m c t h y7 y8 y9 s2 _
  all_goals
    generalize iblk m c 0 t = x0; generalize iblk m c 1 t = x1; generalize iblk m c 2 t = x2
    generalize iblk m c 3 t = x3; generalize iblk m c 4 t = x4; generalize iblk m c 5 t = x5
  all_goals first | (exfalso; simp at hx1; omega) | skip
  all_goals frame_out; open_payloads; pointwise [rowZ, rowG, rowA, rowY, rowE, rowP, rows, wts]

  all_goals simp only [ix2_0, ix2_1, ix3_0, ix3_1, ix3_2] at hx0 hx1 hx2
  all_goals blk_point

set_option maxHeartbeats 4000000 in
/-- The bias's gradient: the sum of the point's rows, added to what was there. -/
theorem outB_8_at (c : Dev nD) (t : Fin cfg0.N) (h : ¬ t.val % 16 = 0) (y7 : Vec Ideal S4x512x512 .f32) (y8 y9 : Vec Ideal S1x2048 .f32) (s2 : Vec Ideal S16x2048 .f32) (a : Fin 1) (d : Fin 2048) :
    outB_8 m c t h y7 y8 y9 s2 (ix2 a d) = y8 (ix2 a d) + ∑ r : Fin 256, rowA (rows (iblk m c 0 t) r) (rows (iblk m c 2 t) r) (rows (iblk m c 5 t) 0) d := by
  unfold outB_8
  dsimp only [atB, runB]
  canon_tiles x hx using coverB_8 m c t h y7 y8 y9 s2 _
  all_goals
    generalize iblk m c 0 t = x0; generalize iblk m c 1 t = x1; generalize iblk m c 2 t = x2
    generalize iblk m c 3 t = x3; generalize iblk m c 4 t = x4; generalize iblk m c 5 t = x5
  all_goals first | (exfalso; simp at hx1; omega) | skip
  all_goals frame_out; open_payloads; pointwise [rowZ, rowG, rowA, rowY, rowE, rowP, rows, wts]

  all_goals simp only [ix2_0, ix2_1, ix3_0, ix3_1, ix3_2] at hx0 hx1
  all_goals blk_point

set_option maxHeartbeats 4000000 in
/-- The scale's gradient: the sum of the point's rows, added to what was there. -/
theorem outB_9_at (c : Dev nD) (t : Fin cfg0.N) (h : ¬ t.val % 16 = 0) (y7 : Vec Ideal S4x512x512 .f32) (y8 y9 : Vec Ideal S1x2048 .f32) (s2 : Vec Ideal S16x2048 .f32) (a : Fin 1) (d : Fin 2048) :
    outB_9 m c t h y7 y8 y9 s2 (ix2 a d) = y9 (ix2 a d) + ∑ r : Fin 256, rowY (rows (iblk m c 0 t) r) (rows (iblk m c 2 t) r) d * rowG (rows (iblk m c 1 t) r) (rows (iblk m c 4 t) 0) (wts (iblk m c 3 t)) d := by
  unfold outB_9
  dsimp only [atB, runB]
  canon_tiles x hx using coverB_9 m c t h y7 y8 y9 s2 _
  all_goals
    generalize iblk m c 0 t = x0; generalize iblk m c 1 t = x1; generalize iblk m c 2 t = x2
    generalize iblk m c 3 t = x3; generalize iblk m c 4 t = x4; generalize iblk m c 5 t = x5
  all_goals first | (exfalso; simp at hx1; omega) | skip
  all_goals frame_out; open_payloads; pointwise [rowZ, rowG, rowA, rowY, rowE, rowP, rows, wts]

  all_goals simp only [ix2_0, ix2_1, ix3_0, ix3_1, ix3_2] at hx0 hx1
  all_goals blk_point

set_option maxHeartbeats 4000000 in
/-- The rows carried to the next point are the first sixteen of the point's own summands. -/
theorem outB_12_at (c : Dev nD) (t : Fin cfg0.N) (h : ¬ t.val % 16 = 0) (y7 : Vec Ideal S4x512x512 .f32) (y8 y9 : Vec Ideal S1x2048 .f32) (s2 : Vec Ideal S16x2048 .f32) (r : Fin 16) (d : Fin 2048) :
    outB_12 m c t h y7 y8 y9 s2 (ix2 r d) = rowE ((15 - t.val) * 256 + r.val) (rows (iblk m c 0 t) ⟨r.val, by omega⟩) (rows (iblk m c 2 t) ⟨r.val, by omega⟩) (rows (iblk m c 5 t) 0) (wts (iblk m c 3 t)) d := by
  unfold outB_12
  dsimp only [atB, runB]
  canon_tiles x hx using coverB_12 m c t h y7 y8 y9 s2 _
  all_goals
    generalize iblk m c 0 t = x0; generalize iblk m c 1 t = x1; generalize iblk m c 2 t = x2
    generalize iblk m c 3 t = x3; generalize iblk m c 4 t = x4; generalize iblk m c 5 t = x5
  all_goals first | (exfalso; simp at hx1; omega) | skip
  all_goals frame_out; open_payloads; pointwise [rowZ, rowG, rowA, rowY, rowE, rowP, rows, wts, inv]

  all_goals obtain ⟨i, k, rfl⟩ : ∃ (i : Fin 16) (k : Fin 512), x = ix2 i k := ⟨x 0, x 1, by funext a; match a with | ⟨0, _⟩ => rfl | ⟨1, _⟩ => rfl⟩
  all_goals simp only [ix2_0, ix2_1, ix3_0, ix3_1, ix3_2] at hx0 hx1
  all_goals have hi : r.val < 256 := lt_trans r.isLt (by decide)
  all_goals have hk := k.isLt
  all_goals obtain rfl : r = i := Fin.ext hx0
  · refine congrArg₂ (· * ·) ?_ ((inv_word t r.val hi 16 (by omega) (by omega)).trans ?_)
    · blk_point
    · rw [show win d.val = 16 from by unfold win; split_ifs <;> omega]
  · refine congrArg₂ (· * ·) ?_ ((inv_word t r.val hi 8 (by omega) (by omega)).trans ?_)
    · blk_point
    · rw [show win d.val = 8 from by unfold win; split_ifs <;> omega]
  · refine congrArg₂ (· * ·) ?_ ((inv_word t r.val hi 4 (by omega) (by omega)).trans ?_)
    · blk_point
    · rw [show win d.val = 4 from by unfold win; split_ifs <;> omega]
  · refine congrArg₂ (· * ·) ?_ ((inv_word t r.val hi 2 (by omega) (by omega)).trans ?_)
    · blk_point
    · rw [show win d.val = 2 from by unfold win; split_ifs <;> omega]

end Cert.Kernel4Ideal.Odd
end
-- ==== Proof.OddBody.lean ====
module

public import proofs.«01_k».proof.Proof.OddLeft
public import Idealize.ShloMosaic.Lib.Claim
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! The body of the pooling mixer's backward kernel takes what holds before a grid point to what holds after it. -/

namespace Cert.Kernel4Ideal.Odd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A list of stores (last first) into a work buffer that ends with zeros in its last eight rows: one of them writes the
    zeros, and those after it stay above these rows. -/
inductive KeepsPad : List (View.Piece (Elt F) S280x2048 .f32) → Prop
  | pad (L) : KeepsPad (padPiece :: L)
  | more (off sz : Fin 2 → ℕ) (inb : ∀ a, off a + sz a ≤ S280x2048.size a) (w) (L) (h : off 0 + sz 0 ≤ 272) (hL : KeepsPad L) :
      KeepsPad (⟨Rect.unit (s := S280x2048) off sz inb, w⟩ :: L)

/-- After such stores the last eight rows read as zeros. -/
theorem KeepsPad.read {L : List (View.Piece (Elt F) S280x2048 .f32)} (h : KeepsPad L) {v : View sig .tc .vmem S280x2048 .f32}
    (f : v.ty.Contents (Elt F)) (x : padRect.shape.Idx) :
    v.read (Elt F) (v.writes (Elt F) f L) (padRect.emb x) = k0_pay5 (F := F) x := by
  induction h with
  | pad L => exact View.read_writes_cons_emb _ _ _ _ _ _
  | more off sz inb w L h hL ih =>
    rw [View.writes_cons, View.read_slice_write_of_not_mem _ _ _ _ (y := padRect.emb x) ?_]
    · exact ih
    · rw [Rect.map_emb_univ]
      intro hy
      obtain ⟨z, hz⟩ := (Rect.unit (s := S280x2048) off sz inb).exists_idx_of_mem hy
      have h0 : off 0 + 1 * (z 0).val = 272 + 1 * (x 0).val := congrArg (fun i => (i 0).val) hz
      have hz0 : (z 0).val < sz 0 := (z 0).isLt
      omega

/-- So the buffer is left padded. -/
theorem KeepsPad.padded {L : List (View.Piece (Elt F) S280x2048 .f32)} (h : KeepsPad L) (c : Dev nD)
    (w : Memref sig .tc .vmem S280x2048 .f32) (hw : w.IsWhole) (f : w.view.ty.Contents (Elt F)) :
    (iprop(w.view.loc (c : Thread nD τ) ↦[w.view.set]{fullShare} w.view.writes (Elt F) f L) : sProp 𝕄) ⊢ padded c w := by
  have e : w.view.writes (Elt F) (w.view.writes (Elt F) f L) [padPiece] = w.view.writes (Elt F) f L := by
    refine hw.read_bijective.1 (funext fun y => ?_)
    by_cases hy : y ∈ padRect.set
    · obtain ⟨x, rfl⟩ := padRect.exists_idx_of_mem hy
      exact (View.read_writes_cons_emb _ _ _ _ _ _).trans (h.read f x).symm
    · rw [View.writes_cons, View.read_slice_write_of_not_mem _ _ _ _ (by rwa [Rect.map_emb_univ])]
      rfl
  unfold Odd.padded
  iintro H
  iexists _
  rw [e]
  iexact H

theorem keepsA_0 (c : Dev nD) (t : Fin cfg0.N) (h : t.val % 16 = 0) : KeepsPad (atA m c t h).2.2.2.2.1 := by
  repeat' first | exact .pad _ | refine .more _ _ _ _ _ (by decide) ?_

theorem keepsA_1 (c : Dev nD) (t : Fin cfg0.N) (h : t.val % 16 = 0) : KeepsPad (atA m c t h).2.2.2.2.2.1 := by
  repeat' first | exact .pad _ | refine .more _ _ _ _ _ (by decide) ?_

theorem keepsB_0 (c : Dev nD) (t : Fin cfg0.N) (h : ¬ t.val % 16 = 0) (y7 : Vec F S4x512x512 .f32) (y8 y9 : Vec F S1x2048 .f32) (s2 : Vec F S16x2048 .f32) : KeepsPad (atB m c t h y7 y8 y9 s2).2.2.2.2.1 := by
  repeat' first | exact .pad _ | refine .more _ _ _ _ _ (by decide) ?_

theorem keepsB_1 (c : Dev nD) (t : Fin cfg0.N) (h : ¬ t.val % 16 = 0) (y7 : Vec F S4x512x512 .f32) (y8 y9 : Vec F S1x2048 .f32) (s2 : Vec F S16x2048 .f32) : KeepsPad (atB m c t h y7 y8 y9 s2).2.2.2.2.2.1 := by
  repeat' first | exact .pad _ | refine .more _ _ _ _ _ (by decide) ?_

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, after_7, after_8, after_9]
  rw [show (dats m 0 c).Φ t.succ = Phi m c (t.val + 1) t.isLt from rfl, Phi_succ]
  have hN : t.val < 16 := lt_of_lt_of_eq t.isLt (show cfg0.N = 16 from N_0)
  by_cases h0 : t.val % 16 = 0
  · rw [Phi_castSucc m c t, Phi_zero m c _ _ (by omega), PhiA_eq, left_A m c t h0]
    unfold stepA outA_6 outA_7 outA_8 outA_9 outA_12; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((atA m c t h0).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩⟩
    isplitl [HS0 HS1 HS2 Hg]
    · isplitl [HS0 HS1 HS2]
      · isplitl [HS0]; · iapply ((keepsA_0 m c t h0).padded c w0 (Memref.isWhole_whole _) es0); iexact HS0
        isplitl [HS1]; · iapply ((keepsA_1 m c t h0).padded c w1 (Memref.isWhole_whole _) es1); iexact HS1
        unfold owns; iexists _; isplitr
        swap; · iexact HS2
        ipureintro; exact View.read_writes_eq_canon _ _ _ (coverA_12 m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (coverA_6 m c t h0)
    isplitl [H7]
    · unfold owns; iexists _; isplitr
      swap; · iexact H7
      ipureintro; exact View.read_writes_eq_canon _ _ _ (coverA_7 m c t h0)
    isplitl [H8]
    · unfold owns; iexists _; isplitr
      swap; · iexact H8
      ipureintro; exact View.read_writes_eq_canon _ _ _ (coverA_8 m c t h0)
    unfold owns; iexists _; isplitr
    swap; · iexact H9
    ipureintro; exact View.read_writes_eq_canon _ _ _ (coverA_9 m c t h0)
  · rw [Phi_castSucc m c t, Phi_pos m c _ _ (by omega), left_B m c t h0]
    simp only [before_7 m c t h0, before_8 m c t h0, before_9 m c t h0]
    unfold stepB outB_6 outB_7 outB_8 outB_9 outB_12; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((atB m c t h0 _ _ _ _).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    isplitl [HS0]; · unfold padded; iexact HS0
    isplitl [HS1]; · unfold padded; iexact HS1
    isplitl [HS2]; · iexact HS2
    iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩⟩
    isplitl [HS0 HS1 HS2 Hg]
    · isplitl [HS0 HS1 HS2]
      · isplitl [HS0]; · iapply ((keepsB_0 m c t h0 _ _ _ _).padded c w0 (Memref.isWhole_whole _) es0); iexact HS0
        isplitl [HS1]; · iapply ((keepsB_1 m c t h0 _ _ _ _).padded c w1 (Memref.isWhole_whole _) es1); iexact HS1
        unfold owns; iexists _; isplitr
        swap; · iexact HS2
        ipureintro; exact View.read_writes_eq_canon _ _ _ (coverB_12 m c t h0 _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (coverB_6 m c t h0 _ _ _ _)
    isplitl [H7]
    · unfold owns; iexists _; isplitr
      swap; · iexact H7
      ipureintro; exact View.read_writes_eq_canon _ _ _ (coverB_7 m c t h0 _ _ _ _)
    isplitl [H8]
    · unfold owns; iexists _; isplitr
      swap; · iexact H8
      ipureintro; exact View.read_writes_eq_canon _ _ _ (coverB_8 m c t h0 _ _ _ _)
    unfold owns; iexists _; isplitr
    swap; · iexact H9
    ipureintro; exact View.read_writes_eq_canon _ _ _ (coverB_9 m c t h0 _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem padded_forget (c : Dev nD) (w : Memref sig .tc .vmem S280x2048 .f32) :
    (padded c w : sProp 𝕄) ⊢ iprop(∃ d, owns (c : Thread nD τ) w fullShare d) := by
  unfold padded owns
  iintro ⟨%f, H⟩
  iexists _; iexists _; isplitr; swap; · iexact H
  ipureintro; rfl

theorem hout (c : Dev nD) : (dats m 0 c).Φ (Fin.last cfg0.N) ⊢ Pipeline.ΦA spec0 c := by
  rw [show (dats m 0 c).Φ (Fin.last cfg0.N) = Phi m c cfg0.N le_rfl from rfl,
    Phi_pos m c _ _ (by have : cfg0.N = 16 := N_0; omega), PhiA_eq]
  iintro ⟨⟨HS0, HS1, HS2⟩, Hg⟩
  isplitl [HS0 HS1 HS2]
  · isplitl [HS0]; · iapply (padded_forget c w0); iexact HS0
    isplitl [HS1]; · iapply (padded_forget c w1); iexact HS1
    iexists _; iexact HS2
  iexact Hg

set_option backward.isDefEq.respectTransparency.types false in
/-- The run of the call: it ends with nothing in flight, every array as the proof data says. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The call ends with its arguments unchanged and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Kernel4Ideal.Odd

end
-- ==== Proof.OddValue.lean ====
/- The pooling mixer's backward call (call 4), at the real numbers: the four arrays it leaves are the ones `jax.vjp` of the
   reference's forward lines computes. -/
module

public import proofs.«01_k».proof.Proof.OddGrads
public import proofs.«01_k».proof.Proof.OddPointA
public import proofs.«01_k».proof.Proof.OddPointB
public import proofs.«01_k».proof.Proof.OddBody
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Kernel4Ideal.Odd

open Cert.Kernel4Ideal Cert.Kernel4Ideal.Gen Cert.Reference4Ideal.Read
open Cert.Reference4Ideal.Odd (zr bv sv pr ur er er0)

variable (m : (ℓ : Loc nD τ sig) → Buf (Elt Ideal) ℓ)

abbrev A0 (c : Dev nD) : FVec Ideal S4096x4096 .f32 := m ((c : Thread nD τ).loc main_arg0)
abbrev A1 (c : Dev nD) : FVec Ideal S4x512x512 .f32 := m ((c : Thread nD τ).loc main_arg1)
abbrev A2 (c : Dev nD) : FVec Ideal S4x512 .f32 := m ((c : Thread nD τ).loc main_arg2)
abbrev A3 (c : Dev nD) : FVec Ideal S2048 .f32 := m ((c : Thread nD τ).loc main_arg3)
abbrev A4 (c : Dev nD) : FVec Ideal S4096x2048 .f32 := m ((c : Thread nD τ).loc main_arg4)

/-- The host's pooled rows are the reference's. -/
theorem entry_pooled (c : Dev nD) (i : S4096x2048.Idx) : V m c main_v51 i = val_main_v55 (F := Ideal) (A0 m c) i := by
  entry_read
  rfl

theorem entry_w (c : Dev nD) (i : S4x512x512.Idx) : V m c main_v52 i = A1 m c i := by
  exact congrFun (show V m c main_v52 = A1 m c from rfl) i

theorem entry_b (c : Dev nD) (a : Fin 1) (d : Fin 2048) : V m c main_v53 (ix2 a d) = bv (A2 m c) d := by
  have e : V m c main_v53 = (shapeCast S1x2048 (A2 m c) shapeCasts_S4x512_S1x2048 : FVec Ideal S1x2048 .f32) := rfl
  rw [e]
  pointwise []

theorem entry_s (c : Dev nD) (a : Fin 1) (d : Fin 2048) : V m c main_v54 (ix2 a d) = sv (A3 m c) d := by
  have e : V m c main_v54 = (shapeCast S1x2048 (A3 m c) shapeCasts_S2048_S1x2048 : FVec Ideal S1x2048 .f32) := rfl
  rw [e]
  pointwise []

/-- The blocks of a point: the tiles from the last rows up. -/
theorem idx : ∀ t : Fin cfg0.N, win0_0.index t = ![15 - t.val, 1] ∧ win0_1.index t = ![15 - t.val, 0] ∧ win0_2.index t = ![15 - t.val, 0]
      ∧ win0_3.index t = ![0, 0, 0] ∧ win0_4.index t = ![0, 0] ∧ win0_5.index t = ![0, 0] ∧ win0_6.index t = ![15 - t.val, 0]
      ∧ win0_7.index t = ![0, 0, 0] ∧ win0_8.index t = ![0, 0] ∧ win0_9.index t = ![0, 0] :=
  (by decide +kernel : ∀ t : Fin grid0.N, _)

theorem pt_lt (t : Fin cfg0.N) : t.val < 16 := lt_of_lt_of_eq t.isLt Gen.N_0

theorem row_lt (t : Fin cfg0.N) (r : Fin 256) : (15 - t.val) * 256 + r.val < 4096 := by omega

/-- Row `r` of a point's tile. -/
abbrev row (t : Fin cfg0.N) (r : Fin 256) : Fin 4096 := ⟨(15 - t.val) * 256 + r.val, row_lt t r⟩

theorem rows_z (c : Dev nD) (t : Fin cfg0.N) (r : Fin 256) : rows (iblk m c 0 t) r = zr (A0 m c) (row t r) := by
  funext d
  refine Eq.trans ?_ (congrFun (V_main_arg0 m c) (ix2 (row t r) ⟨2048 + d.val, by omega⟩))
  change iblk m c 0 t (ix2 r d) = V m c main_arg0 (ix2 (row t r) ⟨2048 + d.val, by omega⟩)
  blk_point [iblk, idx t]

theorem rows_p (c : Dev nD) (t : Fin cfg0.N) (r : Fin 256) : rows (iblk m c 1 t) r = pr (A0 m c) (row t r) := by
  funext d
  refine Eq.trans ?_ (entry_pooled m c (ix2 (row t r) d))
  change iblk m c 1 t (ix2 r d) = V m c main_v51 (ix2 (row t r) d)
  blk_point [iblk, idx t]

theorem rows_u (c : Dev nD) (t : Fin cfg0.N) (r : Fin 256) : rows (iblk m c 2 t) r = ur (A4 m c) (row t r) := by
  funext d
  refine Eq.trans ?_ (congrFun (V_main_arg4 m c) (ix2 (row t r) d))
  change iblk m c 2 t (ix2 r d) = V m c main_arg4 (ix2 (row t r) d)
  blk_point [iblk, idx t]

theorem wts_w (c : Dev nD) (t : Fin cfg0.N) : wts (iblk m c 3 t) = wts (A1 m c) := by
  funext g k l
  refine Eq.trans ?_ (entry_w m c (ix3 g k l))
  change iblk m c 3 t (ix3 g k l) = V m c main_v52 (ix3 g k l)
  blk_point [iblk, idx t]

theorem rows_b (c : Dev nD) (t : Fin cfg0.N) : rows (iblk m c 4 t) 0 = bv (A2 m c) := by
  funext d
  refine Eq.trans ?_ (entry_b m c 0 d)
  change iblk m c 4 t (ix2 0 d) = V m c main_v53 (ix2 0 d)
  blk_point [iblk, idx t]

theorem rows_s (c : Dev nD) (t : Fin cfg0.N) : rows (iblk m c 5 t) 0 = sv (A3 m c) := by
  funext d
  refine Eq.trans ?_ (entry_s m c 0 d)
  change iblk m c 5 t (ix2 0 d) = V m c main_v54 (ix2 0 d)
  blk_point [iblk, idx t]

end Cert.Kernel4Ideal.Odd
-- ==== Proof.OddFinal.lean ====
/- The four arrays of the pooling mixer's backward call (call 4) after the run, at the real numbers. -/
module

public import proofs.«01_k».proof.Proof.OddValue

@[expose] public section

set_option maxRecDepth 16384

noncomputable section

open Idealize.ShloMosaic Idealize.ShloMosaic.TcCoe Idealize.SL.Sem
open Idealize.ShloMosaic.Pipeline (Dat)

namespace Cert.Kernel4Ideal.Odd

open Cert.Kernel4Ideal Cert.Kernel4Ideal.Gen Cert.Reference4Ideal.Read
open Cert.Reference4Ideal.Odd (zr bv sv pr ur er er0)

variable (m : (ℓ : Loc nD τ sig) → Buf (Elt Ideal) ℓ)

/-- The sum over the tiles, from the last up, of a sum over a tile's rows is the sum over all rows. -/
theorem sum_tiles (f : Fin 4096 → EReal) :
    ∑ s : Fin 16, ∑ k : Fin 256, f ⟨(15 - s.val) * 256 + k.val, by omega⟩ = ∑ l : Fin 4096, f l := by
  refine Eq.trans ?_ ((Equiv.sum_comp Fin.revPerm (fun s : Fin 16 => ∑ k : Fin 256, f ⟨s.val * 256 + k.val, by omega⟩)).trans
    (Fin.sum_mul_add_congr fun s k hl => rfl))
  refine Finset.sum_congr rfl fun s _ => Finset.sum_congr rfl fun k _ => congrArg f (Fin.ext ?_)
  show (15 - s.val) * 256 + k.val = (Fin.rev s).val * 256 + k.val
  rw [Fin.val_rev]
  omega

/-- What a point keeps for the next: the shares of its first sixteen rows. -/
theorem carry_at (c : Dev nD) (t : Fin cfg0.N) (i : Fin 16) (d : Fin 2048) :
    (left m c t.val t.isLt).2.2.2.2 (ix2 i d) = er (A0 m c) (A1 m c) (A3 m c) (A4 m c) (row t ⟨i.val, by omega⟩) d := by
  by_cases h : t.val % 16 = 0
  · rw [left_A m c t h]
    dsimp only [stepA]
    rw [outA_12_at, rows_z, rows_u, rows_s, wts_w]
  · rw [left_B m c t h]
    dsimp only [stepB]
    rw [outB_12_at, rows_z, rows_u, rows_s, wts_w]

/-- The kernel's summand at the last tile. -/
theorem ext_last (c : Dev nD) (t : Fin cfg0.N) (h : t.val % 16 = 0) (n : ℕ) (d : Fin 2048) :
    ext (fun i => rowE ((15 - t.val) * 256 + i.val) (rows (iblk m c 0 t) i) (rows (iblk m c 2 t) i) (rows (iblk m c 5 t) 0) (wts (iblk m c 3 t)))
        (fun _ => 0) n d
      = er0 (A0 m c) (A1 m c) (A3 m c) (A4 m c) ((15 - t.val) * 256 + n) d := by
  have ht := pt_lt t
  unfold ext er0
  by_cases k : n < 256
  · rw [dif_pos k, dif_pos (by omega)]
    dsimp only
    rw [rows_z, rows_u, rows_s, wts_w]
  · have k2 : ¬ (15 - t.val) * 256 + n < 4096 := by omega
    rw [dif_neg k, dif_neg k2]
    split_ifs <;> rfl

/-- The kernel's summand at a tile before the last: the shares of its rows, then of the next tile's first sixteen. -/
theorem ext_next (c : Dev nD) (t : Fin cfg0.N) (h : ¬ t.val % 16 = 0) (n : ℕ) (hn : n < 272) (d : Fin 2048) :
    ext (fun i => rowE ((15 - t.val) * 256 + i.val) (rows (iblk m c 0 t) i) (rows (iblk m c 2 t) i) (rows (iblk m c 5 t) 0) (wts (iblk m c 3 t)))
        (left m c (t.val - 1) (Nat.lt_of_le_of_lt (Nat.sub_le _ _) t.isLt)).2.2.2.2 n d
      = er0 (A0 m c) (A1 m c) (A3 m c) (A4 m c) ((15 - t.val) * 256 + n) d := by
  have ht := pt_lt t
  unfold ext er0
  by_cases k : n < 256
  · rw [dif_pos k, dif_pos (by omega)]
    dsimp only
    rw [rows_z, rows_u, rows_s, wts_w]
  · rw [dif_neg k, dif_pos (by omega), dif_pos (by omega)]
    refine (carry_at m c ⟨t.val - 1, Nat.lt_of_le_of_lt (Nat.sub_le _ _) t.isLt⟩ ⟨n - 256, by omega⟩ d).trans ?_
    refine congrArg (fun i => er (A0 m c) (A1 m c) (A3 m c) (A4 m c) i d) (Fin.ext ?_)
    show (15 - (t.val - 1)) * 256 + (n - 256) = (15 - t.val) * 256 + n
    omega

section grad

variable (c : Dev nD) (hpre : Cert.Pre_finite4.fn (F := Ideal) (A0 m c) (A1 m c) (A2 m c) (A3 m c) (A4 m c) = fun _ => 1#1)

include hpre

/-- The gate's half of a tile. -/
theorem left_dz (t : Fin cfg0.N) (r : Fin 256) (d : Fin 2048) :
    (left m c t.val t.isLt).1 (ix2 r ⟨2048 + d.val, by omega⟩)
      = val_main_v124 (F := Ideal) (A0 m c) (A1 m c) (A2 m c) (A3 m c) (A4 m c) (ix2 (row t r) ⟨2048 + d.val, by omega⟩) := by
  rw [Cert.Reference4Ideal.Odd.dz_eq _ _ _ _ _ hpre]
  by_cases h : t.val % 16 = 0
  · rw [left_A m c t h]
    dsimp only [stepA]
    rw [outA_6_at, rows_z, rows_p, rows_u, rows_b, rows_s, wts_w]
  · rw [left_B m c t h]
    dsimp only [stepB]
    rw [outB_6_at, rows_z, rows_p, rows_u, rows_b, rows_s, wts_w]

/-- The pooled half of a tile. -/
theorem left_dv (t : Fin cfg0.N) (r : Fin 256) (d : Fin 2048) :
    (left m c t.val t.isLt).1 (ix2 r ⟨d.val, by omega⟩)
      = val_main_v124 (F := Ideal) (A0 m c) (A1 m c) (A2 m c) (A3 m c) (A4 m c) (ix2 (row t r) ⟨d.val, by omega⟩) := by
  have hw : win d.val ≤ 16 := by unfold win; split_ifs <;> omega
  rw [Cert.Reference4Ideal.Odd.dv_eq _ _ _ _ _ hpre]
  by_cases h : t.val % 16 = 0
  · rw [left_A m c t h]
    dsimp only [stepA]
    rw [outA_6_dv]
    refine congrArg₂ (· - ·) (Finset.sum_congr rfl fun j hj => ?_) (by rw [rows_z, rows_u, rows_s, wts_w])
    rw [ext_last m c t h, Nat.add_assoc]
  · rw [left_B m c t h]
    dsimp only [stepB]
    rw [outB_6_dv]
    refine congrArg₂ (· - ·) (Finset.sum_congr rfl fun j hj => ?_) (by rw [rows_z, rows_u, rows_s, wts_w])
    have hj' := Finset.mem_range.mp hj
    rw [ext_next m c t h _ (by omega), Nat.add_assoc]

/-- After the run the input's gradient is the reference's. -/
theorem final_dp :
    (dats m 0 c).arrAt 6 cfg0.N = val_main_v124 (F := Ideal) (A0 m c) (A1 m c) (A2 m c) (A3 m c) (A4 m c) := by
  refine (dats m 0 c).arrAt_eq_of_covers 6 _ (by decide +kernel) fun t hf y => ?_
  blk_simp
  rw [after_6]
  have he : (win0_6.blk t).view.emb y = ix2 (row t (y 0)) (y 1) := by blk_ext [idx t]
  rw [he, eq_ix2 y]
  by_cases hd : (y 1).val < 2048
  · exact left_dv m c hpre t (y 0) ⟨(y 1).val, hd⟩
  · have h1 : (y 1).val < 4096 := (y 1).isLt
    have e : y 1 = (⟨2048 + (⟨(y 1).val - 2048, by omega⟩ : Fin 2048).val, by dsimp only; omega⟩ : Fin 4096) := Fin.ext (by dsimp only; omega)
    rw [e]
    exact left_dz m c hpre t (y 0) _

end grad

/-- A row's term of the weights' gradient. -/
def dwTerm (c : Dev nD) (r : Fin 4096) (g : Fin 4) (k l : Fin 512) : EReal :=
  pr (A0 m c) r ⟨g.val * 512 + k.val, by omega⟩ * rowA (zr (A0 m c) r) (ur (A4 m c) r) (sv (A3 m c)) ⟨g.val * 512 + l.val, by omega⟩

theorem dw_first (c : Dev nD) (t : Fin cfg0.N) (h : t.val % 16 = 0) (g : Fin 4) (k l : Fin 512) :
    (left m c t.val t.isLt).2.1 (ix3 g k l) = 0 + ∑ r : Fin 256, dwTerm m c (row t r) g k l := by
  rw [left_A m c t h, zero_add]
  dsimp only [stepA]
  rw [outA_7_at]
  refine Finset.sum_congr rfl fun r _ => ?_
  unfold dwTerm
  rw [rows_z, rows_p, rows_u, rows_s]

theorem dw_step (c : Dev nD) (t : Fin cfg0.N) (h : ¬ t.val % 16 = 0) (g : Fin 4) (k l : Fin 512) :
    (left m c t.val t.isLt).2.1 (ix3 g k l)
      = (left m c (t.val - 1) (Nat.lt_of_le_of_lt (Nat.sub_le _ _) t.isLt)).2.1 (ix3 g k l) + ∑ r : Fin 256, dwTerm m c (row t r) g k l := by
  rw [left_B m c t h]
  dsimp only [stepB]
  rw [outB_7_at]
  refine congrArg (_ + ·) (Finset.sum_congr rfl fun r _ => ?_)
  unfold dwTerm
  rw [rows_z, rows_p, rows_u, rows_s]

/-- What the last point leaves in the weights' gradient is the sum over all rows. -/
theorem dw_sum (c : Dev nD) (t : Fin cfg0.N) (ht : t.val % 16 = 16 - 1) (y : S4x512x512.Idx) :
    (left m c t.val t.isLt).2.1 y = ∑ r : Fin 4096, dwTerm m c r (y 0) (y 1) (y 2) := by
  have key := Pipeline.eq_sum_fin_of_reset_step_apply_of_flush (M := EReal) (ι := S4x512x512.Idx) (fun n h => (left m c n h).2.1) 16 (fun _ => 0)
    (fun t j => ∑ k : Fin 256, dwTerm m c (row t k) (j 0) (j 1) (j 2))
    (fun t h j => (congrArg (left m c t.val t.isLt).2.1 (eq_ix3 j)).trans (dw_first m c t h (j 0) (j 1) (j 2)))
    (fun t h j => (congrArg (left m c t.val t.isLt).2.1 (eq_ix3 j)).trans ((dw_step m c t h (j 0) (j 1) (j 2)).trans
      (congrArg (fun i => (left m c (t.val - 1) (Nat.lt_of_le_of_lt (Nat.sub_le _ _) t.isLt)).2.1 i + _) (eq_ix3 j).symm)))
    t ht y
  rw [zero_add] at key
  refine key.trans (Eq.trans ?_ (sum_tiles fun r => dwTerm m c r (y 0) (y 1) (y 2)))
  have hlt := pt_lt t
  refine Finset.sum_congr rfl fun s _ => Finset.sum_congr rfl fun k _ => congrArg (fun r => dwTerm m c r (y 0) (y 1) (y 2)) (Fin.ext ?_)
  show (15 - (16 * (t.val / 16) + s.val)) * 256 + k.val = (15 - s.val) * 256 + k.val
  omega

/-- After the run the weights' gradient is the reference's. -/
theorem final_dw (c : Dev nD) :
    (dats m 0 c).arrAt 7 cfg0.N = val_main_v85 (F := Ideal) (A0 m c) (A3 m c) (A4 m c) := by
  refine (dats m 0 c).arrAt_eq_of_covers 7 _ (by decide +kernel) fun t hf y => ?_
  blk_simp
  rw [after_7]
  have he : (win0_7.blk t).view.emb y = y := by blk_ext [idx t]
  rw [he]
  refine (dw_sum m c t ((flush0_7 t).mp hf) y).trans ?_
  exact ((congrArg _ (eq_ix3 y)).trans (Cert.Reference4Ideal.Odd.dw_at _ _ _ (y 0) (y 1) (y 2))).symm

/-- A row's term of the bias' gradient. -/
def dbTerm (c : Dev nD) (r : Fin 4096) (d : Fin 2048) : EReal :=
  rowA (zr (A0 m c) r) (ur (A4 m c) r) (sv (A3 m c)) d

theorem db_first (c : Dev nD) (t : Fin cfg0.N) (h : t.val % 16 = 0) (a : Fin 1) (d : Fin 2048) :
    (left m c t.val t.isLt).2.2.1 (ix2 a d) = 0 + ∑ r : Fin 256, dbTerm m c (row t r) d := by
  rw [left_A m c t h, zero_add]
  dsimp only [stepA]
  rw [outA_8_at]
  refine Finset.sum_congr rfl fun r _ => ?_
  unfold dbTerm
  rw [rows_z, rows_u, rows_s]

theorem db_step (c : Dev nD) (t : Fin cfg0.N) (h : ¬ t.val % 16 = 0) (a : Fin 1) (d : Fin 2048) :
    (left m c t.val t.isLt).2.2.1 (ix2 a d)
      = (left m c (t.val - 1) (Nat.lt_of_le_of_lt (Nat.sub_le _ _) t.isLt)).2.2.1 (ix2 a d) + ∑ r : Fin 256, dbTerm m c (row t r) d := by
  rw [left_B m c t h]
  dsimp only [stepB]
  rw [outB_8_at]
  refine congrArg (_ + ·) (Finset.sum_congr rfl fun r _ => ?_)
  unfold dbTerm
  rw [rows_z, rows_u, rows_s]

/-- What the last point leaves in the bias' gradient is the sum over all rows. -/
theorem db_sum (c : Dev nD) (t : Fin cfg0.N) (ht : t.val % 16 = 16 - 1) (y : S1x2048.Idx) :
    (left m c t.val t.isLt).2.2.1 y = ∑ r : Fin 4096, dbTerm m c r (y 1) := by
  have key := Pipeline.eq_sum_fin_of_reset_step_apply_of_flush (M := EReal) (ι := S1x2048.Idx) (fun n h => (left m c n h).2.2.1) 16 (fun _ => 0)
    (fun t j => ∑ k : Fin 256, dbTerm m c (row t k) (j 1))
    (fun t h j => (congrArg (left m c t.val t.isLt).2.2.1 (eq_ix2 j)).trans (db_first m c t h (j 0) (j 1)))
    (fun t h j => (congrArg (left m c t.val t.isLt).2.2.1 (eq_ix2 j)).trans ((db_step m c t h (j 0) (j 1)).trans
      (congrArg (fun i => (left m c (t.val - 1) (Nat.lt_of_le_of_lt (Nat.sub_le _ _) t.isLt)).2.2.1 i + _) (eq_ix2 j).symm)))
    t ht y
  rw [zero_add] at key
  refine key.trans (Eq.trans ?_ (sum_tiles fun r => dbTerm m c r (y 1)))
  have hlt := pt_lt t
  refine Finset.sum_congr rfl fun s _ => Finset.sum_congr rfl fun k _ => congrArg (fun r => dbTerm m c r (y 1)) (Fin.ext ?_)
  show (15 - (16 * (t.val / 16) + s.val)) * 256 + k.val = (15 - s.val) * 256 + k.val
  omega

/-- After the run the bias' gradient is the reference's. -/
theorem final_db (c : Dev nD) :
    (dats m 0 c).arrAt 8 cfg0.N = val_main_v125 (F := Ideal) (A0 m c) (A3 m c) (A4 m c) := by
  refine (dats m 0 c).arrAt_eq_of_covers 8 _ (by decide +kernel) fun t hf y => ?_
  blk_simp
  rw [after_8]
  have he : (win0_8.blk t).view.emb y = ix2 0 (y 1) := by blk_ext [idx t]
  rw [he]
  refine (db_sum m c t ((flush0_8 t).mp hf) y).trans ?_
  exact (Cert.Reference4Ideal.Odd.db_at _ _ _ 0 (y 1)).symm

/-- A row's term of the scale' gradient. -/
def dsTerm (c : Dev nD) (r : Fin 4096) (d : Fin 2048) : EReal :=
  rowY (zr (A0 m c) r) (ur (A4 m c) r) d * rowG (pr (A0 m c) r) (bv (A2 m c)) (wts (A1 m c)) d

theorem ds_first (c : Dev nD) (t : Fin cfg0.N) (h : t.val % 16 = 0) (a : Fin 1) (d : Fin 2048) :
    (left m c t.val t.isLt).2.2.2.1 (ix2 a d) = 0 + ∑ r : Fin 256, dsTerm m c (row t r) d := by
  rw [left_A m c t h, zero_add]
  dsimp only [stepA]
  rw [outA_9_at]
  refine Finset.sum_congr rfl fun r _ => ?_
  unfold dsTerm
  rw [rows_z, rows_p, rows_u, rows_b, wts_w]

theorem ds_step (c : Dev nD) (t : Fin cfg0.N) (h : ¬ t.val % 16 = 0) (a : Fin 1) (d : Fin 2048) :
    (left m c t.val t.isLt).2.2.2.1 (ix2 a d)
      = (left m c (t.val - 1) (Nat.lt_of_le_of_lt (Nat.sub_le _ _) t.isLt)).2.2.2.1 (ix2 a d) + ∑ r : Fin 256, dsTerm m c (row t r) d := by
  rw [left_B m c t h]
  dsimp only [stepB]
  rw [outB_9_at]
  refine congrArg (_ + ·) (Finset.sum_congr rfl fun r _ => ?_)
  unfold dsTerm
  rw [rows_z, rows_p, rows_u, rows_b, wts_w]

/-- What the last point leaves in the scale' gradient is the sum over all rows. -/
theorem ds_sum (c : Dev nD) (t : Fin cfg0.N) (ht : t.val % 16 = 16 - 1) (y : S1x2048.Idx) :
    (left m c t.val t.isLt).2.2.2.1 y = ∑ r : Fin 4096, dsTerm m c r (y 1) := by
  have key := Pipeline.eq_sum_fin_of_reset_step_apply_of_flush (M := EReal) (ι := S1x2048.Idx) (fun n h => (left m c n h).2.2.2.1) 16 (fun _ => 0)
    (fun t j => ∑ k : Fin 256, dsTerm m c (row t k) (j 1))
    (fun t h j => (congrArg (left m c t.val t.isLt).2.2.2.1 (eq_ix2 j)).trans (ds_first m c t h (j 0) (j 1)))
    (fun t h j => (congrArg (left m c t.val t.isLt).2.2.2.1 (eq_ix2 j)).trans ((ds_step m c t h (j 0) (j 1)).trans
      (congrArg (fun i => (left m c (t.val - 1) (Nat.lt_of_le_of_lt (Nat.sub_le _ _) t.isLt)).2.2.2.1 i + _) (eq_ix2 j).symm)))
    t ht y
  rw [zero_add] at key
  refine key.trans (Eq.trans ?_ (sum_tiles fun r => dsTerm m c r (y 1)))
  have hlt := pt_lt t
  refine Finset.sum_congr rfl fun s _ => Finset.sum_congr rfl fun k _ => congrArg (fun r => dsTerm m c r (y 1)) (Fin.ext ?_)
  show (15 - (16 * (t.val / 16) + s.val)) * 256 + k.val = (15 - s.val) * 256 + k.val
  omega

/-- After the run the scale' gradient is the reference's. -/
theorem final_ds (c : Dev nD) :
    (dats m 0 c).arrAt 9 cfg0.N = val_main_v126 (F := Ideal) (A0 m c) (A1 m c) (A2 m c) (A4 m c) := by
  refine (dats m 0 c).arrAt_eq_of_covers 9 _ (by decide +kernel) fun t hf y => ?_
  blk_simp
  rw [after_9]
  have he : (win0_9.blk t).view.emb y = ix2 0 (y 1) := by blk_ext [idx t]
  rw [he]
  refine (ds_sum m c t ((flush0_9 t).mp hf) y).trans ?_
  exact (Cert.Reference4Ideal.Odd.ds_at _ _ _ _ 0 (y 1)).symm

section run

variable (ρ : Dev nD → PrngReg)

/-- The run with each result's array named and the arguments unchanged. -/
theorem run_blocks : θ_run defs (onTc (τ := τ) (main (F := Ideal))) ⟨m, fun _ => 0, ρ⟩ fun r => ∀ c : Dev nD,
      r.2.mem ((c.tc : Thread nD τ).loc main_v55_0) = (dats m 0 c).arrAt 6 cfg0.N
      ∧ r.2.mem ((c.tc : Thread nD τ).loc main_v55_1) = (dats m 0 c).arrAt 7 cfg0.N
      ∧ r.2.mem ((c.tc : Thread nD τ).loc main_v55_2) = (dats m 0 c).arrAt 8 cfg0.N
      ∧ r.2.mem ((c.tc : Thread nD τ).loc main_v55_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1.1 c).1 6, (h.1.1 c).1 7, (h.1.1 c).1 8, (h.1.1 c).1 9, h.2.1 c⟩)
    (θ_run_and (run_main_quiescent m ρ) (frame m ρ))

end run

end Cert.Kernel4Ideal.Odd
-- ==== Proof.OddBits.lean ====
module

public import proofs.«01_k».proof.Proof.OddBody
public import proofs.«01_k».proof.Proof.Gen.Kernel4.Frame

@[expose] public section

set_option maxRecDepth 16384

noncomputable section

/-! The pooling mixer's backward kernel as it is printed and its idealized form are one text, so the run of the one is the
run of the other. -/

namespace Cert.Kernel4.Odd

open Idealize.ShloMosaic Idealize.ShloMosaic.TcCoe Idealize.ShloMosaic.Tactic Idealize.SL.Sem
open Gen

variable {F : FTy → Type} [FloatOps F]

/-- The statement that the call ends with its arguments unchanged and nothing in flight, of the printed program. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

end Cert.Kernel4.Odd

namespace Cert.Kernel4Ideal.Odd

open Idealize.ShloMosaic Idealize.ShloMosaic.TcCoe Idealize.ShloMosaic.Tactic Idealize.SL.Sem
open Gen

/-- The same of its idealized form. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem frame_same (F : FTy → Type) [FloatOps F] : Frame F = Cert.Kernel4.Odd.Frame F := by sl_kernel_rfl

/-- The printed call ends with its arguments unchanged and nothing in flight. -/
theorem frame_bits (F : FTy → Type) [FloatOps F] : Cert.Kernel4.Odd.Frame F :=
  frame_same F ▸ fun m ρ => frame m ρ

end Cert.Kernel4Ideal.Odd

end
-- ==== Proof.OddClaims.lean ====
/- The claims about the backward call of the pooling mixer (call 4), assembled. -/
module

public import proofs.«01_k».proof.Proof.OddFinal
public import proofs.«01_k».proof.Proof.Gen.Kernel4.Frame
public import proofs.«01_k».proof.Proof.Gen.Kernel4Ideal.Frame
public import proofs.«01_k».proof.Proof.OddBits
public import Idealize.ShloMosaic.Lib.Claim

@[expose] public section

set_option maxRecDepth 16384

noncomputable section

open Idealize.ShloMosaic Idealize.ShloMosaic.TcCoe Idealize.SL.Sem

namespace Cert.Reference4Ideal

open Cert.Reference4Ideal.Gen Cert.Reference4Ideal.Read

/-- The reference's run: each result is its last stage over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v124) = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v85) = val_main_v85 (F := Ideal) (m ((c.tc : Thread nD τ).loc main_arg0)) (m ((c.tc : Thread nD τ).loc main_arg3)) (m ((c.tc : Thread nD τ).loc main_arg4))
      ∧ r.2.mem ((c.tc : Thread nD τ).loc main_v125) = val_main_v125 (F := Ideal) (m ((c.tc : Thread nD τ).loc main_arg0)) (m ((c.tc : Thread nD τ).loc main_arg3)) (m ((c.tc : Thread nD τ).loc main_arg4))
      ∧ r.2.mem ((c.tc : Thread nD τ).loc main_v126) = val_main_v126 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v124_eq m c),
      (h c).2.1.trans (Read.val_main_v85_eq m c),
      (h c).2.2.1.trans (Read.val_main_v125_eq _ _ _),
      (h c).2.2.2.1.trans (Read.val_main_v126_eq m c),
      (h c).2.2.2.2⟩) (Value.run m ρ)

end Cert.Reference4Ideal

namespace Cert.Kernel4Claims

/-- The reference runs, leaves its arguments as they were and every semaphore at zero. -/
theorem frame_reference : Cert.quiescent_Reference4Ideal := fun m g _ =>
  (θ_run _ _ _).mono (fun r h => ⟨fun c => (h c).2.2.2.2, sem_eq_zero_of_no_sems (by decide) r.2⟩)
    (Cert.Reference4Ideal.run_stages m g)

/-- The kernel at the real numbers and the reference leave the same arrays from the same finite arguments. -/
theorem algebraic : Cert.algebraic_Kernel4Ideal_Reference4Ideal_pre_finite4 := fun m g m' g' hp ha =>
  ⟨fun c => Cert.Reference4Ideal.Read.val_main_v124 (F := Ideal)
      (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
    fun c => Cert.Reference4Ideal.Read.val_main_v85 (F := Ideal)
      (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
    fun c => Cert.Reference4Ideal.Read.val_main_v125 (F := Ideal)
      (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
    fun c => Cert.Reference4Ideal.Read.val_main_v126 (F := Ideal)
      (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)),
    (θ_run _ _ _).mono (fun r h c => ⟨(h c).1.trans (Cert.Kernel4Ideal.Odd.final_dp m c (hp c)),
        (h c).2.1.trans (Cert.Kernel4Ideal.Odd.final_dw m c),
        (h c).2.2.1.trans (Cert.Kernel4Ideal.Odd.final_db m c),
        (h c).2.2.2.1.trans (Cert.Kernel4Ideal.Odd.final_ds m c),
        (h c).2.2.2.2⟩) (Cert.Kernel4Ideal.Odd.run_blocks m g),
    (θ_run _ _ _).mono (fun r h c => ⟨(h c).1.trans (by rw [(ha c).1, (ha c).2.1, (ha c).2.2.1, (ha c).2.2.2.1, (ha c).2.2.2.2]),
        (h c).2.1.trans (by rw [(ha c).1, (ha c).2.2.2.1, (ha c).2.2.2.2]),
        (h c).2.2.1.trans (by rw [(ha c).1, (ha c).2.2.2.1, (ha c).2.2.2.2]),
        (h c).2.2.2.1.trans (by rw [(ha c).1, (ha c).2.1, (ha c).2.2.1, (ha c).2.2.2.2]),
        (h c).2.2.2.2⟩) (Cert.Reference4Ideal.run_stages m' g')⟩

/-- The frames of the two programs and of the reference. -/
theorem frames : Cert.quiescent_Kernel4 ∧ Cert.quiescent_Kernel4Ideal ∧ Cert.quiescent_Kernel4Ideal_pre_finite4 ∧ Cert.quiescent_Reference4Ideal
    ∧ Cert.quiescent_Reference4Ideal_pre_finite4 :=
  ⟨fun m g _ => Cert.Kernel4Ideal.Odd.frame_bits _ m g, fun m g _ => Cert.Kernel4Ideal.Odd.frame m g, fun m g _ => Cert.Kernel4Ideal.Odd.frame m g,
    frame_reference, fun m g _ => frame_reference m g trivial⟩

end Cert.Kernel4Claims

end
-- ==== Proof.WeightGradValue.lean ====
/- The gradient of the even layer's input weights (call 10), at the real numbers: the products over the two halves of the rows,
   added, are the reference's product, laid in column shards. -/
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise

@[expose] public section

set_option maxRecDepth 16384
set_option backward.isDefEq.respectTransparency.types false

noncomputable section

open Idealize.ShloMosaic Idealize.ShloMosaic.TcCoe Idealize.SL.Sem

namespace Cert.Kernel10Ideal.WeightGradValue

open Cert.Kernel10Ideal Cert.Kernel10Ideal.Gen Cert.Reference10Ideal.Read

variable (m : (ℓ : Loc nD τ sig) → Buf (Elt Ideal) ℓ)

/-- Where each window's block lies at a grid point `4 j + 2 i + s`: rows `s`, columns `i` of the rows; rows `s`, shard `j` of the
    cotangent; rows `i` of shard `j` of the result. -/
theorem idx : ∀ t : Fin cfg0.N, win0_0.index t = ![t.val % 2, t.val / 2 % 2] ∧ win0_1.index t = ![t.val % 2, t.val / 4]
    ∧ win0_2.index t = ![t.val / 4, t.val / 2 % 2, 0] :=
  (by decide +kernel : ∀ t : Fin grid0.N, _)

/-- One half's product, entry by entry. -/
theorem pay_at (a : Vec Ideal S2048x1024 .bf16) (b : Vec Ideal S2048x1792 .bf16) (r : Fin 1024) (d : Fin 1792) :
    k0_pay1 a b (ix2 r d) = ∑ k : Fin 2048, a (ix2 k r) * b (ix2 k d) := by
  pointwise [k0_pay1]

/-- Two halves' products, added and stored. -/
theorem store_at (a a' : Vec Ideal S2048x1024 .bf16) (b b' : Vec Ideal S2048x1792 .bf16) (r : Fin 1024) (d : Fin 1792) :
    k0_pay4 (k0_pay3 a b (k0_pay2 a' b')) (ix3 0 r d) = k0_pay1 a' b' (ix2 r d) + k0_pay1 a b (ix2 r d) := by
  pointwise [k0_pay4, k0_pay3, k0_pay2]

/-- The point before an odd one. -/
abbrev prev (t : Fin cfg0.N) : Fin cfg0.N := ⟨t.val - 1, Nat.lt_of_le_of_lt (Nat.sub_le _ _) t.isLt⟩

/-- What a result block holds when it is written back. -/
theorem out_at (c : Dev nD) (t : Fin cfg0.N) (ht : t.val % 2 = 1) :
    (outsAt0 m c t.val t.isLt).1 = k0_pay4 (k0_pay3 (iblk m c 0 t) (iblk m c 1 t) (k0_pay2 (iblk m c 0 (prev t)) (iblk m c 1 (prev t)))) := by
  have hp : (prev t).val % 2 = 0 := by show (t.val - 1) % 2 = 0; omega
  have hs : (outsAt0 m c (t.val - 1) (Nat.lt_of_le_of_lt (Nat.sub_le _ _) t.isLt)).2 = k0_pay2 (iblk m c 0 (prev t)) (iblk m c 1 (prev t)) := by
    refine (congrArg Prod.snd (outsAt0_A m c (prev t) hp (by omega) (by omega))).trans ?_
    frame_out
  rw [outsAt0_B m c t (by omega) ht ht, hs]
  frame_out
  exact congrArg (fun z => k0_pay4 (k0_pay3 _ _ z)) ((Memref.isWhole_whole _).read_unread _)

/-- The rows' block, read from the memory the call starts from. -/
theorem h_at (c : Dev nD) (t : Fin cfg0.N) (k : Fin 2048) (r : Fin 1024) (hk : t.val % 2 * 2048 + k.val < 4096) (hr : t.val / 2 % 2 * 1024 + r.val < 2048) :
    iblk m c 0 t (ix2 k r) = m ((c : Thread nD τ).loc main_arg0) (ix2 ⟨t.val % 2 * 2048 + k.val, hk⟩ ⟨t.val / 2 % 2 * 1024 + r.val, hr⟩) := by
  have e : V m c main_v0 = (truncf .bf16 (m ((c : Thread nD τ).loc main_arg0) : FVec Ideal S4096x2048 .f32) bitsLt_bf16_f32 : FVec Ideal S4096x2048 .bf16) := rfl
  refine Eq.trans (b := V m c main_v0 (ix2 ⟨t.val % 2 * 2048 + k.val, hk⟩ ⟨t.val / 2 % 2 * 1024 + r.val, hr⟩)) ?_ ?_
  · blk_point [iblk, idx t]
  · rw [e]
    pointwise []

/-- The cotangent's block, read from the memory the call starts from. -/
theorem dp_at (c : Dev nD) (t : Fin cfg0.N) (k : Fin 2048) (d : Fin 1792) (hk : t.val % 2 * 2048 + k.val < 4096) (hd : t.val / 4 * 1792 + d.val < 7168) :
    iblk m c 1 t (ix2 k d) = m ((c : Thread nD τ).loc main_arg1) (ix2 ⟨t.val % 2 * 2048 + k.val, hk⟩ ⟨t.val / 4 * 1792 + d.val, hd⟩) := by
  have e : V m c main_v1 = (truncf .bf16 (m ((c : Thread nD τ).loc main_arg1) : FVec Ideal S4096x7168 .f32) bitsLt_bf16_f32 : FVec Ideal S4096x7168 .bf16) := rfl
  refine Eq.trans (b := V m c main_v1 (ix2 ⟨t.val % 2 * 2048 + k.val, hk⟩ ⟨t.val / 4 * 1792 + d.val, hd⟩)) ?_ ?_
  · blk_point [iblk, idx t]
  · rw [e]
    pointwise []

/-- The reference's product in column shards, entry by entry. -/
theorem ref_at (h : FVec Ideal S4096x2048 .f32) (x : FVec Ideal S4096x7168 .f32) (j : Fin 4) (r : Fin 2048) (d : Fin 1792) :
    val_main_v6 (F := Ideal) h x (ix3 j r d) = ∑ k : Fin 4096, h (ix2 k r) * x (ix2 k ⟨j.val * 1792 + d.val, by omega⟩) := by
  have e : val_main_v6 (F := Ideal) h x (ix3 j r d) = val_main_v2 (F := Ideal) h x (ix2 ⟨j.val * 1792 + d.val, by omega⟩ r) := by
    pointwise [val_main_v6, val_main_v5, val_main_v4, val_main_v3]
  rw [e, val_main_v2_apply]
  exact Finset.sum_congr rfl fun k _ => (congrArg₂ (· * ·) (congrArg x (by blk_ext)) (congrArg h (by blk_ext))).trans (mul_comm _ _)

/-- The reference's product in column shards, half by half. -/
theorem ref_halves (h : FVec Ideal S4096x2048 .f32) (x : FVec Ideal S4096x7168 .f32) (j : Fin 4) (r : Fin 2048) (d : Fin 1792) :
    val_main_v6 (F := Ideal) h x (ix3 j r d)
      = (∑ k : Fin 2048, h (ix2 ⟨0 * 2048 + k.val, by omega⟩ r) * x (ix2 ⟨0 * 2048 + k.val, by omega⟩ ⟨j.val * 1792 + d.val, by omega⟩))
        + ∑ k : Fin 2048, h (ix2 ⟨1 * 2048 + k.val, by omega⟩ r) * x (ix2 ⟨1 * 2048 + k.val, by omega⟩ ⟨j.val * 1792 + d.val, by omega⟩) :=
  (ref_at h x j r d).trans ((Fin.sum_mul_add_fin 2 2048 (fun k : Fin 4096 => h (ix2 k r) * x (ix2 k ⟨j.val * 1792 + d.val, by omega⟩))).symm.trans
    (Fin.sum_univ_two _))

/-- After the run the array is the reference's. -/
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hN := Gen.N_0
  have hj : t.val / 4 < 4 := by idx_bounds; omega
  have h1 : (y 1).val < 1024 := by idx_bounds; omega
  have h2 : (y 2).val < 1792 := by idx_bounds; omega
  have hb : t.val / 2 % 2 * 1024 + (y 1).val < 2048 := by omega
  have he : (win0_2.blk t).view.emb y = ix3 ⟨t.val / 4, hj⟩ ⟨t.val / 2 % 2 * 1024 + (y 1).val, hb⟩ (y 2) := by blk_ext [idx t]
  have hy : y = ix3 0 (y 1) (y 2) := by blk_ext
  rw [he, after0_2]
  refine Eq.trans ?_ (ref_halves _ _ ⟨t.val / 4, hj⟩ _ (y 2)).symm
  refine Eq.trans (congrArg _ hy) ((congrFun (out_at m c t ht) _).trans ((store_at _ _ _ _ (y 1) (y 2)).trans ?_))
  have hp : t.val - 1 + 1 = t.val := by omega
  have q0 : (t.val - 1) % 2 = 0 := by omega
  have q1 : (t.val - 1) / 2 = t.val / 2 := by omega
  have q2 : (t.val - 1) / 4 = t.val / 4 := by omega
  refine congrArg₂ (· + ·) ((pay_at _ _ _ _).trans (Finset.sum_congr rfl fun k _ => ?_)) ((pay_at _ _ _ _).trans (Finset.sum_congr rfl fun k _ => ?_))
  · refine congrArg₂ (· * ·) ((h_at m c (prev t) k (y 1) (by show (t.val - 1) % 2 * 2048 + k.val < 4096; omega) (by show (t.val - 1) / 2 % 2 * 1024 + (y 1).val < 2048; omega)).trans (congrArg _ ?_))
      ((dp_at m c (prev t) k (y 2) (by show (t.val - 1) % 2 * 2048 + k.val < 4096; omega) (by show (t.val - 1) / 4 * 1792 + (y 2).val < 7168; omega)).trans (congrArg _ ?_))
    · exact congrArg₂ ix2 (Fin.ext (by show (t.val - 1) % 2 * 2048 + k.val = 0 * 2048 + k.val; rw [q0])) (Fin.ext (by show (t.val - 1) / 2 % 2 * 1024 + (y 1).val = _; rw [q1]))
    · exact congrArg₂ ix2 (Fin.ext (by show (t.val - 1) % 2 * 2048 + k.val = 0 * 2048 + k.val; rw [q0])) (Fin.ext (by show (t.val - 1) / 4 * 1792 + (y 2).val = _; rw [q2]))
  · refine congrArg₂ (· * ·) ((h_at m c t k (y 1) (by omega) hb).trans (congrArg _ ?_)) ((dp_at m c t k (y 2) (by omega) (by omega)).trans (congrArg _ ?_))
    · exact congrArg₂ ix2 (Fin.ext (by show t.val % 2 * 2048 + k.val = 1 * 2048 + k.val; rw [ht])) rfl
    · exact congrArg₂ ix2 (Fin.ext (by show t.val % 2 * 2048 + k.val = 1 * 2048 + k.val; rw [ht])) rfl

end Cert.Kernel10Ideal.WeightGradValue

end
-- ==== Proof.WeightGradClaims.lean ====
/- The claims about the gradient of the even layer's input weights (call 10), assembled. -/
module

public import proofs.«01_k».proof.Defs
public import proofs.«01_k».proof.Proof.WeightGradValue
public import proofs.«01_k».proof.Proof.Gen.Kernel10.Frame
public import proofs.«01_k».proof.Proof.Gen.Kernel10Ideal.Frame
public import Idealize.ShloMosaic.Lib.Claim

@[expose] public section

set_option maxRecDepth 16384

noncomputable section

open Idealize.ShloMosaic Idealize.ShloMosaic.TcCoe Idealize.SL.Sem

namespace Cert.Reference10Ideal

open Cert.Reference10Ideal.Gen Cert.Reference10Ideal.Read

/-- The reference's run: its results are its last stages over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val_main_v6 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (Read.val_main_v6_eq _ _), (h c).2⟩) (Value.run m ρ)

end Cert.Reference10Ideal

namespace Cert.Kernel10Claims

/-- The reference runs, leaves its arguments as they were and every semaphore at zero. -/
theorem frame_reference : Cert.quiescent_Reference10Ideal := fun m g _ =>
  (θ_run _ _ _).mono (fun r h => ⟨fun c => (h c).2, sem_eq_zero_of_no_sems (by decide) r.2⟩)
    (Cert.Reference10Ideal.run_stages m g)

/-- The kernel at the real numbers and the reference leave the same gradient from the same arguments. -/
theorem algebraic : Cert.algebraic_Kernel10Ideal_Reference10Ideal := fun m g m' g' _ ha =>
  ⟨fun c => Cert.Reference10Ideal.Read.val_main_v6 (F := Ideal)
      (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run _ _ _).mono (fun r h c => ⟨(h c).1.trans (Cert.Kernel10Ideal.WeightGradValue.final m c), (h c).2⟩) (Cert.Kernel10Ideal.Value.run_blocks m g),
    (θ_run _ _ _).mono (fun r h c => ⟨(h c).1.trans (by rw [(ha c).1, (ha c).2]), (h c).2⟩) (Cert.Reference10Ideal.run_stages m' g')⟩

/-- The frames of the two programs and of the reference. -/
theorem frames : Cert.quiescent_Kernel10 ∧ Cert.quiescent_Kernel10Ideal ∧ Cert.quiescent_Reference10Ideal :=
  ⟨fun m g _ => Cert.Kernel10.Gen.frame m g, fun m g _ => Cert.Kernel10Ideal.Gen.frame m g, frame_reference⟩

end Cert.Kernel10Claims

end
-- ==== Proof.RowGradValue.lean ====
/- The gradient of the even layer's normed rows (call 11), at the real numbers: the products over the four column shards, added
   one shard after another, are the reference's product. -/
module

public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise

@[expose] public section

set_option maxRecDepth 16384
set_option backward.isDefEq.respectTransparency.types false

noncomputable section

open Idealize.ShloMosaic Idealize.ShloMosaic.TcCoe Idealize.SL.Sem

namespace Cert.Kernel11Ideal.RowGradValue

open Cert.Kernel11Ideal Cert.Kernel11Ideal.Gen Cert.Reference11Ideal.Read

variable (m : (ℓ : Loc nD τ sig) → Buf (Elt Ideal) ℓ)

/-- Where each window's block lies at a grid point: 1024 rows of the cotangent in one column shard, that shard of the weights,
    the same rows of the result. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- One shard's product, entry by entry. -/
theorem pay_at (a : Vec Ideal S1024x1792 .bf16) (b : Vec Ideal S1x2048x1792 .bf16) (r : Fin 1024) (d : Fin 2048) :
    k0_pay1 a b (ix2 r d) = ∑ k : Fin 1792, a (ix2 r k) * b (ix3 0 d k) := by
  pointwise [k0_pay1]

/-- What a result block holds at the last shard: the four shards' products added up. -/
theorem acc_at (c : Dev nD) (t : Fin cfg0.N) (ht : t.val % 4 = 3) (y : S1024x2048.Idx) :
    outsAt0 m c t.val t.isLt y = ∑ s : Fin 4, k0_pay1 (iblk m c 0 ⟨4 * (t.val / 4) + s.val, Pipeline.run_point_lt_of_flush t ht s⟩)
      (iblk m c 1 ⟨4 * (t.val / 4) + s.val, Pipeline.run_point_lt_of_flush t ht s⟩) y := by
  rw [Pipeline.eq_sum_fin_of_reset_step_apply_of_flush (fun n h => outsAt0 m c n h) 4 (fun _ => 0) (fun t => k0_pay1 (iblk m c 0 t) (iblk m c 1 t))
    (fun t h j => by rw [outsAt0_A m c t h (by omega)]; frame_out; exact (zero_add _).symm)
    (fun t h j => by rw [outsAt0_B m c t h (by omega)]; frame_out; pointwise [k0_pay2]) t ht y]
  exact zero_add _

/-- The cotangent's block, read from the memory the call starts from. -/
theorem dp_at (c : Dev nD) (t : Fin cfg0.N) (r : Fin 1024) (k : Fin 1792) (hr : t.val / 4 * 1024 + r.val < 4096) (hk : t.val % 4 * 1792 + k.val < 7168) :
    iblk m c 0 t (ix2 r k) = m ((c : Thread nD τ).loc main_arg0) (ix2 ⟨t.val / 4 * 1024 + r.val, hr⟩ ⟨t.val % 4 * 1792 + k.val, hk⟩) := by
  have e : V m c main_v0 = (truncf .bf16 (m ((c : Thread nD τ).loc main_arg0) : FVec Ideal S4096x7168 .f32) bitsLt_bf16_f32 : FVec Ideal S4096x7168 .bf16) := rfl
  refine Eq.trans (b := V m c main_v0 (ix2 ⟨t.val / 4 * 1024 + r.val, hr⟩ ⟨t.val % 4 * 1792 + k.val, hk⟩)) ?_ ?_
  · blk_point [iblk, idx t]
  · rw [e]
    pointwise []

/-- The weights' column shards: entry `(j, d, k)` is column `j * 1792 + k` of row `d`. -/
theorem entry_w (c : Dev nD) (j : Fin 4) (d : Fin 2048) (k : Fin 1792) :
    V m c main_v3 (ix3 j d k) = m ((c : Thread nD τ).loc main_arg1) (ix2 d ⟨j.val * 1792 + k.val, by omega⟩) := by
  have e : V m c main_v3 = (truncf .bf16 (transpose S4x2048x1792 [1, 0, 2] (shapeCast S2048x4x1792 (m ((c : Thread nD τ).loc main_arg1) : FVec Ideal S2048x7168 .f32)
      shapeCasts_S2048x7168_S2048x4x1792) transposes_S2048x4x1792_S4x2048x1792_1_0_2) bitsLt_bf16_f32 : FVec Ideal S4x2048x1792 .bf16) := rfl
  rw [e]
  pointwise []

/-- The weights' block, read from the memory the call starts from. -/
theorem w_at (c : Dev nD) (t : Fin cfg0.N) (d : Fin 2048) (k : Fin 1792) (hk : t.val % 4 * 1792 + k.val < 7168) :
    iblk m c 1 t (ix3 0 d k) = m ((c : Thread nD τ).loc main_arg1) (ix2 d ⟨t.val % 4 * 1792 + k.val, hk⟩) := by
  refine Eq.trans ?_ (entry_w m c ⟨t.val % 4, by omega⟩ d k)
  change iblk m c 1 t (ix3 0 d k) = V m c main_v3 (ix3 ⟨t.val % 4, by omega⟩ d k)
  blk_point [iblk, idx t]

/-- The reference's product, entry by entry. -/
theorem ref_at (x : FVec Ideal S4096x7168 .f32) (w : FVec Ideal S2048x7168 .f32) (r : Fin 4096) (d : Fin 2048) :
    val_main_v2 (F := Ideal) x w (ix2 r d) = ∑ k : Fin 7168, x (ix2 r k) * w (ix2 d k) := by
  rw [val_main_v2_apply]
  exact Finset.sum_congr rfl fun k _ => congrArg₂ (· * ·) (congrArg x (by blk_ext)) (congrArg w (by blk_ext))

/-- The reference's product, shard by shard. -/
theorem ref_shards (x : FVec Ideal S4096x7168 .f32) (w : FVec Ideal S2048x7168 .f32) (r : Fin 4096) (d : Fin 2048) :
    val_main_v2 (F := Ideal) x w (ix2 r d) = ∑ s : Fin 4, ∑ k : Fin 1792, x (ix2 r ⟨s.val * 1792 + k.val, by omega⟩) * w (ix2 d ⟨s.val * 1792 + k.val, by omega⟩) :=
  (ref_at x w r d).trans (Fin.sum_mul_add_fin 4 1792 (fun k : Fin 7168 => x (ix2 r k) * w (ix2 d k))).symm

/-- What a result block holds when it is written back is its rows of the reference. -/
theorem block_at (c : Dev nD) (t : Fin cfg0.N) (ht : t.val % 4 = 3) (r : Fin 1024) (d : Fin 2048) (hb : t.val / 4 * 1024 + r.val < 4096) :
    outsAt0 m c t.val t.isLt (ix2 r d) = val_main_v2 (F := Ideal) (m ((c : Thread nD τ).loc main_arg0)) (m ((c : Thread nD τ).loc main_arg1))
      (ix2 ⟨t.val / 4 * 1024 + r.val, hb⟩ d) := by
  refine (acc_at m c t ht (ix2 r d)).trans (Eq.trans ?_ (ref_shards _ _ _ d).symm)
  refine Finset.sum_congr rfl fun s _ => ?_
  refine (pay_at _ _ r d).trans (Finset.sum_congr rfl fun k _ => ?_)
  have hs : (4 * (t.val / 4) + s.val) / 4 = t.val / 4 := by omega
  have hm : (4 * (t.val / 4) + s.val) % 4 = s.val := by omega
  refine congrArg₂ (· * ·) ((dp_at m c _ r k (by show (4 * (t.val / 4) + s.val) / 4 * 1024 + r.val < 4096; omega)
    (by show (4 * (t.val / 4) + s.val) % 4 * 1792 + k.val < 7168; omega)).trans (congrArg _ ?_))
    ((w_at m c _ d k (by show (4 * (t.val / 4) + s.val) % 4 * 1792 + k.val < 7168; omega)).trans (congrArg _ ?_))
  · exact congrArg₂ ix2 (Fin.ext (by show (4 * (t.val / 4) + s.val) / 4 * 1024 + r.val = _; rw [hs])) (Fin.ext (by show (4 * (t.val / 4) + s.val) % 4 * 1792 + k.val = _; rw [hm]))
  · exact congrArg (ix2 d) (Fin.ext (by show (4 * (t.val / 4) + s.val) % 4 * 1792 + k.val = _; rw [hm]))

/-- After the run the array is the reference's. -/
theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  have ht : t.val % 4 = 3 := (flush0_2 t).mp hf
  have hN := Gen.N_0
  have hb : t.val / 4 * 1024 + (y 0).val < 4096 := by idx_bounds; omega
  have he : (win0_2.blk t).view.emb y = ix2 ⟨t.val / 4 * 1024 + (y 0).val, hb⟩ (y 1) := by blk_ext [idx t]
  have hy : y = ix2 (y 0) (y 1) := by blk_ext
  rw [he, after0_2]
  exact (congrArg _ hy).trans (block_at m c t ht (y 0) (y 1) hb)

end Cert.Kernel11Ideal.RowGradValue

end
-- ==== Proof.RowGradClaims.lean ====
/- The claims about the gradient of the even layer's normed rows (call 11), assembled. -/
module

public import proofs.«01_k».proof.Defs
public import proofs.«01_k».proof.Proof.RowGradValue
public import proofs.«01_k».proof.Proof.Gen.Kernel11.Frame
public import proofs.«01_k».proof.Proof.Gen.Kernel11Ideal.Frame
public import Idealize.ShloMosaic.Lib.Claim

@[expose] public section

set_option maxRecDepth 16384

noncomputable section

open Idealize.ShloMosaic Idealize.ShloMosaic.TcCoe Idealize.SL.Sem

namespace Cert.Reference11Ideal

open Cert.Reference11Ideal.Gen Cert.Reference11Ideal.Read

/-- The reference's run: its results are its last stages over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = val_main_v2 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (Read.val_main_v2_eq _ _), (h c).2⟩) (Value.run m ρ)

end Cert.Reference11Ideal

namespace Cert.Kernel11Claims

/-- The reference runs, leaves its arguments as they were and every semaphore at zero. -/
theorem frame_reference : Cert.quiescent_Reference11Ideal := fun m g _ =>
  (θ_run _ _ _).mono (fun r h => ⟨fun c => (h c).2, sem_eq_zero_of_no_sems (by decide) r.2⟩)
    (Cert.Reference11Ideal.run_stages m g)

/-- The kernel at the real numbers and the reference leave the same gradient from the same arguments. -/
theorem algebraic : Cert.algebraic_Kernel11Ideal_Reference11Ideal := fun m g m' g' _ ha =>
  ⟨fun c => Cert.Reference11Ideal.Read.val_main_v2 (F := Ideal)
      (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run _ _ _).mono (fun r h c => ⟨(h c).1.trans (Cert.Kernel11Ideal.RowGradValue.final m c), (h c).2⟩) (Cert.Kernel11Ideal.Value.run_blocks m g),
    (θ_run _ _ _).mono (fun r h c => ⟨(h c).1.trans (by rw [(ha c).1, (ha c).2]), (h c).2⟩) (Cert.Reference11Ideal.run_stages m' g')⟩

/-- The frames of the two programs and of the reference. -/
theorem frames : Cert.quiescent_Kernel11 ∧ Cert.quiescent_Kernel11Ideal ∧ Cert.quiescent_Reference11Ideal :=
  ⟨fun m g _ => Cert.Kernel11.Gen.frame m g, fun m g _ => Cert.Kernel11Ideal.Gen.frame m g, frame_reference⟩

end Cert.Kernel11Claims

end
-- ==== Proof.AdamValue.lean ====
/- The optimiser on the even layers' input weights (call 12), at the real numbers: what it leaves is the reference's. -/
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel12Ideal.AdamValue

open Cert.Kernel12Ideal Cert.Kernel12Ideal.Gen Cert.Reference12Ideal.Read

variable (m : (ℓ : Loc nD τ sig) → Buf (Elt Ideal) ℓ)

/-- Every window's block at a grid point is the same 256 rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The first moment, entry by entry: a block entry is the reference's entry wherever the entries they read agree. -/
theorem m_at (x1 x2 : FVec Ideal S2048x1792 .f32) (b1 b2 : Vec Ideal S256x1792 .f32) (i : S2048x1792.Idx) (y : S256x1792.Idx)
    (h1 : b1 y = x1 i) (h2 : b2 y = x2 i) : k0_pay1 b1 b2 y = val_main_v4 (F := Ideal) x1 x2 i := by
  pointwise [k0_pay1, val_main_v4, val_main_v3, val_main_v2, val_main_v1, val_main_v0, val_main_cst, val_main_cst_0, h1, h2]

/-- The second moment, entry by entry. -/
theorem v_at (x1 x3 : FVec Ideal S2048x1792 .f32) (b1 b3 : Vec Ideal S256x1792 .f32) (i : S2048x1792.Idx) (y : S256x1792.Idx)
    (h1 : b1 y = x1 i) (h3 : b3 y = x3 i) : k0_pay2 b1 b3 y = val_main_v10 (F := Ideal) x1 x3 i := by
  pointwise [k0_pay2, val_main_v10, val_main_v9, val_main_v8, val_main_v7, val_main_v6, val_main_v5, val_main_cst_1, val_main_cst_2, h1, h3]

/-- The update, entry by entry. -/
theorem d_at (x0 x1 x2 x3 : FVec Ideal S2048x1792 .f32) (b0 b1 b2 b3 : Vec Ideal S256x1792 .f32) (i : S2048x1792.Idx) (y : S256x1792.Idx)
    (h0 : b0 y = x0 i) (h1 : b1 y = x1 i) (h2 : b2 y = x2 i) (h3 : b3 y = x3 i) :
    k0_pay3 b1 b0 b2 b3 y = val_main_v23 (F := Ideal) x0 x1 x2 x3 i := by
  have e1 := m_at x1 x2 b1 b2 i y h1 h2
  have e2 := v_at x1 x3 b1 b3 i y h1 h3
  pointwise [k0_pay3, val_main_v23, val_main_v22, val_main_v21, val_main_v20, val_main_v19, val_main_v18, val_main_v17, val_main_v16,
    val_main_v15, val_main_v14, val_main_v13, val_main_v12, val_main_v11, val_main_cst_3, val_main_cst_4, val_main_cst_5, val_main_cst_6,
    val_main_cst_7, e1, e2, h0]

/-- An argument's block at a grid point, read from the memory the call starts from. -/
theorem arg_at (c : Dev nD) (t : Fin cfg0.N) (y : S256x1792.Idx) (hb : t.val * 256 + (y 0).val < 2048) (i : S2048x1792.Idx)
    (hi : i = ix2 ⟨t.val * 256 + (y 0).val, hb⟩ (y 1)) :
    iblk m c 0 t y = m ((c : Thread nD τ).loc main_arg0) i ∧ iblk m c 1 t y = m ((c : Thread nD τ).loc main_arg1) i
    ∧ iblk m c 2 t y = m ((c : Thread nD τ).loc main_arg2) i ∧ iblk m c 3 t y = m ((c : Thread nD τ).loc main_arg3) i := by
  subst hi
  refine ⟨?_, ?_, ?_, ?_⟩ <;> blk_point [iblk, V, idx t]

/-- The gradient handed through. -/
theorem final4 (c : Dev nD) : (dats m 0 c).arrAt 4 cfg0.N = m ((c : Thread nD τ).loc main_arg1) := by
  refine (dats m 0 c).arrAt_eq_of_covers 4 _ (by decide +kernel) fun t _ y => ?_
  blk_simp
  have hp : out0_4 (iblk m c 0 t) (iblk m c 1 t) (iblk m c 2 t) (iblk m c 3 t) = iblk m c 1 t := by frame_out
  rw [after0_4, hp]
  have hN := Gen.N_0
  have hb : t.val * 256 + (y 0).val < 2048 := by idx_bounds; omega
  exact (arg_at m c t y hb _ (by blk_ext [idx t])).2.1

/-- The update after the run. -/
theorem final5 (c : Dev nD) : (dats m 0 c).arrAt 5 cfg0.N = val_main_v23 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  have hp : out0_5 (iblk m c 0 t) (iblk m c 1 t) (iblk m c 2 t) (iblk m c 3 t) = k0_pay3 (iblk m c 1 t) (iblk m c 0 t) (iblk m c 2 t) (iblk m c 3 t) := by frame_out
  rw [after0_5, hp]
  have hN := Gen.N_0
  have hb : t.val * 256 + (y 0).val < 2048 := by idx_bounds; omega
  have h := arg_at m c t y hb _ (show (win0_5.blk t).view.emb y = _ by blk_ext [idx t])
  exact d_at _ _ _ _ _ _ _ _ _ _ h.1 h.2.1 h.2.2.1 h.2.2.2

/-- The first moment after the run. -/
theorem final6 (c : Dev nD) : (dats m 0 c).arrAt 6 cfg0.N
    = val_main_v4 (F := Ideal) (m ((c : Thread nD τ).loc main_arg1)) (m ((c : Thread nD τ).loc main_arg2)) := by
  refine (dats m 0 c).arrAt_eq_of_covers 6 _ (by decide +kernel) fun t _ y => ?_
  blk_simp
  have hp : out0_6 (iblk m c 0 t) (iblk m c 1 t) (iblk m c 2 t) (iblk m c 3 t) = k0_pay1 (iblk m c 1 t) (iblk m c 2 t) := by frame_out
  rw [after0_6, hp]
  have hN := Gen.N_0
  have hb : t.val * 256 + (y 0).val < 2048 := by idx_bounds; omega
  have h := arg_at m c t y hb _ (show (win0_6.blk t).view.emb y = _ by blk_ext [idx t])
  exact m_at _ _ _ _ _ _ h.2.1 h.2.2.1

/-- The second moment after the run. -/
theorem final7 (c : Dev nD) : (dats m 0 c).arrAt 7 cfg0.N
    = val_main_v10 (F := Ideal) (m ((c : Thread nD τ).loc main_arg1)) (m ((c : Thread nD τ).loc main_arg3)) := by
  refine (dats m 0 c).arrAt_eq_of_covers 7 _ (by decide +kernel) fun t _ y => ?_
  blk_simp
  have hp : out0_7 (iblk m c 0 t) (iblk m c 1 t) (iblk m c 2 t) (iblk m c 3 t) = k0_pay2 (iblk m c 1 t) (iblk m c 3 t) := by frame_out
  rw [after0_7, hp]
  have hN := Gen.N_0
  have hb : t.val * 256 + (y 0).val < 2048 := by idx_bounds; omega
  have h := arg_at m c t y hb _ (show (win0_7.blk t).view.emb y = _ by blk_ext [idx t])
  exact v_at _ _ _ _ _ _ h.2.1 h.2.2.2

end Cert.Kernel12Ideal.AdamValue

end
-- ==== Proof.AdamClaims.lean ====
/- The claims about the optimiser's step on the even layers' input weights (call 12), assembled. -/
module

public import proofs.«01_k».proof.Defs
public import proofs.«01_k».proof.Proof.AdamValue
public import proofs.«01_k».proof.Proof.Gen.Kernel12.Frame
public import proofs.«01_k».proof.Proof.Gen.Kernel12Ideal.Frame
public import Idealize.ShloMosaic.Lib.Claim

@[expose] public section

set_option maxRecDepth 16384

noncomputable section

open Idealize.ShloMosaic Idealize.ShloMosaic.TcCoe Idealize.SL.Sem

namespace Cert.Reference12Ideal

open Cert.Reference12Ideal.Gen Cert.Reference12Ideal.Read

/-- The reference's run: its results are its last stages over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v23) = val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = val_main_v4 (F := Ideal) (m ((c.tc : Thread nD τ).loc main_arg1)) (m ((c.tc : Thread nD τ).loc main_arg2))
      ∧ r.2.mem ((c.tc : Thread nD τ).loc main_v10) = val_main_v10 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1, (h c).2.1.trans (Read.val_main_v23_eq _ _ _ _), (h c).2.2.1.trans (Read.val_main_v4_eq _ _), (h c).2.2.2.1.trans (Read.val_main_v10_eq _ _), (h c).2.2.2.2⟩) (Value.run m ρ)

end Cert.Reference12Ideal

namespace Cert.Kernel12Claims

/-- The reference runs, leaves its arguments as they were and every semaphore at zero. -/
theorem frame_reference : Cert.quiescent_Reference12Ideal := fun m g _ =>
  (θ_run _ _ _).mono (fun r h => ⟨fun c => (h c).2.2.2.2, sem_eq_zero_of_no_sems (by decide) r.2⟩)
    (Cert.Reference12Ideal.run_stages m g)

/-- The kernel at the real numbers and the reference leave the same update and moments from the same arguments. -/
theorem algebraic : Cert.algebraic_Kernel12Ideal_Reference12Ideal := fun m g m' g' _ ha =>
  ⟨fun c => m ((c.tc : Thread Cert.Kernel12Ideal.nD Cert.Kernel12Ideal.τ).loc Cert.Kernel12Ideal.main_arg1), fun c => Cert.Reference12Ideal.Read.val_main_v23 (F := Ideal)
      (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)), fun c => Cert.Reference12Ideal.Read.val_main_v4 (F := Ideal)
      (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)), fun c => Cert.Reference12Ideal.Read.val_main_v10 (F := Ideal)
      (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg3)),
    (θ_run _ _ _).mono (fun r h c => ⟨(h c).1.trans (Cert.Kernel12Ideal.AdamValue.final4 m c), (h c).2.1.trans (Cert.Kernel12Ideal.AdamValue.final5 m c), (h c).2.2.1.trans (Cert.Kernel12Ideal.AdamValue.final6 m c), (h c).2.2.2.1.trans (Cert.Kernel12Ideal.AdamValue.final7 m c), (h c).2.2.2.2⟩) (Cert.Kernel12Ideal.Value.run_blocks m g),
    (θ_run _ _ _).mono (fun r h c => ⟨(h c).1.trans (ha c).2.1, (h c).2.1.trans (by rw [(ha c).1, (ha c).2.1, (ha c).2.2.1, (ha c).2.2.2]), (h c).2.2.1.trans (by rw [(ha c).2.1, (ha c).2.2.1]), (h c).2.2.2.1.trans (by rw [(ha c).2.1, (ha c).2.2.2]), (h c).2.2.2.2⟩) (Cert.Reference12Ideal.run_stages m' g')⟩

/-- The frames of the two programs and of the reference. -/
theorem frames : Cert.quiescent_Kernel12 ∧ Cert.quiescent_Kernel12Ideal ∧ Cert.quiescent_Reference12Ideal :=
  ⟨fun m g _ => Cert.Kernel12.Gen.frame m g, fun m g _ => Cert.Kernel12Ideal.Gen.frame m g, frame_reference⟩

end Cert.Kernel12Claims

end
-- ==== Proof.SumValue.lean ====
/- The sum of the eight chips' small gradients (call 13), at the real numbers: it is the reference's sum. -/
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel13Ideal.SumValue

open Cert.Kernel13Ideal Cert.Kernel13Ideal.Gen Cert.Reference13Ideal.Read

variable (m : (ℓ : Loc nD τ sig) → Buf (Elt Ideal) ℓ)

/-- Adding the eight slices one after another is the sum over the first axis. -/
theorem sum_at (x : Vec Ideal S8x393x128 .f32) : Value.G1 x = val_main_v0 (F := Ideal) x := by
  funext i
  have hl : Value.G1 x = View.canon [⟨r0_8, Value.G1 x⟩] := (View.canon_unit_zero Value.hz1 _ _).symm
  refine Eq.trans (congrFun hl i) ((Value.canon1_eq _ _ _ _ _ _ _ _ i).trans ?_)
  have e : ∀ (k : Fin 8) (j : S8x393x128.Idx), (j 0).val = k.val → (j 1).val = (i 0).val → (j 2).val = (i 1).val → x j = x (idx_main_v0 i k) :=
    fun k j h0 h1 h2 => congrArg x (funext fun a => Fin.ext (by match a with | ⟨0, _⟩ => exact h0 | ⟨1, _⟩ => exact h1 | ⟨2, _⟩ => exact h2))
  rw [val_main_v0_apply, val_main_cst_apply]
  have hz : (FloatOps.ofBits .f32 0x00000000#32 : Ideal .f32) = 0 := by pointwise []
  rw [hz, zero_add, Fin.sum_univ_eight]
  show ((((((x _ + x _) + x _) + x _) + x _) + x _) + x _) + x _ = _
  refine congrArg₂ (· + ·) (congrArg₂ (· + ·) (congrArg₂ (· + ·) (congrArg₂ (· + ·) (congrArg₂ (· + ·) (congrArg₂ (· + ·) (congrArg₂ (· + ·)
    (e 0 _ ?_ ?_ ?_) (e 1 _ ?_ ?_ ?_)) (e 2 _ ?_ ?_ ?_)) (e 3 _ ?_ ?_ ?_)) (e 4 _ ?_ ?_ ?_)) (e 5 _ ?_ ?_ ?_)) (e 6 _ ?_ ?_ ?_)) (e 7 _ ?_ ?_ ?_)
  all_goals first | rfl | (show 0 + 1 * (i 0).val = (i 0).val; omega) | (show 0 + 1 * (i 1).val = (i 1).val; omega)

end Cert.Kernel13Ideal.SumValue

end
-- ==== Proof.SumClaims.lean ====
/- The claims about the sum of the small gradients (call 13), assembled. -/
module

public import proofs.«01_k».proof.Defs
public import proofs.«01_k».proof.Proof.SumValue
public import proofs.«01_k».proof.Proof.Gen.Kernel13.Frame
public import proofs.«01_k».proof.Proof.Gen.Kernel13Ideal.Frame
public import Idealize.ShloMosaic.Lib.Claim

@[expose] public section

set_option maxRecDepth 16384

noncomputable section

open Idealize.ShloMosaic Idealize.ShloMosaic.TcCoe Idealize.SL.Sem

namespace Cert.Reference13Ideal

open Cert.Reference13Ideal.Gen Cert.Reference13Ideal.Read

/-- The reference's run: its results are its last stages over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = val_main_v0 (F := Ideal) (m ((c.tc : Thread nD τ).loc main_arg0))
      ∧ r.2.mem ((c.tc : Thread nD τ).loc main_arg0) = m ((c.tc : Thread nD τ).loc main_arg0) :=
  (θ_run defs _ _).mono (fun r h c => ⟨(h c).1.trans (Read.val_main_v0_eq _), (h c).2⟩) (Value.run m ρ)

end Cert.Reference13Ideal

namespace Cert.Kernel13Claims

/-- The reference runs, leaves its arguments as they were and every semaphore at zero. -/
theorem frame_reference : Cert.quiescent_Reference13Ideal := fun m g _ =>
  (θ_run _ _ _).mono (fun r h => ⟨fun c => (h c).2, sem_eq_zero_of_no_sems (by decide) r.2⟩)
    (Cert.Reference13Ideal.run_stages m g)

/-- The kernel at the real numbers and the reference leave the same sums from the same arguments. -/
theorem algebraic : Cert.algebraic_Kernel13Ideal_Reference13Ideal := fun m g m' g' _ ha =>
  ⟨fun c => Cert.Reference13Ideal.Read.val_main_v0 (F := Ideal)
      (m ((c.tc : Thread Cert.Kernel13Ideal.nD Cert.Kernel13Ideal.τ).loc Cert.Kernel13Ideal.main_arg0)),
    (θ_run _ _ _).mono (fun r h c => ⟨(h c).1.trans (Cert.Kernel13Ideal.SumValue.sum_at _), (h c).2⟩) (Cert.Kernel13Ideal.Value.run m g),
    (θ_run _ _ _).mono (fun r h c => ⟨(h c).1.trans (by rw [(ha c)]), (h c).2⟩) (Cert.Reference13Ideal.run_stages m' g')⟩

/-- The frames of the two programs and of the reference. -/
theorem frames : Cert.quiescent_Kernel13 ∧ Cert.quiescent_Kernel13Ideal ∧ Cert.quiescent_Reference13Ideal :=
  ⟨fun m g _ => Cert.Kernel13.Gen.frame m g, fun m g _ => Cert.Kernel13Ideal.Gen.frame m g, frame_reference⟩

end Cert.Kernel13Claims

end
-- ==== Proof.FwdPoints.lean ====
module

public import proofs.«01_k».proof.Proof.Gen.Kernel6Ideal.Loops
public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! The test the body of the convolution mixer's forward kernel makes of its grid point. -/

namespace Cert.Kernel6Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

/-- The grid point is the first: the body's own test. -/
abbrev FirstPt (i : grid0.Coords) : Prop :=
  (Scalar.cmpi .ne (Scalar.extui (Scalar.cmpi .eq (BitVec.ofNat 32 (i 0).val) 0#32)) 0#32) = 1#1

/-- The test holds at point 0 alone. -/
theorem firstPt : ∀ t : Fin cfg0.N, FirstPt (grid0.coords t) ↔ t.val % 32 = 0 :=
  (fun t => by
  have ht : t.val < 32 := Nat.lt_of_lt_of_eq t.isLt N_0
  have e0 : (grid0.coords t 0).val = t.val / 1 % 32 := Pipeline.Grid.coords_val t 0 (by decide) rfl
  simp only [FirstPt, e0]
  word_cmp : ∀ t : Fin grid0.N, FirstPt (grid0.coords t) ↔ t.val % 32 = 0)

end Cert.Kernel6Ideal.Fwd

end
-- ==== Proof.FwdRunA.lean ====
module

public import proofs.«01_k».proof.Proof.Gen.Kernel6Ideal.Loops
public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FwdPoints

@[expose] public section

set_option maxRecDepth 16384

noncomputable section

/-! The body of the convolution mixer's forward kernel, run once at the first grid point. -/

namespace Cert.Kernel6Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

set_option maxHeartbeats 1600000 in
/-- The body run at the first point: from the inputs' blocks it comes to an end, with the stores each of the results' blocks and
    the buffer of the convolution's weights was left with (last first). -/
noncomputable def runA (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (hc0 : FirstPt i)
    (x0 : Vec F S128x7168 .f32) (x1 : Vec F S32x7168 .f32) (x2 : Vec F S2048x2048 .bf16) (x3 : Vec F S128x2048 .f32) (x4 : Vec F S1x2048 .f32) (x5 : Vec F S3x1024 .f32) (x6 : Vec F S31x1024 .f32) (x7 : Vec F S1x1024 .f32) (x8 : Vec F S1x1024 .f32) (x9 : Vec F S1x1024 .f32) (b14 : Vec F S128x1024 .f32) (b16 : Vec F S8x160x1024 .f32) :
    Σ' (L11 : List (View.Piece (Elt F) S128x2048 .bf16)), Σ' (L12 : List (View.Piece (Elt F) S128x2048 .f32)), Σ' (L13 : List (View.Piece (Elt F) S128x2048 .f32)), Σ' (L14 : List (View.Piece (Elt F) S128x1024 .f32)), { L17 : List (View.Piece (Elt F) S31x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare b14 ∗ (∃ d, owns (c : Thread nD τ) arg15 fullShare d) ∗ owns (c : Thread nD τ) arg16 fullShare b16 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f L17)) -∗ K ⟨⟩))
          ⊢ wp frame (wpE (defs₀ (F := F)) Variants.none c none) E (cc0_e_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_e_mixer_fwd_eq_skeleton]; unfold cc0_e_mixer_fwd_skel
    simp only [k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%f14, %hf14, H14⟩, ⟨%d15, %f15, -, H15⟩, ⟨%f16, %hf16, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hf14; obtain rfl := harg16.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H11]; · iexists _; iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    iexists _; iexact H17

end Cert.Kernel6Ideal.Fwd

end
-- ==== Proof.FwdRunB.lean ====
module

public import proofs.«01_k».proof.Proof.Gen.Kernel6Ideal.Loops
public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FwdPoints

@[expose] public section

set_option maxRecDepth 16384

noncomputable section

/-! The body of the convolution mixer's forward kernel, run once at a later grid point. -/

namespace Cert.Kernel6Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

set_option maxHeartbeats 1600000 in
/-- The body run at a later point, with the convolution's weights as the first point left them. -/
noncomputable def runB (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (hc0 : ¬ FirstPt i)
    (x0 : Vec F S128x7168 .f32) (x1 : Vec F S32x7168 .f32) (x2 : Vec F S2048x2048 .bf16) (x3 : Vec F S128x2048 .f32) (x4 : Vec F S1x2048 .f32) (x5 : Vec F S3x1024 .f32) (x6 : Vec F S31x1024 .f32) (x7 : Vec F S1x1024 .f32) (x8 : Vec F S1x1024 .f32) (x9 : Vec F S1x1024 .f32) (b14 : Vec F S128x1024 .f32) (b16 : Vec F S8x160x1024 .f32) (b17 : Vec F S31x8x1024 .f32) :
    Σ' (L11 : List (View.Piece (Elt F) S128x2048 .bf16)), Σ' (L12 : List (View.Piece (Elt F) S128x2048 .f32)), Σ' (L13 : List (View.Piece (Elt F) S128x2048 .f32)), { L14 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare b14 ∗ (∃ d, owns (c : Thread nD τ) arg15 fullShare d) ∗ owns (c : Thread nD τ) arg16 fullShare b16 ∗ owns (c : Thread nD τ) arg17 fullShare b17
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ owns (c : Thread nD τ) arg17 fullShare b17) -∗ K ⟨⟩))
          ⊢ wp frame (wpE (defs₀ (F := F)) Variants.none c none) E (cc0_e_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_e_mixer_fwd_eq_skeleton]; unfold cc0_e_mixer_fwd_skel
    simp only [k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%f14, %hf14, H14⟩, ⟨%d15, %f15, -, H15⟩, ⟨%f16, %hf16, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hf14; obtain rfl := harg16.eq_unread hf16; obtain rfl := harg17.eq_unread hf17
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H11]; · iexists _; iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    iexists _; isplitr; · ipureintro; exact harg17.read_unread _
    iexact H17

end Cert.Kernel6Ideal.Fwd

end
-- ==== Proof.FwdRows.lean ====
module

public import Idealize.ShloMosaic.Lib.Pipeline.ValueKit
public import Idealize.ShloMosaic.Lib.Pointwise

@[expose] public section

noncomputable section

/-! The convolution mixer's forward pass a row at a time, over the extended reals. -/

namespace Cert.Kernel6Ideal.Fwd

open Idealize.ShloMosaic

/-- The second convolution at row `R`, lane `l`: 31 taps over rows kept 32 further down, and the bias. -/
def conv31 (wv Y : ℕ → ℕ → EReal) (bv : ℕ → EReal) (R l : ℕ) : EReal :=
  (∑ j ∈ Finset.range 31, wv (30 - j) l * Y (R + (32 - j)) l) + bv l

/-- The first convolution: three taps over rows kept 8 further down. -/
def conv3 (wv Q : ℕ → ℕ → EReal) (R l : ℕ) : EReal :=
  wv 2 l * Q (R + 8) l + wv 1 l * Q (R + 7) l + wv 0 l * Q (R + 6) l

/-- A tap's weight at a lane. -/
def tap {n : ℕ} (w : FVec Ideal (⟨2, ![n, 1024]⟩ : Shape) .f32) (j l : ℕ) : EReal := if h : j < n ∧ l < 1024 then w (ix2 ⟨j, h.1⟩ ⟨l, h.2⟩) else 0

theorem tap_at {n : ℕ} (w : FVec Ideal (⟨2, ![n, 1024]⟩ : Shape) .f32) (j : Fin n) (l : Fin 1024) : tap w j.val l.val = w (ix2 j l) :=
  dif_pos ⟨j.isLt, l.isLt⟩

abbrev width : EReal := Ideal.ofBits .f32 0x44800000#32
abbrev width2 : EReal := Ideal.ofBits .f32 0x45000000#32
abbrev eps : EReal := Ideal.ofBits .f32 0x358637BD#32

/-- A row less its mean, and the mean of its squares. -/
def rowC (v : Fin 1024 → EReal) (l : Fin 1024) : EReal := v l - Ideal.div (∑ k, v k) width
def rowV (v : Fin 1024 → EReal) : EReal := Ideal.div (∑ k, rowC v k * rowC v k) width

/-- A row through the layer norm. -/
def rowN (v g b : Fin 1024 → EReal) (l : Fin 1024) : EReal := rowC v l * Ideal.rsqrt (rowV v + eps) * g l + b l

def silu (x : EReal) : EReal := x * Ideal.logistic x

/-- The two gated branches. -/
def rowA (a z q : Fin 1024 → EReal) (l : Fin 1024) : EReal := a l * q l * silu (z l)
def rowB (v g b z : Fin 1024 → EReal) (l : Fin 1024) : EReal := silu (rowN v g b l) * silu (z l)

/-- The output product of a row's two halves. -/
def rowP (a b : Fin 1024 → EReal) (w : Fin 2048 → Fin 2048 → EReal) (d : Fin 2048) : EReal :=
  (∑ k : Fin 1024, a k * w ⟨k.val, by omega⟩ d) + ∑ k : Fin 1024, b k * w ⟨1024 + k.val, by omega⟩ d

/-- A row of the layer's output: the residual and the normalised product. -/
def rowX (x y g : Fin 2048 → EReal) (d : Fin 2048) : EReal :=
  x d + y d * Ideal.rsqrt (Ideal.div (∑ k, y k * y k) width2 + eps) * g d

end Cert.Kernel6Ideal.Fwd

end
-- ==== Proof.FwdLoops.lean ====
module

public import proofs.«01_k».proof.Proof.Gen.Kernel6Ideal.Loops
public import proofs.«01_k».proof.Proof.FwdRows
public import Idealize.ShloMosaic.Lib.Pipeline.ValueKit
public import Idealize.ShloMosaic.Lib.Pointwise
public import Idealize.ShloMosaic.Lib.ReduceAll

@[expose] public section

set_option maxRecDepth 16384

noncomputable section

/-! The convolution's four loops, a block of columns each: what a trip stores, and where. -/

namespace Cert.Kernel6Ideal.Fwd

open Idealize.ShloMosaic Idealize.ShloMosaic.TcCoe Idealize.SL.Sem
open Cert.Kernel6Ideal.Gen

theorem pos_mid (n a x b : ℕ) (h : b ≤ 8) : n + 8 + (a + x) - b = n + x + (8 + a - b) := by omega
theorem pos_low (n x b : ℕ) (h : b ≤ 8) : n + 8 + x - b = n + x + (8 - b) := by omega
theorem pos_out (n a x b : ℕ) : n + a + x + b = n + x + (a + b) := by omega
theorem pos_out0 (n x b : ℕ) : n + 0 + x + b = n + x + b := by omega
theorem off1 : ∀ k : Fin k0_t1_loop.trips, k0_off1 k = ![0, 32 * k.val + 8, 0] := by decide +kernel
theorem off2 : ∀ k : Fin k0_t1_loop.trips, k0_off2 k = ![1, 32 * k.val + 8, 0] := by decide +kernel
theorem off3 : ∀ k : Fin k0_t1_loop.trips, k0_off3 k = ![2, 32 * k.val + 8, 0] := by decide +kernel
theorem off4 : ∀ k : Fin k0_t1_loop.trips, k0_off4 k = ![3, 32 * k.val + 8, 0] := by decide +kernel
theorem off5 : ∀ k : Fin k0_t1_loop.trips, k0_off5 k = ![4, 32 * k.val + 8, 0] := by decide +kernel
theorem off6 : ∀ k : Fin k0_t1_loop.trips, k0_off6 k = ![5, 32 * k.val + 8, 0] := by decide +kernel
theorem off7 : ∀ k : Fin k0_t1_loop.trips, k0_off7 k = ![6, 32 * k.val + 8, 0] := by decide +kernel
theorem off8 : ∀ k : Fin k0_t1_loop.trips, k0_off8 k = ![7, 32 * k.val + 8, 0] := by decide +kernel
theorem off9 : ∀ (k : Fin k0_t1_loop.trips) (q : Fin 4), k0_off9 k (BitVec.ofNat 32 (8 * q.val)) = ![32 * k.val + 8 * q.val, 0] := by decide +kernel

set_option maxHeartbeats 8000000 in
/-- A trip of the loop over columns 0 to 255 reaches its 32 rows of these columns. -/
theorem trip1_cover {F : FTy → Type} [FloatOps F] (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec F S152x1024 .f32) (v82 : Vec F S1x152x1024 .f32)
    (X8 : BufTy.Contents (Elt F) arg8.view.ty) (X16 : BufTy.Contents (Elt F) arg16.view.ty) (X17 : BufTy.Contents (Elt F) arg17.view.ty) (k : Fin k0_t1_loop.trips)
    (y : S128x1024.Idx) (h0 : 32 * k.val ≤ (y 0).val) (h1 : (y 0).val < 32 * k.val + 32) (h2 : 0 ≤ (y 1).val) (h3 : (y 1).val < 256) :
      ∃ pc ∈ tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 k, y ∈ pc.1.set := by
  have hk : k.val < 4 := Nat.lt_of_lt_of_le k.isLt k0_t1_abs.2.1
  have e0 : k0_off9 k 0#32 = ![32 * k.val + 0, 0] := off9 k 0
  have e1 : k0_off9 k 8#32 = ![32 * k.val + 8, 0] := off9 k 1
  have e2 : k0_off9 k 16#32 = ![32 * k.val + 16, 0] := off9 k 2
  have e3 : k0_off9 k 24#32 = ![32 * k.val + 24, 0] := off9 k 3
  unfold tripL_k0_t1 trip_k0_t1
  dsimp only
  have mem (q : ℕ) (o : Fin 2 → ℕ) (ho : o = ![32 * k.val + q, 0]) (inb : ∀ a, o a + ![8, 256] a ≤ S128x1024.size a)
      (hq : 32 * k.val + q ≤ (y 0).val) (hq' : (y 0).val < 32 * k.val + q + 8) :
      y ∈ (Rect.unit (s := S128x1024) o ![8, 256] inb).set := by
    subst ho
    refine Rect.mem_set_unit.mpr fun a => ?_
    fin_cases a
    · exact ⟨hq, hq'⟩
    · exact ⟨h2, h3⟩
  simp only [List.mem_cons, List.not_mem_nil, or_false, exists_eq_or_imp, exists_eq_left]
  by_cases g3 : 32 * k.val + 24 ≤ (y 0).val
  · exact .inl (mem 24 _ e3 _ g3 (by omega))
  by_cases g2 : 32 * k.val + 16 ≤ (y 0).val
  · exact .inr (.inl (mem 16 _ e2 _ g2 (by omega)))
  by_cases g1 : 32 * k.val + 8 ≤ (y 0).val
  · exact .inr (.inr (.inl (mem 8 _ e1 _ g1 (by omega))))
  exact .inr (.inr (.inr (mem 0 _ e0 _ (by omega) (by omega))))

set_option maxHeartbeats 4000000 in
/-- The loop reaches every row of these columns. -/
theorem loop1_cover {F : FTy → Type} [FloatOps F] (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec F S152x1024 .f32) (v82 : Vec F S1x152x1024 .f32)
    (X8 : BufTy.Contents (Elt F) arg8.view.ty) (X16 : BufTy.Contents (Elt F) arg16.view.ty) (X17 : BufTy.Contents (Elt F) arg17.view.ty) :
    ∀ (n : ℕ) (hn : n ≤ 4) (y : S128x1024.Idx), (y 0).val < 32 * n → 0 ≤ (y 1).val → (y 1).val < 256 →
      ∃ pc ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n, y ∈ pc.1.set
  | 0, _, y, h, _, _ => by omega
  | n + 1, hn, y, h, h2, h3 => by
    have hT : n < k0_t1_loop.trips := Nat.lt_of_lt_of_le (by omega : n < 4) (by decide +kernel : 4 ≤ k0_t1_loop.trips)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩
    rw [show n + 1 = (⟨n, hT⟩ : Fin k0_t1_loop.trips).val + 1 from rfl, e]
    by_cases hy : 32 * n ≤ (y 0).val
    · obtain ⟨pc, hp, hm⟩ := trip1_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩ y hy (by dsimp only; omega) h2 h3
      exact ⟨pc, List.mem_append_left _ hp, hm⟩
    · obtain ⟨pc, hp, hm⟩ := loop1_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n (by omega) y (by omega) h2 h3
      exact ⟨pc, List.mem_append_right _ hp, hm⟩

set_option maxHeartbeats 8000000 in
/-- A trip of the loop over columns 0 to 255 stores the convolution's values. -/
theorem trip1_value (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec Ideal S152x1024 .f32) (v82 : Vec Ideal S1x152x1024 .f32)
    (X8 : BufTy.Contents (Elt Ideal) arg8.view.ty) (X16 : BufTy.Contents (Elt Ideal) arg16.view.ty) (X17 : BufTy.Contents (Elt Ideal) arg17.view.ty)
    (wv Y : ℕ → ℕ → EReal) (bv : ℕ → EReal) (h8 : ∀ l : Fin 1024, arg8.view.read (Elt Ideal) X8 (ix2 0 l) = bv l.val)
    (h16 : ∀ (b : Fin 8) (r : Fin 160) (l : Fin 1024), 8 ≤ r.val → arg16.view.read (Elt Ideal) X16 (ix3 b r l) = Y (r.val - b.val) l.val)
    (h17 : ∀ (j : Fin 31) (s : Fin 8) (l : Fin 1024), arg17.view.read (Elt Ideal) X17 (ix3 j s l) = wv j.val l.val)
    (k : Fin k0_t1_loop.trips) :
    ∀ pc ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 k, ∀ x, pc.2 x = conv31 wv Y bv (pc.1.emb x 0).val (pc.1.emb x 1).val := by
  have hk : k.val < 4 := Nat.lt_of_lt_of_le k.isLt k0_t1_abs.2.1
  have e0 : k0_off9 k 0#32 = ![32 * k.val + 0, 0] := off9 k 0
  have e1 : k0_off9 k 8#32 = ![32 * k.val + 8, 0] := off9 k 1
  have e2 : k0_off9 k 16#32 = ![32 * k.val + 16, 0] := off9 k 2
  have e3 : k0_off9 k 24#32 = ![32 * k.val + 24, 0] := off9 k 3
  unfold tripL_k0_t1 trip_k0_t1
  dsimp only
  have emb (q : ℕ) (o : Fin 2 → ℕ) (ho : o = ![32 * k.val + q, 0]) (inb : ∀ a, o a + ![8, 256] a ≤ S128x1024.size a)
      (x : (Rect.unit (s := S128x1024) o ![8, 256] inb).shape.Idx) :
      ((Rect.unit (s := S128x1024) o ![8, 256] inb).emb x 0).val = 32 * k.val + q + (x 0).val
      ∧ ((Rect.unit (s := S128x1024) o ![8, 256] inb).emb x 1).val = 0 + (x 1).val := by
    subst ho
    exact ⟨congrArg (32 * k.val + q + ·) (Nat.one_mul _), congrArg (0 + ·) (Nat.one_mul _)⟩
  intro pc hpc
  simp only [List.mem_cons, List.not_mem_nil, or_false] at hpc
  rcases hpc with rfl | rfl | rfl | rfl
  all_goals intro x
  all_goals first
    | rw [(emb 24 _ e3 _ x).1, (emb 24 _ e3 _ x).2]
    | rw [(emb 16 _ e2 _ x).1, (emb 16 _ e2 _ x).2]
    | rw [(emb 8 _ e1 _ x).1, (emb 8 _ e1 _ x).2]
    | rw [(emb 0 _ e0 _ x).1, (emb 0 _ e0 _ x).2]
  all_goals
    obtain ⟨r, d, rfl⟩ : ∃ (r : Fin 8) (d : Fin 256), x = ix2 r d := ⟨x 0, x 1, funext fun a => by fin_cases a <;> rfl⟩
  all_goals change _ = conv31 wv Y bv (32 * k.val + _ + r.val) (0 + d.val)
  all_goals dsimp only [trip_k0_t1.sl.arg18, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_3, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_4, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_5, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_6, trip_k0_t1.sl.r_7, trip_k0_t1.sl.r_8, trip_k0_t1.sl.r_9, trip_k0_t1.sl.v154]
  all_goals open_payloads
  all_goals pointwise []
  all_goals simp (disch := (dsimp only [Matrix.cons_val]; omega)) only [off1 k, off2 k, off3 k, off4 k, off5 k, off6 k, off7 k, off8 k, Matrix.cons_val, h16, h17, h8]
  all_goals
    simp (disch := decide) only [pos_mid]
    try simp (disch := decide) only [pos_low]
    simp only [conv31, Finset.sum_range_succ, Finset.sum_range_zero, Nat.reduceSub, Nat.reduceAdd, pos_out, pos_out0, zero_add, Fin.coe_ofNat_eq_mod, Nat.reduceMod]
  all_goals ac_rfl

set_option maxHeartbeats 4000000 in
/-- So does the loop. -/
theorem loop1_value (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec Ideal S152x1024 .f32) (v82 : Vec Ideal S1x152x1024 .f32)
    (X8 : BufTy.Contents (Elt Ideal) arg8.view.ty) (X16 : BufTy.Contents (Elt Ideal) arg16.view.ty) (X17 : BufTy.Contents (Elt Ideal) arg17.view.ty)
    (wv Y : ℕ → ℕ → EReal) (bv : ℕ → EReal) (h8 : ∀ l : Fin 1024, arg8.view.read (Elt Ideal) X8 (ix2 0 l) = bv l.val)
    (h16 : ∀ (b : Fin 8) (r : Fin 160) (l : Fin 1024), 8 ≤ r.val → arg16.view.read (Elt Ideal) X16 (ix3 b r l) = Y (r.val - b.val) l.val)
    (h17 : ∀ (j : Fin 31) (s : Fin 8) (l : Fin 1024), arg17.view.read (Elt Ideal) X17 (ix3 j s l) = wv j.val l.val) :
    ∀ (n : ℕ) (hn : n ≤ 4), ∀ pc ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n, ∀ x, pc.2 x = conv31 wv Y bv (pc.1.emb x 0).val (pc.1.emb x 1).val
  | 0, _, pc, hp => by simp [pb_k0_t1] at hp
  | n + 1, hn, pc, hp => by
    have hT : n < k0_t1_loop.trips := Nat.lt_of_lt_of_le (by omega : n < 4) (by decide +kernel : 4 ≤ k0_t1_loop.trips)
    rw [show n + 1 = (⟨n, hT⟩ : Fin k0_t1_loop.trips).val + 1 from rfl, pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩] at hp
    rcases List.mem_append.mp hp with h | h
    · exact trip1_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 ⟨n, hT⟩ pc h
    · exact loop1_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 n (by omega) pc h

theorem off10 : ∀ k : Fin k0_t2_loop.trips, k0_off10 k = ![0, 32 * k.val + 8, 256] := by decide +kernel
theorem off11 : ∀ k : Fin k0_t2_loop.trips, k0_off11 k = ![1, 32 * k.val + 8, 256] := by decide +kernel
theorem off12 : ∀ k : Fin k0_t2_loop.trips, k0_off12 k = ![2, 32 * k.val + 8, 256] := by decide +kernel
theorem off13 : ∀ k : Fin k0_t2_loop.trips, k0_off13 k = ![3, 32 * k.val + 8, 256] := by decide +kernel
theorem off14 : ∀ k : Fin k0_t2_loop.trips, k0_off14 k = ![4, 32 * k.val + 8, 256] := by decide +kernel
theorem off15 : ∀ k : Fin k0_t2_loop.trips, k0_off15 k = ![5, 32 * k.val + 8, 256] := by decide +kernel
theorem off16 : ∀ k : Fin k0_t2_loop.trips, k0_off16 k = ![6, 32 * k.val + 8, 256] := by decide +kernel
theorem off17 : ∀ k : Fin k0_t2_loop.trips, k0_off17 k = ![7, 32 * k.val + 8, 256] := by decide +kernel
theorem off18 : ∀ (k : Fin k0_t2_loop.trips) (q : Fin 4), k0_off18 k (BitVec.ofNat 32 (8 * q.val)) = ![32 * k.val + 8 * q.val, 256] := by decide +kernel

set_option maxHeartbeats 8000000 in
/-- A trip of the loop over columns 256 to 511 reaches its 32 rows of these columns. -/
theorem trip2_cover {F : FTy → Type} [FloatOps F] (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec F S152x1024 .f32) (v82 : Vec F S1x152x1024 .f32)
    (X8 : BufTy.Contents (Elt F) arg8.view.ty) (X16 : BufTy.Contents (Elt F) arg16.view.ty) (X17 : BufTy.Contents (Elt F) arg17.view.ty) (k : Fin k0_t2_loop.trips)
    (y : S128x1024.Idx) (h0 : 32 * k.val ≤ (y 0).val) (h1 : (y 0).val < 32 * k.val + 32) (h2 : 256 ≤ (y 1).val) (h3 : (y 1).val < 512) :
      ∃ pc ∈ tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 k, y ∈ pc.1.set := by
  have hk : k.val < 4 := Nat.lt_of_lt_of_le k.isLt k0_t2_abs.2.1
  have e0 : k0_off18 k 0#32 = ![32 * k.val + 0, 256] := off18 k 0
  have e1 : k0_off18 k 8#32 = ![32 * k.val + 8, 256] := off18 k 1
  have e2 : k0_off18 k 16#32 = ![32 * k.val + 16, 256] := off18 k 2
  have e3 : k0_off18 k 24#32 = ![32 * k.val + 24, 256] := off18 k 3
  unfold tripL_k0_t2 trip_k0_t2
  dsimp only
  have mem (q : ℕ) (o : Fin 2 → ℕ) (ho : o = ![32 * k.val + q, 256]) (inb : ∀ a, o a + ![8, 256] a ≤ S128x1024.size a)
      (hq : 32 * k.val + q ≤ (y 0).val) (hq' : (y 0).val < 32 * k.val + q + 8) :
      y ∈ (Rect.unit (s := S128x1024) o ![8, 256] inb).set := by
    subst ho
    refine Rect.mem_set_unit.mpr fun a => ?_
    fin_cases a
    · exact ⟨hq, hq'⟩
    · exact ⟨h2, h3⟩
  simp only [List.mem_cons, List.not_mem_nil, or_false, exists_eq_or_imp, exists_eq_left]
  by_cases g3 : 32 * k.val + 24 ≤ (y 0).val
  · exact .inl (mem 24 _ e3 _ g3 (by omega))
  by_cases g2 : 32 * k.val + 16 ≤ (y 0).val
  · exact .inr (.inl (mem 16 _ e2 _ g2 (by omega)))
  by_cases g1 : 32 * k.val + 8 ≤ (y 0).val
  · exact .inr (.inr (.inl (mem 8 _ e1 _ g1 (by omega))))
  exact .inr (.inr (.inr (mem 0 _ e0 _ (by omega) (by omega))))

set_option maxHeartbeats 4000000 in
/-- The loop reaches every row of these columns. -/
theorem loop2_cover {F : FTy → Type} [FloatOps F] (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec F S152x1024 .f32) (v82 : Vec F S1x152x1024 .f32)
    (X8 : BufTy.Contents (Elt F) arg8.view.ty) (X16 : BufTy.Contents (Elt F) arg16.view.ty) (X17 : BufTy.Contents (Elt F) arg17.view.ty) :
    ∀ (n : ℕ) (hn : n ≤ 4) (y : S128x1024.Idx), (y 0).val < 32 * n → 256 ≤ (y 1).val → (y 1).val < 512 →
      ∃ pc ∈ pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n, y ∈ pc.1.set
  | 0, _, y, h, _, _ => by omega
  | n + 1, hn, y, h, h2, h3 => by
    have hT : n < k0_t2_loop.trips := Nat.lt_of_lt_of_le (by omega : n < 4) (by decide +kernel : 4 ≤ k0_t2_loop.trips)
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩
    rw [show n + 1 = (⟨n, hT⟩ : Fin k0_t2_loop.trips).val + 1 from rfl, e]
    by_cases hy : 32 * n ≤ (y 0).val
    · obtain ⟨pc, hp, hm⟩ := trip2_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩ y hy (by dsimp only; omega) h2 h3
      exact ⟨pc, List.mem_append_left _ hp, hm⟩
    · obtain ⟨pc, hp, hm⟩ := loop2_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n (by omega) y (by omega) h2 h3
      exact ⟨pc, List.mem_append_right _ hp, hm⟩

set_option maxHeartbeats 8000000 in
/-- A trip of the loop over columns 256 to 511 stores the convolution's values. -/
theorem trip2_value (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec Ideal S152x1024 .f32) (v82 : Vec Ideal S1x152x1024 .f32)
    (X8 : BufTy.Contents (Elt Ideal) arg8.view.ty) (X16 : BufTy.Contents (Elt Ideal) arg16.view.ty) (X17 : BufTy.Contents (Elt Ideal) arg17.view.ty)
    (wv Y : ℕ → ℕ → EReal) (bv : ℕ → EReal) (h8 : ∀ l : Fin 1024, arg8.view.read (Elt Ideal) X8 (ix2 0 l) = bv l.val)
    (h16 : ∀ (b : Fin 8) (r : Fin 160) (l : Fin 1024), 8 ≤ r.val → arg16.view.read (Elt Ideal) X16 (ix3 b r l) = Y (r.val - b.val) l.val)
    (h17 : ∀ (j : Fin 31) (s : Fin 8) (l : Fin 1024), arg17.view.read (Elt Ideal) X17 (ix3 j s l) = wv j.val l.val)
    (k : Fin k0_t2_loop.trips) :
    ∀ pc ∈ tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 k, ∀ x, pc.2 x = conv31 wv Y bv (pc.1.emb x 0).val (pc.1.emb x 1).val := by
  have hk : k.val < 4 := Nat.lt_of_lt_of_le k.isLt k0_t2_abs.2.1
  have e0 : k0_off18 k 0#32 = ![32 * k.val + 0, 256] := off18 k 0
  have e1 : k0_off18 k 8#32 = ![32 * k.val + 8, 256] := off18 k 1
  have e2 : k0_off18 k 16#32 = ![32 * k.val + 16, 256] := off18 k 2
  have e3 : k0_off18 k 24#32 = ![32 * k.val + 24, 256] := off18 k 3
  unfold tripL_k0_t2 trip_k0_t2
  dsimp only
  have emb (q : ℕ) (o : Fin 2 → ℕ) (ho : o = ![32 * k.val + q, 256]) (inb : ∀ a, o a + ![8, 256] a ≤ S128x1024.size a)
      (x : (Rect.unit (s := S128x1024) o ![8, 256] inb).shape.Idx) :
      ((Rect.unit (s := S128x1024) o ![8, 256] inb).emb x 0).val = 32 * k.val + q + (x 0).val
      ∧ ((Rect.unit (s := S128x1024) o ![8, 256] inb).emb x 1).val = 256 + (x 1).val := by
    subst ho
    exact ⟨congrArg (32 * k.val + q + ·) (Nat.one_mul _), congrArg (256 + ·) (Nat.one_mul _)⟩
  intro pc hpc
  simp only [List.mem_cons, List.not_mem_nil, or_false] at hpc
  rcases hpc with rfl | rfl | rfl | rfl
  all_goals intro x
  all_goals first
    | rw [(emb 24 _ e3 _ x).1, (emb 24 _ e3 _ x).2]
    | rw [(emb 16 _ e2 _ x).1, (emb 16 _ e2 _ x).2]
    | rw [(emb 8 _ e1 _ x).1, (emb 8 _ e1 _ x).2]
    | rw [(emb 0 _ e0 _ x).1, (emb 0 _ e0 _ x).2]
  all_goals
    obtain ⟨r, d, rfl⟩ : ∃ (r : Fin 8) (d : Fin 256), x = ix2 r d := ⟨x 0, x 1, funext fun a => by fin_cases a <;> rfl⟩
  all_goals change _ = conv31 wv Y bv (32 * k.val + _ + r.val) (256 + d.val)
  all_goals dsimp only [trip_k0_t2.sl.arg18, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_6, trip_k0_t2.sl.r_7, trip_k0_t2.sl.r_8, trip_k0_t2.sl.r_9, trip_k0_t2.sl.v154]
  all_goals open_payloads
  all_goals pointwise []
  all_goals simp (disch := (dsimp only [Matrix.cons_val]; omega)) only [off10 k, off11 k, off12 k, off13 k, off14 k, off15 k, off16 k, off17 k, Matrix.cons_val, h16, h17, h8]
  all_goals
    simp (disch := decide) only [pos_mid]
    try simp (disch := decide) only [pos_low]
    simp only [conv31, Finset.sum_range_succ, Finset.sum_range_zero, Nat.reduceSub, Nat.reduceAdd, pos_out, pos_out0, zero_add, Fin.coe_ofNat_eq_mod, Nat.reduceMod]
  all_goals ac_rfl

set_option maxHeartbeats 4000000 in
/-- So does the loop. -/
theorem loop2_value (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec Ideal S152x1024 .f32) (v82 : Vec Ideal S1x152x1024 .f32)
    (X8 : BufTy.Contents (Elt Ideal) arg8.view.ty) (X16 : BufTy.Contents (Elt Ideal) arg16.view.ty) (X17 : BufTy.Contents (Elt Ideal) arg17.view.ty)
    (wv Y : ℕ → ℕ → EReal) (bv : ℕ → EReal) (h8 : ∀ l : Fin 1024, arg8.view.read (Elt Ideal) X8 (ix2 0 l) = bv l.val)
    (h16 : ∀ (b : Fin 8) (r : Fin 160) (l : Fin 1024), 8 ≤ r.val → arg16.view.read (Elt Ideal) X16 (ix3 b r l) = Y (r.val - b.val) l.val)
    (h17 : ∀ (j : Fin 31) (s : Fin 8) (l : Fin 1024), arg17.view.read (Elt Ideal) X17 (ix3 j s l) = wv j.val l.val) :
    ∀ (n : ℕ) (hn : n ≤ 4), ∀ pc ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n, ∀ x, pc.2 x = conv31 wv Y bv (pc.1.emb x 0).val (pc.1.emb x 1).val
  | 0, _, pc, hp => by simp [pb_k0_t2] at hp
  | n + 1, hn, pc, hp => by
    have hT : n < k0_t2_loop.trips := Nat.lt_of_lt_of_le (by omega : n < 4) (by decide +kernel : 4 ≤ k0_t2_loop.trips)
    rw [show n + 1 = (⟨n, hT⟩ : Fin k0_t2_loop.trips).val + 1 from rfl, pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩] at hp
    rcases List.mem_append.mp hp with h | h
    · exact trip2_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 ⟨n, hT⟩ pc h
    · exact loop2_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 n (by omega) pc h

theorem off19 : ∀ k : Fin k0_t3_loop.trips, k0_off19 k = ![0, 32 * k.val + 8, 512] := by decide +kernel
theorem off20 : ∀ k : Fin k0_t3_loop.trips, k0_off20 k = ![1, 32 * k.val + 8, 512] := by decide +kernel
theorem off21 : ∀ k : Fin k0_t3_loop.trips, k0_off21 k = ![2, 32 * k.val + 8, 512] := by decide +kernel
theorem off22 : ∀ k : Fin k0_t3_loop.trips, k0_off22 k = ![3, 32 * k.val + 8, 512] := by decide +kernel
theorem off23 : ∀ k : Fin k0_t3_loop.trips, k0_off23 k = ![4, 32 * k.val + 8, 512] := by decide +kernel
theorem off24 : ∀ k : Fin k0_t3_loop.trips, k0_off24 k = ![5, 32 * k.val + 8, 512] := by decide +kernel
theorem off25 : ∀ k : Fin k0_t3_loop.trips, k0_off25 k = ![6, 32 * k.val + 8, 512] := by decide +kernel
theorem off26 : ∀ k : Fin k0_t3_loop.trips, k0_off26 k = ![7, 32 * k.val + 8, 512] := by decide +kernel
theorem off27 : ∀ (k : Fin k0_t3_loop.trips) (q : Fin 4), k0_off27 k (BitVec.ofNat 32 (8 * q.val)) = ![32 * k.val + 8 * q.val, 512] := by decide +kernel

set_option maxHeartbeats 8000000 in
/-- A trip of the loop over columns 512 to 767 reaches its 32 rows of these columns. -/
theorem trip3_cover {F : FTy → Type} [FloatOps F] (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec F S152x1024 .f32) (v82 : Vec F S1x152x1024 .f32)
    (X8 : BufTy.Contents (Elt F) arg8.view.ty) (X16 : BufTy.Contents (Elt F) arg16.view.ty) (X17 : BufTy.Contents (Elt F) arg17.view.ty) (k : Fin k0_t3_loop.trips)
    (y : S128x1024.Idx) (h0 : 32 * k.val ≤ (y 0).val) (h1 : (y 0).val < 32 * k.val + 32) (h2 : 512 ≤ (y 1).val) (h3 : (y 1).val < 768) :
      ∃ pc ∈ tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 k, y ∈ pc.1.set := by
  have hk : k.val < 4 := Nat.lt_of_lt_of_le k.isLt k0_t3_abs.2.1
  have e0 : k0_off27 k 0#32 = ![32 * k.val + 0, 512] := off27 k 0
  have e1 : k0_off27 k 8#32 = ![32 * k.val + 8, 512] := off27 k 1
  have e2 : k0_off27 k 16#32 = ![32 * k.val + 16, 512] := off27 k 2
  have e3 : k0_off27 k 24#32 = ![32 * k.val + 24, 512] := off27 k 3
  unfold tripL_k0_t3 trip_k0_t3
  dsimp only
  have mem (q : ℕ) (o : Fin 2 → ℕ) (ho : o = ![32 * k.val + q, 512]) (inb : ∀ a, o a + ![8, 256] a ≤ S128x1024.size a)
      (hq : 32 * k.val + q ≤ (y 0).val) (hq' : (y 0).val < 32 * k.val + q + 8) :
      y ∈ (Rect.unit (s := S128x1024) o ![8, 256] inb).set := by
    subst ho
    refine Rect.mem_set_unit.mpr fun a => ?_
    fin_cases a
    · exact ⟨hq, hq'⟩
    · exact ⟨h2, h3⟩
  simp only [List.mem_cons, List.not_mem_nil, or_false, exists_eq_or_imp, exists_eq_left]
  by_cases g3 : 32 * k.val + 24 ≤ (y 0).val
  · exact .inl (mem 24 _ e3 _ g3 (by omega))
  by_cases g2 : 32 * k.val + 16 ≤ (y 0).val
  · exact .inr (.inl (mem 16 _ e2 _ g2 (by omega)))
  by_cases g1 : 32 * k.val + 8 ≤ (y 0).val
  · exact .inr (.inr (.inl (mem 8 _ e1 _ g1 (by omega))))
  exact .inr (.inr (.inr (mem 0 _ e0 _ (by omega) (by omega))))

set_option maxHeartbeats 4000000 in
/-- The loop reaches every row of these columns. -/
theorem loop3_cover {F : FTy → Type} [FloatOps F] (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec F S152x1024 .f32) (v82 : Vec F S1x152x1024 .f32)
    (X8 : BufTy.Contents (Elt F) arg8.view.ty) (X16 : BufTy.Contents (Elt F) arg16.view.ty) (X17 : BufTy.Contents (Elt F) arg17.view.ty) :
    ∀ (n : ℕ) (hn : n ≤ 4) (y : S128x1024.Idx), (y 0).val < 32 * n → 512 ≤ (y 1).val → (y 1).val < 768 →
      ∃ pc ∈ pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n, y ∈ pc.1.set
  | 0, _, y, h, _, _ => by omega
  | n + 1, hn, y, h, h2, h3 => by
    have hT : n < k0_t3_loop.trips := Nat.lt_of_lt_of_le (by omega : n < 4) (by decide +kernel : 4 ≤ k0_t3_loop.trips)
    have e := pb_k0_t3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩
    rw [show n + 1 = (⟨n, hT⟩ : Fin k0_t3_loop.trips).val + 1 from rfl, e]
    by_cases hy : 32 * n ≤ (y 0).val
    · obtain ⟨pc, hp, hm⟩ := trip3_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩ y hy (by dsimp only; omega) h2 h3
      exact ⟨pc, List.mem_append_left _ hp, hm⟩
    · obtain ⟨pc, hp, hm⟩ := loop3_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n (by omega) y (by omega) h2 h3
      exact ⟨pc, List.mem_append_right _ hp, hm⟩

set_option maxHeartbeats 8000000 in
/-- A trip of the loop over columns 512 to 767 stores the convolution's values. -/
theorem trip3_value (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec Ideal S152x1024 .f32) (v82 : Vec Ideal S1x152x1024 .f32)
    (X8 : BufTy.Contents (Elt Ideal) arg8.view.ty) (X16 : BufTy.Contents (Elt Ideal) arg16.view.ty) (X17 : BufTy.Contents (Elt Ideal) arg17.view.ty)
    (wv Y : ℕ → ℕ → EReal) (bv : ℕ → EReal) (h8 : ∀ l : Fin 1024, arg8.view.read (Elt Ideal) X8 (ix2 0 l) = bv l.val)
    (h16 : ∀ (b : Fin 8) (r : Fin 160) (l : Fin 1024), 8 ≤ r.val → arg16.view.read (Elt Ideal) X16 (ix3 b r l) = Y (r.val - b.val) l.val)
    (h17 : ∀ (j : Fin 31) (s : Fin 8) (l : Fin 1024), arg17.view.read (Elt Ideal) X17 (ix3 j s l) = wv j.val l.val)
    (k : Fin k0_t3_loop.trips) :
    ∀ pc ∈ tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 k, ∀ x, pc.2 x = conv31 wv Y bv (pc.1.emb x 0).val (pc.1.emb x 1).val := by
  have hk : k.val < 4 := Nat.lt_of_lt_of_le k.isLt k0_t3_abs.2.1
  have e0 : k0_off27 k 0#32 = ![32 * k.val + 0, 512] := off27 k 0
  have e1 : k0_off27 k 8#32 = ![32 * k.val + 8, 512] := off27 k 1
  have e2 : k0_off27 k 16#32 = ![32 * k.val + 16, 512] := off27 k 2
  have e3 : k0_off27 k 24#32 = ![32 * k.val + 24, 512] := off27 k 3
  unfold tripL_k0_t3 trip_k0_t3
  dsimp only
  have emb (q : ℕ) (o : Fin 2 → ℕ) (ho : o = ![32 * k.val + q, 512]) (inb : ∀ a, o a + ![8, 256] a ≤ S128x1024.size a)
      (x : (Rect.unit (s := S128x1024) o ![8, 256] inb).shape.Idx) :
      ((Rect.unit (s := S128x1024) o ![8, 256] inb).emb x 0).val = 32 * k.val + q + (x 0).val
      ∧ ((Rect.unit (s := S128x1024) o ![8, 256] inb).emb x 1).val = 512 + (x 1).val := by
    subst ho
    exact ⟨congrArg (32 * k.val + q + ·) (Nat.one_mul _), congrArg (512 + ·) (Nat.one_mul _)⟩
  intro pc hpc
  simp only [List.mem_cons, List.not_mem_nil, or_false] at hpc
  rcases hpc with rfl | rfl | rfl | rfl
  all_goals intro x
  all_goals first
    | rw [(emb 24 _ e3 _ x).1, (emb 24 _ e3 _ x).2]
    | rw [(emb 16 _ e2 _ x).1, (emb 16 _ e2 _ x).2]
    | rw [(emb 8 _ e1 _ x).1, (emb 8 _ e1 _ x).2]
    | rw [(emb 0 _ e0 _ x).1, (emb 0 _ e0 _ x).2]
  all_goals
    obtain ⟨r, d, rfl⟩ : ∃ (r : Fin 8) (d : Fin 256), x = ix2 r d := ⟨x 0, x 1, funext fun a => by fin_cases a <;> rfl⟩
  all_goals change _ = conv31 wv Y bv (32 * k.val + _ + r.val) (512 + d.val)
  all_goals dsimp only [trip_k0_t3.sl.arg18, trip_k0_t3.sl.r, trip_k0_t3.sl.r_1, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_2, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_3, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_4, trip_k0_t3.sl.r_40, trip_k0_t3.sl.r_41, trip_k0_t3.sl.r_42, trip_k0_t3.sl.r_43, trip_k0_t3.sl.r_44, trip_k0_t3.sl.r_45, trip_k0_t3.sl.r_46, trip_k0_t3.sl.r_47, trip_k0_t3.sl.r_48, trip_k0_t3.sl.r_49, trip_k0_t3.sl.r_5, trip_k0_t3.sl.r_50, trip_k0_t3.sl.r_51, trip_k0_t3.sl.r_52, trip_k0_t3.sl.r_53, trip_k0_t3.sl.r_54, trip_k0_t3.sl.r_55, trip_k0_t3.sl.r_56, trip_k0_t3.sl.r_57, trip_k0_t3.sl.r_6, trip_k0_t3.sl.r_7, trip_k0_t3.sl.r_8, trip_k0_t3.sl.r_9, trip_k0_t3.sl.v154]
  all_goals open_payloads
  all_goals pointwise []
  all_goals simp (disch := (dsimp only [Matrix.cons_val]; omega)) only [off19 k, off20 k, off21 k, off22 k, off23 k, off24 k, off25 k, off26 k, Matrix.cons_val, h16, h17, h8]
  all_goals
    simp (disch := decide) only [pos_mid]
    try simp (disch := decide) only [pos_low]
    simp only [conv31, Finset.sum_range_succ, Finset.sum_range_zero, Nat.reduceSub, Nat.reduceAdd, pos_out, pos_out0, zero_add, Fin.coe_ofNat_eq_mod, Nat.reduceMod]
  all_goals ac_rfl

set_option maxHeartbeats 4000000 in
/-- So does the loop. -/
theorem loop3_value (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec Ideal S152x1024 .f32) (v82 : Vec Ideal S1x152x1024 .f32)
    (X8 : BufTy.Contents (Elt Ideal) arg8.view.ty) (X16 : BufTy.Contents (Elt Ideal) arg16.view.ty) (X17 : BufTy.Contents (Elt Ideal) arg17.view.ty)
    (wv Y : ℕ → ℕ → EReal) (bv : ℕ → EReal) (h8 : ∀ l : Fin 1024, arg8.view.read (Elt Ideal) X8 (ix2 0 l) = bv l.val)
    (h16 : ∀ (b : Fin 8) (r : Fin 160) (l : Fin 1024), 8 ≤ r.val → arg16.view.read (Elt Ideal) X16 (ix3 b r l) = Y (r.val - b.val) l.val)
    (h17 : ∀ (j : Fin 31) (s : Fin 8) (l : Fin 1024), arg17.view.read (Elt Ideal) X17 (ix3 j s l) = wv j.val l.val) :
    ∀ (n : ℕ) (hn : n ≤ 4), ∀ pc ∈ pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n, ∀ x, pc.2 x = conv31 wv Y bv (pc.1.emb x 0).val (pc.1.emb x 1).val
  | 0, _, pc, hp => by simp [pb_k0_t3] at hp
  | n + 1, hn, pc, hp => by
    have hT : n < k0_t3_loop.trips := Nat.lt_of_lt_of_le (by omega : n < 4) (by decide +kernel : 4 ≤ k0_t3_loop.trips)
    rw [show n + 1 = (⟨n, hT⟩ : Fin k0_t3_loop.trips).val + 1 from rfl, pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩] at hp
    rcases List.mem_append.mp hp with h | h
    · exact trip3_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 ⟨n, hT⟩ pc h
    · exact loop3_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 n (by omega) pc h

theorem off28 : ∀ k : Fin k0_t4_loop.trips, k0_off28 k = ![0, 32 * k.val + 8, 768] := by decide +kernel
theorem off29 : ∀ k : Fin k0_t4_loop.trips, k0_off29 k = ![1, 32 * k.val + 8, 768] := by decide +kernel
theorem off30 : ∀ k : Fin k0_t4_loop.trips, k0_off30 k = ![2, 32 * k.val + 8, 768] := by decide +kernel
theorem off31 : ∀ k : Fin k0_t4_loop.trips, k0_off31 k = ![3, 32 * k.val + 8, 768] := by decide +kernel
theorem off32 : ∀ k : Fin k0_t4_loop.trips, k0_off32 k = ![4, 32 * k.val + 8, 768] := by decide +kernel
theorem off33 : ∀ k : Fin k0_t4_loop.trips, k0_off33 k = ![5, 32 * k.val + 8, 768] := by decide +kernel
theorem off34 : ∀ k : Fin k0_t4_loop.trips, k0_off34 k = ![6, 32 * k.val + 8, 768] := by decide +kernel
theorem off35 : ∀ k : Fin k0_t4_loop.trips, k0_off35 k = ![7, 32 * k.val + 8, 768] := by decide +kernel
theorem off36 : ∀ (k : Fin k0_t4_loop.trips) (q : Fin 4), k0_off36 k (BitVec.ofNat 32 (8 * q.val)) = ![32 * k.val + 8 * q.val, 768] := by decide +kernel

set_option maxHeartbeats 8000000 in
/-- A trip of the loop over columns 768 to 1023 reaches its 32 rows of these columns. -/
theorem trip4_cover {F : FTy → Type} [FloatOps F] (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec F S152x1024 .f32) (v82 : Vec F S1x152x1024 .f32)
    (X8 : BufTy.Contents (Elt F) arg8.view.ty) (X16 : BufTy.Contents (Elt F) arg16.view.ty) (X17 : BufTy.Contents (Elt F) arg17.view.ty) (k : Fin k0_t4_loop.trips)
    (y : S128x1024.Idx) (h0 : 32 * k.val ≤ (y 0).val) (h1 : (y 0).val < 32 * k.val + 32) (h2 : 768 ≤ (y 1).val) (h3 : (y 1).val < 1024) :
      ∃ pc ∈ tripL_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 k, y ∈ pc.1.set := by
  have hk : k.val < 4 := Nat.lt_of_lt_of_le k.isLt k0_t4_abs.2.1
  have e0 : k0_off36 k 0#32 = ![32 * k.val + 0, 768] := off36 k 0
  have e1 : k0_off36 k 8#32 = ![32 * k.val + 8, 768] := off36 k 1
  have e2 : k0_off36 k 16#32 = ![32 * k.val + 16, 768] := off36 k 2
  have e3 : k0_off36 k 24#32 = ![32 * k.val + 24, 768] := off36 k 3
  unfold tripL_k0_t4 trip_k0_t4
  dsimp only
  have mem (q : ℕ) (o : Fin 2 → ℕ) (ho : o = ![32 * k.val + q, 768]) (inb : ∀ a, o a + ![8, 256] a ≤ S128x1024.size a)
      (hq : 32 * k.val + q ≤ (y 0).val) (hq' : (y 0).val < 32 * k.val + q + 8) :
      y ∈ (Rect.unit (s := S128x1024) o ![8, 256] inb).set := by
    subst ho
    refine Rect.mem_set_unit.mpr fun a => ?_
    fin_cases a
    · exact ⟨hq, hq'⟩
    · exact ⟨h2, h3⟩
  simp only [List.mem_cons, List.not_mem_nil, or_false, exists_eq_or_imp, exists_eq_left]
  by_cases g3 : 32 * k.val + 24 ≤ (y 0).val
  · exact .inl (mem 24 _ e3 _ g3 (by omega))
  by_cases g2 : 32 * k.val + 16 ≤ (y 0).val
  · exact .inr (.inl (mem 16 _ e2 _ g2 (by omega)))
  by_cases g1 : 32 * k.val + 8 ≤ (y 0).val
  · exact .inr (.inr (.inl (mem 8 _ e1 _ g1 (by omega))))
  exact .inr (.inr (.inr (mem 0 _ e0 _ (by omega) (by omega))))

set_option maxHeartbeats 4000000 in
/-- The loop reaches every row of these columns. -/
theorem loop4_cover {F : FTy → Type} [FloatOps F] (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec F S152x1024 .f32) (v82 : Vec F S1x152x1024 .f32)
    (X8 : BufTy.Contents (Elt F) arg8.view.ty) (X16 : BufTy.Contents (Elt F) arg16.view.ty) (X17 : BufTy.Contents (Elt F) arg17.view.ty) :
    ∀ (n : ℕ) (hn : n ≤ 4) (y : S128x1024.Idx), (y 0).val < 32 * n → 768 ≤ (y 1).val → (y 1).val < 1024 →
      ∃ pc ∈ pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n, y ∈ pc.1.set
  | 0, _, y, h, _, _ => by omega
  | n + 1, hn, y, h, h2, h3 => by
    have hT : n < k0_t4_loop.trips := Nat.lt_of_lt_of_le (by omega : n < 4) (by decide +kernel : 4 ≤ k0_t4_loop.trips)
    have e := pb_k0_t4_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩
    rw [show n + 1 = (⟨n, hT⟩ : Fin k0_t4_loop.trips).val + 1 from rfl, e]
    by_cases hy : 32 * n ≤ (y 0).val
    · obtain ⟨pc, hp, hm⟩ := trip4_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩ y hy (by dsimp only; omega) h2 h3
      exact ⟨pc, List.mem_append_left _ hp, hm⟩
    · obtain ⟨pc, hp, hm⟩ := loop4_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n (by omega) y (by omega) h2 h3
      exact ⟨pc, List.mem_append_right _ hp, hm⟩

set_option maxHeartbeats 8000000 in
/-- A trip of the loop over columns 768 to 1023 stores the convolution's values. -/
theorem trip4_value (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec Ideal S152x1024 .f32) (v82 : Vec Ideal S1x152x1024 .f32)
    (X8 : BufTy.Contents (Elt Ideal) arg8.view.ty) (X16 : BufTy.Contents (Elt Ideal) arg16.view.ty) (X17 : BufTy.Contents (Elt Ideal) arg17.view.ty)
    (wv Y : ℕ → ℕ → EReal) (bv : ℕ → EReal) (h8 : ∀ l : Fin 1024, arg8.view.read (Elt Ideal) X8 (ix2 0 l) = bv l.val)
    (h16 : ∀ (b : Fin 8) (r : Fin 160) (l : Fin 1024), 8 ≤ r.val → arg16.view.read (Elt Ideal) X16 (ix3 b r l) = Y (r.val - b.val) l.val)
    (h17 : ∀ (j : Fin 31) (s : Fin 8) (l : Fin 1024), arg17.view.read (Elt Ideal) X17 (ix3 j s l) = wv j.val l.val)
    (k : Fin k0_t4_loop.trips) :
    ∀ pc ∈ tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 k, ∀ x, pc.2 x = conv31 wv Y bv (pc.1.emb x 0).val (pc.1.emb x 1).val := by
  have hk : k.val < 4 := Nat.lt_of_lt_of_le k.isLt k0_t4_abs.2.1
  have e0 : k0_off36 k 0#32 = ![32 * k.val + 0, 768] := off36 k 0
  have e1 : k0_off36 k 8#32 = ![32 * k.val + 8, 768] := off36 k 1
  have e2 : k0_off36 k 16#32 = ![32 * k.val + 16, 768] := off36 k 2
  have e3 : k0_off36 k 24#32 = ![32 * k.val + 24, 768] := off36 k 3
  unfold tripL_k0_t4 trip_k0_t4
  dsimp only
  have emb (q : ℕ) (o : Fin 2 → ℕ) (ho : o = ![32 * k.val + q, 768]) (inb : ∀ a, o a + ![8, 256] a ≤ S128x1024.size a)
      (x : (Rect.unit (s := S128x1024) o ![8, 256] inb).shape.Idx) :
      ((Rect.unit (s := S128x1024) o ![8, 256] inb).emb x 0).val = 32 * k.val + q + (x 0).val
      ∧ ((Rect.unit (s := S128x1024) o ![8, 256] inb).emb x 1).val = 768 + (x 1).val := by
    subst ho
    exact ⟨congrArg (32 * k.val + q + ·) (Nat.one_mul _), congrArg (768 + ·) (Nat.one_mul _)⟩
  intro pc hpc
  simp only [List.mem_cons, List.not_mem_nil, or_false] at hpc
  rcases hpc with rfl | rfl | rfl | rfl
  all_goals intro x
  all_goals first
    | rw [(emb 24 _ e3 _ x).1, (emb 24 _ e3 _ x).2]
    | rw [(emb 16 _ e2 _ x).1, (emb 16 _ e2 _ x).2]
    | rw [(emb 8 _ e1 _ x).1, (emb 8 _ e1 _ x).2]
    | rw [(emb 0 _ e0 _ x).1, (emb 0 _ e0 _ x).2]
  all_goals
    obtain ⟨r, d, rfl⟩ : ∃ (r : Fin 8) (d : Fin 256), x = ix2 r d := ⟨x 0, x 1, funext fun a => by fin_cases a <;> rfl⟩
  all_goals change _ = conv31 wv Y bv (32 * k.val + _ + r.val) (768 + d.val)
  all_goals dsimp only [trip_k0_t4.sl.arg18, trip_k0_t4.sl.r, trip_k0_t4.sl.r_1, trip_k0_t4.sl.r_10, trip_k0_t4.sl.r_11, trip_k0_t4.sl.r_12, trip_k0_t4.sl.r_13, trip_k0_t4.sl.r_14, trip_k0_t4.sl.r_15, trip_k0_t4.sl.r_16, trip_k0_t4.sl.r_17, trip_k0_t4.sl.r_18, trip_k0_t4.sl.r_19, trip_k0_t4.sl.r_2, trip_k0_t4.sl.r_20, trip_k0_t4.sl.r_21, trip_k0_t4.sl.r_22, trip_k0_t4.sl.r_23, trip_k0_t4.sl.r_24, trip_k0_t4.sl.r_25, trip_k0_t4.sl.r_26, trip_k0_t4.sl.r_27, trip_k0_t4.sl.r_28, trip_k0_t4.sl.r_29, trip_k0_t4.sl.r_3, trip_k0_t4.sl.r_30, trip_k0_t4.sl.r_31, trip_k0_t4.sl.r_32, trip_k0_t4.sl.r_33, trip_k0_t4.sl.r_34, trip_k0_t4.sl.r_35, trip_k0_t4.sl.r_36, trip_k0_t4.sl.r_37, trip_k0_t4.sl.r_38, trip_k0_t4.sl.r_39, trip_k0_t4.sl.r_4, trip_k0_t4.sl.r_40, trip_k0_t4.sl.r_41, trip_k0_t4.sl.r_42, trip_k0_t4.sl.r_43, trip_k0_t4.sl.r_44, trip_k0_t4.sl.r_45, trip_k0_t4.sl.r_46, trip_k0_t4.sl.r_47, trip_k0_t4.sl.r_48, trip_k0_t4.sl.r_49, trip_k0_t4.sl.r_5, trip_k0_t4.sl.r_50, trip_k0_t4.sl.r_51, trip_k0_t4.sl.r_52, trip_k0_t4.sl.r_53, trip_k0_t4.sl.r_54, trip_k0_t4.sl.r_55, trip_k0_t4.sl.r_56, trip_k0_t4.sl.r_57, trip_k0_t4.sl.r_6, trip_k0_t4.sl.r_7, trip_k0_t4.sl.r_8, trip_k0_t4.sl.r_9, trip_k0_t4.sl.v154]
  all_goals open_payloads
  all_goals pointwise []
  all_goals simp (disch := (dsimp only [Matrix.cons_val]; omega)) only [off28 k, off29 k, off30 k, off31 k, off32 k, off33 k, off34 k, off35 k, Matrix.cons_val, h16, h17, h8]
  all_goals
    simp (disch := decide) only [pos_mid]
    try simp (disch := decide) only [pos_low]
    simp only [conv31, Finset.sum_range_succ, Finset.sum_range_zero, Nat.reduceSub, Nat.reduceAdd, pos_out, pos_out0, zero_add, Fin.coe_ofNat_eq_mod, Nat.reduceMod]
  all_goals ac_rfl

set_option maxHeartbeats 4000000 in
/-- So does the loop. -/
theorem loop4_value (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole) (v81 : FVec Ideal S152x1024 .f32) (v82 : Vec Ideal S1x152x1024 .f32)
    (X8 : BufTy.Contents (Elt Ideal) arg8.view.ty) (X16 : BufTy.Contents (Elt Ideal) arg16.view.ty) (X17 : BufTy.Contents (Elt Ideal) arg17.view.ty)
    (wv Y : ℕ → ℕ → EReal) (bv : ℕ → EReal) (h8 : ∀ l : Fin 1024, arg8.view.read (Elt Ideal) X8 (ix2 0 l) = bv l.val)
    (h16 : ∀ (b : Fin 8) (r : Fin 160) (l : Fin 1024), 8 ≤ r.val → arg16.view.read (Elt Ideal) X16 (ix3 b r l) = Y (r.val - b.val) l.val)
    (h17 : ∀ (j : Fin 31) (s : Fin 8) (l : Fin 1024), arg17.view.read (Elt Ideal) X17 (ix3 j s l) = wv j.val l.val) :
    ∀ (n : ℕ) (hn : n ≤ 4), ∀ pc ∈ pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 n, ∀ x, pc.2 x = conv31 wv Y bv (pc.1.emb x 0).val (pc.1.emb x 1).val
  | 0, _, pc, hp => by simp [pb_k0_t4] at hp
  | n + 1, hn, pc, hp => by
    have hT : n < k0_t4_loop.trips := Nat.lt_of_lt_of_le (by omega : n < 4) (by decide +kernel : 4 ≤ k0_t4_loop.trips)
    rw [show n + 1 = (⟨n, hT⟩ : Fin k0_t4_loop.trips).val + 1 from rfl, pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 ⟨n, hT⟩] at hp
    rcases List.mem_append.mp hp with h | h
    · exact trip4_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 ⟨n, hT⟩ pc h
    · exact loop4_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 n (by omega) pc h

end Cert.Kernel6Ideal.Fwd

end
-- ==== Proof.FwdPays.lean ====
module

public import proofs.«01_k».proof.Proof.FwdRows
public import proofs.«01_k».proof.Proof.Gen.Kernel6Ideal.Skeleton
public import Idealize.ShloMosaic.Lib.Pipeline.ValueKit
public import Idealize.ShloMosaic.Lib.Pointwise
public import Idealize.ShloMosaic.Lib.ReduceAll
public import Idealize.ShloMosaic.Lib.WordCmp

@[expose] public section

set_option maxRecDepth 16384

noncomputable section

/-! What the kernel computes on its tile, at an index. -/

namespace Cert.Kernel6Ideal.Fwd

open Idealize.ShloMosaic Idealize.ShloMosaic.TcCoe
open Cert.Kernel6Ideal.Gen

/-- Zero at the first point, one later: the rows before a tile count only where there are some. -/
def keep (i : grid0.Coords) : EReal := if (i 0).val = 0 then 0 else 1

theorem keep_at (i : grid0.Coords) : k0_pay377 (F := Ideal) i = keep i := by
  have w : ∀ n : Fin 32, Scalar.cmpi CmpIPredicate.eq (BitVec.ofNat 32 n.val) 0#32 = if n.val = 0 then 1#1 else 0#1 := by decide
  unfold k0_pay377 keep
  dsimp only
  rw [w (i 0)]
  by_cases h : (i 0).val = 0
  · rw [if_pos h, if_pos h]
    pointwise [Scalar.select]
    exact if_pos rfl
  · rw [if_neg h, if_neg h]
    pointwise [Scalar.select]
    exact if_neg (by decide)

variable (i : grid0.Coords)

theorem halo_at (a b : Vec Ideal S32x1024 .f32) (n : Fin 32) (l : Fin 1024) :
    k0_pay382 (F := Ideal) (keep i) a b (ix3 0 n l) = a (ix2 n l) * Ideal.logistic (b (ix2 n l)) * keep i := by
  pointwise [k0_pay382]

theorem own_at (a b : Vec Ideal S128x1024 .f32) (n : Fin 128) (l : Fin 1024) :
    k0_pay383 (F := Ideal) a b (ix3 0 n l) = a (ix2 n l) * Ideal.logistic (b (ix2 n l)) := by
  pointwise [k0_pay383]

theorem halo3_at (a b : Vec Ideal S8x1024 .f32) (n : Fin 8) (l : Fin 1024) :
    k0_pay378 (F := Ideal) i a b (ix2 n l) = a (ix2 n l) * b (ix2 n l) * keep i := by
  pointwise [k0_pay378]
  rw [keep_at]

theorem own3_at (a b : Vec Ideal S128x1024 .f32) (n : Fin 128) (l : Fin 1024) :
    k0_pay379 (F := Ideal) a b (ix2 n l) = b (ix2 n l) * a (ix2 n l) := by
  pointwise [k0_pay379]

theorem conv3_at (a : Vec Ideal S128x1024 .f32) (w2 w1 w0 : Vec Ideal S1x1024 .f32) (q2 q1 q0 : Vec Ideal S128x1024 .f32) (n : Fin 128) (l : Fin 1024) :
    k0_pay381 (F := Ideal) a (k0_pay380 (F := Ideal)) w2 q2 w1 q1 w0 q0 (ix2 n l)
      = a (ix2 n l) * (w2 (ix2 0 l) * q2 (ix2 n l) + w1 (ix2 0 l) * q1 (ix2 n l) + w0 (ix2 0 l) * q0 (ix2 n l)) := by
  pointwise [k0_pay381, k0_pay380]

theorem center_at (v : Vec Ideal S128x1024 .f32) (n : Fin 128) (l : Fin 1024) :
    k0_pay393 (F := Ideal) v (ix2 n l) = rowC (fun l => v (ix2 n l)) l := by
  unfold rowC
  pointwise [k0_pay393]

theorem var_at (v : Vec Ideal S128x1024 .f32) (n : Fin 128) : k0_pay394 (F := Ideal) v (ix2 n 0) = rowV (fun l => v (ix2 n l)) := by
  unfold rowV
  simp only [← center_at]
  pointwise [k0_pay394]

theorem branchA_at (z a : Vec Ideal S128x1024 .f32) (n : Fin 128) (l : Fin 1024) :
    k0_pay396 (F := Ideal) z a (ix2 n l) = a (ix2 n l) * silu (z (ix2 n l)) := by
  pointwise [k0_pay396, silu]

theorem branchB_at (z v : Vec Ideal S128x1024 .f32) (g b : Vec Ideal S1x1024 .f32) (n : Fin 128) (l : Fin 1024) :
    k0_pay397 (F := Ideal) z (k0_pay393 (F := Ideal) v) (k0_pay394 (F := Ideal) v) (k0_pay395 (F := Ideal)) g b (ix2 n l)
      = rowB (fun l => v (ix2 n l)) (fun l => g (ix2 0 l)) (fun l => b (ix2 0 l)) (fun l => z (ix2 n l)) l := by
  unfold rowB rowN silu
  simp only [← center_at, ← var_at]
  pointwise [k0_pay397, k0_pay395]

theorem prod_at (z1 z a v : Vec Ideal S128x1024 .f32) (g b : Vec Ideal S1x1024 .f32) (wl wh : Vec Ideal S1024x2048 .bf16) (n : Fin 128) (d : Fin 2048) :
    k0_pay398 (F := Ideal) z1 z a (k0_pay393 (F := Ideal) v) (k0_pay394 (F := Ideal) v) (k0_pay395 (F := Ideal)) g b wl wh (ix2 n d)
      = (∑ k : Fin 1024, a (ix2 n k) * silu (z1 (ix2 n k)) * wl (ix2 k d))
        + ∑ k : Fin 1024, rowB (fun l => v (ix2 n l)) (fun l => g (ix2 0 l)) (fun l => b (ix2 0 l)) (fun l => z (ix2 n l)) k * wh (ix2 k d) := by
  simp only [← branchB_at]
  pointwise [k0_pay398]
  exact congrArg (· + _) (Finset.sum_congr rfl fun k _ => congrArg (· * _) (branchA_at z1 a n k))

theorem scale_at (z1 z a v : Vec Ideal S128x1024 .f32) (g b : Vec Ideal S1x1024 .f32) (wl wh : Vec Ideal S1024x2048 .bf16) (n : Fin 128) (x : Vec Ideal S128x2048 .f32)
    (gn : Vec Ideal S1x2048 .f32) (d : Fin 2048) :
    k0_pay1 (F := Ideal) (k0_pay398 (F := Ideal) z1 z a (k0_pay393 (F := Ideal) v) (k0_pay394 (F := Ideal) v) (k0_pay395 (F := Ideal)) g b wl wh)
        (k0_pay399 (F := Ideal) z1 z a (k0_pay393 (F := Ideal) v) (k0_pay394 (F := Ideal) v) (k0_pay395 (F := Ideal)) g b wl wh) x gn (ix2 n d)
      = rowX (fun d => x (ix2 n d)) (fun d => k0_pay398 (F := Ideal) z1 z a (k0_pay393 (F := Ideal) v) (k0_pay394 (F := Ideal) v) (k0_pay395 (F := Ideal)) g b wl wh (ix2 n d))
          (fun d => gn (ix2 0 d)) d := by
  unfold rowX
  pointwise [k0_pay1, k0_pay399]

end Cert.Kernel6Ideal.Fwd

end
-- ==== Proof.Agree.lean ====
/- Stores that agree with one function: what they leave where they reach. -/
module

public import Idealize.ShloMosaic.Lib.Pipeline.FrameBody
public import Idealize.ShloMosaic.Lib.Tactic

@[expose] public section

namespace Cert.Pieces

open Idealize.ShloMosaic Idealize.ShloMosaic.View

variable {Val : EltTy → Type} [∀ e, Nonempty (Val e)] {S : Shape} {e : EltTy}

/-- Every store of the list writes the function's values. -/
def Agree (f : S.Idx → Val e) (L : List (Piece Val S e)) : Prop := ∀ pc ∈ L, ∀ x, pc.2 x = f (pc.1.emb x)

theorem agree_cons {f : S.Idx → Val e} {pc : Piece Val S e} {L : List (Piece Val S e)} (h : ∀ x, pc.2 x = f (pc.1.emb x)) (hL : Agree f L) :
    Agree f (pc :: L) := fun q hq => by
  rcases List.mem_cons.mp hq with rfl | hq
  · exact h
  · exact hL q hq

theorem agree_append {f : S.Idx → Val e} {L K : List (Piece Val S e)} (hL : Agree f L) (hK : Agree f K) : Agree f (L ++ K) := fun q hq => by
  rcases List.mem_append.mp hq with hq | hq
  · exact hL q hq
  · exact hK q hq

/-- Where they reach, they leave its values. -/
theorem canon_agree {f : S.Idx → Val e} : ∀ {L : List (Piece Val S e)}, Agree f L → ∀ y, (∃ pc ∈ L, y ∈ pc.1.set) → canon L y = f y
  | [], _, y, h => by obtain ⟨pc, hp, _⟩ := h; simp at hp
  | pc :: L, hL, y, h => by
    by_cases hm : y ∈ pc.1.set
    · obtain ⟨x, rfl⟩ := pc.1.exists_idx_of_mem hm
      exact (canon_cons_emb pc.1 pc.2 L x).trans (hL pc List.mem_cons_self x)
    · obtain ⟨q, hq, hy⟩ := h
      rw [canon_cons_of_not_mem _ _ hm]
      rcases List.mem_cons.mp hq with rfl | hq
      · exact absurd hy hm
      · exact canon_agree (fun q hq => hL q (List.mem_cons_of_mem _ hq)) y ⟨q, hq, hy⟩

variable {sig : RefSig} {κ : Kind} {sp : Space}

/-- So a load of a rectangle they reach reads them. -/
theorem readCov_agree {f : S.Idx → Val e} (v : View sig κ sp S e) {L : List (Piece Val S e)} (hL : Agree f L) (r : LoadRect S) (x : r.shape.Idx)
    (h : ∃ pc ∈ L, r.idx x ∈ pc.1.set) : v.readCov L r x = f (r.idx x) := by
  rw [readCov_eq_canon']
  exact canon_agree hL _ h

/-- And so does a load of a buffer they were stored in. -/
theorem read_writes_agree {f : S.Idx → Val e} (v : View sig κ sp S e) (G : v.ty.Contents Val) {L : List (Piece Val S e)} (hL : Agree f L) (y : S.Idx)
    (h : ∃ pc ∈ L, y ∈ pc.1.set) : v.read Val (v.writes Val G L) y = f y :=
  (read_writes_apply_eq_canon v G y L h).trans (canon_agree hL y h)

end Cert.Pieces
-- ==== Proof.FwdTile.lean ====
module

public import proofs.«01_k».proof.Proof.FwdRunA
public import proofs.«01_k».proof.Proof.FwdRunB
public import proofs.«01_k».proof.Proof.FwdLoops
public import proofs.«01_k».proof.Proof.FwdPays
public import proofs.«01_k».proof.Proof.Agree

@[expose] public section

set_option maxRecDepth 16384

noncomputable section

/-! The kernel's work buffers at a point: the shifted copies of the gated rows, the products of the first convolution, and what
the second convolution's loops store. -/

namespace Cert.Kernel6Ideal.Fwd

open Idealize.ShloMosaic Idealize.ShloMosaic.TcCoe
open Cert.Kernel6Ideal.Gen Cert.Pieces

variable (c : Dev nD) (i : grid0.Coords)
variable (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole)

/-- The stores of the four loops. -/
def loops {F : FTy → Type} [FloatOps F] (v81 : FVec F S152x1024 .f32) (v82 : Vec F S1x152x1024 .f32) (X8 : BufTy.Contents (Elt F) arg8.view.ty) (X16 : BufTy.Contents (Elt F) arg16.view.ty) (X17 : BufTy.Contents (Elt F) arg17.view.ty) : List (View.Piece (Elt F) S128x1024 .f32) :=
  pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 4 ++ (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 4 ++ (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 4 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 4)))

theorem loops_cover {F : FTy → Type} [FloatOps F] (v81 : FVec F S152x1024 .f32) (v82 : Vec F S1x152x1024 .f32) (X8 : BufTy.Contents (Elt F) arg8.view.ty) (X16 : BufTy.Contents (Elt F) arg16.view.ty) (X17 : BufTy.Contents (Elt F) arg17.view.ty) (y : S128x1024.Idx) :
    ∃ pc ∈ loops (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17, y ∈ pc.1.set := by
  have h0 : (y 0).val < 32 * 4 := (y 0).isLt
  have h1 : (y 1).val < 1024 := (y 1).isLt
  by_cases g3 : 768 ≤ (y 1).val
  · obtain ⟨pc, hp, hm⟩ := loop4_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 4 le_rfl y h0 g3 h1
    exact ⟨pc, List.mem_append_left _ hp, hm⟩
  by_cases g2 : 512 ≤ (y 1).val
  · obtain ⟨pc, hp, hm⟩ := loop3_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 4 le_rfl y h0 g2 (by omega)
    exact ⟨pc, List.mem_append_right _ (List.mem_append_left _ hp), hm⟩
  by_cases g1 : 256 ≤ (y 1).val
  · obtain ⟨pc, hp, hm⟩ := loop2_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 4 le_rfl y h0 g1 (by omega)
    exact ⟨pc, List.mem_append_right _ (List.mem_append_right _ (List.mem_append_left _ hp)), hm⟩
  obtain ⟨pc, hp, hm⟩ := loop1_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 4 le_rfl y h0 (Nat.zero_le _) (by omega)
  exact ⟨pc, List.mem_append_right _ (List.mem_append_right _ (List.mem_append_right _ hp)), hm⟩

/-- They store the convolution's values. -/
theorem loops_value (v81 : FVec Ideal S152x1024 .f32) (v82 : Vec Ideal S1x152x1024 .f32)
    (X8 : BufTy.Contents (Elt Ideal) arg8.view.ty) (X16 : BufTy.Contents (Elt Ideal) arg16.view.ty) (X17 : BufTy.Contents (Elt Ideal) arg17.view.ty)
    (wv Y : ℕ → ℕ → EReal) (bv : ℕ → EReal) (h8 : ∀ l : Fin 1024, arg8.view.read (Elt Ideal) X8 (ix2 0 l) = bv l.val)
    (h16 : ∀ (b : Fin 8) (r : Fin 160) (l : Fin 1024), 8 ≤ r.val → arg16.view.read (Elt Ideal) X16 (ix3 b r l) = Y (r.val - b.val) l.val)
    (h17 : ∀ (j : Fin 31) (s : Fin 8) (l : Fin 1024), arg17.view.read (Elt Ideal) X17 (ix3 j s l) = wv j.val l.val) :
    Agree (S := S128x1024) (Val := Elt Ideal) (e := .f32) (fun y => conv31 wv Y bv (y 0).val (y 1).val) (loops (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17) :=
  agree_append (loop4_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 4 le_rfl)
    (agree_append (loop3_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 4 le_rfl)
      (agree_append (loop2_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 4 le_rfl) (loop1_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 X8 X16 X17 wv Y bv h8 h16 h17 4 le_rfl)))

/-- An index of a rectangle of unit strides, and a load through one from a buffer of known contents. -/
theorem unit_idx {S : Shape} {off size : Fin S.rank → ℕ} (inb : ∀ a, off a + size a ≤ S.size a) (x : (Rect.unit off size inb).shape.Idx) (a : Fin S.rank) :
    ((Rect.unit off size inb).emb x a).val = off a + (x a).val := congrArg (off a + ·) (Nat.one_mul _)

theorem load2 {m n m' n' o o' : ℕ} {e : EltTy} (v : Memref sig .tc .vmem (⟨2, ![m, n]⟩ : Shape) e) (hv : v.IsWhole)
    (X : Shape.Idx (⟨2, ![m, n]⟩ : Shape) → Elt Ideal e) (inb : ∀ a, ![o, o'] a + ![m', n'] a ≤ (⟨2, ![m, n]⟩ : Shape).size a) (r : Fin m') (l : Fin n')
    (hr : o + r.val < m) (hl : o' + l.val < n) :
    View.readAt (Elt Ideal) v.view (Rect.unit (s := ⟨2, ![m, n]⟩) ![o, o'] ![m', n'] inb).toLoadRect (hv.unread X) (ix2 r l) = X (ix2 ⟨o + r.val, hr⟩ ⟨o' + l.val, hl⟩) := by
  rw [View.readAt_apply, hv.read_unread]
  refine congrArg X (funext fun a => Fin.ext ((unit_idx inb (ix2 r l) a).trans ?_))
  fin_cases a <;> rfl

variable (x0 : Vec Ideal S128x7168 .f32) (x1 : Vec Ideal S32x7168 .f32)

/-- The gated rows of a tile, the 32 rows before it first; the products of the first convolution, 8 rows first. -/
def Yt (n l : ℕ) : EReal :=
  if h : n < 32 ∧ l < 1024 then x1 (ix2 ⟨n, h.1⟩ ⟨4096 + l, by omega⟩) * Ideal.logistic (x1 (ix2 ⟨n, h.1⟩ ⟨5120 + l, by omega⟩)) * keep i
  else if h : (32 ≤ n ∧ n < 160) ∧ l < 1024 then x0 (ix2 ⟨n - 32, by omega⟩ ⟨4096 + l, by omega⟩) * Ideal.logistic (x0 (ix2 ⟨n - 32, by omega⟩ ⟨5120 + l, by omega⟩)) else 0
def Qt (n l : ℕ) : EReal :=
  if h : n < 8 ∧ l < 1024 then x1 (ix2 ⟨24 + n, by omega⟩ ⟨2048 + l, by omega⟩) * x1 (ix2 ⟨24 + n, by omega⟩ ⟨0 + l, by omega⟩) * keep i
  else if h : (8 ≤ n ∧ n < 136) ∧ l < 1024 then x0 (ix2 ⟨n - 8, by omega⟩ ⟨2048 + l, by omega⟩) * x0 (ix2 ⟨n - 8, by omega⟩ ⟨0 + l, by omega⟩) else 0

/-- The shifted copies: copy `b` holds the gated rows `b` rows further down. -/
abbrev fY : S8x160x1024.Idx → Elt Ideal .f32 := fun y => Yt i x0 x1 ((y 1).val - (y 0).val) (y 2).val
abbrev fQ : S136x1024.Idx → Elt Ideal .f32 := fun y => Qt i x0 x1 (y 0).val (y 1).val

theorem agreeQ : Agree (fQ i x0 x1) (runB.sl.H15_2 c i arg1 harg1 arg2 harg2 x0 x1) := by
  unfold runB.sl.H15_2
  refine agree_cons (fun x => ?_) (agree_cons (fun x => ?_) (fun _ h => by simp at h))
  · obtain ⟨n, l, rfl⟩ : ∃ (n : Fin 128) (l : Fin 1024), x = ix2 n l := ⟨x 0, x 1, funext fun a => by fin_cases a <;> rfl⟩
    refine (own3_at _ _ n l).trans ?_
    refine (congrArg₂ (· * ·) (load2 _ harg1 x0 _ n l (by omega) (by omega)) (load2 _ harg1 x0 _ n l (by omega) (by omega))).trans ?_
    simp only [fQ, unit_idx]
    change _ = Qt i x0 x1 (8 + n.val) (0 + l.val)
    unfold Qt
    rw [dif_neg (by omega), dif_pos ⟨⟨by omega, by omega⟩, by omega⟩]
    simp only [Nat.zero_add, Nat.add_sub_cancel_left]
  · obtain ⟨n, l, rfl⟩ : ∃ (n : Fin 8) (l : Fin 1024), x = ix2 n l := ⟨x 0, x 1, funext fun a => by fin_cases a <;> rfl⟩
    refine (halo3_at i _ _ n l).trans ?_
    refine (congrArg (· * keep i) (congrArg₂ (· * ·) (load2 _ harg2 x1 _ n l (by omega) (by omega)) (load2 _ harg2 x1 _ n l (by omega) (by omega)))).trans ?_
    simp only [fQ, unit_idx]
    change _ = Qt i x0 x1 (0 + n.val) (0 + l.val)
    unfold Qt
    rw [dif_pos ⟨by omega, by omega⟩]
    simp only [Nat.zero_add]

theorem agree2 : Agree (fY i x0 x1) (runB.sl.H16_2 c i arg1 harg1 arg2 harg2 x0 x1) := by
  unfold runB.sl.H16_2 runB.sl.r_2 runB.sl.r_3
  refine agree_cons (fun x => ?_) (agree_cons (fun x => ?_) (fun _ h => by simp at h))
  · obtain ⟨n, l, rfl⟩ : ∃ (n : Fin 128) (l : Fin 1024), x = ix3 0 n l := ⟨x 1, x 2, funext fun a => by fin_cases a <;> first | rfl | exact Subsingleton.elim (α := Fin 1) _ _⟩
    refine (own_at _ _ n l).trans ?_
    refine (congrArg₂ (fun a b => a * Ideal.logistic b) (load2 _ harg1 x0 _ n l (by omega) (by omega)) (load2 _ harg1 x0 _ n l (by omega) (by omega))).trans ?_
    simp only [fY, unit_idx]
    change _ = Yt i x0 x1 (32 + n.val - (0 + 0)) (0 + l.val)
    unfold Yt
    rw [dif_neg (by omega), dif_pos ⟨⟨by omega, by omega⟩, by omega⟩]
    simp only [Nat.zero_add, Nat.sub_zero, Nat.add_sub_cancel_left]
  · obtain ⟨n, l, rfl⟩ : ∃ (n : Fin 32) (l : Fin 1024), x = ix3 0 n l := ⟨x 1, x 2, funext fun a => by fin_cases a <;> first | rfl | exact Subsingleton.elim (α := Fin 1) _ _⟩
    refine (congrArg (fun k => k0_pay382 (F := Ideal) k _ _ (ix3 0 n l)) (keep_at i)).trans ?_
    refine (halo_at i _ _ n l).trans ?_
    refine (congrArg (· * keep i) (congrArg₂ (fun a b => a * Ideal.logistic b) (load2 _ harg2 x1 _ n l (by omega) (by omega)) (load2 _ harg2 x1 _ n l (by omega) (by omega)))).trans ?_
    simp only [fY, unit_idx]
    change _ = Yt i x0 x1 (0 + n.val - (0 + 0)) (0 + l.val)
    unfold Yt
    rw [dif_pos ⟨by omega, by omega⟩]
    simp only [Nat.zero_add, Nat.sub_zero]

end Cert.Kernel6Ideal.Fwd

end
-- ==== Proof.FwdConv.lean ====
module

public import proofs.«01_k».proof.Proof.FwdTile

@[expose] public section

set_option maxRecDepth 16384

noncomputable section

/-! The shifted copies of the gated rows, complete, and the two convolutions of a tile. -/

namespace Cert.Kernel6Ideal.Fwd

open Idealize.ShloMosaic Idealize.ShloMosaic.TcCoe
open Cert.Kernel6Ideal.Gen Cert.Pieces

variable (c : Dev nD) (i : grid0.Coords)
variable (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole)
variable (x0 : Vec Ideal S128x7168 .f32) (x1 : Vec Ideal S32x7168 .f32)

/-- A shifted copy is cut from the rows themselves. -/
theorem shift1_at (v : Vec Ideal S1x152x1024 .f32) (x : S1x152x1024.Idx) : k0_pay385 (F := Ideal) (k0_pay384 (F := Ideal) v) x = v x := by
  obtain ⟨a, n, l, rfl⟩ : ∃ (a : Fin 1) (n : Fin 152) (l : Fin 1024), x = ix3 a n l := ⟨x 0, x 1, x 2, funext fun a => by fin_cases a <;> rfl⟩
  obtain rfl : a = 0 := Subsingleton.elim _ _
  pointwise [k0_pay385, k0_pay384]
theorem shift6_at (v : Vec Ideal S1x152x1024 .f32) (x : S1x152x1024.Idx) : k0_pay391 (F := Ideal) (k0_pay390 (F := Ideal) v) x = v x := by
  obtain ⟨a, n, l, rfl⟩ : ∃ (a : Fin 1) (n : Fin 152) (l : Fin 1024), x = ix3 a n l := ⟨x 0, x 1, x 2, funext fun a => by fin_cases a <;> rfl⟩
  obtain rfl : a = 0 := Subsingleton.elim _ _
  pointwise [k0_pay391, k0_pay390]
theorem shift_at386 (v : Vec Ideal S1x152x1024 .f32) (x : S1x152x1024.Idx) : k0_pay386 (F := Ideal) v x = v x := by
  obtain ⟨a, n, l, rfl⟩ : ∃ (a : Fin 1) (n : Fin 152) (l : Fin 1024), x = ix3 a n l := ⟨x 0, x 1, x 2, funext fun a => by fin_cases a <;> rfl⟩
  obtain rfl : a = 0 := Subsingleton.elim _ _
  pointwise [k0_pay386]
theorem shift_at387 (v : Vec Ideal S1x152x1024 .f32) (x : S1x152x1024.Idx) : k0_pay387 (F := Ideal) v x = v x := by
  obtain ⟨a, n, l, rfl⟩ : ∃ (a : Fin 1) (n : Fin 152) (l : Fin 1024), x = ix3 a n l := ⟨x 0, x 1, x 2, funext fun a => by fin_cases a <;> rfl⟩
  obtain rfl : a = 0 := Subsingleton.elim _ _
  pointwise [k0_pay387]
theorem shift_at388 (v : Vec Ideal S1x152x1024 .f32) (x : S1x152x1024.Idx) : k0_pay388 (F := Ideal) v x = v x := by
  obtain ⟨a, n, l, rfl⟩ : ∃ (a : Fin 1) (n : Fin 152) (l : Fin 1024), x = ix3 a n l := ⟨x 0, x 1, x 2, funext fun a => by fin_cases a <;> rfl⟩
  obtain rfl : a = 0 := Subsingleton.elim _ _
  pointwise [k0_pay388]
theorem shift_at389 (v : Vec Ideal S1x152x1024 .f32) (x : S1x152x1024.Idx) : k0_pay389 (F := Ideal) v x = v x := by
  obtain ⟨a, n, l, rfl⟩ : ∃ (a : Fin 1) (n : Fin 152) (l : Fin 1024), x = ix3 a n l := ⟨x 0, x 1, x 2, funext fun a => by fin_cases a <;> rfl⟩
  obtain rfl : a = 0 := Subsingleton.elim _ _
  pointwise [k0_pay389]
theorem shift_at392 (v : Vec Ideal S1x152x1024 .f32) (x : S1x152x1024.Idx) : k0_pay392 (F := Ideal) v x = v x := by
  obtain ⟨a, n, l, rfl⟩ : ∃ (a : Fin 1) (n : Fin 152) (l : Fin 1024), x = ix3 a n l := ⟨x 0, x 1, x 2, funext fun a => by fin_cases a <;> rfl⟩
  obtain rfl : a = 0 := Subsingleton.elim _ _
  pointwise [k0_pay392]

theorem mem_unit {S : Shape} {off size : Fin S.rank → ℕ} (inb : ∀ a, off a + size a ≤ S.size a) {y : S.Idx}
    (h : ∀ a, off a ≤ (y a).val ∧ (y a).val < off a + size a) : y ∈ (Rect.unit off size inb).set := (Rect.mem_set_unit (inb := inb)).mpr h

/-- The first copy is stored whole. -/
theorem mem2 (y : S8x160x1024.Idx) (h0 : (y 0).val = 0) : ∃ pc ∈ runB.sl.H16_2 (F := Ideal) c i arg1 harg1 arg2 harg2 x0 x1, y ∈ pc.1.set := by
  have h1 : (y 1).val < 160 := (y 1).isLt
  have h2 : (y 2).val < 1024 := (y 2).isLt
  unfold runB.sl.H16_2
  simp only [List.mem_cons, exists_eq_or_imp, List.not_mem_nil, or_false, exists_eq_left]
  by_cases h : 32 ≤ (y 1).val
  · refine .inl (mem_unit _ fun a => ?_)
    fin_cases a
    · exact ⟨Nat.zero_le _, by change (y 0).val < 0 + 1; omega⟩
    · exact ⟨h, by change (y 1).val < 32 + 128; omega⟩
    · exact ⟨Nat.zero_le _, by change (y 2).val < 0 + 1024; omega⟩
  · refine .inr (mem_unit _ fun a => ?_)
    fin_cases a
    · exact ⟨Nat.zero_le _, by change (y 0).val < 0 + 1; omega⟩
    · exact ⟨Nat.zero_le _, by change (y 1).val < 0 + 32; omega⟩
    · exact ⟨Nat.zero_le _, by change (y 2).val < 0 + 1024; omega⟩

/-- A load of 152 rows of the first copy, from row `o`. -/
theorem first_at (L : List (View.Piece (Elt Ideal) S8x160x1024 .f32)) (hL : Agree (fY i x0 x1) L)
    (hs : runB.sl.H16_2 (F := Ideal) c i arg1 harg1 arg2 harg2 x0 x1 ⊆ L) (o : ℕ)
    (inb : ∀ a, ![0, o, 0] a + ![1, 152, 1024] a ≤ S8x160x1024.size a) (x : S1x152x1024.Idx) :
    arg16.view.readCov L (Rect.unit (s := S8x160x1024) ![0, o, 0] ![1, 152, 1024] inb).toLoadRect x = Yt i x0 x1 (o + (x 1).val) (x 2).val := by
  have e := fun a => unit_idx (S := S8x160x1024) inb x a
  have hx : (x 0).val = 0 := Nat.lt_one_iff.mp (x 0).isLt
  refine (readCov_agree arg16.view hL (Rect.unit (s := S8x160x1024) ![0, o, 0] ![1, 152, 1024] inb).toLoadRect x ?_).trans ?_
  · obtain ⟨pc, hp, hm⟩ := mem2 c i arg1 harg1 arg2 harg2 x0 x1 ((Rect.unit (s := S8x160x1024) ![0, o, 0] ![1, 152, 1024] inb).emb x)
      ((e 0).trans (by rw [hx]; rfl))
    exact ⟨pc, hs hp, hm⟩
  · change Yt i x0 x1 (((Rect.unit (s := S8x160x1024) ![0, o, 0] ![1, 152, 1024] inb).emb x 1).val - ((Rect.unit (s := S8x160x1024) ![0, o, 0] ![1, 152, 1024] inb).emb x 0).val)
      ((Rect.unit (s := S8x160x1024) ![0, o, 0] ![1, 152, 1024] inb).emb x 2).val = _
    rw [e 0, e 1, e 2, hx]
    change Yt i x0 x1 (o + (x 1).val - (0 + 0)) (0 + (x 2).val) = _
    rw [Nat.zero_add, Nat.sub_zero, Nat.zero_add]

/-- A piece of a copy that holds the rows cut from the first. -/
theorem copy_at (b : ℕ) (hb : b ≤ 8) (inb : ∀ a, ![b, 8, 0] a + ![1, 152, 1024] a ≤ S8x160x1024.size a) (x : S1x152x1024.Idx) :
    Yt i x0 x1 (8 - b + (x 1).val) (x 2).val = fY i x0 x1 ((Rect.unit (s := S8x160x1024) ![b, 8, 0] ![1, 152, 1024] inb).emb x) := by
  have e := fun a => unit_idx (S := S8x160x1024) inb x a
  have hx : (x 0).val = 0 := Nat.lt_one_iff.mp (x 0).isLt
  change _ = Yt i x0 x1 (((Rect.unit (s := S8x160x1024) ![b, 8, 0] ![1, 152, 1024] inb).emb x 1).val - ((Rect.unit (s := S8x160x1024) ![b, 8, 0] ![1, 152, 1024] inb).emb x 0).val)
      ((Rect.unit (s := S8x160x1024) ![b, 8, 0] ![1, 152, 1024] inb).emb x 2).val
  rw [e 0, e 1, e 2, hx]
  change _ = Yt i x0 x1 (8 + (x 1).val - (b + 0)) (0 + (x 2).val)
  rw [show 8 + (x 1).val - (b + 0) = 8 - b + (x 1).val by omega, Nat.zero_add]

theorem sub2 : runB.sl.H16_2 (F := Ideal) c i arg1 harg1 arg2 harg2 x0 x1 ⊆ runB.sl.H16_2 (F := Ideal) c i arg1 harg1 arg2 harg2 x0 x1 := fun _ h => h

set_option backward.isDefEq.respectTransparency.types false in
theorem agree3 : Agree (fY i x0 x1) (runB.sl.H16_3 (F := Ideal) c i arg1 harg1 arg2 harg2 arg16 x0 x1) := by
  unfold runB.sl.H16_3 runB.sl.r_7
  refine agree_cons (fun x => ?_) (agree2 c i arg1 harg1 arg2 harg2 x0 x1)
  have e := shift1_at (runB.sl.v55 (F := Ideal) c i arg1 harg1 arg2 harg2 arg16 x0 x1) x
  refine Eq.trans e ?_
  unfold runB.sl.v55
  refine Eq.trans (first_at c i arg1 harg1 arg2 harg2 arg16 x0 x1 _ (agree2 c i arg1 harg1 arg2 harg2 x0 x1) (sub2 c i arg1 harg1 arg2 harg2 x0 x1) 7 inb_S8x160x1024_S1x152x1024_0_7_0 x) ?_
  exact copy_at i x0 x1 1 (by omega) inb_S8x160x1024_S1x152x1024_1_8_0 x

theorem sub3 : runB.sl.H16_2 (F := Ideal) c i arg1 harg1 arg2 harg2 x0 x1 ⊆ runB.sl.H16_3 (F := Ideal) c i arg1 harg1 arg2 harg2 arg16 x0 x1 := by
  unfold runB.sl.H16_3
  exact fun _ h => List.mem_cons_of_mem _ (sub2 c i arg1 harg1 arg2 harg2 x0 x1 h)

set_option backward.isDefEq.respectTransparency.types false in
theorem agree4 : Agree (fY i x0 x1) (runB.sl.H16_4 (F := Ideal) c i arg1 harg1 arg2 harg2 arg16 x0 x1) := by
  unfold runB.sl.H16_4
  refine agree_cons (fun x => ?_) (agree3 c i arg1 harg1 arg2 harg2 arg16 x0 x1)
  have e := shift_at386 (runB.sl.v60 (F := Ideal) c i arg1 harg1 arg2 harg2 arg16 x0 x1) x
  refine Eq.trans e ?_
  unfold runB.sl.v60
  refine Eq.trans (first_at c i arg1 harg1 arg2 harg2 arg16 x0 x1 _ (agree3 c i arg1 harg1 arg2 harg2 arg16 x0 x1) (sub3 c i arg1 harg1 arg2 harg2 arg16 x0 x1) 6 inb_S8x160x1024_S1x152x1024_0_6_0 x) ?_
  exact copy_at i x0 x1 2 (by omega) inb_S8x160x1024_S1x152x1024_2_8_0 x

theorem sub4 : runB.sl.H16_2 (F := Ideal) c i arg1 harg1 arg2 harg2 x0 x1 ⊆ runB.sl.H16_4 (F := Ideal) c i arg1 harg1 arg2 harg2 arg16 x0 x1 := by
  unfold runB.sl.H16_4
  exact fun _ h => List.mem_cons_of_mem _ (sub3 c i arg1 harg1 arg2 harg2 arg16 x0 x1 h)

set_option backward.isDefEq.respectTransparency.types false in
theorem agree5 : Agree (fY i x0 x1) (runB.sl.H16_5 (F := Ideal) c i arg1 harg1 arg2 harg2 arg16 x0 x1) := by
  unfold runB.sl.H16_5
  refine agree_cons (fun x => ?_) (agree4 c i arg1 harg1 arg2 harg2 arg16 x0 x1)
  have e := shift_at387 (runB.sl.v65 (F := Ideal) c i arg1 harg1 arg2 harg2 arg16 x0 x1) x
  refine Eq.trans e ?_
  unfold runB.sl.v65
  refine Eq.trans (first_at c i arg1 harg1 arg2 harg2 arg16 x0 x1 _ (agree4 c i arg1 harg1 arg2 harg2 arg16 x0 x1) (sub4 c i arg1 harg1 arg2 harg2 arg16 x0 x1) 5 inb_S8x160x1024_S1x152x1024_0_5_0 x) ?_
  exact copy_at i x0 x1 3 (by omega) inb_S8x160x1024_S1x152x1024_3_8_0 x

theorem sub5 : runB.sl.H16_2 (F := Ideal) c i arg1 harg1 arg2 harg2 x0 x1 ⊆ runB.sl.H16_5 (F := Ideal) c i arg1 harg1 arg2 harg2 arg16 x0 x1 := by
  unfold runB.sl.H16_5
  exact fun _ h => List.mem_cons_of_mem _ (sub4 c i arg1 harg1 arg2 harg2 arg16 x0 x1 h)

set_option backward.isDefEq.respectTransparency.types false in
theorem agree6 : Agree (fY i x0 x1) (runB.sl.H16_6 (F := Ideal) c i arg1 harg1 arg2 harg2 arg16 x0 x1) := by
  unfold runB.sl.H16_6
  refine agree_cons (fun x => ?_) (agree5 c i arg1 harg1 arg2 harg2 arg16 x0 x1)
  have e := shift_at388 (runB.sl.v70 (F := Ideal) c i arg1 harg1 arg2 harg2 arg16 x0 x1) x
  refine Eq.trans e ?_
  unfold runB.sl.v70
  refine Eq.trans (first_at c i arg1 harg1 arg2 harg2 arg16 x0 x1 _ (agree5 c i arg1 harg1 arg2 harg2 arg16 x0 x1) (sub5 c i arg1 harg1 arg2 harg2 arg16 x0 x1) 4 inb_S8x160x1024_S1x152x1024_0_4_0 x) ?_
  exact copy_at i x0 x1 4 (by omega) inb_S8x160x1024_S1x152x1024_4_8_0 x

theorem sub6 : runB.sl.H16_2 (F := Ideal) c i arg1 harg1 arg2 harg2 x0 x1 ⊆ runB.sl.H16_6 (F := Ideal) c i arg1 harg1 arg2 harg2 arg16 x0 x1 := by
  unfold runB.sl.H16_6
  exact fun _ h => List.mem_cons_of_mem _ (sub5 c i arg1 harg1 arg2 harg2 arg16 x0 x1 h)

set_option backward.isDefEq.respectTransparency.types false in
theorem agree7 : Agree (fY i x0 x1) (runB.sl.H16_7 (F := Ideal) c i arg1 harg1 arg2 harg2 arg16 x0 x1) := by
  unfold runB.sl.H16_7
  refine agree_cons (fun x => ?_) (agree6 c i arg1 harg1 arg2 harg2 arg16 x0 x1)
  have e := shift_at389 (runB.sl.v75 (F := Ideal) c i arg1 harg1 arg2 harg2 arg16 x0 x1) x
  refine Eq.trans e ?_
  unfold runB.sl.v75
  refine Eq.trans (first_at c i arg1 harg1 arg2 harg2 arg16 x0 x1 _ (agree6 c i arg1 harg1 arg2 harg2 arg16 x0 x1) (sub6 c i arg1 harg1 arg2 harg2 arg16 x0 x1) 3 inb_S8x160x1024_S1x152x1024_0_3_0 x) ?_
  exact copy_at i x0 x1 5 (by omega) inb_S8x160x1024_S1x152x1024_5_8_0 x

theorem sub7 : runB.sl.H16_2 (F := Ideal) c i arg1 harg1 arg2 harg2 x0 x1 ⊆ runB.sl.H16_7 (F := Ideal) c i arg1 harg1 arg2 harg2 arg16 x0 x1 := by
  unfold runB.sl.H16_7
  exact fun _ h => List.mem_cons_of_mem _ (sub6 c i arg1 harg1 arg2 harg2 arg16 x0 x1 h)

set_option backward.isDefEq.respectTransparency.types false in
theorem agree8 : Agree (fY i x0 x1) (runB.sl.H16_8 (F := Ideal) c i arg1 harg1 arg2 harg2 arg16 x0 x1) := by
  unfold runB.sl.H16_8 runB.sl.r_8
  refine agree_cons (fun x => ?_) (agree7 c i arg1 harg1 arg2 harg2 arg16 x0 x1)
  have e := shift6_at (runB.sl.v80 (F := Ideal) c i arg1 harg1 arg2 harg2 arg16 x0 x1) x
  refine Eq.trans e ?_
  unfold runB.sl.v80
  refine Eq.trans (first_at c i arg1 harg1 arg2 harg2 arg16 x0 x1 _ (agree7 c i arg1 harg1 arg2 harg2 arg16 x0 x1) (sub7 c i arg1 harg1 arg2 harg2 arg16 x0 x1) 2 inb_S8x160x1024_S1x152x1024_0_2_0 x) ?_
  exact copy_at i x0 x1 6 (by omega) inb_S8x160x1024_S1x152x1024_6_8_0 x

theorem sub8 : runB.sl.H16_2 (F := Ideal) c i arg1 harg1 arg2 harg2 x0 x1 ⊆ runB.sl.H16_8 (F := Ideal) c i arg1 harg1 arg2 harg2 arg16 x0 x1 := by
  unfold runB.sl.H16_8
  exact fun _ h => List.mem_cons_of_mem _ (sub7 c i arg1 harg1 arg2 harg2 arg16 x0 x1 h)

/-- All the stores of the copies. -/
def copies (c : Dev nD) (i : grid0.Coords) (arg1 : Memref sig .tc .vmem S128x7168 .f32) (harg1 : arg1.IsWhole)  (arg2 : Memref sig .tc .vmem S32x7168 .f32) (harg2 : arg2.IsWhole)  (arg16 : Memref sig .tc .vmem S8x160x1024 .f32)
    (x0 : Vec Ideal S128x7168 .f32) (x1 : Vec Ideal S32x7168 .f32) : List (View.Piece (Elt Ideal) S8x160x1024 .f32) :=
  ⟨Rect.unit (s := S8x160x1024) ![7, 8, 0] S1x152x1024.size inb_S8x160x1024_S1x152x1024_7_8_0, k0_pay392 (runB.sl.v85 c i arg1 harg1 arg2 harg2 arg16 x0 x1)⟩ :: runB.sl.H16_8 c i arg1 harg1 arg2 harg2 arg16 x0 x1

set_option backward.isDefEq.respectTransparency.types false in
theorem agree9 : Agree (fY i x0 x1) (copies c i arg1 harg1 arg2 harg2 arg16 x0 x1) := by
  unfold copies
  refine agree_cons (fun x => ?_) (agree8 c i arg1 harg1 arg2 harg2 arg16 x0 x1)
  have e := shift_at392 (runB.sl.v85 (F := Ideal) c i arg1 harg1 arg2 harg2 arg16 x0 x1) x
  refine Eq.trans e ?_
  unfold runB.sl.v85
  refine Eq.trans (first_at c i arg1 harg1 arg2 harg2 arg16 x0 x1 _ (agree8 c i arg1 harg1 arg2 harg2 arg16 x0 x1) (sub8 c i arg1 harg1 arg2 harg2 arg16 x0 x1) 1 inb_S8x160x1024_S1x152x1024_0_1_0 x) ?_
  exact copy_at i x0 x1 7 (by omega) inb_S8x160x1024_S1x152x1024_7_8_0 x

theorem sub9 : runB.sl.H16_2 (F := Ideal) c i arg1 harg1 arg2 harg2 x0 x1 ⊆ copies c i arg1 harg1 arg2 harg2 arg16 x0 x1 := by
  unfold copies
  exact fun _ h => List.mem_cons_of_mem _ (sub8 c i arg1 harg1 arg2 harg2 arg16 x0 x1 h)

/-- Every row from the eighth on of every copy is stored. -/
theorem mem_copies (y : S8x160x1024.Idx) (h : 8 ≤ (y 1).val) : ∃ pc ∈ copies c i arg1 harg1 arg2 harg2 arg16 x0 x1, y ∈ pc.1.set := by
  have h0 : (y 0).val < 8 := (y 0).isLt
  have h1 : (y 1).val < 160 := (y 1).isLt
  have h2 : (y 2).val < 1024 := (y 2).isLt
  by_cases hz : (y 0).val = 0
  · obtain ⟨pc, hp, hm⟩ := mem2 c i arg1 harg1 arg2 harg2 x0 x1 y hz
    exact ⟨pc, sub9 c i arg1 harg1 arg2 harg2 arg16 x0 x1 hp, hm⟩
  have mem (b : ℕ) (inb : ∀ a, ![b, 8, 0] a + S1x152x1024.size a ≤ S8x160x1024.size a) (hb : (y 0).val = b) :
      y ∈ (Rect.unit (s := S8x160x1024) ![b, 8, 0] S1x152x1024.size inb).set := by
    refine Rect.mem_set_unit.mpr fun a => ?_
    fin_cases a
    · exact ⟨hb.ge, by change (y 0).val < b + 1; omega⟩
    · exact ⟨h, by change (y 1).val < 8 + 152; omega⟩
    · exact ⟨Nat.zero_le _, by change (y 2).val < 0 + 1024; omega⟩
  unfold copies runB.sl.H16_8 runB.sl.H16_7 runB.sl.H16_6 runB.sl.H16_5 runB.sl.H16_4 runB.sl.H16_3
  simp only [List.mem_cons, exists_eq_or_imp]
  by_cases g7 : (y 0).val = 7
  · exact .inl (mem 7 _ g7)
  by_cases g6 : (y 0).val = 6
  · exact .inr (.inl (mem 6 _ g6))
  by_cases g5 : (y 0).val = 5
  · exact .inr (.inr (.inl (mem 5 _ g5)))
  by_cases g4 : (y 0).val = 4
  · exact .inr (.inr (.inr (.inl (mem 4 _ g4))))
  by_cases g3 : (y 0).val = 3
  · exact .inr (.inr (.inr (.inr (.inl (mem 3 _ g3)))))
  by_cases g2 : (y 0).val = 2
  · exact .inr (.inr (.inr (.inr (.inr (.inl (mem 2 _ g2))))))
  by_cases g1 : (y 0).val = 1
  · exact .inr (.inr (.inr (.inr (.inr (.inr (.inl (mem 1 _ g1)))))))
  omega

/-- The first convolution's loads. -/
theorem tapQ_at (o : ℕ) (ho : o ≤ 8) (inb : ∀ a, ![o, 0] a + ![128, 1024] a ≤ S136x1024.size a) (n : Fin 128) (l : Fin 1024) :
    arg15.view.readCov (runB.sl.H15_2 (F := Ideal) c i arg1 harg1 arg2 harg2 x0 x1) (Rect.unit (s := S136x1024) ![o, 0] ![128, 1024] inb).toLoadRect (ix2 n l)
      = Qt i x0 x1 (o + n.val) l.val := by
  have e := fun a => unit_idx (S := S136x1024) inb (ix2 n l) a
  have e0 : ((Rect.unit (s := S136x1024) ![o, 0] ![128, 1024] inb).emb (ix2 n l) 0).val = o + n.val := e 0
  have e1 : ((Rect.unit (s := S136x1024) ![o, 0] ![128, 1024] inb).emb (ix2 n l) 1).val = l.val := (e 1).trans (Nat.zero_add _)
  refine (readCov_agree arg15.view (agreeQ c i arg1 harg1 arg2 harg2 x0 x1) (Rect.unit (s := S136x1024) ![o, 0] ![128, 1024] inb).toLoadRect (ix2 n l) ?_).trans ?_
  · unfold runB.sl.H15_2
    simp only [List.mem_cons, exists_eq_or_imp, List.not_mem_nil, or_false, exists_eq_left]
    by_cases h : 8 ≤ o + n.val
    · refine .inl (mem_unit _ fun a => ?_)
      fin_cases a
      · exact ⟨h.trans e0.ge, e0.trans_lt (by change o + n.val < 8 + 128; omega)⟩
      · exact ⟨Nat.zero_le _, e1.trans_lt (by change l.val < 0 + 1024; omega)⟩
    · refine .inr (mem_unit _ fun a => ?_)
      fin_cases a
      · exact ⟨Nat.zero_le _, e0.trans_lt (by change o + n.val < 0 + 8; omega)⟩
      · exact ⟨Nat.zero_le _, e1.trans_lt (by change l.val < 0 + 1024; omega)⟩
  · change Qt i x0 x1 ((Rect.unit (s := S136x1024) ![o, 0] ![128, 1024] inb).emb (ix2 n l) 0).val ((Rect.unit (s := S136x1024) ![o, 0] ![128, 1024] inb).emb (ix2 n l) 1).val = _
    rw [e0, e1]

variable (x5 : Vec Ideal S3x1024 .f32)

/-- The first branch before its gate. -/
theorem ya_at (n : Fin 128) (l : Fin 1024) :
    runB.sl.r_6 (F := Ideal) c i arg1 harg1 arg2 harg2 arg6 harg6 arg15 x0 x1 x5 (ix2 n l)
      = x0 (ix2 n ⟨1024 + l.val, by omega⟩) * conv3 (tap x5) (Qt i x0 x1) n.val l.val := by
  have z : ∀ k : Fin 1024, (⟨0 + k.val, by omega⟩ : Fin 1024) = k := fun k => Fin.ext (Nat.zero_add _)
  have z' : ∀ k : Fin 128, (⟨0 + k.val, by omega⟩ : Fin 128) = k := fun k => Fin.ext (Nat.zero_add _)
  unfold runB.sl.r_6 runB.sl.r runB.sl.r_5 runB.sl.v26 runB.sl.v31 runB.sl.v36
  refine (conv3_at _ _ _ _ _ _ _ n l).trans ?_
  refine congrArg₂ (· * ·) ((load2 _ harg1 x0 _ n l (by omega) (by omega)).trans (by rw [z'])) ?_
  unfold conv3
  refine congrArg₂ (· + ·) (congrArg₂ (· + ·) (congrArg₂ (· * ·) ((load2 _ harg6 x5 _ 0 l (by simp) (by omega)).trans ?_) ?_)
    (congrArg₂ (· * ·) ((load2 _ harg6 x5 _ 0 l (by simp) (by omega)).trans ?_) ?_)) (congrArg₂ (· * ·) ((load2 _ harg6 x5 _ 0 l (by simp) (by omega)).trans ?_) ?_)
  · rw [z]; exact (tap_at x5 2 l).symm
  · exact (tapQ_at c i arg1 harg1 arg2 harg2 arg15 x0 x1 8 (by omega) _ n l).trans (by rw [Nat.add_comm])
  · rw [z]; exact (tap_at x5 1 l).symm
  · exact (tapQ_at c i arg1 harg1 arg2 harg2 arg15 x0 x1 7 (by omega) _ n l).trans (by rw [Nat.add_comm])
  · rw [z]; exact (tap_at x5 0 l).symm
  · exact (tapQ_at c i arg1 harg1 arg2 harg2 arg15 x0 x1 6 (by omega) _ n l).trans (by rw [Nat.add_comm])

end Cert.Kernel6Ideal.Fwd

end
-- ==== Proof.FwdSum.lean ====
module

public import proofs.«01_k».proof.Proof.FwdConv
public import proofs.«01_k».proof.Proof.FwdRunA
public import proofs.«01_k».proof.Proof.FwdPays

@[expose] public section

set_option maxRecDepth 16384
set_option backward.isDefEq.respectTransparency.types false

noncomputable section

/-! What a tile's stores leave, row by row. -/

namespace Cert.Kernel6Ideal.Fwd

open Idealize.ShloMosaic Idealize.ShloMosaic.TcCoe
open Cert.Kernel6Ideal.Gen Cert.Pieces

/-- The values of a tile: the branches, the second convolution, the output product and the layer's output. -/
def tA (i : grid0.Coords) (x0 : Vec Ideal S128x7168 .f32) (x1 : Vec Ideal S32x7168 .f32) (x5 : Vec Ideal S3x1024 .f32) (n : Fin 128) (l : Fin 1024) : EReal :=
  rowA (fun l => x0 (ix2 n ⟨1024 + l.val, by omega⟩)) (fun l => x0 (ix2 n ⟨3072 + l.val, by omega⟩)) (fun l => conv3 (tap x5) (Qt i x0 x1) n.val l.val) l
def tV (i : grid0.Coords) (x0 : Vec Ideal S128x7168 .f32) (x1 : Vec Ideal S32x7168 .f32) (wv : ℕ → ℕ → EReal) (x7 : Vec Ideal S1x1024 .f32) (n : Fin 128) (l : Fin 1024) : EReal :=
  conv31 wv (Yt i x0 x1) (tap x7 0) n.val l.val
def tB (i : grid0.Coords) (x0 : Vec Ideal S128x7168 .f32) (x1 : Vec Ideal S32x7168 .f32) (wv : ℕ → ℕ → EReal) (x7 x8 x9 : Vec Ideal S1x1024 .f32) (n : Fin 128) (l : Fin 1024) : EReal :=
  rowB (tV i x0 x1 wv x7 n) (fun l => x8 (ix2 0 l)) (fun l => x9 (ix2 0 l)) (fun l => x0 (ix2 n ⟨6144 + l.val, by omega⟩)) l
def tP (i : grid0.Coords) (x0 : Vec Ideal S128x7168 .f32) (x1 : Vec Ideal S32x7168 .f32) (x2 : Vec Ideal S2048x2048 .bf16) (x5 : Vec Ideal S3x1024 .f32) (wv : ℕ → ℕ → EReal) (x7 x8 x9 : Vec Ideal S1x1024 .f32)
    (n : Fin 128) (d : Fin 2048) : EReal :=
  rowP (tA i x0 x1 x5 n) (tB i x0 x1 wv x7 x8 x9 n) (fun k d => x2 (ix2 k d)) d
def tU (i : grid0.Coords) (x0 : Vec Ideal S128x7168 .f32) (x1 : Vec Ideal S32x7168 .f32) (x5 : Vec Ideal S3x1024 .f32) (wv : ℕ → ℕ → EReal) (x7 x8 x9 : Vec Ideal S1x1024 .f32) (n : Fin 128) (k : Fin 2048) : EReal :=
  if h : k.val < 1024 then tA i x0 x1 x5 n ⟨k.val, h⟩ else tB i x0 x1 wv x7 x8 x9 n ⟨k.val - 1024, by omega⟩
def tX (i : grid0.Coords) (x0 : Vec Ideal S128x7168 .f32) (x1 : Vec Ideal S32x7168 .f32) (x2 : Vec Ideal S2048x2048 .bf16) (x3 : Vec Ideal S128x2048 .f32) (x4 : Vec Ideal S1x2048 .f32) (x5 : Vec Ideal S3x1024 .f32) (wv : ℕ → ℕ → EReal)
    (x7 x8 x9 : Vec Ideal S1x1024 .f32) (n : Fin 128) (d : Fin 2048) : EReal :=
  rowX (fun d => x3 (ix2 n d)) (tP i x0 x1 x2 x5 wv x7 x8 x9 n) (fun d => x4 (ix2 0 d)) d

/-- A single store of a whole block. -/
theorem whole_canon {m n : ℕ} {e : EltTy} (inb : ∀ a, ![0, 0] a + ![m, n] a ≤ (⟨2, ![m, n]⟩ : Shape).size a) (f : Shape.Idx (⟨2, ![m, n]⟩ : Shape) → Elt Ideal e) (r : Fin m) (l : Fin n) :
    View.canon (Val := Elt Ideal) (s := ⟨2, ![m, n]⟩) (e := e) [⟨Rect.unit (s := ⟨2, ![m, n]⟩) ![0, 0] ![m, n] inb, f⟩] (ix2 r l) = f (ix2 r l) := by
  have e : (Rect.unit (s := ⟨2, ![m, n]⟩) ![0, 0] ![m, n] inb).emb (ix2 r l) = ix2 r l :=
    funext fun a => Fin.ext ((unit_idx (S := ⟨2, ![m, n]⟩) inb (ix2 r l) a).trans (by fin_cases a <;> exact Nat.zero_add _))
  have h := View.canon_cons_emb (Rect.unit (s := ⟨2, ![m, n]⟩) ![0, 0] ![m, n] inb) f [] (ix2 r l)
  rwa [e] at h

variable (c : Dev nD) (i : grid0.Coords)
variable (arg1 : Memref sig .tc .vmem S128x7168 .f32) (harg1 : arg1.IsWhole) (arg2 : Memref sig .tc .vmem S32x7168 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S3x1024 .f32) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S31x8x1024 .f32) (harg17 : arg17.IsWhole)
variable (x0 : Vec Ideal S128x7168 .f32) (x1 : Vec Ideal S32x7168 .f32) (x2 : Vec Ideal S2048x2048 .bf16) (x3 : Vec Ideal S128x2048 .f32) (x4 : Vec Ideal S1x2048 .f32)
variable (x5 : Vec Ideal S3x1024 .f32) (x6 : Vec Ideal S31x1024 .f32) (x7 x8 x9 : Vec Ideal S1x1024 .f32)
variable (b14 : Vec Ideal S128x1024 .f32) (b16 : Vec Ideal S8x160x1024 .f32) (wv : ℕ → ℕ → EReal)

/-- The four loops' stores, over the shifted copies, are the second convolution's values. -/
theorem sums_agree (v81 : FVec Ideal S152x1024 .f32) (v82 : Vec Ideal S1x152x1024 .f32) (X17 : BufTy.Contents (Elt Ideal) arg17.view.ty)
    (h17 : ∀ (j : Fin 31) (s : Fin 8) (l : Fin 1024), arg17.view.read (Elt Ideal) X17 (ix3 j s l) = wv j.val l.val) :
    Agree (S := S128x1024) (Val := Elt Ideal) (e := .f32) (fun y => conv31 wv (Yt i x0 x1) (tap x7 0) (y 0).val (y 1).val) (loops (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 (harg8.unread x7) (arg16.view.writes (Elt Ideal) (harg16.unread b16) (copies c i arg1 harg1 arg2 harg2 arg16 x0 x1)) X17) :=
  loops_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 _ _ _ wv (Yt i x0 x1) (tap x7 0)
    (fun l => (congrFun (harg8.read_unread x7) (ix2 0 l)).trans (tap_at x7 0 l).symm)
    (fun b r l hr => (read_writes_agree arg16.view (harg16.unread b16) (agree9 c i arg1 harg1 arg2 harg2 arg16 x0 x1) (ix3 b r l) (mem_copies c i arg1 harg1 arg2 harg2 arg16 x0 x1 (ix3 b r l) hr)).trans rfl) h17

theorem sums_canon (v81 : FVec Ideal S152x1024 .f32) (v82 : Vec Ideal S1x152x1024 .f32) (X17 : BufTy.Contents (Elt Ideal) arg17.view.ty)
    (h17 : ∀ (j : Fin 31) (s : Fin 8) (l : Fin 1024), arg17.view.read (Elt Ideal) X17 (ix3 j s l) = wv j.val l.val) (n : Fin 128) (l : Fin 1024) :
    View.canon (loops (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 (harg8.unread x7) (arg16.view.writes (Elt Ideal) (harg16.unread b16) (copies c i arg1 harg1 arg2 harg2 arg16 x0 x1)) X17) (ix2 n l) = tV i x0 x1 wv x7 n l :=
  canon_agree (sums_agree c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x7 b16 wv v81 v82 X17 h17) (ix2 n l) (loops_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 _ _ _ (ix2 n l))

theorem sums_at (v81 : FVec Ideal S152x1024 .f32) (v82 : Vec Ideal S1x152x1024 .f32) (X17 : BufTy.Contents (Elt Ideal) arg17.view.ty)
    (h17 : ∀ (j : Fin 31) (s : Fin 8) (l : Fin 1024), arg17.view.read (Elt Ideal) X17 (ix3 j s l) = wv j.val l.val) (n : Fin 128) (l : Fin 1024) :
    View.readAt (Elt Ideal) arg14.view (Rect.unit (s := S128x1024) ![0, 0] S128x1024.size inb_S128x1024_S128x1024_0_0).toLoadRect (arg14.view.writes (Elt Ideal) (harg14.unread b14) (loops (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 (harg8.unread x7) (arg16.view.writes (Elt Ideal) (harg16.unread b16) (copies c i arg1 harg1 arg2 harg2 arg16 x0 x1)) X17)) (ix2 n l)
      = tV i x0 x1 wv x7 n l := by
  rw [View.readAt_apply]
  have e : (Rect.unit (s := S128x1024) ![0, 0] S128x1024.size inb_S128x1024_S128x1024_0_0).toLoadRect.idx (ix2 n l) = (ix2 n l : S128x1024.Idx) :=
    funext fun a => Fin.ext ((unit_idx (S := S128x1024) inb_S128x1024_S128x1024_0_0 (ix2 n l) a).trans (by fin_cases a <;> exact Nat.zero_add _))
  rw [e]
  exact read_writes_agree arg14.view (harg14.unread b14) (sums_agree c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x7 b16 wv v81 v82 X17 h17) (ix2 n l) (loops_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 v82 _ _ _ (ix2 n l))

variable (V : Vec Ideal S128x1024 .f32) (hV : ∀ (n : Fin 128) (l : Fin 1024), V (ix2 n l) = tV i x0 x1 wv x7 n l)

include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
theorem left_row (n : Fin 128) (l : Fin 1024) : k0_pay396 (F := Ideal) (runB.sl.r_1 c arg1 harg1 x0) (runB.sl.r_6 c i arg1 harg1 arg2 harg2 arg6 harg6 arg15 x0 x1 x5) (ix2 n l) = tA i x0 x1 x5 n l := by
  refine (branchA_at _ _ n l).trans ?_
  rw [ya_at]
  exact congrArg (_ * silu ·) ((load2 _ harg1 x0 _ n l (by omega) (by omega)).trans (congrArg x0 (congrArg (ix2 · _) (Fin.ext (Nat.zero_add _)))))

include hV in
theorem right_row (n : Fin 128) (l : Fin 1024) :
    k0_pay397 (F := Ideal) (runB.sl.r_4 c arg1 harg1 x0) (k0_pay393 (F := Ideal) V) (k0_pay394 (F := Ideal) V) (k0_pay395 (F := Ideal))
        (View.readAt (Elt Ideal) arg9.view (Rect.unit (s := S1x1024) ![0, 0] S1x1024.size inb_S1x1024_S1x1024_0_0).toLoadRect (harg9.unread x8))
        (View.readAt (Elt Ideal) arg10.view (Rect.unit (s := S1x1024) ![0, 0] S1x1024.size inb_S1x1024_S1x1024_0_0).toLoadRect (harg10.unread x9)) (ix2 n l)
      = tB i x0 x1 wv x7 x8 x9 n l := by
  refine (branchB_at _ V _ _ n l).trans ?_
  unfold tB
  congr 1
  · exact funext fun l => hV n l
  · exact funext fun l => (load2 _ harg9 x8 _ 0 l (by simp) (by omega)).trans (congrArg x8 (congrArg (ix2 0) (Fin.ext (Nat.zero_add _))))
  · exact funext fun l => (load2 _ harg10 x9 _ 0 l (by simp) (by omega)).trans (congrArg x9 (congrArg (ix2 0) (Fin.ext (Nat.zero_add _))))
  · exact funext fun l => (load2 _ harg1 x0 _ n l (by omega) (by omega)).trans (congrArg x0 (congrArg (ix2 · _) (Fin.ext (Nat.zero_add _))))

include hV in
theorem prod_row (n : Fin 128) (d : Fin 2048) :
    k0_pay398 (F := Ideal) (runB.sl.r_1 c arg1 harg1 x0) (runB.sl.r_4 c arg1 harg1 x0) (runB.sl.r_6 c i arg1 harg1 arg2 harg2 arg6 harg6 arg15 x0 x1 x5) (k0_pay393 (F := Ideal) V) (k0_pay394 (F := Ideal) V) (k0_pay395 (F := Ideal)) (View.readAt (Elt Ideal) arg9.view (Rect.unit (s := S1x1024) ![0, 0] S1x1024.size inb_S1x1024_S1x1024_0_0).toLoadRect (harg9.unread x8)) (View.readAt (Elt Ideal) arg10.view (Rect.unit (s := S1x1024) ![0, 0] S1x1024.size inb_S1x1024_S1x1024_0_0).toLoadRect (harg10.unread x9)) (View.readAt (Elt Ideal) arg3.view (Rect.unit (s := S2048x2048) ![0, 0] S1024x2048.size inb_S2048x2048_S1024x2048_0_0).toLoadRect (harg3.unread x2)) (View.readAt (Elt Ideal) arg3.view (Rect.unit (s := S2048x2048) ![1024, 0] S1024x2048.size inb_S2048x2048_S1024x2048_1024_0).toLoadRect (harg3.unread x2)) (ix2 n d) = tP i x0 x1 x2 x5 wv x7 x8 x9 n d := by
  refine (prod_at _ _ _ V _ _ _ _ n d).trans ?_
  unfold tP rowP
  refine congrArg₂ (· + ·) (Finset.sum_congr rfl fun k _ => congrArg₂ (· * ·) ?_ ?_) (Finset.sum_congr rfl fun k _ => congrArg₂ (· * ·) ?_ ?_)
  · exact (branchA_at _ _ n k).symm.trans (left_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x5 n k)
  · exact (load2 _ harg3 x2 _ k d (by omega) (by omega)).trans (congrArg x2 (congrArg₂ ix2 (Fin.ext (Nat.zero_add _)) (Fin.ext (Nat.zero_add _))))
  · exact (branchB_at _ V _ _ n k).symm.trans (right_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x7 x8 x9 wv V hV n k)
  · exact (load2 _ harg3 x2 _ k d (by omega) (by omega)).trans (congrArg x2 (congrArg (ix2 _) (Fin.ext (Nat.zero_add _))))

include hV in
theorem out_row (n : Fin 128) (d : Fin 2048) :
    k0_pay1 (F := Ideal) (k0_pay398 (F := Ideal) (runB.sl.r_1 c arg1 harg1 x0) (runB.sl.r_4 c arg1 harg1 x0) (runB.sl.r_6 c i arg1 harg1 arg2 harg2 arg6 harg6 arg15 x0 x1 x5) (k0_pay393 (F := Ideal) V) (k0_pay394 (F := Ideal) V) (k0_pay395 (F := Ideal)) (View.readAt (Elt Ideal) arg9.view (Rect.unit (s := S1x1024) ![0, 0] S1x1024.size inb_S1x1024_S1x1024_0_0).toLoadRect (harg9.unread x8)) (View.readAt (Elt Ideal) arg10.view (Rect.unit (s := S1x1024) ![0, 0] S1x1024.size inb_S1x1024_S1x1024_0_0).toLoadRect (harg10.unread x9)) (View.readAt (Elt Ideal) arg3.view (Rect.unit (s := S2048x2048) ![0, 0] S1024x2048.size inb_S2048x2048_S1024x2048_0_0).toLoadRect (harg3.unread x2)) (View.readAt (Elt Ideal) arg3.view (Rect.unit (s := S2048x2048) ![1024, 0] S1024x2048.size inb_S2048x2048_S1024x2048_1024_0).toLoadRect (harg3.unread x2))) (k0_pay399 (F := Ideal) (runB.sl.r_1 c arg1 harg1 x0) (runB.sl.r_4 c arg1 harg1 x0) (runB.sl.r_6 c i arg1 harg1 arg2 harg2 arg6 harg6 arg15 x0 x1 x5) (k0_pay393 (F := Ideal) V) (k0_pay394 (F := Ideal) V) (k0_pay395 (F := Ideal)) (View.readAt (Elt Ideal) arg9.view (Rect.unit (s := S1x1024) ![0, 0] S1x1024.size inb_S1x1024_S1x1024_0_0).toLoadRect (harg9.unread x8)) (View.readAt (Elt Ideal) arg10.view (Rect.unit (s := S1x1024) ![0, 0] S1x1024.size inb_S1x1024_S1x1024_0_0).toLoadRect (harg10.unread x9)) (View.readAt (Elt Ideal) arg3.view (Rect.unit (s := S2048x2048) ![0, 0] S1024x2048.size inb_S2048x2048_S1024x2048_0_0).toLoadRect (harg3.unread x2)) (View.readAt (Elt Ideal) arg3.view (Rect.unit (s := S2048x2048) ![1024, 0] S1024x2048.size inb_S2048x2048_S1024x2048_1024_0).toLoadRect (harg3.unread x2))) (View.readAt (Elt Ideal) arg4.view (Rect.unit (s := S128x2048) ![0, 0] ![128, 2048] inb_S128x2048_S128x2048_0_0).toLoadRect (harg4.unread x3)) (View.readAt (Elt Ideal) arg5.view (Rect.unit (s := S1x2048) ![0, 0] ![1, 2048] inb_S1x2048_S1x2048_0_0).toLoadRect (harg5.unread x4)) (ix2 n d)
      = tX i x0 x1 x2 x3 x4 x5 wv x7 x8 x9 n d := by
  refine (scale_at _ _ _ V _ _ _ _ n _ _ d).trans ?_
  unfold tX
  congr 1
  · exact funext fun d => (load2 _ harg4 x3 _ n d (by omega) (by omega)).trans (congrArg x3 (congrArg₂ ix2 (Fin.ext (Nat.zero_add _)) (Fin.ext (Nat.zero_add _))))
  · exact funext fun d => prod_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x7 x8 x9 wv V hV n d
  · exact funext fun d => (load2 _ harg5 x4 _ 0 d (by simp) (by omega)).trans (congrArg x4 (congrArg (ix2 0) (Fin.ext (Nat.zero_add _))))

include hV in
/-- The two stores of the branches, a half of the columns each. -/
theorem halves_canon (n : Fin 128) (k : Fin 2048) :
    View.canon (Val := Elt Ideal) (s := S128x2048) (e := .bf16) [⟨Rect.unit (s := S128x2048) ![0, 1024] S128x1024.size inb_S128x2048_S128x1024_0_1024, k0_pay397 (F := Ideal) (runB.sl.r_4 c arg1 harg1 x0) (k0_pay393 (F := Ideal) V) (k0_pay394 (F := Ideal) V) (k0_pay395 (F := Ideal)) (View.readAt (Elt Ideal) arg9.view (Rect.unit (s := S1x1024) ![0, 0] S1x1024.size inb_S1x1024_S1x1024_0_0).toLoadRect (harg9.unread x8)) (View.readAt (Elt Ideal) arg10.view (Rect.unit (s := S1x1024) ![0, 0] S1x1024.size inb_S1x1024_S1x1024_0_0).toLoadRect (harg10.unread x9))⟩,
        ⟨Rect.unit (s := S128x2048) ![0, 0] S128x1024.size inb_S128x2048_S128x1024_0_0, k0_pay396 (F := Ideal) (runB.sl.r_1 c arg1 harg1 x0) (runB.sl.r_6 c i arg1 harg1 arg2 harg2 arg6 harg6 arg15 x0 x1 x5)⟩] (ix2 n k)
      = tU i x0 x1 x5 wv x7 x8 x9 n k := by
  have hA : Agree (Val := Elt Ideal) (S := S128x2048) (e := .bf16) (fun y => tU i x0 x1 x5 wv x7 x8 x9 (y 0) (y 1)) [⟨Rect.unit (s := S128x2048) ![0, 1024] S128x1024.size inb_S128x2048_S128x1024_0_1024, k0_pay397 (F := Ideal) (runB.sl.r_4 c arg1 harg1 x0) (k0_pay393 (F := Ideal) V) (k0_pay394 (F := Ideal) V) (k0_pay395 (F := Ideal)) (View.readAt (Elt Ideal) arg9.view (Rect.unit (s := S1x1024) ![0, 0] S1x1024.size inb_S1x1024_S1x1024_0_0).toLoadRect (harg9.unread x8)) (View.readAt (Elt Ideal) arg10.view (Rect.unit (s := S1x1024) ![0, 0] S1x1024.size inb_S1x1024_S1x1024_0_0).toLoadRect (harg10.unread x9))⟩,
        ⟨Rect.unit (s := S128x2048) ![0, 0] S128x1024.size inb_S128x2048_S128x1024_0_0, k0_pay396 (F := Ideal) (runB.sl.r_1 c arg1 harg1 x0) (runB.sl.r_6 c i arg1 harg1 arg2 harg2 arg6 harg6 arg15 x0 x1 x5)⟩] := by
    refine agree_cons (fun x => ?_) (agree_cons (fun x => ?_) fun _ h => absurd h List.not_mem_nil)
    · obtain ⟨n, l, rfl⟩ : ∃ (n : Fin 128) (l : Fin 1024), x = ix2 n l := ⟨x 0, x 1, funext fun a => by fin_cases a <;> rfl⟩
      refine (right_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x7 x8 x9 wv V hV n l).trans ?_
      have e : (Rect.unit (s := S128x2048) ![0, 1024] S128x1024.size inb_S128x2048_S128x1024_0_1024).emb (ix2 n l) = (ix2 n ⟨1024 + l.val, by omega⟩ : S128x2048.Idx) :=
        funext fun a => Fin.ext ((unit_idx (S := S128x2048) inb_S128x2048_S128x1024_0_1024 (ix2 n l) a).trans (by fin_cases a; exact Nat.zero_add _; rfl))
      dsimp only
      rw [e]
      change _ = tU i x0 x1 x5 wv x7 x8 x9 n ⟨1024 + l.val, _⟩
      unfold tU
      rw [dif_neg (by simp)]
      exact congrArg _ (Fin.ext (by simp))
    · obtain ⟨n, l, rfl⟩ : ∃ (n : Fin 128) (l : Fin 1024), x = ix2 n l := ⟨x 0, x 1, funext fun a => by fin_cases a <;> rfl⟩
      refine (left_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x5 n l).trans ?_
      have e : (Rect.unit (s := S128x2048) ![0, 0] S128x1024.size inb_S128x2048_S128x1024_0_0).emb (ix2 n l) = (ix2 n ⟨l.val, by omega⟩ : S128x2048.Idx) :=
        funext fun a => Fin.ext ((unit_idx (S := S128x2048) inb_S128x2048_S128x1024_0_0 (ix2 n l) a).trans (by fin_cases a <;> exact Nat.zero_add _))
      dsimp only
      rw [e]
      change _ = tU i x0 x1 x5 wv x7 x8 x9 n ⟨l.val, _⟩
      unfold tU
      rw [dif_pos l.isLt]
  refine (canon_agree hA (ix2 n k) ?_).trans rfl
  simp only [List.mem_cons, exists_eq_or_imp, List.not_mem_nil, or_false, exists_eq_left]
  by_cases h : 1024 ≤ k.val
  · refine .inl (mem_unit _ fun a => ?_)
    fin_cases a
    · exact ⟨Nat.zero_le _, by change n.val < 0 + 128; omega⟩
    · exact ⟨h, by change k.val < 1024 + 1024; omega⟩
  · refine .inr (mem_unit _ fun a => ?_)
    fin_cases a
    · exact ⟨Nat.zero_le _, by change n.val < 0 + 128; omega⟩
    · exact ⟨Nat.zero_le _, by change k.val < 0 + 1024; omega⟩

/-- The weights as the first point stores them, each on eight rows. -/
theorem tap_row (j : ℕ) (hj : j < 31) (h1 : ∀ a, ![j, 0] a + ![1, 1024] a ≤ S31x1024.size a) (h3 : ∀ a, ![j, 0, 0] a + S1x8x1024.size a ≤ S31x8x1024.size a) (x : S1x8x1024.Idx) :
    k0_pay376 (F := Ideal) (View.readAt (Elt Ideal) arg7.view (Rect.unit (s := S31x1024) ![j, 0] ![1, 1024] h1).toLoadRect (harg7.unread x6)) x
      = (fun y : S31x8x1024.Idx => tap x6 (y 0).val (y 2).val) ((Rect.unit (s := S31x8x1024) ![j, 0, 0] S1x8x1024.size h3).emb x) := by
  obtain ⟨a, s, l, rfl⟩ : ∃ (a : Fin 1) (s : Fin 8) (l : Fin 1024), x = ix3 a s l := ⟨x 0, x 1, x 2, funext fun a => by fin_cases a <;> rfl⟩
  obtain rfl : a = 0 := Subsingleton.elim _ _
  have p : ∀ v : Vec Ideal S1x1024 .f32, k0_pay376 (F := Ideal) v (ix3 0 s l) = v (ix2 0 l) := fun v => by pointwise [k0_pay376]
  refine (p _).trans ((load2 _ harg7 x6 h1 0 l (by simpa using hj) (by omega)).trans ?_)
  have e := fun a => unit_idx (S := S31x8x1024) h3 (ix3 0 s l) a
  dsimp only
  rw [e 0, e 2]
  change _ = tap x6 (j + 0) (0 + l.val)
  exact (tap_at x6 ⟨j + 0, by omega⟩ ⟨0 + l.val, by omega⟩).symm

set_option maxHeartbeats 4000000 in
theorem taps_agree : Agree (Val := Elt Ideal) (S := S31x8x1024) (e := .f32) (fun y => tap x6 (y 0).val (y 2).val) (runA.sl.H17_31 (F := Ideal) c arg7 harg7 x6) := by
  unfold runA.sl.H17_31
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 30 (by omega) inb_S31x1024_S1x1024_30_0 inb_S31x8x1024_S1x8x1024_30_0_0 x) ?_
  unfold runA.sl.v333 runA.sl.v330 runA.sl.v329
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 29 (by omega) inb_S31x1024_S1x1024_29_0 inb_S31x8x1024_S1x8x1024_29_0_0 x) ?_
  unfold runA.sl.v327 runA.sl.v324 runA.sl.v323
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 28 (by omega) inb_S31x1024_S1x1024_28_0 inb_S31x8x1024_S1x8x1024_28_0_0 x) ?_
  unfold runA.sl.v321 runA.sl.v318 runA.sl.v317
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 27 (by omega) inb_S31x1024_S1x1024_27_0 inb_S31x8x1024_S1x8x1024_27_0_0 x) ?_
  unfold runA.sl.v315 runA.sl.v312 runA.sl.v311
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 26 (by omega) inb_S31x1024_S1x1024_26_0 inb_S31x8x1024_S1x8x1024_26_0_0 x) ?_
  unfold runA.sl.v309 runA.sl.v306 runA.sl.v305
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 25 (by omega) inb_S31x1024_S1x1024_25_0 inb_S31x8x1024_S1x8x1024_25_0_0 x) ?_
  unfold runA.sl.v303 runA.sl.v300 runA.sl.v299
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 24 (by omega) inb_S31x1024_S1x1024_24_0 inb_S31x8x1024_S1x8x1024_24_0_0 x) ?_
  unfold runA.sl.v297 runA.sl.v294 runA.sl.v293
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 23 (by omega) inb_S31x1024_S1x1024_23_0 inb_S31x8x1024_S1x8x1024_23_0_0 x) ?_
  unfold runA.sl.v291 runA.sl.v288 runA.sl.v287
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 22 (by omega) inb_S31x1024_S1x1024_22_0 inb_S31x8x1024_S1x8x1024_22_0_0 x) ?_
  unfold runA.sl.v285 runA.sl.v282 runA.sl.v281
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 21 (by omega) inb_S31x1024_S1x1024_21_0 inb_S31x8x1024_S1x8x1024_21_0_0 x) ?_
  unfold runA.sl.v279 runA.sl.v276 runA.sl.v275
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 20 (by omega) inb_S31x1024_S1x1024_20_0 inb_S31x8x1024_S1x8x1024_20_0_0 x) ?_
  unfold runA.sl.v273 runA.sl.v270 runA.sl.v269
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 19 (by omega) inb_S31x1024_S1x1024_19_0 inb_S31x8x1024_S1x8x1024_19_0_0 x) ?_
  unfold runA.sl.v267 runA.sl.v264 runA.sl.v263
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 18 (by omega) inb_S31x1024_S1x1024_18_0 inb_S31x8x1024_S1x8x1024_18_0_0 x) ?_
  unfold runA.sl.v261 runA.sl.v258 runA.sl.v257
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 17 (by omega) inb_S31x1024_S1x1024_17_0 inb_S31x8x1024_S1x8x1024_17_0_0 x) ?_
  unfold runA.sl.v255 runA.sl.v252 runA.sl.v251
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 16 (by omega) inb_S31x1024_S1x1024_16_0 inb_S31x8x1024_S1x8x1024_16_0_0 x) ?_
  unfold runA.sl.v249 runA.sl.v246 runA.sl.v245
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 15 (by omega) inb_S31x1024_S1x1024_15_0 inb_S31x8x1024_S1x8x1024_15_0_0 x) ?_
  unfold runA.sl.v243 runA.sl.v240 runA.sl.v239
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 14 (by omega) inb_S31x1024_S1x1024_14_0 inb_S31x8x1024_S1x8x1024_14_0_0 x) ?_
  unfold runA.sl.v237 runA.sl.v234 runA.sl.v233
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 13 (by omega) inb_S31x1024_S1x1024_13_0 inb_S31x8x1024_S1x8x1024_13_0_0 x) ?_
  unfold runA.sl.v231 runA.sl.v228 runA.sl.v227
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 12 (by omega) inb_S31x1024_S1x1024_12_0 inb_S31x8x1024_S1x8x1024_12_0_0 x) ?_
  unfold runA.sl.v225 runA.sl.v222 runA.sl.v221
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 11 (by omega) inb_S31x1024_S1x1024_11_0 inb_S31x8x1024_S1x8x1024_11_0_0 x) ?_
  unfold runA.sl.v219 runA.sl.v216 runA.sl.v215
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 10 (by omega) inb_S31x1024_S1x1024_10_0 inb_S31x8x1024_S1x8x1024_10_0_0 x) ?_
  unfold runA.sl.v213 runA.sl.v210 runA.sl.v209
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 9 (by omega) inb_S31x1024_S1x1024_9_0 inb_S31x8x1024_S1x8x1024_9_0_0 x) ?_
  unfold runA.sl.v207 runA.sl.v204 runA.sl.v203
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 8 (by omega) inb_S31x1024_S1x1024_8_0 inb_S31x8x1024_S1x8x1024_8_0_0 x) ?_
  unfold runA.sl.v201 runA.sl.v198 runA.sl.v197
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 7 (by omega) inb_S31x1024_S1x1024_7_0 inb_S31x8x1024_S1x8x1024_7_0_0 x) ?_
  unfold runA.sl.v195 runA.sl.v192 runA.sl.v191
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 6 (by omega) inb_S31x1024_S1x1024_6_0 inb_S31x8x1024_S1x8x1024_6_0_0 x) ?_
  unfold runA.sl.v189 runA.sl.v186 runA.sl.v185
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 5 (by omega) inb_S31x1024_S1x1024_5_0 inb_S31x8x1024_S1x8x1024_5_0_0 x) ?_
  unfold runA.sl.v183 runA.sl.v180 runA.sl.v179
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 4 (by omega) inb_S31x1024_S1x1024_4_0 inb_S31x8x1024_S1x8x1024_4_0_0 x) ?_
  unfold runA.sl.v177 runA.sl.v174 runA.sl.v173
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 3 (by omega) inb_S31x1024_S1x1024_3_0 inb_S31x8x1024_S1x8x1024_3_0_0 x) ?_
  unfold runA.sl.v171 runA.sl.v168 runA.sl.v167
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 2 (by omega) inb_S31x1024_S1x1024_2_0 inb_S31x8x1024_S1x8x1024_2_0_0 x) ?_
  unfold runA.sl.v165 runA.sl.v162 runA.sl.v161
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 1 (by omega) inb_S31x1024_S1x1024_1_0 inb_S31x8x1024_S1x8x1024_1_0_0 x) ?_
  unfold runA.sl.v159 runA.sl.v156 runA.sl.v155
  refine agree_cons (fun x => tap_row c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 0 (by omega) inb_S31x1024_S1x1024_0_0 inb_S31x8x1024_S1x8x1024_0_0_0 x) ?_
  exact fun _ h => absurd h List.not_mem_nil

theorem taps_cover (y : S31x8x1024.Idx) : ∃ pc ∈ runA.sl.H17_31 (F := Ideal) c arg7 harg7 x6, y ∈ pc.1.set :=
  View.cover_of_tiledBy (runA.sl.H17_31 (F := Ideal) c arg7 harg7 x6) ![1, 8, 1024] (by sl_kernel_rfl) y

end Cert.Kernel6Ideal.Fwd

end
-- ==== Proof.FwdLeft.lean ====
module

public import proofs.«01_k».proof.Proof.Gen.Kernel6Ideal.Loops
public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FwdLoops
public import proofs.«01_k».proof.Proof.FwdRunA
public import proofs.«01_k».proof.Proof.FwdRunB

@[expose] public section

set_option maxRecDepth 16384

noncomputable section

/-! What the runs of the convolution mixer's forward kernel leave in each buffer. -/

namespace Cert.Kernel6Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev w15 : Memref sig .tc .vmem S136x1024 .f32 := Memref.whole cc0_scratch0
abbrev w16 : Memref sig .tc .vmem S8x160x1024 .f32 := Memref.whole cc0_scratch1
abbrev w17 : Memref sig .tc .vmem S31x8x1024 .f32 := Memref.whole cc0_scratch2

/-- The run at the first point, on its own buffers and blocks. -/
abbrev atA (c : Dev nD) (t : Fin cfg0.N) (h : t.val % 32 = 0) (b14 : Vec F S128x1024 .f32) (b16 : Vec F S8x160x1024 .f32) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    w15 (Memref.isWhole_whole _) w16 (Memref.isWhole_whole _) w17 (Memref.isWhole_whole _)
    ((firstPt t).mpr h)
    (iblk m c 0 t) (iblk m c 1 t) (iblk m c 2 t) (iblk m c 3 t) (iblk m c 4 t) (iblk m c 5 t) (iblk m c 6 t) (iblk m c 7 t) (iblk m c 8 t) (iblk m c 9 t) b14 b16

/-- The stores of the gated branches reach every entry. -/
theorem coverA_11 (c : Dev nD) (t : Fin cfg0.N) (h : t.val % 32 = 0) (b14 : Vec F S128x1024 .f32) (b16 : Vec F S8x160x1024 .f32) (y : Shape.Idx S128x2048) :
    ∃ pc ∈ (atA m c t h b14 b16).1, y ∈ pc.1.set :=
  View.cover_of_tiledBy (atA m c t h b14 b16).1 ![128, 1024] (by sl_kernel_rfl) y
/-- What the stores leave. -/
def outA_11 (c : Dev nD) (t : Fin cfg0.N) (h : t.val % 32 = 0) (b14 : Vec F S128x1024 .f32) (b16 : Vec F S8x160x1024 .f32) : Vec F S128x2048 .bf16 :=
  View.canon (atA m c t h b14 b16).1
/-- The stores of the layer's output reach every entry. -/
theorem coverA_12 (c : Dev nD) (t : Fin cfg0.N) (h : t.val % 32 = 0) (b14 : Vec F S128x1024 .f32) (b16 : Vec F S8x160x1024 .f32) (y : Shape.Idx S128x2048) :
    ∃ pc ∈ (atA m c t h b14 b16).2.1, y ∈ pc.1.set :=
  View.cover_of_tiledBy (atA m c t h b14 b16).2.1 ![128, 2048] (by sl_kernel_rfl) y
/-- What the stores leave. -/
def outA_12 (c : Dev nD) (t : Fin cfg0.N) (h : t.val % 32 = 0) (b14 : Vec F S128x1024 .f32) (b16 : Vec F S8x160x1024 .f32) : Vec F S128x2048 .f32 :=
  View.canon (atA m c t h b14 b16).2.1
/-- The stores of the output product reach every entry. -/
theorem coverA_13 (c : Dev nD) (t : Fin cfg0.N) (h : t.val % 32 = 0) (b14 : Vec F S128x1024 .f32) (b16 : Vec F S8x160x1024 .f32) (y : Shape.Idx S128x2048) :
    ∃ pc ∈ (atA m c t h b14 b16).2.2.1, y ∈ pc.1.set :=
  View.cover_of_tiledBy (atA m c t h b14 b16).2.2.1 ![128, 2048] (by sl_kernel_rfl) y
/-- What the stores leave. -/
def outA_13 (c : Dev nD) (t : Fin cfg0.N) (h : t.val % 32 = 0) (b14 : Vec F S128x1024 .f32) (b16 : Vec F S8x160x1024 .f32) : Vec F S128x2048 .f32 :=
  View.canon (atA m c t h b14 b16).2.2.1
/-- What the stores of the saved convolution leave. -/
def outA_14 (c : Dev nD) (t : Fin cfg0.N) (h : t.val % 32 = 0) (b14 : Vec F S128x1024 .f32) (b16 : Vec F S8x160x1024 .f32) : Vec F S128x1024 .f32 :=
  View.canon (atA m c t h b14 b16).2.2.2.1
/-- The stores of the second convolution's weights, a row on each sublane reach every entry. -/
theorem coverA_17 (c : Dev nD) (t : Fin cfg0.N) (h : t.val % 32 = 0) (b14 : Vec F S128x1024 .f32) (b16 : Vec F S8x160x1024 .f32) (y : Shape.Idx S31x8x1024) :
    ∃ pc ∈ (atA m c t h b14 b16).2.2.2.2.1, y ∈ pc.1.set :=
  View.cover_of_tiledBy (atA m c t h b14 b16).2.2.2.2.1 ![1,8,1024] (by sl_kernel_rfl) y
/-- What the stores leave. -/
def outA_17 (c : Dev nD) (t : Fin cfg0.N) (h : t.val % 32 = 0) (b14 : Vec F S128x1024 .f32) (b16 : Vec F S8x160x1024 .f32) : Vec F S31x8x1024 .f32 :=
  View.canon (atA m c t h b14 b16).2.2.2.2.1
set_option maxHeartbeats 2000000 in
/-- The stores of the saved convolution reach every entry: each of the four loops stores a block of columns. -/
theorem coverA_14 (c : Dev nD) (t : Fin cfg0.N) (h : t.val % 32 = 0) (b14 : Vec F S128x1024 .f32) (b16 : Vec F S8x160x1024 .f32) (y : Shape.Idx S128x1024) :
    ∃ pc ∈ (atA m c t h b14 b16).2.2.2.1, y ∈ pc.1.set := by
  unfold atA runA
  dsimp only
  have h0 : (y 0).val < 32 * 4 := (y 0).isLt
  have h1 : (y 1).val < 1024 := (y 1).isLt
  by_cases g3 : 768 ≤ (y 1).val
  · obtain ⟨pc, hp, hm⟩ := loop4_cover (F := F) _ _ _ _ _ _ _ _ _ _ _ _ _ _ _ _ _ _ _ _ _ _ _ _ _ _ _ _ _ _ _ _ _ _ _ _ _ _ _ _ _ 4 le_rfl y h0 g3 h1
    exact ⟨pc, List.mem_append_left _ hp, hm⟩
  by_cases g2 : 512 ≤ (y 1).val
  · obtain ⟨pc, hp, hm⟩ := loop3_cover (F := F) _ _ _ _ _ _ _ _ _ _ _ _ _ _ _ _ _ _ _ _ _ _ _ _ _ _ _ _ _ _ _ _ _ _ _ _ _ _ _ _ _ 4 le_rfl y h0 g2 (by omega)
    exact ⟨pc, List.mem_append_right _ (List.mem_append_left _ hp), hm⟩
  by_cases g1 : 256 ≤ (y 1).val
  · obtain ⟨pc, hp, hm⟩ := loop2_cover (F := F) _ _ _ _ _ _ _ _ _ _ _ _ _ _ _ _ _ _ _ _ _ _ _ _ _ _ _ _ _ _ _ _ _ _ _ _ _ _ _ _ _ 4 le_rfl y h0 g1 (by omega)
    exact ⟨pc, List.mem_append_right _ (List.mem_append_right _ (List.mem_append_left _ hp)), hm⟩
  obtain ⟨pc, hp, hm⟩ := loop1_cover (F := F) _ _ _ _ _ _ _ _ _ _ _ _ _ _ _ _ _ _ _ _ _ _ _ _ _ _ _ _ _ _ _ _ _ _ _ _ _ _ _ _ _ 4 le_rfl y h0 (Nat.zero_le _) (by omega)
  exact ⟨pc, List.mem_append_right _ (List.mem_append_right _ (List.mem_append_right _ hp)), hm⟩

/-- The run at the later points, on its own buffers and blocks. -/
abbrev atB (c : Dev nD) (t : Fin cfg0.N) (h : ¬ t.val % 32 = 0) (b14 : Vec F S128x1024 .f32) (b16 : Vec F S8x160x1024 .f32) (b17 : Vec F S31x8x1024 .f32) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    w15 (Memref.isWhole_whole _) w16 (Memref.isWhole_whole _) w17 (Memref.isWhole_whole _)
    (fun e => h ((firstPt t).mp e))
    (iblk m c 0 t) (iblk m c 1 t) (iblk m c 2 t) (iblk m c 3 t) (iblk m c 4 t) (iblk m c 5 t) (iblk m c 6 t) (iblk m c 7 t) (iblk m c 8 t) (iblk m c 9 t) b14 b16 b17

/-- The stores of the gated branches reach every entry. -/
theorem coverB_11 (c : Dev nD) (t : Fin cfg0.N) (h : ¬ t.val % 32 = 0) (b14 : Vec F S128x1024 .f32) (b16 : Vec F S8x160x1024 .f32) (b17 : Vec F S31x8x1024 .f32) (y : Shape.Idx S128x2048) :
    ∃ pc ∈ (atB m c t h b14 b16 b17).1, y ∈ pc.1.set :=
  View.cover_of_tiledBy (atB m c t h b14 b16 b17).1 ![128, 1024] (by sl_kernel_rfl) y
/-- What the stores leave. -/
def outB_11 (c : Dev nD) (t : Fin cfg0.N) (h : ¬ t.val % 32 = 0) (b14 : Vec F S128x1024 .f32) (b16 : Vec F S8x160x1024 .f32) (b17 : Vec F S31x8x1024 .f32) : Vec F S128x2048 .bf16 :=
  View.canon (atB m c t h b14 b16 b17).1
/-- The stores of the layer's output reach every entry. -/
theorem coverB_12 (c : Dev nD) (t : Fin cfg0.N) (h : ¬ t.val % 32 = 0) (b14 : Vec F S128x1024 .f32) (b16 : Vec F S8x160x1024 .f32) (b17 : Vec F S31x8x1024 .f32) (y : Shape.Idx S128x2048) :
    ∃ pc ∈ (atB m c t h b14 b16 b17).2.1, y ∈ pc.1.set :=
  View.cover_of_tiledBy (atB m c t h b14 b16 b17).2.1 ![128, 2048] (by sl_kernel_rfl) y
/-- What the stores leave. -/
def outB_12 (c : Dev nD) (t : Fin cfg0.N) (h : ¬ t.val % 32 = 0) (b14 : Vec F S128x1024 .f32) (b16 : Vec F S8x160x1024 .f32) (b17 : Vec F S31x8x1024 .f32) : Vec F S128x2048 .f32 :=
  View.canon (atB m c t h b14 b16 b17).2.1
/-- The stores of the output product reach every entry. -/
theorem coverB_13 (c : Dev nD) (t : Fin cfg0.N) (h : ¬ t.val % 32 = 0) (b14 : Vec F S128x1024 .f32) (b16 : Vec F S8x160x1024 .f32) (b17 : Vec F S31x8x1024 .f32) (y : Shape.Idx S128x2048) :
    ∃ pc ∈ (atB m c t h b14 b16 b17).2.2.1, y ∈ pc.1.set :=
  View.cover_of_tiledBy (atB m c t h b14 b16 b17).2.2.1 ![128, 2048] (by sl_kernel_rfl) y
/-- What the stores leave. -/
def outB_13 (c : Dev nD) (t : Fin cfg0.N) (h : ¬ t.val % 32 = 0) (b14 : Vec F S128x1024 .f32) (b16 : Vec F S8x160x1024 .f32) (b17 : Vec F S31x8x1024 .f32) : Vec F S128x2048 .f32 :=
  View.canon (atB m c t h b14 b16 b17).2.2.1
/-- What the stores of the saved convolution leave. -/
def outB_14 (c : Dev nD) (t : Fin cfg0.N) (h : ¬ t.val % 32 = 0) (b14 : Vec F S128x1024 .f32) (b16 : Vec F S8x160x1024 .f32) (b17 : Vec F S31x8x1024 .f32) : Vec F S128x1024 .f32 :=
  View.canon (atB m c t h b14 b16 b17).2.2.2.1
set_option maxHeartbeats 2000000 in
/-- The stores of the saved convolution reach every entry: each of the four loops stores a block of columns. -/
theorem coverB_14 (c : Dev nD) (t : Fin cfg0.N) (h : ¬ t.val % 32 = 0) (b14 : Vec F S128x1024 .f32) (b16 : Vec F S8x160x1024 .f32) (b17 : Vec F S31x8x1024 .f32) (y : Shape.Idx S128x1024) :
    ∃ pc ∈ (atB m c t h b14 b16 b17).2.2.2.1, y ∈ pc.1.set := by
  unfold atB runB
  dsimp only
  have h0 : (y 0).val < 32 * 4 := (y 0).isLt
  have h1 : (y 1).val < 1024 := (y 1).isLt
  by_cases g3 : 768 ≤ (y 1).val
  · obtain ⟨pc, hp, hm⟩ := loop4_cover (F := F) _ _ _ _ _ _ _ _ _ _ _ _ _ _ _ _ _ _ _ _ _ _ _ _ _ _ _ _ _ _ _ _ _ _ _ _ _ _ _ _ _ 4 le_rfl y h0 g3 h1
    exact ⟨pc, List.mem_append_left _ hp, hm⟩
  by_cases g2 : 512 ≤ (y 1).val
  · obtain ⟨pc, hp, hm⟩ := loop3_cover (F := F) _ _ _ _ _ _ _ _ _ _ _ _ _ _ _ _ _ _ _ _ _ _ _ _ _ _ _ _ _ _ _ _ _ _ _ _ _ _ _ _ _ 4 le_rfl y h0 g2 (by omega)
    exact ⟨pc, List.mem_append_right _ (List.mem_append_left _ hp), hm⟩
  by_cases g1 : 256 ≤ (y 1).val
  · obtain ⟨pc, hp, hm⟩ := loop2_cover (F := F) _ _ _ _ _ _ _ _ _ _ _ _ _ _ _ _ _ _ _ _ _ _ _ _ _ _ _ _ _ _ _ _ _ _ _ _ _ _ _ _ _ 4 le_rfl y h0 g1 (by omega)
    exact ⟨pc, List.mem_append_right _ (List.mem_append_right _ (List.mem_append_left _ hp)), hm⟩
  obtain ⟨pc, hp, hm⟩ := loop1_cover (F := F) _ _ _ _ _ _ _ _ _ _ _ _ _ _ _ _ _ _ _ _ _ _ _ _ _ _ _ _ _ _ _ _ _ _ _ _ _ _ _ _ _ 4 le_rfl y h0 (Nat.zero_le _) (by omega)
  exact ⟨pc, List.mem_append_right _ (List.mem_append_right _ (List.mem_append_right _ hp)), hm⟩

end Cert.Kernel6Ideal.Fwd

end
-- ==== Proof.FwdKept.lean ====
module

public import proofs.«01_k».proof.Proof.Gen.Kernel6Ideal.Loops
public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FwdLeft
public import Idealize.ShloMosaic.Lib.Pipeline.DatRel

@[expose] public section

set_option maxRecDepth 16384

noncomputable section

/-! What is kept of the convolution mixer's forward kernel from one grid point to the next, whatever a proof wants to keep, and
the data of its pipeline. -/

namespace Cert.Kernel6Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a proof keeps from point to point of the buffer of weights (`S`, before point `n`) and of the results' blocks (`R10` to
`R13`, after a point), with the proof that both of the body's runs keep it. Nothing is kept of the kernel's other scratch
buffers, which are work space. -/
structure Kept where
  S : Dev nD → ℕ → Vec F S31x8x1024 .f32 → Prop
  R10 : Dev nD → Fin cfg0.N → Vec F S128x2048 .bf16 → Prop
  R11 : Dev nD → Fin cfg0.N → Vec F S128x2048 .f32 → Prop
  R12 : Dev nD → Fin cfg0.N → Vec F S128x2048 .f32 → Prop
  R13 : Dev nD → Fin cfg0.N → Vec F S128x1024 .f32 → Prop
  stepA : ∀ (c : Dev nD) (t : Fin cfg0.N) (h : t.val % 32 = 0) (b14 : Vec F S128x1024 .f32) (b16 : Vec F S8x160x1024 .f32), S c (t.val + 1) (outA_17 m c t h b14 b16) ∧ R10 c t (outA_11 m c t h b14 b16) ∧ R11 c t (outA_12 m c t h b14 b16) ∧ R12 c t (outA_13 m c t h b14 b16) ∧ R13 c t (outA_14 m c t h b14 b16)
  stepB : ∀ (c : Dev nD) (t : Fin cfg0.N) (h : ¬ t.val % 32 = 0) (b14 : Vec F S128x1024 .f32) (b16 : Vec F S8x160x1024 .f32) (b17 : Vec F S31x8x1024 .f32), S c t.val b17 → S c (t.val + 1) b17 ∧ R10 c t (outB_11 m c t h b14 b16 b17) ∧ R11 c t (outB_12 m c t h b14 b16 b17) ∧ R12 c t (outB_13 m c t h b14 b16 b17) ∧ R13 c t (outB_14 m c t h b14 b16 b17)

variable {m}

/-- What is kept of each result's block. -/
def Kept.Rl (K : Kept m) (c : Dev nD) (w : Fin cfg0.W) : (t : Fin cfg0.N) → ((cfg0.win w).block.Idx → Elt F (cfg0.win w).elt) → Prop :=
  match w with
  | ⟨10, _⟩ => fun t X => K.R10 c t X
  | ⟨11, _⟩ => fun t X => K.R11 c t X
  | ⟨12, _⟩ => fun t X => K.R12 c t X
  | ⟨13, _⟩ => fun t X => K.R13 c t X
  | _ => fun _ _ => True

/-- What the body relies on before point `n`: the scratch buffers, the weights' at contents that are kept. -/
def Kept.Phi (K : Kept m) (c : Dev nD) : (n : ℕ) → n ≤ cfg0.N → sProp 𝕄
  | 0, _ => Pipeline.ΦA spec0 c
  | n + 1, _ => iprop(iprop((∃ d, owns (c : Thread nD τ) w15 fullShare d) ∗ (∃ d, owns (c : Thread nD τ) w16 fullShare d) ∗ (∃ b17, ⌜K.S c (n + 1) b17⌝ ∗ owns (c : Thread nD τ) w17 fullShare b17)) ∗ (∃ r, prngReg c r))

theorem Kept.Phi_zero (K : Kept m) (c : Dev nD) (n : ℕ) (h : n ≤ cfg0.N) (hn : n = 0) : K.Phi c n h = Pipeline.ΦA spec0 c := by
  cases hn; rfl

theorem Kept.Phi_pos (K : Kept m) (c : Dev nD) (n : ℕ) (h : n ≤ cfg0.N) (hn : n ≠ 0) :
    K.Phi c n h = iprop(iprop((∃ d, owns (c : Thread nD τ) w15 fullShare d) ∗ (∃ d, owns (c : Thread nD τ) w16 fullShare d) ∗ (∃ b17, ⌜K.S c n b17⌝ ∗ owns (c : Thread nD τ) w17 fullShare b17)) ∗ (∃ r, prngReg c r)) := by
  cases n with
  | zero => exact absurd rfl hn
  | succ n => rfl

theorem PhiA_eq (c : Dev nD) :
    (Pipeline.ΦA spec0 c : sProp 𝕄)
      = iprop(iprop((∃ d, owns (c : Thread nD τ) w15 fullShare d) ∗ (∃ d, owns (c : Thread nD τ) w16 fullShare d) ∗ (∃ d, owns (c : Thread nD τ) w17 fullShare d)) ∗ (∃ r, prngReg c r)) := by
  unfold Pipeline.ΦA; rw [scopedRest0_eq]; simp only [w15, w16, w17, owns_whole]; try rfl

/-- The proof data of the call's pipeline; of the results' blocks it names nothing, `Kept.Rl` says what is kept. -/
def Kept.dat (K : Kept m) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  q w := Pipeline.shareOf spec0 w
  owed _ := 0
  Φ t := K.Phi c t.val (Nat.le_of_lt_succ t.isLt)

theorem Kept.A_eq (K : Kept m) (c : Dev nD) (w : Fin cfg0.W) : (K.dat c).A w = V m c (Pipeline.arrRef spec0 w) := by
  dsimp only [Kept.dat]

theorem Kept.Phi_castSucc (K : Kept m) (c : Dev nD) (t : Fin cfg0.N) :
    (K.dat c).Φ t.castSucc = K.Phi c t.val (Nat.le_of_lt t.isLt) := by
  dsimp only [Kept.dat]; exact Pipeline.Dat.Φ_castSucc (K.Phi c) t

theorem Kept.Phi_succ (K : Kept m) (c : Dev nD) (t : Fin cfg0.N) :
    (K.dat c).Φ t.succ = K.Phi c (t.val + 1) t.isLt := rfl

theorem Kept.after_0 (K : Kept m) (c : Dev nD) (t : Fin cfg0.N) : (K.dat c).after 0 t = iblk m c 0 t := by dsimp only [Kept.dat]
theorem Kept.before_0 (K : Kept m) (c : Dev nD) (t : Fin cfg0.N) (d) : (K.dat c).before 0 t d = iblk m c 0 t :=
  before0_0_of m (K.dat c) (K.A_eq c 0) (K.after_0 c) t d
theorem Kept.after_1 (K : Kept m) (c : Dev nD) (t : Fin cfg0.N) : (K.dat c).after 1 t = iblk m c 1 t := by dsimp only [Kept.dat]
theorem Kept.before_1 (K : Kept m) (c : Dev nD) (t : Fin cfg0.N) (d) : (K.dat c).before 1 t d = iblk m c 1 t :=
  before0_1_of m (K.dat c) (K.A_eq c 1) (K.after_1 c) t d
theorem Kept.after_2 (K : Kept m) (c : Dev nD) (t : Fin cfg0.N) : (K.dat c).after 2 t = iblk m c 2 t := by dsimp only [Kept.dat]
theorem Kept.before_2 (K : Kept m) (c : Dev nD) (t : Fin cfg0.N) (d) : (K.dat c).before 2 t d = iblk m c 2 t :=
  before0_2_of m (K.dat c) (K.A_eq c 2) (K.after_2 c) t d
theorem Kept.after_3 (K : Kept m) (c : Dev nD) (t : Fin cfg0.N) : (K.dat c).after 3 t = iblk m c 3 t := by dsimp only [Kept.dat]
theorem Kept.before_3 (K : Kept m) (c : Dev nD) (t : Fin cfg0.N) (d) : (K.dat c).before 3 t d = iblk m c 3 t :=
  before0_3_of m (K.dat c) (K.A_eq c 3) (K.after_3 c) t d
theorem Kept.after_4 (K : Kept m) (c : Dev nD) (t : Fin cfg0.N) : (K.dat c).after 4 t = iblk m c 4 t := by dsimp only [Kept.dat]
theorem Kept.before_4 (K : Kept m) (c : Dev nD) (t : Fin cfg0.N) (d) : (K.dat c).before 4 t d = iblk m c 4 t :=
  before0_4_of m (K.dat c) (K.A_eq c 4) (K.after_4 c) t d
theorem Kept.after_5 (K : Kept m) (c : Dev nD) (t : Fin cfg0.N) : (K.dat c).after 5 t = iblk m c 5 t := by dsimp only [Kept.dat]
theorem Kept.before_5 (K : Kept m) (c : Dev nD) (t : Fin cfg0.N) (d) : (K.dat c).before 5 t d = iblk m c 5 t :=
  before0_5_of m (K.dat c) (K.A_eq c 5) (K.after_5 c) t d
theorem Kept.after_6 (K : Kept m) (c : Dev nD) (t : Fin cfg0.N) : (K.dat c).after 6 t = iblk m c 6 t := by dsimp only [Kept.dat]
theorem Kept.before_6 (K : Kept m) (c : Dev nD) (t : Fin cfg0.N) (d) : (K.dat c).before 6 t d = iblk m c 6 t :=
  before0_6_of m (K.dat c) (K.A_eq c 6) (K.after_6 c) t d
theorem Kept.after_7 (K : Kept m) (c : Dev nD) (t : Fin cfg0.N) : (K.dat c).after 7 t = iblk m c 7 t := by dsimp only [Kept.dat]
theorem Kept.before_7 (K : Kept m) (c : Dev nD) (t : Fin cfg0.N) (d) : (K.dat c).before 7 t d = iblk m c 7 t :=
  before0_7_of m (K.dat c) (K.A_eq c 7) (K.after_7 c) t d
theorem Kept.after_8 (K : Kept m) (c : Dev nD) (t : Fin cfg0.N) : (K.dat c).after 8 t = iblk m c 8 t := by dsimp only [Kept.dat]
theorem Kept.before_8 (K : Kept m) (c : Dev nD) (t : Fin cfg0.N) (d) : (K.dat c).before 8 t d = iblk m c 8 t :=
  before0_8_of m (K.dat c) (K.A_eq c 8) (K.after_8 c) t d
theorem Kept.after_9 (K : Kept m) (c : Dev nD) (t : Fin cfg0.N) : (K.dat c).after 9 t = iblk m c 9 t := by dsimp only [Kept.dat]
theorem Kept.before_9 (K : Kept m) (c : Dev nD) (t : Fin cfg0.N) (d) : (K.dat c).before 9 t d = iblk m c 9 t :=
  before0_9_of m (K.dat c) (K.A_eq c 9) (K.after_9 c) t d

/-- The results are the marked windows. -/
abbrev marked : Fin cfg0.W → Bool := ![false, false, false, false, false, false, false, false, false, false, true, true, true, true]

/-- The proof data read with the results' blocks held to what is kept of them. -/
abbrev Kept.rdat (K : Kept m) (c : Dev nD) := (K.dat c).toRRel marked (K.Rl c)

end Cert.Kernel6Ideal.Fwd

end
-- ==== Proof.FwdOut.lean ====
module

public import proofs.«01_k».proof.Proof.FwdSum
public import proofs.«01_k».proof.Proof.FwdKept

@[expose] public section

set_option maxRecDepth 16384
set_option backward.isDefEq.respectTransparency.types false

noncomputable section

/-! What the stores of a grid point leave, in its blocks. -/

namespace Cert.Kernel6Ideal.Fwd

open Idealize.ShloMosaic Idealize.ShloMosaic.TcCoe
open Cert.Kernel6Ideal.Gen Cert.Pieces

variable (m : (ℓ : Loc nD τ sig) → Buf (Elt Ideal) ℓ)

/-- The values of a point's tile. -/
abbrev pV (c : Dev nD) (t : Fin cfg0.N) (wv : ℕ → ℕ → EReal) := tV (grid0.coords t) (iblk m c 0 t) (iblk m c 1 t) wv (iblk m c 7 t)
abbrev pU (c : Dev nD) (t : Fin cfg0.N) (wv : ℕ → ℕ → EReal) := tU (grid0.coords t) (iblk m c 0 t) (iblk m c 1 t) (iblk m c 5 t) wv (iblk m c 7 t) (iblk m c 8 t) (iblk m c 9 t)
abbrev pP (c : Dev nD) (t : Fin cfg0.N) (wv : ℕ → ℕ → EReal) := tP (grid0.coords t) (iblk m c 0 t) (iblk m c 1 t) (iblk m c 2 t) (iblk m c 5 t) wv (iblk m c 7 t) (iblk m c 8 t) (iblk m c 9 t)
abbrev pX (c : Dev nD) (t : Fin cfg0.N) (wv : ℕ → ℕ → EReal) := tX (grid0.coords t) (iblk m c 0 t) (iblk m c 1 t) (iblk m c 2 t) (iblk m c 3 t) (iblk m c 4 t) (iblk m c 5 t) wv (iblk m c 7 t) (iblk m c 8 t) (iblk m c 9 t)

/-- The buffer of weights, holding them on each of eight rows. -/
def Taps (w : Vec Ideal S31x1024 .f32) (b : Vec Ideal S31x8x1024 .f32) : Prop := ∀ (j : Fin 31) (s : Fin 8) (l : Fin 1024), b (ix3 j s l) = tap w j.val l.val

theorem outA_17_at (c : Dev nD) (t : Fin cfg0.N) (h : t.val % 32 = 0) (b14 : Vec Ideal S128x1024 .f32) (b16 : Vec Ideal S8x160x1024 .f32) : Taps (iblk m c 6 t) (outA_17 m c t h b14 b16) := fun j s l => by
  unfold outA_17 atA runA
  dsimp only
  exact canon_agree (taps_agree c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 6 t)) (ix3 j s l) (taps_cover c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 6 t) (ix3 j s l))

theorem buf17A (c : Dev nD) (t : Fin cfg0.N) (j : Fin 31) (s : Fin 8) (l : Fin 1024) :
    w17.view.read (Elt Ideal) (w17.view.writes (Elt Ideal) w17.view.junk (runA.sl.H17_31 (F := Ideal) c (win0_6.stage (cfg0.slots t 6)) (hstage0_6 ((cfg0.slots t 6).cast nbuf0_6)) (iblk m c 6 t))) (ix3 j s l) = tap (iblk m c 6 t) j.val l.val :=
  read_writes_agree w17.view _ (taps_agree c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 6 t)) (ix3 j s l) (taps_cover c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 6 t) (ix3 j s l))

/-- The second convolution's sums of the point. -/
theorem sumA_at (c : Dev nD) (t : Fin cfg0.N) (b14 : Vec Ideal S128x1024 .f32) (b16 : Vec Ideal S8x160x1024 .f32) (n : Fin 128) (l : Fin 1024) :
    runA.sl.v94 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 6 t) (iblk m c 7 t) b14 b16 (ix2 n l) = pV m c t (tap (iblk m c 6 t)) n l := by
  unfold runA.sl.v94
  exact sums_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 7 t) b14 b16 (tap (iblk m c 6 t)) _ _ _ (buf17A m c t) n l

theorem outA_14_at (c : Dev nD) (t : Fin cfg0.N) (h : t.val % 32 = 0) (b14 : Vec Ideal S128x1024 .f32) (b16 : Vec Ideal S8x160x1024 .f32) (n : Fin 128) (l : Fin 1024) :
    outA_14 m c t h b14 b16 (ix2 n l) = pV m c t (tap (iblk m c 6 t)) n l := by
  unfold outA_14 atA runA
  dsimp only
  exact sums_canon c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 7 t) b16 (tap (iblk m c 6 t)) _ _ _ (buf17A m c t) n l

theorem outA_11_at (c : Dev nD) (t : Fin cfg0.N) (h : t.val % 32 = 0) (b14 : Vec Ideal S128x1024 .f32) (b16 : Vec Ideal S8x160x1024 .f32) (n : Fin 128) (k : Fin 2048) :
    outA_11 m c t h b14 b16 (ix2 n k) = pU m c t (tap (iblk m c 6 t)) n k := by
  unfold outA_11 atA runA
  dsimp only
  exact halves_canon c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 5 t) (iblk m c 7 t) (iblk m c 8 t) (iblk m c 9 t) (tap (iblk m c 6 t)) (runA.sl.v94 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 6 t) (iblk m c 7 t) b14 b16) (sumA_at m c t b14 b16) n k

theorem outA_13_at (c : Dev nD) (t : Fin cfg0.N) (h : t.val % 32 = 0) (b14 : Vec Ideal S128x1024 .f32) (b16 : Vec Ideal S8x160x1024 .f32) (n : Fin 128) (k : Fin 2048) :
    outA_13 m c t h b14 b16 (ix2 n k) = pP m c t (tap (iblk m c 6 t)) n k := by
  unfold outA_13 atA runA
  dsimp only
  exact (whole_canon _ _ n k).trans (prod_row c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 2 t) (iblk m c 5 t) (iblk m c 7 t) (iblk m c 8 t) (iblk m c 9 t) (tap (iblk m c 6 t)) (runA.sl.v94 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 6 t) (iblk m c 7 t) b14 b16) (sumA_at m c t b14 b16) n k)

theorem outA_12_at (c : Dev nD) (t : Fin cfg0.N) (h : t.val % 32 = 0) (b14 : Vec Ideal S128x1024 .f32) (b16 : Vec Ideal S8x160x1024 .f32) (n : Fin 128) (k : Fin 2048) :
    outA_12 m c t h b14 b16 (ix2 n k) = pX m c t (tap (iblk m c 6 t)) n k := by
  unfold outA_12 atA runA
  dsimp only
  exact (whole_canon _ _ n k).trans (out_row c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 2 t) (iblk m c 3 t) (iblk m c 4 t) (iblk m c 5 t) (iblk m c 7 t) (iblk m c 8 t) (iblk m c 9 t) (tap (iblk m c 6 t)) (runA.sl.v94 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 6 t) (iblk m c 7 t) b14 b16) (sumA_at m c t b14 b16) n k)

theorem buf17B (c : Dev nD) (t : Fin cfg0.N) (b17 : Vec Ideal S31x8x1024 .f32) (h17 : Taps (iblk m c 6 t) b17) (j : Fin 31) (s : Fin 8) (l : Fin 1024) :
    w17.view.read (Elt Ideal) ((Memref.isWhole_whole cc0_scratch2 : w17.IsWhole).unread b17) (ix3 j s l) = tap (iblk m c 6 t) j.val l.val :=
  (congrFun ((Memref.isWhole_whole cc0_scratch2 : w17.IsWhole).read_unread b17) (ix3 j s l)).trans (h17 j s l)

/-- The second convolution's sums of the point. -/
theorem sumB_at (c : Dev nD) (t : Fin cfg0.N) (b14 : Vec Ideal S128x1024 .f32) (b16 : Vec Ideal S8x160x1024 .f32) (b17 : Vec Ideal S31x8x1024 .f32) (h17 : Taps (iblk m c 6 t) b17) (n : Fin 128) (l : Fin 1024) :
    runB.sl.v94 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 7 t) b14 b16 b17 (ix2 n l) = pV m c t (tap (iblk m c 6 t)) n l := by
  unfold runB.sl.v94
  exact sums_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 7 t) b14 b16 (tap (iblk m c 6 t)) _ _ _ (buf17B m c t b17 h17) n l

theorem outB_14_at (c : Dev nD) (t : Fin cfg0.N) (h : ¬ t.val % 32 = 0) (b14 : Vec Ideal S128x1024 .f32) (b16 : Vec Ideal S8x160x1024 .f32) (b17 : Vec Ideal S31x8x1024 .f32) (h17 : Taps (iblk m c 6 t) b17) (n : Fin 128) (l : Fin 1024) :
    outB_14 m c t h b14 b16 b17 (ix2 n l) = pV m c t (tap (iblk m c 6 t)) n l := by
  unfold outB_14 atB runB
  dsimp only
  exact sums_canon c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 7 t) b16 (tap (iblk m c 6 t)) _ _ _ (buf17B m c t b17 h17) n l

theorem outB_11_at (c : Dev nD) (t : Fin cfg0.N) (h : ¬ t.val % 32 = 0) (b14 : Vec Ideal S128x1024 .f32) (b16 : Vec Ideal S8x160x1024 .f32) (b17 : Vec Ideal S31x8x1024 .f32) (h17 : Taps (iblk m c 6 t) b17) (n : Fin 128) (k : Fin 2048) :
    outB_11 m c t h b14 b16 b17 (ix2 n k) = pU m c t (tap (iblk m c 6 t)) n k := by
  unfold outB_11 atB runB
  dsimp only
  exact halves_canon c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 5 t) (iblk m c 7 t) (iblk m c 8 t) (iblk m c 9 t) (tap (iblk m c 6 t)) (runB.sl.v94 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 7 t) b14 b16 b17) (sumB_at m c t b14 b16 b17 h17) n k

theorem outB_13_at (c : Dev nD) (t : Fin cfg0.N) (h : ¬ t.val % 32 = 0) (b14 : Vec Ideal S128x1024 .f32) (b16 : Vec Ideal S8x160x1024 .f32) (b17 : Vec Ideal S31x8x1024 .f32) (h17 : Taps (iblk m c 6 t) b17) (n : Fin 128) (k : Fin 2048) :
    outB_13 m c t h b14 b16 b17 (ix2 n k) = pP m c t (tap (iblk m c 6 t)) n k := by
  unfold outB_13 atB runB
  dsimp only
  exact (whole_canon _ _ n k).trans (prod_row c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 2 t) (iblk m c 5 t) (iblk m c 7 t) (iblk m c 8 t) (iblk m c 9 t) (tap (iblk m c 6 t)) (runB.sl.v94 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 7 t) b14 b16 b17) (sumB_at m c t b14 b16 b17 h17) n k)

theorem outB_12_at (c : Dev nD) (t : Fin cfg0.N) (h : ¬ t.val % 32 = 0) (b14 : Vec Ideal S128x1024 .f32) (b16 : Vec Ideal S8x160x1024 .f32) (b17 : Vec Ideal S31x8x1024 .f32) (h17 : Taps (iblk m c 6 t) b17) (n : Fin 128) (k : Fin 2048) :
    outB_12 m c t h b14 b16 b17 (ix2 n k) = pX m c t (tap (iblk m c 6 t)) n k := by
  unfold outB_12 atB runB
  dsimp only
  exact (whole_canon _ _ n k).trans (out_row c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 2 t) (iblk m c 3 t) (iblk m c 4 t) (iblk m c 5 t) (iblk m c 7 t) (iblk m c 8 t) (iblk m c 9 t) (tap (iblk m c 6 t)) (runB.sl.v94 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) w15 (Memref.isWhole_whole _) w16 (Memref.isWhole_whole _) w17 (Memref.isWhole_whole _) (iblk m c 0 t) (iblk m c 1 t) (iblk m c 7 t) b14 b16 b17) (sumB_at m c t b14 b16 b17 h17) n k)

end Cert.Kernel6Ideal.Fwd

end
-- ==== Proof.FwdRef.lean ====
module

public import proofs.«01_k».proof.Proof.FwdRows
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.ReduceAll

@[expose] public section

set_option maxRecDepth 16384

noncomputable section

/-! What the reference's forward lines give at an index. -/

namespace Cert.Reference6Ideal.Fwd

open Idealize.ShloMosaic Idealize.ShloMosaic.TcCoe
open Cert.Reference6Ideal Cert.Reference6Ideal.Read Cert.Kernel6Ideal.Fwd

variable (p : FVec Ideal S4096x7168 .f32) (wo : FVec Ideal S2048x2048 .f32) (x : FVec Ideal S4096x2048 .f32) (g : FVec Ideal S1x2048 .f32)
  (wa : FVec Ideal S3x1024 .f32) (wb : FVec Ideal S31x1024 .f32) (bb lg lb : FVec Ideal S1x1024 .f32)

/-- A column block of a row. -/
abbrev part (r : Fin 4096) (q : Fin 7) (l : Fin 1024) : EReal := p (ix2 r ⟨q.val * 1024 + l.val, by omega⟩)

/-- The gated rows the second convolution runs over, 32 rows further down, and the products the first runs over, 8 rows further
down: zero before the first row. -/
def yv (n l : ℕ) : EReal :=
  if h : (32 ≤ n ∧ n < 4128) ∧ l < 1024 then part p ⟨n - 32, by omega⟩ 4 ⟨l, h.2⟩ * Ideal.logistic (part p ⟨n - 32, by omega⟩ 5 ⟨l, h.2⟩) else 0
def qv (n l : ℕ) : EReal :=
  if h : (8 ≤ n ∧ n < 4104) ∧ l < 1024 then part p ⟨n - 8, by omega⟩ 2 ⟨l, h.2⟩ * part p ⟨n - 8, by omega⟩ 0 ⟨l, h.2⟩ else 0

theorem gate_at (r : Fin 4096) (l : Fin 1024) : val_main_v8 (F := Ideal) p (ix2 r l) = part p r 4 l * Ideal.logistic (part p r 5 l) := by
  pointwise [val_main_v8, val_main_v7, val_main_v6, val_main_cst_0, val_main_v5, val_main_v4, val_main_cst, val_main_v3, val_main_v2, val_main_v1, val_main_v0]
  rfl

theorem pad_at (n : Fin 4126) (l : Fin 1024) : val_main_v10 (F := Ideal) p (ix2 n l) = yv p (n.val + 2) l.val := by
  pointwise [val_main_v10, val_main_v9, val_main_cst_1]
  unfold yv
  by_cases h : n.val < 30
  · rw [dif_pos h, dif_neg (fun k => by omega)]
  · rw [dif_neg h, dif_pos (show (32 ≤ n.val + 2 ∧ n.val + 2 < 4128) ∧ l.val < 1024 from ⟨by omega, l.isLt⟩)]
    have e : (⟨n.val + 2 - 32, by omega⟩ : Fin 4096) = ⟨n.val - 30, by omega⟩ := Fin.ext (by dsimp only; omega)
    rw [e]
    exact gate_at p ⟨n.val - 30, by omega⟩ l

theorem prod_at (n : Fin 4098) (l : Fin 1024) : val_main_v240 (F := Ideal) p (ix2 n l) = qv p (n.val + 6) l.val := by
  pointwise [val_main_v240, val_main_v239, val_main_cst_3]
  unfold qv
  by_cases h : n.val < 2
  · rw [dif_pos h, dif_neg (fun k => by omega)]
  · rw [dif_neg h, dif_pos (show (8 ≤ n.val + 6 ∧ n.val + 6 < 4104) ∧ l.val < 1024 from ⟨by omega, l.isLt⟩)]
    have e : (⟨n.val + 6 - 8, by omega⟩ : Fin 4096) = ⟨n.val - 2, by omega⟩ := Fin.ext (by dsimp only; omega)
    rw [e]
    pointwise [val_main_v238, val_main_v233, val_main_v231]
    refine congrArg (_ * ·) (congrArg p (congrArg (ix2 _) (Fin.ext ?_)))
    show l.val = 0 * 1024 + l.val
    omega

theorem place (a r b : ℕ) : a + r + b = r + (a + b) := by omega

set_option maxHeartbeats 4000000 in
theorem conv_at (r : Fin 4096) (l : Fin 1024) :
    val_main_v230 (F := Ideal) p wb bb (ix2 r l) = conv31 (tap wb) (yv p) (tap bb 0) r.val l.val := by
  pointwise [val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v11, val_main_cst_2, val_main_v229, val_main_v230]
  simp only [pad_at, ← tap_at wb, ← tap_at bb, conv31, Finset.sum_range_succ, Finset.sum_range_zero, zero_add, Nat.reduceSub, place, Fin.coe_ofNat_eq_mod,
    Nat.reduceMod, Nat.reduceAdd]
  ac_rfl

theorem cq_at (r : Fin 4096) (l : Fin 1024) : val_main_v262 (F := Ideal) p wa (ix2 r l) = conv3 (tap wa) (qv p) r.val l.val := by
  pointwise [val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v241, val_main_cst_4]
  simp only [prod_at, ← tap_at wa, conv3, place, Fin.coe_ofNat_eq_mod, Nat.reduceMod, Nat.reduceAdd]
  ac_rfl

/-- A row of the convolution's output and of the first convolution's. -/
abbrev cr (r : Fin 4096) (l : Fin 1024) : EReal := conv31 (tap wb) (yv p) (tap bb 0) r.val l.val
abbrev qr (r : Fin 4096) (l : Fin 1024) : EReal := conv3 (tap wa) (qv p) r.val l.val
abbrev wr (k d : Fin 2048) : EReal := wo (ix2 k d)

theorem a_at (r : Fin 4096) (l : Fin 1024) : val_main_v288 (F := Ideal) p wa (ix2 r l) = rowA (part p r 1) (part p r 3) (qr p wa r) l := by
  unfold rowA silu
  simp only [qr, ← cq_at]
  pointwise [val_main_v288, val_main_v287, val_main_v263, val_main_v232, val_main_v234, val_main_call1_v0, val_main_call1_v1, val_main_call1_v2, val_main_call1_v3, val_main_call1_v4, val_main_call1_v5, val_main_call1_cst, val_main_call1_cst_0]
  rfl

theorem norm_at (r : Fin 4096) (l : Fin 1024) :
    val_main_v285 (F := Ideal) p wb bb lg lb (ix2 r l) = rowN (cr p wb bb r) (fun l => lg (ix2 0 l)) (fun l => lb (ix2 0 l)) l := by
  unfold rowN rowV rowC
  simp only [cr, ← conv_at]
  pointwise [val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_cst_5, val_main_cst_6, val_main_cst_7, val_main_cst_8, val_main_cst_9]

theorem b_at (r : Fin 4096) (l : Fin 1024) : val_main_v290 (F := Ideal) p wb bb lg lb (ix2 r l)
    = rowB (cr p wb bb r) (fun l => lg (ix2 0 l)) (fun l => lb (ix2 0 l)) (part p r 6) l := by
  unfold rowB silu
  simp only [← norm_at]
  pointwise [val_main_v290, val_main_v289, val_main_v286, val_main_v237, val_main_call0_v0, val_main_call0_v1, val_main_call0_v2, val_main_call0_v3, val_main_call0_v4, val_main_call0_v5, val_main_call0_cst, val_main_call0_cst_0, val_main_call2_v0, val_main_call2_v1, val_main_call2_v2, val_main_call2_v3, val_main_call2_v4, val_main_call2_v5, val_main_call2_cst, val_main_call2_cst_0]
  rfl

/-- The two branches side by side. -/
theorem u_at (r : Fin 4096) (k : Fin 2048) : val_main_v291 (F := Ideal) p wa wb bb lg lb (ix2 r k)
    = if h : k.val < 1024 then rowA (part p r 1) (part p r 3) (qr p wa r) ⟨k.val, h⟩
      else rowB (cr p wb bb r) (fun l => lg (ix2 0 l)) (fun l => lb (ix2 0 l)) (part p r 6) ⟨k.val - 1024, by omega⟩ := by
  by_cases h : k.val < 1024
  · rw [dif_pos h, ← a_at]
    pointwise [val_main_v291]
    rw [dif_pos h]
  · rw [dif_neg h, ← b_at]
    pointwise [val_main_v291]
    rw [dif_neg h]

/-- A row of the output product. -/
abbrev yr (r : Fin 4096) (d : Fin 2048) : EReal :=
  rowP (rowA (part p r 1) (part p r 3) (qr p wa r)) (rowB (cr p wb bb r) (fun l => lg (ix2 0 l)) (fun l => lb (ix2 0 l)) (part p r 6)) (wr wo) d

theorem y_at (r : Fin 4096) (d : Fin 2048) : val_main_v292 (F := Ideal) p wo wa wb bb lg lb (ix2 r d) = yr p wo wa wb bb lg lb r d := by
  have e : val_main_v292 (F := Ideal) p wo wa wb bb lg lb (ix2 r d) = ∑ k : Fin 2048, val_main_v291 (F := Ideal) p wa wb bb lg lb (ix2 r k) * wo (ix2 k d) := by
    pointwise [val_main_v292]
  rw [e]
  refine (Fin.sum_univ_add (a := 1024) (b := 1024) fun k : Fin 2048 => val_main_v291 (F := Ideal) p wa wb bb lg lb (ix2 r k) * wo (ix2 k d)).trans ?_
  refine congrArg₂ (· + ·) (Finset.sum_congr rfl fun k _ => ?_) (Finset.sum_congr rfl fun k _ => ?_)
  · rw [u_at, dif_pos (show (Fin.castAdd 1024 k).val < 1024 from k.isLt)]
    rfl
  · rw [u_at, dif_neg (show ¬ (Fin.natAdd 1024 k).val < 1024 from by simp)]
    exact congrArg (· * _) (congrArg _ (Fin.ext (Nat.add_sub_cancel_left 1024 k.val)))

theorem x_at (r : Fin 4096) (d : Fin 2048) : val_main_v306 (F := Ideal) p wo x g wa wb bb lg lb (ix2 r d)
    = rowX (fun d => x (ix2 r d)) (yr p wo wa wb bb lg lb r) (fun d => g (ix2 0 d)) d := by
  unfold rowX
  simp only [← y_at]
  pointwise [val_main_v294, val_main_v295, val_main_v296, val_main_v297, val_main_v298, val_main_v299, val_main_v300, val_main_v301, val_main_v302, val_main_v303, val_main_v304, val_main_v305, val_main_v306, val_main_cst_10, val_main_cst_11, val_main_cst_12]

theorem u16_at (r : Fin 4096) (k : Fin 2048) : val_main_v293 (F := Ideal) p wa wb bb lg lb (ix2 r k) = val_main_v291 (F := Ideal) p wa wb bb lg lb (ix2 r k) := by
  pointwise [val_main_v293]

end Cert.Reference6Ideal.Fwd

end
-- ==== Proof.FwdBlocks.lean ====
module

public import proofs.«01_k».proof.Proof.FwdOut
public import proofs.«01_k».proof.Proof.FwdRef
public import Idealize.ShloMosaic.Lib.Pipeline.ArrRel

@[expose] public section

set_option maxRecDepth 16384

noncomputable section

/-! The blocks of a grid point in the arguments, and its tile's values in the reference's. -/

open Idealize.ShloMosaic Idealize.ShloMosaic.TcCoe Idealize.SL.Sem
open Idealize.ShloMosaic.Pipeline (Dat)

namespace Cert.Kernel6Ideal.Fwd

open Cert.Kernel6Ideal Cert.Kernel6Ideal.Gen Cert.Reference6Ideal.Read
open Cert.Reference6Ideal.Fwd (yv qv part cr qr wr yr)

variable (m : (ℓ : Loc nD τ sig) → Buf (Elt Ideal) ℓ)

abbrev A0 (c : Dev nD) : FVec Ideal S4096x7168 .f32 := m ((c : Thread nD τ).loc main_arg0)
abbrev A1 (c : Dev nD) : FVec Ideal S2048x2048 .f32 := m ((c : Thread nD τ).loc main_arg1)
abbrev A2 (c : Dev nD) : FVec Ideal S4096x2048 .f32 := m ((c : Thread nD τ).loc main_arg2)
abbrev A3 (c : Dev nD) : FVec Ideal S1x2048 .f32 := m ((c : Thread nD τ).loc main_arg3)
abbrev A4 (c : Dev nD) : FVec Ideal S3x1024 .f32 := m ((c : Thread nD τ).loc main_arg4)
abbrev A5 (c : Dev nD) : FVec Ideal S31x1024 .f32 := m ((c : Thread nD τ).loc main_arg5)
abbrev A6 (c : Dev nD) : FVec Ideal S1x1024 .f32 := m ((c : Thread nD τ).loc main_arg6)
abbrev A7 (c : Dev nD) : FVec Ideal S1x1024 .f32 := m ((c : Thread nD τ).loc main_arg7)
abbrev A8 (c : Dev nD) : FVec Ideal S1x1024 .f32 := m ((c : Thread nD τ).loc main_arg8)

theorem entry_w (c : Dev nD) (i : S2048x2048.Idx) : V m c main_v0 i = A1 m c i := by
  entry_read
  rfl

/-- The blocks of a point: tiles of 128 rows, and the 32 rows before. -/
theorem idx : ∀ t : Fin cfg0.N, win0_0.index t = ![t.val, 0] ∧ win0_1.index t = ![4 * t.val - 1, 0] ∧ win0_2.index t = ![0, 0]
      ∧ win0_3.index t = ![t.val, 0] ∧ win0_4.index t = ![0, 0] ∧ win0_5.index t = ![0, 0] ∧ win0_6.index t = ![0, 0]
      ∧ win0_7.index t = ![0, 0] ∧ win0_8.index t = ![0, 0] ∧ win0_9.index t = ![0, 0] ∧ win0_10.index t = ![t.val, 0]
      ∧ win0_11.index t = ![t.val, 0] ∧ win0_12.index t = ![t.val, 0] ∧ win0_13.index t = ![t.val, 0] :=
  (by decide +kernel : ∀ t : Fin grid0.N, _)

theorem coord : ∀ t : Fin cfg0.N, ((grid0.coords t) 0).val = t.val := (by decide +kernel : ∀ t : Fin grid0.N, _)

theorem pt_lt (t : Fin cfg0.N) : t.val < 32 := lt_of_lt_of_eq t.isLt Gen.N_0

theorem row_lt (t : Fin cfg0.N) (r : Fin 128) : t.val * 128 + r.val < 4096 := by have := pt_lt t; omega

/-- Row `r` of a point's tile. -/
abbrev row (t : Fin cfg0.N) (r : Fin 128) : Fin 4096 := ⟨t.val * 128 + r.val, row_lt t r⟩

theorem blk0 (c : Dev nD) (t : Fin cfg0.N) (r : Fin 128) (d : Fin 7168) : iblk m c 0 t (ix2 r d) = A0 m c (ix2 (row t r) d) := by
  refine Eq.trans ?_ (congrFun (V_main_arg0 m c) (ix2 (row t r) d))
  change iblk m c 0 t (ix2 r d) = V m c main_arg0 (ix2 (row t r) d)
  blk_point [iblk, idx t]

theorem halo_lt (t : Fin cfg0.N) (r : Fin 32) : (4 * t.val - 1) * 32 + r.val < 4096 := by have := pt_lt t; omega

theorem blk1 (c : Dev nD) (t : Fin cfg0.N) (r : Fin 32) (d : Fin 7168) : iblk m c 1 t (ix2 r d) = A0 m c (ix2 ⟨(4 * t.val - 1) * 32 + r.val, halo_lt t r⟩ d) := by
  refine Eq.trans ?_ (congrFun (V_main_arg0 m c) (ix2 ⟨(4 * t.val - 1) * 32 + r.val, halo_lt t r⟩ d))
  change iblk m c 1 t (ix2 r d) = V m c main_arg0 (ix2 ⟨(4 * t.val - 1) * 32 + r.val, halo_lt t r⟩ d)
  blk_point [iblk, idx t]

theorem blk2 (c : Dev nD) (t : Fin cfg0.N) (r d : Fin 2048) : iblk m c 2 t (ix2 r d) = A1 m c (ix2 r d) := by
  refine Eq.trans ?_ (entry_w m c (ix2 r d))
  change iblk m c 2 t (ix2 r d) = V m c main_v0 (ix2 r d)
  blk_point [iblk, idx t]

theorem blk3 (c : Dev nD) (t : Fin cfg0.N) (r : Fin 128) (d : Fin 2048) : iblk m c 3 t (ix2 r d) = A2 m c (ix2 (row t r) d) := by
  refine Eq.trans ?_ (congrFun (V_main_arg2 m c) (ix2 (row t r) d))
  change iblk m c 3 t (ix2 r d) = V m c main_arg2 (ix2 (row t r) d)
  blk_point [iblk, idx t]

theorem blk4 (c : Dev nD) (t : Fin cfg0.N) (r : Fin 1) (d : Fin 2048) : iblk m c 4 t (ix2 r d) = A3 m c (ix2 r d) := by
  refine Eq.trans ?_ (congrFun (V_main_arg3 m c) (ix2 r d))
  change iblk m c 4 t (ix2 r d) = V m c main_arg3 (ix2 r d)
  blk_point [iblk, idx t]

theorem blk5 (c : Dev nD) (t : Fin cfg0.N) (r : Fin 3) (d : Fin 1024) : iblk m c 5 t (ix2 r d) = A4 m c (ix2 r d) := by
  refine Eq.trans ?_ (congrFun (V_main_arg4 m c) (ix2 r d))
  change iblk m c 5 t (ix2 r d) = V m c main_arg4 (ix2 r d)
  blk_point [iblk, idx t]

theorem blk6 (c : Dev nD) (t : Fin cfg0.N) (r : Fin 31) (d : Fin 1024) : iblk m c 6 t (ix2 r d) = A5 m c (ix2 r d) := by
  refine Eq.trans ?_ (congrFun (V_main_arg5 m c) (ix2 r d))
  change iblk m c 6 t (ix2 r d) = V m c main_arg5 (ix2 r d)
  blk_point [iblk, idx t]

theorem blk7 (c : Dev nD) (t : Fin cfg0.N) (r : Fin 1) (d : Fin 1024) : iblk m c 7 t (ix2 r d) = A6 m c (ix2 r d) := by
  refine Eq.trans ?_ (congrFun (V_main_arg6 m c) (ix2 r d))
  change iblk m c 7 t (ix2 r d) = V m c main_arg6 (ix2 r d)
  blk_point [iblk, idx t]

theorem blk8 (c : Dev nD) (t : Fin cfg0.N) (r : Fin 1) (d : Fin 1024) : iblk m c 8 t (ix2 r d) = A7 m c (ix2 r d) := by
  refine Eq.trans ?_ (congrFun (V_main_arg7 m c) (ix2 r d))
  change iblk m c 8 t (ix2 r d) = V m c main_arg7 (ix2 r d)
  blk_point [iblk, idx t]

theorem blk9 (c : Dev nD) (t : Fin cfg0.N) (r : Fin 1) (d : Fin 1024) : iblk m c 9 t (ix2 r d) = A8 m c (ix2 r d) := by
  refine Eq.trans ?_ (congrFun (V_main_arg8 m c) (ix2 r d))
  change iblk m c 9 t (ix2 r d) = V m c main_arg8 (ix2 r d)
  blk_point [iblk, idx t]

theorem tap_congr {n : ℕ} {v w : FVec Ideal (⟨2, ![n, 1024]⟩ : Shape) .f32} (h : ∀ (j : Fin n) (l : Fin 1024), v (ix2 j l) = w (ix2 j l)) : tap v = tap w := by
  funext j l
  unfold tap
  by_cases k : j < n ∧ l < 1024
  · rw [dif_pos k, dif_pos k]; exact h ⟨j, k.1⟩ ⟨l, k.2⟩
  · rw [dif_neg k, dif_neg k]

theorem tap5 (c : Dev nD) (t : Fin cfg0.N) : tap (iblk m c 5 t) = tap (A4 m c) := tap_congr (blk5 m c t)
theorem tap6 (c : Dev nD) (t : Fin cfg0.N) : tap (iblk m c 6 t) = tap (A5 m c) := tap_congr (blk6 m c t)
theorem tap7 (c : Dev nD) (t : Fin cfg0.N) : tap (iblk m c 7 t) = tap (A6 m c) := tap_congr (blk7 m c t)

/-- An entry of the input, its row and column given as numbers. -/
theorem at_eq (c : Dev nD) {r r' : Fin 4096} {d d' : Fin 7168} (hr : r.val = r'.val) (hd : d.val = d'.val) : A0 m c (ix2 r d) = A0 m c (ix2 r' d') := by
  rw [Fin.ext hr, Fin.ext hd]

/-- A tile's gated rows are the reference's. -/
theorem gate_eq (c : Dev nD) (t : Fin cfg0.N) (n l : ℕ) (hn : n < 160) (hl : l < 1024) :
    Yt (grid0.coords t) (iblk m c 0 t) (iblk m c 1 t) n l = yv (A0 m c) (t.val * 128 + n) l := by
  have ht := pt_lt t
  unfold Yt yv keep
  rw [coord t]
  by_cases h : n < 32
  · rw [dif_pos ⟨h, hl⟩]
    by_cases h0 : t.val = 0
    · rw [if_pos h0, mul_zero, dif_neg (fun k => by omega)]
    · rw [if_neg h0, mul_one, dif_pos ⟨by omega, hl⟩, blk1, blk1]
      exact congrArg₂ (fun a b => a * Ideal.logistic b) (at_eq m c (by dsimp only; omega) rfl) (at_eq m c (by dsimp only; omega) rfl)
  · rw [dif_neg (fun k => h k.1), dif_pos ⟨by omega, hl⟩, dif_pos ⟨by omega, hl⟩, blk0, blk0]
    exact congrArg₂ (fun a b => a * Ideal.logistic b) (at_eq m c (by dsimp only; omega) rfl) (at_eq m c (by dsimp only; omega) rfl)

/-- And its products for the first convolution. -/
theorem prodq_eq (c : Dev nD) (t : Fin cfg0.N) (n l : ℕ) (hn : n < 136) (hl : l < 1024) :
    Qt (grid0.coords t) (iblk m c 0 t) (iblk m c 1 t) n l = qv (A0 m c) (t.val * 128 + n) l := by
  have ht := pt_lt t
  unfold Qt qv keep
  rw [coord t]
  by_cases h : n < 8
  · rw [dif_pos ⟨h, hl⟩]
    by_cases h0 : t.val = 0
    · rw [if_pos h0, mul_zero, dif_neg (fun k => by omega)]
    · rw [if_neg h0, mul_one, dif_pos ⟨by omega, hl⟩, blk1, blk1]
      exact congrArg₂ (· * ·) (at_eq m c (by dsimp only; omega) rfl) (at_eq m c (by dsimp only; omega) (by dsimp only; omega))
  · rw [dif_neg (fun k => h k.1), dif_pos ⟨by omega, hl⟩, dif_pos ⟨by omega, hl⟩, blk0, blk0]
    exact congrArg₂ (· * ·) (at_eq m c (by dsimp only; omega) rfl) (at_eq m c (by dsimp only; omega) (by dsimp only; omega))

theorem sum_eq (c : Dev nD) (t : Fin cfg0.N) (n : Fin 128) (l : Fin 1024) :
    pV m c t (tap (iblk m c 6 t)) n l = cr (A0 m c) (A5 m c) (A6 m c) (row t n) l := by
  unfold pV tV cr conv31
  rw [tap6, tap7]
  refine congrArg (· + _) (Finset.sum_congr rfl fun j hj => congrArg (_ * ·) ?_)
  rw [gate_eq m c t _ _ (by omega) l.isLt, Nat.add_assoc]

theorem left_eq (c : Dev nD) (t : Fin cfg0.N) (n : Fin 128) :
    tA (grid0.coords t) (iblk m c 0 t) (iblk m c 1 t) (iblk m c 5 t) n = rowA (part (A0 m c) (row t n) 1) (part (A0 m c) (row t n) 3) (qr (A0 m c) (A4 m c) (row t n)) := by
  funext l
  unfold tA qr conv3
  rw [tap5]
  congr 1
  · exact funext fun l => (blk0 m c t n _).trans (at_eq m c rfl rfl)
  · exact funext fun l => (blk0 m c t n _).trans (at_eq m c rfl rfl)
  · funext l
    rw [prodq_eq m c t _ _ (by omega) l.isLt, prodq_eq m c t _ _ (by omega) l.isLt, prodq_eq m c t _ _ (by omega) l.isLt, ← Nat.add_assoc, ← Nat.add_assoc, ← Nat.add_assoc]

theorem right_eq (c : Dev nD) (t : Fin cfg0.N) (n : Fin 128) :
    tB (grid0.coords t) (iblk m c 0 t) (iblk m c 1 t) (tap (iblk m c 6 t)) (iblk m c 7 t) (iblk m c 8 t) (iblk m c 9 t) n
      = rowB (cr (A0 m c) (A5 m c) (A6 m c) (row t n)) (fun l => A7 m c (ix2 0 l)) (fun l => A8 m c (ix2 0 l)) (part (A0 m c) (row t n) 6) := by
  funext l
  unfold tB
  congr 1
  · exact funext fun l => sum_eq m c t n l
  · exact funext fun l => blk8 m c t 0 l
  · exact funext fun l => blk9 m c t 0 l
  · exact funext fun l => (blk0 m c t n _).trans (at_eq m c rfl rfl)

theorem out_eq (c : Dev nD) (t : Fin cfg0.N) (n : Fin 128) :
    pP m c t (tap (iblk m c 6 t)) n = yr (A0 m c) (A1 m c) (A4 m c) (A5 m c) (A6 m c) (A7 m c) (A8 m c) (row t n) := by
  funext d
  unfold pP tP yr
  rw [left_eq, right_eq]
  congr 1
  exact funext fun k => funext fun d => blk2 m c t k d

/-- What a point leaves is the reference's rows. -/
theorem point_u (c : Dev nD) (t : Fin cfg0.N) (n : Fin 128) (k : Fin 2048) :
    pU m c t (tap (iblk m c 6 t)) n k = val_main_v293 (F := Ideal) (A0 m c) (A4 m c) (A5 m c) (A6 m c) (A7 m c) (A8 m c) (ix2 (row t n) k) := by
  rw [Cert.Reference6Ideal.Fwd.u16_at, Cert.Reference6Ideal.Fwd.u_at]
  unfold pU tU
  rw [left_eq, right_eq]

theorem point_y (c : Dev nD) (t : Fin cfg0.N) (n : Fin 128) (d : Fin 2048) :
    pP m c t (tap (iblk m c 6 t)) n d = val_main_v292 (F := Ideal) (A0 m c) (A1 m c) (A4 m c) (A5 m c) (A6 m c) (A7 m c) (A8 m c) (ix2 (row t n) d) := by
  rw [Cert.Reference6Ideal.Fwd.y_at, out_eq]

theorem point_x (c : Dev nD) (t : Fin cfg0.N) (n : Fin 128) (d : Fin 2048) :
    pX m c t (tap (iblk m c 6 t)) n d
      = val_main_v306 (F := Ideal) (A0 m c) (A1 m c) (A2 m c) (A3 m c) (A4 m c) (A5 m c) (A6 m c) (A7 m c) (A8 m c) (ix2 (row t n) d) := by
  rw [Cert.Reference6Ideal.Fwd.x_at]
  unfold pX tX
  congr 1
  · exact funext fun d => blk3 m c t n d
  · exact out_eq m c t n
  · exact funext fun d => blk4 m c t 0 d

theorem point_c (c : Dev nD) (t : Fin cfg0.N) (n : Fin 128) (l : Fin 1024) :
    pV m c t (tap (iblk m c 6 t)) n l = val_main_v230 (F := Ideal) (A0 m c) (A5 m c) (A6 m c) (ix2 (row t n) l) := by
  rw [Cert.Reference6Ideal.Fwd.conv_at, sum_eq]

end Cert.Kernel6Ideal.Fwd

end
-- ==== Proof.FwdBody.lean ====
module

public import proofs.«01_k».proof.Proof.Gen.Kernel6Ideal.Loops
public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FwdKept
public import Idealize.ShloMosaic.Lib.Claim

@[expose] public section

set_option maxRecDepth 16384

noncomputable section

/-! The body of the convolution mixer's forward kernel takes what holds before a grid point to what holds after it. -/

namespace Cert.Kernel6Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable {m : (ℓ : Loc nD τ sig) → Buf (Elt F) ℓ} (ρ : Dev nD → PrngReg)

/-- What the body is called with at point `t`. -/
def bodyPre (K : Kept m) (c : Dev nD) (t : Fin cfg0.N) : sProp 𝕄 :=
  iprop((K.dat c).Φ t.castSucc ∗ (K.dat c).owesAt () t.castSucc ∗ (∃ d, owns (c : Thread nD τ) (win0_0.stage (cfg0.slots t 0)) fullShare ((K.dat c).before 0 t d)) ∗ (∃ d, owns (c : Thread nD τ) (win0_1.stage (cfg0.slots t 1)) fullShare ((K.dat c).before 1 t d)) ∗ (∃ d, owns (c : Thread nD τ) (win0_2.stage (cfg0.slots t 2)) fullShare ((K.dat c).before 2 t d)) ∗ (∃ d, owns (c : Thread nD τ) (win0_3.stage (cfg0.slots t 3)) fullShare ((K.dat c).before 3 t d)) ∗ (∃ d, owns (c : Thread nD τ) (win0_4.stage (cfg0.slots t 4)) fullShare ((K.dat c).before 4 t d)) ∗ (∃ d, owns (c : Thread nD τ) (win0_5.stage (cfg0.slots t 5)) fullShare ((K.dat c).before 5 t d)) ∗ (∃ d, owns (c : Thread nD τ) (win0_6.stage (cfg0.slots t 6)) fullShare ((K.dat c).before 6 t d)) ∗ (∃ d, owns (c : Thread nD τ) (win0_7.stage (cfg0.slots t 7)) fullShare ((K.dat c).before 7 t d)) ∗ (∃ d, owns (c : Thread nD τ) (win0_8.stage (cfg0.slots t 8)) fullShare ((K.dat c).before 8 t d)) ∗ (∃ d, owns (c : Thread nD τ) (win0_9.stage (cfg0.slots t 9)) fullShare ((K.dat c).before 9 t d)) ∗ (∃ Y, ⌜(K.rdat c).Finds 10 t Y⌝ ∗ owns (c : Thread nD τ) (win0_10.stage (cfg0.slots t 10)) fullShare Y) ∗ (∃ Y, ⌜(K.rdat c).Finds 11 t Y⌝ ∗ owns (c : Thread nD τ) (win0_11.stage (cfg0.slots t 11)) fullShare Y) ∗ (∃ Y, ⌜(K.rdat c).Finds 12 t Y⌝ ∗ owns (c : Thread nD τ) (win0_12.stage (cfg0.slots t 12)) fullShare Y) ∗ (∃ Y, ⌜(K.rdat c).Finds 13 t Y⌝ ∗ owns (c : Thread nD τ) (win0_13.stage (cfg0.slots t 13)) fullShare Y))

/-- What it returns. -/
def bodyPost (K : Kept m) (c : Dev nD) (t : Fin cfg0.N) : sProp 𝕄 :=
  iprop((K.dat c).Φ t.succ ∗ (K.dat c).owesAt () t.succ ∗ owns (c : Thread nD τ) (win0_0.stage (cfg0.slots t 0)) fullShare ((K.dat c).after 0 t) ∗ owns (c : Thread nD τ) (win0_1.stage (cfg0.slots t 1)) fullShare ((K.dat c).after 1 t) ∗ owns (c : Thread nD τ) (win0_2.stage (cfg0.slots t 2)) fullShare ((K.dat c).after 2 t) ∗ owns (c : Thread nD τ) (win0_3.stage (cfg0.slots t 3)) fullShare ((K.dat c).after 3 t) ∗ owns (c : Thread nD τ) (win0_4.stage (cfg0.slots t 4)) fullShare ((K.dat c).after 4 t) ∗ owns (c : Thread nD τ) (win0_5.stage (cfg0.slots t 5)) fullShare ((K.dat c).after 5 t) ∗ owns (c : Thread nD τ) (win0_6.stage (cfg0.slots t 6)) fullShare ((K.dat c).after 6 t) ∗ owns (c : Thread nD τ) (win0_7.stage (cfg0.slots t 7)) fullShare ((K.dat c).after 7 t) ∗ owns (c : Thread nD τ) (win0_8.stage (cfg0.slots t 8)) fullShare ((K.dat c).after 8 t) ∗ owns (c : Thread nD τ) (win0_9.stage (cfg0.slots t 9)) fullShare ((K.dat c).after 9 t) ∗ (∃ X, ⌜K.Rl c 10 t X⌝ ∗ owns (c : Thread nD τ) (win0_10.stage (cfg0.slots t 10)) fullShare X) ∗ (∃ X, ⌜K.Rl c 11 t X⌝ ∗ owns (c : Thread nD τ) (win0_11.stage (cfg0.slots t 11)) fullShare X) ∗ (∃ X, ⌜K.Rl c 12 t X⌝ ∗ owns (c : Thread nD τ) (win0_12.stage (cfg0.slots t 12)) fullShare X) ∗ (∃ X, ⌜K.Rl c 13 t X⌝ ∗ owns (c : Thread nD τ) (win0_13.stage (cfg0.slots t 13)) fullShare X))

set_option maxHeartbeats 9600000 in
/-- The body at the first point. -/
theorem sound_first (K : Kept m) (c : Dev nD) (t : Fin cfg0.N) (h0 : t.val % 32 = 0) :
    bodyPre K c t ⊢ wp frame (wpE (defs₀ (F := F)) Variants.none c none) Set.univ (bodyAt0 t) (fun _ => bodyPost K c t) := by
    unfold bodyPre bodyPost bodyAt0
    simp only [K.before_0, K.before_1, K.before_2, K.before_3, K.before_4, K.before_5, K.before_6, K.before_7, K.before_8, K.before_9]
    rw [show (K.dat c).owesAt () t.succ = (K.dat c).owesAt () t.castSucc from rfl, K.after_0, K.after_1, K.after_2, K.after_3, K.after_4, K.after_5, K.after_6, K.after_7, K.after_8, K.after_9,
      K.Phi_succ, K.Phi_pos c (t.val + 1) _ (by omega)]
    have hN : t.val < 32 := lt_of_lt_of_eq t.isLt (show cfg0.N = 32 from N_0)
    rw [K.Phi_castSucc c t, K.Phi_zero c _ _ (by omega), PhiA_eq]
    iintro ⟨⟨⟨⟨%s15, HS15⟩, ⟨%s16, HS16⟩, ⟨%s17, HS17⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%y11, %hy11, H111⟩, ⟨%y12, %hy12, H112⟩, ⟨%y13, %hy13, H113⟩, ⟨%y14, %hy14, H114⟩⟩
    obtain ⟨gS, g11, g12, g13, g14⟩ := K.stepA c t h0 y14 s16
    iapply ((atA m c t h0 y14 s16).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H111]; · iexists _; iexact H111
    isplitl [H112]; · iexists _; iexact H112
    isplitl [H113]; · iexists _; iexact H113
    isplitl [H114]; · iexact H114
    isplitl [HS15]; · iexists _; iexact HS15
    isplitl [HS16]; · iexact HS16
    isplitl [HS17]; · iexists _; iexact HS17
    iintro ⟨H0, H1, H2, H3, H4, H5, H6, H7, H8, H9, ⟨%e11, H111⟩, ⟨%e12, H112⟩, ⟨%e13, H113⟩, ⟨%e14, H114⟩, HS15, HS16, ⟨%e17, HS17⟩⟩
    isplitl [HS15 HS16 HS17 Hg]
    · isplitl [HS15 HS16 HS17]
      · isplitl [HS15]; · iexact HS15
        isplitl [HS16]; · iexact HS16
        iexists (outA_17 m c t h0 y14 s16)
        isplitr; · ipureintro; exact gS
        unfold owns; iexists _; isplitr
        swap; · iexact HS17
        ipureintro; exact View.read_writes_eq_canon _ _ _ (coverA_17 m c t h0 y14 s16)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H111]
    · iexists _; isplitr
      · ipureintro; exact g11
      unfold owns; iexists _; isplitr
      swap; · iexact H111
      ipureintro; exact View.read_writes_eq_canon _ _ _ (coverA_11 m c t h0 y14 s16)
    isplitl [H112]
    · iexists _; isplitr
      · ipureintro; exact g12
      unfold owns; iexists _; isplitr
      swap; · iexact H112
      ipureintro; exact View.read_writes_eq_canon _ _ _ (coverA_12 m c t h0 y14 s16)
    isplitl [H113]
    · iexists _; isplitr
      · ipureintro; exact g13
      unfold owns; iexists _; isplitr
      swap; · iexact H113
      ipureintro; exact View.read_writes_eq_canon _ _ _ (coverA_13 m c t h0 y14 s16)
    · iexists _; isplitr
      · ipureintro; exact g14
      unfold owns; iexists _; isplitr
      swap; · iexact H114
      ipureintro; exact View.read_writes_eq_canon _ _ _ (coverA_14 m c t h0 y14 s16)

set_option maxHeartbeats 9600000 in
/-- The body at a later point. -/
theorem sound_later (K : Kept m) (c : Dev nD) (t : Fin cfg0.N) (h0 : ¬ t.val % 32 = 0) :
    bodyPre K c t ⊢ wp frame (wpE (defs₀ (F := F)) Variants.none c none) Set.univ (bodyAt0 t) (fun _ => bodyPost K c t) := by
    unfold bodyPre bodyPost bodyAt0
    simp only [K.before_0, K.before_1, K.before_2, K.before_3, K.before_4, K.before_5, K.before_6, K.before_7, K.before_8, K.before_9]
    rw [show (K.dat c).owesAt () t.succ = (K.dat c).owesAt () t.castSucc from rfl, K.after_0, K.after_1, K.after_2, K.after_3, K.after_4, K.after_5, K.after_6, K.after_7, K.after_8, K.after_9,
      K.Phi_succ, K.Phi_pos c (t.val + 1) _ (by omega)]
    have hN : t.val < 32 := lt_of_lt_of_eq t.isLt (show cfg0.N = 32 from N_0)
    rw [K.Phi_castSucc c t, K.Phi_pos c _ _ (by omega)]
    iintro ⟨⟨⟨⟨%s15, HS15⟩, ⟨%s16, HS16⟩, ⟨%s17, %hS, HS17⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%y11, %hy11, H111⟩, ⟨%y12, %hy12, H112⟩, ⟨%y13, %hy13, H113⟩, ⟨%y14, %hy14, H114⟩⟩
    obtain ⟨gS, g11, g12, g13, g14⟩ := K.stepB c t h0 y14 s16 s17 hS
    iapply ((atB m c t h0 y14 s16 s17).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H111]; · iexists _; iexact H111
    isplitl [H112]; · iexists _; iexact H112
    isplitl [H113]; · iexists _; iexact H113
    isplitl [H114]; · iexact H114
    isplitl [HS15]; · iexists _; iexact HS15
    isplitl [HS16]; · iexact HS16
    isplitl [HS17]; · iexact HS17
    iintro ⟨H0, H1, H2, H3, H4, H5, H6, H7, H8, H9, ⟨%e11, H111⟩, ⟨%e12, H112⟩, ⟨%e13, H113⟩, ⟨%e14, H114⟩, HS15, HS16, HS17⟩
    isplitl [HS15 HS16 HS17 Hg]
    · isplitl [HS15 HS16 HS17]
      · isplitl [HS15]; · iexact HS15
        isplitl [HS16]; · iexact HS16
        iexists s17
        isplitr; · ipureintro; exact gS
        iexact HS17
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H111]
    · iexists _; isplitr
      · ipureintro; exact g11
      unfold owns; iexists _; isplitr
      swap; · iexact H111
      ipureintro; exact View.read_writes_eq_canon _ _ _ (coverB_11 m c t h0 y14 s16 s17)
    isplitl [H112]
    · iexists _; isplitr
      · ipureintro; exact g12
      unfold owns; iexists _; isplitr
      swap; · iexact H112
      ipureintro; exact View.read_writes_eq_canon _ _ _ (coverB_12 m c t h0 y14 s16 s17)
    isplitl [H113]
    · iexists _; isplitr
      · ipureintro; exact g13
      unfold owns; iexists _; isplitr
      swap; · iexact H113
      ipureintro; exact View.read_writes_eq_canon _ _ _ (coverB_13 m c t h0 y14 s16 s17)
    · iexists _; isplitr
      · ipureintro; exact g14
      unfold owns; iexists _; isplitr
      swap; · iexact H114
      ipureintro; exact View.read_writes_eq_canon _ _ _ (coverB_14 m c t h0 y14 s16 s17)

theorem sound_body (K : Kept m) (c : Dev nD) (t : Fin cfg0.N) :
    bodyPre K c t ⊢ wp frame (wpE (defs₀ (F := F)) Variants.none c none) Set.univ (bodyAt0 t) (fun _ => bodyPost K c t) := by
  by_cases h0 : t.val % 32 = 0
  · exact sound_first K c t h0
  · exact sound_later K c t h0

theorem defs₀_row (t : Fin cfg0.N) :
    defs₀ (F := F) .tc cfg0.body (cfg0.bodyArgs t (cfg0.slots t)) = bodyAt0 t := by
  unfold defs₀; rw [Defs.onTc_tc]

theorem body_obligation (K : Kept m) (c : Dev nD) :
    Pipeline.BodyObligationRel (K.dat c) (defs₀ (F := F)) Variants.none () Set.univ marked (K.Rl c) := fun t => by
  rw [bigSep_W0, bigSep_W0, defs₀_row]
  exact triple_restated (sound_body K c t) rfl .rfl fun _ => .rfl

theorem hin (K : Kept m) (c : Dev nD) : Pipeline.ΦA spec0 c ⊢ (K.rdat c).Φ 0 := by
  rw [show (K.rdat c).Φ 0 = K.Phi c 0 (Nat.zero_le _) from rfl, K.Phi_zero c 0 _ rfl]
  try exact Idealize.SL.BI.Entails.refl _

theorem hout (K : Kept m) (c : Dev nD) : (K.rdat c).Φ (Fin.last cfg0.N) ⊢ Pipeline.ΦA spec0 c := by
  rw [show (K.rdat c).Φ (Fin.last cfg0.N) = K.Phi c cfg0.N le_rfl from rfl,
    K.Phi_pos c _ _ (by have : cfg0.N = 32 := N_0; omega), PhiA_eq]
  iintro ⟨⟨HS15, HS16, ⟨%s17, -, HS17⟩⟩, Hg⟩
  isplitr [Hg]
  · isplitl [HS15]; · iexact HS15
    isplitl [HS16]; · iexact HS16
    iexists _; iexact HS17
  iexact Hg

set_option backward.isDefEq.respectTransparency.types false in
/-- The run of the call: it ends with nothing in flight, and of each result's array what was kept of its blocks holds. -/
theorem run_main_quiescent (K : Kept m) : θ_run defs (onTc (τ := τ) (main (F := F))) (s₀ m ρ)
    (fun r => Pipeline.RDat.FramePost cfg0 K.rdat (V m) r ∧ r.2.sem = fun _ => 0) :=
  Pipeline.RDat.θ_run_frame_track_shared (Q' := _) cfgs (0 : Fin 1) launch₀0 defs₀ Variants.none K.rdat m ρ main
    (hbody := fun c => (body_obligation K c).toRRel) (hq := fun _ _ _ => rfl)
    (howed := fun _ _ => rfl) (V := V m) (hmain := hmain m Variants.none) (hA := K.A_eq) (hin := hin K) (hout := hout K)
    (hQ' := fun _ h => h)

set_option maxHeartbeats 4000000 in
set_option backward.isDefEq.respectTransparency.types false in
/-- After the run the arguments hold what they held. -/
theorem args_kept (K : Kept m) (r : PUnit × MemSt nD τ sig (Elt F)) (h : Pipeline.RDat.FramePost cfg0 K.rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h.arr_in c 1 rfl).trans ((K.A_eq c 1).trans (V_main_arg0 m c))
   , ((h c).2 main_arg1 (Pipeline.mem_restRefs_of main_arg1 (by decide) (by decide))).trans (V_main_arg1 m c)
   , (h.arr_in c 3 rfl).trans ((K.A_eq c 3).trans (V_main_arg2 m c))
   , (h.arr_in c 4 rfl).trans ((K.A_eq c 4).trans (V_main_arg3 m c))
   , (h.arr_in c 5 rfl).trans ((K.A_eq c 5).trans (V_main_arg4 m c))
   , (h.arr_in c 6 rfl).trans ((K.A_eq c 6).trans (V_main_arg5 m c))
   , (h.arr_in c 7 rfl).trans ((K.A_eq c 7).trans (V_main_arg6 m c))
   , (h.arr_in c 8 rfl).trans ((K.A_eq c 8).trans (V_main_arg7 m c))
   , (h.arr_in c 9 rfl).trans ((K.A_eq c 9).trans (V_main_arg8 m c))
   ⟩

variable (m)

/-- A proof that keeps nothing. -/
def keepNothing : Kept m where
  S _ _ _ := True
  R10 _ _ _ := True
  R11 _ _ _ := True
  R12 _ _ _ := True
  R13 _ _ _ := True
  stepA := by intros; exact ⟨trivial, trivial, trivial, trivial, trivial⟩
  stepB := by intros; exact ⟨trivial, trivial, trivial, trivial, trivial⟩

/-- The call ends with its arguments unchanged and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_kept (keepNothing m) r h.1 c, h.2⟩) (run_main_quiescent ρ (keepNothing m))

end Cert.Kernel6Ideal.Fwd

end
-- ==== Proof.FwdFinal.lean ====
module

public import proofs.«01_k».proof.Proof.FwdBlocks
public import proofs.«01_k».proof.Proof.FwdBody

@[expose] public section

set_option maxRecDepth 16384

noncomputable section

/-! The four arrays of the convolution mixer's forward call (call 6) after the run, at the real numbers. -/

open Idealize.ShloMosaic Idealize.ShloMosaic.TcCoe Idealize.SL.Sem
open Idealize.ShloMosaic.Pipeline (Dat)

namespace Cert.Kernel6Ideal.Fwd

open Cert.Kernel6Ideal Cert.Kernel6Ideal.Gen Cert.Reference6Ideal.Read

variable (m : (ℓ : Loc nD τ sig) → Buf (Elt Ideal) ℓ) (ρ : Dev nD → PrngReg)

/-- The reference's results. -/
abbrev refU (c : Dev nD) := val_main_v293 (F := Ideal) (A0 m c) (A4 m c) (A5 m c) (A6 m c) (A7 m c) (A8 m c)
abbrev refX (c : Dev nD) := val_main_v306 (F := Ideal) (A0 m c) (A1 m c) (A2 m c) (A3 m c) (A4 m c) (A5 m c) (A6 m c) (A7 m c) (A8 m c)
abbrev refY (c : Dev nD) := val_main_v292 (F := Ideal) (A0 m c) (A1 m c) (A4 m c) (A5 m c) (A6 m c) (A7 m c) (A8 m c)
abbrev refC (c : Dev nD) := val_main_v230 (F := Ideal) (A0 m c) (A5 m c) (A6 m c)

theorem taps_eq (c : Dev nD) (t : Fin cfg0.N) (b : Vec Ideal S31x8x1024 .f32) : Taps (iblk m c 6 t) b ↔ Taps (A5 m c) b := by
  unfold Taps
  rw [tap6]

/-- Kept are the weights, once the first point has stored them, and each tile of the results at the reference's rows. -/
def keepRows : Kept m where
  S c _ b := Taps (A5 m c) b
  R10 c t X := ∀ (n : Fin 128) (k : Fin 2048), X (ix2 n k) = refU m c (ix2 (row t n) k)
  R11 c t X := ∀ (n : Fin 128) (k : Fin 2048), X (ix2 n k) = refX m c (ix2 (row t n) k)
  R12 c t X := ∀ (n : Fin 128) (k : Fin 2048), X (ix2 n k) = refY m c (ix2 (row t n) k)
  R13 c t X := ∀ (n : Fin 128) (k : Fin 1024), X (ix2 n k) = refC m c (ix2 (row t n) k)
  stepA c t h b14 b16 := ⟨(taps_eq m c t _).mp (outA_17_at m c t h b14 b16),
    fun n k => (outA_11_at m c t h b14 b16 n k).trans (point_u m c t n k), fun n k => (outA_12_at m c t h b14 b16 n k).trans (point_x m c t n k),
    fun n k => (outA_13_at m c t h b14 b16 n k).trans (point_y m c t n k), fun n k => (outA_14_at m c t h b14 b16 n k).trans (point_c m c t n k)⟩
  stepB c t h b14 b16 b17 h17 := ⟨h17,
    fun n k => (outB_11_at m c t h b14 b16 b17 ((taps_eq m c t b17).mpr h17) n k).trans (point_u m c t n k),
    fun n k => (outB_12_at m c t h b14 b16 b17 ((taps_eq m c t b17).mpr h17) n k).trans (point_x m c t n k),
    fun n k => (outB_13_at m c t h b14 b16 b17 ((taps_eq m c t b17).mpr h17) n k).trans (point_y m c t n k),
    fun n k => (outB_14_at m c t h b14 b16 b17 ((taps_eq m c t b17).mpr h17) n k).trans (point_c m c t n k)⟩

abbrev Rows (after : (w : Fin cfg0.W) → Fin cfg0.N → (cfg0.win w).block.Idx → Elt Ideal (cfg0.win w).elt) (c : Dev nD) : Prop :=
  ∀ (w : Fin cfg0.W) (u : Fin cfg0.N), (cfg0.win w).flush u = true → ((keepRows m).rdat c).Leaves w u (after w u)

section

variable (c : Dev nD) (after : (w : Fin cfg0.W) → Fin cfg0.N → (cfg0.win w).block.Idx → Elt Ideal (cfg0.win w).elt) (hL : Rows m after c)

include hL

theorem final_u : (((keepRows m).rdat c).withAfter after).arrAt 10 cfg0.N = refU m c := by
  refine Dat.arrAt_eq_of_covers _ 10 _ (by decide +kernel) fun t hf y => ?_
  have h : ∀ (n : Fin 128) (k : Fin 2048), after 10 t (ix2 n k) = refU m c (ix2 (row t n) k) := Pipeline.Dat.toRRel_leaves _ (by rfl) (hL 10 t hf)
  blk_simp
  rw [Pipeline.RDat.withAfter_after]
  have he : (win0_10.blk t).view.emb y = ix2 (row t (y 0)) (y 1) := by blk_ext [idx t]
  rw [he]
  exact (congrArg (after 10 t) (eq_ix2 y)).trans (h (y 0) (y 1))

theorem final_x : (((keepRows m).rdat c).withAfter after).arrAt 11 cfg0.N = refX m c := by
  refine Dat.arrAt_eq_of_covers _ 11 _ (by decide +kernel) fun t hf y => ?_
  have h : ∀ (n : Fin 128) (k : Fin 2048), after 11 t (ix2 n k) = refX m c (ix2 (row t n) k) := Pipeline.Dat.toRRel_leaves _ (by rfl) (hL 11 t hf)
  blk_simp
  rw [Pipeline.RDat.withAfter_after]
  have he : (win0_11.blk t).view.emb y = ix2 (row t (y 0)) (y 1) := by blk_ext [idx t]
  rw [he]
  exact (congrArg (after 11 t) (eq_ix2 y)).trans (h (y 0) (y 1))

theorem final_y : (((keepRows m).rdat c).withAfter after).arrAt 12 cfg0.N = refY m c := by
  refine Dat.arrAt_eq_of_covers _ 12 _ (by decide +kernel) fun t hf y => ?_
  have h : ∀ (n : Fin 128) (k : Fin 2048), after 12 t (ix2 n k) = refY m c (ix2 (row t n) k) := Pipeline.Dat.toRRel_leaves _ (by rfl) (hL 12 t hf)
  blk_simp
  rw [Pipeline.RDat.withAfter_after]
  have he : (win0_12.blk t).view.emb y = ix2 (row t (y 0)) (y 1) := by blk_ext [idx t]
  rw [he]
  exact (congrArg (after 12 t) (eq_ix2 y)).trans (h (y 0) (y 1))

theorem final_c : (((keepRows m).rdat c).withAfter after).arrAt 13 cfg0.N = refC m c := by
  refine Dat.arrAt_eq_of_covers _ 13 _ (by decide +kernel) fun t hf y => ?_
  have h : ∀ (n : Fin 128) (k : Fin 1024), after 13 t (ix2 n k) = refC m c (ix2 (row t n) k) := Pipeline.Dat.toRRel_leaves _ (by rfl) (hL 13 t hf)
  blk_simp
  rw [Pipeline.RDat.withAfter_after]
  have he : (win0_13.blk t).view.emb y = ix2 (row t (y 0)) (y 1) := by blk_ext [idx t]
  rw [he]
  exact (congrArg (after 13 t) (eq_ix2 y)).trans (h (y 0) (y 1))

end

/-- The call leaves the reference's values in its results and its arguments as they were. -/
theorem run_values : θ_run defs (onTc (τ := τ) (main (F := Ideal))) ⟨m, fun _ => 0, ρ⟩ (fun r => ∀ c : Dev nD,
      r.2.mem ((c.tc : Thread nD τ).loc main_v1_0) = refU m c ∧ r.2.mem ((c.tc : Thread nD τ).loc main_v1_1) = refX m c
      ∧ r.2.mem ((c.tc : Thread nD τ).loc main_v1_2) = refY m c ∧ r.2.mem ((c.tc : Thread nD τ).loc main_v1_3) = refC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain ⟨after, hL, hA⟩ := h.1.exists_exact c
    exact ⟨(hA 10).trans (final_u m c after hL), (hA 11).trans (final_x m c after hL), (hA 12).trans (final_y m c after hL), (hA 13).trans (final_c m c after hL),
      args_kept (keepRows m) r h.1 c⟩) (run_main_quiescent ρ (keepRows m))

end Cert.Kernel6Ideal.Fwd

end
-- ==== Proof.FwdBits.lean ====
module

public import proofs.«01_k».proof.Proof.FwdBody
public import proofs.«01_k».proof.Proof.Gen.Kernel6.Frame

@[expose] public section

set_option maxRecDepth 16384

noncomputable section

/-! The convolution mixer's forward kernel as it is printed and its idealized form are one text, so the run of the one is the
run of the other. -/

namespace Cert.Kernel6.Fwd

open Idealize.ShloMosaic Idealize.ShloMosaic.TcCoe Idealize.ShloMosaic.Tactic Idealize.SL.Sem
open Gen

variable {F : FTy → Type} [FloatOps F]

/-- The statement that the call ends with its arguments unchanged and nothing in flight, of the printed program. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)

end Cert.Kernel6.Fwd

namespace Cert.Kernel6Ideal.Fwd

open Idealize.ShloMosaic Idealize.ShloMosaic.TcCoe Idealize.ShloMosaic.Tactic Idealize.SL.Sem
open Gen

/-- The same of its idealized form. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)

theorem frame_same (F : FTy → Type) [FloatOps F] : Frame F = Cert.Kernel6.Fwd.Frame F := by sl_kernel_rfl

/-- The printed call ends with its arguments unchanged and nothing in flight. -/
theorem frame_bits (F : FTy → Type) [FloatOps F] : Cert.Kernel6.Fwd.Frame F :=
  frame_same F ▸ fun m ρ => frame m ρ

end Cert.Kernel6Ideal.Fwd

end
-- ==== Proof.FwdClaims.lean ====
/- The claims about the convolution mixer's forward call (call 6). -/
module

public import proofs.«01_k».proof.Defs
public import proofs.«01_k».proof.Proof.Gen.Reference6Ideal.Run
public import proofs.«01_k».proof.Proof.Gen.Reference6Ideal.Read
public import proofs.«01_k».proof.Proof.FwdFinal
public import proofs.«01_k».proof.Proof.FwdBits

@[expose] public section

set_option maxRecDepth 16384

noncomputable section

open Idealize.ShloMosaic Idealize.ShloMosaic.TcCoe Idealize.SL.Sem

namespace Cert.Reference6Ideal

open Cert.Reference6Ideal.Gen Cert.Reference6Ideal.Read

variable (m : (ℓ : Loc nD τ sig) → Buf (Elt Ideal) ℓ)

abbrev B (c : Dev nD) (b : Ref sig .tc) := m ((c.tc : Thread nD τ).loc b)

/-- The reference's run: each result is its last stage over the arguments, and the arguments are as they were. -/
theorem run_stages (ρ : Dev nD → PrngReg) :
    θ_run defs (onTc (τ := τ) (main (F := Ideal))) ⟨m, fun _ => 0, ρ⟩ fun r => ∀ c : Dev nD,
      r.2.mem ((c.tc : Thread nD τ).loc main_v293) = val_main_v293 (F := Ideal) (B m c main_arg0) (B m c main_arg4) (B m c main_arg5) (B m c main_arg6) (B m c main_arg7) (B m c main_arg8)
      ∧ r.2.mem ((c.tc : Thread nD τ).loc main_v306) = val_main_v306 (F := Ideal) (B m c main_arg0) (B m c main_arg1) (B m c main_arg2) (B m c main_arg3) (B m c main_arg4) (B m c main_arg5) (B m c main_arg6) (B m c main_arg7) (B m c main_arg8)
      ∧ r.2.mem ((c.tc : Thread nD τ).loc main_v292) = val_main_v292 (F := Ideal) (B m c main_arg0) (B m c main_arg1) (B m c main_arg4) (B m c main_arg5) (B m c main_arg6) (B m c main_arg7) (B m c main_arg8)
      ∧ r.2.mem ((c.tc : Thread nD τ).loc main_v230) = val_main_v230 (F := Ideal) (B m c main_arg0) (B m c main_arg5) (B m c main_arg6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (Read.val_main_v293_eq _), (h c).2.1.trans (Read.val_main_v306_eq _),
      (h c).2.2.1.trans (Read.val_main_v292_eq _), (h c).2.2.2.1.trans (Read.val_main_v230_eq _), (h c).2.2.2.2⟩) (Value.run m ρ)

end Cert.Reference6Ideal

namespace Cert.Kernel6Claims

/-- The reference runs, leaves its arguments as they were and every semaphore at zero. -/
theorem frame_reference : Cert.quiescent_Reference6Ideal := fun m g _ =>
  (θ_run _ _ _).mono (fun r h => ⟨fun c => (h c).2.2.2.2, sem_eq_zero_of_no_sems (by decide) r.2⟩)
    (Cert.Reference6Ideal.run_stages m g)

/-- The kernel at the real numbers and the reference leave the same arrays from the same arguments. -/
theorem algebraic : Cert.algebraic_Kernel6Ideal_Reference6Ideal := fun m g m' g' _ ha =>
  ⟨Cert.Kernel6Ideal.Fwd.refU m, Cert.Kernel6Ideal.Fwd.refX m, Cert.Kernel6Ideal.Fwd.refY m, Cert.Kernel6Ideal.Fwd.refC m,
    Cert.Kernel6Ideal.Fwd.run_values m g,
    (θ_run _ _ _).mono (fun r h c => by
      obtain ⟨a0, a1, a2, a3, a4, a5, a6, a7, a8⟩ := ha c
      obtain ⟨hu, hx, hy, hc, hk⟩ := h c
      exact ⟨hu.trans (by unfold Cert.Reference6Ideal.B; rw [a0, a4, a5, a6, a7, a8]), hx.trans (by unfold Cert.Reference6Ideal.B; rw [a0, a1, a2, a3, a4, a5, a6, a7, a8]),
        hy.trans (by unfold Cert.Reference6Ideal.B; rw [a0, a1, a4, a5, a6, a7, a8]), hc.trans (by unfold Cert.Reference6Ideal.B; rw [a0, a5, a6]), hk⟩) (Cert.Reference6Ideal.run_stages m' g')⟩

/-- The frames of the two programs and of the reference. -/
theorem frames : Cert.quiescent_Kernel6 ∧ Cert.quiescent_Kernel6Ideal ∧ Cert.quiescent_Reference6Ideal :=
  ⟨fun m g _ => Cert.Kernel6Ideal.Fwd.frame_bits _ m g, fun m g _ => Cert.Kernel6Ideal.Fwd.frame m g, frame_reference⟩

end Cert.Kernel6Claims

end
-- ==== Proof.EvenPoints.lean ====
module

public import proofs.«01_k».proof.Proof.Gen.Kernel5Ideal.Loops
public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! The two tests the body of the convolution mixer's backward kernel makes of its grid point. -/

namespace Cert.Kernel5Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

/-- The grid point is the first: the body's own test. -/
abbrev FirstPt (i : grid0.Coords) : Prop :=
  (Scalar.cmpi .ne (Scalar.extui (Scalar.cmpi .eq (BitVec.ofNat 32 (i 0).val) 0#32)) 0#32) = 1#1

/-- The test holds at point 0 alone. -/
theorem firstPt : ∀ t : Fin cfg0.N, FirstPt (grid0.coords t) ↔ t.val % 32 = 0 :=
  (fun t => by
  have ht : t.val < 32 := Nat.lt_of_lt_of_eq t.isLt N_0
  have e0 : (grid0.coords t 0).val = t.val / 1 % 32 := Pipeline.Grid.coords_val t 0 (by decide) rfl
  simp only [FirstPt, e0]
  word_cmp : ∀ t : Fin grid0.N, FirstPt (grid0.coords t) ↔ t.val % 32 = 0)

/-- The grid point is the last, the one whose block of rows is the array's first: the body's own test. -/
abbrev LastPt (i : grid0.Coords) : Prop := k0_cond3 i = 1#1

/-- The test holds at point 31 alone. -/
theorem lastPt : ∀ t : Fin cfg0.N, LastPt (grid0.coords t) ↔ t.val % 32 = 31 :=
  (fun t => by
  have ht : t.val < 32 := Nat.lt_of_lt_of_eq t.isLt N_0
  have e0 : (grid0.coords t 0).val = t.val / 1 % 32 := Pipeline.Grid.coords_val t 0 (by decide) rfl
  simp only [LastPt, k0_cond3, e0]
  word_cmp : ∀ t : Fin grid0.N, LastPt (grid0.coords t) ↔ t.val % 32 = 31)

end Cert.Kernel5Ideal.Even

end
-- ==== Proof.EvenRunA.lean ====
module

public import proofs.«01_k».proof.Proof.Gen.Kernel5Ideal.Loops
public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.EvenPoints

@[expose] public section

set_option maxRecDepth 16384

noncomputable section

/-! The body of the convolution mixer's backward kernel, run once at the first grid point. -/

namespace Cert.Kernel5Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

set_option maxHeartbeats 4400000 in
/-- The body run at the first point: from the inputs' blocks, any contents of the results' blocks and of the scratch buffers it
    comes to an end, with the stores each of those was left with (last first). The result written at the last point alone is
    handed back as it was. -/
noncomputable def runA (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S128x2048 .f32) (harg3 : arg3.IsWhole) (arg4 : Memref sig .tc .vmem S128x1024 .f32) (harg4 : arg4.IsWhole) (arg5 : Memref sig .tc .vmem S3x1024 .f32) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x7168 .bf16) (harg9 : arg9.IsWhole) (arg10 : Memref sig .tc .vmem S3x1024 .f32) (harg10 : arg10.IsWhole) (arg11 : Memref sig .tc .vmem S31x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S128x1024 .f32) (harg17 : arg17.IsWhole) (arg18 : Memref sig .tc .vmem S136x1024 .f32) (harg18 : arg18.IsWhole) (arg19 : Memref sig .tc .vmem S8x160x1024 .f32) (harg19 : arg19.IsWhole) (arg20 : Memref sig .tc .vmem S128x1024 .f32) (harg20 : arg20.IsWhole) (arg21 : Memref sig .tc .vmem S31x8x1024 .f32) (harg21 : arg21.IsWhole) (arg22 : Memref sig .tc .vmem S8x1024 .f32) (harg22 : arg22.IsWhole) (arg23 : Memref sig .tc .vmem S32x1024 .f32) (harg23 : arg23.IsWhole) (arg24 : Memref sig .tc .vmem S31x8x1024 .f32) (harg24 : arg24.IsWhole) (hc0 : FirstPt i) (hc1 : ¬ LastPt i)
    (x0 : Vec F S128x7168 .f32) (x1 : Vec F S32x7168 .f32) (x2 : Vec F S128x2048 .f32) (x3 : Vec F S128x1024 .f32) (x4 : Vec F S3x1024 .f32) (x5 : Vec F S31x1024 .f32) (x6 : Vec F S1x1024 .f32) (x7 : Vec F S1x1024 .f32) (b11 : Vec F S31x1024 .f32) (b16 : Vec F S8x160x1024 .f32) (b19 : Vec F S8x160x1024 .f32) :
    Σ' (L9 : List (View.Piece (Elt F) S128x7168 .bf16)), Σ' (L10 : List (View.Piece (Elt F) S3x1024 .f32)), Σ' (L12 : List (View.Piece (Elt F) S1x1024 .f32)), Σ' (L13 : List (View.Piece (Elt F) S1x1024 .f32)), Σ' (L14 : List (View.Piece (Elt F) S1x1024 .f32)), Σ' (L21 : List (View.Piece (Elt F) S31x8x1024 .f32)), Σ' (L22 : List (View.Piece (Elt F) S8x1024 .f32)), Σ' (L23 : List (View.Piece (Elt F) S32x1024 .f32)), { L24 : List (View.Piece (Elt F) S31x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare b11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare b16 ∗ (∃ d, owns (c : Thread nD τ) arg17 fullShare d) ∗ (∃ d, owns (c : Thread nD τ) arg18 fullShare d) ∗ owns (c : Thread nD τ) arg19 fullShare b19 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg11 fullShare b11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24)) -∗ K ⟨⟩))
          ⊢ wp frame (wpE (defs₀ (F := F)) Variants.none c none) E (cc0_e_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, fun E K => ?run⟩
  case run =>
    simp only [cc0_e_mixer_bwd_eq_skeleton]; unfold cc0_e_mixer_bwd_skel
    simp only [k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%d17, %f17, -, H17⟩, ⟨%d18, %f18, -, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf11; obtain rfl := harg16.eq_unread hf16; obtain rfl := harg19.eq_unread hf19
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [H10]; · iexists _; iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]; · iexists _; iexact H21
    isplitl [H22]; · iexists _; iexact H22
    isplitl [H23]; · iexists _; iexact H23
    iexists _; iexact H24

end Cert.Kernel5Ideal.Even

end
-- ==== Proof.EvenRunB.lean ====
module

public import proofs.«01_k».proof.Proof.Gen.Kernel5Ideal.Loops
public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.EvenPoints

@[expose] public section

set_option maxRecDepth 16384

noncomputable section

/-! The body of the convolution mixer's backward kernel, run once at a grid point between the first and the last. -/

namespace Cert.Kernel5Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

set_option maxHeartbeats 4400000 in
/-- The body run at a point between the first and the last: the accumulated blocks and the carried scratch as the point before
    left them. -/
noncomputable def runB (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S128x2048 .f32) (harg3 : arg3.IsWhole) (arg4 : Memref sig .tc .vmem S128x1024 .f32) (harg4 : arg4.IsWhole) (arg5 : Memref sig .tc .vmem S3x1024 .f32) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x7168 .bf16) (harg9 : arg9.IsWhole) (arg10 : Memref sig .tc .vmem S3x1024 .f32) (harg10 : arg10.IsWhole) (arg11 : Memref sig .tc .vmem S31x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S128x1024 .f32) (harg17 : arg17.IsWhole) (arg18 : Memref sig .tc .vmem S136x1024 .f32) (harg18 : arg18.IsWhole) (arg19 : Memref sig .tc .vmem S8x160x1024 .f32) (harg19 : arg19.IsWhole) (arg20 : Memref sig .tc .vmem S128x1024 .f32) (harg20 : arg20.IsWhole) (arg21 : Memref sig .tc .vmem S31x8x1024 .f32) (harg21 : arg21.IsWhole) (arg22 : Memref sig .tc .vmem S8x1024 .f32) (harg22 : arg22.IsWhole) (arg23 : Memref sig .tc .vmem S32x1024 .f32) (harg23 : arg23.IsWhole) (arg24 : Memref sig .tc .vmem S31x8x1024 .f32) (harg24 : arg24.IsWhole) (hc0 : ¬ FirstPt i) (hc1 : ¬ LastPt i)
    (x0 : Vec F S128x7168 .f32) (x1 : Vec F S32x7168 .f32) (x2 : Vec F S128x2048 .f32) (x3 : Vec F S128x1024 .f32) (x4 : Vec F S3x1024 .f32) (x5 : Vec F S31x1024 .f32) (x6 : Vec F S1x1024 .f32) (x7 : Vec F S1x1024 .f32) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) :
    Σ' (L9 : List (View.Piece (Elt F) S128x7168 .bf16)), Σ' (L10 : List (View.Piece (Elt F) S3x1024 .f32)), Σ' (L12 : List (View.Piece (Elt F) S1x1024 .f32)), Σ' (L13 : List (View.Piece (Elt F) S1x1024 .f32)), Σ' (L14 : List (View.Piece (Elt F) S1x1024 .f32)), Σ' (L21 : List (View.Piece (Elt F) S31x8x1024 .f32)), Σ' (L22 : List (View.Piece (Elt F) S8x1024 .f32)), { L23 : List (View.Piece (Elt F) S32x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare b10 ∗ owns (c : Thread nD τ) arg11 fullShare b11 ∗ owns (c : Thread nD τ) arg12 fullShare b12 ∗ owns (c : Thread nD τ) arg13 fullShare b13 ∗ owns (c : Thread nD τ) arg14 fullShare b14 ∗ (∃ d, owns (c : Thread nD τ) arg15 fullShare d) ∗ owns (c : Thread nD τ) arg16 fullShare b16 ∗ (∃ d, owns (c : Thread nD τ) arg17 fullShare d) ∗ (∃ d, owns (c : Thread nD τ) arg18 fullShare d) ∗ owns (c : Thread nD τ) arg19 fullShare b19 ∗ (∃ d, owns (c : Thread nD τ) arg20 fullShare d) ∗ owns (c : Thread nD τ) arg21 fullShare b21 ∗ owns (c : Thread nD τ) arg22 fullShare b22 ∗ owns (c : Thread nD τ) arg23 fullShare b23 ∗ owns (c : Thread nD τ) arg24 fullShare b24
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg11 fullShare b11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (arg21.view.loc (c : Thread nD τ) ↦[arg21.view.set]{fullShare} arg21.view.writes (Elt F) (harg21.unread b21) L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ owns (c : Thread nD τ) arg24 fullShare b24) -∗ K ⟨⟩))
          ⊢ wp frame (wpE (defs₀ (F := F)) Variants.none c none) E (cc0_e_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, fun E K => ?run⟩
  case run =>
    simp only [cc0_e_mixer_bwd_eq_skeleton]; unfold cc0_e_mixer_bwd_skel
    simp only [k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%d17, %f17, -, H17⟩, ⟨%d18, %f18, -, H18⟩, ⟨%f19, %hf19, H19⟩, ⟨%d20, %f20, -, H20⟩, ⟨%f21, %hf21, H21⟩, ⟨%f22, %hf22, H22⟩, ⟨%f23, %hf23, H23⟩, ⟨%f24, %hf24, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf10; obtain rfl := harg11.eq_unread hf11; obtain rfl := harg12.eq_unread hf12; obtain rfl := harg13.eq_unread hf13; obtain rfl := harg14.eq_unread hf14; obtain rfl := harg16.eq_unread hf16; obtain rfl := harg19.eq_unread hf19; obtain rfl := harg21.eq_unread hf21; obtain rfl := harg22.eq_unread hf22; obtain rfl := harg23.eq_unread hf23; obtain rfl := harg24.eq_unread hf24
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [H10]; · iexists _; iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]; · iexact H21
    isplitl [H22]; · iexists _; iexact H22
    isplitl [H23]; · iexists _; iexact H23
    iexists _; isplitr; · ipureintro; exact harg24.read_unread _
    iexact H24

end Cert.Kernel5Ideal.Even

end
-- ==== Proof.EvenRunC.lean ====
module

public import proofs.«01_k».proof.Proof.Gen.Kernel5Ideal.Loops
public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.EvenPoints

@[expose] public section

set_option maxRecDepth 16384

noncomputable section

/-! The body of the convolution mixer's backward kernel, run once at the last grid point. -/

namespace Cert.Kernel5Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

set_option maxHeartbeats 4400000 in
/-- The body run at the last point, which also sums the weights' gradient over the sublanes. -/
noncomputable def runC (c : Dev nD) (i : grid0.Coords) (arg1 : Memref sig .tc .vmem S128x7168 .f32) (harg1 : arg1.IsWhole) (arg2 : Memref sig .tc .vmem S32x7168 .f32) (harg2 : arg2.IsWhole) (arg3 : Memref sig .tc .vmem S128x2048 .f32) (harg3 : arg3.IsWhole) (arg4 : Memref sig .tc .vmem S128x1024 .f32) (harg4 : arg4.IsWhole) (arg5 : Memref sig .tc .vmem S3x1024 .f32) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x7168 .bf16) (harg9 : arg9.IsWhole) (arg10 : Memref sig .tc .vmem S3x1024 .f32) (harg10 : arg10.IsWhole) (arg11 : Memref sig .tc .vmem S31x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S136x1024 .f32) (harg15 : arg15.IsWhole) (arg16 : Memref sig .tc .vmem S8x160x1024 .f32) (harg16 : arg16.IsWhole) (arg17 : Memref sig .tc .vmem S128x1024 .f32) (harg17 : arg17.IsWhole) (arg18 : Memref sig .tc .vmem S136x1024 .f32) (harg18 : arg18.IsWhole) (arg19 : Memref sig .tc .vmem S8x160x1024 .f32) (harg19 : arg19.IsWhole) (arg20 : Memref sig .tc .vmem S128x1024 .f32) (harg20 : arg20.IsWhole) (arg21 : Memref sig .tc .vmem S31x8x1024 .f32) (harg21 : arg21.IsWhole) (arg22 : Memref sig .tc .vmem S8x1024 .f32) (harg22 : arg22.IsWhole) (arg23 : Memref sig .tc .vmem S32x1024 .f32) (harg23 : arg23.IsWhole) (arg24 : Memref sig .tc .vmem S31x8x1024 .f32) (harg24 : arg24.IsWhole) (hc0 : ¬ FirstPt i) (hc1 : LastPt i)
    (x0 : Vec F S128x7168 .f32) (x1 : Vec F S32x7168 .f32) (x2 : Vec F S128x2048 .f32) (x3 : Vec F S128x1024 .f32) (x4 : Vec F S3x1024 .f32) (x5 : Vec F S31x1024 .f32) (x6 : Vec F S1x1024 .f32) (x7 : Vec F S1x1024 .f32) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) :
    Σ' (L9 : List (View.Piece (Elt F) S128x7168 .bf16)), Σ' (L10 : List (View.Piece (Elt F) S3x1024 .f32)), Σ' (L11 : List (View.Piece (Elt F) S31x1024 .f32)), Σ' (L12 : List (View.Piece (Elt F) S1x1024 .f32)), Σ' (L13 : List (View.Piece (Elt F) S1x1024 .f32)), Σ' (L14 : List (View.Piece (Elt F) S1x1024 .f32)), Σ' (L21 : List (View.Piece (Elt F) S31x8x1024 .f32)), Σ' (L22 : List (View.Piece (Elt F) S8x1024 .f32)), { L23 : List (View.Piece (Elt F) S32x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare b10 ∗ (∃ d, owns (c : Thread nD τ) arg11 fullShare d) ∗ owns (c : Thread nD τ) arg12 fullShare b12 ∗ owns (c : Thread nD τ) arg13 fullShare b13 ∗ owns (c : Thread nD τ) arg14 fullShare b14 ∗ (∃ d, owns (c : Thread nD τ) arg15 fullShare d) ∗ owns (c : Thread nD τ) arg16 fullShare b16 ∗ (∃ d, owns (c : Thread nD τ) arg17 fullShare d) ∗ (∃ d, owns (c : Thread nD τ) arg18 fullShare d) ∗ owns (c : Thread nD τ) arg19 fullShare b19 ∗ (∃ d, owns (c : Thread nD τ) arg20 fullShare d) ∗ owns (c : Thread nD τ) arg21 fullShare b21 ∗ owns (c : Thread nD τ) arg22 fullShare b22 ∗ owns (c : Thread nD τ) arg23 fullShare b23 ∗ owns (c : Thread nD τ) arg24 fullShare b24
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (arg21.view.loc (c : Thread nD τ) ↦[arg21.view.set]{fullShare} arg21.view.writes (Elt F) (harg21.unread b21) L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ owns (c : Thread nD τ) arg24 fullShare b24) -∗ K ⟨⟩))
          ⊢ wp frame (wpE (defs₀ (F := F)) Variants.none c none) E (cc0_e_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, fun E K => ?run⟩
  case run =>
    simp only [cc0_e_mixer_bwd_eq_skeleton]; unfold cc0_e_mixer_bwd_skel
    simp only [k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%f10, %hf10, H10⟩, ⟨%d11, %f11, -, H11⟩, ⟨%f12, %hf12, H12⟩, ⟨%f13, %hf13, H13⟩, ⟨%f14, %hf14, H14⟩, ⟨%d15, %f15, -, H15⟩, ⟨%f16, %hf16, H16⟩, ⟨%d17, %f17, -, H17⟩, ⟨%d18, %f18, -, H18⟩, ⟨%f19, %hf19, H19⟩, ⟨%d20, %f20, -, H20⟩, ⟨%f21, %hf21, H21⟩, ⟨%f22, %hf22, H22⟩, ⟨%f23, %hf23, H23⟩, ⟨%f24, %hf24, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf10; obtain rfl := harg12.eq_unread hf12; obtain rfl := harg13.eq_unread hf13; obtain rfl := harg14.eq_unread hf14; obtain rfl := harg16.eq_unread hf16; obtain rfl := harg19.eq_unread hf19; obtain rfl := harg21.eq_unread hf21; obtain rfl := harg22.eq_unread hf22; obtain rfl := harg23.eq_unread hf23; obtain rfl := harg24.eq_unread hf24
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]; · iexact H21
    isplitl [H22]; · iexists _; iexact H22
    isplitl [H23]; · iexists _; iexact H23
    iexists _; isplitr; · ipureintro; exact harg24.read_unread _
    iexact H24

end Cert.Kernel5Ideal.Even

end
-- ==== Proof.EvenLeft.lean ====
module

public import proofs.«01_k».proof.Proof.Gen.Kernel5Ideal.Loops
public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.EvenRunA
public import proofs.«01_k».proof.Proof.EvenRunB
public import proofs.«01_k».proof.Proof.EvenRunC

@[expose] public section

set_option maxRecDepth 16384

noncomputable section

/-! What the runs of the convolution mixer's backward kernel leave in each buffer. -/

namespace Cert.Kernel5Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev w15 : Memref sig .tc .vmem S136x1024 .f32 := Memref.whole cc0_scratch0
abbrev w16 : Memref sig .tc .vmem S8x160x1024 .f32 := Memref.whole cc0_scratch1
abbrev w17 : Memref sig .tc .vmem S128x1024 .f32 := Memref.whole cc0_scratch2
abbrev w18 : Memref sig .tc .vmem S136x1024 .f32 := Memref.whole cc0_scratch3
abbrev w19 : Memref sig .tc .vmem S8x160x1024 .f32 := Memref.whole cc0_scratch4
abbrev w20 : Memref sig .tc .vmem S128x1024 .f32 := Memref.whole cc0_scratch5
abbrev w21 : Memref sig .tc .vmem S31x8x1024 .f32 := Memref.whole cc0_scratch6
abbrev w22 : Memref sig .tc .vmem S8x1024 .f32 := Memref.whole cc0_scratch7
abbrev w23 : Memref sig .tc .vmem S32x1024 .f32 := Memref.whole cc0_scratch8
abbrev w24 : Memref sig .tc .vmem S31x8x1024 .f32 := Memref.whole cc0_scratch9

/-- The run at the first point, on its own buffers and blocks. -/
abbrev atA (c : Dev nD) (t : Fin cfg0.N) (h : t.val % 32 = 0) (b11 : Vec F S31x1024 .f32) (b16 : Vec F S8x160x1024 .f32) (b19 : Vec F S8x160x1024 .f32) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    w15 (Memref.isWhole_whole _) w16 (Memref.isWhole_whole _) w17 (Memref.isWhole_whole _) w18 (Memref.isWhole_whole _) w19 (Memref.isWhole_whole _) w20 (Memref.isWhole_whole _) w21 (Memref.isWhole_whole _) w22 (Memref.isWhole_whole _) w23 (Memref.isWhole_whole _) w24 (Memref.isWhole_whole _)
    ((firstPt t).mpr h) (fun e => by have := (lastPt t).mp e; omega)
    (iblk m c 0 t) (iblk m c 1 t) (iblk m c 2 t) (iblk m c 3 t) (iblk m c 4 t) (iblk m c 5 t) (iblk m c 6 t) (iblk m c 7 t) b11 b16 b19

/-- The stores of the gradient of the projections reach every entry. -/
theorem coverA_9 (c : Dev nD) (t : Fin cfg0.N) (h : t.val % 32 = 0) (b11 : Vec F S31x1024 .f32) (b16 : Vec F S8x160x1024 .f32) (b19 : Vec F S8x160x1024 .f32) (y : Shape.Idx S128x7168) :
    ∃ pc ∈ (atA m c t h b11 b16 b19).1, y ∈ pc.1.set :=
  View.cover_of_tiledBy (atA m c t h b11 b16 b19).1 ![128, 256] (by sl_kernel_rfl) y
/-- What the stores leave. -/
def outA_9 (c : Dev nD) (t : Fin cfg0.N) (h : t.val % 32 = 0) (b11 : Vec F S31x1024 .f32) (b16 : Vec F S8x160x1024 .f32) (b19 : Vec F S8x160x1024 .f32) : Vec F S128x7168 .bf16 :=
  View.canon (atA m c t h b11 b16 b19).1
/-- The stores of the gradient of the first convolution's weights reach every entry. -/
theorem coverA_10 (c : Dev nD) (t : Fin cfg0.N) (h : t.val % 32 = 0) (b11 : Vec F S31x1024 .f32) (b16 : Vec F S8x160x1024 .f32) (b19 : Vec F S8x160x1024 .f32) (y : Shape.Idx S3x1024) :
    ∃ pc ∈ (atA m c t h b11 b16 b19).2.1, y ∈ pc.1.set :=
  View.cover_of_tiledBy (atA m c t h b11 b16 b19).2.1 ![1, 256] (by sl_kernel_rfl) y
/-- What the stores leave. -/
def outA_10 (c : Dev nD) (t : Fin cfg0.N) (h : t.val % 32 = 0) (b11 : Vec F S31x1024 .f32) (b16 : Vec F S8x160x1024 .f32) (b19 : Vec F S8x160x1024 .f32) : Vec F S3x1024 .f32 :=
  View.canon (atA m c t h b11 b16 b19).2.1
/-- The stores of the gradient of the convolution's bias reach every entry. -/
theorem coverA_12 (c : Dev nD) (t : Fin cfg0.N) (h : t.val % 32 = 0) (b11 : Vec F S31x1024 .f32) (b16 : Vec F S8x160x1024 .f32) (b19 : Vec F S8x160x1024 .f32) (y : Shape.Idx S1x1024) :
    ∃ pc ∈ (atA m c t h b11 b16 b19).2.2.1, y ∈ pc.1.set :=
  View.cover_of_tiledBy (atA m c t h b11 b16 b19).2.2.1 ![1,256] (by sl_kernel_rfl) y
/-- What the stores leave. -/
def outA_12 (c : Dev nD) (t : Fin cfg0.N) (h : t.val % 32 = 0) (b11 : Vec F S31x1024 .f32) (b16 : Vec F S8x160x1024 .f32) (b19 : Vec F S8x160x1024 .f32) : Vec F S1x1024 .f32 :=
  View.canon (atA m c t h b11 b16 b19).2.2.1
/-- The stores of the gradient of the norm's gain reach every entry. -/
theorem coverA_13 (c : Dev nD) (t : Fin cfg0.N) (h : t.val % 32 = 0) (b11 : Vec F S31x1024 .f32) (b16 : Vec F S8x160x1024 .f32) (b19 : Vec F S8x160x1024 .f32) (y : Shape.Idx S1x1024) :
    ∃ pc ∈ (atA m c t h b11 b16 b19).2.2.2.1, y ∈ pc.1.set :=
  View.cover_of_tiledBy (atA m c t h b11 b16 b19).2.2.2.1 ![1,256] (by sl_kernel_rfl) y
/-- What the stores leave. -/
def outA_13 (c : Dev nD) (t : Fin cfg0.N) (h : t.val % 32 = 0) (b11 : Vec F S31x1024 .f32) (b16 : Vec F S8x160x1024 .f32) (b19 : Vec F S8x160x1024 .f32) : Vec F S1x1024 .f32 :=
  View.canon (atA m c t h b11 b16 b19).2.2.2.1
/-- The stores of the gradient of the norm's shift reach every entry. -/
theorem coverA_14 (c : Dev nD) (t : Fin cfg0.N) (h : t.val % 32 = 0) (b11 : Vec F S31x1024 .f32) (b16 : Vec F S8x160x1024 .f32) (b19 : Vec F S8x160x1024 .f32) (y : Shape.Idx S1x1024) :
    ∃ pc ∈ (atA m c t h b11 b16 b19).2.2.2.2.1, y ∈ pc.1.set :=
  View.cover_of_tiledBy (atA m c t h b11 b16 b19).2.2.2.2.1 ![1,256] (by sl_kernel_rfl) y
/-- What the stores leave. -/
def outA_14 (c : Dev nD) (t : Fin cfg0.N) (h : t.val % 32 = 0) (b11 : Vec F S31x1024 .f32) (b16 : Vec F S8x160x1024 .f32) (b19 : Vec F S8x160x1024 .f32) : Vec F S1x1024 .f32 :=
  View.canon (atA m c t h b11 b16 b19).2.2.2.2.1
/-- The stores of the partial sums of the second convolution's weights' gradient reach every entry. -/
theorem coverA_21 (c : Dev nD) (t : Fin cfg0.N) (h : t.val % 32 = 0) (b11 : Vec F S31x1024 .f32) (b16 : Vec F S8x160x1024 .f32) (b19 : Vec F S8x160x1024 .f32) (y : Shape.Idx S31x8x1024) :
    ∃ pc ∈ (atA m c t h b11 b16 b19).2.2.2.2.2.1, y ∈ pc.1.set :=
  by
  have h1 : ∃ pc ∈ runA.sl.H21_1 (F := F), y ∈ pc.1.set := View.cover_of_tiledBy _ ![31, 8, 1024] (by sl_kernel_rfl) y
  obtain ⟨pc, hpc, hy⟩ := h1
  exact ⟨pc, List.mem_append_right _ (List.mem_append_right _ (List.mem_append_right _ (List.mem_append_right _ hpc))), hy⟩
/-- What the stores leave. -/
def outA_21 (c : Dev nD) (t : Fin cfg0.N) (h : t.val % 32 = 0) (b11 : Vec F S31x1024 .f32) (b16 : Vec F S8x160x1024 .f32) (b19 : Vec F S8x160x1024 .f32) : Vec F S31x8x1024 .f32 :=
  View.canon (atA m c t h b11 b16 b19).2.2.2.2.2.1
/-- The stores of the rows the first convolution carries reach every entry. -/
theorem coverA_22 (c : Dev nD) (t : Fin cfg0.N) (h : t.val % 32 = 0) (b11 : Vec F S31x1024 .f32) (b16 : Vec F S8x160x1024 .f32) (b19 : Vec F S8x160x1024 .f32) (y : Shape.Idx S8x1024) :
    ∃ pc ∈ (atA m c t h b11 b16 b19).2.2.2.2.2.2.1, y ∈ pc.1.set :=
  View.cover_of_tiledBy (atA m c t h b11 b16 b19).2.2.2.2.2.2.1 ![8,256] (by sl_kernel_rfl) y
/-- What the stores leave. -/
def outA_22 (c : Dev nD) (t : Fin cfg0.N) (h : t.val % 32 = 0) (b11 : Vec F S31x1024 .f32) (b16 : Vec F S8x160x1024 .f32) (b19 : Vec F S8x160x1024 .f32) : Vec F S8x1024 .f32 :=
  View.canon (atA m c t h b11 b16 b19).2.2.2.2.2.2.1
/-- The stores of the rows the second convolution carries reach every entry. -/
theorem coverA_23 (c : Dev nD) (t : Fin cfg0.N) (h : t.val % 32 = 0) (b11 : Vec F S31x1024 .f32) (b16 : Vec F S8x160x1024 .f32) (b19 : Vec F S8x160x1024 .f32) (y : Shape.Idx S32x1024) :
    ∃ pc ∈ (atA m c t h b11 b16 b19).2.2.2.2.2.2.2.1, y ∈ pc.1.set :=
  View.cover_of_tiledBy (atA m c t h b11 b16 b19).2.2.2.2.2.2.2.1 ![32,256] (by sl_kernel_rfl) y
/-- What the stores leave. -/
def outA_23 (c : Dev nD) (t : Fin cfg0.N) (h : t.val % 32 = 0) (b11 : Vec F S31x1024 .f32) (b16 : Vec F S8x160x1024 .f32) (b19 : Vec F S8x160x1024 .f32) : Vec F S32x1024 .f32 :=
  View.canon (atA m c t h b11 b16 b19).2.2.2.2.2.2.2.1
/-- The stores of the second convolution's weights, a row on each sublane reach every entry. -/
theorem coverA_24 (c : Dev nD) (t : Fin cfg0.N) (h : t.val % 32 = 0) (b11 : Vec F S31x1024 .f32) (b16 : Vec F S8x160x1024 .f32) (b19 : Vec F S8x160x1024 .f32) (y : Shape.Idx S31x8x1024) :
    ∃ pc ∈ (atA m c t h b11 b16 b19).2.2.2.2.2.2.2.2.1, y ∈ pc.1.set :=
  View.cover_of_tiledBy (atA m c t h b11 b16 b19).2.2.2.2.2.2.2.2.1 ![1,8,1024] (by sl_kernel_rfl) y
/-- What the stores leave. -/
def outA_24 (c : Dev nD) (t : Fin cfg0.N) (h : t.val % 32 = 0) (b11 : Vec F S31x1024 .f32) (b16 : Vec F S8x160x1024 .f32) (b19 : Vec F S8x160x1024 .f32) : Vec F S31x8x1024 .f32 :=
  View.canon (atA m c t h b11 b16 b19).2.2.2.2.2.2.2.2.1

/-- The run at the points between the first and the last, on its own buffers and blocks. -/
abbrev atB (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    w15 (Memref.isWhole_whole _) w16 (Memref.isWhole_whole _) w17 (Memref.isWhole_whole _) w18 (Memref.isWhole_whole _) w19 (Memref.isWhole_whole _) w20 (Memref.isWhole_whole _) w21 (Memref.isWhole_whole _) w22 (Memref.isWhole_whole _) w23 (Memref.isWhole_whole _) w24 (Memref.isWhole_whole _)
    (fun e => h ((firstPt t).mp e)) (fun e => h' ((lastPt t).mp e))
    (iblk m c 0 t) (iblk m c 1 t) (iblk m c 2 t) (iblk m c 3 t) (iblk m c 4 t) (iblk m c 5 t) (iblk m c 6 t) (iblk m c 7 t) b10 b11 b12 b13 b14 b16 b19 b21 b22 b23 b24

/-- The stores of the gradient of the projections reach every entry. -/
theorem coverB_9 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S128x7168) :
    ∃ pc ∈ (atB m c t h h' b10 b11 b12 b13 b14 b16 b19 b21 b22 b23 b24).1, y ∈ pc.1.set :=
  View.cover_of_tiledBy (atB m c t h h' b10 b11 b12 b13 b14 b16 b19 b21 b22 b23 b24).1 ![128, 256] (by sl_kernel_rfl) y
/-- What the stores leave. -/
def outB_9 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S128x7168 .bf16 :=
  View.canon (atB m c t h h' b10 b11 b12 b13 b14 b16 b19 b21 b22 b23 b24).1
/-- The stores of the gradient of the first convolution's weights reach every entry. -/
theorem coverB_10 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S3x1024) :
    ∃ pc ∈ (atB m c t h h' b10 b11 b12 b13 b14 b16 b19 b21 b22 b23 b24).2.1, y ∈ pc.1.set :=
  View.cover_of_tiledBy (atB m c t h h' b10 b11 b12 b13 b14 b16 b19 b21 b22 b23 b24).2.1 ![1, 256] (by sl_kernel_rfl) y
/-- What the stores leave. -/
def outB_10 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S3x1024 .f32 :=
  View.canon (atB m c t h h' b10 b11 b12 b13 b14 b16 b19 b21 b22 b23 b24).2.1
/-- The stores of the gradient of the convolution's bias reach every entry. -/
theorem coverB_12 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S1x1024) :
    ∃ pc ∈ (atB m c t h h' b10 b11 b12 b13 b14 b16 b19 b21 b22 b23 b24).2.2.1, y ∈ pc.1.set :=
  View.cover_of_tiledBy (atB m c t h h' b10 b11 b12 b13 b14 b16 b19 b21 b22 b23 b24).2.2.1 ![1,256] (by sl_kernel_rfl) y
/-- What the stores leave. -/
def outB_12 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S1x1024 .f32 :=
  View.canon (atB m c t h h' b10 b11 b12 b13 b14 b16 b19 b21 b22 b23 b24).2.2.1
/-- The stores of the gradient of the norm's gain reach every entry. -/
theorem coverB_13 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S1x1024) :
    ∃ pc ∈ (atB m c t h h' b10 b11 b12 b13 b14 b16 b19 b21 b22 b23 b24).2.2.2.1, y ∈ pc.1.set :=
  View.cover_of_tiledBy (atB m c t h h' b10 b11 b12 b13 b14 b16 b19 b21 b22 b23 b24).2.2.2.1 ![1,256] (by sl_kernel_rfl) y
/-- What the stores leave. -/
def outB_13 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S1x1024 .f32 :=
  View.canon (atB m c t h h' b10 b11 b12 b13 b14 b16 b19 b21 b22 b23 b24).2.2.2.1
/-- The stores of the gradient of the norm's shift reach every entry. -/
theorem coverB_14 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S1x1024) :
    ∃ pc ∈ (atB m c t h h' b10 b11 b12 b13 b14 b16 b19 b21 b22 b23 b24).2.2.2.2.1, y ∈ pc.1.set :=
  View.cover_of_tiledBy (atB m c t h h' b10 b11 b12 b13 b14 b16 b19 b21 b22 b23 b24).2.2.2.2.1 ![1,256] (by sl_kernel_rfl) y
/-- What the stores leave. -/
def outB_14 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S1x1024 .f32 :=
  View.canon (atB m c t h h' b10 b11 b12 b13 b14 b16 b19 b21 b22 b23 b24).2.2.2.2.1
/-- What the partial sums of the second convolution's weights' gradient are after the point's stores. -/
def outB_21 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S31x8x1024 .f32 :=
  w21.view.read (Elt F) (w21.view.writes (Elt F) ((Memref.isWhole_whole cc0_scratch6).unread b21) (atB m c t h h' b10 b11 b12 b13 b14 b16 b19 b21 b22 b23 b24).2.2.2.2.2.1)
/-- The stores of the rows the first convolution carries reach every entry. -/
theorem coverB_22 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S8x1024) :
    ∃ pc ∈ (atB m c t h h' b10 b11 b12 b13 b14 b16 b19 b21 b22 b23 b24).2.2.2.2.2.2.1, y ∈ pc.1.set :=
  View.cover_of_tiledBy (atB m c t h h' b10 b11 b12 b13 b14 b16 b19 b21 b22 b23 b24).2.2.2.2.2.2.1 ![8,256] (by sl_kernel_rfl) y
/-- What the stores leave. -/
def outB_22 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S8x1024 .f32 :=
  View.canon (atB m c t h h' b10 b11 b12 b13 b14 b16 b19 b21 b22 b23 b24).2.2.2.2.2.2.1
/-- The stores of the rows the second convolution carries reach every entry. -/
theorem coverB_23 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S32x1024) :
    ∃ pc ∈ (atB m c t h h' b10 b11 b12 b13 b14 b16 b19 b21 b22 b23 b24).2.2.2.2.2.2.2.1, y ∈ pc.1.set :=
  View.cover_of_tiledBy (atB m c t h h' b10 b11 b12 b13 b14 b16 b19 b21 b22 b23 b24).2.2.2.2.2.2.2.1 ![32,256] (by sl_kernel_rfl) y
/-- What the stores leave. -/
def outB_23 (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S32x1024 .f32 :=
  View.canon (atB m c t h h' b10 b11 b12 b13 b14 b16 b19 b21 b22 b23 b24).2.2.2.2.2.2.2.1

/-- The run at the last point, on its own buffers and blocks. -/
abbrev atC (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) :=
  runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    w15 (Memref.isWhole_whole _) w16 (Memref.isWhole_whole _) w17 (Memref.isWhole_whole _) w18 (Memref.isWhole_whole _) w19 (Memref.isWhole_whole _) w20 (Memref.isWhole_whole _) w21 (Memref.isWhole_whole _) w22 (Memref.isWhole_whole _) w23 (Memref.isWhole_whole _) w24 (Memref.isWhole_whole _)
    (fun e => by have := (firstPt t).mp e; omega) ((lastPt t).mpr h')
    (iblk m c 0 t) (iblk m c 1 t) (iblk m c 2 t) (iblk m c 3 t) (iblk m c 4 t) (iblk m c 5 t) (iblk m c 6 t) (iblk m c 7 t) b10 b12 b13 b14 b16 b19 b21 b22 b23 b24

/-- The stores of the gradient of the projections reach every entry. -/
theorem coverC_9 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S128x7168) :
    ∃ pc ∈ (atC m c t h' b10 b12 b13 b14 b16 b19 b21 b22 b23 b24).1, y ∈ pc.1.set :=
  View.cover_of_tiledBy (atC m c t h' b10 b12 b13 b14 b16 b19 b21 b22 b23 b24).1 ![128, 256] (by sl_kernel_rfl) y
/-- What the stores leave. -/
def outC_9 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S128x7168 .bf16 :=
  View.canon (atC m c t h' b10 b12 b13 b14 b16 b19 b21 b22 b23 b24).1
/-- The stores of the gradient of the first convolution's weights reach every entry. -/
theorem coverC_10 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S3x1024) :
    ∃ pc ∈ (atC m c t h' b10 b12 b13 b14 b16 b19 b21 b22 b23 b24).2.1, y ∈ pc.1.set :=
  View.cover_of_tiledBy (atC m c t h' b10 b12 b13 b14 b16 b19 b21 b22 b23 b24).2.1 ![1, 256] (by sl_kernel_rfl) y
/-- What the stores leave. -/
def outC_10 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S3x1024 .f32 :=
  View.canon (atC m c t h' b10 b12 b13 b14 b16 b19 b21 b22 b23 b24).2.1
/-- The stores of the gradient of the second convolution's weights reach every entry. -/
theorem coverC_11 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S31x1024) :
    ∃ pc ∈ (atC m c t h' b10 b12 b13 b14 b16 b19 b21 b22 b23 b24).2.2.1, y ∈ pc.1.set :=
  View.cover_of_tiledBy (atC m c t h' b10 b12 b13 b14 b16 b19 b21 b22 b23 b24).2.2.1 ![1,256] (by sl_kernel_rfl) y
/-- What the stores leave. -/
def outC_11 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S31x1024 .f32 :=
  View.canon (atC m c t h' b10 b12 b13 b14 b16 b19 b21 b22 b23 b24).2.2.1
/-- The stores of the gradient of the convolution's bias reach every entry. -/
theorem coverC_12 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S1x1024) :
    ∃ pc ∈ (atC m c t h' b10 b12 b13 b14 b16 b19 b21 b22 b23 b24).2.2.2.1, y ∈ pc.1.set :=
  View.cover_of_tiledBy (atC m c t h' b10 b12 b13 b14 b16 b19 b21 b22 b23 b24).2.2.2.1 ![1,256] (by sl_kernel_rfl) y
/-- What the stores leave. -/
def outC_12 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S1x1024 .f32 :=
  View.canon (atC m c t h' b10 b12 b13 b14 b16 b19 b21 b22 b23 b24).2.2.2.1
/-- The stores of the gradient of the norm's gain reach every entry. -/
theorem coverC_13 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S1x1024) :
    ∃ pc ∈ (atC m c t h' b10 b12 b13 b14 b16 b19 b21 b22 b23 b24).2.2.2.2.1, y ∈ pc.1.set :=
  View.cover_of_tiledBy (atC m c t h' b10 b12 b13 b14 b16 b19 b21 b22 b23 b24).2.2.2.2.1 ![1,256] (by sl_kernel_rfl) y
/-- What the stores leave. -/
def outC_13 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S1x1024 .f32 :=
  View.canon (atC m c t h' b10 b12 b13 b14 b16 b19 b21 b22 b23 b24).2.2.2.2.1
/-- The stores of the gradient of the norm's shift reach every entry. -/
theorem coverC_14 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S1x1024) :
    ∃ pc ∈ (atC m c t h' b10 b12 b13 b14 b16 b19 b21 b22 b23 b24).2.2.2.2.2.1, y ∈ pc.1.set :=
  View.cover_of_tiledBy (atC m c t h' b10 b12 b13 b14 b16 b19 b21 b22 b23 b24).2.2.2.2.2.1 ![1,256] (by sl_kernel_rfl) y
/-- What the stores leave. -/
def outC_14 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S1x1024 .f32 :=
  View.canon (atC m c t h' b10 b12 b13 b14 b16 b19 b21 b22 b23 b24).2.2.2.2.2.1
/-- What the partial sums of the second convolution's weights' gradient are after the point's stores. -/
def outC_21 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S31x8x1024 .f32 :=
  w21.view.read (Elt F) (w21.view.writes (Elt F) ((Memref.isWhole_whole cc0_scratch6).unread b21) (atC m c t h' b10 b12 b13 b14 b16 b19 b21 b22 b23 b24).2.2.2.2.2.2.1)
/-- The stores of the rows the first convolution carries reach every entry. -/
theorem coverC_22 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S8x1024) :
    ∃ pc ∈ (atC m c t h' b10 b12 b13 b14 b16 b19 b21 b22 b23 b24).2.2.2.2.2.2.2.1, y ∈ pc.1.set :=
  View.cover_of_tiledBy (atC m c t h' b10 b12 b13 b14 b16 b19 b21 b22 b23 b24).2.2.2.2.2.2.2.1 ![8,256] (by sl_kernel_rfl) y
/-- What the stores leave. -/
def outC_22 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S8x1024 .f32 :=
  View.canon (atC m c t h' b10 b12 b13 b14 b16 b19 b21 b22 b23 b24).2.2.2.2.2.2.2.1
/-- The stores of the rows the second convolution carries reach every entry. -/
theorem coverC_23 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) (y : Shape.Idx S32x1024) :
    ∃ pc ∈ (atC m c t h' b10 b12 b13 b14 b16 b19 b21 b22 b23 b24).2.2.2.2.2.2.2.2.1, y ∈ pc.1.set :=
  View.cover_of_tiledBy (atC m c t h' b10 b12 b13 b14 b16 b19 b21 b22 b23 b24).2.2.2.2.2.2.2.2.1 ![32,256] (by sl_kernel_rfl) y
/-- What the stores leave. -/
def outC_23 (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32) : Vec F S32x1024 .f32 :=
  View.canon (atC m c t h' b10 b12 b13 b14 b16 b19 b21 b22 b23 b24).2.2.2.2.2.2.2.2.1

end Cert.Kernel5Ideal.Even

end
-- ==== Proof.EvenKept.lean ====
module

public import proofs.«01_k».proof.Proof.Gen.Kernel5Ideal.Loops
public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Pipeline.DatRel
public import Idealize.ShloMosaic.Lib.Tactic
public import Idealize.ShloMosaic.Lib.WordCmp
public import proofs.«01_k».proof.Proof.EvenLeft

@[expose] public section

set_option maxRecDepth 16384

noncomputable section

/-! What is kept of the convolution mixer's backward kernel from one grid point to the next, whatever a proof wants to keep, and
the data of its pipeline. -/

namespace Cert.Kernel5Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a proof keeps from point to point of the carried scratch (`S`, before point `n`) and of the results' blocks (`R8` to
`R13`, after a point), with the proof that each of the body's three runs keeps it. Nothing is kept of the kernel's other
scratch buffers, which are work space. -/
structure Kept where
  S : Dev nD → ℕ → Vec F S31x8x1024 .f32 → Vec F S8x1024 .f32 → Vec F S32x1024 .f32 → Vec F S31x8x1024 .f32 → Prop
  R8 : Dev nD → Fin cfg0.N → Vec F S128x7168 .bf16 → Prop
  R9 : Dev nD → Fin cfg0.N → Vec F S3x1024 .f32 → Prop
  R10 : Dev nD → Fin cfg0.N → Vec F S31x1024 .f32 → Prop
  R11 : Dev nD → Fin cfg0.N → Vec F S1x1024 .f32 → Prop
  R12 : Dev nD → Fin cfg0.N → Vec F S1x1024 .f32 → Prop
  R13 : Dev nD → Fin cfg0.N → Vec F S1x1024 .f32 → Prop
  stepA : ∀ (c : Dev nD) (t : Fin cfg0.N) (h : t.val % 32 = 0) (b11 : Vec F S31x1024 .f32) (b16 : Vec F S8x160x1024 .f32) (b19 : Vec F S8x160x1024 .f32), S c (t.val + 1) (outA_21 m c t h b11 b16 b19) (outA_22 m c t h b11 b16 b19) (outA_23 m c t h b11 b16 b19) (outA_24 m c t h b11 b16 b19) ∧ R8 c t (outA_9 m c t h b11 b16 b19) ∧ R9 c t (outA_10 m c t h b11 b16 b19) ∧ R10 c t b11 ∧ R11 c t (outA_12 m c t h b11 b16 b19) ∧ R12 c t (outA_13 m c t h b11 b16 b19) ∧ R13 c t (outA_14 m c t h b11 b16 b19)
  stepB : ∀ (c : Dev nD) (t : Fin cfg0.N) (h : ¬ t.val % 32 = 0) (h' : ¬ t.val % 32 = 31) (b10 : Vec F S3x1024 .f32) (b11 : Vec F S31x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32), S c t.val b21 b22 b23 b24 → R9 c ⟨t.val - 1, Nat.lt_of_le_of_lt (Nat.sub_le _ _) t.isLt⟩ b10 → R11 c ⟨t.val - 1, Nat.lt_of_le_of_lt (Nat.sub_le _ _) t.isLt⟩ b12 → R12 c ⟨t.val - 1, Nat.lt_of_le_of_lt (Nat.sub_le _ _) t.isLt⟩ b13 → R13 c ⟨t.val - 1, Nat.lt_of_le_of_lt (Nat.sub_le _ _) t.isLt⟩ b14 → S c (t.val + 1) (outB_21 m c t h h' b10 b11 b12 b13 b14 b16 b19 b21 b22 b23 b24) (outB_22 m c t h h' b10 b11 b12 b13 b14 b16 b19 b21 b22 b23 b24) (outB_23 m c t h h' b10 b11 b12 b13 b14 b16 b19 b21 b22 b23 b24) b24 ∧ R8 c t (outB_9 m c t h h' b10 b11 b12 b13 b14 b16 b19 b21 b22 b23 b24) ∧ R9 c t (outB_10 m c t h h' b10 b11 b12 b13 b14 b16 b19 b21 b22 b23 b24) ∧ R10 c t b11 ∧ R11 c t (outB_12 m c t h h' b10 b11 b12 b13 b14 b16 b19 b21 b22 b23 b24) ∧ R12 c t (outB_13 m c t h h' b10 b11 b12 b13 b14 b16 b19 b21 b22 b23 b24) ∧ R13 c t (outB_14 m c t h h' b10 b11 b12 b13 b14 b16 b19 b21 b22 b23 b24)
  stepC : ∀ (c : Dev nD) (t : Fin cfg0.N) (h' : t.val % 32 = 31) (b10 : Vec F S3x1024 .f32) (b12 : Vec F S1x1024 .f32) (b13 : Vec F S1x1024 .f32) (b14 : Vec F S1x1024 .f32) (b16 : Vec F S8x160x1024 .f32) (b19 : Vec F S8x160x1024 .f32) (b21 : Vec F S31x8x1024 .f32) (b22 : Vec F S8x1024 .f32) (b23 : Vec F S32x1024 .f32) (b24 : Vec F S31x8x1024 .f32), S c t.val b21 b22 b23 b24 → R9 c ⟨t.val - 1, Nat.lt_of_le_of_lt (Nat.sub_le _ _) t.isLt⟩ b10 → R11 c ⟨t.val - 1, Nat.lt_of_le_of_lt (Nat.sub_le _ _) t.isLt⟩ b12 → R12 c ⟨t.val - 1, Nat.lt_of_le_of_lt (Nat.sub_le _ _) t.isLt⟩ b13 → R13 c ⟨t.val - 1, Nat.lt_of_le_of_lt (Nat.sub_le _ _) t.isLt⟩ b14 → S c (t.val + 1) (outC_21 m c t h' b10 b12 b13 b14 b16 b19 b21 b22 b23 b24) (outC_22 m c t h' b10 b12 b13 b14 b16 b19 b21 b22 b23 b24) (outC_23 m c t h' b10 b12 b13 b14 b16 b19 b21 b22 b23 b24) b24 ∧ R8 c t (outC_9 m c t h' b10 b12 b13 b14 b16 b19 b21 b22 b23 b24) ∧ R9 c t (outC_10 m c t h' b10 b12 b13 b14 b16 b19 b21 b22 b23 b24) ∧ R10 c t (outC_11 m c t h' b10 b12 b13 b14 b16 b19 b21 b22 b23 b24) ∧ R11 c t (outC_12 m c t h' b10 b12 b13 b14 b16 b19 b21 b22 b23 b24) ∧ R12 c t (outC_13 m c t h' b10 b12 b13 b14 b16 b19 b21 b22 b23 b24) ∧ R13 c t (outC_14 m c t h' b10 b12 b13 b14 b16 b19 b21 b22 b23 b24)

variable {m}

/-- What is kept of each result's block. -/
def Kept.Rl (K : Kept m) (c : Dev nD) (w : Fin cfg0.W) : (t : Fin cfg0.N) → ((cfg0.win w).block.Idx → Elt F (cfg0.win w).elt) → Prop :=
  match w with
  | ⟨8, _⟩ => fun t X => K.R8 c t X
  | ⟨9, _⟩ => fun t X => K.R9 c t X
  | ⟨10, _⟩ => fun t X => K.R10 c t X
  | ⟨11, _⟩ => fun t X => K.R11 c t X
  | ⟨12, _⟩ => fun t X => K.R12 c t X
  | ⟨13, _⟩ => fun t X => K.R13 c t X
  | _ => fun _ _ => True

/-- What the body relies on before point `n`: the scratch buffers, the carried ones at contents that are kept. -/
def Kept.Phi (K : Kept m) (c : Dev nD) : (n : ℕ) → n ≤ cfg0.N → sProp 𝕄
  | 0, _ => Pipeline.ΦA spec0 c
  | n + 1, _ => iprop(iprop((∃ d, owns (c : Thread nD τ) w15 fullShare d) ∗ (∃ d, owns (c : Thread nD τ) w16 fullShare d) ∗ (∃ d, owns (c : Thread nD τ) w17 fullShare d) ∗ (∃ d, owns (c : Thread nD τ) w18 fullShare d) ∗ (∃ d, owns (c : Thread nD τ) w19 fullShare d) ∗ (∃ d, owns (c : Thread nD τ) w20 fullShare d) ∗ (∃ b21 b22 b23 b24, ⌜K.S c (n + 1) b21 b22 b23 b24⌝ ∗ owns (c : Thread nD τ) w21 fullShare b21 ∗ owns (c : Thread nD τ) w22 fullShare b22 ∗ owns (c : Thread nD τ) w23 fullShare b23 ∗ owns (c : Thread nD τ) w24 fullShare b24)) ∗ (∃ r, prngReg c r))

theorem Kept.Phi_zero (K : Kept m) (c : Dev nD) (n : ℕ) (h : n ≤ cfg0.N) (hn : n = 0) : K.Phi c n h = Pipeline.ΦA spec0 c := by
  cases hn; rfl

theorem Kept.Phi_pos (K : Kept m) (c : Dev nD) (n : ℕ) (h : n ≤ cfg0.N) (hn : n ≠ 0) :
    K.Phi c n h = iprop(iprop((∃ d, owns (c : Thread nD τ) w15 fullShare d) ∗ (∃ d, owns (c : Thread nD τ) w16 fullShare d) ∗ (∃ d, owns (c : Thread nD τ) w17 fullShare d) ∗ (∃ d, owns (c : Thread nD τ) w18 fullShare d) ∗ (∃ d, owns (c : Thread nD τ) w19 fullShare d) ∗ (∃ d, owns (c : Thread nD τ) w20 fullShare d) ∗ (∃ b21 b22 b23 b24, ⌜K.S c n b21 b22 b23 b24⌝ ∗ owns (c : Thread nD τ) w21 fullShare b21 ∗ owns (c : Thread nD τ) w22 fullShare b22 ∗ owns (c : Thread nD τ) w23 fullShare b23 ∗ owns (c : Thread nD τ) w24 fullShare b24)) ∗ (∃ r, prngReg c r)) := by
  cases n with
  | zero => exact absurd rfl hn
  | succ n => rfl

theorem PhiA_eq (c : Dev nD) :
    (Pipeline.ΦA spec0 c : sProp 𝕄)
      = iprop(iprop((∃ d, owns (c : Thread nD τ) w15 fullShare d) ∗ (∃ d, owns (c : Thread nD τ) w16 fullShare d) ∗ (∃ d, owns (c : Thread nD τ) w17 fullShare d) ∗ (∃ d, owns (c : Thread nD τ) w18 fullShare d) ∗ (∃ d, owns (c : Thread nD τ) w19 fullShare d) ∗ (∃ d, owns (c : Thread nD τ) w20 fullShare d) ∗ (∃ d, owns (c : Thread nD τ) w21 fullShare d) ∗ (∃ d, owns (c : Thread nD τ) w22 fullShare d) ∗ (∃ d, owns (c : Thread nD τ) w23 fullShare d) ∗ (∃ d, owns (c : Thread nD τ) w24 fullShare d)) ∗ (∃ r, prngReg c r)) := by
  unfold Pipeline.ΦA; rw [scopedRest0_eq]; simp only [w15, w16, w17, w18, w19, w20, w21, w22, w23, w24, owns_whole]; try rfl

/-- The proof data of the call's pipeline; of the results' blocks it names nothing, `Kept.Rl` says what is kept. -/
def Kept.dat (K : Kept m) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  q w := Pipeline.shareOf spec0 w
  owed _ := 0
  Φ t := K.Phi c t.val (Nat.le_of_lt_succ t.isLt)

theorem Kept.A_eq (K : Kept m) (c : Dev nD) (w : Fin cfg0.W) : (K.dat c).A w = V m c (Pipeline.arrRef spec0 w) := by
  dsimp only [Kept.dat]

theorem Kept.Phi_castSucc (K : Kept m) (c : Dev nD) (t : Fin cfg0.N) :
    (K.dat c).Φ t.castSucc = K.Phi c t.val (Nat.le_of_lt t.isLt) := by
  dsimp only [Kept.dat]; exact Pipeline.Dat.Φ_castSucc (K.Phi c) t

theorem Kept.Phi_succ (K : Kept m) (c : Dev nD) (t : Fin cfg0.N) :
    (K.dat c).Φ t.succ = K.Phi c (t.val + 1) t.isLt := rfl

theorem Kept.after_0 (K : Kept m) (c : Dev nD) (t : Fin cfg0.N) : (K.dat c).after 0 t = iblk m c 0 t := by dsimp only [Kept.dat]
theorem Kept.before_0 (K : Kept m) (c : Dev nD) (t : Fin cfg0.N) (d) : (K.dat c).before 0 t d = iblk m c 0 t :=
  before0_0_of m (K.dat c) (K.A_eq c 0) (K.after_0 c) t d
theorem Kept.after_1 (K : Kept m) (c : Dev nD) (t : Fin cfg0.N) : (K.dat c).after 1 t = iblk m c 1 t := by dsimp only [Kept.dat]
theorem Kept.before_1 (K : Kept m) (c : Dev nD) (t : Fin cfg0.N) (d) : (K.dat c).before 1 t d = iblk m c 1 t :=
  before0_1_of m (K.dat c) (K.A_eq c 1) (K.after_1 c) t d
theorem Kept.after_2 (K : Kept m) (c : Dev nD) (t : Fin cfg0.N) : (K.dat c).after 2 t = iblk m c 2 t := by dsimp only [Kept.dat]
theorem Kept.before_2 (K : Kept m) (c : Dev nD) (t : Fin cfg0.N) (d) : (K.dat c).before 2 t d = iblk m c 2 t :=
  before0_2_of m (K.dat c) (K.A_eq c 2) (K.after_2 c) t d
theorem Kept.after_3 (K : Kept m) (c : Dev nD) (t : Fin cfg0.N) : (K.dat c).after 3 t = iblk m c 3 t := by dsimp only [Kept.dat]
theorem Kept.before_3 (K : Kept m) (c : Dev nD) (t : Fin cfg0.N) (d) : (K.dat c).before 3 t d = iblk m c 3 t :=
  before0_3_of m (K.dat c) (K.A_eq c 3) (K.after_3 c) t d
theorem Kept.after_4 (K : Kept m) (c : Dev nD) (t : Fin cfg0.N) : (K.dat c).after 4 t = iblk m c 4 t := by dsimp only [Kept.dat]
theorem Kept.before_4 (K : Kept m) (c : Dev nD) (t : Fin cfg0.N) (d) : (K.dat c).before 4 t d = iblk m c 4 t :=
  before0_4_of m (K.dat c) (K.A_eq c 4) (K.after_4 c) t d
theorem Kept.after_5 (K : Kept m) (c : Dev nD) (t : Fin cfg0.N) : (K.dat c).after 5 t = iblk m c 5 t := by dsimp only [Kept.dat]
theorem Kept.before_5 (K : Kept m) (c : Dev nD) (t : Fin cfg0.N) (d) : (K.dat c).before 5 t d = iblk m c 5 t :=
  before0_5_of m (K.dat c) (K.A_eq c 5) (K.after_5 c) t d
theorem Kept.after_6 (K : Kept m) (c : Dev nD) (t : Fin cfg0.N) : (K.dat c).after 6 t = iblk m c 6 t := by dsimp only [Kept.dat]
theorem Kept.before_6 (K : Kept m) (c : Dev nD) (t : Fin cfg0.N) (d) : (K.dat c).before 6 t d = iblk m c 6 t :=
  before0_6_of m (K.dat c) (K.A_eq c 6) (K.after_6 c) t d
theorem Kept.after_7 (K : Kept m) (c : Dev nD) (t : Fin cfg0.N) : (K.dat c).after 7 t = iblk m c 7 t := by dsimp only [Kept.dat]
theorem Kept.before_7 (K : Kept m) (c : Dev nD) (t : Fin cfg0.N) (d) : (K.dat c).before 7 t d = iblk m c 7 t :=
  before0_7_of m (K.dat c) (K.A_eq c 7) (K.after_7 c) t d

/-- The results are the marked windows. -/
abbrev marked : Fin cfg0.W → Bool := ![false, false, false, false, false, false, false, false, true, true, true, true, true, true]

/-- The proof data read with the results' blocks held to what is kept of them. -/
abbrev Kept.rdat (K : Kept m) (c : Dev nD) := (K.dat c).toRRel marked (K.Rl c)

/-- At a later point result 9's buffer holds what the point before left: it is written back at the end alone. -/
theorem Kept.finds_9 (K : Kept m) (c : Dev nD) (t : Fin cfg0.N) (h : ¬ t.val % 32 = 0) (X) (hX : (K.rdat c).Finds 9 t X) :
    K.R9 c ⟨t.val - 1, Nat.lt_of_le_of_lt (Nat.sub_le _ _) t.isLt⟩ X := by
  have hN : t.val < 32 := lt_of_lt_of_eq t.isLt (show cfg0.N = 32 from N_0)
  rcases (Pipeline.RDat.finds_of_pos _ (by rfl) (by omega) X).mp hX with hf | hl
  · have := (flush0_9 _).mp hf; dsimp only at this; omega
  · exact Pipeline.Dat.toRRel_leaves _ (by rfl) hl
/-- At a later point result 11's buffer holds what the point before left: it is written back at the end alone. -/
theorem Kept.finds_11 (K : Kept m) (c : Dev nD) (t : Fin cfg0.N) (h : ¬ t.val % 32 = 0) (X) (hX : (K.rdat c).Finds 11 t X) :
    K.R11 c ⟨t.val - 1, Nat.lt_of_le_of_lt (Nat.sub_le _ _) t.isLt⟩ X := by
  have hN : t.val < 32 := lt_of_lt_of_eq t.isLt (show cfg0.N = 32 from N_0)
  rcases (Pipeline.RDat.finds_of_pos _ (by rfl) (by omega) X).mp hX with hf | hl
  · have := (flush0_11 _).mp hf; dsimp only at this; omega
  · exact Pipeline.Dat.toRRel_leaves _ (by rfl) hl
/-- At a later point result 12's buffer holds what the point before left: it is written back at the end alone. -/
theorem Kept.finds_12 (K : Kept m) (c : Dev nD) (t : Fin cfg0.N) (h : ¬ t.val % 32 = 0) (X) (hX : (K.rdat c).Finds 12 t X) :
    K.R12 c ⟨t.val - 1, Nat.lt_of_le_of_lt (Nat.sub_le _ _) t.isLt⟩ X := by
  have hN : t.val < 32 := lt_of_lt_of_eq t.isLt (show cfg0.N = 32 from N_0)
  rcases (Pipeline.RDat.finds_of_pos _ (by rfl) (by omega) X).mp hX with hf | hl
  · have := (flush0_12 _).mp hf; dsimp only at this; omega
  · exact Pipeline.Dat.toRRel_leaves _ (by rfl) hl
/-- At a later point result 13's buffer holds what the point before left: it is written back at the end alone. -/
theorem Kept.finds_13 (K : Kept m) (c : Dev nD) (t : Fin cfg0.N) (h : ¬ t.val % 32 = 0) (X) (hX : (K.rdat c).Finds 13 t X) :
    K.R13 c ⟨t.val - 1, Nat.lt_of_le_of_lt (Nat.sub_le _ _) t.isLt⟩ X := by
  have hN : t.val < 32 := lt_of_lt_of_eq t.isLt (show cfg0.N = 32 from N_0)
  rcases (Pipeline.RDat.finds_of_pos _ (by rfl) (by omega) X).mp hX with hf | hl
  · have := (flush0_13 _).mp hf; dsimp only at this; omega
  · exact Pipeline.Dat.toRRel_leaves _ (by rfl) hl

end Cert.Kernel5Ideal.Even

end
-- ==== Proof.EvenBody.lean ====
module

public import proofs.«01_k».proof.Proof.Gen.Kernel5Ideal.Loops
public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Claim
public import Idealize.ShloMosaic.Lib.Tactic
public import Idealize.ShloMosaic.Lib.WordCmp
public import proofs.«01_k».proof.Proof.EvenKept

@[expose] public section

set_option maxRecDepth 16384

noncomputable section

/-! The body of the convolution mixer's backward kernel takes what holds before a grid point to what holds after it. -/

namespace Cert.Kernel5Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable {m : (ℓ : Loc nD τ sig) → Buf (Elt F) ℓ} (ρ : Dev nD → PrngReg)

/-- What the body is called with at point `t`. -/
def bodyPre (K : Kept m) (c : Dev nD) (t : Fin cfg0.N) : sProp 𝕄 :=
  iprop((K.dat c).Φ t.castSucc ∗ (K.dat c).owesAt () t.castSucc ∗ (∃ d, owns (c : Thread nD τ) (win0_0.stage (cfg0.slots t 0)) fullShare ((K.dat c).before 0 t d)) ∗ (∃ d, owns (c : Thread nD τ) (win0_1.stage (cfg0.slots t 1)) fullShare ((K.dat c).before 1 t d)) ∗ (∃ d, owns (c : Thread nD τ) (win0_2.stage (cfg0.slots t 2)) fullShare ((K.dat c).before 2 t d)) ∗ (∃ d, owns (c : Thread nD τ) (win0_3.stage (cfg0.slots t 3)) fullShare ((K.dat c).before 3 t d)) ∗ (∃ d, owns (c : Thread nD τ) (win0_4.stage (cfg0.slots t 4)) fullShare ((K.dat c).before 4 t d)) ∗ (∃ d, owns (c : Thread nD τ) (win0_5.stage (cfg0.slots t 5)) fullShare ((K.dat c).before 5 t d)) ∗ (∃ d, owns (c : Thread nD τ) (win0_6.stage (cfg0.slots t 6)) fullShare ((K.dat c).before 6 t d)) ∗ (∃ d, owns (c : Thread nD τ) (win0_7.stage (cfg0.slots t 7)) fullShare ((K.dat c).before 7 t d)) ∗ (∃ Y, ⌜(K.rdat c).Finds 8 t Y⌝ ∗ owns (c : Thread nD τ) (win0_8.stage (cfg0.slots t 8)) fullShare Y) ∗ (∃ Y, ⌜(K.rdat c).Finds 9 t Y⌝ ∗ owns (c : Thread nD τ) (win0_9.stage (cfg0.slots t 9)) fullShare Y) ∗ (∃ Y, ⌜(K.rdat c).Finds 10 t Y⌝ ∗ owns (c : Thread nD τ) (win0_10.stage (cfg0.slots t 10)) fullShare Y) ∗ (∃ Y, ⌜(K.rdat c).Finds 11 t Y⌝ ∗ owns (c : Thread nD τ) (win0_11.stage (cfg0.slots t 11)) fullShare Y) ∗ (∃ Y, ⌜(K.rdat c).Finds 12 t Y⌝ ∗ owns (c : Thread nD τ) (win0_12.stage (cfg0.slots t 12)) fullShare Y) ∗ (∃ Y, ⌜(K.rdat c).Finds 13 t Y⌝ ∗ owns (c : Thread nD τ) (win0_13.stage (cfg0.slots t 13)) fullShare Y))

/-- What it returns. -/
def bodyPost (K : Kept m) (c : Dev nD) (t : Fin cfg0.N) : sProp 𝕄 :=
  iprop((K.dat c).Φ t.succ ∗ (K.dat c).owesAt () t.succ ∗ owns (c : Thread nD τ) (win0_0.stage (cfg0.slots t 0)) fullShare ((K.dat c).after 0 t) ∗ owns (c : Thread nD τ) (win0_1.stage (cfg0.slots t 1)) fullShare ((K.dat c).after 1 t) ∗ owns (c : Thread nD τ) (win0_2.stage (cfg0.slots t 2)) fullShare ((K.dat c).after 2 t) ∗ owns (c : Thread nD τ) (win0_3.stage (cfg0.slots t 3)) fullShare ((K.dat c).after 3 t) ∗ owns (c : Thread nD τ) (win0_4.stage (cfg0.slots t 4)) fullShare ((K.dat c).after 4 t) ∗ owns (c : Thread nD τ) (win0_5.stage (cfg0.slots t 5)) fullShare ((K.dat c).after 5 t) ∗ owns (c : Thread nD τ) (win0_6.stage (cfg0.slots t 6)) fullShare ((K.dat c).after 6 t) ∗ owns (c : Thread nD τ) (win0_7.stage (cfg0.slots t 7)) fullShare ((K.dat c).after 7 t) ∗ (∃ X, ⌜K.Rl c 8 t X⌝ ∗ owns (c : Thread nD τ) (win0_8.stage (cfg0.slots t 8)) fullShare X) ∗ (∃ X, ⌜K.Rl c 9 t X⌝ ∗ owns (c : Thread nD τ) (win0_9.stage (cfg0.slots t 9)) fullShare X) ∗ (∃ X, ⌜K.Rl c 10 t X⌝ ∗ owns (c : Thread nD τ) (win0_10.stage (cfg0.slots t 10)) fullShare X) ∗ (∃ X, ⌜K.Rl c 11 t X⌝ ∗ owns (c : Thread nD τ) (win0_11.stage (cfg0.slots t 11)) fullShare X) ∗ (∃ X, ⌜K.Rl c 12 t X⌝ ∗ owns (c : Thread nD τ) (win0_12.stage (cfg0.slots t 12)) fullShare X) ∗ (∃ X, ⌜K.Rl c 13 t X⌝ ∗ owns (c : Thread nD τ) (win0_13.stage (cfg0.slots t 13)) fullShare X))

set_option maxHeartbeats 9600000 in
/-- The body at the first point. -/
theorem sound_first (K : Kept m) (c : Dev nD) (t : Fin cfg0.N) (h0 : t.val % 32 = 0) :
    bodyPre K c t ⊢ wp frame (wpE (defs₀ (F := F)) Variants.none c none) Set.univ (bodyAt0 t) (fun _ => bodyPost K c t) := by
    unfold bodyPre bodyPost bodyAt0
    simp only [K.before_0, K.before_1, K.before_2, K.before_3, K.before_4, K.before_5, K.before_6, K.before_7]
    rw [show (K.dat c).owesAt () t.succ = (K.dat c).owesAt () t.castSucc from rfl, K.after_0, K.after_1, K.after_2, K.after_3, K.after_4, K.after_5, K.after_6, K.after_7,
      K.Phi_succ, K.Phi_pos c (t.val + 1) _ (by omega)]
    have hN : t.val < 32 := lt_of_lt_of_eq t.isLt (show cfg0.N = 32 from N_0)
    rw [K.Phi_castSucc c t, K.Phi_zero c _ _ (by omega), PhiA_eq]
    iintro ⟨⟨⟨⟨%s15, HS15⟩, ⟨%s16, HS16⟩, ⟨%s17, HS17⟩, ⟨%s18, HS18⟩, ⟨%s19, HS19⟩, ⟨%s20, HS20⟩, ⟨%s21, HS21⟩, ⟨%s22, HS22⟩, ⟨%s23, HS23⟩, ⟨%s24, HS24⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y9, %hy9, H109⟩, ⟨%y10, %hy10, H110⟩, ⟨%y11, %hy11, H111⟩, ⟨%y12, %hy12, H112⟩, ⟨%y13, %hy13, H113⟩, ⟨%y14, %hy14, H114⟩⟩
    obtain ⟨gS, g9, g10, g11, g12, g13, g14⟩ := K.stepA c t h0 y11 s16 s19
    iapply ((atA m c t h0 y11 s16 s19).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H109]; · iexists _; iexact H109
    isplitl [H110]; · iexists _; iexact H110
    isplitl [H111]; · iexact H111
    isplitl [H112]; · iexists _; iexact H112
    isplitl [H113]; · iexists _; iexact H113
    isplitl [H114]; · iexists _; iexact H114
    isplitl [HS15]; · iexists _; iexact HS15
    isplitl [HS16]; · iexact HS16
    isplitl [HS17]; · iexists _; iexact HS17
    isplitl [HS18]; · iexists _; iexact HS18
    isplitl [HS19]; · iexact HS19
    isplitl [HS20]; · iexists _; iexact HS20
    isplitl [HS21]; · iexists _; iexact HS21
    isplitl [HS22]; · iexists _; iexact HS22
    isplitl [HS23]; · iexists _; iexact HS23
    isplitl [HS24]; · iexists _; iexact HS24
    iintro ⟨H0, H1, H2, H3, H4, H5, H6, H7, ⟨%e9, H109⟩, ⟨%e10, H110⟩, H111, ⟨%e12, H112⟩, ⟨%e13, H113⟩, ⟨%e14, H114⟩, HS15, HS16, HS17, HS18, HS19, HS20, ⟨%e21, HS21⟩, ⟨%e22, HS22⟩, ⟨%e23, HS23⟩, ⟨%e24, HS24⟩⟩
    isplitl [HS15 HS16 HS17 HS18 HS19 HS20 HS21 HS22 HS23 HS24 Hg]
    · isplitl [HS15 HS16 HS17 HS18 HS19 HS20 HS21 HS22 HS23 HS24]
      · isplitl [HS15]; · iexact HS15
        isplitl [HS16]; · iexact HS16
        isplitl [HS17]; · iexact HS17
        isplitl [HS18]; · iexact HS18
        isplitl [HS19]; · iexact HS19
        isplitl [HS20]; · iexact HS20
        iexists (outA_21 m c t h0 y11 s16 s19); iexists (outA_22 m c t h0 y11 s16 s19); iexists (outA_23 m c t h0 y11 s16 s19); iexists (outA_24 m c t h0 y11 s16 s19)
        isplitr; · ipureintro; exact gS
        isplitl [HS21]
        · unfold owns; iexists _; isplitr
          swap; · iexact HS21
          ipureintro; exact View.read_writes_eq_canon _ _ _ (coverA_21 m c t h0 y11 s16 s19)
        isplitl [HS22]
        · unfold owns; iexists _; isplitr
          swap; · iexact HS22
          ipureintro; exact View.read_writes_eq_canon _ _ _ (coverA_22 m c t h0 y11 s16 s19)
        isplitl [HS23]
        · unfold owns; iexists _; isplitr
          swap; · iexact HS23
          ipureintro; exact View.read_writes_eq_canon _ _ _ (coverA_23 m c t h0 y11 s16 s19)
        · unfold owns; iexists _; isplitr
          swap; · iexact HS24
          ipureintro; exact View.read_writes_eq_canon _ _ _ (coverA_24 m c t h0 y11 s16 s19)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H109]
    · iexists _; isplitr
      · ipureintro; exact g9
      unfold owns; iexists _; isplitr
      swap; · iexact H109
      ipureintro; exact View.read_writes_eq_canon _ _ _ (coverA_9 m c t h0 y11 s16 s19)
    isplitl [H110]
    · iexists _; isplitr
      · ipureintro; exact g10
      unfold owns; iexists _; isplitr
      swap; · iexact H110
      ipureintro; exact View.read_writes_eq_canon _ _ _ (coverA_10 m c t h0 y11 s16 s19)
    isplitl [H111]
    · iexists _; isplitr
      · ipureintro; exact g11
      iexact H111
    isplitl [H112]
    · iexists _; isplitr
      · ipureintro; exact g12
      unfold owns; iexists _; isplitr
      swap; · iexact H112
      ipureintro; exact View.read_writes_eq_canon _ _ _ (coverA_12 m c t h0 y11 s16 s19)
    isplitl [H113]
    · iexists _; isplitr
      · ipureintro; exact g13
      unfold owns; iexists _; isplitr
      swap; · iexact H113
      ipureintro; exact View.read_writes_eq_canon _ _ _ (coverA_13 m c t h0 y11 s16 s19)
    · iexists _; isplitr
      · ipureintro; exact g14
      unfold owns; iexists _; isplitr
      swap; · iexact H114
      ipureintro; exact View.read_writes_eq_canon _ _ _ (coverA_14 m c t h0 y11 s16 s19)

set_option maxHeartbeats 9600000 in
/-- The body at a point between the first and the last. -/
theorem sound_mid (K : Kept m) (c : Dev nD) (t : Fin cfg0.N) (h0 : ¬ t.val % 32 = 0) (h1 : ¬ t.val % 32 = 31) :
    bodyPre K c t ⊢ wp frame (wpE (defs₀ (F := F)) Variants.none c none) Set.univ (bodyAt0 t) (fun _ => bodyPost K c t) := by
    unfold bodyPre bodyPost bodyAt0
    simp only [K.before_0, K.before_1, K.before_2, K.before_3, K.before_4, K.before_5, K.before_6, K.before_7]
    rw [show (K.dat c).owesAt () t.succ = (K.dat c).owesAt () t.castSucc from rfl, K.after_0, K.after_1, K.after_2, K.after_3, K.after_4, K.after_5, K.after_6, K.after_7,
      K.Phi_succ, K.Phi_pos c (t.val + 1) _ (by omega)]
    have hN : t.val < 32 := lt_of_lt_of_eq t.isLt (show cfg0.N = 32 from N_0)
    rw [K.Phi_castSucc c t, K.Phi_pos c _ _ (by omega)]
    iintro ⟨⟨⟨⟨%s15, HS15⟩, ⟨%s16, HS16⟩, ⟨%s17, HS17⟩, ⟨%s18, HS18⟩, ⟨%s19, HS19⟩, ⟨%s20, HS20⟩, ⟨%s21, %s22, %s23, %s24, %hS, HS21, HS22, HS23, HS24⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y9, %hy9, H109⟩, ⟨%y10, %hy10, H110⟩, ⟨%y11, %hy11, H111⟩, ⟨%y12, %hy12, H112⟩, ⟨%y13, %hy13, H113⟩, ⟨%y14, %hy14, H114⟩⟩
    have hr10 := K.finds_9 c t (by omega) y10 hy10
    have hr12 := K.finds_11 c t (by omega) y12 hy12
    have hr13 := K.finds_12 c t (by omega) y13 hy13
    have hr14 := K.finds_13 c t (by omega) y14 hy14
    obtain ⟨gS, g9, g10, g11, g12, g13, g14⟩ := K.stepB c t h0 h1 y10 y11 y12 y13 y14 s16 s19 s21 s22 s23 s24 hS hr10 hr12 hr13 hr14
    iapply ((atB m c t h0 h1 y10 y11 y12 y13 y14 s16 s19 s21 s22 s23 s24).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H109]; · iexists _; iexact H109
    isplitl [H110]; · iexact H110
    isplitl [H111]; · iexact H111
    isplitl [H112]; · iexact H112
    isplitl [H113]; · iexact H113
    isplitl [H114]; · iexact H114
    isplitl [HS15]; · iexists _; iexact HS15
    isplitl [HS16]; · iexact HS16
    isplitl [HS17]; · iexists _; iexact HS17
    isplitl [HS18]; · iexists _; iexact HS18
    isplitl [HS19]; · iexact HS19
    isplitl [HS20]; · iexists _; iexact HS20
    isplitl [HS21]; · iexact HS21
    isplitl [HS22]; · iexact HS22
    isplitl [HS23]; · iexact HS23
    isplitl [HS24]; · iexact HS24
    iintro ⟨H0, H1, H2, H3, H4, H5, H6, H7, ⟨%e9, H109⟩, ⟨%e10, H110⟩, H111, ⟨%e12, H112⟩, ⟨%e13, H113⟩, ⟨%e14, H114⟩, HS15, HS16, HS17, HS18, HS19, HS20, HS21, ⟨%e22, HS22⟩, ⟨%e23, HS23⟩, HS24⟩
    isplitl [HS15 HS16 HS17 HS18 HS19 HS20 HS21 HS22 HS23 HS24 Hg]
    · isplitl [HS15 HS16 HS17 HS18 HS19 HS20 HS21 HS22 HS23 HS24]
      · isplitl [HS15]; · iexact HS15
        isplitl [HS16]; · iexact HS16
        isplitl [HS17]; · iexact HS17
        isplitl [HS18]; · iexact HS18
        isplitl [HS19]; · iexact HS19
        isplitl [HS20]; · iexact HS20
        iexists (outB_21 m c t h0 h1 y10 y11 y12 y13 y14 s16 s19 s21 s22 s23 s24); iexists (outB_22 m c t h0 h1 y10 y11 y12 y13 y14 s16 s19 s21 s22 s23 s24); iexists (outB_23 m c t h0 h1 y10 y11 y12 y13 y14 s16 s19 s21 s22 s23 s24); iexists s24
        isplitr; · ipureintro; exact gS
        isplitl [HS21]
        · unfold owns; iexists _; isplitr
          swap; · iexact HS21
          ipureintro; exact rfl
        isplitl [HS22]
        · unfold owns; iexists _; isplitr
          swap; · iexact HS22
          ipureintro; exact View.read_writes_eq_canon _ _ _ (coverB_22 m c t h0 h1 y10 y11 y12 y13 y14 s16 s19 s21 s22 s23 s24)
        isplitl [HS23]
        · unfold owns; iexists _; isplitr
          swap; · iexact HS23
          ipureintro; exact View.read_writes_eq_canon _ _ _ (coverB_23 m c t h0 h1 y10 y11 y12 y13 y14 s16 s19 s21 s22 s23 s24)
        · iexact HS24
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H109]
    · iexists _; isplitr
      · ipureintro; exact g9
      unfold owns; iexists _; isplitr
      swap; · iexact H109
      ipureintro; exact View.read_writes_eq_canon _ _ _ (coverB_9 m c t h0 h1 y10 y11 y12 y13 y14 s16 s19 s21 s22 s23 s24)
    isplitl [H110]
    · iexists _; isplitr
      · ipureintro; exact g10
      unfold owns; iexists _; isplitr
      swap; · iexact H110
      ipureintro; exact View.read_writes_eq_canon _ _ _ (coverB_10 m c t h0 h1 y10 y11 y12 y13 y14 s16 s19 s21 s22 s23 s24)
    isplitl [H111]
    · iexists _; isplitr
      · ipureintro; exact g11
      iexact H111
    isplitl [H112]
    · iexists _; isplitr
      · ipureintro; exact g12
      unfold owns; iexists _; isplitr
      swap; · iexact H112
      ipureintro; exact View.read_writes_eq_canon _ _ _ (coverB_12 m c t h0 h1 y10 y11 y12 y13 y14 s16 s19 s21 s22 s23 s24)
    isplitl [H113]
    · iexists _; isplitr
      · ipureintro; exact g13
      unfold owns; iexists _; isplitr
      swap; · iexact H113
      ipureintro; exact View.read_writes_eq_canon _ _ _ (coverB_13 m c t h0 h1 y10 y11 y12 y13 y14 s16 s19 s21 s22 s23 s24)
    · iexists _; isplitr
      · ipureintro; exact g14
      unfold owns; iexists _; isplitr
      swap; · iexact H114
      ipureintro; exact View.read_writes_eq_canon _ _ _ (coverB_14 m c t h0 h1 y10 y11 y12 y13 y14 s16 s19 s21 s22 s23 s24)

set_option maxHeartbeats 9600000 in
/-- The body at the last point. -/
theorem sound_last (K : Kept m) (c : Dev nD) (t : Fin cfg0.N) (h1 : t.val % 32 = 31) :
    bodyPre K c t ⊢ wp frame (wpE (defs₀ (F := F)) Variants.none c none) Set.univ (bodyAt0 t) (fun _ => bodyPost K c t) := by
    unfold bodyPre bodyPost bodyAt0
    simp only [K.before_0, K.before_1, K.before_2, K.before_3, K.before_4, K.before_5, K.before_6, K.before_7]
    rw [show (K.dat c).owesAt () t.succ = (K.dat c).owesAt () t.castSucc from rfl, K.after_0, K.after_1, K.after_2, K.after_3, K.after_4, K.after_5, K.after_6, K.after_7,
      K.Phi_succ, K.Phi_pos c (t.val + 1) _ (by omega)]
    have hN : t.val < 32 := lt_of_lt_of_eq t.isLt (show cfg0.N = 32 from N_0)
    rw [K.Phi_castSucc c t, K.Phi_pos c _ _ (by omega)]
    iintro ⟨⟨⟨⟨%s15, HS15⟩, ⟨%s16, HS16⟩, ⟨%s17, HS17⟩, ⟨%s18, HS18⟩, ⟨%s19, HS19⟩, ⟨%s20, HS20⟩, ⟨%s21, %s22, %s23, %s24, %hS, HS21, HS22, HS23, HS24⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y9, %hy9, H109⟩, ⟨%y10, %hy10, H110⟩, ⟨%y11, %hy11, H111⟩, ⟨%y12, %hy12, H112⟩, ⟨%y13, %hy13, H113⟩, ⟨%y14, %hy14, H114⟩⟩
    have hr10 := K.finds_9 c t (by omega) y10 hy10
    have hr12 := K.finds_11 c t (by omega) y12 hy12
    have hr13 := K.finds_12 c t (by omega) y13 hy13
    have hr14 := K.finds_13 c t (by omega) y14 hy14
    obtain ⟨gS, g9, g10, g11, g12, g13, g14⟩ := K.stepC c t h1 y10 y12 y13 y14 s16 s19 s21 s22 s23 s24 hS hr10 hr12 hr13 hr14
    iapply ((atC m c t h1 y10 y12 y13 y14 s16 s19 s21 s22 s23 s24).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H109]; · iexists _; iexact H109
    isplitl [H110]; · iexact H110
    isplitl [H111]; · iexists _; iexact H111
    isplitl [H112]; · iexact H112
    isplitl [H113]; · iexact H113
    isplitl [H114]; · iexact H114
    isplitl [HS15]; · iexists _; iexact HS15
    isplitl [HS16]; · iexact HS16
    isplitl [HS17]; · iexists _; iexact HS17
    isplitl [HS18]; · iexists _; iexact HS18
    isplitl [HS19]; · iexact HS19
    isplitl [HS20]; · iexists _; iexact HS20
    isplitl [HS21]; · iexact HS21
    isplitl [HS22]; · iexact HS22
    isplitl [HS23]; · iexact HS23
    isplitl [HS24]; · iexact HS24
    iintro ⟨H0, H1, H2, H3, H4, H5, H6, H7, ⟨%e9, H109⟩, ⟨%e10, H110⟩, ⟨%e11, H111⟩, ⟨%e12, H112⟩, ⟨%e13, H113⟩, ⟨%e14, H114⟩, HS15, HS16, HS17, HS18, HS19, HS20, HS21, ⟨%e22, HS22⟩, ⟨%e23, HS23⟩, HS24⟩
    isplitl [HS15 HS16 HS17 HS18 HS19 HS20 HS21 HS22 HS23 HS24 Hg]
    · isplitl [HS15 HS16 HS17 HS18 HS19 HS20 HS21 HS22 HS23 HS24]
      · isplitl [HS15]; · iexact HS15
        isplitl [HS16]; · iexact HS16
        isplitl [HS17]; · iexact HS17
        isplitl [HS18]; · iexact HS18
        isplitl [HS19]; · iexact HS19
        isplitl [HS20]; · iexact HS20
        iexists (outC_21 m c t h1 y10 y12 y13 y14 s16 s19 s21 s22 s23 s24); iexists (outC_22 m c t h1 y10 y12 y13 y14 s16 s19 s21 s22 s23 s24); iexists (outC_23 m c t h1 y10 y12 y13 y14 s16 s19 s21 s22 s23 s24); iexists s24
        isplitr; · ipureintro; exact gS
        isplitl [HS21]
        · unfold owns; iexists _; isplitr
          swap; · iexact HS21
          ipureintro; exact rfl
        isplitl [HS22]
        · unfold owns; iexists _; isplitr
          swap; · iexact HS22
          ipureintro; exact View.read_writes_eq_canon _ _ _ (coverC_22 m c t h1 y10 y12 y13 y14 s16 s19 s21 s22 s23 s24)
        isplitl [HS23]
        · unfold owns; iexists _; isplitr
          swap; · iexact HS23
          ipureintro; exact View.read_writes_eq_canon _ _ _ (coverC_23 m c t h1 y10 y12 y13 y14 s16 s19 s21 s22 s23 s24)
        · iexact HS24
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H109]
    · iexists _; isplitr
      · ipureintro; exact g9
      unfold owns; iexists _; isplitr
      swap; · iexact H109
      ipureintro; exact View.read_writes_eq_canon _ _ _ (coverC_9 m c t h1 y10 y12 y13 y14 s16 s19 s21 s22 s23 s24)
    isplitl [H110]
    · iexists _; isplitr
      · ipureintro; exact g10
      unfold owns; iexists _; isplitr
      swap; · iexact H110
      ipureintro; exact View.read_writes_eq_canon _ _ _ (coverC_10 m c t h1 y10 y12 y13 y14 s16 s19 s21 s22 s23 s24)
    isplitl [H111]
    · iexists _; isplitr
      · ipureintro; exact g11
      unfold owns; iexists _; isplitr
      swap; · iexact H111
      ipureintro; exact View.read_writes_eq_canon _ _ _ (coverC_11 m c t h1 y10 y12 y13 y14 s16 s19 s21 s22 s23 s24)
    isplitl [H112]
    · iexists _; isplitr
      · ipureintro; exact g12
      unfold owns; iexists _; isplitr
      swap; · iexact H112
      ipureintro; exact View.read_writes_eq_canon _ _ _ (coverC_12 m c t h1 y10 y12 y13 y14 s16 s19 s21 s22 s23 s24)
    isplitl [H113]
    · iexists _; isplitr
      · ipureintro; exact g13
      unfold owns; iexists _; isplitr
      swap; · iexact H113
      ipureintro; exact View.read_writes_eq_canon _ _ _ (coverC_13 m c t h1 y10 y12 y13 y14 s16 s19 s21 s22 s23 s24)
    · iexists _; isplitr
      · ipureintro; exact g14
      unfold owns; iexists _; isplitr
      swap; · iexact H114
      ipureintro; exact View.read_writes_eq_canon _ _ _ (coverC_14 m c t h1 y10 y12 y13 y14 s16 s19 s21 s22 s23 s24)

theorem sound_body (K : Kept m) (c : Dev nD) (t : Fin cfg0.N) :
    bodyPre K c t ⊢ wp frame (wpE (defs₀ (F := F)) Variants.none c none) Set.univ (bodyAt0 t) (fun _ => bodyPost K c t) := by
  by_cases h0 : t.val % 32 = 0
  · exact sound_first K c t h0
  · by_cases h1 : t.val % 32 = 31
    · exact sound_last K c t h1
    · exact sound_mid K c t h0 h1

theorem defs₀_row (t : Fin cfg0.N) :
    defs₀ (F := F) .tc cfg0.body (cfg0.bodyArgs t (cfg0.slots t)) = bodyAt0 t := by
  unfold defs₀; rw [Defs.onTc_tc]

theorem body_obligation (K : Kept m) (c : Dev nD) :
    Pipeline.BodyObligationRel (K.dat c) (defs₀ (F := F)) Variants.none () Set.univ marked (K.Rl c) := fun t => by
  rw [bigSep_W0, bigSep_W0, defs₀_row]
  exact triple_restated (sound_body K c t) rfl .rfl fun _ => .rfl

theorem hin (K : Kept m) (c : Dev nD) : Pipeline.ΦA spec0 c ⊢ (K.rdat c).Φ 0 := by
  rw [show (K.rdat c).Φ 0 = K.Phi c 0 (Nat.zero_le _) from rfl, K.Phi_zero c 0 _ rfl]
  try exact Idealize.SL.BI.Entails.refl _

theorem hout (K : Kept m) (c : Dev nD) : (K.rdat c).Φ (Fin.last cfg0.N) ⊢ Pipeline.ΦA spec0 c := by
  rw [show (K.rdat c).Φ (Fin.last cfg0.N) = K.Phi c cfg0.N le_rfl from rfl,
    K.Phi_pos c _ _ (by have : cfg0.N = 32 := N_0; omega), PhiA_eq]
  iintro ⟨⟨HS15, HS16, HS17, HS18, HS19, HS20, ⟨%s21, %s22, %s23, %s24, -, HS21, HS22, HS23, HS24⟩⟩, Hg⟩
  isplitr [Hg]
  · isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexists _; iexact HS21
    isplitl [HS22]; · iexists _; iexact HS22
    isplitl [HS23]; · iexists _; iexact HS23
    iexists _; iexact HS24
  iexact Hg

set_option backward.isDefEq.respectTransparency.types false in
/-- The run of the call: it ends with nothing in flight, and of each result's array what was kept of its blocks holds. -/
theorem run_main_quiescent (K : Kept m) : θ_run defs (onTc (τ := τ) (main (F := F))) (s₀ m ρ)
    (fun r => Pipeline.RDat.FramePost cfg0 K.rdat (V m) r ∧ r.2.sem = fun _ => 0) :=
  Pipeline.RDat.θ_run_frame_track_shared (Q' := _) cfgs (0 : Fin 1) launch₀0 defs₀ Variants.none K.rdat m ρ main
    (hbody := fun c => (body_obligation K c).toRRel) (hq := fun _ _ _ => rfl)
    (howed := fun _ _ => rfl) (V := V m) (hmain := hmain m Variants.none) (hA := K.A_eq) (hin := hin K) (hout := hout K)
    (hQ' := fun _ h => h)

set_option maxHeartbeats 4000000 in
set_option backward.isDefEq.respectTransparency.types false in
/-- After the run the arguments hold what they held. -/
theorem args_kept (K : Kept m) (r : PUnit × MemSt nD τ sig (Elt F)) (h : Pipeline.RDat.FramePost cfg0 K.rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 1 rfl).trans ((K.A_eq c 1).trans (V_main_arg0 m c))
   , (h.arr_in c 4 rfl).trans ((K.A_eq c 4).trans (V_main_arg1 m c))
   , (h.arr_in c 5 rfl).trans ((K.A_eq c 5).trans (V_main_arg2 m c))
   , ((h c).2 main_arg3 (Pipeline.mem_restRefs_of main_arg3 (by decide) (by decide))).trans (V_main_arg3 m c)
   , (h.arr_in c 6 rfl).trans ((K.A_eq c 6).trans (V_main_arg4 m c))
   , (h.arr_in c 7 rfl).trans ((K.A_eq c 7).trans (V_main_arg5 m c))
   , (h.arr_in c 2 rfl).trans ((K.A_eq c 2).trans (V_main_arg6 m c))
   ⟩

variable (m)

/-- A proof that keeps nothing. -/
def keepNothing : Kept m where
  S _ _ _ _ _ _ := True
  R8 _ _ _ := True
  R9 _ _ _ := True
  R10 _ _ _ := True
  R11 _ _ _ := True
  R12 _ _ _ := True
  R13 _ _ _ := True
  stepA := by intros; exact ⟨trivial, trivial, trivial, trivial, trivial, trivial, trivial⟩
  stepB := by intros; exact ⟨trivial, trivial, trivial, trivial, trivial, trivial, trivial⟩
  stepC := by intros; exact ⟨trivial, trivial, trivial, trivial, trivial, trivial, trivial⟩

/-- The call ends with its arguments unchanged and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_kept (keepNothing m) r h.1 c, h.2⟩) (run_main_quiescent ρ (keepNothing m))

end Cert.Kernel5Ideal.Even

end
-- ==== Proof.EvenBits.lean ====
module

public import proofs.«01_k».proof.Proof.EvenBody
public import proofs.«01_k».proof.Proof.Gen.Kernel5.Frame

@[expose] public section

set_option maxRecDepth 16384

noncomputable section

/-! The convolution mixer's backward kernel as it is printed and its idealized form are one text, so the run of the one is the
run of the other. -/

namespace Cert.Kernel5.Even

open Idealize.ShloMosaic Idealize.ShloMosaic.TcCoe Idealize.ShloMosaic.Tactic Idealize.SL.Sem
open Gen

variable {F : FTy → Type} [FloatOps F]

/-- The statement that the call ends with its arguments unchanged and nothing in flight, of the printed program. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

end Cert.Kernel5.Even

namespace Cert.Kernel5Ideal.Even

open Idealize.ShloMosaic Idealize.ShloMosaic.TcCoe Idealize.ShloMosaic.Tactic Idealize.SL.Sem
open Gen

/-- The same of its idealized form. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frame_same (F : FTy → Type) [FloatOps F] : Frame F = Cert.Kernel5.Even.Frame F := by sl_kernel_rfl

/-- The printed call ends with its arguments unchanged and nothing in flight. -/
theorem frame_bits (F : FTy → Type) [FloatOps F] : Cert.Kernel5.Even.Frame F :=
  frame_same F ▸ fun m ρ => frame m ρ

end Cert.Kernel5Ideal.Even

end
-- ==== Proof.PoolRunA.lean ====
module

public import proofs.«01_k».proof.Proof.Gen.Kernel7Ideal.Frame
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! The body of the pooling mixer's forward kernel, run once at the first grid point and once at any other. -/

namespace Cert.Kernel7Ideal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

/-- The grid point is the first: the body's own test. -/
abbrev FirstPt (i : grid0.Coords) : Prop :=
  (Scalar.cmpi .ne (Scalar.extui (Scalar.cmpi .eq (BitVec.ofNat 32 (i 0).val) 0#32)) 0#32) = 1#1

/-- The test holds at point 0 alone. -/
theorem firstPt : ∀ t : Fin cfg0.N, FirstPt (grid0.coords t) ↔ t.val % 16 = 0 :=
  (fun t => by
  have ht : t.val < 16 := Nat.lt_of_lt_of_eq t.isLt N_0
  have e0 : (grid0.coords t 0).val = t.val / 1 % 16 := Pipeline.Grid.coords_val t 0 (by decide) rfl
  simp only [FirstPt, e0]
  word_cmp : ∀ t : Fin grid0.N, FirstPt (grid0.coords t) ↔ t.val % 16 = 0)

/-- The first eight rows of a work buffer. -/
abbrev padRect : Rect S280x2048 := Rect.unit (s := S280x2048) ![0, 0] S8x2048.size inb_S280x2048_S8x2048_0_0

/-- The store of zeros the first point leaves there. -/
abbrev padPiece : View.Piece (Elt F) S280x2048 .f32 := ⟨padRect, k0_pay3 (F := F)⟩

set_option maxHeartbeats 1600000 in
/-- The body run at the first point: from the inputs' blocks and any contents of the results' blocks and of the work
    buffers it comes to an end, with the stores each of those was left with (last first). -/
def runA (c : Dev nD) (i : grid0.Coords) (arg1 : Memref sig .tc .vmem S256x4096 .f32) (harg1 : arg1.IsWhole) (arg2 : Memref sig .tc .vmem S16x2048 .f32) (harg2 : arg2.IsWhole) (arg3 : Memref sig .tc .vmem S4x512x512 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S280x2048 .f32) (harg8 : arg8.IsWhole) (arg9 : Memref sig .tc .vmem S280x2048 .f32) (harg9 : arg9.IsWhole) (hc0 : FirstPt i)
    (x0 : Vec F S256x4096 .f32) (x1 : Vec F S16x2048 .f32) (x2 : Vec F S4x512x512 .bf16) (x3 : Vec F S1x2048 .f32) (x4 : Vec F S1x2048 .f32) :
    Σ' (L5 : List (View.Piece (Elt F) S256x2048 .bf16)), Σ' (L6 : List (View.Piece (Elt F) S256x2048 .bf16)), Σ' (K0 : List (View.Piece (Elt F) S280x2048 .f32)), { K1 : List (View.Piece (Elt F) S280x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f K0) ∗ (∃ f, arg9.view.loc (c : Thread nD τ) ↦[arg9.view.set]{fullShare} arg9.view.writes (Elt F) f K1)) -∗ K ⟨⟩))
          ⊢ wp frame (wpE (defs₀ (F := F)) Variants.none c none) E (cc0_o_mixer_fwd i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_o_mixer_fwd_eq_skeleton]; unfold cc0_o_mixer_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact H8

end Cert.Kernel7Ideal.Pool

end
-- ==== Proof.PoolRunB.lean ====
module

public import proofs.«01_k».proof.Proof.PoolRunA
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! The body of the pooling mixer's forward kernel, run once at the first grid point and once at any other. -/

namespace Cert.Kernel7Ideal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

set_option maxHeartbeats 1600000 in
/-- The body run at a later point: from the inputs' blocks and zeros in the first eight rows of the two work buffers. -/
def runB (c : Dev nD) (i : grid0.Coords) (arg1 : Memref sig .tc .vmem S256x4096 .f32) (harg1 : arg1.IsWhole) (arg2 : Memref sig .tc .vmem S16x2048 .f32) (harg2 : arg2.IsWhole) (arg3 : Memref sig .tc .vmem S4x512x512 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S280x2048 .f32) (harg8 : arg8.IsWhole) (arg9 : Memref sig .tc .vmem S280x2048 .f32) (harg9 : arg9.IsWhole) (hc0 : ¬ FirstPt i)
    (x0 : Vec F S256x4096 .f32) (x1 : Vec F S16x2048 .f32) (x2 : Vec F S4x512x512 .bf16) (x3 : Vec F S1x2048 .f32) (x4 : Vec F S1x2048 .f32) :
    Σ' (L5 : List (View.Piece (Elt F) S256x2048 .bf16)), Σ' (L6 : List (View.Piece (Elt F) S256x2048 .bf16)), Σ' (K0 : List (View.Piece (Elt F) S280x2048 .f32)), { K1 : List (View.Piece (Elt F) S280x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f [padPiece]) ∗ (∃ f, arg9.view.loc (c : Thread nD τ) ↦[arg9.view.set]{fullShare} arg9.view.writes (Elt F) f [padPiece])
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f K0) ∗ (∃ f, arg9.view.loc (c : Thread nD τ) ↦[arg9.view.set]{fullShare} arg9.view.writes (Elt F) f K1)) -∗ K ⟨⟩))
          ⊢ wp frame (wpE (defs₀ (F := F)) Variants.none c none) E (cc0_o_mixer_fwd i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_o_mixer_fwd_eq_skeleton]; unfold cc0_o_mixer_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, H7⟩, ⟨%f8, H8⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact H8

end Cert.Kernel7Ideal.Pool

end
-- ==== Proof.PoolLeft.lean ====
module

public import proofs.«01_k».proof.Proof.PoolRunB
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! What the pooling mixer's forward kernel leaves after each grid point, for any reading of the float operations: the two
results' blocks, from the body's two runs. The kernel's two scratch buffers are work space; all that is kept of them from
point to point is that their first eight rows are zero. -/

namespace Cert.Kernel7Ideal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two work buffers, whole. -/
abbrev w0 : Memref sig .tc .vmem S280x2048 .f32 := Memref.whole cc0_scratch0
abbrev w1 : Memref sig .tc .vmem S280x2048 .f32 := Memref.whole cc0_scratch1

/-- The run at the first point, on its own buffers and blocks. -/
abbrev atA (c : Dev nD) (t : Fin cfg0.N) (h : t.val % 16 = 0) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    w0 (Memref.isWhole_whole _) w1 (Memref.isWhole_whole _) ((firstPt t).mpr h)
    (iblk m c 0 t) (iblk m c 1 t) (iblk m c 2 t) (iblk m c 3 t) (iblk m c 4 t)

/-- The run at a later point, on its own buffers and blocks. -/
abbrev atB (c : Dev nD) (t : Fin cfg0.N) (h : ¬ t.val % 16 = 0) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    w0 (Memref.isWhole_whole _) w1 (Memref.isWhole_whole _) (fun e => h ((firstPt t).mp e))
    (iblk m c 0 t) (iblk m c 1 t) (iblk m c 2 t) (iblk m c 3 t) (iblk m c 4 t)

/-- The stores of the gated rows reach every entry. -/
theorem coverA_5 (c : Dev nD) (t : Fin cfg0.N) (h : t.val % 16 = 0) (y : Shape.Idx S256x2048) :
    ∃ pc ∈ (atA m c t h).1, y ∈ pc.1.set :=
  View.cover_of_tiledBy (atA m c t h).1 ![256, 512] (by sl_kernel_rfl) y
/-- What the stores leave. -/
def outA_5 (c : Dev nD) (t : Fin cfg0.N) (h : t.val % 16 = 0) : Vec F S256x2048 .bf16 :=
  View.canon (atA m c t h).1

/-- The stores of the gated rows reach every entry. -/
theorem coverB_5 (c : Dev nD) (t : Fin cfg0.N) (h : ¬ t.val % 16 = 0) (y : Shape.Idx S256x2048) :
    ∃ pc ∈ (atB m c t h).1, y ∈ pc.1.set :=
  View.cover_of_tiledBy (atB m c t h).1 ![256, 512] (by sl_kernel_rfl) y
/-- What the stores leave. -/
def outB_5 (c : Dev nD) (t : Fin cfg0.N) (h : ¬ t.val % 16 = 0) : Vec F S256x2048 .bf16 :=
  View.canon (atB m c t h).1

/-- What a point leaves of the gated rows. -/
def out_5 (c : Dev nD) (t : Fin cfg0.N) : Vec F S256x2048 .bf16 :=
  if h : t.val % 16 = 0 then outA_5 m c t h else outB_5 m c t h

/-- The stores of the pooled differences reach every entry. -/
theorem coverA_6 (c : Dev nD) (t : Fin cfg0.N) (h : t.val % 16 = 0) (y : Shape.Idx S256x2048) :
    ∃ pc ∈ (atA m c t h).2.1, y ∈ pc.1.set :=
  View.cover_of_tiledBy (atA m c t h).2.1 ![256, 512] (by sl_kernel_rfl) y
/-- What the stores leave. -/
def outA_6 (c : Dev nD) (t : Fin cfg0.N) (h : t.val % 16 = 0) : Vec F S256x2048 .bf16 :=
  View.canon (atA m c t h).2.1

/-- The stores of the pooled differences reach every entry. -/
theorem coverB_6 (c : Dev nD) (t : Fin cfg0.N) (h : ¬ t.val % 16 = 0) (y : Shape.Idx S256x2048) :
    ∃ pc ∈ (atB m c t h).2.1, y ∈ pc.1.set :=
  View.cover_of_tiledBy (atB m c t h).2.1 ![256, 512] (by sl_kernel_rfl) y
/-- What the stores leave. -/
def outB_6 (c : Dev nD) (t : Fin cfg0.N) (h : ¬ t.val % 16 = 0) : Vec F S256x2048 .bf16 :=
  View.canon (atB m c t h).2.1

/-- What a point leaves of the pooled differences. -/
def out_6 (c : Dev nD) (t : Fin cfg0.N) : Vec F S256x2048 .bf16 :=
  if h : t.val % 16 = 0 then outA_6 m c t h else outB_6 m c t h

/-- A work buffer held, its first eight rows zero and the rest anything. -/
def padded (c : Dev nD) (w : Memref sig .tc .vmem S280x2048 .f32) : sProp 𝕄 :=
  iprop(∃ f, w.view.loc (c : Thread nD τ) ↦[w.view.set]{fullShare} w.view.writes (Elt F) f [padPiece])

/-- What holds before point `n`: at first every scratch buffer at anything; later the work buffers padded. -/
def Phi (c : Dev nD) : (n : ℕ) → n ≤ cfg0.N → sProp 𝕄
  | 0, _ => Pipeline.ΦA spec0 c
  | n + 1, hn => iprop(iprop(padded c w0 ∗ padded c w1) ∗ (∃ r, prngReg c r))

theorem Phi_zero (c : Dev nD) (n : ℕ) (h : n ≤ cfg0.N) (hz : n = 0) : (Phi c n h : sProp 𝕄) = Pipeline.ΦA spec0 c := by
  subst hz; rfl

theorem Phi_succ (c : Dev nD) (n : ℕ) (hn : n < cfg0.N) :
    (Phi c (n + 1) hn : sProp 𝕄) = iprop(iprop(padded c w0 ∗ padded c w1) ∗ (∃ r, prngReg c r)) := rfl

theorem Phi_pos (c : Dev nD) (n : ℕ) (h : n ≤ cfg0.N) (hz : n ≠ 0) :
    (Phi c n h : sProp 𝕄) = iprop(iprop(padded c w0 ∗ padded c w1) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) w0 fullShare d) ∗ (∃ d, owns (c : Thread nD τ) w1 fullShare d)) ∗ (∃ r, prngReg c r)) := by
  unfold Pipeline.ΦA; rw [scopedRest0_eq]; simp only [w0, w1, owns_whole]; try rfl

/-- The proof data of the call's pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out_5 m c t
    | ⟨6, _⟩ => out_6 m c t
  Φ t := Phi c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi c t.val (Nat.le_of_lt t.isLt) := by
  dsimp only [dats]; exact Pipeline.Dat.Φ_castSucc (Phi c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out_5 m c t := by dsimp only [dats]
theorem after_6 (c : Dev nD) (t : Fin cfg0.N) : (dats m 0 c).after 6 t = out_6 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

end Cert.Kernel7Ideal.Pool

end
-- ==== Proof.PoolBody.lean ====
module

public import proofs.«01_k».proof.Proof.PoolLeft
public import Idealize.ShloMosaic.Lib.Claim
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! The body of the pooling mixer's forward kernel takes what holds before a grid point to what holds after it. -/

namespace Cert.Kernel7Ideal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A list of stores (last first) into a work buffer that ends with zeros in its first eight rows: one of them writes the
    zeros, and those after it stay below these rows. -/
inductive KeepsPad : List (View.Piece (Elt F) S280x2048 .f32) → Prop
  | pad (L) : KeepsPad (padPiece :: L)
  | more (off sz : Fin 2 → ℕ) (inb : ∀ a, off a + sz a ≤ S280x2048.size a) (w) (L) (h : 8 ≤ off 0) (hL : KeepsPad L) :
      KeepsPad (⟨Rect.unit (s := S280x2048) off sz inb, w⟩ :: L)

/-- After such stores the first eight rows read as zeros. -/
theorem KeepsPad.read {L : List (View.Piece (Elt F) S280x2048 .f32)} (h : KeepsPad L) {v : View sig .tc .vmem S280x2048 .f32}
    (f : v.ty.Contents (Elt F)) (x : padRect.shape.Idx) :
    v.read (Elt F) (v.writes (Elt F) f L) (padRect.emb x) = k0_pay3 (F := F) x := by
  induction h with
  | pad L => exact View.read_writes_cons_emb _ _ _ _ _ _
  | more off sz inb w L h hL ih =>
    rw [View.writes_cons, View.read_slice_write_of_not_mem _ _ _ _ (y := padRect.emb x) ?_]
    · exact ih
    · rw [Rect.map_emb_univ]
      intro hy
      obtain ⟨z, hz⟩ := (Rect.unit (s := S280x2048) off sz inb).exists_idx_of_mem hy
      have h0 : off 0 + 1 * (z 0).val = 0 + 1 * (x 0).val := congrArg (fun i => (i 0).val) hz
      have hx0 : (x 0).val < 8 := (x 0).isLt
      omega

/-- So the buffer is left padded. -/
theorem KeepsPad.padded {L : List (View.Piece (Elt F) S280x2048 .f32)} (h : KeepsPad L) (c : Dev nD)
    (w : Memref sig .tc .vmem S280x2048 .f32) (hw : w.IsWhole) (f : w.view.ty.Contents (Elt F)) :
    (iprop(w.view.loc (c : Thread nD τ) ↦[w.view.set]{fullShare} w.view.writes (Elt F) f L) : sProp 𝕄) ⊢ padded c w := by
  have e : w.view.writes (Elt F) (w.view.writes (Elt F) f L) [padPiece] = w.view.writes (Elt F) f L := by
    refine hw.read_bijective.1 (funext fun y => ?_)
    by_cases hy : y ∈ padRect.set
    · obtain ⟨x, rfl⟩ := padRect.exists_idx_of_mem hy
      exact (View.read_writes_cons_emb _ _ _ _ _ _).trans (h.read f x).symm
    · rw [View.writes_cons, View.read_slice_write_of_not_mem _ _ _ _ (by rwa [Rect.map_emb_univ])]
      rfl
  unfold Pool.padded
  iintro H
  iexists _
  rw [e]
  iexact H

theorem keepsA_0 (c : Dev nD) (t : Fin cfg0.N) (h : t.val % 16 = 0) : KeepsPad (atA m c t h).2.2.1 := by
  repeat' first | exact .pad _ | refine .more _ _ _ _ _ (by decide) ?_

theorem keepsA_1 (c : Dev nD) (t : Fin cfg0.N) (h : t.val % 16 = 0) : KeepsPad (atA m c t h).2.2.2.1 := by
  repeat' first | exact .pad _ | refine .more _ _ _ _ _ (by decide) ?_

theorem keepsB_0 (c : Dev nD) (t : Fin cfg0.N) (h : ¬ t.val % 16 = 0) : KeepsPad (atB m c t h).2.2.1 := by
  repeat' first | exact .pad _ | refine .more _ _ _ _ _ (by decide) ?_

theorem keepsB_1 (c : Dev nD) (t : Fin cfg0.N) (h : ¬ t.val % 16 = 0) : KeepsPad (atB m c t h).2.2.2.1 := by
  repeat' first | exact .pad _ | refine .more _ _ _ _ _ (by decide) ?_

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, after_6]
  rw [show (dats m 0 c).Φ t.succ = Phi c (t.val + 1) t.isLt from rfl, Phi_succ]
  have hN : t.val < 16 := lt_of_lt_of_eq t.isLt (show cfg0.N = 16 from N_0)
  by_cases h0 : t.val % 16 = 0
  · rw [Phi_castSucc m c t, Phi_zero c _ _ (by omega), PhiA_eq, show out_5 m c t = outA_5 m c t h0 from dif_pos h0, show out_6 m c t = outA_6 m c t h0 from dif_pos h0]
    unfold outA_5 outA_6; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((atA m c t h0).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, ⟨%es0, HS0⟩, ⟨%es1, HS1⟩⟩
    isplitl [HS0 HS1 Hg]
    · isplitl [HS0 HS1]
      · isplitl [HS0]; · iapply ((keepsA_0 m c t h0).padded c w0 (Memref.isWhole_whole _) es0); iexact HS0
        iapply ((keepsA_1 m c t h0).padded c w1 (Memref.isWhole_whole _) es1); iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverA_5 m c t h0)
    unfold owns; iexists _; isplitr
    swap; · iexact H6
    ipureintro; exact View.read_writes_eq_canon _ _ _ (coverA_6 m c t h0)
  · rw [Phi_castSucc m c t, Phi_pos c _ _ (by omega), show out_5 m c t = outB_5 m c t h0 from dif_neg h0, show out_6 m c t = outB_6 m c t h0 from dif_neg h0]
    unfold outB_5 outB_6; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((atB m c t h0).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · unfold padded; iexact HS0
    isplitl [HS1]; · unfold padded; iexact HS1
    iintro ⟨H0, H1, H2, H3, H4, ⟨%e5, H5⟩, ⟨%e6, H6⟩, ⟨%es0, HS0⟩, ⟨%es1, HS1⟩⟩
    isplitl [HS0 HS1 Hg]
    · isplitl [HS0 HS1]
      · isplitl [HS0]; · iapply ((keepsB_0 m c t h0).padded c w0 (Memref.isWhole_whole _) es0); iexact HS0
        iapply ((keepsB_1 m c t h0).padded c w1 (Memref.isWhole_whole _) es1); iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverB_5 m c t h0)
    unfold owns; iexists _; isplitr
    swap; · iexact H6
    ipureintro; exact View.read_writes_eq_canon _ _ _ (coverB_6 m c t h0)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi c 0 (Nat.zero_le _) from rfl, Phi_zero c 0 _ rfl]
  try exact Idealize.SL.BI.Entails.refl _

theorem padded_forget (c : Dev nD) (w : Memref sig .tc .vmem S280x2048 .f32) :
    (padded c w : sProp 𝕄) ⊢ iprop(∃ d, owns (c : Thread nD τ) w fullShare d) := by
  unfold padded owns
  iintro ⟨%f, H⟩
  iexists _; iexists _; isplitr; swap; · iexact H
  ipureintro; rfl

theorem hout (c : Dev nD) : (dats m 0 c).Φ (Fin.last cfg0.N) ⊢ Pipeline.ΦA spec0 c := by
  rw [show (dats m 0 c).Φ (Fin.last cfg0.N) = Phi c cfg0.N le_rfl from rfl,
    Phi_pos c _ _ (by have : cfg0.N = 16 := N_0; omega), PhiA_eq]
  iintro ⟨⟨HS0, HS1⟩, Hg⟩
  isplitl [HS0 HS1]
  · isplitl [HS0]; · iapply (padded_forget c w0); iexact HS0
    iapply (padded_forget c w1); iexact HS1
  iexact Hg

set_option backward.isDefEq.respectTransparency.types false in
/-- The run of the call: it ends with nothing in flight, every array as the proof data says. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m) (hQ' := fun _ h => h)

/-- The call ends with its arguments unchanged and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Kernel7Ideal.Pool

end
-- ==== Proof.PoolRows.lean ====
module

public import proofs.«01_k».proof.Proof.PoolBody
public import proofs.«01_k».proof.Proof.OddRows

@[expose] public section

set_option maxRecDepth 16384

noncomputable section

/-! The sums over the rows before a row that the pooling mixer's forward kernel builds by doubling in its two work buffers,
and the words it divides by. The rows of the buffers are numbered as the kernel stores them: eight rows of zeros, the sixteen
rows before the tile, the tile's 256 rows. -/

namespace Cert.Kernel7Ideal.Pool

open Idealize.ShloMosaic Idealize.ShloMosaic.TcCoe
open Cert.Kernel7Ideal.Gen
open Cert.Kernel4Ideal.Odd (win inv rowG rows wts)

/-- Row `i` of a work buffer before the sums: of the tile, of the sixteen rows before it, or nothing. -/
def span (own : Fin 256 → Fin 2048 → EReal) (prev : Fin 16 → Fin 2048 → EReal) (i : ℕ) (d : Fin 2048) : EReal :=
  if h : i - 24 < 256 ∧ 24 ≤ i then own ⟨i - 24, h.1⟩ d else if h : i - 8 < 16 then prev ⟨i - 8, h⟩ d else 0

/-- Its 512 columns from `col` on. -/
def part (own : Fin 256 → Fin 2048 → EReal) (prev : Fin 16 → Fin 2048 → EReal) (col : ℕ) (hc : col + 512 ≤ 2048) (i : ℕ) (k : Fin 512) : EReal :=
  span own prev i ⟨col + k.val, by omega⟩

/-- The word the kernel divides by is the number of rows of the window. -/
theorem count_word (t : Fin cfg0.N) (r : ℕ) (hr : r < 256) (W : ℕ) (hW : W ≤ 16) :
    FloatOps.sitofp (F := Ideal) FTy.f32 (IntOp.minsi (IntOp.addi (IntOp.addi
        (Scalar.muli (BitVec.ofNat 32 (grid0.coords t 0).val) 256#32) (BitVec.ofNat 32 r)) 1#32) (BitVec.ofNat 32 W))
      = (((min (t.val * 256 + r + 1) W : ℕ) : ℝ) : EReal) := by
  have ht : t.val < 16 := Nat.lt_of_lt_of_eq t.isLt N_0
  have e0 : (grid0.coords t 0).val = t.val / 1 % 16 := Pipeline.Grid.coords_val t 0 (by decide) rfl
  have e1 : (grid0.coords t 0).val = t.val := by omega
  have e2 : IntOp.addi (IntOp.addi (Scalar.muli (BitVec.ofNat 32 t.val) 256#32) (BitVec.ofNat 32 r)) 1#32 = BitVec.ofNat 32 (t.val * 256 + r + 1) := by
    apply BitVec.eq_of_toNat_eq
    simp only [IntOp.addi, Scalar.muli, IntOp.muli, BitVec.toNat_add, BitVec.toNat_mul, BitVec.toNat_ofNat]
    omega
  have i1 : (BitVec.ofNat 32 (t.val * 256 + r + 1)).toInt = ((t.val * 256 + r + 1 : ℕ) : ℤ) := WordCmp.toInt_ofNat_of_lt (by omega)
  have i2 : (BitVec.ofNat 32 W).toInt = ((W : ℕ) : ℤ) := WordCmp.toInt_ofNat_of_lt (by omega)
  have e3 : IntOp.minsi (BitVec.ofNat 32 (t.val * 256 + r + 1)) (BitVec.ofNat 32 W) = BitVec.ofNat 32 (min (t.val * 256 + r + 1) W) := by
    unfold IntOp.minsi
    rw [BitVec.slt, i1, i2]
    rcases Nat.lt_or_ge (t.val * 256 + r + 1) W with h | h
    · rw [if_pos (by simpa using Int.ofNat_lt.mpr h), Nat.min_eq_left h.le]
    · have h' := Nat.not_lt.mpr h
      rw [if_neg (by simpa using fun e => h' (Int.ofNat_lt.mp e)), Nat.min_eq_right h]
  have i3 : (BitVec.ofNat 32 (min (t.val * 256 + r + 1) W)).toInt = ((min (t.val * 256 + r + 1) W : ℕ) : ℤ) := WordCmp.toInt_ofNat_of_lt (by omega)
  rw [e1, e2, e3]
  change (((BitVec.ofNat 32 (min (t.val * 256 + r + 1) W)).toInt : ℝ) : EReal) = _
  rw [i3]
  push_cast
  rfl

/-- A work buffer's stores. -/
abbrev Stores : Type := List (View.Piece (Elt Ideal) S280x2048 .f32)

/-- After the stores the buffer's rows from `lo` on, in the 512 columns from `col` on, are `f`'s. -/
def Holds (L : Stores) (col lo : ℕ) (f : ℕ → Fin 512 → EReal) : Prop :=
  ∀ (i : Fin 280) (k : Fin 512) (d : Fin 2048), lo ≤ i.val → d.val = col + k.val → View.canon L (ix2 i d) = f i.val k

/-- A store in other columns keeps them. -/
theorem Holds.skip {L : Stores} {col lo a b p q : ℕ} {f : ℕ → Fin 512 → EReal} (h : Holds L col lo f)
    {inb : ∀ x, (![a, b] : Fin 2 → ℕ) x + (![p, q] : Fin 2 → ℕ) x ≤ S280x2048.size x}
    {w : (Rect.unit (s := S280x2048) ![a, b] ![p, q] inb).shape.Idx → Elt Ideal .f32} (hd : col + 512 ≤ b ∨ b + q ≤ col) :
    Holds (⟨Rect.unit (s := S280x2048) ![a, b] ![p, q] inb, w⟩ :: L) col lo f := fun i k d h1 h2 => by
  have hk := k.isLt
  exact (Cert.Pieces.canon_miss inb w L _ 1 (show d.val < b ∨ b + q ≤ d.val by omega)).trans (h i k d h1 h2)

/-- A load of rows from `a` on of those columns. -/
theorem Holds.load {κ : Kind} {sp : Space} {L : Stores} {col lo : ℕ} {f : ℕ → Fin 512 → EReal} (h : Holds L col lo f)
    (v : View sig κ sp S280x2048 .f32) {a p : ℕ} (inb : ∀ x, (![a, col] : Fin 2 → ℕ) x + (![p, 512] : Fin 2 → ℕ) x ≤ S280x2048.size x)
    (i : Fin p) (k : Fin 512) (hl : lo ≤ a + i.val) :
    v.readCov L (Rect.unit (s := S280x2048) ![a, col] ![p, 512] inb).toLoadRect (ix2 i k) = f (a + i.val) k := by
  have h0 : a + p ≤ 280 := inb 0
  have h1 : col + 512 ≤ 2048 := inb 1
  have e : (Rect.unit (s := S280x2048) ![a, col] ![p, 512] inb).toLoadRect.idx (ix2 i k) = ix2 ⟨a + i.val, by omega⟩ ⟨col + k.val, by omega⟩ :=
    funext fun x => match x with
      | ⟨0, _⟩ => Fin.ext (congrArg (a + ·) (Nat.one_mul _))
      | ⟨1, _⟩ => Fin.ext (congrArg (col + ·) (Nat.one_mul _))
  rw [View.readCov_eq_canon']
  exact (congrArg _ e).trans (h _ k _ hl rfl)

/-- The sum of `n` rows up to row `i`. -/
def upTo (f : ℕ → Fin 512 → EReal) (n : ℕ) (i : ℕ) (k : Fin 512) : EReal := ∑ j ∈ Finset.range n, f (i - j) k

/-- Sums of `n` rows, `n` rows apart, make sums of twice as many. -/
theorem upTo_add (f : ℕ → Fin 512 → EReal) (n i : ℕ) (k : Fin 512) : upTo f n i k + upTo f n (i - n) k = upTo f (n + n) i k := by
  unfold upTo
  rw [Finset.sum_range_add]
  exact congrArg _ (Finset.sum_congr rfl fun j _ => by rw [Nat.sub_sub])

/-- A buffer of single rows is one of sums of one row. -/
theorem Holds.one {L : Stores} {col lo : ℕ} {f : ℕ → Fin 512 → EReal} (h : Holds L col lo f) : Holds L col lo (upTo f 1) :=
  fun i k d h1 h2 => (h i k d h1 h2).trans (by rw [upTo, Finset.sum_range_one, Nat.sub_zero])

/-- Two loads of the sums, as many rows apart as a sum has, add up to sums of twice as many rows. -/
theorem Holds.pair {κ : Kind} {sp : Space} {L : Stores} {col lo : ℕ} {f : ℕ → Fin 512 → EReal} (n : ℕ) (h : Holds L col lo (upTo f n))
    (v : View sig κ sp S280x2048 .f32) {a b p : ℕ} (inb : ∀ x, (![a, col] : Fin 2 → ℕ) x + (![p, 512] : Fin 2 → ℕ) x ≤ S280x2048.size x)
    (inb' : ∀ x, (![b, col] : Fin 2 → ℕ) x + (![p, 512] : Fin 2 → ℕ) x ≤ S280x2048.size x)
    (i : Fin p) (k : Fin 512) (hb : b + n = a) (hl : lo ≤ b + i.val) :
    v.readCov L (Rect.unit (s := S280x2048) ![a, col] ![p, 512] inb).toLoadRect (ix2 i k) + v.readCov L (Rect.unit (s := S280x2048) ![b, col] ![p, 512] inb').toLoadRect (ix2 i k)
      = upTo f (n + n) (a + i.val) k := by
  rw [h.load v inb i k (by omega), h.load v inb' i k hl, ← upTo_add f n, show a + i.val - n = b + i.val by omega]

/-- A store of such sums into the other buffer. -/
theorem Holds.level {κ : Kind} {sp : Space} {L T : Stores} {col lo : ℕ} {f : ℕ → Fin 512 → EReal} (n b lo' : ℕ) (h : Holds L col lo (upTo f n))
    (v : View sig κ sp S280x2048 .f32) (inb : ∀ x, (![8, col] : Fin 2 → ℕ) x + (![272, 512] : Fin 2 → ℕ) x ≤ S280x2048.size x)
    (inb' : ∀ x, (![b, col] : Fin 2 → ℕ) x + (![272, 512] : Fin 2 → ℕ) x ≤ S280x2048.size x)
    (hb : b + n = 8) (hl : lo + n ≤ lo') (h8 : 8 ≤ lo')
    (w : (Rect.unit (s := S280x2048) ![8, col] ![272, 512] inb).shape.Idx → Elt Ideal .f32)
    (hw : ∀ (i : Fin 272) (k : Fin 512), w (ix2 i k) = v.readCov L (Rect.unit (s := S280x2048) ![8, col] ![272, 512] inb).toLoadRect (ix2 i k)
      + v.readCov L (Rect.unit (s := S280x2048) ![b, col] ![272, 512] inb').toLoadRect (ix2 i k)) :
    Holds (⟨Rect.unit (s := S280x2048) ![8, col] ![272, 512] inb, w⟩ :: T) col lo' (upTo f (n + n)) := fun i k d h1 h2 => by
  have hi : i.val - 8 < 272 := by omega
  refine (Cert.Pieces.canon_hit inb w T _ (ix2 ⟨i.val - 8, hi⟩ k) fun x => ?_).trans
    ((hw ⟨i.val - 8, hi⟩ k).trans ((h.pair n v inb inb' ⟨i.val - 8, hi⟩ k hb (show lo ≤ b + (i.val - 8) by omega)).trans ?_))
  · match x with
    | ⟨0, _⟩ => exact show i.val = 8 + (i.val - 8) by omega
    | ⟨1, _⟩ => exact h2
  · exact congrArg (fun j => upTo f (n + n) j k) (show 8 + (i.val - 8) = i.val by omega)

/-- The stores of the tile and of the sixteen rows before it. -/
theorem Holds.base {L : Stores} (own : Fin 256 → Fin 2048 → EReal) (prev : Fin 16 → Fin 2048 → EReal) (col : ℕ) (hc : col + 512 ≤ 2048)
    {inb : ∀ x, (![24, 0] : Fin 2 → ℕ) x + (![256, 2048] : Fin 2 → ℕ) x ≤ S280x2048.size x}
    {inb' : ∀ x, (![8, 0] : Fin 2 → ℕ) x + (![16, 2048] : Fin 2 → ℕ) x ≤ S280x2048.size x}
    {w : (Rect.unit (s := S280x2048) ![24, 0] ![256, 2048] inb).shape.Idx → Elt Ideal .f32}
    {w' : (Rect.unit (s := S280x2048) ![8, 0] ![16, 2048] inb').shape.Idx → Elt Ideal .f32}
    (hw : ∀ (i : Fin 256) (d : Fin 2048), w (ix2 i d) = own i d) (hw' : ∀ (i : Fin 16) (d : Fin 2048), w' (ix2 i d) = prev i d) :
    Holds (⟨Rect.unit (s := S280x2048) ![24, 0] ![256, 2048] inb, w⟩ :: ⟨Rect.unit (s := S280x2048) ![8, 0] ![16, 2048] inb', w'⟩ :: L) col 8 (part own prev col hc) := by
  intro i k d h1 h2
  have hi := i.isLt
  have hd : d = ⟨col + k.val, by omega⟩ := Fin.ext h2
  unfold part span
  rw [← hd]
  by_cases h : 24 ≤ i.val
  · have hr : i.val - 24 < 256 := by omega
    rw [dif_pos ⟨hr, h⟩, ← hw ⟨i.val - 24, hr⟩ d]
    exact Cert.Pieces.canon_hit inb w _ _ (ix2 ⟨i.val - 24, hr⟩ d) fun x => match x with
      | ⟨0, _⟩ => show i.val = 24 + (i.val - 24) by omega
      | ⟨1, _⟩ => (Nat.zero_add _).symm
  · have hr : i.val - 8 < 16 := by omega
    rw [dif_neg (fun e => h e.2), dif_pos hr, ← hw' ⟨i.val - 8, hr⟩ d]
    refine (Cert.Pieces.canon_miss inb w _ _ 0 (Or.inl (show i.val < 24 by omega))).trans ?_
    exact Cert.Pieces.canon_hit inb' w' _ _ (ix2 ⟨i.val - 8, hr⟩ d) fun x => match x with
      | ⟨0, _⟩ => show i.val = 8 + (i.val - 8) by omega
      | ⟨1, _⟩ => (Nat.zero_add _).symm

end Cert.Kernel7Ideal.Pool

end
-- ==== Proof.PoolPays.lean ====
module

public import proofs.«01_k».proof.Proof.PoolRows
public import proofs.«01_k».proof.Proof.OddPieces
public import Idealize.ShloMosaic.Lib.Pipeline.ValueKit
public import Idealize.ShloMosaic.Lib.Pointwise
public import Idealize.ShloMosaic.Lib.WholeRead
public import Idealize.ShloMosaic.Lib.ReduceAll

@[expose] public section

set_option maxRecDepth 16384

noncomputable section

/-! What the pooling mixer's forward kernel computes from its loads, entry by entry. -/

namespace Cert.Kernel7Ideal.Pool

open Idealize.ShloMosaic Idealize.ShloMosaic.TcCoe Idealize.ShloMosaic.Tactic Idealize.SL.Sem
open Cert.Kernel7Ideal.Gen
open Cert.Kernel4Ideal.Odd (win inv rowG rowY rows wts)

/-- A row's mean over its window, less the row itself. -/
def diff (N : ℕ) (own : Fin 256 → Fin 2048 → EReal) (prev : Fin 16 → Fin 2048 → EReal) (r : Fin 256) (d : Fin 2048) : EReal :=
  (∑ j ∈ Finset.range (win d.val), span own prev (24 + r.val - j) d) * inv (N + r.val) d - own r d

/-- A row's value columns, a block's halo rows, and its gate columns. -/
abbrev ownOf (x : Vec Ideal S256x4096 .f32) : Fin 256 → Fin 2048 → EReal := fun i d => x (ix2 i ⟨d.val, by omega⟩)
abbrev prevOf (t : Fin cfg0.N) (x : Vec Ideal S16x2048 .f32) : Fin 16 → Fin 2048 → EReal := fun i d => x (ix2 i d) * (if t.val = 0 then 0 else 1)
abbrev gateOf (x : Vec Ideal S256x4096 .f32) : Fin 256 → Fin 2048 → EReal := fun i d => x (ix2 i ⟨2048 + d.val, by omega⟩)

/-- A load of a rectangle of a staged block, and of one matrix of the weights. -/
theorem load_at {n w a b p q : ℕ} {mr : Memref sig .tc .vmem ⟨2, ![n, w]⟩ .f32} (h : mr.IsWhole) (X : Vec Ideal ⟨2, ![n, w]⟩ .f32)
    (inb : ∀ x, (![a, b] : Fin 2 → ℕ) x + (![p, q] : Fin 2 → ℕ) x ≤ (⟨2, ![n, w]⟩ : Shape).size x) (i : Fin p) (k : Fin q) :
    View.readAt (Elt Ideal) mr.view (Rect.unit (s := ⟨2, ![n, w]⟩) ![a, b] ![p, q] inb).toLoadRect (h.unread X) (ix2 i k)
      = X (ix2 ⟨a + i.val, Nat.lt_of_lt_of_le (Nat.add_lt_add_left i.isLt a) (inb 0)⟩ ⟨b + k.val, Nat.lt_of_lt_of_le (Nat.add_lt_add_left k.isLt b) (inb 1)⟩) :=
  (Memref.IsWhole.readAt_unread h X _ _).trans (congrArg X (funext fun x => match x with
    | ⟨0, _⟩ => Fin.ext (congrArg (a + ·) (Nat.one_mul _))
    | ⟨1, _⟩ => Fin.ext (congrArg (b + ·) (Nat.one_mul _))))

theorem load3_at {a : ℕ} {mr : Memref sig .tc .vmem S4x512x512 .bf16} (h : mr.IsWhole) (X : Vec Ideal S4x512x512 .bf16)
    (inb : ∀ x, (![a, 0, 0] : Fin 3 → ℕ) x + (![1, 512, 512] : Fin 3 → ℕ) x ≤ S4x512x512.size x) (l k : Fin 512) (g : Fin 4) (hg : g.val = a) :
    View.readAt (Elt Ideal) mr.view (Rect.unit (s := S4x512x512) ![a, 0, 0] ![1, 512, 512] inb).toLoadRect (h.unread X) (ix3 0 l k) = X (ix3 g l k) :=
  (Memref.IsWhole.readAt_unread h X _ _).trans (congrArg X (funext fun x => match x with
    | ⟨0, _⟩ => Fin.ext hg.symm
    | ⟨1, _⟩ => Fin.ext ((Nat.zero_add _).trans (Nat.one_mul _))
    | ⟨2, _⟩ => Fin.ext ((Nat.zero_add _).trans (Nat.one_mul _))))

/-- A load of gate columns. -/
theorem gate_at {a : ℕ} {mr : Memref sig .tc .vmem S256x4096 .f32} (h : mr.IsWhole) (X : Vec Ideal S256x4096 .f32)
    (inb : ∀ x, (![0, a] : Fin 2 → ℕ) x + (![256, 512] : Fin 2 → ℕ) x ≤ S256x4096.size x) (r : Fin 256) (k : Fin 512) (e : Fin 2048) (he : 2048 + e.val = a + k.val) :
    View.readAt (Elt Ideal) mr.view (Rect.unit (s := S256x4096) ![0, a] ![256, 512] inb).toLoadRect (h.unread X) (ix2 r k) = gateOf X r e :=
  (load_at h X inb r k).trans (congrArg₂ (fun i j => X (ix2 i j)) (Fin.ext (Nat.zero_add _)) (Fin.ext he.symm))

/-- The word the kernel multiplies the halo rows by: nothing at the first point. -/
theorem halo_word (t : Fin cfg0.N) (x : EReal) :
    (Scalar.select (Scalar.cmpi .eq (BitVec.ofNat 32 (grid0.coords t 0).val) 0#32) (0 : EReal) x : EReal) = x * if t.val = 0 then 0 else 1 := by
  have ht : t.val < 16 := Nat.lt_of_lt_of_eq t.isLt N_0
  have e0 : (grid0.coords t 0).val = t.val / 1 % 16 := Pipeline.Grid.coords_val t 0 (by decide) rfl
  have e1 : (grid0.coords t 0).val = t.val := by omega
  rw [e1]
  generalize t.val = n at ht
  by_cases h : n = 0
  · subst h
    exact (mul_zero x).symm
  · rw [if_neg h, mul_one]
    interval_cases n
    · exact absurd rfl h
    all_goals rfl

/-- The rows before the tile, as they are stored. -/
theorem pay5_at (t : Fin cfg0.N) (x : Vec Ideal S16x2048 .f32) (i : Fin 16) (d : Fin 2048) :
    k0_pay5 (F := Ideal) (grid0.coords t) x (ix2 i d) = prevOf t x i d := by
  unfold k0_pay5
  pointwise []
  exact halo_word t _

/-- The tile, as it is stored. -/
theorem pay6_at (x : Vec Ideal S256x2048 .f32) (i : Fin 256) (d : Fin 2048) : k0_pay6 (F := Ideal) x (ix2 i d) = x (ix2 i d) := by
  unfold k0_pay6
  pointwise []

/-- The mean of a group's window, less the row. -/
theorem diff_grp (t : Fin cfg0.N) (own : Fin 256 → Fin 2048 → EReal) (prev : Fin 16 → Fin 2048 → EReal) (col : ℕ) (hc : col + 512 ≤ 2048) (W : ℕ) (hW : W ≤ 16)
    (hw : ∀ k < 512, win (col + k) = W) (r : Fin 256) (k : Fin 512) (a p : EReal) (ha : a = upTo (part own prev col hc) W (24 + r.val) k)
    (hp : p = own r ⟨col + k.val, by omega⟩) :
    a * Ideal.div 1 (FloatOps.sitofp (F := Ideal) FTy.f32 (IntOp.minsi (IntOp.addi (IntOp.addi
        (Scalar.muli (BitVec.ofNat 32 (grid0.coords t 0).val) 256#32) (BitVec.ofNat 32 r.val)) 1#32) (BitVec.ofNat 32 W))) - p
      = diff (t.val * 256) own prev r ⟨col + k.val, by omega⟩ := by
  unfold diff Cert.Kernel4Ideal.Odd.inv
  rw [ha, hp, count_word t r.val r.isLt W hW, hw k.val k.isLt]
  rfl

theorem pay8_at (t : Fin cfg0.N) (v v' p : Vec Ideal S256x512 .f32) (r : Fin 256) (k : Fin 512) :
    k0_pay8 (F := Ideal) (grid0.coords t) v v' p (ix2 r k) = (v (ix2 r k) + v' (ix2 r k)) * Ideal.div 1 (FloatOps.sitofp (F := Ideal) FTy.f32 (IntOp.minsi (IntOp.addi (IntOp.addi
        (Scalar.muli (BitVec.ofNat 32 (grid0.coords t 0).val) 256#32) (BitVec.ofNat 32 r.val)) 1#32) (BitVec.ofNat 32 2))) - p (ix2 r k) := by
  unfold k0_pay8 k0_pay7
  pointwise []

theorem pay12_at (t : Fin cfg0.N) (v v' p : Vec Ideal S256x512 .f32) (r : Fin 256) (k : Fin 512) :
    k0_pay12 (F := Ideal) (k0_pay7 (grid0.coords t)) v v' p (ix2 r k) = (v (ix2 r k) + v' (ix2 r k)) * Ideal.div 1 (FloatOps.sitofp (F := Ideal) FTy.f32 (IntOp.minsi (IntOp.addi (IntOp.addi
        (Scalar.muli (BitVec.ofNat 32 (grid0.coords t 0).val) 256#32) (BitVec.ofNat 32 r.val)) 1#32) (BitVec.ofNat 32 4))) - p (ix2 r k) := by
  unfold k0_pay12 k0_pay7
  pointwise []

theorem pay18_at (t : Fin cfg0.N) (v v' p : Vec Ideal S256x512 .f32) (r : Fin 256) (k : Fin 512) :
    k0_pay18 (F := Ideal) (k0_pay7 (grid0.coords t)) v v' p (ix2 r k) = (v (ix2 r k) + v' (ix2 r k)) * Ideal.div 1 (FloatOps.sitofp (F := Ideal) FTy.f32 (IntOp.minsi (IntOp.addi (IntOp.addi
        (Scalar.muli (BitVec.ofNat 32 (grid0.coords t 0).val) 256#32) (BitVec.ofNat 32 r.val)) 1#32) (BitVec.ofNat 32 8))) - p (ix2 r k) := by
  unfold k0_pay18 k0_pay7
  pointwise []

theorem pay25_at (t : Fin cfg0.N) (v v' p : Vec Ideal S256x512 .f32) (r : Fin 256) (k : Fin 512) :
    k0_pay25 (F := Ideal) (k0_pay7 (grid0.coords t)) v v' p (ix2 r k) = (v (ix2 r k) + v' (ix2 r k)) * Ideal.div 1 (FloatOps.sitofp (F := Ideal) FTy.f32 (IntOp.minsi (IntOp.addi (IntOp.addi
        (Scalar.muli (BitVec.ofNat 32 (grid0.coords t 0).val) 256#32) (BitVec.ofNat 32 r.val)) 1#32) (BitVec.ofNat 32 16))) - p (ix2 r k) := by
  unfold k0_pay25 k0_pay7
  pointwise []

theorem pay11_at (v v' : Vec Ideal S272x512 .f32) (r : Fin 272) (k : Fin 512) : k0_pay11 (F := Ideal) v v' (ix2 r k) = v (ix2 r k) + v' (ix2 r k) := by
  unfold k0_pay11
  pointwise []

theorem pay16_at (v v' : Vec Ideal S272x512 .f32) (r : Fin 272) (k : Fin 512) : k0_pay16 (F := Ideal) v v' (ix2 r k) = v (ix2 r k) + v' (ix2 r k) := by
  unfold k0_pay16
  pointwise []

theorem pay17_at (v v' : Vec Ideal S272x512 .f32) (r : Fin 272) (k : Fin 512) : k0_pay17 (F := Ideal) v v' (ix2 r k) = v (ix2 r k) + v' (ix2 r k) := by
  unfold k0_pay17
  pointwise []

theorem pay22_at (v v' : Vec Ideal S272x512 .f32) (r : Fin 272) (k : Fin 512) : k0_pay22 (F := Ideal) v v' (ix2 r k) = v (ix2 r k) + v' (ix2 r k) := by
  unfold k0_pay22
  pointwise []

theorem pay23_at (v v' : Vec Ideal S272x512 .f32) (r : Fin 272) (k : Fin 512) : k0_pay23 (F := Ideal) v v' (ix2 r k) = v (ix2 r k) + v' (ix2 r k) := by
  unfold k0_pay23
  pointwise []

theorem pay24_at (v v' : Vec Ideal S272x512 .f32) (r : Fin 272) (k : Fin 512) : k0_pay24 (F := Ideal) v v' (ix2 r k) = v (ix2 r k) + v' (ix2 r k) := by
  unfold k0_pay24
  pointwise []

theorem pay10_at (v : Vec Ideal S256x512 .f32) (w : Vec Ideal S1x512x512 .bf16) (b : Vec Ideal S1x512 .f32) (r : Fin 256) (k : Fin 512) :
    k0_pay10 (F := Ideal) v w b (ix2 r k) = (∑ l : Fin 512, v (ix2 r l) * w (ix3 0 l k)) + b (ix2 0 k) := by
  unfold k0_pay10 k0_pay9
  pointwise []

theorem pay27_at (v : Vec Ideal S256x512 .f32) (w : Vec Ideal S1x512x512 .bf16) (b : Vec Ideal S1x512 .f32) (r : Fin 256) (k : Fin 512) :
    k0_pay27 (F := Ideal) v w b (ix2 r k) = (∑ l : Fin 512, v (ix2 r l) * w (ix3 0 l k)) + b (ix2 0 k) := by
  unfold k0_pay27 k0_pay26
  pointwise []

theorem pay13_at (n : IVec S256x1 32) (v v' p : Vec Ideal S256x512 .f32) (w : Vec Ideal S1x512x512 .bf16) (b : Vec Ideal S1x512 .f32) (r : Fin 256) (k : Fin 512) :
    k0_pay15 (F := Ideal) (k0_pay13 n v v' p w) (k0_pay14 b) (ix2 r k) = (∑ l : Fin 512, k0_pay12 n v v' p (ix2 r l) * w (ix3 0 l k)) + b (ix2 0 k) := by
  unfold k0_pay15 k0_pay13 k0_pay14
  pointwise []

theorem pay19_at (n : IVec S256x1 32) (v v' p : Vec Ideal S256x512 .f32) (w : Vec Ideal S1x512x512 .bf16) (b : Vec Ideal S1x512 .f32) (r : Fin 256) (k : Fin 512) :
    k0_pay21 (F := Ideal) (k0_pay19 n v v' p w) (k0_pay20 b) (ix2 r k) = (∑ l : Fin 512, k0_pay18 n v v' p (ix2 r l) * w (ix3 0 l k)) + b (ix2 0 k) := by
  unfold k0_pay21 k0_pay19 k0_pay20
  pointwise []

theorem pay28_at (v z : Vec Ideal S256x512 .f32) (s : Vec Ideal S1x512 .f32) (r : Fin 256) (k : Fin 512) :
    k0_pay28 (F := Ideal) v z s (ix2 r k) = v (ix2 r k) * s (ix2 0 k) * (z (ix2 r k) * Ideal.logistic (z (ix2 r k))) := by
  unfold k0_pay28
  pointwise []

theorem pay29_at (v z : Vec Ideal S256x512 .f32) (s : Vec Ideal S1x512 .f32) (r : Fin 256) (k : Fin 512) :
    k0_pay29 (F := Ideal) v z s (ix2 r k) = v (ix2 r k) * s (ix2 0 k) * (z (ix2 r k) * Ideal.logistic (z (ix2 r k))) := by
  unfold k0_pay29
  pointwise []

theorem pay1_at (v z : Vec Ideal S256x512 .f32) (s : Vec Ideal S1x512 .f32) (r : Fin 256) (k : Fin 512) :
    k0_pay1 (F := Ideal) v z s (ix2 r k) = v (ix2 r k) * s (ix2 0 k) * (z (ix2 r k) * Ideal.logistic (z (ix2 r k))) := by
  unfold k0_pay1
  pointwise []

theorem pay2_at (v z : Vec Ideal S256x512 .f32) (s : Vec Ideal S1x512 .f32) (r : Fin 256) (k : Fin 512) :
    k0_pay2 (F := Ideal) v z s (ix2 r k) = v (ix2 r k) * s (ix2 0 k) * (z (ix2 r k) * Ideal.logistic (z (ix2 r k))) := by
  unfold k0_pay2
  pointwise []

/-- A group's product with its weights, and the bias, at column `k` of the group. -/
theorem rowG_grp (p b : Fin 2048 → EReal) (w : Fin 4 → Fin 512 → Fin 512 → EReal) (g : Fin 4) (k : Fin 512) :
    rowG p b w ⟨512 * g.val + k.val, by omega⟩ = (∑ l : Fin 512, p ⟨512 * g.val + l.val, by omega⟩ * w g l k) + b ⟨512 * g.val + k.val, by omega⟩ := by
  have hk := k.isLt
  have e1 : (512 * g.val + k.val) / 512 = g.val := by omega
  have e2 : (512 * g.val + k.val) % 512 = k.val := by omega
  unfold rowG
  refine congrArg (· + _) (Finset.sum_congr rfl fun l _ => congrArg₂ (· * ·) (congrArg p (Fin.ext ?_)) ?_)
  · exact show (512 * g.val + k.val) / 512 * 512 + l.val = 512 * g.val + l.val by omega
  · exact congrArg₂ (fun a c => w a l c) (Fin.ext e1) (Fin.ext e2)

/-- A row of the gated result. -/
def rowO (p b s z : Fin 2048 → EReal) (w : Fin 4 → Fin 512 → Fin 512 → EReal) (d : Fin 2048) : EReal := rowG p b w d * s d * (z d * Ideal.logistic (z d))

end Cert.Kernel7Ideal.Pool

end
-- ==== Proof.PoolPointA.lean ====
module

public import proofs.«01_k».proof.Proof.PoolPays
public import Idealize.ShloMosaic.Lib.WholeRead

@[expose] public section

set_option maxRecDepth 16384

noncomputable section

/-! What the pooling mixer's forward kernel stores at the first point, entry by entry. -/

namespace Cert.Kernel7Ideal.Pool

open Idealize.ShloMosaic Idealize.ShloMosaic.TcCoe Idealize.ShloMosaic.Tactic Idealize.SL.Sem
open Cert.Kernel7Ideal.Gen
open Cert.Kernel4Ideal.Odd (win rowG rowY rows wts)

section

variable (c : Dev nD) (t : Fin cfg0.N) (arg1 : Memref sig .tc .vmem S256x4096 .f32) (harg1 : arg1.IsWhole) (arg2 : Memref sig .tc .vmem S16x2048 .f32) (harg2 : arg2.IsWhole)
  (arg8 arg9 : Memref sig .tc .vmem S280x2048 .f32) (x0 : Vec Ideal S256x4096 .f32) (x1 : Vec Ideal S16x2048 .f32)

/-- The first work buffer after the tile and the rows before it are stored. -/
theorem baseA (col : ℕ) (hc : col + 512 ≤ 2048) :
    Holds (runA.sl.H7_3 (F := Ideal) c (grid0.coords t) arg1 harg1 arg2 harg2 x0 x1) col 8 (part (ownOf x0) (prevOf t x1) col hc) := by
  refine Holds.base (ownOf x0) (prevOf t x1) col hc (fun i d => ?_) (fun i d => ?_)
  · refine (pay6_at _ i d).trans ((load_at harg1 x0 _ _ _).trans ?_)
    first | rfl | blk_point
  · refine (pay5_at t _ i d).trans (congrArg (· * _) ((load_at harg2 x1 _ _ _).trans ?_))
    first | rfl | blk_point

/-- The second group's sums of two rows in the other buffer. -/
theorem twoA : Holds (runA.sl.H8_2 (F := Ideal) c (grid0.coords t) arg1 harg1 arg2 harg2 arg8 x0 x1) 512 9 (upTo (part (ownOf x0) (prevOf t x1) 512 (by omega)) 2) :=
  Holds.level (lo := 8) 1 7 9 (baseA c t arg1 harg1 arg2 harg2 x0 x1 512 (by omega)).one arg8.view _ _ (by omega) (by omega) (by omega) _ (fun i k => pay11_at _ _ i k)

/-- The third group's sums of four rows. -/
theorem fourA : Holds (runA.sl.H7_4 (F := Ideal) c (grid0.coords t) arg1 harg1 arg2 harg2 arg8 arg9 x0 x1) 1024 11 (upTo (part (ownOf x0) (prevOf t x1) 1024 (by omega)) 4) := by
  refine Holds.level (lo := 9) 2 6 11 ?_ arg9.view _ _ (by omega) (by omega) (by omega) _ (fun i k => pay17_at _ _ i k)
  exact Holds.level (lo := 8) 1 7 9 (baseA c t arg1 harg1 arg2 harg2 x0 x1 1024 (by omega)).one arg8.view _ _ (by omega) (by omega) (by omega) _ (fun i k => pay16_at _ _ i k)

/-- The fourth group's sums of eight rows. -/
theorem eightA : Holds (runA.sl.H8_5 (F := Ideal) c (grid0.coords t) arg1 harg1 arg2 harg2 arg8 arg9 x0 x1) 1536 15 (upTo (part (ownOf x0) (prevOf t x1) 1536 (by omega)) 8) := by
  refine Holds.level (lo := 11) 4 4 15 ?_ arg8.view _ _ (by omega) (by omega) (by omega) _ (fun i k => pay24_at _ _ i k)
  refine Holds.level (lo := 9) 2 6 11 ?_ arg9.view _ _ (by omega) (by omega) (by omega) _ (fun i k => pay23_at _ _ i k)
  refine Holds.level (lo := 8) 1 7 9 ?_ arg8.view _ _ (by omega) (by omega) (by omega) _ (fun i k => pay22_at _ _ i k)
  exact ((baseA c t arg1 harg1 arg2 harg2 x0 x1 1536 (by omega)).skip (by omega)).one

/-- Group 0's means less the rows. -/
theorem diffA_0 (r : Fin 256) (k : Fin 512) : runA.sl.r (F := Ideal) c (grid0.coords t) arg1 harg1 arg2 harg2 arg8 x0 x1 (ix2 r k)
    = diff (t.val * 256) (ownOf x0) (prevOf t x1) r ⟨0 + k.val, by omega⟩ := by
  refine (pay8_at t _ _ _ r k).trans (diff_grp t (ownOf x0) (prevOf t x1) 0 (by omega) 2 (by omega) (fun k hk => by unfold win; split_ifs <;> omega) r k _ _ ?_ ?_)
  · exact (baseA c t arg1 harg1 arg2 harg2 x0 x1 0 (by omega)).one.pair 1 arg8.view _ _ r k (by omega) (by omega)
  · refine (load_at harg1 x0 _ _ _).trans ?_
    first | rfl | blk_point

/-- Group 1's means less the rows. -/
theorem diffA_1 (r : Fin 256) (k : Fin 512) : runA.sl.r_3 (F := Ideal) c (grid0.coords t) arg1 harg1 arg2 harg2 arg8 arg9 x0 x1 (ix2 r k)
    = diff (t.val * 256) (ownOf x0) (prevOf t x1) r ⟨512 + k.val, by omega⟩ := by
  refine (pay12_at t _ _ _ r k).trans (diff_grp t (ownOf x0) (prevOf t x1) 512 (by omega) 4 (by omega) (fun k hk => by unfold win; split_ifs <;> omega) r k _ _ ?_ ?_)
  · exact (twoA c t arg1 harg1 arg2 harg2 arg8 x0 x1).pair 2 arg9.view _ _ r k (by omega) (by omega)
  · refine (load_at harg1 x0 _ _ _).trans ?_
    first | rfl | blk_point

/-- Group 2's means less the rows. -/
theorem diffA_2 (r : Fin 256) (k : Fin 512) : runA.sl.r_7 (F := Ideal) c (grid0.coords t) arg1 harg1 arg2 harg2 arg8 arg9 x0 x1 (ix2 r k)
    = diff (t.val * 256) (ownOf x0) (prevOf t x1) r ⟨1024 + k.val, by omega⟩ := by
  refine (pay18_at t _ _ _ r k).trans (diff_grp t (ownOf x0) (prevOf t x1) 1024 (by omega) 8 (by omega) (fun k hk => by unfold win; split_ifs <;> omega) r k _ _ ?_ ?_)
  · exact (fourA c t arg1 harg1 arg2 harg2 arg8 arg9 x0 x1).pair 4 arg8.view _ _ r k (by omega) (by omega)
  · refine (load_at harg1 x0 _ _ _).trans ?_
    first | rfl | blk_point

/-- Group 3's means less the rows. -/
theorem diffA_3 (r : Fin 256) (k : Fin 512) : runA.sl.r_11 (F := Ideal) c (grid0.coords t) arg1 harg1 arg2 harg2 arg8 arg9 x0 x1 (ix2 r k)
    = diff (t.val * 256) (ownOf x0) (prevOf t x1) r ⟨1536 + k.val, by omega⟩ := by
  refine (pay25_at t _ _ _ r k).trans (diff_grp t (ownOf x0) (prevOf t x1) 1536 (by omega) 16 (by omega) (fun k hk => by unfold win; split_ifs <;> omega) r k _ _ ?_ ?_)
  · exact (eightA c t arg1 harg1 arg2 harg2 arg8 arg9 x0 x1).pair 8 arg9.view _ _ r k (by omega) (by omega)
  · refine (load_at harg1 x0 _ _ _).trans ?_
    first | rfl | blk_point

end

section

variable (c : Dev nD) (t : Fin cfg0.N) (arg1 : Memref sig .tc .vmem S256x4096 .f32) (harg1 : arg1.IsWhole) (arg2 : Memref sig .tc .vmem S16x2048 .f32) (harg2 : arg2.IsWhole)
  (arg3 : Memref sig .tc .vmem S4x512x512 .bf16) (harg3 : arg3.IsWhole) (arg4 : Memref sig .tc .vmem S1x2048 .f32) (harg4 : arg4.IsWhole)
  (arg8 arg9 : Memref sig .tc .vmem S280x2048 .f32) (x0 : Vec Ideal S256x4096 .f32) (x1 : Vec Ideal S16x2048 .f32) (x2 : Vec Ideal S4x512x512 .bf16) (x3 : Vec Ideal S1x2048 .f32)

/-- Group 3's products with its weights, and the bias. -/
theorem mixA_3 (r : Fin 256) (k : Fin 512) : runA.sl.r_13 (F := Ideal) c (grid0.coords t) arg1 harg1 arg2 harg2 arg3 harg3 arg4 harg4 arg8 arg9 x0 x1 x2 x3 (ix2 r k)
    = rowG (diff (t.val * 256) (ownOf x0) (prevOf t x1) r) (rows x3 0) (wts x2) ⟨1536 + k.val, by omega⟩ := by
  refine (pay27_at _ _ _ r k).trans ((congrArg₂ (· + ·) (Finset.sum_congr rfl fun l _ => congrArg₂ (· * ·) (diffA_3 c t arg1 harg1 arg2 harg2 arg8 arg9 x0 x1 r l) (load3_at harg3 x2 _ l k 3 rfl)) (load_at harg4 x3 _ 0 k)).trans ?_)
  exact (rowG_grp (diff (t.val * 256) (ownOf x0) (prevOf t x1) r) (rows x3 0) (wts x2) 3 k).symm

/-- Group 2's products with its weights, and the bias. -/
theorem mixA_2 (r : Fin 256) (k : Fin 512) : runA.sl.r_10 (F := Ideal) c (grid0.coords t) arg1 harg1 arg2 harg2 arg3 harg3 arg4 harg4 arg8 arg9 x0 x1 x2 x3 (ix2 r k)
    = rowG (diff (t.val * 256) (ownOf x0) (prevOf t x1) r) (rows x3 0) (wts x2) ⟨1024 + k.val, by omega⟩ := by
  refine (pay19_at _ _ _ _ _ _ r k).trans ((congrArg₂ (· + ·) (Finset.sum_congr rfl fun l _ => congrArg₂ (· * ·) (diffA_2 c t arg1 harg1 arg2 harg2 arg8 arg9 x0 x1 r l) (load3_at harg3 x2 _ l k 2 rfl)) (load_at harg4 x3 _ 0 k)).trans ?_)
  exact (rowG_grp (diff (t.val * 256) (ownOf x0) (prevOf t x1) r) (rows x3 0) (wts x2) 2 k).symm

/-- Group 1's products with its weights, and the bias. -/
theorem mixA_1 (r : Fin 256) (k : Fin 512) : runA.sl.r_6 (F := Ideal) c (grid0.coords t) arg1 harg1 arg2 harg2 arg3 harg3 arg4 harg4 arg8 arg9 x0 x1 x2 x3 (ix2 r k)
    = rowG (diff (t.val * 256) (ownOf x0) (prevOf t x1) r) (rows x3 0) (wts x2) ⟨512 + k.val, by omega⟩ := by
  refine (pay13_at _ _ _ _ _ _ r k).trans ((congrArg₂ (· + ·) (Finset.sum_congr rfl fun l _ => congrArg₂ (· * ·) (diffA_1 c t arg1 harg1 arg2 harg2 arg8 arg9 x0 x1 r l) (load3_at harg3 x2 _ l k 1 rfl)) (load_at harg4 x3 _ 0 k)).trans ?_)
  exact (rowG_grp (diff (t.val * 256) (ownOf x0) (prevOf t x1) r) (rows x3 0) (wts x2) 1 k).symm

/-- Group 0's products with its weights, and the bias. -/
theorem mixA_0 (r : Fin 256) (k : Fin 512) : runA.sl.r_2 (F := Ideal) c (grid0.coords t) arg1 harg1 arg2 harg2 arg3 harg3 arg4 harg4 arg8 x0 x1 x2 x3 (ix2 r k)
    = rowG (diff (t.val * 256) (ownOf x0) (prevOf t x1) r) (rows x3 0) (wts x2) ⟨0 + k.val, by omega⟩ := by
  refine (pay10_at _ _ _ r k).trans ((congrArg₂ (· + ·) (Finset.sum_congr rfl fun l _ => congrArg₂ (· * ·) (diffA_0 c t arg1 harg1 arg2 harg2 arg8 x0 x1 r l) (load3_at harg3 x2 _ l k 0 rfl)) (load_at harg4 x3 _ 0 k)).trans ?_)
  exact (rowG_grp (diff (t.val * 256) (ownOf x0) (prevOf t x1) r) (rows x3 0) (wts x2) 0 k).symm

end

variable (m : (ℓ : Loc nD τ sig) → Buf (Elt Ideal) ℓ)

set_option maxHeartbeats 4000000 in
/-- The pooled differences as stored. -/
theorem outA_6_at (c : Dev nD) (t : Fin cfg0.N) (h : t.val % 16 = 0) (r : Fin 256) (d : Fin 2048) :
    outA_6 m c t h (ix2 r d) = diff (t.val * 256) (ownOf (iblk m c 0 t)) (prevOf t (iblk m c 1 t)) r d := by
  unfold outA_6
  dsimp only [atA, runA]
  canon_tiles x hx using coverA_6 m c t h _
  all_goals
    obtain ⟨i, k, rfl⟩ : ∃ (i : Fin 256) (k : Fin 512), x = ix2 i k := ⟨x 0, x 1, by funext a; match a with | ⟨0, _⟩ => rfl | ⟨1, _⟩ => rfl⟩
    simp only [ix2_0, ix2_1] at hx0 hx1
    obtain rfl : r = i := Fin.ext hx0
    have hk := k.isLt
  · exact (diffA_3 c t _ _ _ _ _ _ _ _ r k).trans (congrArg _ (Fin.ext hx1.symm))
  · exact (diffA_2 c t _ _ _ _ _ _ _ _ r k).trans (congrArg _ (Fin.ext hx1.symm))
  · exact (diffA_1 c t _ _ _ _ _ _ _ _ r k).trans (congrArg _ (Fin.ext hx1.symm))
  · exact (diffA_0 c t _ _ _ _ _ _ _ r k).trans (congrArg _ (Fin.ext (show 0 + k.val = d.val by omega)))

set_option maxHeartbeats 4000000 in
/-- The gated rows as stored. -/
theorem outA_5_at (c : Dev nD) (t : Fin cfg0.N) (h : t.val % 16 = 0) (r : Fin 256) (d : Fin 2048) :
    outA_5 m c t h (ix2 r d) = rowO (diff (t.val * 256) (ownOf (iblk m c 0 t)) (prevOf t (iblk m c 1 t)) r) (rows (iblk m c 3 t) 0) (rows (iblk m c 4 t) 0)
      (gateOf (iblk m c 0 t) r) (wts (iblk m c 2 t)) d := by
  unfold outA_5
  dsimp only [atA, runA]
  canon_tiles x hx using coverA_5 m c t h _
  all_goals
    generalize iblk m c 0 t = x0; generalize iblk m c 1 t = x1; generalize iblk m c 2 t = x2
    generalize iblk m c 3 t = x3; generalize iblk m c 4 t = x4
    obtain ⟨i, k, rfl⟩ : ∃ (i : Fin 256) (k : Fin 512), x = ix2 i k := ⟨x 0, x 1, by funext a; match a with | ⟨0, _⟩ => rfl | ⟨1, _⟩ => rfl⟩
    simp only [ix2_0, ix2_1] at hx0 hx1
    obtain rfl : r = i := Fin.ext hx0
    have hk := k.isLt
  · obtain rfl : d = ⟨1536 + k.val, Nat.lt_of_lt_of_le (Nat.add_lt_add_left k.isLt 1536) (by decide)⟩ := Fin.ext hx1
    exact (pay2_at _ _ _ r k).trans (congrArg₂ (· * ·) (congrArg₂ (· * ·) (mixA_3 c t _ _ _ _ _ _ _ _ _ _ _ _ _ _ r k) (load_at _ _ _ 0 k))
      (congrArg (fun z : EReal => z * Ideal.logistic z) (gate_at _ _ _ r k _ (show 2048 + (1536 + k.val) = 3584 + k.val by omega))))
  · obtain rfl : d = ⟨1024 + k.val, Nat.lt_of_lt_of_le (Nat.add_lt_add_left k.isLt 1024) (by decide)⟩ := Fin.ext hx1
    exact (pay1_at _ _ _ r k).trans (congrArg₂ (· * ·) (congrArg₂ (· * ·) (mixA_2 c t _ _ _ _ _ _ _ _ _ _ _ _ _ _ r k) (load_at _ _ _ 0 k))
      (congrArg (fun z : EReal => z * Ideal.logistic z) (gate_at _ _ _ r k _ (show 2048 + (1024 + k.val) = 3072 + k.val by omega))))
  · obtain rfl : d = ⟨512 + k.val, Nat.lt_of_lt_of_le (Nat.add_lt_add_left k.isLt 512) (by decide)⟩ := Fin.ext hx1
    exact (pay29_at _ _ _ r k).trans (congrArg₂ (· * ·) (congrArg₂ (· * ·) (mixA_1 c t _ _ _ _ _ _ _ _ _ _ _ _ _ _ r k) (load_at _ _ _ 0 k))
      (congrArg (fun z : EReal => z * Ideal.logistic z) (gate_at _ _ _ r k _ (show 2048 + (512 + k.val) = 2560 + k.val by omega))))
  · obtain rfl : d = ⟨0 + k.val, Nat.lt_of_lt_of_le (Nat.add_lt_add_left k.isLt 0) (by decide)⟩ := Fin.ext (show d.val = 0 + k.val by omega)
    exact (pay28_at _ _ _ r k).trans (congrArg₂ (· * ·) (congrArg₂ (· * ·) (mixA_0 c t _ _ _ _ _ _ _ _ _ _ _ _ _ r k) (load_at _ _ _ 0 k))
      (congrArg (fun z : EReal => z * Ideal.logistic z) (gate_at _ _ _ r k _ (show 2048 + (0 + k.val) = 2048 + k.val by omega))))

end Cert.Kernel7Ideal.Pool

end
-- ==== Proof.PoolPointB.lean ====
module

public import proofs.«01_k».proof.Proof.PoolPays
public import Idealize.ShloMosaic.Lib.WholeRead

@[expose] public section

set_option maxRecDepth 16384

noncomputable section

/-! What the pooling mixer's forward kernel stores at a later point, entry by entry. -/

namespace Cert.Kernel7Ideal.Pool

open Idealize.ShloMosaic Idealize.ShloMosaic.TcCoe Idealize.ShloMosaic.Tactic Idealize.SL.Sem
open Cert.Kernel7Ideal.Gen
open Cert.Kernel4Ideal.Odd (win rowG rowY rows wts)

section

variable (c : Dev nD) (t : Fin cfg0.N) (arg1 : Memref sig .tc .vmem S256x4096 .f32) (harg1 : arg1.IsWhole) (arg2 : Memref sig .tc .vmem S16x2048 .f32) (harg2 : arg2.IsWhole)
  (arg8 arg9 : Memref sig .tc .vmem S280x2048 .f32) (x0 : Vec Ideal S256x4096 .f32) (x1 : Vec Ideal S16x2048 .f32)

/-- The first work buffer after the tile and the rows before it are stored. -/
theorem baseB (col : ℕ) (hc : col + 512 ≤ 2048) :
    Holds (runB.sl.H7_3 (F := Ideal) c (grid0.coords t) arg1 harg1 arg2 harg2 x0 x1) col 8 (part (ownOf x0) (prevOf t x1) col hc) := by
  refine Holds.base (ownOf x0) (prevOf t x1) col hc (fun i d => ?_) (fun i d => ?_)
  · refine (pay6_at _ i d).trans ((load_at harg1 x0 _ _ _).trans ?_)
    first | rfl | blk_point
  · refine (pay5_at t _ i d).trans (congrArg (· * _) ((load_at harg2 x1 _ _ _).trans ?_))
    first | rfl | blk_point

/-- The second group's sums of two rows in the other buffer. -/
theorem twoB : Holds (runB.sl.H8_2 (F := Ideal) c (grid0.coords t) arg1 harg1 arg2 harg2 arg8 x0 x1) 512 9 (upTo (part (ownOf x0) (prevOf t x1) 512 (by omega)) 2) :=
  Holds.level (lo := 8) 1 7 9 (baseB c t arg1 harg1 arg2 harg2 x0 x1 512 (by omega)).one arg8.view _ _ (by omega) (by omega) (by omega) _ (fun i k => pay11_at _ _ i k)

/-- The third group's sums of four rows. -/
theorem fourB : Holds (runB.sl.H7_4 (F := Ideal) c (grid0.coords t) arg1 harg1 arg2 harg2 arg8 arg9 x0 x1) 1024 11 (upTo (part (ownOf x0) (prevOf t x1) 1024 (by omega)) 4) := by
  refine Holds.level (lo := 9) 2 6 11 ?_ arg9.view _ _ (by omega) (by omega) (by omega) _ (fun i k => pay17_at _ _ i k)
  exact Holds.level (lo := 8) 1 7 9 (baseB c t arg1 harg1 arg2 harg2 x0 x1 1024 (by omega)).one arg8.view _ _ (by omega) (by omega) (by omega) _ (fun i k => pay16_at _ _ i k)

/-- The fourth group's sums of eight rows. -/
theorem eightB : Holds (runB.sl.H8_5 (F := Ideal) c (grid0.coords t) arg1 harg1 arg2 harg2 arg8 arg9 x0 x1) 1536 15 (upTo (part (ownOf x0) (prevOf t x1) 1536 (by omega)) 8) := by
  refine Holds.level (lo := 11) 4 4 15 ?_ arg8.view _ _ (by omega) (by omega) (by omega) _ (fun i k => pay24_at _ _ i k)
  refine Holds.level (lo := 9) 2 6 11 ?_ arg9.view _ _ (by omega) (by omega) (by omega) _ (fun i k => pay23_at _ _ i k)
  refine Holds.level (lo := 8) 1 7 9 ?_ arg8.view _ _ (by omega) (by omega) (by omega) _ (fun i k => pay22_at _ _ i k)
  exact ((baseB c t arg1 harg1 arg2 harg2 x0 x1 1536 (by omega)).skip (by omega)).one

/-- Group 0's means less the rows. -/
theorem diffB_0 (r : Fin 256) (k : Fin 512) : runB.sl.r (F := Ideal) c (grid0.coords t) arg1 harg1 arg2 harg2 arg8 x0 x1 (ix2 r k)
    = diff (t.val * 256) (ownOf x0) (prevOf t x1) r ⟨0 + k.val, by omega⟩ := by
  refine (pay8_at t _ _ _ r k).trans (diff_grp t (ownOf x0) (prevOf t x1) 0 (by omega) 2 (by omega) (fun k hk => by unfold win; split_ifs <;> omega) r k _ _ ?_ ?_)
  · exact (baseB c t arg1 harg1 arg2 harg2 x0 x1 0 (by omega)).one.pair 1 arg8.view _ _ r k (by omega) (by omega)
  · refine (load_at harg1 x0 _ _ _).trans ?_
    first | rfl | blk_point

/-- Group 1's means less the rows. -/
theorem diffB_1 (r : Fin 256) (k : Fin 512) : runB.sl.r_3 (F := Ideal) c (grid0.coords t) arg1 harg1 arg2 harg2 arg8 arg9 x0 x1 (ix2 r k)
    = diff (t.val * 256) (ownOf x0) (prevOf t x1) r ⟨512 + k.val, by omega⟩ := by
  refine (pay12_at t _ _ _ r k).trans (diff_grp t (ownOf x0) (prevOf t x1) 512 (by omega) 4 (by omega) (fun k hk => by unfold win; split_ifs <;> omega) r k _ _ ?_ ?_)
  · exact (twoB c t arg1 harg1 arg2 harg2 arg8 x0 x1).pair 2 arg9.view _ _ r k (by omega) (by omega)
  · refine (load_at harg1 x0 _ _ _).trans ?_
    first | rfl | blk_point

/-- Group 2's means less the rows. -/
theorem diffB_2 (r : Fin 256) (k : Fin 512) : runB.sl.r_7 (F := Ideal) c (grid0.coords t) arg1 harg1 arg2 harg2 arg8 arg9 x0 x1 (ix2 r k)
    = diff (t.val * 256) (ownOf x0) (prevOf t x1) r ⟨1024 + k.val, by omega⟩ := by
  refine (pay18_at t _ _ _ r k).trans (diff_grp t (ownOf x0) (prevOf t x1) 1024 (by omega) 8 (by omega) (fun k hk => by unfold win; split_ifs <;> omega) r k _ _ ?_ ?_)
  · exact (fourB c t arg1 harg1 arg2 harg2 arg8 arg9 x0 x1).pair 4 arg8.view _ _ r k (by omega) (by omega)
  · refine (load_at harg1 x0 _ _ _).trans ?_
    first | rfl | blk_point

/-- Group 3's means less the rows. -/
theorem diffB_3 (r : Fin 256) (k : Fin 512) : runB.sl.r_11 (F := Ideal) c (grid0.coords t) arg1 harg1 arg2 harg2 arg8 arg9 x0 x1 (ix2 r k)
    = diff (t.val * 256) (ownOf x0) (prevOf t x1) r ⟨1536 + k.val, by omega⟩ := by
  refine (pay25_at t _ _ _ r k).trans (diff_grp t (ownOf x0) (prevOf t x1) 1536 (by omega) 16 (by omega) (fun k hk => by unfold win; split_ifs <;> omega) r k _ _ ?_ ?_)
  · exact (eightB c t arg1 harg1 arg2 harg2 arg8 arg9 x0 x1).pair 8 arg9.view _ _ r k (by omega) (by omega)
  · refine (load_at harg1 x0 _ _ _).trans ?_
    first | rfl | blk_point

end

section

variable (c : Dev nD) (t : Fin cfg0.N) (arg1 : Memref sig .tc .vmem S256x4096 .f32) (harg1 : arg1.IsWhole) (arg2 : Memref sig .tc .vmem S16x2048 .f32) (harg2 : arg2.IsWhole)
  (arg3 : Memref sig .tc .vmem S4x512x512 .bf16) (harg3 : arg3.IsWhole) (arg4 : Memref sig .tc .vmem S1x2048 .f32) (harg4 : arg4.IsWhole)
  (arg8 arg9 : Memref sig .tc .vmem S280x2048 .f32) (x0 : Vec Ideal S256x4096 .f32) (x1 : Vec Ideal S16x2048 .f32) (x2 : Vec Ideal S4x512x512 .bf16) (x3 : Vec Ideal S1x2048 .f32)

/-- Group 3's products with its weights, and the bias. -/
theorem mixB_3 (r : Fin 256) (k : Fin 512) : runB.sl.r_13 (F := Ideal) c (grid0.coords t) arg1 harg1 arg2 harg2 arg3 harg3 arg4 harg4 arg8 arg9 x0 x1 x2 x3 (ix2 r k)
    = rowG (diff (t.val * 256) (ownOf x0) (prevOf t x1) r) (rows x3 0) (wts x2) ⟨1536 + k.val, by omega⟩ := by
  refine (pay27_at _ _ _ r k).trans ((congrArg₂ (· + ·) (Finset.sum_congr rfl fun l _ => congrArg₂ (· * ·) (diffB_3 c t arg1 harg1 arg2 harg2 arg8 arg9 x0 x1 r l) (load3_at harg3 x2 _ l k 3 rfl)) (load_at harg4 x3 _ 0 k)).trans ?_)
  exact (rowG_grp (diff (t.val * 256) (ownOf x0) (prevOf t x1) r) (rows x3 0) (wts x2) 3 k).symm

/-- Group 2's products with its weights, and the bias. -/
theorem mixB_2 (r : Fin 256) (k : Fin 512) : runB.sl.r_10 (F := Ideal) c (grid0.coords t) arg1 harg1 arg2 harg2 arg3 harg3 arg4 harg4 arg8 arg9 x0 x1 x2 x3 (ix2 r k)
    = rowG (diff (t.val * 256) (ownOf x0) (prevOf t x1) r) (rows x3 0) (wts x2) ⟨1024 + k.val, by omega⟩ := by
  refine (pay19_at _ _ _ _ _ _ r k).trans ((congrArg₂ (· + ·) (Finset.sum_congr rfl fun l _ => congrArg₂ (· * ·) (diffB_2 c t arg1 harg1 arg2 harg2 arg8 arg9 x0 x1 r l) (load3_at harg3 x2 _ l k 2 rfl)) (load_at harg4 x3 _ 0 k)).trans ?_)
  exact (rowG_grp (diff (t.val * 256) (ownOf x0) (prevOf t x1) r) (rows x3 0) (wts x2) 2 k).symm

/-- Group 1's products with its weights, and the bias. -/
theorem mixB_1 (r : Fin 256) (k : Fin 512) : runB.sl.r_6 (F := Ideal) c (grid0.coords t) arg1 harg1 arg2 harg2 arg3 harg3 arg4 harg4 arg8 arg9 x0 x1 x2 x3 (ix2 r k)
    = rowG (diff (t.val * 256) (ownOf x0) (prevOf t x1) r) (rows x3 0) (wts x2) ⟨512 + k.val, by omega⟩ := by
  refine (pay13_at _ _ _ _ _ _ r k).trans ((congrArg₂ (· + ·) (Finset.sum_congr rfl fun l _ => congrArg₂ (· * ·) (diffB_1 c t arg1 harg1 arg2 harg2 arg8 arg9 x0 x1 r l) (load3_at harg3 x2 _ l k 1 rfl)) (load_at harg4 x3 _ 0 k)).trans ?_)
  exact (rowG_grp (diff (t.val * 256) (ownOf x0) (prevOf t x1) r) (rows x3 0) (wts x2) 1 k).symm

/-- Group 0's products with its weights, and the bias. -/
theorem mixB_0 (r : Fin 256) (k : Fin 512) : runB.sl.r_2 (F := Ideal) c (grid0.coords t) arg1 harg1 arg2 harg2 arg3 harg3 arg4 harg4 arg8 x0 x1 x2 x3 (ix2 r k)
    = rowG (diff (t.val * 256) (ownOf x0) (prevOf t x1) r) (rows x3 0) (wts x2) ⟨0 + k.val, by omega⟩ := by
  refine (pay10_at _ _ _ r k).trans ((congrArg₂ (· + ·) (Finset.sum_congr rfl fun l _ => congrArg₂ (· * ·) (diffB_0 c t arg1 harg1 arg2 harg2 arg8 x0 x1 r l) (load3_at harg3 x2 _ l k 0 rfl)) (load_at harg4 x3 _ 0 k)).trans ?_)
  exact (rowG_grp (diff (t.val * 256) (ownOf x0) (prevOf t x1) r) (rows x3 0) (wts x2) 0 k).symm

end

variable (m : (ℓ : Loc nD τ sig) → Buf (Elt Ideal) ℓ)

set_option maxHeartbeats 4000000 in
/-- The pooled differences as stored. -/
theorem outB_6_at (c : Dev nD) (t : Fin cfg0.N) (h : ¬ t.val % 16 = 0) (r : Fin 256) (d : Fin 2048) :
    outB_6 m c t h (ix2 r d) = diff (t.val * 256) (ownOf (iblk m c 0 t)) (prevOf t (iblk m c 1 t)) r d := by
  unfold outB_6
  dsimp only [atB, runB]
  canon_tiles x hx using coverB_6 m c t h _
  all_goals
    obtain ⟨i, k, rfl⟩ : ∃ (i : Fin 256) (k : Fin 512), x = ix2 i k := ⟨x 0, x 1, by funext a; match a with | ⟨0, _⟩ => rfl | ⟨1, _⟩ => rfl⟩
    simp only [ix2_0, ix2_1] at hx0 hx1
    obtain rfl : r = i := Fin.ext hx0
    have hk := k.isLt
  · exact (diffB_3 c t _ _ _ _ _ _ _ _ r k).trans (congrArg _ (Fin.ext hx1.symm))
  · exact (diffB_2 c t _ _ _ _ _ _ _ _ r k).trans (congrArg _ (Fin.ext hx1.symm))
  · exact (diffB_1 c t _ _ _ _ _ _ _ _ r k).trans (congrArg _ (Fin.ext hx1.symm))
  · exact (diffB_0 c t _ _ _ _ _ _ _ r k).trans (congrArg _ (Fin.ext (show 0 + k.val = d.val by omega)))

set_option maxHeartbeats 4000000 in
/-- The gated rows as stored. -/
theorem outB_5_at (c : Dev nD) (t : Fin cfg0.N) (h : ¬ t.val % 16 = 0) (r : Fin 256) (d : Fin 2048) :
    outB_5 m c t h (ix2 r d) = rowO (diff (t.val * 256) (ownOf (iblk m c 0 t)) (prevOf t (iblk m c 1 t)) r) (rows (iblk m c 3 t) 0) (rows (iblk m c 4 t) 0)
      (gateOf (iblk m c 0 t) r) (wts (iblk m c 2 t)) d := by
  unfold outB_5
  dsimp only [atB, runB]
  canon_tiles x hx using coverB_5 m c t h _
  all_goals
    generalize iblk m c 0 t = x0; generalize iblk m c 1 t = x1; generalize iblk m c 2 t = x2
    generalize iblk m c 3 t = x3; generalize iblk m c 4 t = x4
    obtain ⟨i, k, rfl⟩ : ∃ (i : Fin 256) (k : Fin 512), x = ix2 i k := ⟨x 0, x 1, by funext a; match a with | ⟨0, _⟩ => rfl | ⟨1, _⟩ => rfl⟩
    simp only [ix2_0, ix2_1] at hx0 hx1
    obtain rfl : r = i := Fin.ext hx0
    have hk := k.isLt
  · obtain rfl : d = ⟨1536 + k.val, Nat.lt_of_lt_of_le (Nat.add_lt_add_left k.isLt 1536) (by decide)⟩ := Fin.ext hx1
    exact (pay2_at _ _ _ r k).trans (congrArg₂ (· * ·) (congrArg₂ (· * ·) (mixB_3 c t _ _ _ _ _ _ _ _ _ _ _ _ _ _ r k) (load_at _ _ _ 0 k))
      (congrArg (fun z : EReal => z * Ideal.logistic z) (gate_at _ _ _ r k _ (show 2048 + (1536 + k.val) = 3584 + k.val by omega))))
  · obtain rfl : d = ⟨1024 + k.val, Nat.lt_of_lt_of_le (Nat.add_lt_add_left k.isLt 1024) (by decide)⟩ := Fin.ext hx1
    exact (pay1_at _ _ _ r k).trans (congrArg₂ (· * ·) (congrArg₂ (· * ·) (mixB_2 c t _ _ _ _ _ _ _ _ _ _ _ _ _ _ r k) (load_at _ _ _ 0 k))
      (congrArg (fun z : EReal => z * Ideal.logistic z) (gate_at _ _ _ r k _ (show 2048 + (1024 + k.val) = 3072 + k.val by omega))))
  · obtain rfl : d = ⟨512 + k.val, Nat.lt_of_lt_of_le (Nat.add_lt_add_left k.isLt 512) (by decide)⟩ := Fin.ext hx1
    exact (pay29_at _ _ _ r k).trans (congrArg₂ (· * ·) (congrArg₂ (· * ·) (mixB_1 c t _ _ _ _ _ _ _ _ _ _ _ _ _ _ r k) (load_at _ _ _ 0 k))
      (congrArg (fun z : EReal => z * Ideal.logistic z) (gate_at _ _ _ r k _ (show 2048 + (512 + k.val) = 2560 + k.val by omega))))
  · obtain rfl : d = ⟨0 + k.val, Nat.lt_of_lt_of_le (Nat.add_lt_add_left k.isLt 0) (by decide)⟩ := Fin.ext (show d.val = 0 + k.val by omega)
    exact (pay28_at _ _ _ r k).trans (congrArg₂ (· * ·) (congrArg₂ (· * ·) (mixB_0 c t _ _ _ _ _ _ _ _ _ _ _ _ _ r k) (load_at _ _ _ 0 k))
      (congrArg (fun z : EReal => z * Ideal.logistic z) (gate_at _ _ _ r k _ (show 2048 + (0 + k.val) = 2048 + k.val by omega))))

end Cert.Kernel7Ideal.Pool

end
-- ==== Proof.PoolValue.lean ====
/- The blocks of the pooling mixer's forward call (call 7), at the real numbers, as rows of its arguments. -/
module

public import proofs.«01_k».proof.Proof.PoolPointA
public import proofs.«01_k».proof.Proof.PoolPointB
public import proofs.«01_k».proof.Proof.OddRef
public import proofs.«01_k».proof.Proof.PoolBody

@[expose] public section

set_option maxRecDepth 16384

noncomputable section

open Idealize.ShloMosaic Idealize.ShloMosaic.TcCoe Idealize.SL.Sem

namespace Cert.Kernel7Ideal.Pool

open Cert.Kernel7Ideal Cert.Kernel7Ideal.Gen
open Cert.Kernel4Ideal.Odd (win rowG rows wts)
open Cert.Reference4Ideal.Odd (zr bv sv)

variable (m : (ℓ : Loc nD τ sig) → Buf (Elt Ideal) ℓ)

abbrev A0 (c : Dev nD) : FVec Ideal S4096x4096 .f32 := m ((c : Thread nD τ).loc main_arg0)
abbrev A1 (c : Dev nD) : FVec Ideal S4x512x512 .f32 := m ((c : Thread nD τ).loc main_arg1)
abbrev A2 (c : Dev nD) : FVec Ideal S4x512 .f32 := m ((c : Thread nD τ).loc main_arg2)
abbrev A3 (c : Dev nD) : FVec Ideal S2048 .f32 := m ((c : Thread nD τ).loc main_arg3)

theorem entry_w (c : Dev nD) (i : S4x512x512.Idx) : V m c main_v0 i = A1 m c i := by
  exact congrFun (show V m c main_v0 = A1 m c from rfl) i

theorem entry_b (c : Dev nD) (a : Fin 1) (d : Fin 2048) : V m c main_v1 (ix2 a d) = bv (A2 m c) d := by
  have e : V m c main_v1 = (shapeCast S1x2048 (A2 m c) shapeCasts_S4x512_S1x2048 : FVec Ideal S1x2048 .f32) := rfl
  rw [e]
  pointwise []

theorem entry_s (c : Dev nD) (a : Fin 1) (d : Fin 2048) : V m c main_v2 (ix2 a d) = sv (A3 m c) d := by
  have e : V m c main_v2 = (shapeCast S1x2048 (A3 m c) shapeCasts_S2048_S1x2048 : FVec Ideal S1x2048 .f32) := rfl
  rw [e]
  pointwise []

/-- The blocks of a point: the tiles from the first rows down, and the sixteen rows before each. -/
theorem idx : ∀ t : Fin cfg0.N, win0_0.index t = ![t.val, 0] ∧ win0_1.index t = ![t.val * 16 - 1, 0] ∧ win0_2.index t = ![0, 0, 0]
      ∧ win0_3.index t = ![0, 0] ∧ win0_4.index t = ![0, 0] ∧ win0_5.index t = ![t.val, 0] ∧ win0_6.index t = ![t.val, 0] :=
  (by decide +kernel : ∀ t : Fin grid0.N, _)

theorem pt_lt (t : Fin cfg0.N) : t.val < 16 := lt_of_lt_of_eq t.isLt Gen.N_0

/-- Row `r` of a point's tile. -/
abbrev row (t : Fin cfg0.N) (r : Fin 256) : Fin 4096 := ⟨t.val * 256 + r.val, by have := pt_lt t; omega⟩

theorem own_at (c : Dev nD) (t : Fin cfg0.N) (r : Fin 256) (d : Fin 4096) : iblk m c 0 t (ix2 r d) = A0 m c (ix2 (row t r) d) := by
  refine Eq.trans ?_ (congrFun (V_main_arg0 m c) (ix2 (row t r) d))
  change iblk m c 0 t (ix2 r d) = V m c main_arg0 (ix2 (row t r) d)
  blk_point [iblk, idx t]

theorem prev_at (c : Dev nD) (t : Fin cfg0.N) (i : Fin 16) (d : Fin 2048) :
    iblk m c 1 t (ix2 i d) = A0 m c (ix2 ⟨(t.val * 16 - 1) * 16 + i.val, by have := pt_lt t; omega⟩ ⟨d.val, by omega⟩) := by
  have ht := pt_lt t
  refine Eq.trans ?_ (congrFun (V_main_arg0 m c) (ix2 ⟨(t.val * 16 - 1) * 16 + i.val, by omega⟩ ⟨d.val, by omega⟩))
  change iblk m c 1 t (ix2 i d) = V m c main_arg0 (ix2 ⟨(t.val * 16 - 1) * 16 + i.val, by omega⟩ ⟨d.val, by omega⟩)
  blk_point [iblk, idx t]

theorem wts_w (c : Dev nD) (t : Fin cfg0.N) : wts (iblk m c 2 t) = wts (A1 m c) := by
  funext g k l
  refine Eq.trans ?_ (entry_w m c (ix3 g k l))
  change iblk m c 2 t (ix3 g k l) = V m c main_v0 (ix3 g k l)
  blk_point [iblk, idx t]

theorem rows_b (c : Dev nD) (t : Fin cfg0.N) : rows (iblk m c 3 t) 0 = bv (A2 m c) := by
  funext d
  refine Eq.trans ?_ (entry_b m c 0 d)
  change iblk m c 3 t (ix2 0 d) = V m c main_v1 (ix2 0 d)
  blk_point [iblk, idx t]

theorem rows_s (c : Dev nD) (t : Fin cfg0.N) : rows (iblk m c 4 t) 0 = sv (A3 m c) := by
  funext d
  refine Eq.trans ?_ (entry_s m c 0 d)
  change iblk m c 4 t (ix2 0 d) = V m c main_v2 (ix2 0 d)
  blk_point [iblk, idx t]

theorem prevOf_zero (t : Fin cfg0.N) (h : t.val = 0) (x1 : FVec Ideal S16x2048 .f32) (i : Fin 16) (d : Fin 2048) : prevOf t x1 i d = 0 := by
  unfold prevOf
  rw [if_pos h, mul_zero]

theorem prevOf_pos (t : Fin cfg0.N) (h : ¬ t.val = 0) (x1 : FVec Ideal S16x2048 .f32) (i : Fin 16) (d : Fin 2048) : prevOf t x1 i d = x1 (ix2 i d) := by
  unfold prevOf
  rw [if_neg h, mul_one]

/-- A row's sum over its window, one over the number of its rows, and the row itself. -/
def pooled (p : FVec Ideal S4096x4096 .f32) (i : Fin 4096) (d : Fin 2048) : EReal :=
  (∑ j ∈ Finset.range (win d.val), if h : j ≤ i.val then p (ix2 ⟨i.val - j, by omega⟩ ⟨d.val, by omega⟩) else 0) * Cert.Kernel4Ideal.Odd.inv i.val d
    - p (ix2 i ⟨d.val, by omega⟩)

/-- What the kernel computes of a row of a tile. -/
theorem diff_row (c : Dev nD) (t : Fin cfg0.N) (r : Fin 256) :
    diff (t.val * 256) (ownOf (iblk m c 0 t)) (prevOf t (iblk m c 1 t)) r = pooled (A0 m c) (row t r) := by
  funext d
  have ht := pt_lt t
  have hr := r.isLt
  have hw : win d.val ≤ 16 := by unfold win; split_ifs <;> omega
  unfold diff pooled
  refine congrArg₂ (· - ·) (congrArg (· * _) (Finset.sum_congr rfl fun j hj => ?_)) (own_at m c t r _)
  have hj' := Finset.mem_range.mp hj
  unfold span
  by_cases h : j ≤ r.val
  · rw [dif_pos ⟨by omega, by omega⟩, dif_pos (show j ≤ t.val * 256 + r.val by omega)]
    refine (own_at m c t _ _).trans (congrArg (fun i => A0 m c (ix2 i _)) (Fin.ext ?_))
    show t.val * 256 + (24 + r.val - j - 24) = t.val * 256 + r.val - j
    omega
  · rw [dif_neg (by omega), dif_pos (by omega)]
    by_cases h0 : t.val = 0
    · rw [dif_neg (show ¬ j ≤ t.val * 256 + r.val by omega)]
      exact prevOf_zero t h0 _ _ _
    · rw [dif_pos (show j ≤ t.val * 256 + r.val by omega), prevOf_pos t h0]
      refine (prev_at m c t _ d).trans (congrArg (fun i => A0 m c (ix2 i _)) (Fin.ext ?_))
      show (t.val * 16 - 1) * 16 + (24 + r.val - j - 8) = t.val * 256 + r.val - j
      omega

/-- The pooled differences a point stores. -/
theorem out_6_at (c : Dev nD) (t : Fin cfg0.N) (r : Fin 256) (d : Fin 2048) : out_6 m c t (ix2 r d) = pooled (A0 m c) (row t r) d := by
  rw [← diff_row]
  unfold out_6
  split_ifs with h
  · exact outA_6_at m c t h r d
  · exact outB_6_at m c t h r d

/-- The gated rows a point stores. -/
theorem out_5_at (c : Dev nD) (t : Fin cfg0.N) (r : Fin 256) (d : Fin 2048) :
    out_5 m c t (ix2 r d) = rowO (pooled (A0 m c) (row t r)) (bv (A2 m c)) (sv (A3 m c)) (zr (A0 m c) (row t r)) (wts (A1 m c)) d := by
  have e : gateOf (iblk m c 0 t) r = zr (A0 m c) (row t r) := funext fun d => own_at m c t r _
  rw [← diff_row, ← wts_w m c t, ← rows_b m c t, ← rows_s m c t, ← e]
  unfold out_5
  split_ifs with h
  · exact outA_5_at m c t h r d
  · exact outB_5_at m c t h r d

end Cert.Kernel7Ideal.Pool

end
-- ==== Proof.PoolSums.lean ====
module

public import proofs.«01_k».proof.Proof.WindowSums

@[expose] public section

noncomputable section

/-! Running sums from the first row down, as the host computes them at the real numbers, and the sum over a window that two of them make. -/

namespace Cert.WindowSums

open Idealize.ShloMosaic Cert.NormMath

/-- A column's entries, nothing past the last row. -/
def colOf (x : FVec Ideal Sq .f32) (d : Fin 2048) (q : ℕ) : EReal := if h : q < 4096 then x (ix2 ⟨q, h⟩ d) else 0

/-- The running sum from the first row down. -/
theorem cum_down (x : FVec Ideal Sq .f32) (init : S0.Idx → Ideal .f32) (h : Sq.ReduceWindows ![4096, 1] ![1, 1] ![4095, 0] ![0, 0] Sq)
    (hu : 0 < S0.numel) (hz : init (Shape.Idx.first hu) = 0) (r : Fin 4096) (d : Fin 2048) :
    Host.reduceWindowAdd (F := Ideal) ![4096, 1] ![1, 1] ![4095, 0] ![0, 0] x init h hu (ix2 r d) = ∑ q ∈ Finset.range (r.val + 1), colOf x d q := by
  have e : Host.reduceWindowAdd (F := Ideal) ![4096, 1] ![1, 1] ![4095, 0] ![0, 0] x init h hu (ix2 r d)
      = ∑ k ∈ Finset.range 4096, if 4095 ≤ r.val + k then colOf x d (r.val + k - 4095) else 0 := by
    rw [reduceWindow_eq, hz, zero_add, Finset.sum_range]
    refine (sum_idx2 (n0 := 4096) (n1 := 1) _).trans (Finset.sum_congr rfl fun k _ => ?_)
    rw [Fin.sum_univ_one]
    dsimp only [term]
    by_cases hk : 4095 ≤ r.val + k.val
    · rw [if_pos hk, colOf, dif_pos (show r.val + k.val - 4095 < 4096 by omega), dif_pos fun a => by
        match a with
        | ⟨0, _⟩ => exact ⟨show 4095 ≤ r.val * 1 + k.val by omega, show r.val * 1 + k.val - 4095 < 4096 by omega⟩
        | ⟨1, _⟩ => exact ⟨Nat.zero_le _, show d.val * 1 + 0 - 0 < 2048 by omega⟩]
      refine congrArg x (funext fun a => ?_)
      match a with
      | ⟨0, _⟩ => exact Fin.ext (show r.val * 1 + k.val - 4095 = r.val + k.val - 4095 by omega)
      | ⟨1, _⟩ => exact Fin.ext (show d.val * 1 + 0 - 0 = d.val by omega)
    · rw [if_neg hk, dif_neg fun a => hk (by have := (a 0).1; have : 4095 ≤ r.val * 1 + k.val := this; omega)]
      exact hz
  have hr := r.isLt
  refine e.trans ((congrArg (fun n => ∑ k ∈ Finset.range n, if 4095 ≤ r.val + k then colOf x d (r.val + k - 4095) else 0)
    (show 4096 = (4095 - r.val) + (r.val + 1) by omega)).trans ?_)
  rw [Finset.sum_range_add, Finset.sum_eq_zero fun k hk => if_neg (by have := Finset.mem_range.mp hk; omega), zero_add]
  refine Finset.sum_congr rfl fun q _ => ?_
  rw [if_pos (by omega)]
  exact congrArg (colOf x d) (by omega)

/-- Two running sums a window apart differ by the sum over the window. -/
theorem window_down (E : ℕ → EReal) (hE : ∀ i, Finite (E i)) (w r : ℕ) :
    (∑ q ∈ Finset.range (r + 1), E q) - (if w ≤ r then ∑ q ∈ Finset.range (r - w + 1), E q else 0)
      = ∑ j ∈ Finset.range w, if j ≤ r then E (r - j) else 0 := by
  by_cases h : w ≤ r
  · obtain ⟨s, hs⟩ : Finite (∑ q ∈ Finset.range (r - w + 1), E q) := by
      rw [Finset.sum_range]
      exact Finite.sum fun k => hE _
    rw [if_pos h, show r + 1 = (r - w + 1) + w by omega, Finset.sum_range_add, hs, add_comm, EReal.add_sub_cancel_right, ← Finset.sum_range_reflect]
    refine Finset.sum_congr rfl fun j hj => ?_
    have := Finset.mem_range.mp hj
    rw [if_pos (by omega)]
    exact congrArg E (by omega)
  · obtain ⟨v, rfl⟩ : ∃ v, w = (r + 1) + v := ⟨w - (r + 1), by omega⟩
    rw [if_neg h, sub_zero, Finset.sum_range_add _ (r + 1) v,
      Finset.sum_eq_zero (s := Finset.range v) fun j _ => if_neg (by omega), add_zero, ← Finset.sum_range_reflect (fun q => E q) (r + 1)]
    refine Finset.sum_congr rfl fun j hj => ?_
    have := Finset.mem_range.mp hj
    rw [if_pos (by omega)]
    exact congrArg E (by omega)

end Cert.WindowSums

end
-- ==== Proof.PoolRef.lean ====
module

public import proofs.«01_k».proof.Proof.PoolSums
public import proofs.«01_k».proof.Proof.PoolPays
public import proofs.«01_k».proof.Proof.OddRef
public import proofs.«01_k».proof.Proof.Gen.Pre_finite7
public import proofs.«01_k».proof.Proof.Gen.Reference7Ideal.Run
public import proofs.«01_k».proof.Proof.Gen.Reference7Ideal.Read

@[expose] public section

set_option maxRecDepth 16384

noncomputable section

/-! The reference of the pooling mixer's forward call (call 7), entry by entry. -/

namespace Cert.Reference7Ideal.Pool

open Idealize.ShloMosaic Idealize.ShloMosaic.TcCoe
open Cert.Reference7Ideal Cert.Reference7Ideal.Read
open Cert.Kernel4Ideal.Odd (win rowG rows wts)
open Cert.Reference4Ideal.Odd (count_word div_count bv sv zr)
open Cert.WindowSums (colOf cum_down window_down)

variable (p : FVec Ideal S4096x4096 .f32) (w : FVec Ideal S4x512x512 .f32) (b : FVec Ideal S4x512 .f32) (s : FVec Ideal S2048 .f32)

/-- A row's value columns. -/
abbrev vr (r : Fin 4096) (d : Fin 2048) : EReal := p (ix2 r ⟨d.val, by omega⟩)

/-- The running sum of the rows up to `q`, or nothing before the first. -/
theorem cum_at (i : Fin 4096) (d : Fin 2048) :
    val_main_v3 (F := Ideal) p (ix2 i d) = ∑ q ∈ Finset.range (i.val + 1), colOf (val_main_v0 (F := Ideal) p) d q := by
  unfold val_main_v3
  refine cum_down _ _ _ _ ?_ i d
  pointwise [val_main_call0_call0_v0, val_main_call0_call0_cst]

theorem v0_at (i : Fin 4096) (d : Fin 2048) : val_main_v0 (F := Ideal) p (ix2 i d) = vr p i d := by
  pointwise [val_main_v0]

/-- A row's mean over its window, as the reference takes it. -/
def mean (i : Fin 4096) (d : Fin 2048) : EReal :=
  ((∑ q ∈ Finset.range (i.val + 1), colOf (val_main_v0 (F := Ideal) p) d q)
          - (if win d.val ≤ i.val then ∑ q ∈ Finset.range (i.val - win d.val + 1), colOf (val_main_v0 (F := Ideal) p) d q else 0)) * Cert.Kernel4Ideal.Odd.inv i.val d

/-- A row's mean over its window, from two running sums. -/
theorem mean_of (i : Fin 4096) (d : Fin 2048) (W : ℕ) (hw : win d.val = W) {X : EReal} {c : Prop} [hc : Decidable c] {Y : ¬ c → EReal}
    (he : c ↔ i.val < W) (hX : X = val_main_v3 (F := Ideal) p (ix2 i d))
    (hY : ∀ (k : ¬ c), Y k = val_main_v3 (F := Ideal) p (ix2 ⟨i.val - W, by omega⟩ d)) :
    (X - (if h : c then 0 else Y h)) * Ideal.div 1 (((min (i.val + 1) W : ℕ) : ℝ) : EReal) = mean p i d := by
  unfold mean Cert.Kernel4Ideal.Odd.inv
  rw [hw, hX, cum_at]
  refine congrArg (fun x => (_ - x) * _) ?_
  by_cases h : c
  · rw [dif_pos h, if_neg (by have := he.mp h; omega)]
  · rw [dif_neg h, if_pos (by have h' := mt he.mpr h; omega), hY h, cum_at]

set_option maxHeartbeats 2000000 in
/-- The means of the first group. -/
theorem mean_0 (i : Fin 4096) (k : Fin 512) :
    val_main_v20 (F := Ideal) p (ix2 i k) = mean p i ⟨k.val, by omega⟩ := by
  have hk := k.isLt
  pointwise [val_main_v20, val_main_v19, val_main_v18, val_main_v17, val_main_v16, val_main_v15, val_main_v14, val_main_v13, val_main_v12, val_main_v11, val_main_v7, val_main_v6, val_main_v5, val_main_v4, val_main_c_0, val_main_cst, val_main_c]
  rw [count_word i.val i.isLt 2 (by omega), div_count _ _ _ (by omega)]
  refine mean_of p i ⟨k.val, by omega⟩ 2 ?_ Iff.rfl ?_ fun h => ?_
  · show win k.val = 2
    unfold win; split_ifs <;> omega
  · exact congrArg (fun d => val_main_v3 (F := Ideal) p (ix2 i d)) (Fin.ext (by first | rfl | (dsimp only; omega)))
  · exact congrArg (fun d => val_main_v3 (F := Ideal) p (ix2 _ d)) (Fin.ext (by first | rfl | (dsimp only; omega)))

set_option maxHeartbeats 2000000 in
/-- The means of the second group. -/
theorem mean_1 (i : Fin 4096) (k : Fin 512) :
    val_main_v30 (F := Ideal) p (ix2 i k) = mean p i ⟨512 + k.val, by omega⟩ := by
  have hk := k.isLt
  pointwise [val_main_v30, val_main_v29, val_main_v28, val_main_v27, val_main_v26, val_main_v25, val_main_v24, val_main_v23, val_main_v22, val_main_v21, val_main_v8, val_main_v6, val_main_v5, val_main_v4, val_main_c_2, val_main_cst_1, val_main_c]
  rw [count_word i.val i.isLt 4 (by omega), div_count _ _ _ (by omega)]
  refine mean_of p i ⟨512 + k.val, by omega⟩ 4 ?_ Iff.rfl ?_ fun h => ?_
  · show win (512 + k.val) = 4
    unfold win; split_ifs <;> omega
  · exact congrArg (fun d => val_main_v3 (F := Ideal) p (ix2 i d)) (Fin.ext (by first | rfl | (dsimp only; omega)))
  · exact congrArg (fun d => val_main_v3 (F := Ideal) p (ix2 _ d)) (Fin.ext (by first | rfl | (dsimp only; omega)))

set_option maxHeartbeats 2000000 in
/-- The means of the third group. -/
theorem mean_2 (i : Fin 4096) (k : Fin 512) :
    val_main_v40 (F := Ideal) p (ix2 i k) = mean p i ⟨1024 + k.val, by omega⟩ := by
  have hk := k.isLt
  pointwise [val_main_v40, val_main_v39, val_main_v38, val_main_v37, val_main_v36, val_main_v35, val_main_v34, val_main_v33, val_main_v32, val_main_v31, val_main_v9, val_main_v6, val_main_v5, val_main_v4, val_main_c_4, val_main_cst_3, val_main_c]
  rw [count_word i.val i.isLt 8 (by omega), div_count _ _ _ (by omega)]
  refine mean_of p i ⟨1024 + k.val, by omega⟩ 8 ?_ Iff.rfl ?_ fun h => ?_
  · show win (1024 + k.val) = 8
    unfold win; split_ifs <;> omega
  · exact congrArg (fun d => val_main_v3 (F := Ideal) p (ix2 i d)) (Fin.ext (by first | rfl | (dsimp only; omega)))
  · exact congrArg (fun d => val_main_v3 (F := Ideal) p (ix2 _ d)) (Fin.ext (by first | rfl | (dsimp only; omega)))

set_option maxHeartbeats 2000000 in
/-- The means of the last group. -/
theorem mean_3 (i : Fin 4096) (k : Fin 512) :
    val_main_v50 (F := Ideal) p (ix2 i k) = mean p i ⟨1536 + k.val, by omega⟩ := by
  have hk := k.isLt
  pointwise [val_main_v50, val_main_v49, val_main_v48, val_main_v47, val_main_v46, val_main_v45, val_main_v44, val_main_v43, val_main_v42, val_main_v41, val_main_v10, val_main_v6, val_main_v5, val_main_v4, val_main_c_6, val_main_cst_5, val_main_c]
  rw [count_word i.val i.isLt 16 (by omega), div_count _ _ _ (by omega)]
  refine mean_of p i ⟨1536 + k.val, by omega⟩ 16 ?_ Iff.rfl ?_ fun h => ?_
  · show win (1536 + k.val) = 16
    unfold win; split_ifs <;> omega
  · exact congrArg (fun d => val_main_v3 (F := Ideal) p (ix2 i d)) (Fin.ext (by first | rfl | (dsimp only; omega)))
  · exact congrArg (fun d => val_main_v3 (F := Ideal) p (ix2 _ d)) (Fin.ext (by first | rfl | (dsimp only; omega)))

set_option maxHeartbeats 1000000 in
/-- The means of all rows. -/
theorem mean_at (i : Fin 4096) (d : Fin 2048) : val_main_v51 (F := Ideal) p (ix2 i d) = mean p i d := by
  have hd := d.isLt
  pointwise [val_main_v51]
  by_cases c0 : d.val < 512
  · rw [dif_pos c0]
    exact mean_0 p i ⟨d.val, c0⟩
  by_cases c1 : d.val - 512 < 512
  · rw [dif_neg c0, dif_pos c1]
    exact (mean_1 p i ⟨d.val - 512, c1⟩).trans (congrArg (mean p i) (Fin.ext (by dsimp only; omega)))
  by_cases c2 : d.val - 512 - 512 < 512
  · rw [dif_neg c0, dif_neg c1, dif_pos c2]
    exact (mean_2 p i ⟨d.val - 512 - 512, c2⟩).trans (congrArg (mean p i) (Fin.ext (by dsimp only; omega)))
  · rw [dif_neg c0, dif_neg c1, dif_neg c2]
    exact (mean_3 p i ⟨d.val - 512 - 512 - 512, by omega⟩).trans (congrArg (mean p i) (Fin.ext (by dsimp only; omega)))

end Cert.Reference7Ideal.Pool

end
-- ==== Proof.PoolOut.lean ====
/- The results of the pooling mixer's forward reference (call 7) from its pooled differences. -/
module

public import proofs.«01_k».proof.Proof.PoolPays
public import proofs.«01_k».proof.Proof.OddRef
public import proofs.«01_k».proof.Proof.Gen.Pre_finite7
public import proofs.«01_k».proof.Proof.Gen.Reference7Ideal.Run
public import proofs.«01_k».proof.Proof.Gen.Reference7Ideal.Read

@[expose] public section

set_option maxRecDepth 16384

noncomputable section

namespace Cert.Reference7Ideal.Pool

open Idealize.ShloMosaic Idealize.ShloMosaic.TcCoe
open Cert.Reference7Ideal Cert.Reference7Ideal.Read
open Cert.Kernel4Ideal.Odd (win rowG rows wts)
open Cert.Kernel7Ideal.Pool (rowO)
open Cert.Reference4Ideal.Odd (bv sv zr)

variable (p : FVec Ideal S4096x4096 .f32) (w : FVec Ideal S4x512x512 .f32) (b : FVec Ideal S4x512 .f32) (s : FVec Ideal S2048 .f32)

/-- A row's pooled differences. -/
abbrev dr (r : Fin 4096) (d : Fin 2048) : EReal := val_main_v52 (F := Ideal) p (ix2 r d)

/-- The grouped product with its bias. -/
theorem lin_at (r : Fin 4096) (d : Fin 2048) : val_main_v59 (F := Ideal) p w b (ix2 r d) = rowG (dr p r) (bv b) (wts w) d := by
  pointwise [val_main_v59, val_main_v58, val_main_v57, val_main_v56, val_main_v55, val_main_v54, val_main_v53, rowG]
  exact congrArg (· + _) (Finset.sum_congr rfl fun k _ => mul_comm _ _)

/-- The gate of a row. -/
theorem silu_at (r : Fin 4096) (d : Fin 2048) : val_main_v63 (F := Ideal) p (ix2 r d) = zr p r d * Ideal.logistic (zr p r d) := by
  pointwise [val_main_v63, val_main_call1_v5, val_main_call1_v4, val_main_call1_v3, val_main_call1_v2, val_main_call1_v1, val_main_call1_v0, val_main_call1_cst, val_main_call1_cst_0, val_main_v2]
  rfl

/-- The gated rows. -/
theorem out_at (r : Fin 4096) (d : Fin 2048) : val_main_v65 (F := Ideal) p w b s (ix2 r d) = rowO (dr p r) (bv b) (sv s) (zr p r) (wts w) d := by
  unfold rowO
  rw [← lin_at, ← silu_at]
  pointwise [val_main_v65, val_main_v64, val_main_v62, val_main_v61, val_main_v60]

/-- The second result is the pooled differences. -/
theorem second : val_main_v116 (F := Ideal) p = fun i => val_main_v52 (F := Ideal) p i := rfl

/-- Where the precondition holds, every entry of the rows is a real number. -/
theorem pre_at (h : Cert.Pre_finite7.fn (F := Ideal) p w b s = fun _ => 1#1) (i : S4096x4096.Idx) : NormMath.Finite (p i) := by
  have q := congrFun h i
  rw [eq_ix2 i] at q
  pointwise [Cert.Pre_finite7.fn] at q
  exact (NormMath.fin_of_bit _).mp q

end Cert.Reference7Ideal.Pool

end
-- ==== Proof.PoolFinal.lean ====
/- The arrays the pooling mixer's forward call (call 7) leaves, at the real numbers: those of the reference. -/
module

public import proofs.«01_k».proof.Proof.PoolValue
public import proofs.«01_k».proof.Proof.PoolRef
public import proofs.«01_k».proof.Proof.PoolOut

@[expose] public section

set_option maxRecDepth 16384

noncomputable section

open Idealize.ShloMosaic Idealize.ShloMosaic.TcCoe Idealize.SL.Sem

namespace Cert.Reference7Ideal.Pool

open Cert.Reference7Ideal Cert.Reference7Ideal.Read
open Cert.Kernel4Ideal.Odd (win)
open Cert.Kernel7Ideal.Pool (pooled)
open Cert.WindowSums (colOf window_down)

/-- The pooled differences of finite rows are sums over the rows' windows: a running sum less an earlier one leaves the rows between. -/
theorem diff_at (p : FVec Ideal S4096x4096 .f32) (hp : ∀ i, NormMath.Finite (p i)) (i : Fin 4096) (d : Fin 2048) :
    val_main_v52 (F := Ideal) p (ix2 i d) = pooled p i d := by
  have e : val_main_v52 (F := Ideal) p (ix2 i d) = val_main_v51 (F := Ideal) p (ix2 i d) - p (ix2 i ⟨d.val, by omega⟩) := by
    pointwise [val_main_v52, val_main_v1]
  have hi := i.isLt
  rw [e, mean_at]
  unfold mean pooled
  rw [window_down]
  · refine congrArg (· * _ - _) (Finset.sum_congr rfl fun j _ => ?_)
    by_cases h : j ≤ i.val
    · rw [if_pos h, dif_pos h]
      unfold colOf
      rw [dif_pos (show i.val - j < 4096 by omega), v0_at]
    · rw [if_neg h, dif_neg h]
  · intro q
    unfold colOf
    split_ifs with h
    · rw [v0_at]
      exact hp _
    · exact ⟨0, rfl⟩

end Cert.Reference7Ideal.Pool

namespace Cert.Kernel7Ideal.Pool

open Cert.Kernel7Ideal Cert.Kernel7Ideal.Gen
open Cert.Reference7Ideal.Read (val_main_v65 val_main_v116)

variable (m : (ℓ : Loc nD τ sig) → Buf (Elt Ideal) ℓ)

section final

variable (c : Dev nD) (hpre : Cert.Pre_finite7.fn (F := Ideal) (A0 m c) (A1 m c) (A2 m c) (A3 m c) = fun _ => 1#1)

include hpre

/-- The reference's pooled differences of a row. -/
theorem dr_row (i : Fin 4096) : Cert.Reference7Ideal.Pool.dr (A0 m c) i = pooled (A0 m c) i :=
  funext fun d => Cert.Reference7Ideal.Pool.diff_at _ (Cert.Reference7Ideal.Pool.pre_at _ _ _ _ hpre) i d

/-- After the run the gated rows are the reference's. -/
theorem final_5 : (dats m 0 c).arrAt 5 cfg0.N = val_main_v65 (F := Ideal) (A0 m c) (A1 m c) (A2 m c) (A3 m c) := by
  refine (dats m 0 c).arrAt_eq_of_covers 5 _ (by decide +kernel) fun t hf y => ?_
  blk_simp
  rw [after_5]
  have he : (win0_5.blk t).view.emb y = ix2 (row t (y 0)) (y 1) := by blk_ext [idx t]
  rw [he, eq_ix2 y]
  refine (out_5_at m c t (y 0) (y 1)).trans ?_
  rw [← dr_row m c hpre]
  exact (Cert.Reference7Ideal.Pool.out_at _ _ _ _ (row t (y 0)) (y 1)).symm

/-- After the run the pooled differences are the reference's. -/
theorem final_6 : (dats m 0 c).arrAt 6 cfg0.N = val_main_v116 (F := Ideal) (A0 m c) := by
  refine (dats m 0 c).arrAt_eq_of_covers 6 _ (by decide +kernel) fun t hf y => ?_
  blk_simp
  rw [after_6]
  have he : (win0_6.blk t).view.emb y = ix2 (row t (y 0)) (y 1) := by blk_ext [idx t]
  rw [he, eq_ix2 y]
  refine (out_6_at m c t (y 0) (y 1)).trans ?_
  rw [← dr_row m c hpre]
  exact (congrFun (Cert.Reference7Ideal.Pool.second (A0 m c)) (ix2 (row t (y 0)) (y 1))).symm

end final

section run

variable (ρ : Dev nD → PrngReg)

/-- The run with each result's array named and the arguments unchanged. -/
theorem run_blocks : θ_run defs (onTc (τ := τ) (main (F := Ideal))) ⟨m, fun _ => 0, ρ⟩ fun r => ∀ c : Dev nD,
      r.2.mem ((c.tc : Thread nD τ).loc main_v3_0) = (dats m 0 c).arrAt 5 cfg0.N
      ∧ r.2.mem ((c.tc : Thread nD τ).loc main_v3_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.1 c).1 5, (h.1.1 c).1 6, h.2.1 c⟩)
    (θ_run_and (run_main_quiescent m ρ) (frame m ρ))

end run

end Cert.Kernel7Ideal.Pool

end
-- ==== Proof.PoolBits.lean ====
module

public import proofs.«01_k».proof.Proof.PoolBody
public import proofs.«01_k».proof.Proof.Gen.Kernel7.Frame

@[expose] public section

set_option maxRecDepth 16384

noncomputable section

/-! The pooling mixer's forward kernel as it is printed and its idealized form are one text, so the run of the one is the
run of the other. -/

namespace Cert.Kernel7.Pool

open Idealize.ShloMosaic Idealize.ShloMosaic.TcCoe Idealize.ShloMosaic.Tactic Idealize.SL.Sem
open Gen

variable {F : FTy → Type} [FloatOps F]

/-- The statement that the call ends with its arguments unchanged and nothing in flight, of the printed program. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

end Cert.Kernel7.Pool

namespace Cert.Kernel7Ideal.Pool

open Idealize.ShloMosaic Idealize.ShloMosaic.TcCoe Idealize.ShloMosaic.Tactic Idealize.SL.Sem
open Gen

/-- The same of its idealized form. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_same (F : FTy → Type) [FloatOps F] : Frame F = Cert.Kernel7.Pool.Frame F := by sl_kernel_rfl

/-- The printed call ends with its arguments unchanged and nothing in flight. -/
theorem frame_bits (F : FTy → Type) [FloatOps F] : Cert.Kernel7.Pool.Frame F :=
  frame_same F ▸ fun m ρ => frame m ρ

end Cert.Kernel7Ideal.Pool

end
-- ==== Proof.PoolClaims.lean ====
/- The claims about the forward call of the pooling mixer (call 7), assembled. -/
module

public import proofs.«01_k».proof.Proof.PoolFinal
public import proofs.«01_k».proof.Proof.Gen.Kernel7.Frame
public import proofs.«01_k».proof.Proof.Gen.Kernel7Ideal.Frame
public import proofs.«01_k».proof.Proof.PoolBits
public import Idealize.ShloMosaic.Lib.Claim

@[expose] public section

set_option maxRecDepth 16384

noncomputable section

open Idealize.ShloMosaic Idealize.ShloMosaic.TcCoe Idealize.SL.Sem

namespace Cert.Reference7Ideal

open Cert.Reference7Ideal.Gen Cert.Reference7Ideal.Read

/-- The reference's run: each result is its last stage over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = val_main_v65 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v116) = val_main_v116 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (Read.val_main_v65_eq m c),
      (h c).2.1.trans (Read.val_main_v116_eq m c),
      (h c).2.2⟩) (Value.run m ρ)

end Cert.Reference7Ideal

namespace Cert.Kernel7Claims

/-- The reference runs, leaves its arguments as they were and every semaphore at zero. -/
theorem frame_reference : Cert.quiescent_Reference7Ideal := fun m g _ =>
  (θ_run _ _ _).mono (fun r h => ⟨fun c => (h c).2.2, sem_eq_zero_of_no_sems (by decide) r.2⟩)
    (Cert.Reference7Ideal.run_stages m g)

/-- The kernel at the real numbers and the reference leave the same arrays from the same finite arguments. -/
theorem algebraic : Cert.algebraic_Kernel7Ideal_Reference7Ideal_pre_finite7 := fun m g m' g' hp ha =>
  ⟨fun c => Cert.Reference7Ideal.Read.val_main_v65 (F := Ideal)
      (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    fun c => Cert.Reference7Ideal.Read.val_main_v116 (F := Ideal) (m ((c.tc : Thread Cert.Kernel7Ideal.nD Cert.Kernel7Ideal.τ).loc Cert.Kernel7Ideal.main_arg0)),
    (θ_run _ _ _).mono (fun r h c => ⟨(h c).1.trans (Cert.Kernel7Ideal.Pool.final_5 m c (hp c)),
        (h c).2.1.trans (Cert.Kernel7Ideal.Pool.final_6 m c (hp c)),
        (h c).2.2⟩) (Cert.Kernel7Ideal.Pool.run_blocks m g),
    (θ_run _ _ _).mono (fun r h c => ⟨(h c).1.trans (by rw [(ha c).1, (ha c).2.1, (ha c).2.2.1, (ha c).2.2.2]),
        (h c).2.1.trans (by rw [(ha c).1]),
        (h c).2.2⟩) (Cert.Reference7Ideal.run_stages m' g')⟩

/-- The frames of the two programs and of the reference. -/
theorem frames : Cert.quiescent_Kernel7 ∧ Cert.quiescent_Kernel7Ideal ∧ Cert.quiescent_Kernel7Ideal_pre_finite7 ∧ Cert.quiescent_Reference7Ideal
    ∧ Cert.quiescent_Reference7Ideal_pre_finite7 :=
  ⟨fun m g _ => Cert.Kernel7Ideal.Pool.frame_bits _ m g, fun m g _ => Cert.Kernel7Ideal.Pool.frame m g, fun m g _ => Cert.Kernel7Ideal.Pool.frame m g,
    frame_reference, fun m g _ => frame_reference m g trivial⟩

end Cert.Kernel7Claims

end
-- ==== Proof.ProjRun.lean ====
module

public import proofs.«01_k».proof.Proof.Gen.Kernel8Ideal.Skeleton
public import proofs.«01_k».proof.Proof.Gen.Kernel8Ideal.Points
public import proofs.«01_k».proof.Proof.Gen.Kernel8Ideal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! The body of the odd layer's input product with its pre-norm (call 8), run once at the first weight shard of a row tile and once at
any other. -/

namespace Cert.Kernel8Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (UR sig nD τ) ℕ

/-- The grid point is at the first weight shard: the body's own test. -/
abbrev FirstPt (i : grid0.Coords) : Prop :=
  (Scalar.cmpi .ne (Scalar.extui (Scalar.cmpi .eq (BitVec.ofNat 32 (i 1).val) 0#32)) 0#32) = 1#1

/-- The test holds at every fourth point. -/
theorem firstPt : ∀ t : Fin cfg0.N, FirstPt (grid0.coords t) ↔ t.val % 4 = 0 :=
  (fun t => by
  have ht : t.val < 16 := Nat.lt_of_lt_of_eq t.isLt (show grid0.N = 16 by decide)
  have e0 : (grid0.coords t 1).val = t.val / 1 % 4 := Pipeline.Grid.coords_val t 1 (by decide) rfl
  simp only [FirstPt, e0]
  word_cmp : ∀ t : Fin grid0.N, FirstPt (grid0.coords t) ↔ t.val % 4 = 0)

set_option maxHeartbeats 1600000 in
/-- The body run at the first shard: it norms its rows, keeps them, and multiplies them by the shard. -/
def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1024x2048 .bf16) (harg6 : arg6.IsWhole) (hc0 : FirstPt i)
    (x0 : Vec F S1024x2048 .f32) (x1 : Vec F S1x2048 .f32) (x2 : Vec F S1x2048x1024 .bf16) :
    Σ' (L3 : List (View.Piece (Elt F) S1024x1024 .f32)), { L4 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_o_in_proj i arg2 harg2 arg3 harg3 arg4 harg4 arg5 harg5 arg6 harg6) K } := by
  refine ⟨?_, ?_, fun E K => ?run⟩
  case run =>
    simp only [cc0_o_in_proj_eq_skeleton]; unfold cc0_o_in_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 1600000 in
/-- The body run at a later shard: it multiplies the rows it kept. -/
def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1024x2048 .bf16) (harg6 : arg6.IsWhole) (hc0 : ¬ FirstPt i)
    (x0 : Vec F S1024x2048 .f32) (x1 : Vec F S1x2048 .f32) (x2 : Vec F S1x2048x1024 .bf16) (x4 : Vec F S1024x2048 .bf16) :
    { L3 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare x4) -∗ K ⟨⟩))
          ⊢ wp frame (wpE (defs₀ (F := F)) Variants.none c none) E (cc0_o_in_proj i arg2 harg2 arg3 harg3 arg4 harg4 arg5 harg5 arg6 harg6) K } := by
  refine ⟨?_, fun E K => ?run⟩
  case run =>
    simp only [cc0_o_in_proj_eq_skeleton]; unfold cc0_o_in_proj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact H4

end Cert.Kernel8Ideal.Proj

end
-- ==== Proof.ProjBody.lean ====
module

public import proofs.«01_k».proof.Proof.ProjRun
public import Idealize.ShloMosaic.Lib.Pipeline.TableIdle
public import proofs.«01_k».proof.Proof.Gen.Kernel8Ideal.Frame

@[expose] public section

set_option maxRecDepth 16384

noncomputable section

/-! What the odd layer's input product leaves after each grid point, for any reading of the float operations, and the run of the
call: the normed rows of a tile stay in their block through the tile's four points. -/

namespace Cert.Kernel8Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run at a tile's first point, on its own buffers and blocks. -/
abbrev atA (c : Dev nD) (t : Fin cfg0.N) (h : t.val % 4 = 0) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    ((firstPt t).mpr h) (iblk m c 0 t) (iblk m c 1 t) (iblk m c 2 t)

/-- The stores of the normed rows reach every entry. -/
theorem coverA_4 (c : Dev nD) (t : Fin cfg0.N) (h : t.val % 4 = 0) (y : Shape.Idx S1024x2048) : ∃ pc ∈ (atA m c t h).2.1, y ∈ pc.1.set :=
  View.cover_of_tiledBy (atA m c t h).2.1 ![1024, 2048] (by sl_kernel_rfl) y

/-- The first point of a point's tile. -/
abbrev first (t : Fin cfg0.N) : Fin cfg0.N := ⟨t.val - t.val % 4, Nat.lt_of_le_of_lt (Nat.sub_le _ _) t.isLt⟩

theorem first_mod (t : Fin cfg0.N) : (first t).val % 4 = 0 := by
  show (t.val - t.val % 4) % 4 = 0
  omega

/-- The normed rows of a tile, as its first point leaves them. -/
def out_4 (c : Dev nD) (t : Fin cfg0.N) : Vec F S1024x2048 .bf16 :=
  View.canon (atA m c (first t) (first_mod t)).2.1

theorem out_4_same (c : Dev nD) (t t' : Fin cfg0.N) (h : first t = first t') : out_4 m c t = out_4 m c t' := by
  have e : ∀ (u u' : Fin cfg0.N) (hu : u.val % 4 = 0) (hu' : u'.val % 4 = 0), u = u' →
      (View.canon (atA m c u hu).2.1 : Vec F S1024x2048 .bf16) = View.canon (atA m c u' hu').2.1 := by
    intro u u' hu hu' q
    subst q
    rfl
  exact e _ _ _ _ h

theorem out_4_first (c : Dev nD) (t : Fin cfg0.N) (h : t.val % 4 = 0) : out_4 m c t = View.canon (atA m c t h).2.1 := by
  have e : ∀ (u u' : Fin cfg0.N) (hu : u.val % 4 = 0) (hu' : u'.val % 4 = 0), u = u' →
      (View.canon (atA m c u hu).2.1 : Vec F S1024x2048 .bf16) = View.canon (atA m c u' hu').2.1 := by
    intro u u' hu hu' q
    subst q
    rfl
  exact e _ _ _ _ (Fin.ext (by show t.val - t.val % 4 = t.val; omega))

/-- The run at a later point, on its own buffers and blocks and the rows kept. -/
abbrev atB (c : Dev nD) (t : Fin cfg0.N) (h : ¬ t.val % 4 = 0) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (fun e => h ((firstPt t).mp e)) (iblk m c 0 t) (iblk m c 1 t) (iblk m c 2 t) (out_4 m c t)

/-- The stores of the product reach every entry. -/
theorem coverA_3 (c : Dev nD) (t : Fin cfg0.N) (h : t.val % 4 = 0) (y : Shape.Idx S1024x1024) : ∃ pc ∈ (atA m c t h).1, y ∈ pc.1.set :=
  View.cover_of_tiledBy (atA m c t h).1 ![1024, 1024] (by sl_kernel_rfl) y

theorem coverB_3 (c : Dev nD) (t : Fin cfg0.N) (h : ¬ t.val % 4 = 0) (y : Shape.Idx S1024x1024) : ∃ pc ∈ (atB m c t h).1, y ∈ pc.1.set :=
  View.cover_of_tiledBy (atB m c t h).1 ![1024, 1024] (by sl_kernel_rfl) y

/-- What a point leaves of the product. -/
def out_3 (c : Dev nD) (t : Fin cfg0.N) : Vec F S1024x1024 .f32 :=
  if h : t.val % 4 = 0 then View.canon (atA m c t h).1 else View.canon (atB m c t h).1

/-- The proof data of the call's pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out_3 m c t
    | ⟨4, _⟩ => out_4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out_3 m c t := by dsimp only [dats]
theorem after_4 (c : Dev nD) (t : Fin cfg0.N) : (dats m 0 c).after 4 t = out_4 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Only the first point of a tile stores the normed rows. -/
theorem idle_4 : ∀ t : Fin cfg0.N, cfg0.idle 4 (cfg0.grid.coords t) = true → ¬ t.val % 4 = 0 :=
  (by decide +kernel : ∀ t : Fin grid0.N, _)

/-- A tile's buffer holds nothing of the tile before its first point alone. -/
theorem fresh_4 : ∀ t : Fin cfg0.N, cfg0.fresh 4 t.val = decide (t.val % 4 = 0) :=
  (by decide +kernel : ∀ t : Fin grid0.N, _)

/-- At a later point of a tile the normed rows are still there: they are written back at the tile's end alone. -/
theorem before_4 (c : Dev nD) (t : Fin cfg0.N) (h : ¬ t.val % 4 = 0) (d) : (dats m 0 c).before 4 t d = out_4 m c t := by
  have same : ∀ u : Fin cfg0.N, ¬ u.val % 4 = 0 → out_4 m c u = out_4 m c ⟨u.val - 1, by omega⟩ := fun u hu =>
    out_4_same m c _ _ (Fin.ext (by show u.val - u.val % 4 = u.val - 1 - (u.val - 1) % 4; omega))
  rw [Dat.before_out_traj (dats m 0 c) 4 rfl (fun _ _ => rfl)
    (fun u _ hi _ => by rw [after_4, after_4]; exact same u (idle_4 u hi)) t.val t rfl d,
    fresh_4, decide_eq_false h, if_neg Bool.false_ne_true, after_4]
  exact (same t h).symm

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- What it returns of the normed rows' buffer: at a point that neither stores nor writes them back, the buffer as it was found. -/
def post_4 (c : Dev nD) (t : Fin cfg0.N) : sProp 𝕄 :=
  match cfg0.idle 4 (cfg0.grid.coords t) with
  | true => match (cfg0.win 4).flush t with
    | false => iprop(∃ d, owns (c : Thread nD τ) (win0_4.stage (cfg0.slots t 4)) fullShare ((dats m 0 c).before 4 t d))
    | true => owns (c : Thread nD τ) (win0_4.stage (cfg0.slots t 4)) fullShare ((dats m 0 c).after 4 t)
  | false => owns (c : Thread nD τ) (win0_4.stage (cfg0.slots t 4)) fullShare ((dats m 0 c).after 4 t)

theorem post_4_of (c : Dev nD) (t : Fin cfg0.N) :
    owns (c : Thread nD τ) (win0_4.stage (cfg0.slots t 4)) fullShare (out_4 m c t) ⊢ post_4 m c t := by
  unfold post_4
  rw [after_4]
  cases hi : cfg0.idle 4 (cfg0.grid.coords t) with
  | false => exact .rfl
  | true =>
    cases hf : (cfg0.win 4).flush t with
    | true => exact .rfl
    | false =>
      simp only [before_4 m c t (idle_4 t hi)]
      iintro H
      iexists (out_4 m c t)
      iexact H

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ post_4 m c t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 4 = 0
  · rw [show out_3 m c t = View.canon (atA m c t h0).1 from dif_pos h0]
    iintro ⟨HΦ, Ho, ⟨%d0, H0⟩, ⟨%d1, H1⟩, ⟨%d2, H2⟩, ⟨%d3, H3⟩, ⟨%d4, H4⟩⟩
    iapply ((atA m c t h0).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (coverA_3 m c t h0)
    iapply (post_4_of m c t)
    rw [out_4_first m c t h0]
    unfold owns; iexists _; isplitr
    swap; · iexact H4
    ipureintro; exact View.read_writes_eq_canon _ _ _ (coverA_4 m c t h0)
  · rw [show out_3 m c t = View.canon (atB m c t h0).1 from dif_neg h0]
    simp only [before_4 m c t h0]
    iintro ⟨HΦ, Ho, ⟨%d0, H0⟩, ⟨%d1, H1⟩, ⟨%d2, H2⟩, ⟨%d3, H3⟩, ⟨%d4, H4⟩⟩
    iapply ((atB m c t h0).2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (coverB_3 m c t h0)
    iapply (post_4_of m c t)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the call: it ends with nothing in flight, every array as the proof data says. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call ends with its arguments unchanged and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Kernel8Ideal.Proj

end
-- ==== Proof.ProjValue.lean ====
/- The odd layer's input product with its pre-norm (call 8), at the real numbers: both results are the reference's. -/
module

public import proofs.«01_k».proof.Proof.NormMath
public import proofs.«01_k».proof.Proof.ProjBody
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem

namespace Cert.Kernel8Ideal.Proj

open Cert.Kernel8Ideal Cert.Kernel8Ideal.Gen Cert.Reference8Ideal.Read

variable (m : (ℓ : Loc nD τ sig) → Buf (Elt Ideal) ℓ)

abbrev A0 (c : Dev nD) : FVec Ideal S4096x2048 .f32 := m ((c : Thread nD τ).loc main_arg0)
abbrev A1 (c : Dev nD) : FVec Ideal S1x2048 .f32 := m ((c : Thread nD τ).loc main_arg1)
abbrev A2 (c : Dev nD) : FVec Ideal S2048x4096 .f32 := m ((c : Thread nD τ).loc main_arg2)

/-- An entry of the normed rows. -/
def normed (x : FVec Ideal S4096x2048 .f32) (g : FVec Ideal S1x2048 .f32) (r : Fin 4096) (d : Fin 2048) : EReal :=
  x (ix2 r d) * NormMath.rs (fun k => x (ix2 r k)) * g (ix2 0 d)

/-- The reference's normed rows, entry by entry. -/
theorem h_at (x : FVec Ideal S4096x2048 .f32) (g : FVec Ideal S1x2048 .f32) (r : Fin 4096) (d : Fin 2048) :
    val_main_v11 (F := Ideal) x g (ix2 r d) = normed x g r d := by
  unfold normed
  pointwise [val_main_v11, val_main_v10, val_main_v9, val_main_v8, val_main_v7, val_main_v6, val_main_v5, val_main_v4, val_main_v3,
    val_main_v2, val_main_v1, val_main_v0, val_main_cst, val_main_cst_0, val_main_cst_1]

theorem hb_at (x : FVec Ideal S4096x2048 .f32) (g : FVec Ideal S1x2048 .f32) (r : Fin 4096) (d : Fin 2048) :
    val_main_v13 (F := Ideal) x g (ix2 r d) = normed x g r d :=
  h_at x g r d

/-- The reference's product, entry by entry. -/
theorem p_at (x : FVec Ideal S4096x2048 .f32) (g : FVec Ideal S1x2048 .f32) (w : FVec Ideal S2048x4096 .f32) (r : Fin 4096) (j : Fin 4096) :
    val_main_v12 (F := Ideal) x g w (ix2 r j) = ∑ k : Fin 2048, normed x g r k * w (ix2 k j) := by
  refine (val_main_v12_apply x g w (ix2 r j)).trans (Finset.sum_congr rfl fun k _ => ?_)
  have el : lidx_main_v12 (ix2 r j) k = ix2 r k := by blk_ext
  have er : ridx_main_v12 (ix2 r j) k = ix2 k j := by blk_ext
  rw [el, er, h_at]

/-- The rows a tile's first point norms. -/
theorem pay1_at (x : Vec Ideal S1024x2048 .f32) (g : Vec Ideal S1x2048 .f32) (r : Fin 1024) (d : Fin 2048) :
    k0_pay1 x g (ix2 r d) = x (ix2 r d) * NormMath.rs (fun k => x (ix2 r k)) * g (ix2 0 d) := by
  pointwise [k0_pay1]

/-- A point's product. -/
theorem pay2_at (h : Vec Ideal S1024x2048 .bf16) (w : Vec Ideal S1x2048x1024 .bf16) (r : Fin 1024) (d : Fin 1024) :
    k0_pay2 h w (ix2 r d) = ∑ k : Fin 2048, h (ix2 r k) * w (ix3 0 k d) := by
  pointwise [k0_pay2]

/-- The weights' column shards: entry `(j, k, d)` is column `j * 1024 + d` of row `k`. -/
theorem entry_w (c : Dev nD) (j : Fin 4) (k : Fin 2048) (d : Fin 1024) :
    V m c main_v2 (ix3 j k d) = A2 m c (ix2 k ⟨j.val * 1024 + d.val, by omega⟩) := by
  have e : V m c main_v2 = (truncf .bf16 (transpose S4x2048x1024 [1, 0, 2] (shapeCast S2048x4x1024 (A2 m c) shapeCasts_S2048x4096_S2048x4x1024)
      transposes_S2048x4x1024_S4x2048x1024_1_0_2) bitsLt_bf16_f32 : FVec Ideal S4x2048x1024 .bf16) := rfl
  rw [e]
  pointwise []

/-- Where each window's block lies at a grid point. -/
theorem idx : ∀ t : Fin cfg0.N, win0_0.index t = ![t.val / 4, 0] ∧ win0_1.index t = ![0, 0] ∧ win0_2.index t = ![t.val % 4, 0, 0]
      ∧ win0_3.index t = ![t.val / 4, t.val % 4] ∧ win0_4.index t = ![t.val / 4, 0] :=
  (by decide +kernel : ∀ t : Fin grid0.N, _)

theorem pt_lt (t : Fin cfg0.N) : t.val < 16 := lt_of_lt_of_eq t.isLt Gen.N_0

/-- Row `r` of a point's tile. -/
abbrev row (t : Fin cfg0.N) (r : Fin 1024) : Fin 4096 := ⟨t.val / 4 * 1024 + r.val, by have := pt_lt t; omega⟩

/-- Column `d` of a point's shard. -/
abbrev col (t : Fin cfg0.N) (d : Fin 1024) : Fin 4096 := ⟨t.val % 4 * 1024 + d.val, by omega⟩

theorem rows_at (c : Dev nD) (t : Fin cfg0.N) (r : Fin 1024) (d : Fin 2048) : iblk m c 0 t (ix2 r d) = A0 m c (ix2 (row t r) d) := by
  refine Eq.trans ?_ (congrFun (V_main_arg0 m c) (ix2 (row t r) d))
  change iblk m c 0 t (ix2 r d) = V m c main_arg0 (ix2 (row t r) d)
  blk_point [iblk, idx t]

theorem gain_at (c : Dev nD) (t : Fin cfg0.N) (d : Fin 2048) : iblk m c 1 t (ix2 0 d) = A1 m c (ix2 0 d) := by
  refine Eq.trans ?_ (congrFun (V_main_arg1 m c) (ix2 0 d))
  change iblk m c 1 t (ix2 0 d) = V m c main_arg1 (ix2 0 d)
  blk_point [iblk, idx t]

theorem shard_at (c : Dev nD) (t : Fin cfg0.N) (k : Fin 2048) (d : Fin 1024) : iblk m c 2 t (ix3 0 k d) = A2 m c (ix2 k (col t d)) := by
  refine Eq.trans ?_ (entry_w m c ⟨t.val % 4, by omega⟩ k d)
  change iblk m c 2 t (ix3 0 k d) = V m c main_v2 (ix3 ⟨t.val % 4, by omega⟩ k d)
  blk_point [iblk, idx t]

/-- A tile's normed rows are the reference's. -/
theorem pay_normed (c : Dev nD) (t : Fin cfg0.N) (r : Fin 1024) (d : Fin 2048) :
    k0_pay1 (iblk m c 0 t) (iblk m c 1 t) (ix2 r d) = normed (A0 m c) (A1 m c) (row t r) d := by
  refine (pay1_at (iblk m c 0 t) (iblk m c 1 t) r d).trans ?_
  unfold normed
  rw [rows_at, gain_at, show (fun k => iblk m c 0 t (ix2 r k)) = fun k => A0 m c (ix2 (row t r) k) from funext fun k => rows_at m c t r k]

section

variable {e : EltTy} {s : Shape}

/-- A load of a whole buffer reads what it holds. -/
theorem load_whole {mr : Memref sig .tc .vmem s e} (h : mr.IsWhole) (X : s.Idx → Elt Ideal e) {off : Fin s.rank → ℕ}
    (inb : ∀ a, off a + s.size a ≤ s.size a) (h0 : ∀ a, off a = 0) :
    View.readAt (Elt Ideal) mr.view (Rect.unit (s := s) off s.size inb).toLoadRect (h.unread X) = X :=
  (funext fun x => Memref.IsWhole.readAt_unread h X _ x).trans (View.ld_unit_lit inb X h0)

end

/-- What a tile's first point stores of the normed rows. -/
theorem rows_A (c : Dev nD) (t : Fin cfg0.N) (h : t.val % 4 = 0) :
    (View.canon (atA m c t h).2.1 : Vec Ideal S1024x2048 .bf16) = k0_pay1 (iblk m c 0 t) (iblk m c 1 t) :=
  (View.canon_cons_unit_lit _ _ [] (by decide)).trans
    (congrArg₂ k0_pay1 (load_whole (s := S1024x2048) _ (iblk m c 0 t) _ (by decide)) (load_whole (s := S1x2048) _ (iblk m c 1 t) _ (by decide)))

/-- What it stores of the product. -/
theorem prod_A (c : Dev nD) (t : Fin cfg0.N) (h : t.val % 4 = 0) :
    (View.canon (atA m c t h).1 : Vec Ideal S1024x1024 .f32) = k0_pay2 (View.canon (atA m c t h).2.1) (iblk m c 2 t) :=
  (View.canon_cons_unit_lit _ _ [] (by decide)).trans
    (congrArg₂ k0_pay2 ((View.readCov_eq_canon' _ _ _).trans (View.ld_unit_lit _ (View.canon (atA m c t h).2.1) (by decide)))
      (load_whole (s := S1x2048x1024) _ (iblk m c 2 t) _ (by decide)))

/-- What a later point stores of the product. -/
theorem prod_B (c : Dev nD) (t : Fin cfg0.N) (h : ¬ t.val % 4 = 0) :
    (View.canon (atB m c t h).1 : Vec Ideal S1024x1024 .f32) = k0_pay2 (out_4 m c t) (iblk m c 2 t) :=
  (View.canon_cons_unit_lit _ _ [] (by decide)).trans
    (congrArg₂ k0_pay2 (load_whole (s := S1024x2048) _ (out_4 m c t) _ (by decide)) (load_whole (s := S1x2048x1024) _ (iblk m c 2 t) _ (by decide)))

theorem out_4_at (c : Dev nD) (t : Fin cfg0.N) (r : Fin 1024) (d : Fin 2048) :
    out_4 m c t (ix2 r d) = normed (A0 m c) (A1 m c) (row t r) d := by
  have e : out_4 m c t = k0_pay1 (iblk m c 0 (first t)) (iblk m c 1 (first t)) := rows_A m c (first t) (first_mod t)
  rw [e]
  refine (pay_normed m c (first t) r d).trans ?_
  rw [show row (first t) r = row t r from Fin.ext (by
    show (t.val - t.val % 4) / 4 * 1024 + r.val = t.val / 4 * 1024 + r.val
    omega)]

theorem out_3_eq (c : Dev nD) (t : Fin cfg0.N) : out_3 m c t = k0_pay2 (out_4 m c t) (iblk m c 2 t) := by
  unfold out_3
  by_cases h : t.val % 4 = 0
  · rw [dif_pos h, out_4_first m c t h]
    exact prod_A m c t h
  · rw [dif_neg h]
    exact prod_B m c t h

theorem out_3_at (c : Dev nD) (t : Fin cfg0.N) (r : Fin 1024) (d : Fin 1024) :
    out_3 m c t (ix2 r d) = ∑ k : Fin 2048, normed (A0 m c) (A1 m c) (row t r) k * A2 m c (ix2 k (col t d)) := by
  rw [out_3_eq]
  refine (pay2_at (out_4 m c t) (iblk m c 2 t) r d).trans (Finset.sum_congr rfl fun k _ => ?_)
  exact congrArg₂ (· * ·) (out_4_at m c t r k) (shard_at m c t k d)

/-- After the run the product is the reference's. -/
theorem final_3 (c : Dev nD) : (dats m 0 c).arrAt 3 cfg0.N = val_main_v12 (F := Ideal) (A0 m c) (A1 m c) (A2 m c) := by
  refine (dats m 0 c).arrAt_eq_of_covers 3 _ (by decide +kernel) fun t _ y => ?_
  blk_simp
  rw [after_3]
  have he : (win0_3.blk t).view.emb y = ix2 (row t (y 0)) (col t (y 1)) := by blk_ext [idx t]
  rw [he, eq_ix2 y]
  exact (out_3_at m c t (y 0) (y 1)).trans (p_at _ _ _ (row t (y 0)) (col t (y 1))).symm

/-- After the run the normed rows are the reference's. -/
theorem final_4 (c : Dev nD) : (dats m 0 c).arrAt 4 cfg0.N = val_main_v13 (F := Ideal) (A0 m c) (A1 m c) := by
  refine (dats m 0 c).arrAt_eq_of_covers 4 _ (by decide +kernel) fun t _ y => ?_
  blk_simp
  rw [after_4]
  have he : (win0_4.blk t).view.emb y = ix2 (row t (y 0)) (y 1) := by blk_ext [idx t]
  rw [he, eq_ix2 y]
  exact (out_4_at m c t (y 0) (y 1)).trans (hb_at _ _ (row t (y 0)) (y 1)).symm

/-- The run with each result's array named and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1.1 c).1 3, (h.1.1 c).1 4, h.2.1 c⟩)
    (θ_run_and (run_main_quiescent m ρ) (frame m ρ))

end Cert.Kernel8Ideal.Proj

end
-- ==== Proof.ProjBits.lean ====
module

public import proofs.«01_k».proof.Proof.ProjBody
public import proofs.«01_k».proof.Proof.Gen.Kernel8.Frame

@[expose] public section

set_option maxRecDepth 16384

noncomputable section

/-! The odd layer's input product as it is printed and its idealized form are one text, so the run of the one is the
run of the other. -/

namespace Cert.Kernel8.Proj

open Idealize.ShloMosaic Idealize.ShloMosaic.TcCoe Idealize.ShloMosaic.Tactic Idealize.SL.Sem
open Gen

variable {F : FTy → Type} [FloatOps F]

/-- The statement that the call ends with its arguments unchanged and nothing in flight, of the printed program. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

end Cert.Kernel8.Proj

namespace Cert.Kernel8Ideal.Proj

open Idealize.ShloMosaic Idealize.ShloMosaic.TcCoe Idealize.ShloMosaic.Tactic Idealize.SL.Sem
open Gen

/-- The same of its idealized form. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_same (F : FTy → Type) [FloatOps F] : Frame F = Cert.Kernel8.Proj.Frame F := by sl_kernel_rfl

/-- The printed call ends with its arguments unchanged and nothing in flight. -/
theorem frame_bits (F : FTy → Type) [FloatOps F] : Cert.Kernel8.Proj.Frame F :=
  frame_same F ▸ fun m ρ => frame m ρ

end Cert.Kernel8Ideal.Proj

end
-- ==== Proof.ProjClaims.lean ====
/- The claims about the odd layer's input product with its pre-norm (call 8), assembled. -/
module

public import proofs.«01_k».proof.Defs
public import proofs.«01_k».proof.Proof.ProjValue
public import proofs.«01_k».proof.Proof.ProjBits
public import Idealize.ShloMosaic.Lib.Claim

@[expose] public section

set_option maxRecDepth 16384

noncomputable section

open Idealize.ShloMosaic Idealize.ShloMosaic.TcCoe Idealize.SL.Sem

namespace Cert.Reference8Ideal

open Cert.Reference8Ideal.Gen Cert.Reference8Ideal.Read

/-- The reference's run: each result is its last stage over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = val_main_v12 (F := Ideal) (m ((c.tc : Thread nD τ).loc main_arg0)) (m ((c.tc : Thread nD τ).loc main_arg1)) (m ((c.tc : Thread nD τ).loc main_arg2))
      ∧ r.2.mem ((c.tc : Thread nD τ).loc main_v13) = val_main_v13 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Read.val_main_v12_eq _ _ _), (h c).2.1.trans (Read.val_main_v13_eq _ _), (h c).2.2⟩) (Value.run m ρ)

end Cert.Reference8Ideal

namespace Cert.Kernel8Claims

open Cert.Kernel8Ideal.Proj (A0 A1 A2)

/-- The reference runs, leaves its arguments as they were and every semaphore at zero. -/
theorem frame_reference : Cert.quiescent_Reference8Ideal := fun m g _ =>
  (θ_run _ _ _).mono (fun r h => ⟨fun c => (h c).2.2, sem_eq_zero_of_no_sems (by decide) r.2⟩)
    (Cert.Reference8Ideal.run_stages m g)

/-- The kernel at the real numbers and the reference leave the same product and the same normed rows from the same arguments. -/
theorem algebraic : Cert.algebraic_Kernel8Ideal_Reference8Ideal := fun m g m' g' _ ha =>
  ⟨fun c => Cert.Reference8Ideal.Read.val_main_v12 (F := Ideal) (A0 m c) (A1 m c) (A2 m c),
    fun c => Cert.Reference8Ideal.Read.val_main_v13 (F := Ideal) (A0 m c) (A1 m c),
    (θ_run _ _ _).mono (fun r h c => ⟨(h c).1.trans (Cert.Kernel8Ideal.Proj.final_3 m c), (h c).2.1.trans (Cert.Kernel8Ideal.Proj.final_4 m c), (h c).2.2⟩)
      (Cert.Kernel8Ideal.Proj.run_blocks m g),
    (θ_run _ _ _).mono (fun r h c => ⟨(h c).1.trans (by rw [(ha c).1, (ha c).2.1, (ha c).2.2]), (h c).2.1.trans (by rw [(ha c).1, (ha c).2.1]), (h c).2.2⟩)
      (Cert.Reference8Ideal.run_stages m' g')⟩

/-- The frames of the two programs and of the reference. -/
theorem frames : Cert.quiescent_Kernel8 ∧ Cert.quiescent_Kernel8Ideal ∧ Cert.quiescent_Reference8Ideal :=
  ⟨fun m g _ => Cert.Kernel8Ideal.Proj.frame_bits _ m g, fun m g _ => Cert.Kernel8Ideal.Proj.frame m g, frame_reference⟩

end Cert.Kernel8Claims

end
-- ==== Proof.RmsValue.lean ====
/- The even layer's pre-norm (call 9), at the real numbers: the rows it leaves are the reference's. -/
module

public import proofs.«01_k».proof.Proof.NormMath
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel9Ideal.RmsValue

open Cert.Kernel9Ideal Cert.Kernel9Ideal.Gen Cert.Reference9Ideal.Read

variable (m : (ℓ : Loc nD τ sig) → Buf (Elt Ideal) ℓ)

/-- Where each window's block lies at a grid point: 512 rows at a time, the gain whole. -/
theorem idx : ∀ t : Fin cfg0.N, win0_0.index t = ![t.val, 0] ∧ win0_1.index t = ![0, 0] ∧ win0_2.index t = ![t.val, 0] :=
  (by decide +kernel : ∀ t : Fin grid0.N, _)

/-- The reference's rows, entry by entry. -/
theorem out_at (x : FVec Ideal S4096x2048 .f32) (g : FVec Ideal S1x2048 .f32) (r : Fin 4096) (d : Fin 2048) :
    val_main_v12 (F := Ideal) x g (ix2 r d) = x (ix2 r d) * NormMath.rs (fun k => x (ix2 r k)) * g (ix2 0 d) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

/-- A point's rows. -/
theorem pay_at (x : Vec Ideal S512x2048 .f32) (g : Vec Ideal S1x2048 .f32) (r : Fin 512) (d : Fin 2048) :
    k0_pay1 x g (ix2 r d) = x (ix2 r d) * NormMath.rs (fun k => x (ix2 r k)) * g (ix2 0 d) := by
  pointwise [k0_pay1]

/-- After the run the array is the reference's. -/
theorem final (c : Dev nD) :
    (dats m 0 c).arrAt 2 cfg0.N = val_main_v12 (F := Ideal) (m ((c : Thread nD τ).loc main_arg0)) (m ((c : Thread nD τ).loc main_arg1)) := by
  refine (dats m 0 c).arrAt_eq_of_covers 2 _ (by decide +kernel) fun t _ y => ?_
  blk_simp
  have hp : out0_2 (iblk m c 0 t) (iblk m c 1 t) = k0_pay1 (iblk m c 0 t) (iblk m c 1 t) := by frame_out
  rw [after0_2, hp]
  have hN := Gen.N_0
  have he : (win0_2.blk t).view.emb y = ix2 ⟨t.val * 512 + (y 0).val, by idx_bounds; omega⟩ (y 1) := by blk_ext [idx t]
  have hy : y = ix2 (y 0) (y 1) := by blk_ext
  rw [he]
  refine Eq.trans ?_ (out_at _ _ _ (y 1)).symm
  refine Eq.trans (congrArg _ hy) ((pay_at _ _ (y 0) (y 1)).trans ?_)
  blk_point [iblk, V, idx t]

end Cert.Kernel9Ideal.RmsValue

end
-- ==== Proof.RmsClaims.lean ====
/- The claims about the even layer's pre-norm (call 9), assembled. -/
module

public import proofs.«01_k».proof.Defs
public import proofs.«01_k».proof.Proof.RmsValue
public import proofs.«01_k».proof.Proof.Gen.Kernel9.Frame
public import proofs.«01_k».proof.Proof.Gen.Kernel9Ideal.Frame
public import Idealize.ShloMosaic.Lib.Claim

@[expose] public section

set_option maxRecDepth 16384

noncomputable section

open Idealize.ShloMosaic Idealize.ShloMosaic.TcCoe Idealize.SL.Sem

namespace Cert.Reference9Ideal

open Cert.Reference9Ideal.Gen Cert.Reference9Ideal.Read

/-- The reference's run: the result is its last stage over the arguments, and the arguments are as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = val_main_v12 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (Read.val_main_v12_eq _ _), (h c).2⟩) (Value.run m ρ)

end Cert.Reference9Ideal

namespace Cert.Kernel9Claims

/-- The reference runs, leaves its arguments as they were and every semaphore at zero. -/
theorem frame_reference : Cert.quiescent_Reference9Ideal := fun m g _ =>
  (θ_run _ _ _).mono (fun r h => ⟨fun c => (h c).2, sem_eq_zero_of_no_sems (by decide) r.2⟩)
    (Cert.Reference9Ideal.run_stages m g)

/-- The kernel at the real numbers and the reference leave the same rows from the same arguments. -/
theorem algebraic : Cert.algebraic_Kernel9Ideal_Reference9Ideal := fun m g m' g' _ ha =>
  ⟨fun c => Cert.Reference9Ideal.Read.val_main_v12 (F := Ideal)
      (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run _ _ _).mono (fun r h c => ⟨(h c).1.trans (Cert.Kernel9Ideal.RmsValue.final m c), (h c).2⟩) (Cert.Kernel9Ideal.Value.run_blocks m g),
    (θ_run _ _ _).mono (fun r h c => ⟨(h c).1.trans (by rw [(ha c).1, (ha c).2]), (h c).2⟩) (Cert.Reference9Ideal.run_stages m' g')⟩

/-- The frames of the two programs and of the reference. -/
theorem frames : Cert.quiescent_Kernel9 ∧ Cert.quiescent_Kernel9Ideal ∧ Cert.quiescent_Reference9Ideal :=
  ⟨fun m g _ => Cert.Kernel9.Gen.frame m g, fun m g _ => Cert.Kernel9Ideal.Gen.frame m g, frame_reference⟩

end Cert.Kernel9Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Pre_finite2
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.PostNormClaims
public import proofs.«01_k».proof.Proof.PreNormClaims
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite3
public import proofs.«01_k».proof.Proof.LossClaims
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Reference4Ideal.Run
public import proofs.«01_k».proof.Proof.Gen.Reference4Ideal.Read
public import proofs.«01_k».proof.Proof.OddClaims
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Loops
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Loops
public import proofs.«01_k».proof.Proof.Gen.Kernel5Ideal.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Loops
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Loops
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.WeightGradClaims
public import proofs.«01_k».proof.Proof.RowGradClaims
public import proofs.«01_k».proof.Proof.AdamClaims
public import proofs.«01_k».proof.Proof.SumClaims
public import proofs.«01_k».proof.Proof.Gen.Pre_finite7
public import proofs.«01_k».proof.Proof.FwdClaims
public import proofs.«01_k».proof.Proof.EvenBody
public import proofs.«01_k».proof.Proof.EvenBits
public import proofs.«01_k».proof.Proof.PoolClaims
public import proofs.«01_k».proof.Proof.ProjClaims
public import proofs.«01_k».proof.Proof.RmsClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Kernel6.Gen.facts,
  Cert.Kernel6Ideal.Gen.facts, Cert.Reference6Ideal.Gen.facts, Cert.Kernel7.Gen.facts,
  Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts,
  Cert.Pre_finite2.Gen.facts, Cert.Pre_finite3.Gen.facts, Cert.Pre_finite4.Gen.facts,
  Cert.Pre_finite7.Gen.facts,
  Cert.KernelClaims.frames.1, Cert.KernelClaims.frames.2.1, Cert.KernelClaims.frames.2.2.1, Cert.KernelClaims.frames.2.2.2.1, Cert.KernelClaims.frames.2.2.2.2,
  Cert.Kernel2Claims.frames.1, Cert.Kernel2Claims.frames.2.1, Cert.Kernel2Claims.frames.2.2.1, Cert.Kernel2Claims.frames.2.2.2.1, Cert.Kernel2Claims.frames.2.2.2.2,
  Cert.Kernel3Claims.frames.1, Cert.Kernel3Claims.frames.2.1, Cert.Kernel3Claims.frames.2.2.1, Cert.Kernel3Claims.frames.2.2.2.1, Cert.Kernel3Claims.frames.2.2.2.2,
  Cert.Kernel4Claims.frames.1, Cert.Kernel4Claims.frames.2.1, Cert.Kernel4Claims.frames.2.2.1, Cert.Kernel4Claims.frames.2.2.2.1, Cert.Kernel4Claims.frames.2.2.2.2,
  fun m g _ => Cert.Kernel5Ideal.Even.frame_bits _ m g, fun m g _ => Cert.Kernel5Ideal.Even.frame m g,
  Cert.Kernel6Claims.frames.1, Cert.Kernel6Claims.frames.2.1, Cert.Kernel6Claims.frames.2.2,
  Cert.Kernel7Claims.frames.1, Cert.Kernel7Claims.frames.2.1, Cert.Kernel7Claims.frames.2.2.1, Cert.Kernel7Claims.frames.2.2.2.1, Cert.Kernel7Claims.frames.2.2.2.2,
  Cert.Kernel8Claims.frames.1, Cert.Kernel8Claims.frames.2.1, Cert.Kernel8Claims.frames.2.2,
  Cert.Kernel9Claims.frames.1, Cert.Kernel9Claims.frames.2.1, Cert.Kernel9Claims.frames.2.2,
  Cert.Kernel10Claims.frames.1, Cert.Kernel10Claims.frames.2.1, Cert.Kernel10Claims.frames.2.2,
  Cert.Kernel11Claims.frames.1, Cert.Kernel11Claims.frames.2.1, Cert.Kernel11Claims.frames.2.2,
  Cert.Kernel12Claims.frames.1, Cert.Kernel12Claims.frames.2.1, Cert.Kernel12Claims.frames.2.2,
  Cert.Kernel13Claims.frames.1, Cert.Kernel13Claims.frames.2.1, Cert.Kernel13Claims.frames.2.2,
  trivial, Cert.KernelClaims.algebraic,
  trivial, Cert.Kernel2Claims.algebraic,
  trivial, Cert.Kernel3Claims.algebraic,
  trivial, Cert.Kernel4Claims.algebraic,
  trivial,
  trivial, Cert.Kernel6Claims.algebraic,
  trivial, Cert.Kernel7Claims.algebraic,
  trivial, Cert.Kernel8Claims.algebraic,
  trivial, Cert.Kernel9Claims.algebraic,
  trivial, Cert.Kernel10Claims.algebraic,
  trivial, Cert.Kernel11Claims.algebraic,
  trivial, Cert.Kernel12Claims.algebraic,
  trivial, Cert.Kernel13Claims.algebraic⟩

end Cert.Proof

end
